-- ==== Defs.lean ====
def Pre_Dact (m : (ℓ : Loc Cert.Dact.nD Cert.Dact.τ Cert.Dact.sig) → Buf (Elt Bits) ℓ) : Prop :=
  True

def Pre_DactIdeal (m : (ℓ : Loc Cert.DactIdeal.nD Cert.DactIdeal.τ Cert.DactIdeal.sig) → Buf (Elt Ideal) ℓ) : Prop :=
  True

def Pre_DactRefIdeal (m : (ℓ : Loc Cert.DactRefIdeal.nD Cert.DactRefIdeal.τ Cert.DactRefIdeal.sig) → Buf (Elt Ideal) ℓ) : Prop :=
  True

def Pre_Ret (m : (ℓ : Loc Cert.Ret.nD Cert.Ret.τ Cert.Ret.sig) → Buf (Elt Bits) ℓ) : Prop :=
  True

def Pre_RetIdeal (m : (ℓ : Loc Cert.RetIdeal.nD Cert.RetIdeal.τ Cert.RetIdeal.sig) → Buf (Elt Ideal) ℓ) : Prop :=
  True

def Pre_RetIdeal_pre_ret [hPre_pre_ret : Cert.Pre_pre_ret.Facts] (m : (ℓ : Loc Cert.RetIdeal.nD Cert.RetIdeal.τ Cert.RetIdeal.sig) → Buf (Elt Ideal) ℓ) : Prop :=
  ∀ c : Dev Cert.RetIdeal.nD,
    (Cert.Pre_pre_ret.fn (F := Ideal) (m ((c.tc : Thread Cert.RetIdeal.nD Cert.RetIdeal.τ).loc Cert.RetIdeal.main_arg0)) (m ((c.tc : Thread Cert.RetIdeal.nD Cert.RetIdeal.τ).loc Cert.RetIdeal.main_arg1))) = (fun _ => 1#1)

def Pre_RetRefIdeal (m : (ℓ : Loc Cert.RetRefIdeal.nD Cert.RetRefIdeal.τ Cert.RetRefIdeal.sig) → Buf (Elt Ideal) ℓ) : Prop :=
  True

def Pre_RetRefIdeal_pre_ret [hPre_pre_ret : Cert.Pre_pre_ret.Facts] (m : (ℓ : Loc Cert.RetRefIdeal.nD Cert.RetRefIdeal.τ Cert.RetRefIdeal.sig) → Buf (Elt Ideal) ℓ) : Prop :=
  ∀ c : Dev Cert.RetRefIdeal.nD,
    (Cert.Pre_pre_ret.fn (F := Ideal) (m ((c.tc : Thread Cert.RetRefIdeal.nD Cert.RetRefIdeal.τ).loc Cert.RetRefIdeal.main_arg0)) (m ((c.tc : Thread Cert.RetRefIdeal.nD Cert.RetRefIdeal.τ).loc Cert.RetRefIdeal.main_arg1))) = (fun _ => 1#1)

def Pre_MlpDh (m : (ℓ : Loc Cert.MlpDh.nD Cert.MlpDh.τ Cert.MlpDh.sig) → Buf (Elt Bits) ℓ) : Prop :=
  True

def Pre_MlpDhIdeal (m : (ℓ : Loc Cert.MlpDhIdeal.nD Cert.MlpDhIdeal.τ Cert.MlpDhIdeal.sig) → Buf (Elt Ideal) ℓ) : Prop :=
  True

def Pre_MlpDhRefIdeal (m : (ℓ : Loc Cert.MlpDhRefIdeal.nD Cert.MlpDhRefIdeal.τ Cert.MlpDhRefIdeal.sig) → Buf (Elt Ideal) ℓ) : Prop :=
  True

def Pre_InEven (m : (ℓ : Loc Cert.InEven.nD Cert.InEven.τ Cert.InEven.sig) → Buf (Elt Bits) ℓ) : Prop :=
  True

def Pre_InEvenIdeal (m : (ℓ : Loc Cert.InEvenIdeal.nD Cert.InEvenIdeal.τ Cert.InEvenIdeal.sig) → Buf (Elt Ideal) ℓ) : Prop :=
  True

def Pre_InEvenRefIdeal (m : (ℓ : Loc Cert.InEvenRefIdeal.nD Cert.InEvenRefIdeal.τ Cert.InEvenRefIdeal.sig) → Buf (Elt Ideal) ℓ) : Prop :=
  True

def Pre_InOdd (m : (ℓ : Loc Cert.InOdd.nD Cert.InOdd.τ Cert.InOdd.sig) → Buf (Elt Bits) ℓ) : Prop :=
  True

def Pre_InOddIdeal (m : (ℓ : Loc Cert.InOddIdeal.nD Cert.InOddIdeal.τ Cert.InOddIdeal.sig) → Buf (Elt Ideal) ℓ) : Prop :=
  True

def Pre_InOddRefIdeal (m : (ℓ : Loc Cert.InOddRefIdeal.nD Cert.InOddRefIdeal.τ Cert.InOddRefIdeal.sig) → Buf (Elt Ideal) ℓ) : Prop :=
  True

def Pre_Loss (m : (ℓ : Loc Cert.Loss.nD Cert.Loss.τ Cert.Loss.sig) → Buf (Elt Bits) ℓ) : Prop :=
  True

def Pre_LossIdeal (m : (ℓ : Loc Cert.LossIdeal.nD Cert.LossIdeal.τ Cert.LossIdeal.sig) → Buf (Elt Ideal) ℓ) : Prop :=
  True

def Pre_LossRefIdeal (m : (ℓ : Loc Cert.LossRefIdeal.nD Cert.LossRefIdeal.τ Cert.LossRefIdeal.sig) → Buf (Elt Ideal) ℓ) : Prop :=
  True

def Pre_RetFwd (m : (ℓ : Loc Cert.RetFwd.nD Cert.RetFwd.τ Cert.RetFwd.sig) → Buf (Elt Bits) ℓ) : Prop :=
  True

def Pre_RetFwdIdeal (m : (ℓ : Loc Cert.RetFwdIdeal.nD Cert.RetFwdIdeal.τ Cert.RetFwdIdeal.sig) → Buf (Elt Ideal) ℓ) : Prop :=
  True

def Pre_RetFwdRefIdeal (m : (ℓ : Loc Cert.RetFwdRefIdeal.nD Cert.RetFwdRefIdeal.τ Cert.RetFwdRefIdeal.sig) → Buf (Elt Ideal) ℓ) : Prop :=
  True

def Pre_OutEven (m : (ℓ : Loc Cert.OutEven.nD Cert.OutEven.τ Cert.OutEven.sig) → Buf (Elt Bits) ℓ) : Prop :=
  True

def Pre_OutEvenIdeal (m : (ℓ : Loc Cert.OutEvenIdeal.nD Cert.OutEvenIdeal.τ Cert.OutEvenIdeal.sig) → Buf (Elt Ideal) ℓ) : Prop :=
  True

def Pre_OutEvenRefIdeal (m : (ℓ : Loc Cert.OutEvenRefIdeal.nD Cert.OutEvenRefIdeal.τ Cert.OutEvenRefIdeal.sig) → Buf (Elt Ideal) ℓ) : Prop :=
  True

def Pre_MlpDown (m : (ℓ : Loc Cert.MlpDown.nD Cert.MlpDown.τ Cert.MlpDown.sig) → Buf (Elt Bits) ℓ) : Prop :=
  True

def Pre_MlpDownIdeal (m : (ℓ : Loc Cert.MlpDownIdeal.nD Cert.MlpDownIdeal.τ Cert.MlpDownIdeal.sig) → Buf (Elt Ideal) ℓ) : Prop :=
  True

def Pre_MlpDownRefIdeal (m : (ℓ : Loc Cert.MlpDownRefIdeal.nD Cert.MlpDownRefIdeal.τ Cert.MlpDownRefIdeal.sig) → Buf (Elt Ideal) ℓ) : Prop :=
  True

def Pre_MlpUp (m : (ℓ : Loc Cert.MlpUp.nD Cert.MlpUp.τ Cert.MlpUp.sig) → Buf (Elt Bits) ℓ) : Prop :=
  True

def Pre_MlpUpIdeal (m : (ℓ : Loc Cert.MlpUpIdeal.nD Cert.MlpUpIdeal.τ Cert.MlpUpIdeal.sig) → Buf (Elt Ideal) ℓ) : Prop :=
  True

def Pre_MlpUpRefIdeal (m : (ℓ : Loc Cert.MlpUpRefIdeal.nD Cert.MlpUpRefIdeal.τ Cert.MlpUpRefIdeal.sig) → Buf (Elt Ideal) ℓ) : Prop :=
  True

def Pre_LruConvFwd (m : (ℓ : Loc Cert.LruConvFwd.nD Cert.LruConvFwd.τ Cert.LruConvFwd.sig) → Buf (Elt Bits) ℓ) : Prop :=
  True

def Pre_LruConvFwdIdeal (m : (ℓ : Loc Cert.LruConvFwdIdeal.nD Cert.LruConvFwdIdeal.τ Cert.LruConvFwdIdeal.sig) → Buf (Elt Ideal) ℓ) : Prop :=
  True

def Pre_LruConvFwdRefIdeal (m : (ℓ : Loc Cert.LruConvFwdRefIdeal.nD Cert.LruConvFwdRefIdeal.τ Cert.LruConvFwdRefIdeal.sig) → Buf (Elt Ideal) ℓ) : Prop :=
  True

def Pre_GdnConvFwd (m : (ℓ : Loc Cert.GdnConvFwd.nD Cert.GdnConvFwd.τ Cert.GdnConvFwd.sig) → Buf (Elt Bits) ℓ) : Prop :=
  True

def Pre_GdnConvFwdIdeal (m : (ℓ : Loc Cert.GdnConvFwdIdeal.nD Cert.GdnConvFwdIdeal.τ Cert.GdnConvFwdIdeal.sig) → Buf (Elt Ideal) ℓ) : Prop :=
  True

def Pre_GdnConvFwdRefIdeal (m : (ℓ : Loc Cert.GdnConvFwdRefIdeal.nD Cert.GdnConvFwdRefIdeal.τ Cert.GdnConvFwdRefIdeal.sig) → Buf (Elt Ideal) ℓ) : Prop :=
  True

def Pre_LruConv (m : (ℓ : Loc Cert.LruConv.nD Cert.LruConv.τ Cert.LruConv.sig) → Buf (Elt Bits) ℓ) : Prop :=
  True

def Pre_LruConvIdeal (m : (ℓ : Loc Cert.LruConvIdeal.nD Cert.LruConvIdeal.τ Cert.LruConvIdeal.sig) → Buf (Elt Ideal) ℓ) : Prop :=
  True

def Pre_LruConvRefIdeal (m : (ℓ : Loc Cert.LruConvRefIdeal.nD Cert.LruConvRefIdeal.τ Cert.LruConvRefIdeal.sig) → Buf (Elt Ideal) ℓ) : Prop :=
  True

def Pre_GdnConv (m : (ℓ : Loc Cert.GdnConv.nD Cert.GdnConv.τ Cert.GdnConv.sig) → Buf (Elt Bits) ℓ) : Prop :=
  True

def Pre_GdnConvIdeal (m : (ℓ : Loc Cert.GdnConvIdeal.nD Cert.GdnConvIdeal.τ Cert.GdnConvIdeal.sig) → Buf (Elt Ideal) ℓ) : Prop :=
  True

def Pre_GdnConvIdeal_pre_gdnconv [hPre_pre_gdnconv : Cert.Pre_pre_gdnconv.Facts] (m : (ℓ : Loc Cert.GdnConvIdeal.nD Cert.GdnConvIdeal.τ Cert.GdnConvIdeal.sig) → Buf (Elt Ideal) ℓ) : Prop :=
  ∀ c : Dev Cert.GdnConvIdeal.nD,
    (Cert.Pre_pre_gdnconv.fn (F := Ideal) (m ((c.tc : Thread Cert.GdnConvIdeal.nD Cert.GdnConvIdeal.τ).loc Cert.GdnConvIdeal.main_arg0)) (m ((c.tc : Thread Cert.GdnConvIdeal.nD Cert.GdnConvIdeal.τ).loc Cert.GdnConvIdeal.main_arg1)) (m ((c.tc : Thread Cert.GdnConvIdeal.nD Cert.GdnConvIdeal.τ).loc Cert.GdnConvIdeal.main_arg2)) (m ((c.tc : Thread Cert.GdnConvIdeal.nD Cert.GdnConvIdeal.τ).loc Cert.GdnConvIdeal.main_arg3))) = (fun _ => 1#1)

def Pre_GdnConvRefIdeal (m : (ℓ : Loc Cert.GdnConvRefIdeal.nD Cert.GdnConvRefIdeal.τ Cert.GdnConvRefIdeal.sig) → Buf (Elt Ideal) ℓ) : Prop :=
  True

def Pre_GdnConvRefIdeal_pre_gdnconv [hPre_pre_gdnconv : Cert.Pre_pre_gdnconv.Facts] (m : (ℓ : Loc Cert.GdnConvRefIdeal.nD Cert.GdnConvRefIdeal.τ Cert.GdnConvRefIdeal.sig) → Buf (Elt Ideal) ℓ) : Prop :=
  ∀ c : Dev Cert.GdnConvRefIdeal.nD,
    (Cert.Pre_pre_gdnconv.fn (F := Ideal) (m ((c.tc : Thread Cert.GdnConvRefIdeal.nD Cert.GdnConvRefIdeal.τ).loc Cert.GdnConvRefIdeal.main_arg0)) (m ((c.tc : Thread Cert.GdnConvRefIdeal.nD Cert.GdnConvRefIdeal.τ).loc Cert.GdnConvRefIdeal.main_arg1)) (m ((c.tc : Thread Cert.GdnConvRefIdeal.nD Cert.GdnConvRefIdeal.τ).loc Cert.GdnConvRefIdeal.main_arg2)) (m ((c.tc : Thread Cert.GdnConvRefIdeal.nD Cert.GdnConvRefIdeal.τ).loc Cert.GdnConvRefIdeal.main_arg3))) = (fun _ => 1#1)

def Pre_InProd (m : (ℓ : Loc Cert.InProd.nD Cert.InProd.τ Cert.InProd.sig) → Buf (Elt Bits) ℓ) : Prop :=
  True

def Pre_InProdIdeal (m : (ℓ : Loc Cert.InProdIdeal.nD Cert.InProdIdeal.τ Cert.InProdIdeal.sig) → Buf (Elt Ideal) ℓ) : Prop :=
  True

def Pre_InProdRefIdeal (m : (ℓ : Loc Cert.InProdRefIdeal.nD Cert.InProdRefIdeal.τ Cert.InProdRefIdeal.sig) → Buf (Elt Ideal) ℓ) : Prop :=
  True

def Pre_Adamw (m : (ℓ : Loc Cert.Adamw.nD Cert.Adamw.τ Cert.Adamw.sig) → Buf (Elt Bits) ℓ) : Prop :=
  True

def Pre_AdamwIdeal (m : (ℓ : Loc Cert.AdamwIdeal.nD Cert.AdamwIdeal.τ Cert.AdamwIdeal.sig) → Buf (Elt Ideal) ℓ) : Prop :=
  True

def Pre_AdamwRefIdeal (m : (ℓ : Loc Cert.AdamwRefIdeal.nD Cert.AdamwRefIdeal.τ Cert.AdamwRefIdeal.sig) → Buf (Elt Ideal) ℓ) : Prop :=
  True

def Pre_LruFwd (m : (ℓ : Loc Cert.LruFwd.nD Cert.LruFwd.τ Cert.LruFwd.sig) → Buf (Elt Bits) ℓ) : Prop :=
  True

def Pre_LruFwdIdeal (m : (ℓ : Loc Cert.LruFwdIdeal.nD Cert.LruFwdIdeal.τ Cert.LruFwdIdeal.sig) → Buf (Elt Ideal) ℓ) : Prop :=
  True

def Pre_LruFwdRefIdeal (m : (ℓ : Loc Cert.LruFwdRefIdeal.nD Cert.LruFwdRefIdeal.τ Cert.LruFwdRefIdeal.sig) → Buf (Elt Ideal) ℓ) : Prop :=
  True

def Pre_MlpDwd (m : (ℓ : Loc Cert.MlpDwd.nD Cert.MlpDwd.τ Cert.MlpDwd.sig) → Buf (Elt Bits) ℓ) : Prop :=
  True

def Pre_MlpDwdIdeal (m : (ℓ : Loc Cert.MlpDwdIdeal.nD Cert.MlpDwdIdeal.τ Cert.MlpDwdIdeal.sig) → Buf (Elt Ideal) ℓ) : Prop :=
  True

def Pre_MlpDwdRefIdeal (m : (ℓ : Loc Cert.MlpDwdRefIdeal.nD Cert.MlpDwdRefIdeal.τ Cert.MlpDwdRefIdeal.sig) → Buf (Elt Ideal) ℓ) : Prop :=
  True

def quiescent_Dact [hDact : Cert.Dact.Facts] : Prop :=
  ∀ (m : (ℓ : Loc Cert.Dact.nD Cert.Dact.τ Cert.Dact.sig) → Buf (Elt Bits) ℓ) (g : Dev Cert.Dact.nD → PrngReg), Pre_Dact m →
    θ_run (Cert.Dact.defs (F := Bits)) (onTc (τ := Cert.Dact.τ) (Cert.Dact.main (F := Bits))) ⟨m, fun _ => 0, g⟩ (fun r => (∀ c : Dev Cert.Dact.nD,
      r.2.mem ((c.tc : Thread Cert.Dact.nD Cert.Dact.τ).loc Cert.Dact.main_arg0) = m ((c.tc : Thread Cert.Dact.nD Cert.Dact.τ).loc Cert.Dact.main_arg0)
      ∧ r.2.mem ((c.tc : Thread Cert.Dact.nD Cert.Dact.τ).loc Cert.Dact.main_arg1) = m ((c.tc : Thread Cert.Dact.nD Cert.Dact.τ).loc Cert.Dact.main_arg1)
      ∧ r.2.mem ((c.tc : Thread Cert.Dact.nD Cert.Dact.τ).loc Cert.Dact.main_arg2) = m ((c.tc : Thread Cert.Dact.nD Cert.Dact.τ).loc Cert.Dact.main_arg2)
      ∧ r.2.mem ((c.tc : Thread Cert.Dact.nD Cert.Dact.τ).loc Cert.Dact.main_arg3) = m ((c.tc : Thread Cert.Dact.nD Cert.Dact.τ).loc Cert.Dact.main_arg3))
      ∧ r.2.sem = fun _ => 0)

def quiescent_DactIdeal [hDactIdeal : Cert.DactIdeal.Facts] : Prop :=
  ∀ (m : (ℓ : Loc Cert.DactIdeal.nD Cert.DactIdeal.τ Cert.DactIdeal.sig) → Buf (Elt Ideal) ℓ) (g : Dev Cert.DactIdeal.nD → PrngReg), Pre_DactIdeal m →
    θ_run (Cert.DactIdeal.defs (F := Ideal)) (onTc (τ := Cert.DactIdeal.τ) (Cert.DactIdeal.main (F := Ideal))) ⟨m, fun _ => 0, g⟩ (fun r => (∀ c : Dev Cert.DactIdeal.nD,
      r.2.mem ((c.tc : Thread Cert.DactIdeal.nD Cert.DactIdeal.τ).loc Cert.DactIdeal.main_arg0) = m ((c.tc : Thread Cert.DactIdeal.nD Cert.DactIdeal.τ).loc Cert.DactIdeal.main_arg0)
      ∧ r.2.mem ((c.tc : Thread Cert.DactIdeal.nD Cert.DactIdeal.τ).loc Cert.DactIdeal.main_arg1) = m ((c.tc : Thread Cert.DactIdeal.nD Cert.DactIdeal.τ).loc Cert.DactIdeal.main_arg1)
      ∧ r.2.mem ((c.tc : Thread Cert.DactIdeal.nD Cert.DactIdeal.τ).loc Cert.DactIdeal.main_arg2) = m ((c.tc : Thread Cert.DactIdeal.nD Cert.DactIdeal.τ).loc Cert.DactIdeal.main_arg2)
      ∧ r.2.mem ((c.tc : Thread Cert.DactIdeal.nD Cert.DactIdeal.τ).loc Cert.DactIdeal.main_arg3) = m ((c.tc : Thread Cert.DactIdeal.nD Cert.DactIdeal.τ).loc Cert.DactIdeal.main_arg3))
      ∧ r.2.sem = fun _ => 0)

def quiescent_DactRefIdeal [hDactRefIdeal : Cert.DactRefIdeal.Facts] : Prop :=
  ∀ (m : (ℓ : Loc Cert.DactRefIdeal.nD Cert.DactRefIdeal.τ Cert.DactRefIdeal.sig) → Buf (Elt Ideal) ℓ) (g : Dev Cert.DactRefIdeal.nD → PrngReg), Pre_DactRefIdeal m →
    θ_run (Cert.DactRefIdeal.defs (F := Ideal)) (onTc (τ := Cert.DactRefIdeal.τ) (Cert.DactRefIdeal.main (F := Ideal))) ⟨m, fun _ => 0, g⟩ (fun r => (∀ c : Dev Cert.DactRefIdeal.nD,
      r.2.mem ((c.tc : Thread Cert.DactRefIdeal.nD Cert.DactRefIdeal.τ).loc Cert.DactRefIdeal.main_arg0) = m ((c.tc : Thread Cert.DactRefIdeal.nD Cert.DactRefIdeal.τ).loc Cert.DactRefIdeal.main_arg0)
      ∧ r.2.mem ((c.tc : Thread Cert.DactRefIdeal.nD Cert.DactRefIdeal.τ).loc Cert.DactRefIdeal.main_arg1) = m ((c.tc : Thread Cert.DactRefIdeal.nD Cert.DactRefIdeal.τ).loc Cert.DactRefIdeal.main_arg1)
      ∧ r.2.mem ((c.tc : Thread Cert.DactRefIdeal.nD Cert.DactRefIdeal.τ).loc Cert.DactRefIdeal.main_arg2) = m ((c.tc : Thread Cert.DactRefIdeal.nD Cert.DactRefIdeal.τ).loc Cert.DactRefIdeal.main_arg2)
      ∧ r.2.mem ((c.tc : Thread Cert.DactRefIdeal.nD Cert.DactRefIdeal.τ).loc Cert.DactRefIdeal.main_arg3) = m ((c.tc : Thread Cert.DactRefIdeal.nD Cert.DactRefIdeal.τ).loc Cert.DactRefIdeal.main_arg3))
      ∧ r.2.sem = fun _ => 0)

def quiescent_Ret [hRet : Cert.Ret.Facts] : Prop :=
  ∀ (m : (ℓ : Loc Cert.Ret.nD Cert.Ret.τ Cert.Ret.sig) → Buf (Elt Bits) ℓ) (g : Dev Cert.Ret.nD → PrngReg), Pre_Ret m →
    θ_run (Cert.Ret.defs (F := Bits)) (onTc (τ := Cert.Ret.τ) (Cert.Ret.main (F := Bits))) ⟨m, fun _ => 0, g⟩ (fun r => (∀ c : Dev Cert.Ret.nD,
      r.2.mem ((c.tc : Thread Cert.Ret.nD Cert.Ret.τ).loc Cert.Ret.main_arg0) = m ((c.tc : Thread Cert.Ret.nD Cert.Ret.τ).loc Cert.Ret.main_arg0)
      ∧ r.2.mem ((c.tc : Thread Cert.Ret.nD Cert.Ret.τ).loc Cert.Ret.main_arg1) = m ((c.tc : Thread Cert.Ret.nD Cert.Ret.τ).loc Cert.Ret.main_arg1))
      ∧ r.2.sem = fun _ => 0)

def quiescent_RetIdeal [hRetIdeal : Cert.RetIdeal.Facts] : Prop :=
  ∀ (m : (ℓ : Loc Cert.RetIdeal.nD Cert.RetIdeal.τ Cert.RetIdeal.sig) → Buf (Elt Ideal) ℓ) (g : Dev Cert.RetIdeal.nD → PrngReg), Pre_RetIdeal m →
    θ_run (Cert.RetIdeal.defs (F := Ideal)) (onTc (τ := Cert.RetIdeal.τ) (Cert.RetIdeal.main (F := Ideal))) ⟨m, fun _ => 0, g⟩ (fun r => (∀ c : Dev Cert.RetIdeal.nD,
      r.2.mem ((c.tc : Thread Cert.RetIdeal.nD Cert.RetIdeal.τ).loc Cert.RetIdeal.main_arg0) = m ((c.tc : Thread Cert.RetIdeal.nD Cert.RetIdeal.τ).loc Cert.RetIdeal.main_arg0)
      ∧ r.2.mem ((c.tc : Thread Cert.RetIdeal.nD Cert.RetIdeal.τ).loc Cert.RetIdeal.main_arg1) = m ((c.tc : Thread Cert.RetIdeal.nD Cert.RetIdeal.τ).loc Cert.RetIdeal.main_arg1))
      ∧ r.2.sem = fun _ => 0)

def quiescent_RetIdeal_pre_pre_ret [hRetIdeal : Cert.RetIdeal.Facts] [hPre_pre_ret : Cert.Pre_pre_ret.Facts] : Prop :=
  ∀ (m : (ℓ : Loc Cert.RetIdeal.nD Cert.RetIdeal.τ Cert.RetIdeal.sig) → Buf (Elt Ideal) ℓ) (g : Dev Cert.RetIdeal.nD → PrngReg), Pre_RetIdeal_pre_ret m →
    θ_run (Cert.RetIdeal.defs (F := Ideal)) (onTc (τ := Cert.RetIdeal.τ) (Cert.RetIdeal.main (F := Ideal))) ⟨m, fun _ => 0, g⟩ (fun r => (∀ c : Dev Cert.RetIdeal.nD,
      r.2.mem ((c.tc : Thread Cert.RetIdeal.nD Cert.RetIdeal.τ).loc Cert.RetIdeal.main_arg0) = m ((c.tc : Thread Cert.RetIdeal.nD Cert.RetIdeal.τ).loc Cert.RetIdeal.main_arg0)
      ∧ r.2.mem ((c.tc : Thread Cert.RetIdeal.nD Cert.RetIdeal.τ).loc Cert.RetIdeal.main_arg1) = m ((c.tc : Thread Cert.RetIdeal.nD Cert.RetIdeal.τ).loc Cert.RetIdeal.main_arg1))
      ∧ r.2.sem = fun _ => 0)

def quiescent_RetRefIdeal [hRetRefIdeal : Cert.RetRefIdeal.Facts] : Prop :=
  ∀ (m : (ℓ : Loc Cert.RetRefIdeal.nD Cert.RetRefIdeal.τ Cert.RetRefIdeal.sig) → Buf (Elt Ideal) ℓ) (g : Dev Cert.RetRefIdeal.nD → PrngReg), Pre_RetRefIdeal m →
    θ_run (Cert.RetRefIdeal.defs (F := Ideal)) (onTc (τ := Cert.RetRefIdeal.τ) (Cert.RetRefIdeal.main (F := Ideal))) ⟨m, fun _ => 0, g⟩ (fun r => (∀ c : Dev Cert.RetRefIdeal.nD,
      r.2.mem ((c.tc : Thread Cert.RetRefIdeal.nD Cert.RetRefIdeal.τ).loc Cert.RetRefIdeal.main_arg0) = m ((c.tc : Thread Cert.RetRefIdeal.nD Cert.RetRefIdeal.τ).loc Cert.RetRefIdeal.main_arg0)
      ∧ r.2.mem ((c.tc : Thread Cert.RetRefIdeal.nD Cert.RetRefIdeal.τ).loc Cert.RetRefIdeal.main_arg1) = m ((c.tc : Thread Cert.RetRefIdeal.nD Cert.RetRefIdeal.τ).loc Cert.RetRefIdeal.main_arg1))
      ∧ r.2.sem = fun _ => 0)

def quiescent_RetRefIdeal_pre_pre_ret [hRetRefIdeal : Cert.RetRefIdeal.Facts] [hPre_pre_ret : Cert.Pre_pre_ret.Facts] : Prop :=
  ∀ (m : (ℓ : Loc Cert.RetRefIdeal.nD Cert.RetRefIdeal.τ Cert.RetRefIdeal.sig) → Buf (Elt Ideal) ℓ) (g : Dev Cert.RetRefIdeal.nD → PrngReg), Pre_RetRefIdeal_pre_ret m →
    θ_run (Cert.RetRefIdeal.defs (F := Ideal)) (onTc (τ := Cert.RetRefIdeal.τ) (Cert.RetRefIdeal.main (F := Ideal))) ⟨m, fun _ => 0, g⟩ (fun r => (∀ c : Dev Cert.RetRefIdeal.nD,
      r.2.mem ((c.tc : Thread Cert.RetRefIdeal.nD Cert.RetRefIdeal.τ).loc Cert.RetRefIdeal.main_arg0) = m ((c.tc : Thread Cert.RetRefIdeal.nD Cert.RetRefIdeal.τ).loc Cert.RetRefIdeal.main_arg0)
      ∧ r.2.mem ((c.tc : Thread Cert.RetRefIdeal.nD Cert.RetRefIdeal.τ).loc Cert.RetRefIdeal.main_arg1) = m ((c.tc : Thread Cert.RetRefIdeal.nD Cert.RetRefIdeal.τ).loc Cert.RetRefIdeal.main_arg1))
      ∧ r.2.sem = fun _ => 0)

def quiescent_MlpDh [hMlpDh : Cert.MlpDh.Facts] : Prop :=
  ∀ (m : (ℓ : Loc Cert.MlpDh.nD Cert.MlpDh.τ Cert.MlpDh.sig) → Buf (Elt Bits) ℓ) (g : Dev Cert.MlpDh.nD → PrngReg), Pre_MlpDh m →
    θ_run (Cert.MlpDh.defs (F := Bits)) (onTc (τ := Cert.MlpDh.τ) (Cert.MlpDh.main (F := Bits))) ⟨m, fun _ => 0, g⟩ (fun r => (∀ c : Dev Cert.MlpDh.nD,
      r.2.mem ((c.tc : Thread Cert.MlpDh.nD Cert.MlpDh.τ).loc Cert.MlpDh.main_arg0) = m ((c.tc : Thread Cert.MlpDh.nD Cert.MlpDh.τ).loc Cert.MlpDh.main_arg0)
      ∧ r.2.mem ((c.tc : Thread Cert.MlpDh.nD Cert.MlpDh.τ).loc Cert.MlpDh.main_arg1) = m ((c.tc : Thread Cert.MlpDh.nD Cert.MlpDh.τ).loc Cert.MlpDh.main_arg1)
      ∧ r.2.mem ((c.tc : Thread Cert.MlpDh.nD Cert.MlpDh.τ).loc Cert.MlpDh.main_arg2) = m ((c.tc : Thread Cert.MlpDh.nD Cert.MlpDh.τ).loc Cert.MlpDh.main_arg2)
      ∧ r.2.mem ((c.tc : Thread Cert.MlpDh.nD Cert.MlpDh.τ).loc Cert.MlpDh.main_arg3) = m ((c.tc : Thread Cert.MlpDh.nD Cert.MlpDh.τ).loc Cert.MlpDh.main_arg3)
      ∧ r.2.mem ((c.tc : Thread Cert.MlpDh.nD Cert.MlpDh.τ).loc Cert.MlpDh.main_arg4) = m ((c.tc : Thread Cert.MlpDh.nD Cert.MlpDh.τ).loc Cert.MlpDh.main_arg4))
      ∧ r.2.sem = fun _ => 0)

def quiescent_MlpDhIdeal [hMlpDhIdeal : Cert.MlpDhIdeal.Facts] : Prop :=
  ∀ (m : (ℓ : Loc Cert.MlpDhIdeal.nD Cert.MlpDhIdeal.τ Cert.MlpDhIdeal.sig) → Buf (Elt Ideal) ℓ) (g : Dev Cert.MlpDhIdeal.nD → PrngReg), Pre_MlpDhIdeal m →
    θ_run (Cert.MlpDhIdeal.defs (F := Ideal)) (onTc (τ := Cert.MlpDhIdeal.τ) (Cert.MlpDhIdeal.main (F := Ideal))) ⟨m, fun _ => 0, g⟩ (fun r => (∀ c : Dev Cert.MlpDhIdeal.nD,
      r.2.mem ((c.tc : Thread Cert.MlpDhIdeal.nD Cert.MlpDhIdeal.τ).loc Cert.MlpDhIdeal.main_arg0) = m ((c.tc : Thread Cert.MlpDhIdeal.nD Cert.MlpDhIdeal.τ).loc Cert.MlpDhIdeal.main_arg0)
      ∧ r.2.mem ((c.tc : Thread Cert.MlpDhIdeal.nD Cert.MlpDhIdeal.τ).loc Cert.MlpDhIdeal.main_arg1) = m ((c.tc : Thread Cert.MlpDhIdeal.nD Cert.MlpDhIdeal.τ).loc Cert.MlpDhIdeal.main_arg1)
      ∧ r.2.mem ((c.tc : Thread Cert.MlpDhIdeal.nD Cert.MlpDhIdeal.τ).loc Cert.MlpDhIdeal.main_arg2) = m ((c.tc : Thread Cert.MlpDhIdeal.nD Cert.MlpDhIdeal.τ).loc Cert.MlpDhIdeal.main_arg2)
      ∧ r.2.mem ((c.tc : Thread Cert.MlpDhIdeal.nD Cert.MlpDhIdeal.τ).loc Cert.MlpDhIdeal.main_arg3) = m ((c.tc : Thread Cert.MlpDhIdeal.nD Cert.MlpDhIdeal.τ).loc Cert.MlpDhIdeal.main_arg3)
      ∧ r.2.mem ((c.tc : Thread Cert.MlpDhIdeal.nD Cert.MlpDhIdeal.τ).loc Cert.MlpDhIdeal.main_arg4) = m ((c.tc : Thread Cert.MlpDhIdeal.nD Cert.MlpDhIdeal.τ).loc Cert.MlpDhIdeal.main_arg4))
      ∧ r.2.sem = fun _ => 0)

def quiescent_MlpDhRefIdeal [hMlpDhRefIdeal : Cert.MlpDhRefIdeal.Facts] : Prop :=
  ∀ (m : (ℓ : Loc Cert.MlpDhRefIdeal.nD Cert.MlpDhRefIdeal.τ Cert.MlpDhRefIdeal.sig) → Buf (Elt Ideal) ℓ) (g : Dev Cert.MlpDhRefIdeal.nD → PrngReg), Pre_MlpDhRefIdeal m →
    θ_run (Cert.MlpDhRefIdeal.defs (F := Ideal)) (onTc (τ := Cert.MlpDhRefIdeal.τ) (Cert.MlpDhRefIdeal.main (F := Ideal))) ⟨m, fun _ => 0, g⟩ (fun r => (∀ c : Dev Cert.MlpDhRefIdeal.nD,
      r.2.mem ((c.tc : Thread Cert.MlpDhRefIdeal.nD Cert.MlpDhRefIdeal.τ).loc Cert.MlpDhRefIdeal.main_arg0) = m ((c.tc : Thread Cert.MlpDhRefIdeal.nD Cert.MlpDhRefIdeal.τ).loc Cert.MlpDhRefIdeal.main_arg0)
      ∧ r.2.mem ((c.tc : Thread Cert.MlpDhRefIdeal.nD Cert.MlpDhRefIdeal.τ).loc Cert.MlpDhRefIdeal.main_arg1) = m ((c.tc : Thread Cert.MlpDhRefIdeal.nD Cert.MlpDhRefIdeal.τ).loc Cert.MlpDhRefIdeal.main_arg1)
      ∧ r.2.mem ((c.tc : Thread Cert.MlpDhRefIdeal.nD Cert.MlpDhRefIdeal.τ).loc Cert.MlpDhRefIdeal.main_arg2) = m ((c.tc : Thread Cert.MlpDhRefIdeal.nD Cert.MlpDhRefIdeal.τ).loc Cert.MlpDhRefIdeal.main_arg2)
      ∧ r.2.mem ((c.tc : Thread Cert.MlpDhRefIdeal.nD Cert.MlpDhRefIdeal.τ).loc Cert.MlpDhRefIdeal.main_arg3) = m ((c.tc : Thread Cert.MlpDhRefIdeal.nD Cert.MlpDhRefIdeal.τ).loc Cert.MlpDhRefIdeal.main_arg3)
      ∧ r.2.mem ((c.tc : Thread Cert.MlpDhRefIdeal.nD Cert.MlpDhRefIdeal.τ).loc Cert.MlpDhRefIdeal.main_arg4) = m ((c.tc : Thread Cert.MlpDhRefIdeal.nD Cert.MlpDhRefIdeal.τ).loc Cert.MlpDhRefIdeal.main_arg4))
      ∧ r.2.sem = fun _ => 0)

def quiescent_InEven [hInEven : Cert.InEven.Facts] : Prop :=
  ∀ (m : (ℓ : Loc Cert.InEven.nD Cert.InEven.τ Cert.InEven.sig) → Buf (Elt Bits) ℓ) (g : Dev Cert.InEven.nD → PrngReg), Pre_InEven m →
    θ_run (Cert.InEven.defs (F := Bits)) (onTc (τ := Cert.InEven.τ) (Cert.InEven.main (F := Bits))) ⟨m, fun _ => 0, g⟩ (fun r => (∀ c : Dev Cert.InEven.nD,
      r.2.mem ((c.tc : Thread Cert.InEven.nD Cert.InEven.τ).loc Cert.InEven.main_arg0) = m ((c.tc : Thread Cert.InEven.nD Cert.InEven.τ).loc Cert.InEven.main_arg0)
      ∧ r.2.mem ((c.tc : Thread Cert.InEven.nD Cert.InEven.τ).loc Cert.InEven.main_arg1) = m ((c.tc : Thread Cert.InEven.nD Cert.InEven.τ).loc Cert.InEven.main_arg1)
      ∧ r.2.mem ((c.tc : Thread Cert.InEven.nD Cert.InEven.τ).loc Cert.InEven.main_arg2) = m ((c.tc : Thread Cert.InEven.nD Cert.InEven.τ).loc Cert.InEven.main_arg2)
      ∧ r.2.mem ((c.tc : Thread Cert.InEven.nD Cert.InEven.τ).loc Cert.InEven.main_arg3) = m ((c.tc : Thread Cert.InEven.nD Cert.InEven.τ).loc Cert.InEven.main_arg3)
      ∧ r.2.mem ((c.tc : Thread Cert.InEven.nD Cert.InEven.τ).loc Cert.InEven.main_arg4) = m ((c.tc : Thread Cert.InEven.nD Cert.InEven.τ).loc Cert.InEven.main_arg4))
      ∧ r.2.sem = fun _ => 0)

def quiescent_InEvenIdeal [hInEvenIdeal : Cert.InEvenIdeal.Facts] : Prop :=
  ∀ (m : (ℓ : Loc Cert.InEvenIdeal.nD Cert.InEvenIdeal.τ Cert.InEvenIdeal.sig) → Buf (Elt Ideal) ℓ) (g : Dev Cert.InEvenIdeal.nD → PrngReg), Pre_InEvenIdeal m →
    θ_run (Cert.InEvenIdeal.defs (F := Ideal)) (onTc (τ := Cert.InEvenIdeal.τ) (Cert.InEvenIdeal.main (F := Ideal))) ⟨m, fun _ => 0, g⟩ (fun r => (∀ c : Dev Cert.InEvenIdeal.nD,
      r.2.mem ((c.tc : Thread Cert.InEvenIdeal.nD Cert.InEvenIdeal.τ).loc Cert.InEvenIdeal.main_arg0) = m ((c.tc : Thread Cert.InEvenIdeal.nD Cert.InEvenIdeal.τ).loc Cert.InEvenIdeal.main_arg0)
      ∧ r.2.mem ((c.tc : Thread Cert.InEvenIdeal.nD Cert.InEvenIdeal.τ).loc Cert.InEvenIdeal.main_arg1) = m ((c.tc : Thread Cert.InEvenIdeal.nD Cert.InEvenIdeal.τ).loc Cert.InEvenIdeal.main_arg1)
      ∧ r.2.mem ((c.tc : Thread Cert.InEvenIdeal.nD Cert.InEvenIdeal.τ).loc Cert.InEvenIdeal.main_arg2) = m ((c.tc : Thread Cert.InEvenIdeal.nD Cert.InEvenIdeal.τ).loc Cert.InEvenIdeal.main_arg2)
      ∧ r.2.mem ((c.tc : Thread Cert.InEvenIdeal.nD Cert.InEvenIdeal.τ).loc Cert.InEvenIdeal.main_arg3) = m ((c.tc : Thread Cert.InEvenIdeal.nD Cert.InEvenIdeal.τ).loc Cert.InEvenIdeal.main_arg3)
      ∧ r.2.mem ((c.tc : Thread Cert.InEvenIdeal.nD Cert.InEvenIdeal.τ).loc Cert.InEvenIdeal.main_arg4) = m ((c.tc : Thread Cert.InEvenIdeal.nD Cert.InEvenIdeal.τ).loc Cert.InEvenIdeal.main_arg4))
      ∧ r.2.sem = fun _ => 0)

def quiescent_InEvenRefIdeal [hInEvenRefIdeal : Cert.InEvenRefIdeal.Facts] : Prop :=
  ∀ (m : (ℓ : Loc Cert.InEvenRefIdeal.nD Cert.InEvenRefIdeal.τ Cert.InEvenRefIdeal.sig) → Buf (Elt Ideal) ℓ) (g : Dev Cert.InEvenRefIdeal.nD → PrngReg), Pre_InEvenRefIdeal m →
    θ_run (Cert.InEvenRefIdeal.defs (F := Ideal)) (onTc (τ := Cert.InEvenRefIdeal.τ) (Cert.InEvenRefIdeal.main (F := Ideal))) ⟨m, fun _ => 0, g⟩ (fun r => (∀ c : Dev Cert.InEvenRefIdeal.nD,
      r.2.mem ((c.tc : Thread Cert.InEvenRefIdeal.nD Cert.InEvenRefIdeal.τ).loc Cert.InEvenRefIdeal.main_arg0) = m ((c.tc : Thread Cert.InEvenRefIdeal.nD Cert.InEvenRefIdeal.τ).loc Cert.InEvenRefIdeal.main_arg0)
      ∧ r.2.mem ((c.tc : Thread Cert.InEvenRefIdeal.nD Cert.InEvenRefIdeal.τ).loc Cert.InEvenRefIdeal.main_arg1) = m ((c.tc : Thread Cert.InEvenRefIdeal.nD Cert.InEvenRefIdeal.τ).loc Cert.InEvenRefIdeal.main_arg1)
      ∧ r.2.mem ((c.tc : Thread Cert.InEvenRefIdeal.nD Cert.InEvenRefIdeal.τ).loc Cert.InEvenRefIdeal.main_arg2) = m ((c.tc : Thread Cert.InEvenRefIdeal.nD Cert.InEvenRefIdeal.τ).loc Cert.InEvenRefIdeal.main_arg2)
      ∧ r.2.mem ((c.tc : Thread Cert.InEvenRefIdeal.nD Cert.InEvenRefIdeal.τ).loc Cert.InEvenRefIdeal.main_arg3) = m ((c.tc : Thread Cert.InEvenRefIdeal.nD Cert.InEvenRefIdeal.τ).loc Cert.InEvenRefIdeal.main_arg3)
      ∧ r.2.mem ((c.tc : Thread Cert.InEvenRefIdeal.nD Cert.InEvenRefIdeal.τ).loc Cert.InEvenRefIdeal.main_arg4) = m ((c.tc : Thread Cert.InEvenRefIdeal.nD Cert.InEvenRefIdeal.τ).loc Cert.InEvenRefIdeal.main_arg4))
      ∧ r.2.sem = fun _ => 0)

def quiescent_InOdd [hInOdd : Cert.InOdd.Facts] : Prop :=
  ∀ (m : (ℓ : Loc Cert.InOdd.nD Cert.InOdd.τ Cert.InOdd.sig) → Buf (Elt Bits) ℓ) (g : Dev Cert.InOdd.nD → PrngReg), Pre_InOdd m →
    θ_run (Cert.InOdd.defs (F := Bits)) (onTc (τ := Cert.InOdd.τ) (Cert.InOdd.main (F := Bits))) ⟨m, fun _ => 0, g⟩ (fun r => (∀ c : Dev Cert.InOdd.nD,
      r.2.mem ((c.tc : Thread Cert.InOdd.nD Cert.InOdd.τ).loc Cert.InOdd.main_arg0) = m ((c.tc : Thread Cert.InOdd.nD Cert.InOdd.τ).loc Cert.InOdd.main_arg0)
      ∧ r.2.mem ((c.tc : Thread Cert.InOdd.nD Cert.InOdd.τ).loc Cert.InOdd.main_arg1) = m ((c.tc : Thread Cert.InOdd.nD Cert.InOdd.τ).loc Cert.InOdd.main_arg1)
      ∧ r.2.mem ((c.tc : Thread Cert.InOdd.nD Cert.InOdd.τ).loc Cert.InOdd.main_arg2) = m ((c.tc : Thread Cert.InOdd.nD Cert.InOdd.τ).loc Cert.InOdd.main_arg2)
      ∧ r.2.mem ((c.tc : Thread Cert.InOdd.nD Cert.InOdd.τ).loc Cert.InOdd.main_arg3) = m ((c.tc : Thread Cert.InOdd.nD Cert.InOdd.τ).loc Cert.InOdd.main_arg3)
      ∧ r.2.mem ((c.tc : Thread Cert.InOdd.nD Cert.InOdd.τ).loc Cert.InOdd.main_arg4) = m ((c.tc : Thread Cert.InOdd.nD Cert.InOdd.τ).loc Cert.InOdd.main_arg4))
      ∧ r.2.sem = fun _ => 0)

def quiescent_InOddIdeal [hInOddIdeal : Cert.InOddIdeal.Facts] : Prop :=
  ∀ (m : (ℓ : Loc Cert.InOddIdeal.nD Cert.InOddIdeal.τ Cert.InOddIdeal.sig) → Buf (Elt Ideal) ℓ) (g : Dev Cert.InOddIdeal.nD → PrngReg), Pre_InOddIdeal m →
    θ_run (Cert.InOddIdeal.defs (F := Ideal)) (onTc (τ := Cert.InOddIdeal.τ) (Cert.InOddIdeal.main (F := Ideal))) ⟨m, fun _ => 0, g⟩ (fun r => (∀ c : Dev Cert.InOddIdeal.nD,
      r.2.mem ((c.tc : Thread Cert.InOddIdeal.nD Cert.InOddIdeal.τ).loc Cert.InOddIdeal.main_arg0) = m ((c.tc : Thread Cert.InOddIdeal.nD Cert.InOddIdeal.τ).loc Cert.InOddIdeal.main_arg0)
      ∧ r.2.mem ((c.tc : Thread Cert.InOddIdeal.nD Cert.InOddIdeal.τ).loc Cert.InOddIdeal.main_arg1) = m ((c.tc : Thread Cert.InOddIdeal.nD Cert.InOddIdeal.τ).loc Cert.InOddIdeal.main_arg1)
      ∧ r.2.mem ((c.tc : Thread Cert.InOddIdeal.nD Cert.InOddIdeal.τ).loc Cert.InOddIdeal.main_arg2) = m ((c.tc : Thread Cert.InOddIdeal.nD Cert.InOddIdeal.τ).loc Cert.InOddIdeal.main_arg2)
      ∧ r.2.mem ((c.tc : Thread Cert.InOddIdeal.nD Cert.InOddIdeal.τ).loc Cert.InOddIdeal.main_arg3) = m ((c.tc : Thread Cert.InOddIdeal.nD Cert.InOddIdeal.τ).loc Cert.InOddIdeal.main_arg3)
      ∧ r.2.mem ((c.tc : Thread Cert.InOddIdeal.nD Cert.InOddIdeal.τ).loc Cert.InOddIdeal.main_arg4) = m ((c.tc : Thread Cert.InOddIdeal.nD Cert.InOddIdeal.τ).loc Cert.InOddIdeal.main_arg4))
      ∧ r.2.sem = fun _ => 0)

def quiescent_InOddRefIdeal [hInOddRefIdeal : Cert.InOddRefIdeal.Facts] : Prop :=
  ∀ (m : (ℓ : Loc Cert.InOddRefIdeal.nD Cert.InOddRefIdeal.τ Cert.InOddRefIdeal.sig) → Buf (Elt Ideal) ℓ) (g : Dev Cert.InOddRefIdeal.nD → PrngReg), Pre_InOddRefIdeal m →
    θ_run (Cert.InOddRefIdeal.defs (F := Ideal)) (onTc (τ := Cert.InOddRefIdeal.τ) (Cert.InOddRefIdeal.main (F := Ideal))) ⟨m, fun _ => 0, g⟩ (fun r => (∀ c : Dev Cert.InOddRefIdeal.nD,
      r.2.mem ((c.tc : Thread Cert.InOddRefIdeal.nD Cert.InOddRefIdeal.τ).loc Cert.InOddRefIdeal.main_arg0) = m ((c.tc : Thread Cert.InOddRefIdeal.nD Cert.InOddRefIdeal.τ).loc Cert.InOddRefIdeal.main_arg0)
      ∧ r.2.mem ((c.tc : Thread Cert.InOddRefIdeal.nD Cert.InOddRefIdeal.τ).loc Cert.InOddRefIdeal.main_arg1) = m ((c.tc : Thread Cert.InOddRefIdeal.nD Cert.InOddRefIdeal.τ).loc Cert.InOddRefIdeal.main_arg1)
      ∧ r.2.mem ((c.tc : Thread Cert.InOddRefIdeal.nD Cert.InOddRefIdeal.τ).loc Cert.InOddRefIdeal.main_arg2) = m ((c.tc : Thread Cert.InOddRefIdeal.nD Cert.InOddRefIdeal.τ).loc Cert.InOddRefIdeal.main_arg2)
      ∧ r.2.mem ((c.tc : Thread Cert.InOddRefIdeal.nD Cert.InOddRefIdeal.τ).loc Cert.InOddRefIdeal.main_arg3) = m ((c.tc : Thread Cert.InOddRefIdeal.nD Cert.InOddRefIdeal.τ).loc Cert.InOddRefIdeal.main_arg3)
      ∧ r.2.mem ((c.tc : Thread Cert.InOddRefIdeal.nD Cert.InOddRefIdeal.τ).loc Cert.InOddRefIdeal.main_arg4) = m ((c.tc : Thread Cert.InOddRefIdeal.nD Cert.InOddRefIdeal.τ).loc Cert.InOddRefIdeal.main_arg4))
      ∧ r.2.sem = fun _ => 0)

def quiescent_Loss [hLoss : Cert.Loss.Facts] : Prop :=
  ∀ (m : (ℓ : Loc Cert.Loss.nD Cert.Loss.τ Cert.Loss.sig) → Buf (Elt Bits) ℓ) (g : Dev Cert.Loss.nD → PrngReg), Pre_Loss m →
    θ_run (Cert.Loss.defs (F := Bits)) (onTc (τ := Cert.Loss.τ) (Cert.Loss.main (F := Bits))) ⟨m, fun _ => 0, g⟩ (fun r => (∀ c : Dev Cert.Loss.nD,
      r.2.mem ((c.tc : Thread Cert.Loss.nD Cert.Loss.τ).loc Cert.Loss.main_arg0) = m ((c.tc : Thread Cert.Loss.nD Cert.Loss.τ).loc Cert.Loss.main_arg0)
      ∧ r.2.mem ((c.tc : Thread Cert.Loss.nD Cert.Loss.τ).loc Cert.Loss.main_arg1) = m ((c.tc : Thread Cert.Loss.nD Cert.Loss.τ).loc Cert.Loss.main_arg1)
      ∧ r.2.mem ((c.tc : Thread Cert.Loss.nD Cert.Loss.τ).loc Cert.Loss.main_arg2) = m ((c.tc : Thread Cert.Loss.nD Cert.Loss.τ).loc Cert.Loss.main_arg2)
      ∧ r.2.mem ((c.tc : Thread Cert.Loss.nD Cert.Loss.τ).loc Cert.Loss.main_arg3) = m ((c.tc : Thread Cert.Loss.nD Cert.Loss.τ).loc Cert.Loss.main_arg3)
      ∧ r.2.mem ((c.tc : Thread Cert.Loss.nD Cert.Loss.τ).loc Cert.Loss.main_arg4) = m ((c.tc : Thread Cert.Loss.nD Cert.Loss.τ).loc Cert.Loss.main_arg4))
      ∧ r.2.sem = fun _ => 0)

def quiescent_LossIdeal [hLossIdeal : Cert.LossIdeal.Facts] : Prop :=
  ∀ (m : (ℓ : Loc Cert.LossIdeal.nD Cert.LossIdeal.τ Cert.LossIdeal.sig) → Buf (Elt Ideal) ℓ) (g : Dev Cert.LossIdeal.nD → PrngReg), Pre_LossIdeal m →
    θ_run (Cert.LossIdeal.defs (F := Ideal)) (onTc (τ := Cert.LossIdeal.τ) (Cert.LossIdeal.main (F := Ideal))) ⟨m, fun _ => 0, g⟩ (fun r => (∀ c : Dev Cert.LossIdeal.nD,
      r.2.mem ((c.tc : Thread Cert.LossIdeal.nD Cert.LossIdeal.τ).loc Cert.LossIdeal.main_arg0) = m ((c.tc : Thread Cert.LossIdeal.nD Cert.LossIdeal.τ).loc Cert.LossIdeal.main_arg0)
      ∧ r.2.mem ((c.tc : Thread Cert.LossIdeal.nD Cert.LossIdeal.τ).loc Cert.LossIdeal.main_arg1) = m ((c.tc : Thread Cert.LossIdeal.nD Cert.LossIdeal.τ).loc Cert.LossIdeal.main_arg1)
      ∧ r.2.mem ((c.tc : Thread Cert.LossIdeal.nD Cert.LossIdeal.τ).loc Cert.LossIdeal.main_arg2) = m ((c.tc : Thread Cert.LossIdeal.nD Cert.LossIdeal.τ).loc Cert.LossIdeal.main_arg2)
      ∧ r.2.mem ((c.tc : Thread Cert.LossIdeal.nD Cert.LossIdeal.τ).loc Cert.LossIdeal.main_arg3) = m ((c.tc : Thread Cert.LossIdeal.nD Cert.LossIdeal.τ).loc Cert.LossIdeal.main_arg3)
      ∧ r.2.mem ((c.tc : Thread Cert.LossIdeal.nD Cert.LossIdeal.τ).loc Cert.LossIdeal.main_arg4) = m ((c.tc : Thread Cert.LossIdeal.nD Cert.LossIdeal.τ).loc Cert.LossIdeal.main_arg4))
      ∧ r.2.sem = fun _ => 0)

def quiescent_LossRefIdeal [hLossRefIdeal : Cert.LossRefIdeal.Facts] : Prop :=
  ∀ (m : (ℓ : Loc Cert.LossRefIdeal.nD Cert.LossRefIdeal.τ Cert.LossRefIdeal.sig) → Buf (Elt Ideal) ℓ) (g : Dev Cert.LossRefIdeal.nD → PrngReg), Pre_LossRefIdeal m →
    θ_run (Cert.LossRefIdeal.defs (F := Ideal)) (onTc (τ := Cert.LossRefIdeal.τ) (Cert.LossRefIdeal.main (F := Ideal))) ⟨m, fun _ => 0, g⟩ (fun r => (∀ c : Dev Cert.LossRefIdeal.nD,
      r.2.mem ((c.tc : Thread Cert.LossRefIdeal.nD Cert.LossRefIdeal.τ).loc Cert.LossRefIdeal.main_arg0) = m ((c.tc : Thread Cert.LossRefIdeal.nD Cert.LossRefIdeal.τ).loc Cert.LossRefIdeal.main_arg0)
      ∧ r.2.mem ((c.tc : Thread Cert.LossRefIdeal.nD Cert.LossRefIdeal.τ).loc Cert.LossRefIdeal.main_arg1) = m ((c.tc : Thread Cert.LossRefIdeal.nD Cert.LossRefIdeal.τ).loc Cert.LossRefIdeal.main_arg1)
      ∧ r.2.mem ((c.tc : Thread Cert.LossRefIdeal.nD Cert.LossRefIdeal.τ).loc Cert.LossRefIdeal.main_arg2) = m ((c.tc : Thread Cert.LossRefIdeal.nD Cert.LossRefIdeal.τ).loc Cert.LossRefIdeal.main_arg2)
      ∧ r.2.mem ((c.tc : Thread Cert.LossRefIdeal.nD Cert.LossRefIdeal.τ).loc Cert.LossRefIdeal.main_arg3) = m ((c.tc : Thread Cert.LossRefIdeal.nD Cert.LossRefIdeal.τ).loc Cert.LossRefIdeal.main_arg3)
      ∧ r.2.mem ((c.tc : Thread Cert.LossRefIdeal.nD Cert.LossRefIdeal.τ).loc Cert.LossRefIdeal.main_arg4) = m ((c.tc : Thread Cert.LossRefIdeal.nD Cert.LossRefIdeal.τ).loc Cert.LossRefIdeal.main_arg4))
      ∧ r.2.sem = fun _ => 0)

def quiescent_RetFwd [hRetFwd : Cert.RetFwd.Facts] : Prop :=
  ∀ (m : (ℓ : Loc Cert.RetFwd.nD Cert.RetFwd.τ Cert.RetFwd.sig) → Buf (Elt Bits) ℓ) (g : Dev Cert.RetFwd.nD → PrngReg), Pre_RetFwd m →
    θ_run (Cert.RetFwd.defs (F := Bits)) (onTc (τ := Cert.RetFwd.τ) (Cert.RetFwd.main (F := Bits))) ⟨m, fun _ => 0, g⟩ (fun r => (∀ c : Dev Cert.RetFwd.nD,
      r.2.mem ((c.tc : Thread Cert.RetFwd.nD Cert.RetFwd.τ).loc Cert.RetFwd.main_arg0) = m ((c.tc : Thread Cert.RetFwd.nD Cert.RetFwd.τ).loc Cert.RetFwd.main_arg0))
      ∧ r.2.sem = fun _ => 0)

def quiescent_RetFwdIdeal [hRetFwdIdeal : Cert.RetFwdIdeal.Facts] : Prop :=
  ∀ (m : (ℓ : Loc Cert.RetFwdIdeal.nD Cert.RetFwdIdeal.τ Cert.RetFwdIdeal.sig) → Buf (Elt Ideal) ℓ) (g : Dev Cert.RetFwdIdeal.nD → PrngReg), Pre_RetFwdIdeal m →
    θ_run (Cert.RetFwdIdeal.defs (F := Ideal)) (onTc (τ := Cert.RetFwdIdeal.τ) (Cert.RetFwdIdeal.main (F := Ideal))) ⟨m, fun _ => 0, g⟩ (fun r => (∀ c : Dev Cert.RetFwdIdeal.nD,
      r.2.mem ((c.tc : Thread Cert.RetFwdIdeal.nD Cert.RetFwdIdeal.τ).loc Cert.RetFwdIdeal.main_arg0) = m ((c.tc : Thread Cert.RetFwdIdeal.nD Cert.RetFwdIdeal.τ).loc Cert.RetFwdIdeal.main_arg0))
      ∧ r.2.sem = fun _ => 0)

def quiescent_RetFwdRefIdeal [hRetFwdRefIdeal : Cert.RetFwdRefIdeal.Facts] : Prop :=
  ∀ (m : (ℓ : Loc Cert.RetFwdRefIdeal.nD Cert.RetFwdRefIdeal.τ Cert.RetFwdRefIdeal.sig) → Buf (Elt Ideal) ℓ) (g : Dev Cert.RetFwdRefIdeal.nD → PrngReg), Pre_RetFwdRefIdeal m →
    θ_run (Cert.RetFwdRefIdeal.defs (F := Ideal)) (onTc (τ := Cert.RetFwdRefIdeal.τ) (Cert.RetFwdRefIdeal.main (F := Ideal))) ⟨m, fun _ => 0, g⟩ (fun r => (∀ c : Dev Cert.RetFwdRefIdeal.nD,
      r.2.mem ((c.tc : Thread Cert.RetFwdRefIdeal.nD Cert.RetFwdRefIdeal.τ).loc Cert.RetFwdRefIdeal.main_arg0) = m ((c.tc : Thread Cert.RetFwdRefIdeal.nD Cert.RetFwdRefIdeal.τ).loc Cert.RetFwdRefIdeal.main_arg0))
      ∧ r.2.sem = fun _ => 0)

def quiescent_OutEven [hOutEven : Cert.OutEven.Facts] : Prop :=
  ∀ (m : (ℓ : Loc Cert.OutEven.nD Cert.OutEven.τ Cert.OutEven.sig) → Buf (Elt Bits) ℓ) (g : Dev Cert.OutEven.nD → PrngReg), Pre_OutEven m →
    θ_run (Cert.OutEven.defs (F := Bits)) (onTc (τ := Cert.OutEven.τ) (Cert.OutEven.main (F := Bits))) ⟨m, fun _ => 0, g⟩ (fun r => (∀ c : Dev Cert.OutEven.nD,
      r.2.mem ((c.tc : Thread Cert.OutEven.nD Cert.OutEven.τ).loc Cert.OutEven.main_arg0) = m ((c.tc : Thread Cert.OutEven.nD Cert.OutEven.τ).loc Cert.OutEven.main_arg0)
      ∧ r.2.mem ((c.tc : Thread Cert.OutEven.nD Cert.OutEven.τ).loc Cert.OutEven.main_arg1) = m ((c.tc : Thread Cert.OutEven.nD Cert.OutEven.τ).loc Cert.OutEven.main_arg1)
      ∧ r.2.mem ((c.tc : Thread Cert.OutEven.nD Cert.OutEven.τ).loc Cert.OutEven.main_arg2) = m ((c.tc : Thread Cert.OutEven.nD Cert.OutEven.τ).loc Cert.OutEven.main_arg2)
      ∧ r.2.mem ((c.tc : Thread Cert.OutEven.nD Cert.OutEven.τ).loc Cert.OutEven.main_arg3) = m ((c.tc : Thread Cert.OutEven.nD Cert.OutEven.τ).loc Cert.OutEven.main_arg3))
      ∧ r.2.sem = fun _ => 0)

def quiescent_OutEvenIdeal [hOutEvenIdeal : Cert.OutEvenIdeal.Facts] : Prop :=
  ∀ (m : (ℓ : Loc Cert.OutEvenIdeal.nD Cert.OutEvenIdeal.τ Cert.OutEvenIdeal.sig) → Buf (Elt Ideal) ℓ) (g : Dev Cert.OutEvenIdeal.nD → PrngReg), Pre_OutEvenIdeal m →
    θ_run (Cert.OutEvenIdeal.defs (F := Ideal)) (onTc (τ := Cert.OutEvenIdeal.τ) (Cert.OutEvenIdeal.main (F := Ideal))) ⟨m, fun _ => 0, g⟩ (fun r => (∀ c : Dev Cert.OutEvenIdeal.nD,
      r.2.mem ((c.tc : Thread Cert.OutEvenIdeal.nD Cert.OutEvenIdeal.τ).loc Cert.OutEvenIdeal.main_arg0) = m ((c.tc : Thread Cert.OutEvenIdeal.nD Cert.OutEvenIdeal.τ).loc Cert.OutEvenIdeal.main_arg0)
      ∧ r.2.mem ((c.tc : Thread Cert.OutEvenIdeal.nD Cert.OutEvenIdeal.τ).loc Cert.OutEvenIdeal.main_arg1) = m ((c.tc : Thread Cert.OutEvenIdeal.nD Cert.OutEvenIdeal.τ).loc Cert.OutEvenIdeal.main_arg1)
      ∧ r.2.mem ((c.tc : Thread Cert.OutEvenIdeal.nD Cert.OutEvenIdeal.τ).loc Cert.OutEvenIdeal.main_arg2) = m ((c.tc : Thread Cert.OutEvenIdeal.nD Cert.OutEvenIdeal.τ).loc Cert.OutEvenIdeal.main_arg2)
      ∧ r.2.mem ((c.tc : Thread Cert.OutEvenIdeal.nD Cert.OutEvenIdeal.τ).loc Cert.OutEvenIdeal.main_arg3) = m ((c.tc : Thread Cert.OutEvenIdeal.nD Cert.OutEvenIdeal.τ).loc Cert.OutEvenIdeal.main_arg3))
      ∧ r.2.sem = fun _ => 0)

def quiescent_OutEvenRefIdeal [hOutEvenRefIdeal : Cert.OutEvenRefIdeal.Facts] : Prop :=
  ∀ (m : (ℓ : Loc Cert.OutEvenRefIdeal.nD Cert.OutEvenRefIdeal.τ Cert.OutEvenRefIdeal.sig) → Buf (Elt Ideal) ℓ) (g : Dev Cert.OutEvenRefIdeal.nD → PrngReg), Pre_OutEvenRefIdeal m →
    θ_run (Cert.OutEvenRefIdeal.defs (F := Ideal)) (onTc (τ := Cert.OutEvenRefIdeal.τ) (Cert.OutEvenRefIdeal.main (F := Ideal))) ⟨m, fun _ => 0, g⟩ (fun r => (∀ c : Dev Cert.OutEvenRefIdeal.nD,
      r.2.mem ((c.tc : Thread Cert.OutEvenRefIdeal.nD Cert.OutEvenRefIdeal.τ).loc Cert.OutEvenRefIdeal.main_arg0) = m ((c.tc : Thread Cert.OutEvenRefIdeal.nD Cert.OutEvenRefIdeal.τ).loc Cert.OutEvenRefIdeal.main_arg0)
      ∧ r.2.mem ((c.tc : Thread Cert.OutEvenRefIdeal.nD Cert.OutEvenRefIdeal.τ).loc Cert.OutEvenRefIdeal.main_arg1) = m ((c.tc : Thread Cert.OutEvenRefIdeal.nD Cert.OutEvenRefIdeal.τ).loc Cert.OutEvenRefIdeal.main_arg1)
      ∧ r.2.mem ((c.tc : Thread Cert.OutEvenRefIdeal.nD Cert.OutEvenRefIdeal.τ).loc Cert.OutEvenRefIdeal.main_arg2) = m ((c.tc : Thread Cert.OutEvenRefIdeal.nD Cert.OutEvenRefIdeal.τ).loc Cert.OutEvenRefIdeal.main_arg2)
      ∧ r.2.mem ((c.tc : Thread Cert.OutEvenRefIdeal.nD Cert.OutEvenRefIdeal.τ).loc Cert.OutEvenRefIdeal.main_arg3) = m ((c.tc : Thread Cert.OutEvenRefIdeal.nD Cert.OutEvenRefIdeal.τ).loc Cert.OutEvenRefIdeal.main_arg3))
      ∧ r.2.sem = fun _ => 0)

def quiescent_MlpDown [hMlpDown : Cert.MlpDown.Facts] : Prop :=
  ∀ (m : (ℓ : Loc Cert.MlpDown.nD Cert.MlpDown.τ Cert.MlpDown.sig) → Buf (Elt Bits) ℓ) (g : Dev Cert.MlpDown.nD → PrngReg), Pre_MlpDown m →
    θ_run (Cert.MlpDown.defs (F := Bits)) (onTc (τ := Cert.MlpDown.τ) (Cert.MlpDown.main (F := Bits))) ⟨m, fun _ => 0, g⟩ (fun r => (∀ c : Dev Cert.MlpDown.nD,
      r.2.mem ((c.tc : Thread Cert.MlpDown.nD Cert.MlpDown.τ).loc Cert.MlpDown.main_arg0) = m ((c.tc : Thread Cert.MlpDown.nD Cert.MlpDown.τ).loc Cert.MlpDown.main_arg0)
      ∧ r.2.mem ((c.tc : Thread Cert.MlpDown.nD Cert.MlpDown.τ).loc Cert.MlpDown.main_arg1) = m ((c.tc : Thread Cert.MlpDown.nD Cert.MlpDown.τ).loc Cert.MlpDown.main_arg1)
      ∧ r.2.mem ((c.tc : Thread Cert.MlpDown.nD Cert.MlpDown.τ).loc Cert.MlpDown.main_arg2) = m ((c.tc : Thread Cert.MlpDown.nD Cert.MlpDown.τ).loc Cert.MlpDown.main_arg2)
      ∧ r.2.mem ((c.tc : Thread Cert.MlpDown.nD Cert.MlpDown.τ).loc Cert.MlpDown.main_arg3) = m ((c.tc : Thread Cert.MlpDown.nD Cert.MlpDown.τ).loc Cert.MlpDown.main_arg3)
      ∧ r.2.mem ((c.tc : Thread Cert.MlpDown.nD Cert.MlpDown.τ).loc Cert.MlpDown.main_arg4) = m ((c.tc : Thread Cert.MlpDown.nD Cert.MlpDown.τ).loc Cert.MlpDown.main_arg4))
      ∧ r.2.sem = fun _ => 0)

def quiescent_MlpDownIdeal [hMlpDownIdeal : Cert.MlpDownIdeal.Facts] : Prop :=
  ∀ (m : (ℓ : Loc Cert.MlpDownIdeal.nD Cert.MlpDownIdeal.τ Cert.MlpDownIdeal.sig) → Buf (Elt Ideal) ℓ) (g : Dev Cert.MlpDownIdeal.nD → PrngReg), Pre_MlpDownIdeal m →
    θ_run (Cert.MlpDownIdeal.defs (F := Ideal)) (onTc (τ := Cert.MlpDownIdeal.τ) (Cert.MlpDownIdeal.main (F := Ideal))) ⟨m, fun _ => 0, g⟩ (fun r => (∀ c : Dev Cert.MlpDownIdeal.nD,
      r.2.mem ((c.tc : Thread Cert.MlpDownIdeal.nD Cert.MlpDownIdeal.τ).loc Cert.MlpDownIdeal.main_arg0) = m ((c.tc : Thread Cert.MlpDownIdeal.nD Cert.MlpDownIdeal.τ).loc Cert.MlpDownIdeal.main_arg0)
      ∧ r.2.mem ((c.tc : Thread Cert.MlpDownIdeal.nD Cert.MlpDownIdeal.τ).loc Cert.MlpDownIdeal.main_arg1) = m ((c.tc : Thread Cert.MlpDownIdeal.nD Cert.MlpDownIdeal.τ).loc Cert.MlpDownIdeal.main_arg1)
      ∧ r.2.mem ((c.tc : Thread Cert.MlpDownIdeal.nD Cert.MlpDownIdeal.τ).loc Cert.MlpDownIdeal.main_arg2) = m ((c.tc : Thread Cert.MlpDownIdeal.nD Cert.MlpDownIdeal.τ).loc Cert.MlpDownIdeal.main_arg2)
      ∧ r.2.mem ((c.tc : Thread Cert.MlpDownIdeal.nD Cert.MlpDownIdeal.τ).loc Cert.MlpDownIdeal.main_arg3) = m ((c.tc : Thread Cert.MlpDownIdeal.nD Cert.MlpDownIdeal.τ).loc Cert.MlpDownIdeal.main_arg3)
      ∧ r.2.mem ((c.tc : Thread Cert.MlpDownIdeal.nD Cert.MlpDownIdeal.τ).loc Cert.MlpDownIdeal.main_arg4) = m ((c.tc : Thread Cert.MlpDownIdeal.nD Cert.MlpDownIdeal.τ).loc Cert.MlpDownIdeal.main_arg4))
      ∧ r.2.sem = fun _ => 0)

def quiescent_MlpDownRefIdeal [hMlpDownRefIdeal : Cert.MlpDownRefIdeal.Facts] : Prop :=
  ∀ (m : (ℓ : Loc Cert.MlpDownRefIdeal.nD Cert.MlpDownRefIdeal.τ Cert.MlpDownRefIdeal.sig) → Buf (Elt Ideal) ℓ) (g : Dev Cert.MlpDownRefIdeal.nD → PrngReg), Pre_MlpDownRefIdeal m →
    θ_run (Cert.MlpDownRefIdeal.defs (F := Ideal)) (onTc (τ := Cert.MlpDownRefIdeal.τ) (Cert.MlpDownRefIdeal.main (F := Ideal))) ⟨m, fun _ => 0, g⟩ (fun r => (∀ c : Dev Cert.MlpDownRefIdeal.nD,
      r.2.mem ((c.tc : Thread Cert.MlpDownRefIdeal.nD Cert.MlpDownRefIdeal.τ).loc Cert.MlpDownRefIdeal.main_arg0) = m ((c.tc : Thread Cert.MlpDownRefIdeal.nD Cert.MlpDownRefIdeal.τ).loc Cert.MlpDownRefIdeal.main_arg0)
      ∧ r.2.mem ((c.tc : Thread Cert.MlpDownRefIdeal.nD Cert.MlpDownRefIdeal.τ).loc Cert.MlpDownRefIdeal.main_arg1) = m ((c.tc : Thread Cert.MlpDownRefIdeal.nD Cert.MlpDownRefIdeal.τ).loc Cert.MlpDownRefIdeal.main_arg1)
      ∧ r.2.mem ((c.tc : Thread Cert.MlpDownRefIdeal.nD Cert.MlpDownRefIdeal.τ).loc Cert.MlpDownRefIdeal.main_arg2) = m ((c.tc : Thread Cert.MlpDownRefIdeal.nD Cert.MlpDownRefIdeal.τ).loc Cert.MlpDownRefIdeal.main_arg2)
      ∧ r.2.mem ((c.tc : Thread Cert.MlpDownRefIdeal.nD Cert.MlpDownRefIdeal.τ).loc Cert.MlpDownRefIdeal.main_arg3) = m ((c.tc : Thread Cert.MlpDownRefIdeal.nD Cert.MlpDownRefIdeal.τ).loc Cert.MlpDownRefIdeal.main_arg3)
      ∧ r.2.mem ((c.tc : Thread Cert.MlpDownRefIdeal.nD Cert.MlpDownRefIdeal.τ).loc Cert.MlpDownRefIdeal.main_arg4) = m ((c.tc : Thread Cert.MlpDownRefIdeal.nD Cert.MlpDownRefIdeal.τ).loc Cert.MlpDownRefIdeal.main_arg4))
      ∧ r.2.sem = fun _ => 0)

def quiescent_MlpUp [hMlpUp : Cert.MlpUp.Facts] : Prop :=
  ∀ (m : (ℓ : Loc Cert.MlpUp.nD Cert.MlpUp.τ Cert.MlpUp.sig) → Buf (Elt Bits) ℓ) (g : Dev Cert.MlpUp.nD → PrngReg), Pre_MlpUp m →
    θ_run (Cert.MlpUp.defs (F := Bits)) (onTc (τ := Cert.MlpUp.τ) (Cert.MlpUp.main (F := Bits))) ⟨m, fun _ => 0, g⟩ (fun r => (∀ c : Dev Cert.MlpUp.nD,
      r.2.mem ((c.tc : Thread Cert.MlpUp.nD Cert.MlpUp.τ).loc Cert.MlpUp.main_arg0) = m ((c.tc : Thread Cert.MlpUp.nD Cert.MlpUp.τ).loc Cert.MlpUp.main_arg0)
      ∧ r.2.mem ((c.tc : Thread Cert.MlpUp.nD Cert.MlpUp.τ).loc Cert.MlpUp.main_arg1) = m ((c.tc : Thread Cert.MlpUp.nD Cert.MlpUp.τ).loc Cert.MlpUp.main_arg1))
      ∧ r.2.sem = fun _ => 0)

def quiescent_MlpUpIdeal [hMlpUpIdeal : Cert.MlpUpIdeal.Facts] : Prop :=
  ∀ (m : (ℓ : Loc Cert.MlpUpIdeal.nD Cert.MlpUpIdeal.τ Cert.MlpUpIdeal.sig) → Buf (Elt Ideal) ℓ) (g : Dev Cert.MlpUpIdeal.nD → PrngReg), Pre_MlpUpIdeal m →
    θ_run (Cert.MlpUpIdeal.defs (F := Ideal)) (onTc (τ := Cert.MlpUpIdeal.τ) (Cert.MlpUpIdeal.main (F := Ideal))) ⟨m, fun _ => 0, g⟩ (fun r => (∀ c : Dev Cert.MlpUpIdeal.nD,
      r.2.mem ((c.tc : Thread Cert.MlpUpIdeal.nD Cert.MlpUpIdeal.τ).loc Cert.MlpUpIdeal.main_arg0) = m ((c.tc : Thread Cert.MlpUpIdeal.nD Cert.MlpUpIdeal.τ).loc Cert.MlpUpIdeal.main_arg0)
      ∧ r.2.mem ((c.tc : Thread Cert.MlpUpIdeal.nD Cert.MlpUpIdeal.τ).loc Cert.MlpUpIdeal.main_arg1) = m ((c.tc : Thread Cert.MlpUpIdeal.nD Cert.MlpUpIdeal.τ).loc Cert.MlpUpIdeal.main_arg1))
      ∧ r.2.sem = fun _ => 0)

def quiescent_MlpUpRefIdeal [hMlpUpRefIdeal : Cert.MlpUpRefIdeal.Facts] : Prop :=
  ∀ (m : (ℓ : Loc Cert.MlpUpRefIdeal.nD Cert.MlpUpRefIdeal.τ Cert.MlpUpRefIdeal.sig) → Buf (Elt Ideal) ℓ) (g : Dev Cert.MlpUpRefIdeal.nD → PrngReg), Pre_MlpUpRefIdeal m →
    θ_run (Cert.MlpUpRefIdeal.defs (F := Ideal)) (onTc (τ := Cert.MlpUpRefIdeal.τ) (Cert.MlpUpRefIdeal.main (F := Ideal))) ⟨m, fun _ => 0, g⟩ (fun r => (∀ c : Dev Cert.MlpUpRefIdeal.nD,
      r.2.mem ((c.tc : Thread Cert.MlpUpRefIdeal.nD Cert.MlpUpRefIdeal.τ).loc Cert.MlpUpRefIdeal.main_arg0) = m ((c.tc : Thread Cert.MlpUpRefIdeal.nD Cert.MlpUpRefIdeal.τ).loc Cert.MlpUpRefIdeal.main_arg0)
      ∧ r.2.mem ((c.tc : Thread Cert.MlpUpRefIdeal.nD Cert.MlpUpRefIdeal.τ).loc Cert.MlpUpRefIdeal.main_arg1) = m ((c.tc : Thread Cert.MlpUpRefIdeal.nD Cert.MlpUpRefIdeal.τ).loc Cert.MlpUpRefIdeal.main_arg1))
      ∧ r.2.sem = fun _ => 0)

def quiescent_LruConvFwd [hLruConvFwd : Cert.LruConvFwd.Facts] : Prop :=
  ∀ (m : (ℓ : Loc Cert.LruConvFwd.nD Cert.LruConvFwd.τ Cert.LruConvFwd.sig) → Buf (Elt Bits) ℓ) (g : Dev Cert.LruConvFwd.nD → PrngReg), Pre_LruConvFwd m →
    θ_run (Cert.LruConvFwd.defs (F := Bits)) (onTc (τ := Cert.LruConvFwd.τ) (Cert.LruConvFwd.main (F := Bits))) ⟨m, fun _ => 0, g⟩ (fun r => (∀ c : Dev Cert.LruConvFwd.nD,
      r.2.mem ((c.tc : Thread Cert.LruConvFwd.nD Cert.LruConvFwd.τ).loc Cert.LruConvFwd.main_arg0) = m ((c.tc : Thread Cert.LruConvFwd.nD Cert.LruConvFwd.τ).loc Cert.LruConvFwd.main_arg0)
      ∧ r.2.mem ((c.tc : Thread Cert.LruConvFwd.nD Cert.LruConvFwd.τ).loc Cert.LruConvFwd.main_arg1) = m ((c.tc : Thread Cert.LruConvFwd.nD Cert.LruConvFwd.τ).loc Cert.LruConvFwd.main_arg1)
      ∧ r.2.mem ((c.tc : Thread Cert.LruConvFwd.nD Cert.LruConvFwd.τ).loc Cert.LruConvFwd.main_arg2) = m ((c.tc : Thread Cert.LruConvFwd.nD Cert.LruConvFwd.τ).loc Cert.LruConvFwd.main_arg2))
      ∧ r.2.sem = fun _ => 0)

def quiescent_LruConvFwdIdeal [hLruConvFwdIdeal : Cert.LruConvFwdIdeal.Facts] : Prop :=
  ∀ (m : (ℓ : Loc Cert.LruConvFwdIdeal.nD Cert.LruConvFwdIdeal.τ Cert.LruConvFwdIdeal.sig) → Buf (Elt Ideal) ℓ) (g : Dev Cert.LruConvFwdIdeal.nD → PrngReg), Pre_LruConvFwdIdeal m →
    θ_run (Cert.LruConvFwdIdeal.defs (F := Ideal)) (onTc (τ := Cert.LruConvFwdIdeal.τ) (Cert.LruConvFwdIdeal.main (F := Ideal))) ⟨m, fun _ => 0, g⟩ (fun r => (∀ c : Dev Cert.LruConvFwdIdeal.nD,
      r.2.mem ((c.tc : Thread Cert.LruConvFwdIdeal.nD Cert.LruConvFwdIdeal.τ).loc Cert.LruConvFwdIdeal.main_arg0) = m ((c.tc : Thread Cert.LruConvFwdIdeal.nD Cert.LruConvFwdIdeal.τ).loc Cert.LruConvFwdIdeal.main_arg0)
      ∧ r.2.mem ((c.tc : Thread Cert.LruConvFwdIdeal.nD Cert.LruConvFwdIdeal.τ).loc Cert.LruConvFwdIdeal.main_arg1) = m ((c.tc : Thread Cert.LruConvFwdIdeal.nD Cert.LruConvFwdIdeal.τ).loc Cert.LruConvFwdIdeal.main_arg1)
      ∧ r.2.mem ((c.tc : Thread Cert.LruConvFwdIdeal.nD Cert.LruConvFwdIdeal.τ).loc Cert.LruConvFwdIdeal.main_arg2) = m ((c.tc : Thread Cert.LruConvFwdIdeal.nD Cert.LruConvFwdIdeal.τ).loc Cert.LruConvFwdIdeal.main_arg2))
      ∧ r.2.sem = fun _ => 0)

def quiescent_LruConvFwdRefIdeal [hLruConvFwdRefIdeal : Cert.LruConvFwdRefIdeal.Facts] : Prop :=
  ∀ (m : (ℓ : Loc Cert.LruConvFwdRefIdeal.nD Cert.LruConvFwdRefIdeal.τ Cert.LruConvFwdRefIdeal.sig) → Buf (Elt Ideal) ℓ) (g : Dev Cert.LruConvFwdRefIdeal.nD → PrngReg), Pre_LruConvFwdRefIdeal m →
    θ_run (Cert.LruConvFwdRefIdeal.defs (F := Ideal)) (onTc (τ := Cert.LruConvFwdRefIdeal.τ) (Cert.LruConvFwdRefIdeal.main (F := Ideal))) ⟨m, fun _ => 0, g⟩ (fun r => (∀ c : Dev Cert.LruConvFwdRefIdeal.nD,
      r.2.mem ((c.tc : Thread Cert.LruConvFwdRefIdeal.nD Cert.LruConvFwdRefIdeal.τ).loc Cert.LruConvFwdRefIdeal.main_arg0) = m ((c.tc : Thread Cert.LruConvFwdRefIdeal.nD Cert.LruConvFwdRefIdeal.τ).loc Cert.LruConvFwdRefIdeal.main_arg0)
      ∧ r.2.mem ((c.tc : Thread Cert.LruConvFwdRefIdeal.nD Cert.LruConvFwdRefIdeal.τ).loc Cert.LruConvFwdRefIdeal.main_arg1) = m ((c.tc : Thread Cert.LruConvFwdRefIdeal.nD Cert.LruConvFwdRefIdeal.τ).loc Cert.LruConvFwdRefIdeal.main_arg1)
      ∧ r.2.mem ((c.tc : Thread Cert.LruConvFwdRefIdeal.nD Cert.LruConvFwdRefIdeal.τ).loc Cert.LruConvFwdRefIdeal.main_arg2) = m ((c.tc : Thread Cert.LruConvFwdRefIdeal.nD Cert.LruConvFwdRefIdeal.τ).loc Cert.LruConvFwdRefIdeal.main_arg2))
      ∧ r.2.sem = fun _ => 0)

def quiescent_GdnConvFwd [hGdnConvFwd : Cert.GdnConvFwd.Facts] : Prop :=
  ∀ (m : (ℓ : Loc Cert.GdnConvFwd.nD Cert.GdnConvFwd.τ Cert.GdnConvFwd.sig) → Buf (Elt Bits) ℓ) (g : Dev Cert.GdnConvFwd.nD → PrngReg), Pre_GdnConvFwd m →
    θ_run (Cert.GdnConvFwd.defs (F := Bits)) (onTc (τ := Cert.GdnConvFwd.τ) (Cert.GdnConvFwd.main (F := Bits))) ⟨m, fun _ => 0, g⟩ (fun r => (∀ c : Dev Cert.GdnConvFwd.nD,
      r.2.mem ((c.tc : Thread Cert.GdnConvFwd.nD Cert.GdnConvFwd.τ).loc Cert.GdnConvFwd.main_arg0) = m ((c.tc : Thread Cert.GdnConvFwd.nD Cert.GdnConvFwd.τ).loc Cert.GdnConvFwd.main_arg0)
      ∧ r.2.mem ((c.tc : Thread Cert.GdnConvFwd.nD Cert.GdnConvFwd.τ).loc Cert.GdnConvFwd.main_arg1) = m ((c.tc : Thread Cert.GdnConvFwd.nD Cert.GdnConvFwd.τ).loc Cert.GdnConvFwd.main_arg1))
      ∧ r.2.sem = fun _ => 0)

def quiescent_GdnConvFwdIdeal [hGdnConvFwdIdeal : Cert.GdnConvFwdIdeal.Facts] : Prop :=
  ∀ (m : (ℓ : Loc Cert.GdnConvFwdIdeal.nD Cert.GdnConvFwdIdeal.τ Cert.GdnConvFwdIdeal.sig) → Buf (Elt Ideal) ℓ) (g : Dev Cert.GdnConvFwdIdeal.nD → PrngReg), Pre_GdnConvFwdIdeal m →
    θ_run (Cert.GdnConvFwdIdeal.defs (F := Ideal)) (onTc (τ := Cert.GdnConvFwdIdeal.τ) (Cert.GdnConvFwdIdeal.main (F := Ideal))) ⟨m, fun _ => 0, g⟩ (fun r => (∀ c : Dev Cert.GdnConvFwdIdeal.nD,
      r.2.mem ((c.tc : Thread Cert.GdnConvFwdIdeal.nD Cert.GdnConvFwdIdeal.τ).loc Cert.GdnConvFwdIdeal.main_arg0) = m ((c.tc : Thread Cert.GdnConvFwdIdeal.nD Cert.GdnConvFwdIdeal.τ).loc Cert.GdnConvFwdIdeal.main_arg0)
      ∧ r.2.mem ((c.tc : Thread Cert.GdnConvFwdIdeal.nD Cert.GdnConvFwdIdeal.τ).loc Cert.GdnConvFwdIdeal.main_arg1) = m ((c.tc : Thread Cert.GdnConvFwdIdeal.nD Cert.GdnConvFwdIdeal.τ).loc Cert.GdnConvFwdIdeal.main_arg1))
      ∧ r.2.sem = fun _ => 0)

def quiescent_GdnConvFwdRefIdeal [hGdnConvFwdRefIdeal : Cert.GdnConvFwdRefIdeal.Facts] : Prop :=
  ∀ (m : (ℓ : Loc Cert.GdnConvFwdRefIdeal.nD Cert.GdnConvFwdRefIdeal.τ Cert.GdnConvFwdRefIdeal.sig) → Buf (Elt Ideal) ℓ) (g : Dev Cert.GdnConvFwdRefIdeal.nD → PrngReg), Pre_GdnConvFwdRefIdeal m →
    θ_run (Cert.GdnConvFwdRefIdeal.defs (F := Ideal)) (onTc (τ := Cert.GdnConvFwdRefIdeal.τ) (Cert.GdnConvFwdRefIdeal.main (F := Ideal))) ⟨m, fun _ => 0, g⟩ (fun r => (∀ c : Dev Cert.GdnConvFwdRefIdeal.nD,
      r.2.mem ((c.tc : Thread Cert.GdnConvFwdRefIdeal.nD Cert.GdnConvFwdRefIdeal.τ).loc Cert.GdnConvFwdRefIdeal.main_arg0) = m ((c.tc : Thread Cert.GdnConvFwdRefIdeal.nD Cert.GdnConvFwdRefIdeal.τ).loc Cert.GdnConvFwdRefIdeal.main_arg0)
      ∧ r.2.mem ((c.tc : Thread Cert.GdnConvFwdRefIdeal.nD Cert.GdnConvFwdRefIdeal.τ).loc Cert.GdnConvFwdRefIdeal.main_arg1) = m ((c.tc : Thread Cert.GdnConvFwdRefIdeal.nD Cert.GdnConvFwdRefIdeal.τ).loc Cert.GdnConvFwdRefIdeal.main_arg1))
      ∧ r.2.sem = fun _ => 0)

def quiescent_LruConv [hLruConv : Cert.LruConv.Facts] : Prop :=
  ∀ (m : (ℓ : Loc Cert.LruConv.nD Cert.LruConv.τ Cert.LruConv.sig) → Buf (Elt Bits) ℓ) (g : Dev Cert.LruConv.nD → PrngReg), Pre_LruConv m →
    θ_run (Cert.LruConv.defs (F := Bits)) (onTc (τ := Cert.LruConv.τ) (Cert.LruConv.main (F := Bits))) ⟨m, fun _ => 0, g⟩ (fun r => (∀ c : Dev Cert.LruConv.nD,
      r.2.mem ((c.tc : Thread Cert.LruConv.nD Cert.LruConv.τ).loc Cert.LruConv.main_arg0) = m ((c.tc : Thread Cert.LruConv.nD Cert.LruConv.τ).loc Cert.LruConv.main_arg0)
      ∧ r.2.mem ((c.tc : Thread Cert.LruConv.nD Cert.LruConv.τ).loc Cert.LruConv.main_arg1) = m ((c.tc : Thread Cert.LruConv.nD Cert.LruConv.τ).loc Cert.LruConv.main_arg1)
      ∧ r.2.mem ((c.tc : Thread Cert.LruConv.nD Cert.LruConv.τ).loc Cert.LruConv.main_arg2) = m ((c.tc : Thread Cert.LruConv.nD Cert.LruConv.τ).loc Cert.LruConv.main_arg2)
      ∧ r.2.mem ((c.tc : Thread Cert.LruConv.nD Cert.LruConv.τ).loc Cert.LruConv.main_arg3) = m ((c.tc : Thread Cert.LruConv.nD Cert.LruConv.τ).loc Cert.LruConv.main_arg3)
      ∧ r.2.mem ((c.tc : Thread Cert.LruConv.nD Cert.LruConv.τ).loc Cert.LruConv.main_arg4) = m ((c.tc : Thread Cert.LruConv.nD Cert.LruConv.τ).loc Cert.LruConv.main_arg4))
      ∧ r.2.sem = fun _ => 0)

def quiescent_LruConvIdeal [hLruConvIdeal : Cert.LruConvIdeal.Facts] : Prop :=
  ∀ (m : (ℓ : Loc Cert.LruConvIdeal.nD Cert.LruConvIdeal.τ Cert.LruConvIdeal.sig) → Buf (Elt Ideal) ℓ) (g : Dev Cert.LruConvIdeal.nD → PrngReg), Pre_LruConvIdeal m →
    θ_run (Cert.LruConvIdeal.defs (F := Ideal)) (onTc (τ := Cert.LruConvIdeal.τ) (Cert.LruConvIdeal.main (F := Ideal))) ⟨m, fun _ => 0, g⟩ (fun r => (∀ c : Dev Cert.LruConvIdeal.nD,
      r.2.mem ((c.tc : Thread Cert.LruConvIdeal.nD Cert.LruConvIdeal.τ).loc Cert.LruConvIdeal.main_arg0) = m ((c.tc : Thread Cert.LruConvIdeal.nD Cert.LruConvIdeal.τ).loc Cert.LruConvIdeal.main_arg0)
      ∧ r.2.mem ((c.tc : Thread Cert.LruConvIdeal.nD Cert.LruConvIdeal.τ).loc Cert.LruConvIdeal.main_arg1) = m ((c.tc : Thread Cert.LruConvIdeal.nD Cert.LruConvIdeal.τ).loc Cert.LruConvIdeal.main_arg1)
      ∧ r.2.mem ((c.tc : Thread Cert.LruConvIdeal.nD Cert.LruConvIdeal.τ).loc Cert.LruConvIdeal.main_arg2) = m ((c.tc : Thread Cert.LruConvIdeal.nD Cert.LruConvIdeal.τ).loc Cert.LruConvIdeal.main_arg2)
      ∧ r.2.mem ((c.tc : Thread Cert.LruConvIdeal.nD Cert.LruConvIdeal.τ).loc Cert.LruConvIdeal.main_arg3) = m ((c.tc : Thread Cert.LruConvIdeal.nD Cert.LruConvIdeal.τ).loc Cert.LruConvIdeal.main_arg3)
      ∧ r.2.mem ((c.tc : Thread Cert.LruConvIdeal.nD Cert.LruConvIdeal.τ).loc Cert.LruConvIdeal.main_arg4) = m ((c.tc : Thread Cert.LruConvIdeal.nD Cert.LruConvIdeal.τ).loc Cert.LruConvIdeal.main_arg4))
      ∧ r.2.sem = fun _ => 0)

def quiescent_LruConvRefIdeal [hLruConvRefIdeal : Cert.LruConvRefIdeal.Facts] : Prop :=
  ∀ (m : (ℓ : Loc Cert.LruConvRefIdeal.nD Cert.LruConvRefIdeal.τ Cert.LruConvRefIdeal.sig) → Buf (Elt Ideal) ℓ) (g : Dev Cert.LruConvRefIdeal.nD → PrngReg), Pre_LruConvRefIdeal m →
    θ_run (Cert.LruConvRefIdeal.defs (F := Ideal)) (onTc (τ := Cert.LruConvRefIdeal.τ) (Cert.LruConvRefIdeal.main (F := Ideal))) ⟨m, fun _ => 0, g⟩ (fun r => (∀ c : Dev Cert.LruConvRefIdeal.nD,
      r.2.mem ((c.tc : Thread Cert.LruConvRefIdeal.nD Cert.LruConvRefIdeal.τ).loc Cert.LruConvRefIdeal.main_arg0) = m ((c.tc : Thread Cert.LruConvRefIdeal.nD Cert.LruConvRefIdeal.τ).loc Cert.LruConvRefIdeal.main_arg0)
      ∧ r.2.mem ((c.tc : Thread Cert.LruConvRefIdeal.nD Cert.LruConvRefIdeal.τ).loc Cert.LruConvRefIdeal.main_arg1) = m ((c.tc : Thread Cert.LruConvRefIdeal.nD Cert.LruConvRefIdeal.τ).loc Cert.LruConvRefIdeal.main_arg1)
      ∧ r.2.mem ((c.tc : Thread Cert.LruConvRefIdeal.nD Cert.LruConvRefIdeal.τ).loc Cert.LruConvRefIdeal.main_arg2) = m ((c.tc : Thread Cert.LruConvRefIdeal.nD Cert.LruConvRefIdeal.τ).loc Cert.LruConvRefIdeal.main_arg2)
      ∧ r.2.mem ((c.tc : Thread Cert.LruConvRefIdeal.nD Cert.LruConvRefIdeal.τ).loc Cert.LruConvRefIdeal.main_arg3) = m ((c.tc : Thread Cert.LruConvRefIdeal.nD Cert.LruConvRefIdeal.τ).loc Cert.LruConvRefIdeal.main_arg3)
      ∧ r.2.mem ((c.tc : Thread Cert.LruConvRefIdeal.nD Cert.LruConvRefIdeal.τ).loc Cert.LruConvRefIdeal.main_arg4) = m ((c.tc : Thread Cert.LruConvRefIdeal.nD Cert.LruConvRefIdeal.τ).loc Cert.LruConvRefIdeal.main_arg4))
      ∧ r.2.sem = fun _ => 0)

def quiescent_GdnConv [hGdnConv : Cert.GdnConv.Facts] : Prop :=
  ∀ (m : (ℓ : Loc Cert.GdnConv.nD Cert.GdnConv.τ Cert.GdnConv.sig) → Buf (Elt Bits) ℓ) (g : Dev Cert.GdnConv.nD → PrngReg), Pre_GdnConv m →
    θ_run (Cert.GdnConv.defs (F := Bits)) (onTc (τ := Cert.GdnConv.τ) (Cert.GdnConv.main (F := Bits))) ⟨m, fun _ => 0, g⟩ (fun r => (∀ c : Dev Cert.GdnConv.nD,
      r.2.mem ((c.tc : Thread Cert.GdnConv.nD Cert.GdnConv.τ).loc Cert.GdnConv.main_arg0) = m ((c.tc : Thread Cert.GdnConv.nD Cert.GdnConv.τ).loc Cert.GdnConv.main_arg0)
      ∧ r.2.mem ((c.tc : Thread Cert.GdnConv.nD Cert.GdnConv.τ).loc Cert.GdnConv.main_arg1) = m ((c.tc : Thread Cert.GdnConv.nD Cert.GdnConv.τ).loc Cert.GdnConv.main_arg1)
      ∧ r.2.mem ((c.tc : Thread Cert.GdnConv.nD Cert.GdnConv.τ).loc Cert.GdnConv.main_arg2) = m ((c.tc : Thread Cert.GdnConv.nD Cert.GdnConv.τ).loc Cert.GdnConv.main_arg2)
      ∧ r.2.mem ((c.tc : Thread Cert.GdnConv.nD Cert.GdnConv.τ).loc Cert.GdnConv.main_arg3) = m ((c.tc : Thread Cert.GdnConv.nD Cert.GdnConv.τ).loc Cert.GdnConv.main_arg3))
      ∧ r.2.sem = fun _ => 0)

def quiescent_GdnConvIdeal [hGdnConvIdeal : Cert.GdnConvIdeal.Facts] : Prop :=
  ∀ (m : (ℓ : Loc Cert.GdnConvIdeal.nD Cert.GdnConvIdeal.τ Cert.GdnConvIdeal.sig) → Buf (Elt Ideal) ℓ) (g : Dev Cert.GdnConvIdeal.nD → PrngReg), Pre_GdnConvIdeal m →
    θ_run (Cert.GdnConvIdeal.defs (F := Ideal)) (onTc (τ := Cert.GdnConvIdeal.τ) (Cert.GdnConvIdeal.main (F := Ideal))) ⟨m, fun _ => 0, g⟩ (fun r => (∀ c : Dev Cert.GdnConvIdeal.nD,
      r.2.mem ((c.tc : Thread Cert.GdnConvIdeal.nD Cert.GdnConvIdeal.τ).loc Cert.GdnConvIdeal.main_arg0) = m ((c.tc : Thread Cert.GdnConvIdeal.nD Cert.GdnConvIdeal.τ).loc Cert.GdnConvIdeal.main_arg0)
      ∧ r.2.mem ((c.tc : Thread Cert.GdnConvIdeal.nD Cert.GdnConvIdeal.τ).loc Cert.GdnConvIdeal.main_arg1) = m ((c.tc : Thread Cert.GdnConvIdeal.nD Cert.GdnConvIdeal.τ).loc Cert.GdnConvIdeal.main_arg1)
      ∧ r.2.mem ((c.tc : Thread Cert.GdnConvIdeal.nD Cert.GdnConvIdeal.τ).loc Cert.GdnConvIdeal.main_arg2) = m ((c.tc : Thread Cert.GdnConvIdeal.nD Cert.GdnConvIdeal.τ).loc Cert.GdnConvIdeal.main_arg2)
      ∧ r.2.mem ((c.tc : Thread Cert.GdnConvIdeal.nD Cert.GdnConvIdeal.τ).loc Cert.GdnConvIdeal.main_arg3) = m ((c.tc : Thread Cert.GdnConvIdeal.nD Cert.GdnConvIdeal.τ).loc Cert.GdnConvIdeal.main_arg3))
      ∧ r.2.sem = fun _ => 0)

def quiescent_GdnConvIdeal_pre_pre_gdnconv [hGdnConvIdeal : Cert.GdnConvIdeal.Facts] [hPre_pre_gdnconv : Cert.Pre_pre_gdnconv.Facts] : Prop :=
  ∀ (m : (ℓ : Loc Cert.GdnConvIdeal.nD Cert.GdnConvIdeal.τ Cert.GdnConvIdeal.sig) → Buf (Elt Ideal) ℓ) (g : Dev Cert.GdnConvIdeal.nD → PrngReg), Pre_GdnConvIdeal_pre_gdnconv m →
    θ_run (Cert.GdnConvIdeal.defs (F := Ideal)) (onTc (τ := Cert.GdnConvIdeal.τ) (Cert.GdnConvIdeal.main (F := Ideal))) ⟨m, fun _ => 0, g⟩ (fun r => (∀ c : Dev Cert.GdnConvIdeal.nD,
      r.2.mem ((c.tc : Thread Cert.GdnConvIdeal.nD Cert.GdnConvIdeal.τ).loc Cert.GdnConvIdeal.main_arg0) = m ((c.tc : Thread Cert.GdnConvIdeal.nD Cert.GdnConvIdeal.τ).loc Cert.GdnConvIdeal.main_arg0)
      ∧ r.2.mem ((c.tc : Thread Cert.GdnConvIdeal.nD Cert.GdnConvIdeal.τ).loc Cert.GdnConvIdeal.main_arg1) = m ((c.tc : Thread Cert.GdnConvIdeal.nD Cert.GdnConvIdeal.τ).loc Cert.GdnConvIdeal.main_arg1)
      ∧ r.2.mem ((c.tc : Thread Cert.GdnConvIdeal.nD Cert.GdnConvIdeal.τ).loc Cert.GdnConvIdeal.main_arg2) = m ((c.tc : Thread Cert.GdnConvIdeal.nD Cert.GdnConvIdeal.τ).loc Cert.GdnConvIdeal.main_arg2)
      ∧ r.2.mem ((c.tc : Thread Cert.GdnConvIdeal.nD Cert.GdnConvIdeal.τ).loc Cert.GdnConvIdeal.main_arg3) = m ((c.tc : Thread Cert.GdnConvIdeal.nD Cert.GdnConvIdeal.τ).loc Cert.GdnConvIdeal.main_arg3))
      ∧ r.2.sem = fun _ => 0)

def quiescent_GdnConvRefIdeal [hGdnConvRefIdeal : Cert.GdnConvRefIdeal.Facts] : Prop :=
  ∀ (m : (ℓ : Loc Cert.GdnConvRefIdeal.nD Cert.GdnConvRefIdeal.τ Cert.GdnConvRefIdeal.sig) → Buf (Elt Ideal) ℓ) (g : Dev Cert.GdnConvRefIdeal.nD → PrngReg), Pre_GdnConvRefIdeal m →
    θ_run (Cert.GdnConvRefIdeal.defs (F := Ideal)) (onTc (τ := Cert.GdnConvRefIdeal.τ) (Cert.GdnConvRefIdeal.main (F := Ideal))) ⟨m, fun _ => 0, g⟩ (fun r => (∀ c : Dev Cert.GdnConvRefIdeal.nD,
      r.2.mem ((c.tc : Thread Cert.GdnConvRefIdeal.nD Cert.GdnConvRefIdeal.τ).loc Cert.GdnConvRefIdeal.main_arg0) = m ((c.tc : Thread Cert.GdnConvRefIdeal.nD Cert.GdnConvRefIdeal.τ).loc Cert.GdnConvRefIdeal.main_arg0)
      ∧ r.2.mem ((c.tc : Thread Cert.GdnConvRefIdeal.nD Cert.GdnConvRefIdeal.τ).loc Cert.GdnConvRefIdeal.main_arg1) = m ((c.tc : Thread Cert.GdnConvRefIdeal.nD Cert.GdnConvRefIdeal.τ).loc Cert.GdnConvRefIdeal.main_arg1)
      ∧ r.2.mem ((c.tc : Thread Cert.GdnConvRefIdeal.nD Cert.GdnConvRefIdeal.τ).loc Cert.GdnConvRefIdeal.main_arg2) = m ((c.tc : Thread Cert.GdnConvRefIdeal.nD Cert.GdnConvRefIdeal.τ).loc Cert.GdnConvRefIdeal.main_arg2)
      ∧ r.2.mem ((c.tc : Thread Cert.GdnConvRefIdeal.nD Cert.GdnConvRefIdeal.τ).loc Cert.GdnConvRefIdeal.main_arg3) = m ((c.tc : Thread Cert.GdnConvRefIdeal.nD Cert.GdnConvRefIdeal.τ).loc Cert.GdnConvRefIdeal.main_arg3))
      ∧ r.2.sem = fun _ => 0)

def quiescent_GdnConvRefIdeal_pre_pre_gdnconv [hGdnConvRefIdeal : Cert.GdnConvRefIdeal.Facts] [hPre_pre_gdnconv : Cert.Pre_pre_gdnconv.Facts] : Prop :=
  ∀ (m : (ℓ : Loc Cert.GdnConvRefIdeal.nD Cert.GdnConvRefIdeal.τ Cert.GdnConvRefIdeal.sig) → Buf (Elt Ideal) ℓ) (g : Dev Cert.GdnConvRefIdeal.nD → PrngReg), Pre_GdnConvRefIdeal_pre_gdnconv m →
    θ_run (Cert.GdnConvRefIdeal.defs (F := Ideal)) (onTc (τ := Cert.GdnConvRefIdeal.τ) (Cert.GdnConvRefIdeal.main (F := Ideal))) ⟨m, fun _ => 0, g⟩ (fun r => (∀ c : Dev Cert.GdnConvRefIdeal.nD,
      r.2.mem ((c.tc : Thread Cert.GdnConvRefIdeal.nD Cert.GdnConvRefIdeal.τ).loc Cert.GdnConvRefIdeal.main_arg0) = m ((c.tc : Thread Cert.GdnConvRefIdeal.nD Cert.GdnConvRefIdeal.τ).loc Cert.GdnConvRefIdeal.main_arg0)
      ∧ r.2.mem ((c.tc : Thread Cert.GdnConvRefIdeal.nD Cert.GdnConvRefIdeal.τ).loc Cert.GdnConvRefIdeal.main_arg1) = m ((c.tc : Thread Cert.GdnConvRefIdeal.nD Cert.GdnConvRefIdeal.τ).loc Cert.GdnConvRefIdeal.main_arg1)
      ∧ r.2.mem ((c.tc : Thread Cert.GdnConvRefIdeal.nD Cert.GdnConvRefIdeal.τ).loc Cert.GdnConvRefIdeal.main_arg2) = m ((c.tc : Thread Cert.GdnConvRefIdeal.nD Cert.GdnConvRefIdeal.τ).loc Cert.GdnConvRefIdeal.main_arg2)
      ∧ r.2.mem ((c.tc : Thread Cert.GdnConvRefIdeal.nD Cert.GdnConvRefIdeal.τ).loc Cert.GdnConvRefIdeal.main_arg3) = m ((c.tc : Thread Cert.GdnConvRefIdeal.nD Cert.GdnConvRefIdeal.τ).loc Cert.GdnConvRefIdeal.main_arg3))
      ∧ r.2.sem = fun _ => 0)

def quiescent_InProd [hInProd : Cert.InProd.Facts] : Prop :=
  ∀ (m : (ℓ : Loc Cert.InProd.nD Cert.InProd.τ Cert.InProd.sig) → Buf (Elt Bits) ℓ) (g : Dev Cert.InProd.nD → PrngReg), Pre_InProd m →
    θ_run (Cert.InProd.defs (F := Bits)) (onTc (τ := Cert.InProd.τ) (Cert.InProd.main (F := Bits))) ⟨m, fun _ => 0, g⟩ (fun r => (∀ c : Dev Cert.InProd.nD,
      r.2.mem ((c.tc : Thread Cert.InProd.nD Cert.InProd.τ).loc Cert.InProd.main_arg0) = m ((c.tc : Thread Cert.InProd.nD Cert.InProd.τ).loc Cert.InProd.main_arg0)
      ∧ r.2.mem ((c.tc : Thread Cert.InProd.nD Cert.InProd.τ).loc Cert.InProd.main_arg1) = m ((c.tc : Thread Cert.InProd.nD Cert.InProd.τ).loc Cert.InProd.main_arg1))
      ∧ r.2.sem = fun _ => 0)

def quiescent_InProdIdeal [hInProdIdeal : Cert.InProdIdeal.Facts] : Prop :=
  ∀ (m : (ℓ : Loc Cert.InProdIdeal.nD Cert.InProdIdeal.τ Cert.InProdIdeal.sig) → Buf (Elt Ideal) ℓ) (g : Dev Cert.InProdIdeal.nD → PrngReg), Pre_InProdIdeal m →
    θ_run (Cert.InProdIdeal.defs (F := Ideal)) (onTc (τ := Cert.InProdIdeal.τ) (Cert.InProdIdeal.main (F := Ideal))) ⟨m, fun _ => 0, g⟩ (fun r => (∀ c : Dev Cert.InProdIdeal.nD,
      r.2.mem ((c.tc : Thread Cert.InProdIdeal.nD Cert.InProdIdeal.τ).loc Cert.InProdIdeal.main_arg0) = m ((c.tc : Thread Cert.InProdIdeal.nD Cert.InProdIdeal.τ).loc Cert.InProdIdeal.main_arg0)
      ∧ r.2.mem ((c.tc : Thread Cert.InProdIdeal.nD Cert.InProdIdeal.τ).loc Cert.InProdIdeal.main_arg1) = m ((c.tc : Thread Cert.InProdIdeal.nD Cert.InProdIdeal.τ).loc Cert.InProdIdeal.main_arg1))
      ∧ r.2.sem = fun _ => 0)

def quiescent_InProdRefIdeal [hInProdRefIdeal : Cert.InProdRefIdeal.Facts] : Prop :=
  ∀ (m : (ℓ : Loc Cert.InProdRefIdeal.nD Cert.InProdRefIdeal.τ Cert.InProdRefIdeal.sig) → Buf (Elt Ideal) ℓ) (g : Dev Cert.InProdRefIdeal.nD → PrngReg), Pre_InProdRefIdeal m →
    θ_run (Cert.InProdRefIdeal.defs (F := Ideal)) (onTc (τ := Cert.InProdRefIdeal.τ) (Cert.InProdRefIdeal.main (F := Ideal))) ⟨m, fun _ => 0, g⟩ (fun r => (∀ c : Dev Cert.InProdRefIdeal.nD,
      r.2.mem ((c.tc : Thread Cert.InProdRefIdeal.nD Cert.InProdRefIdeal.τ).loc Cert.InProdRefIdeal.main_arg0) = m ((c.tc : Thread Cert.InProdRefIdeal.nD Cert.InProdRefIdeal.τ).loc Cert.InProdRefIdeal.main_arg0)
      ∧ r.2.mem ((c.tc : Thread Cert.InProdRefIdeal.nD Cert.InProdRefIdeal.τ).loc Cert.InProdRefIdeal.main_arg1) = m ((c.tc : Thread Cert.InProdRefIdeal.nD Cert.InProdRefIdeal.τ).loc Cert.InProdRefIdeal.main_arg1))
      ∧ r.2.sem = fun _ => 0)

def quiescent_Adamw [hAdamw : Cert.Adamw.Facts] : Prop :=
  ∀ (m : (ℓ : Loc Cert.Adamw.nD Cert.Adamw.τ Cert.Adamw.sig) → Buf (Elt Bits) ℓ) (g : Dev Cert.Adamw.nD → PrngReg), Pre_Adamw m →
    θ_run (Cert.Adamw.defs (F := Bits)) (onTc (τ := Cert.Adamw.τ) (Cert.Adamw.main (F := Bits))) ⟨m, fun _ => 0, g⟩ (fun r => (∀ c : Dev Cert.Adamw.nD,
      r.2.mem ((c.tc : Thread Cert.Adamw.nD Cert.Adamw.τ).loc Cert.Adamw.main_arg0) = m ((c.tc : Thread Cert.Adamw.nD Cert.Adamw.τ).loc Cert.Adamw.main_arg0)
      ∧ r.2.mem ((c.tc : Thread Cert.Adamw.nD Cert.Adamw.τ).loc Cert.Adamw.main_arg1) = m ((c.tc : Thread Cert.Adamw.nD Cert.Adamw.τ).loc Cert.Adamw.main_arg1)
      ∧ r.2.mem ((c.tc : Thread Cert.Adamw.nD Cert.Adamw.τ).loc Cert.Adamw.main_arg2) = m ((c.tc : Thread Cert.Adamw.nD Cert.Adamw.τ).loc Cert.Adamw.main_arg2)
      ∧ r.2.mem ((c.tc : Thread Cert.Adamw.nD Cert.Adamw.τ).loc Cert.Adamw.main_arg3) = m ((c.tc : Thread Cert.Adamw.nD Cert.Adamw.τ).loc Cert.Adamw.main_arg3))
      ∧ r.2.sem = fun _ => 0)

def quiescent_AdamwIdeal [hAdamwIdeal : Cert.AdamwIdeal.Facts] : Prop :=
  ∀ (m : (ℓ : Loc Cert.AdamwIdeal.nD Cert.AdamwIdeal.τ Cert.AdamwIdeal.sig) → Buf (Elt Ideal) ℓ) (g : Dev Cert.AdamwIdeal.nD → PrngReg), Pre_AdamwIdeal m →
    θ_run (Cert.AdamwIdeal.defs (F := Ideal)) (onTc (τ := Cert.AdamwIdeal.τ) (Cert.AdamwIdeal.main (F := Ideal))) ⟨m, fun _ => 0, g⟩ (fun r => (∀ c : Dev Cert.AdamwIdeal.nD,
      r.2.mem ((c.tc : Thread Cert.AdamwIdeal.nD Cert.AdamwIdeal.τ).loc Cert.AdamwIdeal.main_arg0) = m ((c.tc : Thread Cert.AdamwIdeal.nD Cert.AdamwIdeal.τ).loc Cert.AdamwIdeal.main_arg0)
      ∧ r.2.mem ((c.tc : Thread Cert.AdamwIdeal.nD Cert.AdamwIdeal.τ).loc Cert.AdamwIdeal.main_arg1) = m ((c.tc : Thread Cert.AdamwIdeal.nD Cert.AdamwIdeal.τ).loc Cert.AdamwIdeal.main_arg1)
      ∧ r.2.mem ((c.tc : Thread Cert.AdamwIdeal.nD Cert.AdamwIdeal.τ).loc Cert.AdamwIdeal.main_arg2) = m ((c.tc : Thread Cert.AdamwIdeal.nD Cert.AdamwIdeal.τ).loc Cert.AdamwIdeal.main_arg2)
      ∧ r.2.mem ((c.tc : Thread Cert.AdamwIdeal.nD Cert.AdamwIdeal.τ).loc Cert.AdamwIdeal.main_arg3) = m ((c.tc : Thread Cert.AdamwIdeal.nD Cert.AdamwIdeal.τ).loc Cert.AdamwIdeal.main_arg3))
      ∧ r.2.sem = fun _ => 0)

def quiescent_AdamwRefIdeal [hAdamwRefIdeal : Cert.AdamwRefIdeal.Facts] : Prop :=
  ∀ (m : (ℓ : Loc Cert.AdamwRefIdeal.nD Cert.AdamwRefIdeal.τ Cert.AdamwRefIdeal.sig) → Buf (Elt Ideal) ℓ) (g : Dev Cert.AdamwRefIdeal.nD → PrngReg), Pre_AdamwRefIdeal m →
    θ_run (Cert.AdamwRefIdeal.defs (F := Ideal)) (onTc (τ := Cert.AdamwRefIdeal.τ) (Cert.AdamwRefIdeal.main (F := Ideal))) ⟨m, fun _ => 0, g⟩ (fun r => (∀ c : Dev Cert.AdamwRefIdeal.nD,
      r.2.mem ((c.tc : Thread Cert.AdamwRefIdeal.nD Cert.AdamwRefIdeal.τ).loc Cert.AdamwRefIdeal.main_arg0) = m ((c.tc : Thread Cert.AdamwRefIdeal.nD Cert.AdamwRefIdeal.τ).loc Cert.AdamwRefIdeal.main_arg0)
      ∧ r.2.mem ((c.tc : Thread Cert.AdamwRefIdeal.nD Cert.AdamwRefIdeal.τ).loc Cert.AdamwRefIdeal.main_arg1) = m ((c.tc : Thread Cert.AdamwRefIdeal.nD Cert.AdamwRefIdeal.τ).loc Cert.AdamwRefIdeal.main_arg1)
      ∧ r.2.mem ((c.tc : Thread Cert.AdamwRefIdeal.nD Cert.AdamwRefIdeal.τ).loc Cert.AdamwRefIdeal.main_arg2) = m ((c.tc : Thread Cert.AdamwRefIdeal.nD Cert.AdamwRefIdeal.τ).loc Cert.AdamwRefIdeal.main_arg2)
      ∧ r.2.mem ((c.tc : Thread Cert.AdamwRefIdeal.nD Cert.AdamwRefIdeal.τ).loc Cert.AdamwRefIdeal.main_arg3) = m ((c.tc : Thread Cert.AdamwRefIdeal.nD Cert.AdamwRefIdeal.τ).loc Cert.AdamwRefIdeal.main_arg3))
      ∧ r.2.sem = fun _ => 0)

def quiescent_LruFwd [hLruFwd : Cert.LruFwd.Facts] : Prop :=
  ∀ (m : (ℓ : Loc Cert.LruFwd.nD Cert.LruFwd.τ Cert.LruFwd.sig) → Buf (Elt Bits) ℓ) (g : Dev Cert.LruFwd.nD → PrngReg), Pre_LruFwd m →
    θ_run (Cert.LruFwd.defs (F := Bits)) (onTc (τ := Cert.LruFwd.τ) (Cert.LruFwd.main (F := Bits))) ⟨m, fun _ => 0, g⟩ (fun r => (∀ c : Dev Cert.LruFwd.nD,
      r.2.mem ((c.tc : Thread Cert.LruFwd.nD Cert.LruFwd.τ).loc Cert.LruFwd.main_arg0) = m ((c.tc : Thread Cert.LruFwd.nD Cert.LruFwd.τ).loc Cert.LruFwd.main_arg0)
      ∧ r.2.mem ((c.tc : Thread Cert.LruFwd.nD Cert.LruFwd.τ).loc Cert.LruFwd.main_arg1) = m ((c.tc : Thread Cert.LruFwd.nD Cert.LruFwd.τ).loc Cert.LruFwd.main_arg1)
      ∧ r.2.mem ((c.tc : Thread Cert.LruFwd.nD Cert.LruFwd.τ).loc Cert.LruFwd.main_arg2) = m ((c.tc : Thread Cert.LruFwd.nD Cert.LruFwd.τ).loc Cert.LruFwd.main_arg2)
      ∧ r.2.mem ((c.tc : Thread Cert.LruFwd.nD Cert.LruFwd.τ).loc Cert.LruFwd.main_arg3) = m ((c.tc : Thread Cert.LruFwd.nD Cert.LruFwd.τ).loc Cert.LruFwd.main_arg3)
      ∧ r.2.mem ((c.tc : Thread Cert.LruFwd.nD Cert.LruFwd.τ).loc Cert.LruFwd.main_arg4) = m ((c.tc : Thread Cert.LruFwd.nD Cert.LruFwd.τ).loc Cert.LruFwd.main_arg4)
      ∧ r.2.mem ((c.tc : Thread Cert.LruFwd.nD Cert.LruFwd.τ).loc Cert.LruFwd.main_arg5) = m ((c.tc : Thread Cert.LruFwd.nD Cert.LruFwd.τ).loc Cert.LruFwd.main_arg5)
      ∧ r.2.mem ((c.tc : Thread Cert.LruFwd.nD Cert.LruFwd.τ).loc Cert.LruFwd.main_arg6) = m ((c.tc : Thread Cert.LruFwd.nD Cert.LruFwd.τ).loc Cert.LruFwd.main_arg6)
      ∧ r.2.mem ((c.tc : Thread Cert.LruFwd.nD Cert.LruFwd.τ).loc Cert.LruFwd.main_arg7) = m ((c.tc : Thread Cert.LruFwd.nD Cert.LruFwd.τ).loc Cert.LruFwd.main_arg7))
      ∧ r.2.sem = fun _ => 0)

def quiescent_LruFwdIdeal [hLruFwdIdeal : Cert.LruFwdIdeal.Facts] : Prop :=
  ∀ (m : (ℓ : Loc Cert.LruFwdIdeal.nD Cert.LruFwdIdeal.τ Cert.LruFwdIdeal.sig) → Buf (Elt Ideal) ℓ) (g : Dev Cert.LruFwdIdeal.nD → PrngReg), Pre_LruFwdIdeal m →
    θ_run (Cert.LruFwdIdeal.defs (F := Ideal)) (onTc (τ := Cert.LruFwdIdeal.τ) (Cert.LruFwdIdeal.main (F := Ideal))) ⟨m, fun _ => 0, g⟩ (fun r => (∀ c : Dev Cert.LruFwdIdeal.nD,
      r.2.mem ((c.tc : Thread Cert.LruFwdIdeal.nD Cert.LruFwdIdeal.τ).loc Cert.LruFwdIdeal.main_arg0) = m ((c.tc : Thread Cert.LruFwdIdeal.nD Cert.LruFwdIdeal.τ).loc Cert.LruFwdIdeal.main_arg0)
      ∧ r.2.mem ((c.tc : Thread Cert.LruFwdIdeal.nD Cert.LruFwdIdeal.τ).loc Cert.LruFwdIdeal.main_arg1) = m ((c.tc : Thread Cert.LruFwdIdeal.nD Cert.LruFwdIdeal.τ).loc Cert.LruFwdIdeal.main_arg1)
      ∧ r.2.mem ((c.tc : Thread Cert.LruFwdIdeal.nD Cert.LruFwdIdeal.τ).loc Cert.LruFwdIdeal.main_arg2) = m ((c.tc : Thread Cert.LruFwdIdeal.nD Cert.LruFwdIdeal.τ).loc Cert.LruFwdIdeal.main_arg2)
      ∧ r.2.mem ((c.tc : Thread Cert.LruFwdIdeal.nD Cert.LruFwdIdeal.τ).loc Cert.LruFwdIdeal.main_arg3) = m ((c.tc : Thread Cert.LruFwdIdeal.nD Cert.LruFwdIdeal.τ).loc Cert.LruFwdIdeal.main_arg3)
      ∧ r.2.mem ((c.tc : Thread Cert.LruFwdIdeal.nD Cert.LruFwdIdeal.τ).loc Cert.LruFwdIdeal.main_arg4) = m ((c.tc : Thread Cert.LruFwdIdeal.nD Cert.LruFwdIdeal.τ).loc Cert.LruFwdIdeal.main_arg4)
      ∧ r.2.mem ((c.tc : Thread Cert.LruFwdIdeal.nD Cert.LruFwdIdeal.τ).loc Cert.LruFwdIdeal.main_arg5) = m ((c.tc : Thread Cert.LruFwdIdeal.nD Cert.LruFwdIdeal.τ).loc Cert.LruFwdIdeal.main_arg5)
      ∧ r.2.mem ((c.tc : Thread Cert.LruFwdIdeal.nD Cert.LruFwdIdeal.τ).loc Cert.LruFwdIdeal.main_arg6) = m ((c.tc : Thread Cert.LruFwdIdeal.nD Cert.LruFwdIdeal.τ).loc Cert.LruFwdIdeal.main_arg6)
      ∧ r.2.mem ((c.tc : Thread Cert.LruFwdIdeal.nD Cert.LruFwdIdeal.τ).loc Cert.LruFwdIdeal.main_arg7) = m ((c.tc : Thread Cert.LruFwdIdeal.nD Cert.LruFwdIdeal.τ).loc Cert.LruFwdIdeal.main_arg7))
      ∧ r.2.sem = fun _ => 0)

def quiescent_LruFwdRefIdeal [hLruFwdRefIdeal : Cert.LruFwdRefIdeal.Facts] : Prop :=
  ∀ (m : (ℓ : Loc Cert.LruFwdRefIdeal.nD Cert.LruFwdRefIdeal.τ Cert.LruFwdRefIdeal.sig) → Buf (Elt Ideal) ℓ) (g : Dev Cert.LruFwdRefIdeal.nD → PrngReg), Pre_LruFwdRefIdeal m →
    θ_run (Cert.LruFwdRefIdeal.defs (F := Ideal)) (onTc (τ := Cert.LruFwdRefIdeal.τ) (Cert.LruFwdRefIdeal.main (F := Ideal))) ⟨m, fun _ => 0, g⟩ (fun r => (∀ c : Dev Cert.LruFwdRefIdeal.nD,
      r.2.mem ((c.tc : Thread Cert.LruFwdRefIdeal.nD Cert.LruFwdRefIdeal.τ).loc Cert.LruFwdRefIdeal.main_arg0) = m ((c.tc : Thread Cert.LruFwdRefIdeal.nD Cert.LruFwdRefIdeal.τ).loc Cert.LruFwdRefIdeal.main_arg0)
      ∧ r.2.mem ((c.tc : Thread Cert.LruFwdRefIdeal.nD Cert.LruFwdRefIdeal.τ).loc Cert.LruFwdRefIdeal.main_arg1) = m ((c.tc : Thread Cert.LruFwdRefIdeal.nD Cert.LruFwdRefIdeal.τ).loc Cert.LruFwdRefIdeal.main_arg1)
      ∧ r.2.mem ((c.tc : Thread Cert.LruFwdRefIdeal.nD Cert.LruFwdRefIdeal.τ).loc Cert.LruFwdRefIdeal.main_arg2) = m ((c.tc : Thread Cert.LruFwdRefIdeal.nD Cert.LruFwdRefIdeal.τ).loc Cert.LruFwdRefIdeal.main_arg2)
      ∧ r.2.mem ((c.tc : Thread Cert.LruFwdRefIdeal.nD Cert.LruFwdRefIdeal.τ).loc Cert.LruFwdRefIdeal.main_arg3) = m ((c.tc : Thread Cert.LruFwdRefIdeal.nD Cert.LruFwdRefIdeal.τ).loc Cert.LruFwdRefIdeal.main_arg3)
      ∧ r.2.mem ((c.tc : Thread Cert.LruFwdRefIdeal.nD Cert.LruFwdRefIdeal.τ).loc Cert.LruFwdRefIdeal.main_arg4) = m ((c.tc : Thread Cert.LruFwdRefIdeal.nD Cert.LruFwdRefIdeal.τ).loc Cert.LruFwdRefIdeal.main_arg4)
      ∧ r.2.mem ((c.tc : Thread Cert.LruFwdRefIdeal.nD Cert.LruFwdRefIdeal.τ).loc Cert.LruFwdRefIdeal.main_arg5) = m ((c.tc : Thread Cert.LruFwdRefIdeal.nD Cert.LruFwdRefIdeal.τ).loc Cert.LruFwdRefIdeal.main_arg5)
      ∧ r.2.mem ((c.tc : Thread Cert.LruFwdRefIdeal.nD Cert.LruFwdRefIdeal.τ).loc Cert.LruFwdRefIdeal.main_arg6) = m ((c.tc : Thread Cert.LruFwdRefIdeal.nD Cert.LruFwdRefIdeal.τ).loc Cert.LruFwdRefIdeal.main_arg6)
      ∧ r.2.mem ((c.tc : Thread Cert.LruFwdRefIdeal.nD Cert.LruFwdRefIdeal.τ).loc Cert.LruFwdRefIdeal.main_arg7) = m ((c.tc : Thread Cert.LruFwdRefIdeal.nD Cert.LruFwdRefIdeal.τ).loc Cert.LruFwdRefIdeal.main_arg7))
      ∧ r.2.sem = fun _ => 0)

def quiescent_MlpDwd [hMlpDwd : Cert.MlpDwd.Facts] : Prop :=
  ∀ (m : (ℓ : Loc Cert.MlpDwd.nD Cert.MlpDwd.τ Cert.MlpDwd.sig) → Buf (Elt Bits) ℓ) (g : Dev Cert.MlpDwd.nD → PrngReg), Pre_MlpDwd m →
    θ_run (Cert.MlpDwd.defs (F := Bits)) (onTc (τ := Cert.MlpDwd.τ) (Cert.MlpDwd.main (F := Bits))) ⟨m, fun _ => 0, g⟩ (fun r => (∀ c : Dev Cert.MlpDwd.nD,
      r.2.mem ((c.tc : Thread Cert.MlpDwd.nD Cert.MlpDwd.τ).loc Cert.MlpDwd.main_arg0) = m ((c.tc : Thread Cert.MlpDwd.nD Cert.MlpDwd.τ).loc Cert.MlpDwd.main_arg0)
      ∧ r.2.mem ((c.tc : Thread Cert.MlpDwd.nD Cert.MlpDwd.τ).loc Cert.MlpDwd.main_arg1) = m ((c.tc : Thread Cert.MlpDwd.nD Cert.MlpDwd.τ).loc Cert.MlpDwd.main_arg1)
      ∧ r.2.mem ((c.tc : Thread Cert.MlpDwd.nD Cert.MlpDwd.τ).loc Cert.MlpDwd.main_arg2) = m ((c.tc : Thread Cert.MlpDwd.nD Cert.MlpDwd.τ).loc Cert.MlpDwd.main_arg2))
      ∧ r.2.sem = fun _ => 0)

def quiescent_MlpDwdIdeal [hMlpDwdIdeal : Cert.MlpDwdIdeal.Facts] : Prop :=
  ∀ (m : (ℓ : Loc Cert.MlpDwdIdeal.nD Cert.MlpDwdIdeal.τ Cert.MlpDwdIdeal.sig) → Buf (Elt Ideal) ℓ) (g : Dev Cert.MlpDwdIdeal.nD → PrngReg), Pre_MlpDwdIdeal m →
    θ_run (Cert.MlpDwdIdeal.defs (F := Ideal)) (onTc (τ := Cert.MlpDwdIdeal.τ) (Cert.MlpDwdIdeal.main (F := Ideal))) ⟨m, fun _ => 0, g⟩ (fun r => (∀ c : Dev Cert.MlpDwdIdeal.nD,
      r.2.mem ((c.tc : Thread Cert.MlpDwdIdeal.nD Cert.MlpDwdIdeal.τ).loc Cert.MlpDwdIdeal.main_arg0) = m ((c.tc : Thread Cert.MlpDwdIdeal.nD Cert.MlpDwdIdeal.τ).loc Cert.MlpDwdIdeal.main_arg0)
      ∧ r.2.mem ((c.tc : Thread Cert.MlpDwdIdeal.nD Cert.MlpDwdIdeal.τ).loc Cert.MlpDwdIdeal.main_arg1) = m ((c.tc : Thread Cert.MlpDwdIdeal.nD Cert.MlpDwdIdeal.τ).loc Cert.MlpDwdIdeal.main_arg1)
      ∧ r.2.mem ((c.tc : Thread Cert.MlpDwdIdeal.nD Cert.MlpDwdIdeal.τ).loc Cert.MlpDwdIdeal.main_arg2) = m ((c.tc : Thread Cert.MlpDwdIdeal.nD Cert.MlpDwdIdeal.τ).loc Cert.MlpDwdIdeal.main_arg2))
      ∧ r.2.sem = fun _ => 0)

def quiescent_MlpDwdRefIdeal [hMlpDwdRefIdeal : Cert.MlpDwdRefIdeal.Facts] : Prop :=
  ∀ (m : (ℓ : Loc Cert.MlpDwdRefIdeal.nD Cert.MlpDwdRefIdeal.τ Cert.MlpDwdRefIdeal.sig) → Buf (Elt Ideal) ℓ) (g : Dev Cert.MlpDwdRefIdeal.nD → PrngReg), Pre_MlpDwdRefIdeal m →
    θ_run (Cert.MlpDwdRefIdeal.defs (F := Ideal)) (onTc (τ := Cert.MlpDwdRefIdeal.τ) (Cert.MlpDwdRefIdeal.main (F := Ideal))) ⟨m, fun _ => 0, g⟩ (fun r => (∀ c : Dev Cert.MlpDwdRefIdeal.nD,
      r.2.mem ((c.tc : Thread Cert.MlpDwdRefIdeal.nD Cert.MlpDwdRefIdeal.τ).loc Cert.MlpDwdRefIdeal.main_arg0) = m ((c.tc : Thread Cert.MlpDwdRefIdeal.nD Cert.MlpDwdRefIdeal.τ).loc Cert.MlpDwdRefIdeal.main_arg0)
      ∧ r.2.mem ((c.tc : Thread Cert.MlpDwdRefIdeal.nD Cert.MlpDwdRefIdeal.τ).loc Cert.MlpDwdRefIdeal.main_arg1) = m ((c.tc : Thread Cert.MlpDwdRefIdeal.nD Cert.MlpDwdRefIdeal.τ).loc Cert.MlpDwdRefIdeal.main_arg1)
      ∧ r.2.mem ((c.tc : Thread Cert.MlpDwdRefIdeal.nD Cert.MlpDwdRefIdeal.τ).loc Cert.MlpDwdRefIdeal.main_arg2) = m ((c.tc : Thread Cert.MlpDwdRefIdeal.nD Cert.MlpDwdRefIdeal.τ).loc Cert.MlpDwdRefIdeal.main_arg2))
      ∧ r.2.sem = fun _ => 0)

def preserves_Dact_DactIdeal : Prop :=
  True

def algebraic_DactIdeal_DactRefIdeal [hDactIdeal : Cert.DactIdeal.Facts] [hDactRefIdeal : Cert.DactRefIdeal.Facts] : Prop :=
  ∀ (m : (ℓ : Loc Cert.DactIdeal.nD Cert.DactIdeal.τ Cert.DactIdeal.sig) → Buf (Elt Ideal) ℓ) (g : Dev Cert.DactIdeal.nD → PrngReg)
    (m' : (ℓ : Loc Cert.DactRefIdeal.nD Cert.DactRefIdeal.τ Cert.DactRefIdeal.sig) → Buf (Elt Ideal) ℓ) (g' : Dev Cert.DactRefIdeal.nD → PrngReg), Pre_DactIdeal m →
    (∀ c : Dev Cert.DactIdeal.nD,
      m' ((c.tc : Thread Cert.DactRefIdeal.nD Cert.DactRefIdeal.τ).loc Cert.DactRefIdeal.main_arg0) = m ((c.tc : Thread Cert.DactIdeal.nD Cert.DactIdeal.τ).loc Cert.DactIdeal.main_arg0)
      ∧ m' ((c.tc : Thread Cert.DactRefIdeal.nD Cert.DactRefIdeal.τ).loc Cert.DactRefIdeal.main_arg1) = m ((c.tc : Thread Cert.DactIdeal.nD Cert.DactIdeal.τ).loc Cert.DactIdeal.main_arg1)
      ∧ m' ((c.tc : Thread Cert.DactRefIdeal.nD Cert.DactRefIdeal.τ).loc Cert.DactRefIdeal.main_arg2) = m ((c.tc : Thread Cert.DactIdeal.nD Cert.DactIdeal.τ).loc Cert.DactIdeal.main_arg2)
      ∧ m' ((c.tc : Thread Cert.DactRefIdeal.nD Cert.DactRefIdeal.τ).loc Cert.DactRefIdeal.main_arg3) = m ((c.tc : Thread Cert.DactIdeal.nD Cert.DactIdeal.τ).loc Cert.DactIdeal.main_arg3)) →
    ∃ (v0 : (c : Dev Cert.DactIdeal.nD) → Buf (Elt Ideal) ((c.tc : Thread Cert.DactIdeal.nD Cert.DactIdeal.τ).loc Cert.DactIdeal.main_v8)),
      θ_run (Cert.DactIdeal.defs (F := Ideal)) (onTc (τ := Cert.DactIdeal.τ) (Cert.DactIdeal.main (F := Ideal))) ⟨m, fun _ => 0, g⟩ (fun r => ∀ c : Dev Cert.DactIdeal.nD,
          r.2.mem ((c.tc : Thread Cert.DactIdeal.nD Cert.DactIdeal.τ).loc Cert.DactIdeal.main_v8) = v0 c
          ∧ r.2.mem ((c.tc : Thread Cert.DactIdeal.nD Cert.DactIdeal.τ).loc Cert.DactIdeal.main_arg0) = m ((c.tc : Thread Cert.DactIdeal.nD Cert.DactIdeal.τ).loc Cert.DactIdeal.main_arg0)
          ∧ r.2.mem ((c.tc : Thread Cert.DactIdeal.nD Cert.DactIdeal.τ).loc Cert.DactIdeal.main_arg1) = m ((c.tc : Thread Cert.DactIdeal.nD Cert.DactIdeal.τ).loc Cert.DactIdeal.main_arg1)
          ∧ r.2.mem ((c.tc : Thread Cert.DactIdeal.nD Cert.DactIdeal.τ).loc Cert.DactIdeal.main_arg2) = m ((c.tc : Thread Cert.DactIdeal.nD Cert.DactIdeal.τ).loc Cert.DactIdeal.main_arg2)
          ∧ r.2.mem ((c.tc : Thread Cert.DactIdeal.nD Cert.DactIdeal.τ).loc Cert.DactIdeal.main_arg3) = m ((c.tc : Thread Cert.DactIdeal.nD Cert.DactIdeal.τ).loc Cert.DactIdeal.main_arg3))
      ∧ θ_run (Cert.DactRefIdeal.defs (F := Ideal)) (onTc (τ := Cert.DactRefIdeal.τ) (Cert.DactRefIdeal.main (F := Ideal))) ⟨m', fun _ => 0, g'⟩ (fun r => ∀ c : Dev Cert.DactRefIdeal.nD,
          r.2.mem ((c.tc : Thread Cert.DactRefIdeal.nD Cert.DactRefIdeal.τ).loc Cert.DactRefIdeal.main_v13) = v0 c
          ∧ r.2.mem ((c.tc : Thread Cert.DactRefIdeal.nD Cert.DactRefIdeal.τ).loc Cert.DactRefIdeal.main_arg0) = m' ((c.tc : Thread Cert.DactRefIdeal.nD Cert.DactRefIdeal.τ).loc Cert.DactRefIdeal.main_arg0)
          ∧ r.2.mem ((c.tc : Thread Cert.DactRefIdeal.nD Cert.DactRefIdeal.τ).loc Cert.DactRefIdeal.main_arg1) = m' ((c.tc : Thread Cert.DactRefIdeal.nD Cert.DactRefIdeal.τ).loc Cert.DactRefIdeal.main_arg1)
          ∧ r.2.mem ((c.tc : Thread Cert.DactRefIdeal.nD Cert.DactRefIdeal.τ).loc Cert.DactRefIdeal.main_arg2) = m' ((c.tc : Thread Cert.DactRefIdeal.nD Cert.DactRefIdeal.τ).loc Cert.DactRefIdeal.main_arg2)
          ∧ r.2.mem ((c.tc : Thread Cert.DactRefIdeal.nD Cert.DactRefIdeal.τ).loc Cert.DactRefIdeal.main_arg3) = m' ((c.tc : Thread Cert.DactRefIdeal.nD Cert.DactRefIdeal.τ).loc Cert.DactRefIdeal.main_arg3))

def preserves_Ret_RetIdeal : Prop :=
  True

def algebraic_RetIdeal_RetRefIdeal_pre_pre_ret [hRetIdeal : Cert.RetIdeal.Facts] [hRetRefIdeal : Cert.RetRefIdeal.Facts] [hPre_pre_ret : Cert.Pre_pre_ret.Facts] : Prop :=
  ∀ (m : (ℓ : Loc Cert.RetIdeal.nD Cert.RetIdeal.τ Cert.RetIdeal.sig) → Buf (Elt Ideal) ℓ) (g : Dev Cert.RetIdeal.nD → PrngReg)
    (m' : (ℓ : Loc Cert.RetRefIdeal.nD Cert.RetRefIdeal.τ Cert.RetRefIdeal.sig) → Buf (Elt Ideal) ℓ) (g' : Dev Cert.RetRefIdeal.nD → PrngReg), Pre_RetIdeal_pre_ret m →
    (∀ c : Dev Cert.RetIdeal.nD,
      m' ((c.tc : Thread Cert.RetRefIdeal.nD Cert.RetRefIdeal.τ).loc Cert.RetRefIdeal.main_arg0) = m ((c.tc : Thread Cert.RetIdeal.nD Cert.RetIdeal.τ).loc Cert.RetIdeal.main_arg0)
      ∧ m' ((c.tc : Thread Cert.RetRefIdeal.nD Cert.RetRefIdeal.τ).loc Cert.RetRefIdeal.main_arg1) = m ((c.tc : Thread Cert.RetIdeal.nD Cert.RetIdeal.τ).loc Cert.RetIdeal.main_arg1)) →
    ∃ (v0 : (c : Dev Cert.RetIdeal.nD) → Buf (Elt Ideal) ((c.tc : Thread Cert.RetIdeal.nD Cert.RetIdeal.τ).loc Cert.RetIdeal.main_v228)),
      θ_run (Cert.RetIdeal.defs (F := Ideal)) (onTc (τ := Cert.RetIdeal.τ) (Cert.RetIdeal.main (F := Ideal))) ⟨m, fun _ => 0, g⟩ (fun r => ∀ c : Dev Cert.RetIdeal.nD,
          r.2.mem ((c.tc : Thread Cert.RetIdeal.nD Cert.RetIdeal.τ).loc Cert.RetIdeal.main_v228) = v0 c
          ∧ r.2.mem ((c.tc : Thread Cert.RetIdeal.nD Cert.RetIdeal.τ).loc Cert.RetIdeal.main_arg0) = m ((c.tc : Thread Cert.RetIdeal.nD Cert.RetIdeal.τ).loc Cert.RetIdeal.main_arg0)
          ∧ r.2.mem ((c.tc : Thread Cert.RetIdeal.nD Cert.RetIdeal.τ).loc Cert.RetIdeal.main_arg1) = m ((c.tc : Thread Cert.RetIdeal.nD Cert.RetIdeal.τ).loc Cert.RetIdeal.main_arg1))
      ∧ θ_run (Cert.RetRefIdeal.defs (F := Ideal)) (onTc (τ := Cert.RetRefIdeal.τ) (Cert.RetRefIdeal.main (F := Ideal))) ⟨m', fun _ => 0, g'⟩ (fun r => ∀ c : Dev Cert.RetRefIdeal.nD,
          r.2.mem ((c.tc : Thread Cert.RetRefIdeal.nD Cert.RetRefIdeal.τ).loc Cert.RetRefIdeal.main_v649) = v0 c
          ∧ r.2.mem ((c.tc : Thread Cert.RetRefIdeal.nD Cert.RetRefIdeal.τ).loc Cert.RetRefIdeal.main_arg0) = m' ((c.tc : Thread Cert.RetRefIdeal.nD Cert.RetRefIdeal.τ).loc Cert.RetRefIdeal.main_arg0)
          ∧ r.2.mem ((c.tc : Thread Cert.RetRefIdeal.nD Cert.RetRefIdeal.τ).loc Cert.RetRefIdeal.main_arg1) = m' ((c.tc : Thread Cert.RetRefIdeal.nD Cert.RetRefIdeal.τ).loc Cert.RetRefIdeal.main_arg1))

def preserves_MlpDh_MlpDhIdeal : Prop :=
  True

def algebraic_MlpDhIdeal_MlpDhRefIdeal [hMlpDhIdeal : Cert.MlpDhIdeal.Facts] [hMlpDhRefIdeal : Cert.MlpDhRefIdeal.Facts] : Prop :=
  ∀ (m : (ℓ : Loc Cert.MlpDhIdeal.nD Cert.MlpDhIdeal.τ Cert.MlpDhIdeal.sig) → Buf (Elt Ideal) ℓ) (g : Dev Cert.MlpDhIdeal.nD → PrngReg)
    (m' : (ℓ : Loc Cert.MlpDhRefIdeal.nD Cert.MlpDhRefIdeal.τ Cert.MlpDhRefIdeal.sig) → Buf (Elt Ideal) ℓ) (g' : Dev Cert.MlpDhRefIdeal.nD → PrngReg), Pre_MlpDhIdeal m →
    (∀ c : Dev Cert.MlpDhIdeal.nD,
      m' ((c.tc : Thread Cert.MlpDhRefIdeal.nD Cert.MlpDhRefIdeal.τ).loc Cert.MlpDhRefIdeal.main_arg0) = m ((c.tc : Thread Cert.MlpDhIdeal.nD Cert.MlpDhIdeal.τ).loc Cert.MlpDhIdeal.main_arg0)
      ∧ m' ((c.tc : Thread Cert.MlpDhRefIdeal.nD Cert.MlpDhRefIdeal.τ).loc Cert.MlpDhRefIdeal.main_arg1) = m ((c.tc : Thread Cert.MlpDhIdeal.nD Cert.MlpDhIdeal.τ).loc Cert.MlpDhIdeal.main_arg1)
      ∧ m' ((c.tc : Thread Cert.MlpDhRefIdeal.nD Cert.MlpDhRefIdeal.τ).loc Cert.MlpDhRefIdeal.main_arg2) = m ((c.tc : Thread Cert.MlpDhIdeal.nD Cert.MlpDhIdeal.τ).loc Cert.MlpDhIdeal.main_arg2)
      ∧ m' ((c.tc : Thread Cert.MlpDhRefIdeal.nD Cert.MlpDhRefIdeal.τ).loc Cert.MlpDhRefIdeal.main_arg3) = m ((c.tc : Thread Cert.MlpDhIdeal.nD Cert.MlpDhIdeal.τ).loc Cert.MlpDhIdeal.main_arg3)
      ∧ m' ((c.tc : Thread Cert.MlpDhRefIdeal.nD Cert.MlpDhRefIdeal.τ).loc Cert.MlpDhRefIdeal.main_arg4) = m ((c.tc : Thread Cert.MlpDhIdeal.nD Cert.MlpDhIdeal.τ).loc Cert.MlpDhIdeal.main_arg4)) →
    ∃ (v0 : (c : Dev Cert.MlpDhIdeal.nD) → Buf (Elt Ideal) ((c.tc : Thread Cert.MlpDhIdeal.nD Cert.MlpDhIdeal.τ).loc Cert.MlpDhIdeal.main_v5_0)) (v1 : (c : Dev Cert.MlpDhIdeal.nD) → Buf (Elt Ideal) ((c.tc : Thread Cert.MlpDhIdeal.nD Cert.MlpDhIdeal.τ).loc Cert.MlpDhIdeal.main_v5_1)) (v2 : (c : Dev Cert.MlpDhIdeal.nD) → Buf (Elt Ideal) ((c.tc : Thread Cert.MlpDhIdeal.nD Cert.MlpDhIdeal.τ).loc Cert.MlpDhIdeal.main_v5_2)),
      θ_run (Cert.MlpDhIdeal.defs (F := Ideal)) (onTc (τ := Cert.MlpDhIdeal.τ) (Cert.MlpDhIdeal.main (F := Ideal))) ⟨m, fun _ => 0, g⟩ (fun r => ∀ c : Dev Cert.MlpDhIdeal.nD,
          r.2.mem ((c.tc : Thread Cert.MlpDhIdeal.nD Cert.MlpDhIdeal.τ).loc Cert.MlpDhIdeal.main_v5_0) = v0 c
          ∧ r.2.mem ((c.tc : Thread Cert.MlpDhIdeal.nD Cert.MlpDhIdeal.τ).loc Cert.MlpDhIdeal.main_v5_1) = v1 c
          ∧ r.2.mem ((c.tc : Thread Cert.MlpDhIdeal.nD Cert.MlpDhIdeal.τ).loc Cert.MlpDhIdeal.main_v5_2) = v2 c
          ∧ r.2.mem ((c.tc : Thread Cert.MlpDhIdeal.nD Cert.MlpDhIdeal.τ).loc Cert.MlpDhIdeal.main_arg0) = m ((c.tc : Thread Cert.MlpDhIdeal.nD Cert.MlpDhIdeal.τ).loc Cert.MlpDhIdeal.main_arg0)
          ∧ r.2.mem ((c.tc : Thread Cert.MlpDhIdeal.nD Cert.MlpDhIdeal.τ).loc Cert.MlpDhIdeal.main_arg1) = m ((c.tc : Thread Cert.MlpDhIdeal.nD Cert.MlpDhIdeal.τ).loc Cert.MlpDhIdeal.main_arg1)
          ∧ r.2.mem ((c.tc : Thread Cert.MlpDhIdeal.nD Cert.MlpDhIdeal.τ).loc Cert.MlpDhIdeal.main_arg2) = m ((c.tc : Thread Cert.MlpDhIdeal.nD Cert.MlpDhIdeal.τ).loc Cert.MlpDhIdeal.main_arg2)
          ∧ r.2.mem ((c.tc : Thread Cert.MlpDhIdeal.nD Cert.MlpDhIdeal.τ).loc Cert.MlpDhIdeal.main_arg3) = m ((c.tc : Thread Cert.MlpDhIdeal.nD Cert.MlpDhIdeal.τ).loc Cert.MlpDhIdeal.main_arg3)
          ∧ r.2.mem ((c.tc : Thread Cert.MlpDhIdeal.nD Cert.MlpDhIdeal.τ).loc Cert.MlpDhIdeal.main_arg4) = m ((c.tc : Thread Cert.MlpDhIdeal.nD Cert.MlpDhIdeal.τ).loc Cert.MlpDhIdeal.main_arg4))
      ∧ θ_run (Cert.MlpDhRefIdeal.defs (F := Ideal)) (onTc (τ := Cert.MlpDhRefIdeal.τ) (Cert.MlpDhRefIdeal.main (F := Ideal))) ⟨m', fun _ => 0, g'⟩ (fun r => ∀ c : Dev Cert.MlpDhRefIdeal.nD,
          r.2.mem ((c.tc : Thread Cert.MlpDhRefIdeal.nD Cert.MlpDhRefIdeal.τ).loc Cert.MlpDhRefIdeal.main_v38) = v0 c
          ∧ r.2.mem ((c.tc : Thread Cert.MlpDhRefIdeal.nD Cert.MlpDhRefIdeal.τ).loc Cert.MlpDhRefIdeal.main_v39) = v1 c
          ∧ r.2.mem ((c.tc : Thread Cert.MlpDhRefIdeal.nD Cert.MlpDhRefIdeal.τ).loc Cert.MlpDhRefIdeal.main_v40) = v2 c
          ∧ r.2.mem ((c.tc : Thread Cert.MlpDhRefIdeal.nD Cert.MlpDhRefIdeal.τ).loc Cert.MlpDhRefIdeal.main_arg0) = m' ((c.tc : Thread Cert.MlpDhRefIdeal.nD Cert.MlpDhRefIdeal.τ).loc Cert.MlpDhRefIdeal.main_arg0)
          ∧ r.2.mem ((c.tc : Thread Cert.MlpDhRefIdeal.nD Cert.MlpDhRefIdeal.τ).loc Cert.MlpDhRefIdeal.main_arg1) = m' ((c.tc : Thread Cert.MlpDhRefIdeal.nD Cert.MlpDhRefIdeal.τ).loc Cert.MlpDhRefIdeal.main_arg1)
          ∧ r.2.mem ((c.tc : Thread Cert.MlpDhRefIdeal.nD Cert.MlpDhRefIdeal.τ).loc Cert.MlpDhRefIdeal.main_arg2) = m' ((c.tc : Thread Cert.MlpDhRefIdeal.nD Cert.MlpDhRefIdeal.τ).loc Cert.MlpDhRefIdeal.main_arg2)
          ∧ r.2.mem ((c.tc : Thread Cert.MlpDhRefIdeal.nD Cert.MlpDhRefIdeal.τ).loc Cert.MlpDhRefIdeal.main_arg3) = m' ((c.tc : Thread Cert.MlpDhRefIdeal.nD Cert.MlpDhRefIdeal.τ).loc Cert.MlpDhRefIdeal.main_arg3)
          ∧ r.2.mem ((c.tc : Thread Cert.MlpDhRefIdeal.nD Cert.MlpDhRefIdeal.τ).loc Cert.MlpDhRefIdeal.main_arg4) = m' ((c.tc : Thread Cert.MlpDhRefIdeal.nD Cert.MlpDhRefIdeal.τ).loc Cert.MlpDhRefIdeal.main_arg4))

def preserves_InEven_InEvenIdeal : Prop :=
  True

def algebraic_InEvenIdeal_InEvenRefIdeal [hInEvenIdeal : Cert.InEvenIdeal.Facts] [hInEvenRefIdeal : Cert.InEvenRefIdeal.Facts] : Prop :=
  ∀ (m : (ℓ : Loc Cert.InEvenIdeal.nD Cert.InEvenIdeal.τ Cert.InEvenIdeal.sig) → Buf (Elt Ideal) ℓ) (g : Dev Cert.InEvenIdeal.nD → PrngReg)
    (m' : (ℓ : Loc Cert.InEvenRefIdeal.nD Cert.InEvenRefIdeal.τ Cert.InEvenRefIdeal.sig) → Buf (Elt Ideal) ℓ) (g' : Dev Cert.InEvenRefIdeal.nD → PrngReg), Pre_InEvenIdeal m →
    (∀ c : Dev Cert.InEvenIdeal.nD,
      m' ((c.tc : Thread Cert.InEvenRefIdeal.nD Cert.InEvenRefIdeal.τ).loc Cert.InEvenRefIdeal.main_arg0) = m ((c.tc : Thread Cert.InEvenIdeal.nD Cert.InEvenIdeal.τ).loc Cert.InEvenIdeal.main_arg0)
      ∧ m' ((c.tc : Thread Cert.InEvenRefIdeal.nD Cert.InEvenRefIdeal.τ).loc Cert.InEvenRefIdeal.main_arg1) = m ((c.tc : Thread Cert.InEvenIdeal.nD Cert.InEvenIdeal.τ).loc Cert.InEvenIdeal.main_arg1)
      ∧ m' ((c.tc : Thread Cert.InEvenRefIdeal.nD Cert.InEvenRefIdeal.τ).loc Cert.InEvenRefIdeal.main_arg2) = m ((c.tc : Thread Cert.InEvenIdeal.nD Cert.InEvenIdeal.τ).loc Cert.InEvenIdeal.main_arg2)
      ∧ m' ((c.tc : Thread Cert.InEvenRefIdeal.nD Cert.InEvenRefIdeal.τ).loc Cert.InEvenRefIdeal.main_arg3) = m ((c.tc : Thread Cert.InEvenIdeal.nD Cert.InEvenIdeal.τ).loc Cert.InEvenIdeal.main_arg3)
      ∧ m' ((c.tc : Thread Cert.InEvenRefIdeal.nD Cert.InEvenRefIdeal.τ).loc Cert.InEvenRefIdeal.main_arg4) = m ((c.tc : Thread Cert.InEvenIdeal.nD Cert.InEvenIdeal.τ).loc Cert.InEvenIdeal.main_arg4)) →
    ∃ (v0 : (c : Dev Cert.InEvenIdeal.nD) → Buf (Elt Ideal) ((c.tc : Thread Cert.InEvenIdeal.nD Cert.InEvenIdeal.τ).loc Cert.InEvenIdeal.main_v5_0)) (v1 : (c : Dev Cert.InEvenIdeal.nD) → Buf (Elt Ideal) ((c.tc : Thread Cert.InEvenIdeal.nD Cert.InEvenIdeal.τ).loc Cert.InEvenIdeal.main_v5_1)) (v2 : (c : Dev Cert.InEvenIdeal.nD) → Buf (Elt Ideal) ((c.tc : Thread Cert.InEvenIdeal.nD Cert.InEvenIdeal.τ).loc Cert.InEvenIdeal.main_v5_2)),
      θ_run (Cert.InEvenIdeal.defs (F := Ideal)) (onTc (τ := Cert.InEvenIdeal.τ) (Cert.InEvenIdeal.main (F := Ideal))) ⟨m, fun _ => 0, g⟩ (fun r => ∀ c : Dev Cert.InEvenIdeal.nD,
          r.2.mem ((c.tc : Thread Cert.InEvenIdeal.nD Cert.InEvenIdeal.τ).loc Cert.InEvenIdeal.main_v5_0) = v0 c
          ∧ r.2.mem ((c.tc : Thread Cert.InEvenIdeal.nD Cert.InEvenIdeal.τ).loc Cert.InEvenIdeal.main_v5_1) = v1 c
          ∧ r.2.mem ((c.tc : Thread Cert.InEvenIdeal.nD Cert.InEvenIdeal.τ).loc Cert.InEvenIdeal.main_v5_2) = v2 c
          ∧ r.2.mem ((c.tc : Thread Cert.InEvenIdeal.nD Cert.InEvenIdeal.τ).loc Cert.InEvenIdeal.main_arg0) = m ((c.tc : Thread Cert.InEvenIdeal.nD Cert.InEvenIdeal.τ).loc Cert.InEvenIdeal.main_arg0)
          ∧ r.2.mem ((c.tc : Thread Cert.InEvenIdeal.nD Cert.InEvenIdeal.τ).loc Cert.InEvenIdeal.main_arg1) = m ((c.tc : Thread Cert.InEvenIdeal.nD Cert.InEvenIdeal.τ).loc Cert.InEvenIdeal.main_arg1)
          ∧ r.2.mem ((c.tc : Thread Cert.InEvenIdeal.nD Cert.InEvenIdeal.τ).loc Cert.InEvenIdeal.main_arg2) = m ((c.tc : Thread Cert.InEvenIdeal.nD Cert.InEvenIdeal.τ).loc Cert.InEvenIdeal.main_arg2)
          ∧ r.2.mem ((c.tc : Thread Cert.InEvenIdeal.nD Cert.InEvenIdeal.τ).loc Cert.InEvenIdeal.main_arg3) = m ((c.tc : Thread Cert.InEvenIdeal.nD Cert.InEvenIdeal.τ).loc Cert.InEvenIdeal.main_arg3)
          ∧ r.2.mem ((c.tc : Thread Cert.InEvenIdeal.nD Cert.InEvenIdeal.τ).loc Cert.InEvenIdeal.main_arg4) = m ((c.tc : Thread Cert.InEvenIdeal.nD Cert.InEvenIdeal.τ).loc Cert.InEvenIdeal.main_arg4))
      ∧ θ_run (Cert.InEvenRefIdeal.defs (F := Ideal)) (onTc (τ := Cert.InEvenRefIdeal.τ) (Cert.InEvenRefIdeal.main (F := Ideal))) ⟨m', fun _ => 0, g'⟩ (fun r => ∀ c : Dev Cert.InEvenRefIdeal.nD,
          r.2.mem ((c.tc : Thread Cert.InEvenRefIdeal.nD Cert.InEvenRefIdeal.τ).loc Cert.InEvenRefIdeal.main_v38) = v0 c
          ∧ r.2.mem ((c.tc : Thread Cert.InEvenRefIdeal.nD Cert.InEvenRefIdeal.τ).loc Cert.InEvenRefIdeal.main_v39) = v1 c
          ∧ r.2.mem ((c.tc : Thread Cert.InEvenRefIdeal.nD Cert.InEvenRefIdeal.τ).loc Cert.InEvenRefIdeal.main_v40) = v2 c
          ∧ r.2.mem ((c.tc : Thread Cert.InEvenRefIdeal.nD Cert.InEvenRefIdeal.τ).loc Cert.InEvenRefIdeal.main_arg0) = m' ((c.tc : Thread Cert.InEvenRefIdeal.nD Cert.InEvenRefIdeal.τ).loc Cert.InEvenRefIdeal.main_arg0)
          ∧ r.2.mem ((c.tc : Thread Cert.InEvenRefIdeal.nD Cert.InEvenRefIdeal.τ).loc Cert.InEvenRefIdeal.main_arg1) = m' ((c.tc : Thread Cert.InEvenRefIdeal.nD Cert.InEvenRefIdeal.τ).loc Cert.InEvenRefIdeal.main_arg1)
          ∧ r.2.mem ((c.tc : Thread Cert.InEvenRefIdeal.nD Cert.InEvenRefIdeal.τ).loc Cert.InEvenRefIdeal.main_arg2) = m' ((c.tc : Thread Cert.InEvenRefIdeal.nD Cert.InEvenRefIdeal.τ).loc Cert.InEvenRefIdeal.main_arg2)
          ∧ r.2.mem ((c.tc : Thread Cert.InEvenRefIdeal.nD Cert.InEvenRefIdeal.τ).loc Cert.InEvenRefIdeal.main_arg3) = m' ((c.tc : Thread Cert.InEvenRefIdeal.nD Cert.InEvenRefIdeal.τ).loc Cert.InEvenRefIdeal.main_arg3)
          ∧ r.2.mem ((c.tc : Thread Cert.InEvenRefIdeal.nD Cert.InEvenRefIdeal.τ).loc Cert.InEvenRefIdeal.main_arg4) = m' ((c.tc : Thread Cert.InEvenRefIdeal.nD Cert.InEvenRefIdeal.τ).loc Cert.InEvenRefIdeal.main_arg4))

def preserves_InOdd_InOddIdeal : Prop :=
  True

def algebraic_InOddIdeal_InOddRefIdeal [hInOddIdeal : Cert.InOddIdeal.Facts] [hInOddRefIdeal : Cert.InOddRefIdeal.Facts] : Prop :=
  ∀ (m : (ℓ : Loc Cert.InOddIdeal.nD Cert.InOddIdeal.τ Cert.InOddIdeal.sig) → Buf (Elt Ideal) ℓ) (g : Dev Cert.InOddIdeal.nD → PrngReg)
    (m' : (ℓ : Loc Cert.InOddRefIdeal.nD Cert.InOddRefIdeal.τ Cert.InOddRefIdeal.sig) → Buf (Elt Ideal) ℓ) (g' : Dev Cert.InOddRefIdeal.nD → PrngReg), Pre_InOddIdeal m →
    (∀ c : Dev Cert.InOddIdeal.nD,
      m' ((c.tc : Thread Cert.InOddRefIdeal.nD Cert.InOddRefIdeal.τ).loc Cert.InOddRefIdeal.main_arg0) = m ((c.tc : Thread Cert.InOddIdeal.nD Cert.InOddIdeal.τ).loc Cert.InOddIdeal.main_arg0)
      ∧ m' ((c.tc : Thread Cert.InOddRefIdeal.nD Cert.InOddRefIdeal.τ).loc Cert.InOddRefIdeal.main_arg1) = m ((c.tc : Thread Cert.InOddIdeal.nD Cert.InOddIdeal.τ).loc Cert.InOddIdeal.main_arg1)
      ∧ m' ((c.tc : Thread Cert.InOddRefIdeal.nD Cert.InOddRefIdeal.τ).loc Cert.InOddRefIdeal.main_arg2) = m ((c.tc : Thread Cert.InOddIdeal.nD Cert.InOddIdeal.τ).loc Cert.InOddIdeal.main_arg2)
      ∧ m' ((c.tc : Thread Cert.InOddRefIdeal.nD Cert.InOddRefIdeal.τ).loc Cert.InOddRefIdeal.main_arg3) = m ((c.tc : Thread Cert.InOddIdeal.nD Cert.InOddIdeal.τ).loc Cert.InOddIdeal.main_arg3)
      ∧ m' ((c.tc : Thread Cert.InOddRefIdeal.nD Cert.InOddRefIdeal.τ).loc Cert.InOddRefIdeal.main_arg4) = m ((c.tc : Thread Cert.InOddIdeal.nD Cert.InOddIdeal.τ).loc Cert.InOddIdeal.main_arg4)) →
    ∃ (v0 : (c : Dev Cert.InOddIdeal.nD) → Buf (Elt Ideal) ((c.tc : Thread Cert.InOddIdeal.nD Cert.InOddIdeal.τ).loc Cert.InOddIdeal.main_v5_0)) (v1 : (c : Dev Cert.InOddIdeal.nD) → Buf (Elt Ideal) ((c.tc : Thread Cert.InOddIdeal.nD Cert.InOddIdeal.τ).loc Cert.InOddIdeal.main_v5_1)) (v2 : (c : Dev Cert.InOddIdeal.nD) → Buf (Elt Ideal) ((c.tc : Thread Cert.InOddIdeal.nD Cert.InOddIdeal.τ).loc Cert.InOddIdeal.main_v5_2)),
      θ_run (Cert.InOddIdeal.defs (F := Ideal)) (onTc (τ := Cert.InOddIdeal.τ) (Cert.InOddIdeal.main (F := Ideal))) ⟨m, fun _ => 0, g⟩ (fun r => ∀ c : Dev Cert.InOddIdeal.nD,
          r.2.mem ((c.tc : Thread Cert.InOddIdeal.nD Cert.InOddIdeal.τ).loc Cert.InOddIdeal.main_v5_0) = v0 c
          ∧ r.2.mem ((c.tc : Thread Cert.InOddIdeal.nD Cert.InOddIdeal.τ).loc Cert.InOddIdeal.main_v5_1) = v1 c
          ∧ r.2.mem ((c.tc : Thread Cert.InOddIdeal.nD Cert.InOddIdeal.τ).loc Cert.InOddIdeal.main_v5_2) = v2 c
          ∧ r.2.mem ((c.tc : Thread Cert.InOddIdeal.nD Cert.InOddIdeal.τ).loc Cert.InOddIdeal.main_arg0) = m ((c.tc : Thread Cert.InOddIdeal.nD Cert.InOddIdeal.τ).loc Cert.InOddIdeal.main_arg0)
          ∧ r.2.mem ((c.tc : Thread Cert.InOddIdeal.nD Cert.InOddIdeal.τ).loc Cert.InOddIdeal.main_arg1) = m ((c.tc : Thread Cert.InOddIdeal.nD Cert.InOddIdeal.τ).loc Cert.InOddIdeal.main_arg1)
          ∧ r.2.mem ((c.tc : Thread Cert.InOddIdeal.nD Cert.InOddIdeal.τ).loc Cert.InOddIdeal.main_arg2) = m ((c.tc : Thread Cert.InOddIdeal.nD Cert.InOddIdeal.τ).loc Cert.InOddIdeal.main_arg2)
          ∧ r.2.mem ((c.tc : Thread Cert.InOddIdeal.nD Cert.InOddIdeal.τ).loc Cert.InOddIdeal.main_arg3) = m ((c.tc : Thread Cert.InOddIdeal.nD Cert.InOddIdeal.τ).loc Cert.InOddIdeal.main_arg3)
          ∧ r.2.mem ((c.tc : Thread Cert.InOddIdeal.nD Cert.InOddIdeal.τ).loc Cert.InOddIdeal.main_arg4) = m ((c.tc : Thread Cert.InOddIdeal.nD Cert.InOddIdeal.τ).loc Cert.InOddIdeal.main_arg4))
      ∧ θ_run (Cert.InOddRefIdeal.defs (F := Ideal)) (onTc (τ := Cert.InOddRefIdeal.τ) (Cert.InOddRefIdeal.main (F := Ideal))) ⟨m', fun _ => 0, g'⟩ (fun r => ∀ c : Dev Cert.InOddRefIdeal.nD,
          r.2.mem ((c.tc : Thread Cert.InOddRefIdeal.nD Cert.InOddRefIdeal.τ).loc Cert.InOddRefIdeal.main_v38) = v0 c
          ∧ r.2.mem ((c.tc : Thread Cert.InOddRefIdeal.nD Cert.InOddRefIdeal.τ).loc Cert.InOddRefIdeal.main_v39) = v1 c
          ∧ r.2.mem ((c.tc : Thread Cert.InOddRefIdeal.nD Cert.InOddRefIdeal.τ).loc Cert.InOddRefIdeal.main_v40) = v2 c
          ∧ r.2.mem ((c.tc : Thread Cert.InOddRefIdeal.nD Cert.InOddRefIdeal.τ).loc Cert.InOddRefIdeal.main_arg0) = m' ((c.tc : Thread Cert.InOddRefIdeal.nD Cert.InOddRefIdeal.τ).loc Cert.InOddRefIdeal.main_arg0)
          ∧ r.2.mem ((c.tc : Thread Cert.InOddRefIdeal.nD Cert.InOddRefIdeal.τ).loc Cert.InOddRefIdeal.main_arg1) = m' ((c.tc : Thread Cert.InOddRefIdeal.nD Cert.InOddRefIdeal.τ).loc Cert.InOddRefIdeal.main_arg1)
          ∧ r.2.mem ((c.tc : Thread Cert.InOddRefIdeal.nD Cert.InOddRefIdeal.τ).loc Cert.InOddRefIdeal.main_arg2) = m' ((c.tc : Thread Cert.InOddRefIdeal.nD Cert.InOddRefIdeal.τ).loc Cert.InOddRefIdeal.main_arg2)
          ∧ r.2.mem ((c.tc : Thread Cert.InOddRefIdeal.nD Cert.InOddRefIdeal.τ).loc Cert.InOddRefIdeal.main_arg3) = m' ((c.tc : Thread Cert.InOddRefIdeal.nD Cert.InOddRefIdeal.τ).loc Cert.InOddRefIdeal.main_arg3)
          ∧ r.2.mem ((c.tc : Thread Cert.InOddRefIdeal.nD Cert.InOddRefIdeal.τ).loc Cert.InOddRefIdeal.main_arg4) = m' ((c.tc : Thread Cert.InOddRefIdeal.nD Cert.InOddRefIdeal.τ).loc Cert.InOddRefIdeal.main_arg4))

def preserves_Loss_LossIdeal : Prop :=
  True

def algebraic_LossIdeal_LossRefIdeal [hLossIdeal : Cert.LossIdeal.Facts] [hLossRefIdeal : Cert.LossRefIdeal.Facts] : Prop :=
  ∀ (m : (ℓ : Loc Cert.LossIdeal.nD Cert.LossIdeal.τ Cert.LossIdeal.sig) → Buf (Elt Ideal) ℓ) (g : Dev Cert.LossIdeal.nD → PrngReg)
    (m' : (ℓ : Loc Cert.LossRefIdeal.nD Cert.LossRefIdeal.τ Cert.LossRefIdeal.sig) → Buf (Elt Ideal) ℓ) (g' : Dev Cert.LossRefIdeal.nD → PrngReg), Pre_LossIdeal m →
    (∀ c : Dev Cert.LossIdeal.nD,
      m' ((c.tc : Thread Cert.LossRefIdeal.nD Cert.LossRefIdeal.τ).loc Cert.LossRefIdeal.main_arg0) = m ((c.tc : Thread Cert.LossIdeal.nD Cert.LossIdeal.τ).loc Cert.LossIdeal.main_arg0)
      ∧ m' ((c.tc : Thread Cert.LossRefIdeal.nD Cert.LossRefIdeal.τ).loc Cert.LossRefIdeal.main_arg1) = m ((c.tc : Thread Cert.LossIdeal.nD Cert.LossIdeal.τ).loc Cert.LossIdeal.main_arg1)
      ∧ m' ((c.tc : Thread Cert.LossRefIdeal.nD Cert.LossRefIdeal.τ).loc Cert.LossRefIdeal.main_arg2) = m ((c.tc : Thread Cert.LossIdeal.nD Cert.LossIdeal.τ).loc Cert.LossIdeal.main_arg2)
      ∧ m' ((c.tc : Thread Cert.LossRefIdeal.nD Cert.LossRefIdeal.τ).loc Cert.LossRefIdeal.main_arg3) = m ((c.tc : Thread Cert.LossIdeal.nD Cert.LossIdeal.τ).loc Cert.LossIdeal.main_arg3)
      ∧ m' ((c.tc : Thread Cert.LossRefIdeal.nD Cert.LossRefIdeal.τ).loc Cert.LossRefIdeal.main_arg4) = m ((c.tc : Thread Cert.LossIdeal.nD Cert.LossIdeal.τ).loc Cert.LossIdeal.main_arg4)) →
    ∃ (v0 : (c : Dev Cert.LossIdeal.nD) → Buf (Elt Ideal) ((c.tc : Thread Cert.LossIdeal.nD Cert.LossIdeal.τ).loc Cert.LossIdeal.main_v5_0)) (v1 : (c : Dev Cert.LossIdeal.nD) → Buf (Elt Ideal) ((c.tc : Thread Cert.LossIdeal.nD Cert.LossIdeal.τ).loc Cert.LossIdeal.main_v5_1)) (v2 : (c : Dev Cert.LossIdeal.nD) → Buf (Elt Ideal) ((c.tc : Thread Cert.LossIdeal.nD Cert.LossIdeal.τ).loc Cert.LossIdeal.main_v5_2)) (v3 : (c : Dev Cert.LossIdeal.nD) → Buf (Elt Ideal) ((c.tc : Thread Cert.LossIdeal.nD Cert.LossIdeal.τ).loc Cert.LossIdeal.main_v5_3)),
      θ_run (Cert.LossIdeal.defs (F := Ideal)) (onTc (τ := Cert.LossIdeal.τ) (Cert.LossIdeal.main (F := Ideal))) ⟨m, fun _ => 0, g⟩ (fun r => ∀ c : Dev Cert.LossIdeal.nD,
          r.2.mem ((c.tc : Thread Cert.LossIdeal.nD Cert.LossIdeal.τ).loc Cert.LossIdeal.main_v5_0) = v0 c
          ∧ r.2.mem ((c.tc : Thread Cert.LossIdeal.nD Cert.LossIdeal.τ).loc Cert.LossIdeal.main_v5_1) = v1 c
          ∧ r.2.mem ((c.tc : Thread Cert.LossIdeal.nD Cert.LossIdeal.τ).loc Cert.LossIdeal.main_v5_2) = v2 c
          ∧ r.2.mem ((c.tc : Thread Cert.LossIdeal.nD Cert.LossIdeal.τ).loc Cert.LossIdeal.main_v5_3) = v3 c
          ∧ r.2.mem ((c.tc : Thread Cert.LossIdeal.nD Cert.LossIdeal.τ).loc Cert.LossIdeal.main_arg0) = m ((c.tc : Thread Cert.LossIdeal.nD Cert.LossIdeal.τ).loc Cert.LossIdeal.main_arg0)
          ∧ r.2.mem ((c.tc : Thread Cert.LossIdeal.nD Cert.LossIdeal.τ).loc Cert.LossIdeal.main_arg1) = m ((c.tc : Thread Cert.LossIdeal.nD Cert.LossIdeal.τ).loc Cert.LossIdeal.main_arg1)
          ∧ r.2.mem ((c.tc : Thread Cert.LossIdeal.nD Cert.LossIdeal.τ).loc Cert.LossIdeal.main_arg2) = m ((c.tc : Thread Cert.LossIdeal.nD Cert.LossIdeal.τ).loc Cert.LossIdeal.main_arg2)
          ∧ r.2.mem ((c.tc : Thread Cert.LossIdeal.nD Cert.LossIdeal.τ).loc Cert.LossIdeal.main_arg3) = m ((c.tc : Thread Cert.LossIdeal.nD Cert.LossIdeal.τ).loc Cert.LossIdeal.main_arg3)
          ∧ r.2.mem ((c.tc : Thread Cert.LossIdeal.nD Cert.LossIdeal.τ).loc Cert.LossIdeal.main_arg4) = m ((c.tc : Thread Cert.LossIdeal.nD Cert.LossIdeal.τ).loc Cert.LossIdeal.main_arg4))
      ∧ θ_run (Cert.LossRefIdeal.defs (F := Ideal)) (onTc (τ := Cert.LossRefIdeal.τ) (Cert.LossRefIdeal.main (F := Ideal))) ⟨m', fun _ => 0, g'⟩ (fun r => ∀ c : Dev Cert.LossRefIdeal.nD,
          r.2.mem ((c.tc : Thread Cert.LossRefIdeal.nD Cert.LossRefIdeal.τ).loc Cert.LossRefIdeal.main_v55) = v0 c
          ∧ r.2.mem ((c.tc : Thread Cert.LossRefIdeal.nD Cert.LossRefIdeal.τ).loc Cert.LossRefIdeal.main_v54) = v1 c
          ∧ r.2.mem ((c.tc : Thread Cert.LossRefIdeal.nD Cert.LossRefIdeal.τ).loc Cert.LossRefIdeal.main_v56) = v2 c
          ∧ r.2.mem ((c.tc : Thread Cert.LossRefIdeal.nD Cert.LossRefIdeal.τ).loc Cert.LossRefIdeal.main_v57) = v3 c
          ∧ r.2.mem ((c.tc : Thread Cert.LossRefIdeal.nD Cert.LossRefIdeal.τ).loc Cert.LossRefIdeal.main_arg0) = m' ((c.tc : Thread Cert.LossRefIdeal.nD Cert.LossRefIdeal.τ).loc Cert.LossRefIdeal.main_arg0)
          ∧ r.2.mem ((c.tc : Thread Cert.LossRefIdeal.nD Cert.LossRefIdeal.τ).loc Cert.LossRefIdeal.main_arg1) = m' ((c.tc : Thread Cert.LossRefIdeal.nD Cert.LossRefIdeal.τ).loc Cert.LossRefIdeal.main_arg1)
          ∧ r.2.mem ((c.tc : Thread Cert.LossRefIdeal.nD Cert.LossRefIdeal.τ).loc Cert.LossRefIdeal.main_arg2) = m' ((c.tc : Thread Cert.LossRefIdeal.nD Cert.LossRefIdeal.τ).loc Cert.LossRefIdeal.main_arg2)
          ∧ r.2.mem ((c.tc : Thread Cert.LossRefIdeal.nD Cert.LossRefIdeal.τ).loc Cert.LossRefIdeal.main_arg3) = m' ((c.tc : Thread Cert.LossRefIdeal.nD Cert.LossRefIdeal.τ).loc Cert.LossRefIdeal.main_arg3)
          ∧ r.2.mem ((c.tc : Thread Cert.LossRefIdeal.nD Cert.LossRefIdeal.τ).loc Cert.LossRefIdeal.main_arg4) = m' ((c.tc : Thread Cert.LossRefIdeal.nD Cert.LossRefIdeal.τ).loc Cert.LossRefIdeal.main_arg4))

def preserves_RetFwd_RetFwdIdeal : Prop :=
  True

def algebraic_RetFwdIdeal_RetFwdRefIdeal [hRetFwdIdeal : Cert.RetFwdIdeal.Facts] [hRetFwdRefIdeal : Cert.RetFwdRefIdeal.Facts] : Prop :=
  ∀ (m : (ℓ : Loc Cert.RetFwdIdeal.nD Cert.RetFwdIdeal.τ Cert.RetFwdIdeal.sig) → Buf (Elt Ideal) ℓ) (g : Dev Cert.RetFwdIdeal.nD → PrngReg)
    (m' : (ℓ : Loc Cert.RetFwdRefIdeal.nD Cert.RetFwdRefIdeal.τ Cert.RetFwdRefIdeal.sig) → Buf (Elt Ideal) ℓ) (g' : Dev Cert.RetFwdRefIdeal.nD → PrngReg), Pre_RetFwdIdeal m →
    (∀ c : Dev Cert.RetFwdIdeal.nD,
      m' ((c.tc : Thread Cert.RetFwdRefIdeal.nD Cert.RetFwdRefIdeal.τ).loc Cert.RetFwdRefIdeal.main_arg0) = m ((c.tc : Thread Cert.RetFwdIdeal.nD Cert.RetFwdIdeal.τ).loc Cert.RetFwdIdeal.main_arg0)) →
    ∃ (v0 : (c : Dev Cert.RetFwdIdeal.nD) → Buf (Elt Ideal) ((c.tc : Thread Cert.RetFwdIdeal.nD Cert.RetFwdIdeal.τ).loc Cert.RetFwdIdeal.main_v72_0)) (v1 : (c : Dev Cert.RetFwdIdeal.nD) → Buf (Elt Ideal) ((c.tc : Thread Cert.RetFwdIdeal.nD Cert.RetFwdIdeal.τ).loc Cert.RetFwdIdeal.main_v72_1)) (v2 : (c : Dev Cert.RetFwdIdeal.nD) → Buf (Elt Ideal) ((c.tc : Thread Cert.RetFwdIdeal.nD Cert.RetFwdIdeal.τ).loc Cert.RetFwdIdeal.main_v72_2)),
      θ_run (Cert.RetFwdIdeal.defs (F := Ideal)) (onTc (τ := Cert.RetFwdIdeal.τ) (Cert.RetFwdIdeal.main (F := Ideal))) ⟨m, fun _ => 0, g⟩ (fun r => ∀ c : Dev Cert.RetFwdIdeal.nD,
          r.2.mem ((c.tc : Thread Cert.RetFwdIdeal.nD Cert.RetFwdIdeal.τ).loc Cert.RetFwdIdeal.main_v72_0) = v0 c
          ∧ r.2.mem ((c.tc : Thread Cert.RetFwdIdeal.nD Cert.RetFwdIdeal.τ).loc Cert.RetFwdIdeal.main_v72_1) = v1 c
          ∧ r.2.mem ((c.tc : Thread Cert.RetFwdIdeal.nD Cert.RetFwdIdeal.τ).loc Cert.RetFwdIdeal.main_v72_2) = v2 c
          ∧ r.2.mem ((c.tc : Thread Cert.RetFwdIdeal.nD Cert.RetFwdIdeal.τ).loc Cert.RetFwdIdeal.main_arg0) = m ((c.tc : Thread Cert.RetFwdIdeal.nD Cert.RetFwdIdeal.τ).loc Cert.RetFwdIdeal.main_arg0))
      ∧ θ_run (Cert.RetFwdRefIdeal.defs (F := Ideal)) (onTc (τ := Cert.RetFwdRefIdeal.τ) (Cert.RetFwdRefIdeal.main (F := Ideal))) ⟨m', fun _ => 0, g'⟩ (fun r => ∀ c : Dev Cert.RetFwdRefIdeal.nD,
          r.2.mem ((c.tc : Thread Cert.RetFwdRefIdeal.nD Cert.RetFwdRefIdeal.τ).loc Cert.RetFwdRefIdeal.main_v385) = v0 c
          ∧ r.2.mem ((c.tc : Thread Cert.RetFwdRefIdeal.nD Cert.RetFwdRefIdeal.τ).loc Cert.RetFwdRefIdeal.main_v386) = v1 c
          ∧ r.2.mem ((c.tc : Thread Cert.RetFwdRefIdeal.nD Cert.RetFwdRefIdeal.τ).loc Cert.RetFwdRefIdeal.main_v387) = v2 c
          ∧ r.2.mem ((c.tc : Thread Cert.RetFwdRefIdeal.nD Cert.RetFwdRefIdeal.τ).loc Cert.RetFwdRefIdeal.main_arg0) = m' ((c.tc : Thread Cert.RetFwdRefIdeal.nD Cert.RetFwdRefIdeal.τ).loc Cert.RetFwdRefIdeal.main_arg0))

def preserves_OutEven_OutEvenIdeal : Prop :=
  True

def algebraic_OutEvenIdeal_OutEvenRefIdeal [hOutEvenIdeal : Cert.OutEvenIdeal.Facts] [hOutEvenRefIdeal : Cert.OutEvenRefIdeal.Facts] : Prop :=
  ∀ (m : (ℓ : Loc Cert.OutEvenIdeal.nD Cert.OutEvenIdeal.τ Cert.OutEvenIdeal.sig) → Buf (Elt Ideal) ℓ) (g : Dev Cert.OutEvenIdeal.nD → PrngReg)
    (m' : (ℓ : Loc Cert.OutEvenRefIdeal.nD Cert.OutEvenRefIdeal.τ Cert.OutEvenRefIdeal.sig) → Buf (Elt Ideal) ℓ) (g' : Dev Cert.OutEvenRefIdeal.nD → PrngReg), Pre_OutEvenIdeal m →
    (∀ c : Dev Cert.OutEvenIdeal.nD,
      m' ((c.tc : Thread Cert.OutEvenRefIdeal.nD Cert.OutEvenRefIdeal.τ).loc Cert.OutEvenRefIdeal.main_arg0) = m ((c.tc : Thread Cert.OutEvenIdeal.nD Cert.OutEvenIdeal.τ).loc Cert.OutEvenIdeal.main_arg0)
      ∧ m' ((c.tc : Thread Cert.OutEvenRefIdeal.nD Cert.OutEvenRefIdeal.τ).loc Cert.OutEvenRefIdeal.main_arg1) = m ((c.tc : Thread Cert.OutEvenIdeal.nD Cert.OutEvenIdeal.τ).loc Cert.OutEvenIdeal.main_arg1)
      ∧ m' ((c.tc : Thread Cert.OutEvenRefIdeal.nD Cert.OutEvenRefIdeal.τ).loc Cert.OutEvenRefIdeal.main_arg2) = m ((c.tc : Thread Cert.OutEvenIdeal.nD Cert.OutEvenIdeal.τ).loc Cert.OutEvenIdeal.main_arg2)
      ∧ m' ((c.tc : Thread Cert.OutEvenRefIdeal.nD Cert.OutEvenRefIdeal.τ).loc Cert.OutEvenRefIdeal.main_arg3) = m ((c.tc : Thread Cert.OutEvenIdeal.nD Cert.OutEvenIdeal.τ).loc Cert.OutEvenIdeal.main_arg3)) →
    ∃ (v0 : (c : Dev Cert.OutEvenIdeal.nD) → Buf (Elt Ideal) ((c.tc : Thread Cert.OutEvenIdeal.nD Cert.OutEvenIdeal.τ).loc Cert.OutEvenIdeal.main_v3_0)) (v1 : (c : Dev Cert.OutEvenIdeal.nD) → Buf (Elt Ideal) ((c.tc : Thread Cert.OutEvenIdeal.nD Cert.OutEvenIdeal.τ).loc Cert.OutEvenIdeal.main_v3_1)),
      θ_run (Cert.OutEvenIdeal.defs (F := Ideal)) (onTc (τ := Cert.OutEvenIdeal.τ) (Cert.OutEvenIdeal.main (F := Ideal))) ⟨m, fun _ => 0, g⟩ (fun r => ∀ c : Dev Cert.OutEvenIdeal.nD,
          r.2.mem ((c.tc : Thread Cert.OutEvenIdeal.nD Cert.OutEvenIdeal.τ).loc Cert.OutEvenIdeal.main_v3_0) = v0 c
          ∧ r.2.mem ((c.tc : Thread Cert.OutEvenIdeal.nD Cert.OutEvenIdeal.τ).loc Cert.OutEvenIdeal.main_v3_1) = v1 c
          ∧ r.2.mem ((c.tc : Thread Cert.OutEvenIdeal.nD Cert.OutEvenIdeal.τ).loc Cert.OutEvenIdeal.main_arg0) = m ((c.tc : Thread Cert.OutEvenIdeal.nD Cert.OutEvenIdeal.τ).loc Cert.OutEvenIdeal.main_arg0)
          ∧ r.2.mem ((c.tc : Thread Cert.OutEvenIdeal.nD Cert.OutEvenIdeal.τ).loc Cert.OutEvenIdeal.main_arg1) = m ((c.tc : Thread Cert.OutEvenIdeal.nD Cert.OutEvenIdeal.τ).loc Cert.OutEvenIdeal.main_arg1)
          ∧ r.2.mem ((c.tc : Thread Cert.OutEvenIdeal.nD Cert.OutEvenIdeal.τ).loc Cert.OutEvenIdeal.main_arg2) = m ((c.tc : Thread Cert.OutEvenIdeal.nD Cert.OutEvenIdeal.τ).loc Cert.OutEvenIdeal.main_arg2)
          ∧ r.2.mem ((c.tc : Thread Cert.OutEvenIdeal.nD Cert.OutEvenIdeal.τ).loc Cert.OutEvenIdeal.main_arg3) = m ((c.tc : Thread Cert.OutEvenIdeal.nD Cert.OutEvenIdeal.τ).loc Cert.OutEvenIdeal.main_arg3))
      ∧ θ_run (Cert.OutEvenRefIdeal.defs (F := Ideal)) (onTc (τ := Cert.OutEvenRefIdeal.τ) (Cert.OutEvenRefIdeal.main (F := Ideal))) ⟨m', fun _ => 0, g'⟩ (fun r => ∀ c : Dev Cert.OutEvenRefIdeal.nD,
          r.2.mem ((c.tc : Thread Cert.OutEvenRefIdeal.nD Cert.OutEvenRefIdeal.τ).loc Cert.OutEvenRefIdeal.main_v1) = v0 c
          ∧ r.2.mem ((c.tc : Thread Cert.OutEvenRefIdeal.nD Cert.OutEvenRefIdeal.τ).loc Cert.OutEvenRefIdeal.main_v15) = v1 c
          ∧ r.2.mem ((c.tc : Thread Cert.OutEvenRefIdeal.nD Cert.OutEvenRefIdeal.τ).loc Cert.OutEvenRefIdeal.main_arg0) = m' ((c.tc : Thread Cert.OutEvenRefIdeal.nD Cert.OutEvenRefIdeal.τ).loc Cert.OutEvenRefIdeal.main_arg0)
          ∧ r.2.mem ((c.tc : Thread Cert.OutEvenRefIdeal.nD Cert.OutEvenRefIdeal.τ).loc Cert.OutEvenRefIdeal.main_arg1) = m' ((c.tc : Thread Cert.OutEvenRefIdeal.nD Cert.OutEvenRefIdeal.τ).loc Cert.OutEvenRefIdeal.main_arg1)
          ∧ r.2.mem ((c.tc : Thread Cert.OutEvenRefIdeal.nD Cert.OutEvenRefIdeal.τ).loc Cert.OutEvenRefIdeal.main_arg2) = m' ((c.tc : Thread Cert.OutEvenRefIdeal.nD Cert.OutEvenRefIdeal.τ).loc Cert.OutEvenRefIdeal.main_arg2)
          ∧ r.2.mem ((c.tc : Thread Cert.OutEvenRefIdeal.nD Cert.OutEvenRefIdeal.τ).loc Cert.OutEvenRefIdeal.main_arg3) = m' ((c.tc : Thread Cert.OutEvenRefIdeal.nD Cert.OutEvenRefIdeal.τ).loc Cert.OutEvenRefIdeal.main_arg3))

def preserves_MlpDown_MlpDownIdeal : Prop :=
  True

def algebraic_MlpDownIdeal_MlpDownRefIdeal [hMlpDownIdeal : Cert.MlpDownIdeal.Facts] [hMlpDownRefIdeal : Cert.MlpDownRefIdeal.Facts] : Prop :=
  ∀ (m : (ℓ : Loc Cert.MlpDownIdeal.nD Cert.MlpDownIdeal.τ Cert.MlpDownIdeal.sig) → Buf (Elt Ideal) ℓ) (g : Dev Cert.MlpDownIdeal.nD → PrngReg)
    (m' : (ℓ : Loc Cert.MlpDownRefIdeal.nD Cert.MlpDownRefIdeal.τ Cert.MlpDownRefIdeal.sig) → Buf (Elt Ideal) ℓ) (g' : Dev Cert.MlpDownRefIdeal.nD → PrngReg), Pre_MlpDownIdeal m →
    (∀ c : Dev Cert.MlpDownIdeal.nD,
      m' ((c.tc : Thread Cert.MlpDownRefIdeal.nD Cert.MlpDownRefIdeal.τ).loc Cert.MlpDownRefIdeal.main_arg0) = m ((c.tc : Thread Cert.MlpDownIdeal.nD Cert.MlpDownIdeal.τ).loc Cert.MlpDownIdeal.main_arg0)
      ∧ m' ((c.tc : Thread Cert.MlpDownRefIdeal.nD Cert.MlpDownRefIdeal.τ).loc Cert.MlpDownRefIdeal.main_arg1) = m ((c.tc : Thread Cert.MlpDownIdeal.nD Cert.MlpDownIdeal.τ).loc Cert.MlpDownIdeal.main_arg1)
      ∧ m' ((c.tc : Thread Cert.MlpDownRefIdeal.nD Cert.MlpDownRefIdeal.τ).loc Cert.MlpDownRefIdeal.main_arg2) = m ((c.tc : Thread Cert.MlpDownIdeal.nD Cert.MlpDownIdeal.τ).loc Cert.MlpDownIdeal.main_arg2)
      ∧ m' ((c.tc : Thread Cert.MlpDownRefIdeal.nD Cert.MlpDownRefIdeal.τ).loc Cert.MlpDownRefIdeal.main_arg3) = m ((c.tc : Thread Cert.MlpDownIdeal.nD Cert.MlpDownIdeal.τ).loc Cert.MlpDownIdeal.main_arg3)
      ∧ m' ((c.tc : Thread Cert.MlpDownRefIdeal.nD Cert.MlpDownRefIdeal.τ).loc Cert.MlpDownRefIdeal.main_arg4) = m ((c.tc : Thread Cert.MlpDownIdeal.nD Cert.MlpDownIdeal.τ).loc Cert.MlpDownIdeal.main_arg4)) →
    ∃ (v0 : (c : Dev Cert.MlpDownIdeal.nD) → Buf (Elt Ideal) ((c.tc : Thread Cert.MlpDownIdeal.nD Cert.MlpDownIdeal.τ).loc Cert.MlpDownIdeal.main_v8_0)) (v1 : (c : Dev Cert.MlpDownIdeal.nD) → Buf (Elt Ideal) ((c.tc : Thread Cert.MlpDownIdeal.nD Cert.MlpDownIdeal.τ).loc Cert.MlpDownIdeal.main_v8_1)),
      θ_run (Cert.MlpDownIdeal.defs (F := Ideal)) (onTc (τ := Cert.MlpDownIdeal.τ) (Cert.MlpDownIdeal.main (F := Ideal))) ⟨m, fun _ => 0, g⟩ (fun r => ∀ c : Dev Cert.MlpDownIdeal.nD,
          r.2.mem ((c.tc : Thread Cert.MlpDownIdeal.nD Cert.MlpDownIdeal.τ).loc Cert.MlpDownIdeal.main_v8_0) = v0 c
          ∧ r.2.mem ((c.tc : Thread Cert.MlpDownIdeal.nD Cert.MlpDownIdeal.τ).loc Cert.MlpDownIdeal.main_v8_1) = v1 c
          ∧ r.2.mem ((c.tc : Thread Cert.MlpDownIdeal.nD Cert.MlpDownIdeal.τ).loc Cert.MlpDownIdeal.main_arg0) = m ((c.tc : Thread Cert.MlpDownIdeal.nD Cert.MlpDownIdeal.τ).loc Cert.MlpDownIdeal.main_arg0)
          ∧ r.2.mem ((c.tc : Thread Cert.MlpDownIdeal.nD Cert.MlpDownIdeal.τ).loc Cert.MlpDownIdeal.main_arg1) = m ((c.tc : Thread Cert.MlpDownIdeal.nD Cert.MlpDownIdeal.τ).loc Cert.MlpDownIdeal.main_arg1)
          ∧ r.2.mem ((c.tc : Thread Cert.MlpDownIdeal.nD Cert.MlpDownIdeal.τ).loc Cert.MlpDownIdeal.main_arg2) = m ((c.tc : Thread Cert.MlpDownIdeal.nD Cert.MlpDownIdeal.τ).loc Cert.MlpDownIdeal.main_arg2)
          ∧ r.2.mem ((c.tc : Thread Cert.MlpDownIdeal.nD Cert.MlpDownIdeal.τ).loc Cert.MlpDownIdeal.main_arg3) = m ((c.tc : Thread Cert.MlpDownIdeal.nD Cert.MlpDownIdeal.τ).loc Cert.MlpDownIdeal.main_arg3)
          ∧ r.2.mem ((c.tc : Thread Cert.MlpDownIdeal.nD Cert.MlpDownIdeal.τ).loc Cert.MlpDownIdeal.main_arg4) = m ((c.tc : Thread Cert.MlpDownIdeal.nD Cert.MlpDownIdeal.τ).loc Cert.MlpDownIdeal.main_arg4))
      ∧ θ_run (Cert.MlpDownRefIdeal.defs (F := Ideal)) (onTc (τ := Cert.MlpDownRefIdeal.τ) (Cert.MlpDownRefIdeal.main (F := Ideal))) ⟨m', fun _ => 0, g'⟩ (fun r => ∀ c : Dev Cert.MlpDownRefIdeal.nD,
          r.2.mem ((c.tc : Thread Cert.MlpDownRefIdeal.nD Cert.MlpDownRefIdeal.τ).loc Cert.MlpDownRefIdeal.main_v4) = v0 c
          ∧ r.2.mem ((c.tc : Thread Cert.MlpDownRefIdeal.nD Cert.MlpDownRefIdeal.τ).loc Cert.MlpDownRefIdeal.main_v18) = v1 c
          ∧ r.2.mem ((c.tc : Thread Cert.MlpDownRefIdeal.nD Cert.MlpDownRefIdeal.τ).loc Cert.MlpDownRefIdeal.main_arg0) = m' ((c.tc : Thread Cert.MlpDownRefIdeal.nD Cert.MlpDownRefIdeal.τ).loc Cert.MlpDownRefIdeal.main_arg0)
          ∧ r.2.mem ((c.tc : Thread Cert.MlpDownRefIdeal.nD Cert.MlpDownRefIdeal.τ).loc Cert.MlpDownRefIdeal.main_arg1) = m' ((c.tc : Thread Cert.MlpDownRefIdeal.nD Cert.MlpDownRefIdeal.τ).loc Cert.MlpDownRefIdeal.main_arg1)
          ∧ r.2.mem ((c.tc : Thread Cert.MlpDownRefIdeal.nD Cert.MlpDownRefIdeal.τ).loc Cert.MlpDownRefIdeal.main_arg2) = m' ((c.tc : Thread Cert.MlpDownRefIdeal.nD Cert.MlpDownRefIdeal.τ).loc Cert.MlpDownRefIdeal.main_arg2)
          ∧ r.2.mem ((c.tc : Thread Cert.MlpDownRefIdeal.nD Cert.MlpDownRefIdeal.τ).loc Cert.MlpDownRefIdeal.main_arg3) = m' ((c.tc : Thread Cert.MlpDownRefIdeal.nD Cert.MlpDownRefIdeal.τ).loc Cert.MlpDownRefIdeal.main_arg3)
          ∧ r.2.mem ((c.tc : Thread Cert.MlpDownRefIdeal.nD Cert.MlpDownRefIdeal.τ).loc Cert.MlpDownRefIdeal.main_arg4) = m' ((c.tc : Thread Cert.MlpDownRefIdeal.nD Cert.MlpDownRefIdeal.τ).loc Cert.MlpDownRefIdeal.main_arg4))

def preserves_MlpUp_MlpUpIdeal : Prop :=
  True

def algebraic_MlpUpIdeal_MlpUpRefIdeal [hMlpUpIdeal : Cert.MlpUpIdeal.Facts] [hMlpUpRefIdeal : Cert.MlpUpRefIdeal.Facts] : Prop :=
  ∀ (m : (ℓ : Loc Cert.MlpUpIdeal.nD Cert.MlpUpIdeal.τ Cert.MlpUpIdeal.sig) → Buf (Elt Ideal) ℓ) (g : Dev Cert.MlpUpIdeal.nD → PrngReg)
    (m' : (ℓ : Loc Cert.MlpUpRefIdeal.nD Cert.MlpUpRefIdeal.τ Cert.MlpUpRefIdeal.sig) → Buf (Elt Ideal) ℓ) (g' : Dev Cert.MlpUpRefIdeal.nD → PrngReg), Pre_MlpUpIdeal m →
    (∀ c : Dev Cert.MlpUpIdeal.nD,
      m' ((c.tc : Thread Cert.MlpUpRefIdeal.nD Cert.MlpUpRefIdeal.τ).loc Cert.MlpUpRefIdeal.main_arg0) = m ((c.tc : Thread Cert.MlpUpIdeal.nD Cert.MlpUpIdeal.τ).loc Cert.MlpUpIdeal.main_arg0)
      ∧ m' ((c.tc : Thread Cert.MlpUpRefIdeal.nD Cert.MlpUpRefIdeal.τ).loc Cert.MlpUpRefIdeal.main_arg1) = m ((c.tc : Thread Cert.MlpUpIdeal.nD Cert.MlpUpIdeal.τ).loc Cert.MlpUpIdeal.main_arg1)) →
    ∃ (v0 : (c : Dev Cert.MlpUpIdeal.nD) → Buf (Elt Ideal) ((c.tc : Thread Cert.MlpUpIdeal.nD Cert.MlpUpIdeal.τ).loc Cert.MlpUpIdeal.main_v4)),
      θ_run (Cert.MlpUpIdeal.defs (F := Ideal)) (onTc (τ := Cert.MlpUpIdeal.τ) (Cert.MlpUpIdeal.main (F := Ideal))) ⟨m, fun _ => 0, g⟩ (fun r => ∀ c : Dev Cert.MlpUpIdeal.nD,
          r.2.mem ((c.tc : Thread Cert.MlpUpIdeal.nD Cert.MlpUpIdeal.τ).loc Cert.MlpUpIdeal.main_v4) = v0 c
          ∧ r.2.mem ((c.tc : Thread Cert.MlpUpIdeal.nD Cert.MlpUpIdeal.τ).loc Cert.MlpUpIdeal.main_arg0) = m ((c.tc : Thread Cert.MlpUpIdeal.nD Cert.MlpUpIdeal.τ).loc Cert.MlpUpIdeal.main_arg0)
          ∧ r.2.mem ((c.tc : Thread Cert.MlpUpIdeal.nD Cert.MlpUpIdeal.τ).loc Cert.MlpUpIdeal.main_arg1) = m ((c.tc : Thread Cert.MlpUpIdeal.nD Cert.MlpUpIdeal.τ).loc Cert.MlpUpIdeal.main_arg1))
      ∧ θ_run (Cert.MlpUpRefIdeal.defs (F := Ideal)) (onTc (τ := Cert.MlpUpRefIdeal.τ) (Cert.MlpUpRefIdeal.main (F := Ideal))) ⟨m', fun _ => 0, g'⟩ (fun r => ∀ c : Dev Cert.MlpUpRefIdeal.nD,
          r.2.mem ((c.tc : Thread Cert.MlpUpRefIdeal.nD Cert.MlpUpRefIdeal.τ).loc Cert.MlpUpRefIdeal.main_v2) = v0 c
          ∧ r.2.mem ((c.tc : Thread Cert.MlpUpRefIdeal.nD Cert.MlpUpRefIdeal.τ).loc Cert.MlpUpRefIdeal.main_arg0) = m' ((c.tc : Thread Cert.MlpUpRefIdeal.nD Cert.MlpUpRefIdeal.τ).loc Cert.MlpUpRefIdeal.main_arg0)
          ∧ r.2.mem ((c.tc : Thread Cert.MlpUpRefIdeal.nD Cert.MlpUpRefIdeal.τ).loc Cert.MlpUpRefIdeal.main_arg1) = m' ((c.tc : Thread Cert.MlpUpRefIdeal.nD Cert.MlpUpRefIdeal.τ).loc Cert.MlpUpRefIdeal.main_arg1))

def preserves_LruConvFwd_LruConvFwdIdeal : Prop :=
  True

def algebraic_LruConvFwdIdeal_LruConvFwdRefIdeal [hLruConvFwdIdeal : Cert.LruConvFwdIdeal.Facts] [hLruConvFwdRefIdeal : Cert.LruConvFwdRefIdeal.Facts] : Prop :=
  ∀ (m : (ℓ : Loc Cert.LruConvFwdIdeal.nD Cert.LruConvFwdIdeal.τ Cert.LruConvFwdIdeal.sig) → Buf (Elt Ideal) ℓ) (g : Dev Cert.LruConvFwdIdeal.nD → PrngReg)
    (m' : (ℓ : Loc Cert.LruConvFwdRefIdeal.nD Cert.LruConvFwdRefIdeal.τ Cert.LruConvFwdRefIdeal.sig) → Buf (Elt Ideal) ℓ) (g' : Dev Cert.LruConvFwdRefIdeal.nD → PrngReg), Pre_LruConvFwdIdeal m →
    (∀ c : Dev Cert.LruConvFwdIdeal.nD,
      m' ((c.tc : Thread Cert.LruConvFwdRefIdeal.nD Cert.LruConvFwdRefIdeal.τ).loc Cert.LruConvFwdRefIdeal.main_arg0) = m ((c.tc : Thread Cert.LruConvFwdIdeal.nD Cert.LruConvFwdIdeal.τ).loc Cert.LruConvFwdIdeal.main_arg0)
      ∧ m' ((c.tc : Thread Cert.LruConvFwdRefIdeal.nD Cert.LruConvFwdRefIdeal.τ).loc Cert.LruConvFwdRefIdeal.main_arg1) = m ((c.tc : Thread Cert.LruConvFwdIdeal.nD Cert.LruConvFwdIdeal.τ).loc Cert.LruConvFwdIdeal.main_arg1)
      ∧ m' ((c.tc : Thread Cert.LruConvFwdRefIdeal.nD Cert.LruConvFwdRefIdeal.τ).loc Cert.LruConvFwdRefIdeal.main_arg2) = m ((c.tc : Thread Cert.LruConvFwdIdeal.nD Cert.LruConvFwdIdeal.τ).loc Cert.LruConvFwdIdeal.main_arg2)) →
    ∃ (v0 : (c : Dev Cert.LruConvFwdIdeal.nD) → Buf (Elt Ideal) ((c.tc : Thread Cert.LruConvFwdIdeal.nD Cert.LruConvFwdIdeal.τ).loc Cert.LruConvFwdIdeal.main_v1)),
      θ_run (Cert.LruConvFwdIdeal.defs (F := Ideal)) (onTc (τ := Cert.LruConvFwdIdeal.τ) (Cert.LruConvFwdIdeal.main (F := Ideal))) ⟨m, fun _ => 0, g⟩ (fun r => ∀ c : Dev Cert.LruConvFwdIdeal.nD,
          r.2.mem ((c.tc : Thread Cert.LruConvFwdIdeal.nD Cert.LruConvFwdIdeal.τ).loc Cert.LruConvFwdIdeal.main_v1) = v0 c
          ∧ r.2.mem ((c.tc : Thread Cert.LruConvFwdIdeal.nD Cert.LruConvFwdIdeal.τ).loc Cert.LruConvFwdIdeal.main_arg0) = m ((c.tc : Thread Cert.LruConvFwdIdeal.nD Cert.LruConvFwdIdeal.τ).loc Cert.LruConvFwdIdeal.main_arg0)
          ∧ r.2.mem ((c.tc : Thread Cert.LruConvFwdIdeal.nD Cert.LruConvFwdIdeal.τ).loc Cert.LruConvFwdIdeal.main_arg1) = m ((c.tc : Thread Cert.LruConvFwdIdeal.nD Cert.LruConvFwdIdeal.τ).loc Cert.LruConvFwdIdeal.main_arg1)
          ∧ r.2.mem ((c.tc : Thread Cert.LruConvFwdIdeal.nD Cert.LruConvFwdIdeal.τ).loc Cert.LruConvFwdIdeal.main_arg2) = m ((c.tc : Thread Cert.LruConvFwdIdeal.nD Cert.LruConvFwdIdeal.τ).loc Cert.LruConvFwdIdeal.main_arg2))
      ∧ θ_run (Cert.LruConvFwdRefIdeal.defs (F := Ideal)) (onTc (τ := Cert.LruConvFwdRefIdeal.τ) (Cert.LruConvFwdRefIdeal.main (F := Ideal))) ⟨m', fun _ => 0, g'⟩ (fun r => ∀ c : Dev Cert.LruConvFwdRefIdeal.nD,
          r.2.mem ((c.tc : Thread Cert.LruConvFwdRefIdeal.nD Cert.LruConvFwdRefIdeal.τ).loc Cert.LruConvFwdRefIdeal.main_v34) = v0 c
          ∧ r.2.mem ((c.tc : Thread Cert.LruConvFwdRefIdeal.nD Cert.LruConvFwdRefIdeal.τ).loc Cert.LruConvFwdRefIdeal.main_arg0) = m' ((c.tc : Thread Cert.LruConvFwdRefIdeal.nD Cert.LruConvFwdRefIdeal.τ).loc Cert.LruConvFwdRefIdeal.main_arg0)
          ∧ r.2.mem ((c.tc : Thread Cert.LruConvFwdRefIdeal.nD Cert.LruConvFwdRefIdeal.τ).loc Cert.LruConvFwdRefIdeal.main_arg1) = m' ((c.tc : Thread Cert.LruConvFwdRefIdeal.nD Cert.LruConvFwdRefIdeal.τ).loc Cert.LruConvFwdRefIdeal.main_arg1)
          ∧ r.2.mem ((c.tc : Thread Cert.LruConvFwdRefIdeal.nD Cert.LruConvFwdRefIdeal.τ).loc Cert.LruConvFwdRefIdeal.main_arg2) = m' ((c.tc : Thread Cert.LruConvFwdRefIdeal.nD Cert.LruConvFwdRefIdeal.τ).loc Cert.LruConvFwdRefIdeal.main_arg2))

def preserves_GdnConvFwd_GdnConvFwdIdeal : Prop :=
  True

def algebraic_GdnConvFwdIdeal_GdnConvFwdRefIdeal [hGdnConvFwdIdeal : Cert.GdnConvFwdIdeal.Facts] [hGdnConvFwdRefIdeal : Cert.GdnConvFwdRefIdeal.Facts] : Prop :=
  ∀ (m : (ℓ : Loc Cert.GdnConvFwdIdeal.nD Cert.GdnConvFwdIdeal.τ Cert.GdnConvFwdIdeal.sig) → Buf (Elt Ideal) ℓ) (g : Dev Cert.GdnConvFwdIdeal.nD → PrngReg)
    (m' : (ℓ : Loc Cert.GdnConvFwdRefIdeal.nD Cert.GdnConvFwdRefIdeal.τ Cert.GdnConvFwdRefIdeal.sig) → Buf (Elt Ideal) ℓ) (g' : Dev Cert.GdnConvFwdRefIdeal.nD → PrngReg), Pre_GdnConvFwdIdeal m →
    (∀ c : Dev Cert.GdnConvFwdIdeal.nD,
      m' ((c.tc : Thread Cert.GdnConvFwdRefIdeal.nD Cert.GdnConvFwdRefIdeal.τ).loc Cert.GdnConvFwdRefIdeal.main_arg0) = m ((c.tc : Thread Cert.GdnConvFwdIdeal.nD Cert.GdnConvFwdIdeal.τ).loc Cert.GdnConvFwdIdeal.main_arg0)
      ∧ m' ((c.tc : Thread Cert.GdnConvFwdRefIdeal.nD Cert.GdnConvFwdRefIdeal.τ).loc Cert.GdnConvFwdRefIdeal.main_arg1) = m ((c.tc : Thread Cert.GdnConvFwdIdeal.nD Cert.GdnConvFwdIdeal.τ).loc Cert.GdnConvFwdIdeal.main_arg1)) →
    ∃ (v0 : (c : Dev Cert.GdnConvFwdIdeal.nD) → Buf (Elt Ideal) ((c.tc : Thread Cert.GdnConvFwdIdeal.nD Cert.GdnConvFwdIdeal.τ).loc Cert.GdnConvFwdIdeal.main_v0)),
      θ_run (Cert.GdnConvFwdIdeal.defs (F := Ideal)) (onTc (τ := Cert.GdnConvFwdIdeal.τ) (Cert.GdnConvFwdIdeal.main (F := Ideal))) ⟨m, fun _ => 0, g⟩ (fun r => ∀ c : Dev Cert.GdnConvFwdIdeal.nD,
          r.2.mem ((c.tc : Thread Cert.GdnConvFwdIdeal.nD Cert.GdnConvFwdIdeal.τ).loc Cert.GdnConvFwdIdeal.main_v0) = v0 c
          ∧ r.2.mem ((c.tc : Thread Cert.GdnConvFwdIdeal.nD Cert.GdnConvFwdIdeal.τ).loc Cert.GdnConvFwdIdeal.main_arg0) = m ((c.tc : Thread Cert.GdnConvFwdIdeal.nD Cert.GdnConvFwdIdeal.τ).loc Cert.GdnConvFwdIdeal.main_arg0)
          ∧ r.2.mem ((c.tc : Thread Cert.GdnConvFwdIdeal.nD Cert.GdnConvFwdIdeal.τ).loc Cert.GdnConvFwdIdeal.main_arg1) = m ((c.tc : Thread Cert.GdnConvFwdIdeal.nD Cert.GdnConvFwdIdeal.τ).loc Cert.GdnConvFwdIdeal.main_arg1))
      ∧ θ_run (Cert.GdnConvFwdRefIdeal.defs (F := Ideal)) (onTc (τ := Cert.GdnConvFwdRefIdeal.τ) (Cert.GdnConvFwdRefIdeal.main (F := Ideal))) ⟨m', fun _ => 0, g'⟩ (fun r => ∀ c : Dev Cert.GdnConvFwdRefIdeal.nD,
          r.2.mem ((c.tc : Thread Cert.GdnConvFwdRefIdeal.nD Cert.GdnConvFwdRefIdeal.τ).loc Cert.GdnConvFwdRefIdeal.main_v32) = v0 c
          ∧ r.2.mem ((c.tc : Thread Cert.GdnConvFwdRefIdeal.nD Cert.GdnConvFwdRefIdeal.τ).loc Cert.GdnConvFwdRefIdeal.main_arg0) = m' ((c.tc : Thread Cert.GdnConvFwdRefIdeal.nD Cert.GdnConvFwdRefIdeal.τ).loc Cert.GdnConvFwdRefIdeal.main_arg0)
          ∧ r.2.mem ((c.tc : Thread Cert.GdnConvFwdRefIdeal.nD Cert.GdnConvFwdRefIdeal.τ).loc Cert.GdnConvFwdRefIdeal.main_arg1) = m' ((c.tc : Thread Cert.GdnConvFwdRefIdeal.nD Cert.GdnConvFwdRefIdeal.τ).loc Cert.GdnConvFwdRefIdeal.main_arg1))

def preserves_LruConv_LruConvIdeal : Prop :=
  True

def algebraic_LruConvIdeal_LruConvRefIdeal [hLruConvIdeal : Cert.LruConvIdeal.Facts] [hLruConvRefIdeal : Cert.LruConvRefIdeal.Facts] : Prop :=
  ∀ (m : (ℓ : Loc Cert.LruConvIdeal.nD Cert.LruConvIdeal.τ Cert.LruConvIdeal.sig) → Buf (Elt Ideal) ℓ) (g : Dev Cert.LruConvIdeal.nD → PrngReg)
    (m' : (ℓ : Loc Cert.LruConvRefIdeal.nD Cert.LruConvRefIdeal.τ Cert.LruConvRefIdeal.sig) → Buf (Elt Ideal) ℓ) (g' : Dev Cert.LruConvRefIdeal.nD → PrngReg), Pre_LruConvIdeal m →
    (∀ c : Dev Cert.LruConvIdeal.nD,
      m' ((c.tc : Thread Cert.LruConvRefIdeal.nD Cert.LruConvRefIdeal.τ).loc Cert.LruConvRefIdeal.main_arg0) = m ((c.tc : Thread Cert.LruConvIdeal.nD Cert.LruConvIdeal.τ).loc Cert.LruConvIdeal.main_arg0)
      ∧ m' ((c.tc : Thread Cert.LruConvRefIdeal.nD Cert.LruConvRefIdeal.τ).loc Cert.LruConvRefIdeal.main_arg1) = m ((c.tc : Thread Cert.LruConvIdeal.nD Cert.LruConvIdeal.τ).loc Cert.LruConvIdeal.main_arg1)
      ∧ m' ((c.tc : Thread Cert.LruConvRefIdeal.nD Cert.LruConvRefIdeal.τ).loc Cert.LruConvRefIdeal.main_arg2) = m ((c.tc : Thread Cert.LruConvIdeal.nD Cert.LruConvIdeal.τ).loc Cert.LruConvIdeal.main_arg2)
      ∧ m' ((c.tc : Thread Cert.LruConvRefIdeal.nD Cert.LruConvRefIdeal.τ).loc Cert.LruConvRefIdeal.main_arg3) = m ((c.tc : Thread Cert.LruConvIdeal.nD Cert.LruConvIdeal.τ).loc Cert.LruConvIdeal.main_arg3)
      ∧ m' ((c.tc : Thread Cert.LruConvRefIdeal.nD Cert.LruConvRefIdeal.τ).loc Cert.LruConvRefIdeal.main_arg4) = m ((c.tc : Thread Cert.LruConvIdeal.nD Cert.LruConvIdeal.τ).loc Cert.LruConvIdeal.main_arg4)) →
    ∃ (v0 : (c : Dev Cert.LruConvIdeal.nD) → Buf (Elt Ideal) ((c.tc : Thread Cert.LruConvIdeal.nD Cert.LruConvIdeal.τ).loc Cert.LruConvIdeal.main_v2_0)) (v1 : (c : Dev Cert.LruConvIdeal.nD) → Buf (Elt Ideal) ((c.tc : Thread Cert.LruConvIdeal.nD Cert.LruConvIdeal.τ).loc Cert.LruConvIdeal.main_v2_1)) (v2 : (c : Dev Cert.LruConvIdeal.nD) → Buf (Elt Ideal) ((c.tc : Thread Cert.LruConvIdeal.nD Cert.LruConvIdeal.τ).loc Cert.LruConvIdeal.main_v2_2)),
      θ_run (Cert.LruConvIdeal.defs (F := Ideal)) (onTc (τ := Cert.LruConvIdeal.τ) (Cert.LruConvIdeal.main (F := Ideal))) ⟨m, fun _ => 0, g⟩ (fun r => ∀ c : Dev Cert.LruConvIdeal.nD,
          r.2.mem ((c.tc : Thread Cert.LruConvIdeal.nD Cert.LruConvIdeal.τ).loc Cert.LruConvIdeal.main_v2_0) = v0 c
          ∧ r.2.mem ((c.tc : Thread Cert.LruConvIdeal.nD Cert.LruConvIdeal.τ).loc Cert.LruConvIdeal.main_v2_1) = v1 c
          ∧ r.2.mem ((c.tc : Thread Cert.LruConvIdeal.nD Cert.LruConvIdeal.τ).loc Cert.LruConvIdeal.main_v2_2) = v2 c
          ∧ r.2.mem ((c.tc : Thread Cert.LruConvIdeal.nD Cert.LruConvIdeal.τ).loc Cert.LruConvIdeal.main_arg0) = m ((c.tc : Thread Cert.LruConvIdeal.nD Cert.LruConvIdeal.τ).loc Cert.LruConvIdeal.main_arg0)
          ∧ r.2.mem ((c.tc : Thread Cert.LruConvIdeal.nD Cert.LruConvIdeal.τ).loc Cert.LruConvIdeal.main_arg1) = m ((c.tc : Thread Cert.LruConvIdeal.nD Cert.LruConvIdeal.τ).loc Cert.LruConvIdeal.main_arg1)
          ∧ r.2.mem ((c.tc : Thread Cert.LruConvIdeal.nD Cert.LruConvIdeal.τ).loc Cert.LruConvIdeal.main_arg2) = m ((c.tc : Thread Cert.LruConvIdeal.nD Cert.LruConvIdeal.τ).loc Cert.LruConvIdeal.main_arg2)
          ∧ r.2.mem ((c.tc : Thread Cert.LruConvIdeal.nD Cert.LruConvIdeal.τ).loc Cert.LruConvIdeal.main_arg3) = m ((c.tc : Thread Cert.LruConvIdeal.nD Cert.LruConvIdeal.τ).loc Cert.LruConvIdeal.main_arg3)
          ∧ r.2.mem ((c.tc : Thread Cert.LruConvIdeal.nD Cert.LruConvIdeal.τ).loc Cert.LruConvIdeal.main_arg4) = m ((c.tc : Thread Cert.LruConvIdeal.nD Cert.LruConvIdeal.τ).loc Cert.LruConvIdeal.main_arg4))
      ∧ θ_run (Cert.LruConvRefIdeal.defs (F := Ideal)) (onTc (τ := Cert.LruConvRefIdeal.τ) (Cert.LruConvRefIdeal.main (F := Ideal))) ⟨m', fun _ => 0, g'⟩ (fun r => ∀ c : Dev Cert.LruConvRefIdeal.nD,
          r.2.mem ((c.tc : Thread Cert.LruConvRefIdeal.nD Cert.LruConvRefIdeal.τ).loc Cert.LruConvRefIdeal.main_v87) = v0 c
          ∧ r.2.mem ((c.tc : Thread Cert.LruConvRefIdeal.nD Cert.LruConvRefIdeal.τ).loc Cert.LruConvRefIdeal.main_v81) = v1 c
          ∧ r.2.mem ((c.tc : Thread Cert.LruConvRefIdeal.nD Cert.LruConvRefIdeal.τ).loc Cert.LruConvRefIdeal.main_v88) = v2 c
          ∧ r.2.mem ((c.tc : Thread Cert.LruConvRefIdeal.nD Cert.LruConvRefIdeal.τ).loc Cert.LruConvRefIdeal.main_arg0) = m' ((c.tc : Thread Cert.LruConvRefIdeal.nD Cert.LruConvRefIdeal.τ).loc Cert.LruConvRefIdeal.main_arg0)
          ∧ r.2.mem ((c.tc : Thread Cert.LruConvRefIdeal.nD Cert.LruConvRefIdeal.τ).loc Cert.LruConvRefIdeal.main_arg1) = m' ((c.tc : Thread Cert.LruConvRefIdeal.nD Cert.LruConvRefIdeal.τ).loc Cert.LruConvRefIdeal.main_arg1)
          ∧ r.2.mem ((c.tc : Thread Cert.LruConvRefIdeal.nD Cert.LruConvRefIdeal.τ).loc Cert.LruConvRefIdeal.main_arg2) = m' ((c.tc : Thread Cert.LruConvRefIdeal.nD Cert.LruConvRefIdeal.τ).loc Cert.LruConvRefIdeal.main_arg2)
          ∧ r.2.mem ((c.tc : Thread Cert.LruConvRefIdeal.nD Cert.LruConvRefIdeal.τ).loc Cert.LruConvRefIdeal.main_arg3) = m' ((c.tc : Thread Cert.LruConvRefIdeal.nD Cert.LruConvRefIdeal.τ).loc Cert.LruConvRefIdeal.main_arg3)
          ∧ r.2.mem ((c.tc : Thread Cert.LruConvRefIdeal.nD Cert.LruConvRefIdeal.τ).loc Cert.LruConvRefIdeal.main_arg4) = m' ((c.tc : Thread Cert.LruConvRefIdeal.nD Cert.LruConvRefIdeal.τ).loc Cert.LruConvRefIdeal.main_arg4))

def preserves_GdnConv_GdnConvIdeal : Prop :=
  True

def algebraic_GdnConvIdeal_GdnConvRefIdeal_pre_pre_gdnconv [hGdnConvIdeal : Cert.GdnConvIdeal.Facts] [hGdnConvRefIdeal : Cert.GdnConvRefIdeal.Facts] [hPre_pre_gdnconv : Cert.Pre_pre_gdnconv.Facts] : Prop :=
  ∀ (m : (ℓ : Loc Cert.GdnConvIdeal.nD Cert.GdnConvIdeal.τ Cert.GdnConvIdeal.sig) → Buf (Elt Ideal) ℓ) (g : Dev Cert.GdnConvIdeal.nD → PrngReg)
    (m' : (ℓ : Loc Cert.GdnConvRefIdeal.nD Cert.GdnConvRefIdeal.τ Cert.GdnConvRefIdeal.sig) → Buf (Elt Ideal) ℓ) (g' : Dev Cert.GdnConvRefIdeal.nD → PrngReg), Pre_GdnConvIdeal_pre_gdnconv m →
    (∀ c : Dev Cert.GdnConvIdeal.nD,
      m' ((c.tc : Thread Cert.GdnConvRefIdeal.nD Cert.GdnConvRefIdeal.τ).loc Cert.GdnConvRefIdeal.main_arg0) = m ((c.tc : Thread Cert.GdnConvIdeal.nD Cert.GdnConvIdeal.τ).loc Cert.GdnConvIdeal.main_arg0)
      ∧ m' ((c.tc : Thread Cert.GdnConvRefIdeal.nD Cert.GdnConvRefIdeal.τ).loc Cert.GdnConvRefIdeal.main_arg1) = m ((c.tc : Thread Cert.GdnConvIdeal.nD Cert.GdnConvIdeal.τ).loc Cert.GdnConvIdeal.main_arg1)
      ∧ m' ((c.tc : Thread Cert.GdnConvRefIdeal.nD Cert.GdnConvRefIdeal.τ).loc Cert.GdnConvRefIdeal.main_arg2) = m ((c.tc : Thread Cert.GdnConvIdeal.nD Cert.GdnConvIdeal.τ).loc Cert.GdnConvIdeal.main_arg2)
      ∧ m' ((c.tc : Thread Cert.GdnConvRefIdeal.nD Cert.GdnConvRefIdeal.τ).loc Cert.GdnConvRefIdeal.main_arg3) = m ((c.tc : Thread Cert.GdnConvIdeal.nD Cert.GdnConvIdeal.τ).loc Cert.GdnConvIdeal.main_arg3)) →
    ∃ (v0 : (c : Dev Cert.GdnConvIdeal.nD) → Buf (Elt Ideal) ((c.tc : Thread Cert.GdnConvIdeal.nD Cert.GdnConvIdeal.τ).loc Cert.GdnConvIdeal.main_v1_0)) (v1 : (c : Dev Cert.GdnConvIdeal.nD) → Buf (Elt Ideal) ((c.tc : Thread Cert.GdnConvIdeal.nD Cert.GdnConvIdeal.τ).loc Cert.GdnConvIdeal.main_v1_1)),
      θ_run (Cert.GdnConvIdeal.defs (F := Ideal)) (onTc (τ := Cert.GdnConvIdeal.τ) (Cert.GdnConvIdeal.main (F := Ideal))) ⟨m, fun _ => 0, g⟩ (fun r => ∀ c : Dev Cert.GdnConvIdeal.nD,
          r.2.mem ((c.tc : Thread Cert.GdnConvIdeal.nD Cert.GdnConvIdeal.τ).loc Cert.GdnConvIdeal.main_v1_0) = v0 c
          ∧ r.2.mem ((c.tc : Thread Cert.GdnConvIdeal.nD Cert.GdnConvIdeal.τ).loc Cert.GdnConvIdeal.main_v1_1) = v1 c
          ∧ r.2.mem ((c.tc : Thread Cert.GdnConvIdeal.nD Cert.GdnConvIdeal.τ).loc Cert.GdnConvIdeal.main_arg0) = m ((c.tc : Thread Cert.GdnConvIdeal.nD Cert.GdnConvIdeal.τ).loc Cert.GdnConvIdeal.main_arg0)
          ∧ r.2.mem ((c.tc : Thread Cert.GdnConvIdeal.nD Cert.GdnConvIdeal.τ).loc Cert.GdnConvIdeal.main_arg1) = m ((c.tc : Thread Cert.GdnConvIdeal.nD Cert.GdnConvIdeal.τ).loc Cert.GdnConvIdeal.main_arg1)
          ∧ r.2.mem ((c.tc : Thread Cert.GdnConvIdeal.nD Cert.GdnConvIdeal.τ).loc Cert.GdnConvIdeal.main_arg2) = m ((c.tc : Thread Cert.GdnConvIdeal.nD Cert.GdnConvIdeal.τ).loc Cert.GdnConvIdeal.main_arg2)
          ∧ r.2.mem ((c.tc : Thread Cert.GdnConvIdeal.nD Cert.GdnConvIdeal.τ).loc Cert.GdnConvIdeal.main_arg3) = m ((c.tc : Thread Cert.GdnConvIdeal.nD Cert.GdnConvIdeal.τ).loc Cert.GdnConvIdeal.main_arg3))
      ∧ θ_run (Cert.GdnConvRefIdeal.defs (F := Ideal)) (onTc (τ := Cert.GdnConvRefIdeal.τ) (Cert.GdnConvRefIdeal.main (F := Ideal))) ⟨m', fun _ => 0, g'⟩ (fun r => ∀ c : Dev Cert.GdnConvRefIdeal.nD,
          r.2.mem ((c.tc : Thread Cert.GdnConvRefIdeal.nD Cert.GdnConvRefIdeal.τ).loc Cert.GdnConvRefIdeal.main_v81) = v0 c
          ∧ r.2.mem ((c.tc : Thread Cert.GdnConvRefIdeal.nD Cert.GdnConvRefIdeal.τ).loc Cert.GdnConvRefIdeal.main_v76) = v1 c
          ∧ r.2.mem ((c.tc : Thread Cert.GdnConvRefIdeal.nD Cert.GdnConvRefIdeal.τ).loc Cert.GdnConvRefIdeal.main_arg0) = m' ((c.tc : Thread Cert.GdnConvRefIdeal.nD Cert.GdnConvRefIdeal.τ).loc Cert.GdnConvRefIdeal.main_arg0)
          ∧ r.2.mem ((c.tc : Thread Cert.GdnConvRefIdeal.nD Cert.GdnConvRefIdeal.τ).loc Cert.GdnConvRefIdeal.main_arg1) = m' ((c.tc : Thread Cert.GdnConvRefIdeal.nD Cert.GdnConvRefIdeal.τ).loc Cert.GdnConvRefIdeal.main_arg1)
          ∧ r.2.mem ((c.tc : Thread Cert.GdnConvRefIdeal.nD Cert.GdnConvRefIdeal.τ).loc Cert.GdnConvRefIdeal.main_arg2) = m' ((c.tc : Thread Cert.GdnConvRefIdeal.nD Cert.GdnConvRefIdeal.τ).loc Cert.GdnConvRefIdeal.main_arg2)
          ∧ r.2.mem ((c.tc : Thread Cert.GdnConvRefIdeal.nD Cert.GdnConvRefIdeal.τ).loc Cert.GdnConvRefIdeal.main_arg3) = m' ((c.tc : Thread Cert.GdnConvRefIdeal.nD Cert.GdnConvRefIdeal.τ).loc Cert.GdnConvRefIdeal.main_arg3))

def preserves_InProd_InProdIdeal : Prop :=
  True

def algebraic_InProdIdeal_InProdRefIdeal [hInProdIdeal : Cert.InProdIdeal.Facts] [hInProdRefIdeal : Cert.InProdRefIdeal.Facts] : Prop :=
  ∀ (m : (ℓ : Loc Cert.InProdIdeal.nD Cert.InProdIdeal.τ Cert.InProdIdeal.sig) → Buf (Elt Ideal) ℓ) (g : Dev Cert.InProdIdeal.nD → PrngReg)
    (m' : (ℓ : Loc Cert.InProdRefIdeal.nD Cert.InProdRefIdeal.τ Cert.InProdRefIdeal.sig) → Buf (Elt Ideal) ℓ) (g' : Dev Cert.InProdRefIdeal.nD → PrngReg), Pre_InProdIdeal m →
    (∀ c : Dev Cert.InProdIdeal.nD,
      m' ((c.tc : Thread Cert.InProdRefIdeal.nD Cert.InProdRefIdeal.τ).loc Cert.InProdRefIdeal.main_arg0) = m ((c.tc : Thread Cert.InProdIdeal.nD Cert.InProdIdeal.τ).loc Cert.InProdIdeal.main_arg0)
      ∧ m' ((c.tc : Thread Cert.InProdRefIdeal.nD Cert.InProdRefIdeal.τ).loc Cert.InProdRefIdeal.main_arg1) = m ((c.tc : Thread Cert.InProdIdeal.nD Cert.InProdIdeal.τ).loc Cert.InProdIdeal.main_arg1)) →
    ∃ (v0 : (c : Dev Cert.InProdIdeal.nD) → Buf (Elt Ideal) ((c.tc : Thread Cert.InProdIdeal.nD Cert.InProdIdeal.τ).loc Cert.InProdIdeal.main_v3)),
      θ_run (Cert.InProdIdeal.defs (F := Ideal)) (onTc (τ := Cert.InProdIdeal.τ) (Cert.InProdIdeal.main (F := Ideal))) ⟨m, fun _ => 0, g⟩ (fun r => ∀ c : Dev Cert.InProdIdeal.nD,
          r.2.mem ((c.tc : Thread Cert.InProdIdeal.nD Cert.InProdIdeal.τ).loc Cert.InProdIdeal.main_v3) = v0 c
          ∧ r.2.mem ((c.tc : Thread Cert.InProdIdeal.nD Cert.InProdIdeal.τ).loc Cert.InProdIdeal.main_arg0) = m ((c.tc : Thread Cert.InProdIdeal.nD Cert.InProdIdeal.τ).loc Cert.InProdIdeal.main_arg0)
          ∧ r.2.mem ((c.tc : Thread Cert.InProdIdeal.nD Cert.InProdIdeal.τ).loc Cert.InProdIdeal.main_arg1) = m ((c.tc : Thread Cert.InProdIdeal.nD Cert.InProdIdeal.τ).loc Cert.InProdIdeal.main_arg1))
      ∧ θ_run (Cert.InProdRefIdeal.defs (F := Ideal)) (onTc (τ := Cert.InProdRefIdeal.τ) (Cert.InProdRefIdeal.main (F := Ideal))) ⟨m', fun _ => 0, g'⟩ (fun r => ∀ c : Dev Cert.InProdRefIdeal.nD,
          r.2.mem ((c.tc : Thread Cert.InProdRefIdeal.nD Cert.InProdRefIdeal.τ).loc Cert.InProdRefIdeal.main_v2) = v0 c
          ∧ r.2.mem ((c.tc : Thread Cert.InProdRefIdeal.nD Cert.InProdRefIdeal.τ).loc Cert.InProdRefIdeal.main_arg0) = m' ((c.tc : Thread Cert.InProdRefIdeal.nD Cert.InProdRefIdeal.τ).loc Cert.InProdRefIdeal.main_arg0)
          ∧ r.2.mem ((c.tc : Thread Cert.InProdRefIdeal.nD Cert.InProdRefIdeal.τ).loc Cert.InProdRefIdeal.main_arg1) = m' ((c.tc : Thread Cert.InProdRefIdeal.nD Cert.InProdRefIdeal.τ).loc Cert.InProdRefIdeal.main_arg1))

def preserves_Adamw_AdamwIdeal : Prop :=
  True

def algebraic_AdamwIdeal_AdamwRefIdeal [hAdamwIdeal : Cert.AdamwIdeal.Facts] [hAdamwRefIdeal : Cert.AdamwRefIdeal.Facts] : Prop :=
  ∀ (m : (ℓ : Loc Cert.AdamwIdeal.nD Cert.AdamwIdeal.τ Cert.AdamwIdeal.sig) → Buf (Elt Ideal) ℓ) (g : Dev Cert.AdamwIdeal.nD → PrngReg)
    (m' : (ℓ : Loc Cert.AdamwRefIdeal.nD Cert.AdamwRefIdeal.τ Cert.AdamwRefIdeal.sig) → Buf (Elt Ideal) ℓ) (g' : Dev Cert.AdamwRefIdeal.nD → PrngReg), Pre_AdamwIdeal m →
    (∀ c : Dev Cert.AdamwIdeal.nD,
      m' ((c.tc : Thread Cert.AdamwRefIdeal.nD Cert.AdamwRefIdeal.τ).loc Cert.AdamwRefIdeal.main_arg0) = m ((c.tc : Thread Cert.AdamwIdeal.nD Cert.AdamwIdeal.τ).loc Cert.AdamwIdeal.main_arg0)
      ∧ m' ((c.tc : Thread Cert.AdamwRefIdeal.nD Cert.AdamwRefIdeal.τ).loc Cert.AdamwRefIdeal.main_arg1) = m ((c.tc : Thread Cert.AdamwIdeal.nD Cert.AdamwIdeal.τ).loc Cert.AdamwIdeal.main_arg1)
      ∧ m' ((c.tc : Thread Cert.AdamwRefIdeal.nD Cert.AdamwRefIdeal.τ).loc Cert.AdamwRefIdeal.main_arg2) = m ((c.tc : Thread Cert.AdamwIdeal.nD Cert.AdamwIdeal.τ).loc Cert.AdamwIdeal.main_arg2)
      ∧ m' ((c.tc : Thread Cert.AdamwRefIdeal.nD Cert.AdamwRefIdeal.τ).loc Cert.AdamwRefIdeal.main_arg3) = m ((c.tc : Thread Cert.AdamwIdeal.nD Cert.AdamwIdeal.τ).loc Cert.AdamwIdeal.main_arg3)) →
    ∃ (v0 : (c : Dev Cert.AdamwIdeal.nD) → Buf (Elt Ideal) ((c.tc : Thread Cert.AdamwIdeal.nD Cert.AdamwIdeal.τ).loc Cert.AdamwIdeal.main_v1_0)) (v1 : (c : Dev Cert.AdamwIdeal.nD) → Buf (Elt Ideal) ((c.tc : Thread Cert.AdamwIdeal.nD Cert.AdamwIdeal.τ).loc Cert.AdamwIdeal.main_v1_1)) (v2 : (c : Dev Cert.AdamwIdeal.nD) → Buf (Elt Ideal) ((c.tc : Thread Cert.AdamwIdeal.nD Cert.AdamwIdeal.τ).loc Cert.AdamwIdeal.main_v1_2)) (v3 : (c : Dev Cert.AdamwIdeal.nD) → Buf (Elt Ideal) ((c.tc : Thread Cert.AdamwIdeal.nD Cert.AdamwIdeal.τ).loc Cert.AdamwIdeal.main_v1_3)),
      θ_run (Cert.AdamwIdeal.defs (F := Ideal)) (onTc (τ := Cert.AdamwIdeal.τ) (Cert.AdamwIdeal.main (F := Ideal))) ⟨m, fun _ => 0, g⟩ (fun r => ∀ c : Dev Cert.AdamwIdeal.nD,
          r.2.mem ((c.tc : Thread Cert.AdamwIdeal.nD Cert.AdamwIdeal.τ).loc Cert.AdamwIdeal.main_v1_0) = v0 c
          ∧ r.2.mem ((c.tc : Thread Cert.AdamwIdeal.nD Cert.AdamwIdeal.τ).loc Cert.AdamwIdeal.main_v1_1) = v1 c
          ∧ r.2.mem ((c.tc : Thread Cert.AdamwIdeal.nD Cert.AdamwIdeal.τ).loc Cert.AdamwIdeal.main_v1_2) = v2 c
          ∧ r.2.mem ((c.tc : Thread Cert.AdamwIdeal.nD Cert.AdamwIdeal.τ).loc Cert.AdamwIdeal.main_v1_3) = v3 c
          ∧ r.2.mem ((c.tc : Thread Cert.AdamwIdeal.nD Cert.AdamwIdeal.τ).loc Cert.AdamwIdeal.main_arg0) = m ((c.tc : Thread Cert.AdamwIdeal.nD Cert.AdamwIdeal.τ).loc Cert.AdamwIdeal.main_arg0)
          ∧ r.2.mem ((c.tc : Thread Cert.AdamwIdeal.nD Cert.AdamwIdeal.τ).loc Cert.AdamwIdeal.main_arg1) = m ((c.tc : Thread Cert.AdamwIdeal.nD Cert.AdamwIdeal.τ).loc Cert.AdamwIdeal.main_arg1)
          ∧ r.2.mem ((c.tc : Thread Cert.AdamwIdeal.nD Cert.AdamwIdeal.τ).loc Cert.AdamwIdeal.main_arg2) = m ((c.tc : Thread Cert.AdamwIdeal.nD Cert.AdamwIdeal.τ).loc Cert.AdamwIdeal.main_arg2)
          ∧ r.2.mem ((c.tc : Thread Cert.AdamwIdeal.nD Cert.AdamwIdeal.τ).loc Cert.AdamwIdeal.main_arg3) = m ((c.tc : Thread Cert.AdamwIdeal.nD Cert.AdamwIdeal.τ).loc Cert.AdamwIdeal.main_arg3))
      ∧ θ_run (Cert.AdamwRefIdeal.defs (F := Ideal)) (onTc (τ := Cert.AdamwRefIdeal.τ) (Cert.AdamwRefIdeal.main (F := Ideal))) ⟨m', fun _ => 0, g'⟩ (fun r => ∀ c : Dev Cert.AdamwRefIdeal.nD,
          r.2.mem ((c.tc : Thread Cert.AdamwRefIdeal.nD Cert.AdamwRefIdeal.τ).loc Cert.AdamwRefIdeal.main_v1) = v0 c
          ∧ r.2.mem ((c.tc : Thread Cert.AdamwRefIdeal.nD Cert.AdamwRefIdeal.τ).loc Cert.AdamwRefIdeal.main_v25) = v1 c
          ∧ r.2.mem ((c.tc : Thread Cert.AdamwRefIdeal.nD Cert.AdamwRefIdeal.τ).loc Cert.AdamwRefIdeal.main_v6) = v2 c
          ∧ r.2.mem ((c.tc : Thread Cert.AdamwRefIdeal.nD Cert.AdamwRefIdeal.τ).loc Cert.AdamwRefIdeal.main_v12) = v3 c
          ∧ r.2.mem ((c.tc : Thread Cert.AdamwRefIdeal.nD Cert.AdamwRefIdeal.τ).loc Cert.AdamwRefIdeal.main_arg0) = m' ((c.tc : Thread Cert.AdamwRefIdeal.nD Cert.AdamwRefIdeal.τ).loc Cert.AdamwRefIdeal.main_arg0)
          ∧ r.2.mem ((c.tc : Thread Cert.AdamwRefIdeal.nD Cert.AdamwRefIdeal.τ).loc Cert.AdamwRefIdeal.main_arg1) = m' ((c.tc : Thread Cert.AdamwRefIdeal.nD Cert.AdamwRefIdeal.τ).loc Cert.AdamwRefIdeal.main_arg1)
          ∧ r.2.mem ((c.tc : Thread Cert.AdamwRefIdeal.nD Cert.AdamwRefIdeal.τ).loc Cert.AdamwRefIdeal.main_arg2) = m' ((c.tc : Thread Cert.AdamwRefIdeal.nD Cert.AdamwRefIdeal.τ).loc Cert.AdamwRefIdeal.main_arg2)
          ∧ r.2.mem ((c.tc : Thread Cert.AdamwRefIdeal.nD Cert.AdamwRefIdeal.τ).loc Cert.AdamwRefIdeal.main_arg3) = m' ((c.tc : Thread Cert.AdamwRefIdeal.nD Cert.AdamwRefIdeal.τ).loc Cert.AdamwRefIdeal.main_arg3))

def preserves_LruFwd_LruFwdIdeal : Prop :=
  True

def algebraic_LruFwdIdeal_LruFwdRefIdeal [hLruFwdIdeal : Cert.LruFwdIdeal.Facts] [hLruFwdRefIdeal : Cert.LruFwdRefIdeal.Facts] : Prop :=
  ∀ (m : (ℓ : Loc Cert.LruFwdIdeal.nD Cert.LruFwdIdeal.τ Cert.LruFwdIdeal.sig) → Buf (Elt Ideal) ℓ) (g : Dev Cert.LruFwdIdeal.nD → PrngReg)
    (m' : (ℓ : Loc Cert.LruFwdRefIdeal.nD Cert.LruFwdRefIdeal.τ Cert.LruFwdRefIdeal.sig) → Buf (Elt Ideal) ℓ) (g' : Dev Cert.LruFwdRefIdeal.nD → PrngReg), Pre_LruFwdIdeal m →
    (∀ c : Dev Cert.LruFwdIdeal.nD,
      m' ((c.tc : Thread Cert.LruFwdRefIdeal.nD Cert.LruFwdRefIdeal.τ).loc Cert.LruFwdRefIdeal.main_arg0) = m ((c.tc : Thread Cert.LruFwdIdeal.nD Cert.LruFwdIdeal.τ).loc Cert.LruFwdIdeal.main_arg0)
      ∧ m' ((c.tc : Thread Cert.LruFwdRefIdeal.nD Cert.LruFwdRefIdeal.τ).loc Cert.LruFwdRefIdeal.main_arg1) = m ((c.tc : Thread Cert.LruFwdIdeal.nD Cert.LruFwdIdeal.τ).loc Cert.LruFwdIdeal.main_arg1)
      ∧ m' ((c.tc : Thread Cert.LruFwdRefIdeal.nD Cert.LruFwdRefIdeal.τ).loc Cert.LruFwdRefIdeal.main_arg2) = m ((c.tc : Thread Cert.LruFwdIdeal.nD Cert.LruFwdIdeal.τ).loc Cert.LruFwdIdeal.main_arg2)
      ∧ m' ((c.tc : Thread Cert.LruFwdRefIdeal.nD Cert.LruFwdRefIdeal.τ).loc Cert.LruFwdRefIdeal.main_arg3) = m ((c.tc : Thread Cert.LruFwdIdeal.nD Cert.LruFwdIdeal.τ).loc Cert.LruFwdIdeal.main_arg3)
      ∧ m' ((c.tc : Thread Cert.LruFwdRefIdeal.nD Cert.LruFwdRefIdeal.τ).loc Cert.LruFwdRefIdeal.main_arg4) = m ((c.tc : Thread Cert.LruFwdIdeal.nD Cert.LruFwdIdeal.τ).loc Cert.LruFwdIdeal.main_arg4)
      ∧ m' ((c.tc : Thread Cert.LruFwdRefIdeal.nD Cert.LruFwdRefIdeal.τ).loc Cert.LruFwdRefIdeal.main_arg5) = m ((c.tc : Thread Cert.LruFwdIdeal.nD Cert.LruFwdIdeal.τ).loc Cert.LruFwdIdeal.main_arg5)
      ∧ m' ((c.tc : Thread Cert.LruFwdRefIdeal.nD Cert.LruFwdRefIdeal.τ).loc Cert.LruFwdRefIdeal.main_arg6) = m ((c.tc : Thread Cert.LruFwdIdeal.nD Cert.LruFwdIdeal.τ).loc Cert.LruFwdIdeal.main_arg6)
      ∧ m' ((c.tc : Thread Cert.LruFwdRefIdeal.nD Cert.LruFwdRefIdeal.τ).loc Cert.LruFwdRefIdeal.main_arg7) = m ((c.tc : Thread Cert.LruFwdIdeal.nD Cert.LruFwdIdeal.τ).loc Cert.LruFwdIdeal.main_arg7)) →
    ∃ (v0 : (c : Dev Cert.LruFwdIdeal.nD) → Buf (Elt Ideal) ((c.tc : Thread Cert.LruFwdIdeal.nD Cert.LruFwdIdeal.τ).loc Cert.LruFwdIdeal.main_v28_0)) (v1 : (c : Dev Cert.LruFwdIdeal.nD) → Buf (Elt Ideal) ((c.tc : Thread Cert.LruFwdIdeal.nD Cert.LruFwdIdeal.τ).loc Cert.LruFwdIdeal.main_v28_1)),
      θ_run (Cert.LruFwdIdeal.defs (F := Ideal)) (onTc (τ := Cert.LruFwdIdeal.τ) (Cert.LruFwdIdeal.main (F := Ideal))) ⟨m, fun _ => 0, g⟩ (fun r => ∀ c : Dev Cert.LruFwdIdeal.nD,
          r.2.mem ((c.tc : Thread Cert.LruFwdIdeal.nD Cert.LruFwdIdeal.τ).loc Cert.LruFwdIdeal.main_v28_0) = v0 c
          ∧ r.2.mem ((c.tc : Thread Cert.LruFwdIdeal.nD Cert.LruFwdIdeal.τ).loc Cert.LruFwdIdeal.main_v28_1) = v1 c
          ∧ r.2.mem ((c.tc : Thread Cert.LruFwdIdeal.nD Cert.LruFwdIdeal.τ).loc Cert.LruFwdIdeal.main_arg0) = m ((c.tc : Thread Cert.LruFwdIdeal.nD Cert.LruFwdIdeal.τ).loc Cert.LruFwdIdeal.main_arg0)
          ∧ r.2.mem ((c.tc : Thread Cert.LruFwdIdeal.nD Cert.LruFwdIdeal.τ).loc Cert.LruFwdIdeal.main_arg1) = m ((c.tc : Thread Cert.LruFwdIdeal.nD Cert.LruFwdIdeal.τ).loc Cert.LruFwdIdeal.main_arg1)
          ∧ r.2.mem ((c.tc : Thread Cert.LruFwdIdeal.nD Cert.LruFwdIdeal.τ).loc Cert.LruFwdIdeal.main_arg2) = m ((c.tc : Thread Cert.LruFwdIdeal.nD Cert.LruFwdIdeal.τ).loc Cert.LruFwdIdeal.main_arg2)
          ∧ r.2.mem ((c.tc : Thread Cert.LruFwdIdeal.nD Cert.LruFwdIdeal.τ).loc Cert.LruFwdIdeal.main_arg3) = m ((c.tc : Thread Cert.LruFwdIdeal.nD Cert.LruFwdIdeal.τ).loc Cert.LruFwdIdeal.main_arg3)
          ∧ r.2.mem ((c.tc : Thread Cert.LruFwdIdeal.nD Cert.LruFwdIdeal.τ).loc Cert.LruFwdIdeal.main_arg4) = m ((c.tc : Thread Cert.LruFwdIdeal.nD Cert.LruFwdIdeal.τ).loc Cert.LruFwdIdeal.main_arg4)
          ∧ r.2.mem ((c.tc : Thread Cert.LruFwdIdeal.nD Cert.LruFwdIdeal.τ).loc Cert.LruFwdIdeal.main_arg5) = m ((c.tc : Thread Cert.LruFwdIdeal.nD Cert.LruFwdIdeal.τ).loc Cert.LruFwdIdeal.main_arg5)
          ∧ r.2.mem ((c.tc : Thread Cert.LruFwdIdeal.nD Cert.LruFwdIdeal.τ).loc Cert.LruFwdIdeal.main_arg6) = m ((c.tc : Thread Cert.LruFwdIdeal.nD Cert.LruFwdIdeal.τ).loc Cert.LruFwdIdeal.main_arg6)
          ∧ r.2.mem ((c.tc : Thread Cert.LruFwdIdeal.nD Cert.LruFwdIdeal.τ).loc Cert.LruFwdIdeal.main_arg7) = m ((c.tc : Thread Cert.LruFwdIdeal.nD Cert.LruFwdIdeal.τ).loc Cert.LruFwdIdeal.main_arg7))
      ∧ θ_run (Cert.LruFwdRefIdeal.defs (F := Ideal)) (onTc (τ := Cert.LruFwdRefIdeal.τ) (Cert.LruFwdRefIdeal.main (F := Ideal))) ⟨m', fun _ => 0, g'⟩ (fun r => ∀ c : Dev Cert.LruFwdRefIdeal.nD,
          r.2.mem ((c.tc : Thread Cert.LruFwdRefIdeal.nD Cert.LruFwdRefIdeal.τ).loc Cert.LruFwdRefIdeal.main_v65) = v0 c
          ∧ r.2.mem ((c.tc : Thread Cert.LruFwdRefIdeal.nD Cert.LruFwdRefIdeal.τ).loc Cert.LruFwdRefIdeal.main_v47_4) = v1 c
          ∧ r.2.mem ((c.tc : Thread Cert.LruFwdRefIdeal.nD Cert.LruFwdRefIdeal.τ).loc Cert.LruFwdRefIdeal.main_arg0) = m' ((c.tc : Thread Cert.LruFwdRefIdeal.nD Cert.LruFwdRefIdeal.τ).loc Cert.LruFwdRefIdeal.main_arg0)
          ∧ r.2.mem ((c.tc : Thread Cert.LruFwdRefIdeal.nD Cert.LruFwdRefIdeal.τ).loc Cert.LruFwdRefIdeal.main_arg1) = m' ((c.tc : Thread Cert.LruFwdRefIdeal.nD Cert.LruFwdRefIdeal.τ).loc Cert.LruFwdRefIdeal.main_arg1)
          ∧ r.2.mem ((c.tc : Thread Cert.LruFwdRefIdeal.nD Cert.LruFwdRefIdeal.τ).loc Cert.LruFwdRefIdeal.main_arg2) = m' ((c.tc : Thread Cert.LruFwdRefIdeal.nD Cert.LruFwdRefIdeal.τ).loc Cert.LruFwdRefIdeal.main_arg2)
          ∧ r.2.mem ((c.tc : Thread Cert.LruFwdRefIdeal.nD Cert.LruFwdRefIdeal.τ).loc Cert.LruFwdRefIdeal.main_arg3) = m' ((c.tc : Thread Cert.LruFwdRefIdeal.nD Cert.LruFwdRefIdeal.τ).loc Cert.LruFwdRefIdeal.main_arg3)
          ∧ r.2.mem ((c.tc : Thread Cert.LruFwdRefIdeal.nD Cert.LruFwdRefIdeal.τ).loc Cert.LruFwdRefIdeal.main_arg4) = m' ((c.tc : Thread Cert.LruFwdRefIdeal.nD Cert.LruFwdRefIdeal.τ).loc Cert.LruFwdRefIdeal.main_arg4)
          ∧ r.2.mem ((c.tc : Thread Cert.LruFwdRefIdeal.nD Cert.LruFwdRefIdeal.τ).loc Cert.LruFwdRefIdeal.main_arg5) = m' ((c.tc : Thread Cert.LruFwdRefIdeal.nD Cert.LruFwdRefIdeal.τ).loc Cert.LruFwdRefIdeal.main_arg5)
          ∧ r.2.mem ((c.tc : Thread Cert.LruFwdRefIdeal.nD Cert.LruFwdRefIdeal.τ).loc Cert.LruFwdRefIdeal.main_arg6) = m' ((c.tc : Thread Cert.LruFwdRefIdeal.nD Cert.LruFwdRefIdeal.τ).loc Cert.LruFwdRefIdeal.main_arg6)
          ∧ r.2.mem ((c.tc : Thread Cert.LruFwdRefIdeal.nD Cert.LruFwdRefIdeal.τ).loc Cert.LruFwdRefIdeal.main_arg7) = m' ((c.tc : Thread Cert.LruFwdRefIdeal.nD Cert.LruFwdRefIdeal.τ).loc Cert.LruFwdRefIdeal.main_arg7))

def preserves_MlpDwd_MlpDwdIdeal : Prop :=
  True

def algebraic_MlpDwdIdeal_MlpDwdRefIdeal [hMlpDwdIdeal : Cert.MlpDwdIdeal.Facts] [hMlpDwdRefIdeal : Cert.MlpDwdRefIdeal.Facts] : Prop :=
  ∀ (m : (ℓ : Loc Cert.MlpDwdIdeal.nD Cert.MlpDwdIdeal.τ Cert.MlpDwdIdeal.sig) → Buf (Elt Ideal) ℓ) (g : Dev Cert.MlpDwdIdeal.nD → PrngReg)
    (m' : (ℓ : Loc Cert.MlpDwdRefIdeal.nD Cert.MlpDwdRefIdeal.τ Cert.MlpDwdRefIdeal.sig) → Buf (Elt Ideal) ℓ) (g' : Dev Cert.MlpDwdRefIdeal.nD → PrngReg), Pre_MlpDwdIdeal m →
    (∀ c : Dev Cert.MlpDwdIdeal.nD,
      m' ((c.tc : Thread Cert.MlpDwdRefIdeal.nD Cert.MlpDwdRefIdeal.τ).loc Cert.MlpDwdRefIdeal.main_arg0) = m ((c.tc : Thread Cert.MlpDwdIdeal.nD Cert.MlpDwdIdeal.τ).loc Cert.MlpDwdIdeal.main_arg0)
      ∧ m' ((c.tc : Thread Cert.MlpDwdRefIdeal.nD Cert.MlpDwdRefIdeal.τ).loc Cert.MlpDwdRefIdeal.main_arg1) = m ((c.tc : Thread Cert.MlpDwdIdeal.nD Cert.MlpDwdIdeal.τ).loc Cert.MlpDwdIdeal.main_arg1)
      ∧ m' ((c.tc : Thread Cert.MlpDwdRefIdeal.nD Cert.MlpDwdRefIdeal.τ).loc Cert.MlpDwdRefIdeal.main_arg2) = m ((c.tc : Thread Cert.MlpDwdIdeal.nD Cert.MlpDwdIdeal.τ).loc Cert.MlpDwdIdeal.main_arg2)) →
    ∃ (v0 : (c : Dev Cert.MlpDwdIdeal.nD) → Buf (Elt Ideal) ((c.tc : Thread Cert.MlpDwdIdeal.nD Cert.MlpDwdIdeal.τ).loc Cert.MlpDwdIdeal.main_v7)),
      θ_run (Cert.MlpDwdIdeal.defs (F := Ideal)) (onTc (τ := Cert.MlpDwdIdeal.τ) (Cert.MlpDwdIdeal.main (F := Ideal))) ⟨m, fun _ => 0, g⟩ (fun r => ∀ c : Dev Cert.MlpDwdIdeal.nD,
          r.2.mem ((c.tc : Thread Cert.MlpDwdIdeal.nD Cert.MlpDwdIdeal.τ).loc Cert.MlpDwdIdeal.main_v7) = v0 c
          ∧ r.2.mem ((c.tc : Thread Cert.MlpDwdIdeal.nD Cert.MlpDwdIdeal.τ).loc Cert.MlpDwdIdeal.main_arg0) = m ((c.tc : Thread Cert.MlpDwdIdeal.nD Cert.MlpDwdIdeal.τ).loc Cert.MlpDwdIdeal.main_arg0)
          ∧ r.2.mem ((c.tc : Thread Cert.MlpDwdIdeal.nD Cert.MlpDwdIdeal.τ).loc Cert.MlpDwdIdeal.main_arg1) = m ((c.tc : Thread Cert.MlpDwdIdeal.nD Cert.MlpDwdIdeal.τ).loc Cert.MlpDwdIdeal.main_arg1)
          ∧ r.2.mem ((c.tc : Thread Cert.MlpDwdIdeal.nD Cert.MlpDwdIdeal.τ).loc Cert.MlpDwdIdeal.main_arg2) = m ((c.tc : Thread Cert.MlpDwdIdeal.nD Cert.MlpDwdIdeal.τ).loc Cert.MlpDwdIdeal.main_arg2))
      ∧ θ_run (Cert.MlpDwdRefIdeal.defs (F := Ideal)) (onTc (τ := Cert.MlpDwdRefIdeal.τ) (Cert.MlpDwdRefIdeal.main (F := Ideal))) ⟨m', fun _ => 0, g'⟩ (fun r => ∀ c : Dev Cert.MlpDwdRefIdeal.nD,
          r.2.mem ((c.tc : Thread Cert.MlpDwdRefIdeal.nD Cert.MlpDwdRefIdeal.τ).loc Cert.MlpDwdRefIdeal.main_v7) = v0 c
          ∧ r.2.mem ((c.tc : Thread Cert.MlpDwdRefIdeal.nD Cert.MlpDwdRefIdeal.τ).loc Cert.MlpDwdRefIdeal.main_arg0) = m' ((c.tc : Thread Cert.MlpDwdRefIdeal.nD Cert.MlpDwdRefIdeal.τ).loc Cert.MlpDwdRefIdeal.main_arg0)
          ∧ r.2.mem ((c.tc : Thread Cert.MlpDwdRefIdeal.nD Cert.MlpDwdRefIdeal.τ).loc Cert.MlpDwdRefIdeal.main_arg1) = m' ((c.tc : Thread Cert.MlpDwdRefIdeal.nD Cert.MlpDwdRefIdeal.τ).loc Cert.MlpDwdRefIdeal.main_arg1)
          ∧ r.2.mem ((c.tc : Thread Cert.MlpDwdRefIdeal.nD Cert.MlpDwdRefIdeal.τ).loc Cert.MlpDwdRefIdeal.main_arg2) = m' ((c.tc : Thread Cert.MlpDwdRefIdeal.nD Cert.MlpDwdRefIdeal.τ).loc Cert.MlpDwdRefIdeal.main_arg2))

def Claim : Prop :=
  ∃ (hDact : Cert.Dact.Facts) (hDactIdeal : Cert.DactIdeal.Facts) (hDactRefIdeal : Cert.DactRefIdeal.Facts) (hRet : Cert.Ret.Facts) (hRetIdeal : Cert.RetIdeal.Facts) (hRetRefIdeal : Cert.RetRefIdeal.Facts) (hMlpDh : Cert.MlpDh.Facts) (hMlpDhIdeal : Cert.MlpDhIdeal.Facts) (hMlpDhRefIdeal : Cert.MlpDhRefIdeal.Facts) (hInEven : Cert.InEven.Facts) (hInEvenIdeal : Cert.InEvenIdeal.Facts) (hInEvenRefIdeal : Cert.InEvenRefIdeal.Facts) (hInOdd : Cert.InOdd.Facts) (hInOddIdeal : Cert.InOddIdeal.Facts) (hInOddRefIdeal : Cert.InOddRefIdeal.Facts) (hLoss : Cert.Loss.Facts) (hLossIdeal : Cert.LossIdeal.Facts) (hLossRefIdeal : Cert.LossRefIdeal.Facts) (hRetFwd : Cert.RetFwd.Facts) (hRetFwdIdeal : Cert.RetFwdIdeal.Facts) (hRetFwdRefIdeal : Cert.RetFwdRefIdeal.Facts) (hOutEven : Cert.OutEven.Facts) (hOutEvenIdeal : Cert.OutEvenIdeal.Facts) (hOutEvenRefIdeal : Cert.OutEvenRefIdeal.Facts) (hMlpDown : Cert.MlpDown.Facts) (hMlpDownIdeal : Cert.MlpDownIdeal.Facts) (hMlpDownRefIdeal : Cert.MlpDownRefIdeal.Facts) (hMlpUp : Cert.MlpUp.Facts) (hMlpUpIdeal : Cert.MlpUpIdeal.Facts) (hMlpUpRefIdeal : Cert.MlpUpRefIdeal.Facts) (hLruConvFwd : Cert.LruConvFwd.Facts) (hLruConvFwdIdeal : Cert.LruConvFwdIdeal.Facts) (hLruConvFwdRefIdeal : Cert.LruConvFwdRefIdeal.Facts) (hGdnConvFwd : Cert.GdnConvFwd.Facts) (hGdnConvFwdIdeal : Cert.GdnConvFwdIdeal.Facts) (hGdnConvFwdRefIdeal : Cert.GdnConvFwdRefIdeal.Facts) (hLruConv : Cert.LruConv.Facts) (hLruConvIdeal : Cert.LruConvIdeal.Facts) (hLruConvRefIdeal : Cert.LruConvRefIdeal.Facts) (hGdnConv : Cert.GdnConv.Facts) (hGdnConvIdeal : Cert.GdnConvIdeal.Facts) (hGdnConvRefIdeal : Cert.GdnConvRefIdeal.Facts) (hInProd : Cert.InProd.Facts) (hInProdIdeal : Cert.InProdIdeal.Facts) (hInProdRefIdeal : Cert.InProdRefIdeal.Facts) (hAdamw : Cert.Adamw.Facts) (hAdamwIdeal : Cert.AdamwIdeal.Facts) (hAdamwRefIdeal : Cert.AdamwRefIdeal.Facts) (hLruFwd : Cert.LruFwd.Facts) (hLruFwdIdeal : Cert.LruFwdIdeal.Facts) (hLruFwdRefIdeal : Cert.LruFwdRefIdeal.Facts) (hMlpDwd : Cert.MlpDwd.Facts) (hMlpDwdIdeal : Cert.MlpDwdIdeal.Facts) (hMlpDwdRefIdeal : Cert.MlpDwdRefIdeal.Facts) (hPre_pre_ret : Cert.Pre_pre_ret.Facts) (hPre_pre_gdnconv : Cert.Pre_pre_gdnconv.Facts),
    quiescent_Dact (hDact := hDact)
    ∧ quiescent_DactIdeal (hDactIdeal := hDactIdeal)
    ∧ quiescent_DactRefIdeal (hDactRefIdeal := hDactRefIdeal)
    ∧ quiescent_Ret (hRet := hRet)
    ∧ quiescent_RetIdeal (hRetIdeal := hRetIdeal)
    ∧ quiescent_RetIdeal_pre_pre_ret (hRetIdeal := hRetIdeal) (hPre_pre_ret := hPre_pre_ret)
    ∧ quiescent_RetRefIdeal (hRetRefIdeal := hRetRefIdeal)
    ∧ quiescent_RetRefIdeal_pre_pre_ret (hRetRefIdeal := hRetRefIdeal) (hPre_pre_ret := hPre_pre_ret)
    ∧ quiescent_MlpDh (hMlpDh := hMlpDh)
    ∧ quiescent_MlpDhIdeal (hMlpDhIdeal := hMlpDhIdeal)
    ∧ quiescent_MlpDhRefIdeal (hMlpDhRefIdeal := hMlpDhRefIdeal)
    ∧ quiescent_InEven (hInEven := hInEven)
    ∧ quiescent_InEvenIdeal (hInEvenIdeal := hInEvenIdeal)
    ∧ quiescent_InEvenRefIdeal (hInEvenRefIdeal := hInEvenRefIdeal)
    ∧ quiescent_InOdd (hInOdd := hInOdd)
    ∧ quiescent_InOddIdeal (hInOddIdeal := hInOddIdeal)
    ∧ quiescent_InOddRefIdeal (hInOddRefIdeal := hInOddRefIdeal)
    ∧ quiescent_Loss (hLoss := hLoss)
    ∧ quiescent_LossIdeal (hLossIdeal := hLossIdeal)
    ∧ quiescent_LossRefIdeal (hLossRefIdeal := hLossRefIdeal)
    ∧ quiescent_RetFwd (hRetFwd := hRetFwd)
    ∧ quiescent_RetFwdIdeal (hRetFwdIdeal := hRetFwdIdeal)
    ∧ quiescent_RetFwdRefIdeal (hRetFwdRefIdeal := hRetFwdRefIdeal)
    ∧ quiescent_OutEven (hOutEven := hOutEven)
    ∧ quiescent_OutEvenIdeal (hOutEvenIdeal := hOutEvenIdeal)
    ∧ quiescent_OutEvenRefIdeal (hOutEvenRefIdeal := hOutEvenRefIdeal)
    ∧ quiescent_MlpDown (hMlpDown := hMlpDown)
    ∧ quiescent_MlpDownIdeal (hMlpDownIdeal := hMlpDownIdeal)
    ∧ quiescent_MlpDownRefIdeal (hMlpDownRefIdeal := hMlpDownRefIdeal)
    ∧ quiescent_MlpUp (hMlpUp := hMlpUp)
    ∧ quiescent_MlpUpIdeal (hMlpUpIdeal := hMlpUpIdeal)
    ∧ quiescent_MlpUpRefIdeal (hMlpUpRefIdeal := hMlpUpRefIdeal)
    ∧ quiescent_LruConvFwd (hLruConvFwd := hLruConvFwd)
    ∧ quiescent_LruConvFwdIdeal (hLruConvFwdIdeal := hLruConvFwdIdeal)
    ∧ quiescent_LruConvFwdRefIdeal (hLruConvFwdRefIdeal := hLruConvFwdRefIdeal)
    ∧ quiescent_GdnConvFwd (hGdnConvFwd := hGdnConvFwd)
    ∧ quiescent_GdnConvFwdIdeal (hGdnConvFwdIdeal := hGdnConvFwdIdeal)
    ∧ quiescent_GdnConvFwdRefIdeal (hGdnConvFwdRefIdeal := hGdnConvFwdRefIdeal)
    ∧ quiescent_LruConv (hLruConv := hLruConv)
    ∧ quiescent_LruConvIdeal (hLruConvIdeal := hLruConvIdeal)
    ∧ quiescent_LruConvRefIdeal (hLruConvRefIdeal := hLruConvRefIdeal)
    ∧ quiescent_GdnConv (hGdnConv := hGdnConv)
    ∧ quiescent_GdnConvIdeal (hGdnConvIdeal := hGdnConvIdeal)
    ∧ quiescent_GdnConvIdeal_pre_pre_gdnconv (hGdnConvIdeal := hGdnConvIdeal) (hPre_pre_gdnconv := hPre_pre_gdnconv)
    ∧ quiescent_GdnConvRefIdeal (hGdnConvRefIdeal := hGdnConvRefIdeal)
    ∧ quiescent_GdnConvRefIdeal_pre_pre_gdnconv (hGdnConvRefIdeal := hGdnConvRefIdeal) (hPre_pre_gdnconv := hPre_pre_gdnconv)
    ∧ quiescent_InProd (hInProd := hInProd)
    ∧ quiescent_InProdIdeal (hInProdIdeal := hInProdIdeal)
    ∧ quiescent_InProdRefIdeal (hInProdRefIdeal := hInProdRefIdeal)
    ∧ quiescent_Adamw (hAdamw := hAdamw)
    ∧ quiescent_AdamwIdeal (hAdamwIdeal := hAdamwIdeal)
    ∧ quiescent_AdamwRefIdeal (hAdamwRefIdeal := hAdamwRefIdeal)
    ∧ quiescent_LruFwd (hLruFwd := hLruFwd)
    ∧ quiescent_LruFwdIdeal (hLruFwdIdeal := hLruFwdIdeal)
    ∧ quiescent_LruFwdRefIdeal (hLruFwdRefIdeal := hLruFwdRefIdeal)
    ∧ quiescent_MlpDwd (hMlpDwd := hMlpDwd)
    ∧ quiescent_MlpDwdIdeal (hMlpDwdIdeal := hMlpDwdIdeal)
    ∧ quiescent_MlpDwdRefIdeal (hMlpDwdRefIdeal := hMlpDwdRefIdeal)
    ∧ preserves_Dact_DactIdeal
    ∧ algebraic_DactIdeal_DactRefIdeal (hDactIdeal := hDactIdeal) (hDactRefIdeal := hDactRefIdeal)
    ∧ preserves_Ret_RetIdeal
    ∧ algebraic_RetIdeal_RetRefIdeal_pre_pre_ret (hRetIdeal := hRetIdeal) (hRetRefIdeal := hRetRefIdeal) (hPre_pre_ret := hPre_pre_ret)
    ∧ preserves_MlpDh_MlpDhIdeal
    ∧ algebraic_MlpDhIdeal_MlpDhRefIdeal (hMlpDhIdeal := hMlpDhIdeal) (hMlpDhRefIdeal := hMlpDhRefIdeal)
    ∧ preserves_InEven_InEvenIdeal
    ∧ algebraic_InEvenIdeal_InEvenRefIdeal (hInEvenIdeal := hInEvenIdeal) (hInEvenRefIdeal := hInEvenRefIdeal)
    ∧ preserves_InOdd_InOddIdeal
    ∧ algebraic_InOddIdeal_InOddRefIdeal (hInOddIdeal := hInOddIdeal) (hInOddRefIdeal := hInOddRefIdeal)
    ∧ preserves_Loss_LossIdeal
    ∧ algebraic_LossIdeal_LossRefIdeal (hLossIdeal := hLossIdeal) (hLossRefIdeal := hLossRefIdeal)
    ∧ preserves_RetFwd_RetFwdIdeal
    ∧ algebraic_RetFwdIdeal_RetFwdRefIdeal (hRetFwdIdeal := hRetFwdIdeal) (hRetFwdRefIdeal := hRetFwdRefIdeal)
    ∧ preserves_OutEven_OutEvenIdeal
    ∧ algebraic_OutEvenIdeal_OutEvenRefIdeal (hOutEvenIdeal := hOutEvenIdeal) (hOutEvenRefIdeal := hOutEvenRefIdeal)
    ∧ preserves_MlpDown_MlpDownIdeal
    ∧ algebraic_MlpDownIdeal_MlpDownRefIdeal (hMlpDownIdeal := hMlpDownIdeal) (hMlpDownRefIdeal := hMlpDownRefIdeal)
    ∧ preserves_MlpUp_MlpUpIdeal
    ∧ algebraic_MlpUpIdeal_MlpUpRefIdeal (hMlpUpIdeal := hMlpUpIdeal) (hMlpUpRefIdeal := hMlpUpRefIdeal)
    ∧ preserves_LruConvFwd_LruConvFwdIdeal
    ∧ algebraic_LruConvFwdIdeal_LruConvFwdRefIdeal (hLruConvFwdIdeal := hLruConvFwdIdeal) (hLruConvFwdRefIdeal := hLruConvFwdRefIdeal)
    ∧ preserves_GdnConvFwd_GdnConvFwdIdeal
    ∧ algebraic_GdnConvFwdIdeal_GdnConvFwdRefIdeal (hGdnConvFwdIdeal := hGdnConvFwdIdeal) (hGdnConvFwdRefIdeal := hGdnConvFwdRefIdeal)
    ∧ preserves_LruConv_LruConvIdeal
    ∧ algebraic_LruConvIdeal_LruConvRefIdeal (hLruConvIdeal := hLruConvIdeal) (hLruConvRefIdeal := hLruConvRefIdeal)
    ∧ preserves_GdnConv_GdnConvIdeal
    ∧ algebraic_GdnConvIdeal_GdnConvRefIdeal_pre_pre_gdnconv (hGdnConvIdeal := hGdnConvIdeal) (hGdnConvRefIdeal := hGdnConvRefIdeal) (hPre_pre_gdnconv := hPre_pre_gdnconv)
    ∧ preserves_InProd_InProdIdeal
    ∧ algebraic_InProdIdeal_InProdRefIdeal (hInProdIdeal := hInProdIdeal) (hInProdRefIdeal := hInProdRefIdeal)
    ∧ preserves_Adamw_AdamwIdeal
    ∧ algebraic_AdamwIdeal_AdamwRefIdeal (hAdamwIdeal := hAdamwIdeal) (hAdamwRefIdeal := hAdamwRefIdeal)
    ∧ preserves_LruFwd_LruFwdIdeal
    ∧ algebraic_LruFwdIdeal_LruFwdRefIdeal (hLruFwdIdeal := hLruFwdIdeal) (hLruFwdRefIdeal := hLruFwdRefIdeal)
    ∧ preserves_MlpDwd_MlpDwdIdeal
    ∧ algebraic_MlpDwdIdeal_MlpDwdRefIdeal (hMlpDwdIdeal := hMlpDwdIdeal) (hMlpDwdRefIdeal := hMlpDwdRefIdeal)
-- ==== Pre_pre_gdnconv.lean ====
abbrev S4096x4224 : Shape := ⟨2, ![4096, 4224]⟩
abbrev S4x3072 : Shape := ⟨2, ![4, 3072]⟩
abbrev S4096x3072 : Shape := ⟨2, ![4096, 3072]⟩
abbrev S_ : Shape := ⟨0, ![]⟩

class Facts : Prop where
  bcast_S_S4096x3072 : S_.BroadcastsInDim S4096x3072 (![] : Fin 0 → Fin S4096x3072.rank)
  reducesTo_S4096x3072_S_d0_1 : S4096x3072.ReducesTo [0, 1] S_
  h_S_ : 0 < S_.numel

variable [Facts]

def fn {F : FTy → Type} [FloatOps F] (main_arg0 : FVec F S4096x4224 .f32) (main_arg1 : FVec F S4x3072 .f32) (main_arg2 : FVec F S4096x3072 .f32) (main_arg3 : FVec F S4096x4224 .f32) : IVec S_ 1 :=
  let main_v0 : FVec F S4096x3072 .f32 := Host.absf main_arg2
  let main_cst : FVec F S_ .f32 := constant S_ .f32 0x7F800000#32
  let main_v1 : FVec F S4096x3072 .f32 := broadcastInDim S4096x3072 ![] bcast_S_S4096x3072 main_cst
  let main_v2 : IVec S4096x3072 1 := cmpf .olt main_v0 main_v1
  let main_c : IVec S_ 1 := constantI S_ 1 1#1
  let main_v3 : IVec S_ 1 := (fun x v => Host.reduce IntOp.andi x v reducesTo_S4096x3072_S_d0_1 h_S_) main_v2 main_c
  main_v3
-- ==== Pre_pre_ret.lean ====
abbrev S4096x3072 : Shape := ⟨2, ![4096, 3072]⟩
abbrev S4096x1024 : Shape := ⟨2, ![4096, 1024]⟩
abbrev S_ : Shape := ⟨0, ![]⟩

class Facts : Prop where
  bcast_S_S4096x1024 : S_.BroadcastsInDim S4096x1024 (![] : Fin 0 → Fin S4096x1024.rank)
  reducesTo_S4096x1024_S_d0_1 : S4096x1024.ReducesTo [0, 1] S_
  h_S_ : 0 < S_.numel

variable [Facts]

def fn {F : FTy → Type} [FloatOps F] (main_arg0 : FVec F S4096x3072 .f32) (main_arg1 : FVec F S4096x1024 .f32) : IVec S_ 1 :=
  let main_v0 : FVec F S4096x1024 .f32 := Host.absf main_arg1
  let main_cst : FVec F S_ .f32 := constant S_ .f32 0x7F800000#32
  let main_v1 : FVec F S4096x1024 .f32 := broadcastInDim S4096x1024 ![] bcast_S_S4096x1024 main_cst
  let main_v2 : IVec S4096x1024 1 := cmpf .olt main_v0 main_v1
  let main_c : IVec S_ 1 := constantI S_ 1 1#1
  let main_v3 : IVec S_ 1 := (fun x v => Host.reduce IntOp.andi x v reducesTo_S4096x1024_S_d0_1 h_S_) main_v2 main_c
  main_v3
-- ==== Dact.lean ====
abbrev S4096x1024 : Shape := ⟨2, ![4096, 1024]⟩
abbrev S1024x4096 : Shape := ⟨2, ![1024, 4096]⟩
abbrev S4096x4096 : Shape := ⟨2, ![4096, 4096]⟩
abbrev S_ : Shape := ⟨0, ![]⟩
abbrev S512x1024 : Shape := ⟨2, ![512, 1024]⟩
abbrev S4096x512 : Shape := ⟨2, ![4096, 512]⟩

abbrev nBuf : Space → Nat
  | .hbm => 14
  | .vmem => 7
  | .smem => 0
  | _ => 0

abbrev bufTy : (tb : Table) → Fin (tcTables nBuf tb) → BufTy
  | .hbm, ⟨0, _⟩ => ⟨S4096x1024, .f32⟩
  | .hbm, ⟨1, _⟩ => ⟨S1024x4096, .f32⟩
  | .hbm, ⟨2, _⟩ => ⟨S4096x1024, .f32⟩
  | .hbm, ⟨3, _⟩ => ⟨S4096x1024, .f32⟩
  | .hbm, ⟨4, _⟩ => ⟨S4096x1024, .bf16⟩
  | .hbm, ⟨5, _⟩ => ⟨S1024x4096, .bf16⟩
  | .hbm, ⟨6, _⟩ => ⟨S4096x1024, .bf16⟩
  | .hbm, ⟨7, _⟩ => ⟨S4096x1024, .bf16⟩
  | .hbm, ⟨8, _⟩ => ⟨S4096x4096, .f32⟩
  | .hbm, ⟨9, _⟩ => ⟨S_, .f32⟩
  | .hbm, ⟨10, _⟩ => ⟨S4096x4096, .f32⟩
  | .hbm, ⟨11, _⟩ => ⟨S4096x4096, .f32⟩
  | .hbm, ⟨12, _⟩ => ⟨S4096x4096, .bf16⟩
  | .hbm, ⟨13, _⟩ => ⟨S4096x4096, .bf16⟩
  | .local _ .vmem, ⟨0, _⟩ => ⟨S4096x1024, .bf16⟩
  | .local _ .vmem, ⟨1, _⟩ => ⟨S512x1024, .bf16⟩
  | .local _ .vmem, ⟨2, _⟩ => ⟨S512x1024, .bf16⟩
  | .local _ .vmem, ⟨3, _⟩ => ⟨S4096x512, .bf16⟩
  | .local _ .vmem, ⟨4, _⟩ => ⟨S4096x512, .bf16⟩
  | .local _ .vmem, ⟨5, _⟩ => ⟨S4096x512, .bf16⟩
  | .local _ .vmem, ⟨6, _⟩ => ⟨S4096x512, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨3, ![1, 8, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 1 → Memref sig .tc .vmem S4096x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S4096x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S4096x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== DactRefIdeal.lean ====
abbrev S4096x1024 : Shape := ⟨2, ![4096, 1024]⟩
abbrev S1024x4096 : Shape := ⟨2, ![1024, 4096]⟩
abbrev S4096x4096 : Shape := ⟨2, ![4096, 4096]⟩
abbrev S_ : Shape := ⟨0, ![]⟩

abbrev nBuf : Space → Nat
  | .hbm => 24
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024x4096, .f32⟩
  | .hbm, ⟨2, _⟩ => ⟨S4096x1024, .f32⟩
  | .hbm, ⟨3, _⟩ => ⟨S4096x1024, .f32⟩
  | .hbm, ⟨4, _⟩ => ⟨S4096x4096, .f32⟩
  | .hbm, ⟨5, _⟩ => ⟨S_, .f32⟩
  | .hbm, ⟨6, _⟩ => ⟨S4096x4096, .f32⟩
  | .hbm, ⟨7, _⟩ => ⟨S4096x4096, .f32⟩
  | .hbm, ⟨8, _⟩ => ⟨S_, .f32⟩
  | .hbm, ⟨9, _⟩ => ⟨S4096x4096, .f32⟩
  | .hbm, ⟨10, _⟩ => ⟨S4096x4096, .i1⟩
  | .hbm, ⟨11, _⟩ => ⟨S_, .f32⟩
  | .hbm, ⟨12, _⟩ => ⟨S4096x4096, .f32⟩
  | .hbm, ⟨13, _⟩ => ⟨S4096x4096, .f32⟩
  | .hbm, ⟨14, _⟩ => ⟨S_, .f32⟩
  | .hbm, ⟨15, _⟩ => ⟨S4096x4096, .f32⟩
  | .hbm, ⟨16, _⟩ => ⟨S4096x4096, .f32⟩
  | .hbm, ⟨17, _⟩ => ⟨S4096x1024, .f32⟩
  | .hbm, ⟨18, _⟩ => ⟨S4096x4096, .f32⟩
  | .hbm, ⟨19, _⟩ => ⟨S4096x4096, .f32⟩
  | .hbm, ⟨20, _⟩ => ⟨S_, .f32⟩
  | .hbm, ⟨21, _⟩ => ⟨S4096x4096, .f32⟩
  | .hbm, ⟨22, _⟩ => ⟨S4096x4096, .f32⟩
  | .hbm, ⟨23, _⟩ => ⟨S4096x4096, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_call0_cst : Ref sig .tc := ⟨.hbm, 5, rfl⟩
abbrev main_call0_v0 : Ref sig .tc := ⟨.hbm, 6, rfl⟩
abbrev main_v1 : Ref sig .tc := ⟨.hbm, 7, rfl⟩
abbrev main_cst : Ref sig .tc := ⟨.hbm, 8, rfl⟩
abbrev main_v2 : Ref sig .tc := ⟨.hbm, 9, rfl⟩
abbrev main_v3 : Ref sig .tc := ⟨.hbm, 10, rfl⟩
abbrev main_cst_0 : Ref sig .tc := ⟨.hbm, 11, rfl⟩
abbrev main_v4 : Ref sig .tc := ⟨.hbm, 12, rfl⟩
abbrev main_v5 : Ref sig .tc := ⟨.hbm, 13, rfl⟩
abbrev main_cst_1 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_cst_2 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩

abbrev nD : Nat := 1
abbrev τ : Topo := Topo.v7x

variable {F : FTy → Type} [FloatOps F]
-- ==== Ret.lean ====
abbrev S4096x3072 : Shape := ⟨2, ![4096, 3072]⟩
abbrev S4096x1024 : Shape := ⟨2, ![4096, 1024]⟩
abbrev S64 : Shape := ⟨1, ![64]⟩
abbrev S_ : Shape := ⟨0, ![]⟩
abbrev S4096 : Shape := ⟨1, ![4096]⟩
abbrev S4096x1 : Shape := ⟨2, ![4096, 1]⟩
abbrev S1x64 : Shape := ⟨2, ![1, 64]⟩
abbrev S4096x64 : Shape := ⟨2, ![4096, 64]⟩
abbrev S4096x128 : Shape := ⟨2, ![4096, 128]⟩
abbrev S4 : Shape := ⟨1, ![4]⟩
abbrev S128 : Shape := ⟨1, ![128]⟩
abbrev S128x1 : Shape := ⟨2, ![128, 1]⟩
abbrev S1x128 : Shape := ⟨2, ![1, 128]⟩
abbrev S128x128 : Shape := ⟨2, ![128, 128]⟩
abbrev S1x128x128 : Shape := ⟨3, ![1, 128, 128]⟩
abbrev S4x1x1 : Shape := ⟨3, ![4, 1, 1]⟩
abbrev S4x128x128 : Shape := ⟨3, ![4, 128, 128]⟩
abbrev S4x1 : Shape := ⟨2, ![4, 1]⟩
abbrev S4x128 : Shape := ⟨2, ![4, 128]⟩
abbrev S4x128x1 : Shape := ⟨3, ![4, 128, 1]⟩
abbrev S4x1x128x128 : Shape := ⟨4, ![4, 1, 128, 128]⟩
abbrev S4x4x128x128 : Shape := ⟨4, ![4, 4, 128, 128]⟩
abbrev S4096x512 : Shape := ⟨2, ![4096, 512]⟩
abbrev S32x128x4x128 : Shape := ⟨4, ![32, 128, 4, 128]⟩
abbrev S32x4x128x128 : Shape := ⟨4, ![32, 4, 128, 128]⟩
abbrev S32x1x128x128 : Shape := ⟨4, ![32, 1, 128, 128]⟩
abbrev S32x4x128x64 : Shape := ⟨4, ![32, 4, 128, 64]⟩
abbrev S1x4x128x128 : Shape := ⟨4, ![1, 4, 128, 128]⟩
abbrev S16x4x128x128 : Shape := ⟨4, ![16, 4, 128, 128]⟩
abbrev S4096x2048 : Shape := ⟨2, ![4096, 2048]⟩
abbrev S512x512 : Shape := ⟨2, ![512, 512]⟩
abbrev S512x128 : Shape := ⟨2, ![512, 128]⟩
abbrev S512x2048 : Shape := ⟨2, ![512, 2048]⟩
abbrev S128x512 : Shape := ⟨2, ![128, 512]⟩

abbrev nBuf : Space → Nat
  | .hbm => 248
  | .vmem => 22
  | .smem => 0
  | _ => 0

abbrev hbmTy0_0 (i : Nat) : BufTy := match i % 128 with
  | 0 => ⟨S4096x3072, .f32⟩
  | 1 => ⟨S4096x1024, .f32⟩
  | 2 => ⟨S64, .f32⟩
  | 3 => ⟨S64, .f32⟩
  | 4 => ⟨S_, .f32⟩
  | 5 => ⟨S64, .f32⟩
  | 6 => ⟨S64, .f32⟩
  | 7 => ⟨S_, .f32⟩
  | 8 => ⟨S64, .f32⟩
  | 9 => ⟨S64, .f32⟩
  | 10 => ⟨S4096, .f32⟩
  | 11 => ⟨S4096x1, .f32⟩
  | 12 => ⟨S1x64, .f32⟩
  | 13 => ⟨S4096x64, .f32⟩
  | 14 => ⟨S4096x64, .f32⟩
  | 15 => ⟨S4096x64, .f32⟩
  | 16 => ⟨S4096x64, .f32⟩
  | 17 => ⟨S4096x64, .f32⟩
  | 18 => ⟨S4096x128, .f32⟩
  | 19 => ⟨S4096x64, .f32⟩
  | 20 => ⟨S4096x128, .f32⟩
  | 21 => ⟨S4, .f32⟩
  | 22 => ⟨S_, .f32⟩
  | 23 => ⟨S4, .f32⟩
  | 24 => ⟨S4, .f32⟩
  | 25 => ⟨S_, .f32⟩
  | 26 => ⟨S4, .f32⟩
  | 27 => ⟨S4, .f32⟩
  | 28 => ⟨S4, .f32⟩
  | 29 => ⟨S4, .f32⟩
  | 30 => ⟨S4, .f32⟩
  | 31 => ⟨S128, .f32⟩
  | 32 => ⟨S128x1, .f32⟩
  | 33 => ⟨S1x128, .f32⟩
  | 34 => ⟨S128x128, .f32⟩
  | 35 => ⟨S128x128, .f32⟩
  | 36 => ⟨S128x128, .f32⟩
  | 37 => ⟨S_, .f32⟩
  | 38 => ⟨S128x128, .f32⟩
  | 39 => ⟨S128x128, .i1⟩
  | 40 => ⟨S1x128x128, .i1⟩
  | 41 => ⟨S4x1x1, .f32⟩
  | 42 => ⟨S_, .f32⟩
  | 43 => ⟨S_, .f32⟩
  | 44 => ⟨S128x128, .f32⟩
  | 45 => ⟨S128x128, .f32⟩
  | 46 => ⟨S1x128x128, .f32⟩
  | 47 => ⟨S4x128x128, .f32⟩
  | 48 => ⟨S4x128x128, .f32⟩
  | 49 => ⟨S4x128x128, .f32⟩
  | 50 => ⟨S4x128x128, .f32⟩
  | 51 => ⟨S_, .f32⟩
  | 52 => ⟨S_, .f32⟩
  | 53 => ⟨S4x128x128, .i1⟩
  | 54 => ⟨S4x128x128, .f32⟩
  | 55 => ⟨S4x128x128, .f32⟩
  | 56 => ⟨S4x1, .f32⟩
  | 57 => ⟨S1x128, .f32⟩
  | 58 => ⟨S_, .f32⟩
  | 59 => ⟨S1x128, .f32⟩
  | 60 => ⟨S1x128, .f32⟩
  | 61 => ⟨S4x128, .f32⟩
  | 62 => ⟨S4x128, .f32⟩
  | 63 => ⟨S4x128, .f32⟩
  | 64 => ⟨S4x128, .f32⟩
  | 65 => ⟨S4x1, .f32⟩
  | 66 => ⟨S1x128, .f32⟩
  | 67 => ⟨S_, .f32⟩
  | 68 => ⟨S1x128, .f32⟩
  | 69 => ⟨S1x128, .f32⟩
  | 70 => ⟨S4x128, .f32⟩
  | 71 => ⟨S4x128, .f32⟩
  | 72 => ⟨S4x128, .f32⟩
  | 73 => ⟨S4x128, .f32⟩
  | 74 => ⟨S_, .f32⟩
  | 75 => ⟨S4, .f32⟩
  | 76 => ⟨S4, .f32⟩
  | 77 => ⟨S4, .f32⟩
  | 78 => ⟨S4x128x1, .f32⟩
  | 79 => ⟨S4x128x128, .f32⟩
  | 80 => ⟨S4x128x1, .f32⟩
  | 81 => ⟨S4x128x128, .f32⟩
  | 82 => ⟨S4x1x1, .f32⟩
  | 83 => ⟨S4x128x128, .f32⟩
  | 84 => ⟨S4x1x128x128, .f32⟩
  | 85 => ⟨S4x1x128x128, .f32⟩
  | 86 => ⟨S4x1x128x128, .f32⟩
  | 87 => ⟨S4x1x128x128, .f32⟩
  | 88 => ⟨S4x4x128x128, .f32⟩
  | 89 => ⟨S4x1x128x128, .f32⟩
  | 90 => ⟨S4x128x128, .f32⟩
  | 91 => ⟨S4x1x128x128, .f32⟩
  | 92 => ⟨S4x128x128, .f32⟩
  | 93 => ⟨S4x1x128x128, .f32⟩
  | 94 => ⟨S4x128x128, .f32⟩
  | 95 => ⟨S4x1x128x128, .f32⟩
  | 96 => ⟨S4x128x128, .f32⟩
  | 97 => ⟨S4096x512, .f32⟩
  | 98 => ⟨S32x128x4x128, .f32⟩
  | 99 => ⟨S32x4x128x128, .f32⟩
  | 100 => ⟨S32x1x128x128, .f32⟩
  | 101 => ⟨S32x4x128x128, .f32⟩
  | 102 => ⟨S32x4x128x128, .f32⟩
  | 103 => ⟨S32x4x128x64, .f32⟩
  | 104 => ⟨S32x4x128x64, .f32⟩
  | 105 => ⟨S32x4x128x128, .f32⟩
  | 106 => ⟨S32x1x128x128, .f32⟩
  | 107 => ⟨S32x4x128x128, .f32⟩
  | 108 => ⟨S32x4x128x128, .f32⟩
  | 109 => ⟨S32x4x128x128, .f32⟩
  | 110 => ⟨S4096x512, .f32⟩
  | 111 => ⟨S32x128x4x128, .f32⟩
  | 112 => ⟨S32x4x128x128, .f32⟩
  | 113 => ⟨S32x1x128x128, .f32⟩
  | 114 => ⟨S32x4x128x128, .f32⟩
  | 115 => ⟨S32x4x128x128, .f32⟩
  | 116 => ⟨S32x4x128x64, .f32⟩
  | 117 => ⟨S32x4x128x64, .f32⟩
  | 118 => ⟨S32x4x128x128, .f32⟩
  | 119 => ⟨S32x1x128x128, .f32⟩
  | 120 => ⟨S32x4x128x128, .f32⟩
  | 121 => ⟨S32x4x128x128, .f32⟩
  | 122 => ⟨S32x4x128x128, .f32⟩
  | 123 => ⟨S_, .f32⟩
  | 124 => ⟨S32x4x128x128, .f32⟩
  | 125 => ⟨S32x4x128x128, .f32⟩
  | 126 => ⟨S4096x512, .f32⟩
  | 127 => ⟨S32x128x4x128, .f32⟩
  | _ => ⟨S4096x3072, .f32⟩

abbrev hbmTy0_1 (i : Nat) : BufTy := match i % 128 with
  | 0 => ⟨S32x4x128x128, .f32⟩
  | 1 => ⟨S1x4x128x128, .f32⟩
  | 2 => ⟨S32x4x128x128, .f32⟩
  | 3 => ⟨S32x4x128x128, .f32⟩
  | 4 => ⟨S32x4x128x128, .f32⟩
  | 5 => ⟨S_, .f32⟩
  | 6 => ⟨S1x4x128x128, .f32⟩
  | 7 => ⟨S1x4x128x128, .f32⟩
  | 8 => ⟨S1x4x128x128, .f32⟩
  | 9 => ⟨S1x4x128x128, .f32⟩
  | 10 => ⟨S1x4x128x128, .f32⟩
  | 11 => ⟨S1x4x128x128, .f32⟩
  | 12 => ⟨S1x4x128x128, .f32⟩
  | 13 => ⟨S1x4x128x128, .f32⟩
  | 14 => ⟨S1x4x128x128, .f32⟩
  | 15 => ⟨S1x4x128x128, .f32⟩
  | 16 => ⟨S1x4x128x128, .f32⟩
  | 17 => ⟨S1x4x128x128, .f32⟩
  | 18 => ⟨S1x4x128x128, .f32⟩
  | 19 => ⟨S1x4x128x128, .f32⟩
  | 20 => ⟨S1x4x128x128, .f32⟩
  | 21 => ⟨S1x4x128x128, .f32⟩
  | 22 => ⟨S1x4x128x128, .f32⟩
  | 23 => ⟨S1x4x128x128, .f32⟩
  | 24 => ⟨S1x4x128x128, .f32⟩
  | 25 => ⟨S1x4x128x128, .f32⟩
  | 26 => ⟨S1x4x128x128, .f32⟩
  | 27 => ⟨S1x4x128x128, .f32⟩
  | 28 => ⟨S1x4x128x128, .f32⟩
  | 29 => ⟨S1x4x128x128, .f32⟩
  | 30 => ⟨S1x4x128x128, .f32⟩
  | 31 => ⟨S1x4x128x128, .f32⟩
  | 32 => ⟨S1x4x128x128, .f32⟩
  | 33 => ⟨S1x4x128x128, .f32⟩
  | 34 => ⟨S1x4x128x128, .f32⟩
  | 35 => ⟨S1x4x128x128, .f32⟩
  | 36 => ⟨S1x4x128x128, .f32⟩
  | 37 => ⟨S1x4x128x128, .f32⟩
  | 38 => ⟨S1x4x128x128, .f32⟩
  | 39 => ⟨S1x4x128x128, .f32⟩
  | 40 => ⟨S1x4x128x128, .f32⟩
  | 41 => ⟨S1x4x128x128, .f32⟩
  | 42 => ⟨S1x4x128x128, .f32⟩
  | 43 => ⟨S1x4x128x128, .f32⟩
  | 44 => ⟨S1x4x128x128, .f32⟩
  | 45 => ⟨S1x4x128x128, .f32⟩
  | 46 => ⟨S1x4x128x128, .f32⟩
  | 47 => ⟨S1x4x128x128, .f32⟩
  | 48 => ⟨S1x4x128x128, .f32⟩
  | 49 => ⟨S1x4x128x128, .f32⟩
  | 50 => ⟨S1x4x128x128, .f32⟩
  | 51 => ⟨S1x4x128x128, .f32⟩
  | 52 => ⟨S1x4x128x128, .f32⟩
  | 53 => ⟨S1x4x128x128, .f32⟩
  | 54 => ⟨S1x4x128x128, .f32⟩
  | 55 => ⟨S1x4x128x128, .f32⟩
  | 56 => ⟨S1x4x128x128, .f32⟩
  | 57 => ⟨S1x4x128x128, .f32⟩
  | 58 => ⟨S1x4x128x128, .f32⟩
  | 59 => ⟨S1x4x128x128, .f32⟩
  | 60 => ⟨S1x4x128x128, .f32⟩
  | 61 => ⟨S1x4x128x128, .f32⟩
  | 62 => ⟨S1x4x128x128, .f32⟩
  | 63 => ⟨S1x4x128x128, .f32⟩
  | 64 => ⟨S1x4x128x128, .f32⟩
  | 65 => ⟨S1x4x128x128, .f32⟩
  | 66 => ⟨S1x4x128x128, .f32⟩
  | 67 => ⟨S1x4x128x128, .f32⟩
  | 68 => ⟨S1x4x128x128, .f32⟩
  | 69 => ⟨S1x4x128x128, .f32⟩
  | 70 => ⟨S1x4x128x128, .f32⟩
  | 71 => ⟨S1x4x128x128, .f32⟩
  | 72 => ⟨S1x4x128x128, .f32⟩
  | 73 => ⟨S1x4x128x128, .f32⟩
  | 74 => ⟨S1x4x128x128, .f32⟩
  | 75 => ⟨S1x4x128x128, .f32⟩
  | 76 => ⟨S1x4x128x128, .f32⟩
  | 77 => ⟨S1x4x128x128, .f32⟩
  | 78 => ⟨S1x4x128x128, .f32⟩
  | 79 => ⟨S1x4x128x128, .f32⟩
  | 80 => ⟨S1x4x128x128, .f32⟩
  | 81 => ⟨S1x4x128x128, .f32⟩
  | 82 => ⟨S1x4x128x128, .f32⟩
  | 83 => ⟨S1x4x128x128, .f32⟩
  | 84 => ⟨S1x4x128x128, .f32⟩
  | 85 => ⟨S1x4x128x128, .f32⟩
  | 86 => ⟨S1x4x128x128, .f32⟩
  | 87 => ⟨S1x4x128x128, .f32⟩
  | 88 => ⟨S1x4x128x128, .f32⟩
  | 89 => ⟨S1x4x128x128, .f32⟩
  | 90 => ⟨S1x4x128x128, .f32⟩
  | 91 => ⟨S1x4x128x128, .f32⟩
  | 92 => ⟨S1x4x128x128, .f32⟩
  | 93 => ⟨S1x4x128x128, .f32⟩
  | 94 => ⟨S1x4x128x128, .f32⟩
  | 95 => ⟨S1x4x128x128, .f32⟩
  | 96 => ⟨S1x4x128x128, .f32⟩
  | 97 => ⟨S1x4x128x128, .f32⟩
  | 98 => ⟨S1x4x128x128, .f32⟩
  | 99 => ⟨S1x4x128x128, .f32⟩
  | 100 => ⟨S1x4x128x128, .f32⟩
  | 101 => ⟨S1x4x128x128, .f32⟩
  | 102 => ⟨S1x4x128x128, .f32⟩
  | 103 => ⟨S1x4x128x128, .f32⟩
  | 104 => ⟨S16x4x128x128, .f32⟩
  | 105 => ⟨S16x4x128x128, .f32⟩
  | 106 => ⟨S32x4x128x128, .f32⟩
  | 107 => ⟨S32x4x128x128, .f32⟩
  | 108 => ⟨S1x4x128x128, .f32⟩
  | 109 => ⟨S32x4x128x128, .f32⟩
  | 110 => ⟨S32x4x128x128, .f32⟩
  | 111 => ⟨S32x4x128x128, .f32⟩
  | 112 => ⟨S1x4x128x128, .f32⟩
  | 113 => ⟨S32x4x128x128, .f32⟩
  | 114 => ⟨S32x4x128x128, .f32⟩
  | 115 => ⟨S32x4x128x128, .f32⟩
  | 116 => ⟨S32x4x128x128, .f32⟩
  | 117 => ⟨S32x128x4x128, .f32⟩
  | 118 => ⟨S4096x512, .f32⟩
  | 119 => ⟨S4096x2048, .bf16⟩
  | _ => ⟨S4096x3072, .f32⟩

abbrev hbmTy (i : Nat) : BufTy := match i / 128 with
  | 0 => hbmTy0_0 i
  | 1 => hbmTy0_1 i
  | _ => ⟨S4096x3072, .f32⟩

abbrev bufTy : (tb : Table) → Fin (tcTables nBuf tb) → BufTy
  | .hbm, ⟨i, _⟩ => hbmTy i
  | .local _ .vmem, ⟨0, _⟩ => ⟨S512x512, .f32⟩
  | .local _ .vmem, ⟨1, _⟩ => ⟨S512x512, .f32⟩
  | .local _ .vmem, ⟨2, _⟩ => ⟨S512x512, .f32⟩
  | .local _ .vmem, ⟨3, _⟩ => ⟨S512x512, .f32⟩
  | .local _ .vmem, ⟨4, _⟩ => ⟨S512x512, .f32⟩
  | .local _ .vmem, ⟨5, _⟩ => ⟨S512x512, .f32⟩
  | .local _ .vmem, ⟨6, _⟩ => ⟨S512x512, .f32⟩
  | .local _ .vmem, ⟨7, _⟩ => ⟨S512x512, .f32⟩
  | .local _ .vmem, ⟨8, _⟩ => ⟨S512x128, .f32⟩
  | .local _ .vmem, ⟨9, _⟩ => ⟨S512x128, .f32⟩
  | .local _ .vmem, ⟨10, _⟩ => ⟨S512x128, .f32⟩
  | .local _ .vmem, ⟨11, _⟩ => ⟨S512x128, .f32⟩
  | .local _ .vmem, ⟨12, _⟩ => ⟨S4x4x128x128, .f32⟩
  | .local _ .vmem, ⟨13, _⟩ => ⟨S512x512, .f32⟩
  | .local _ .vmem, ⟨14, _⟩ => ⟨S512x512, .f32⟩
  | .local _ .vmem, ⟨15, _⟩ => ⟨S4x4x128x128, .f32⟩
  | .local _ .vmem, ⟨16, _⟩ => ⟨S4x4x128x128, .f32⟩
  | .local _ .vmem, ⟨17, _⟩ => ⟨S512x512, .f32⟩
  | .local _ .vmem, ⟨18, _⟩ => ⟨S512x512, .f32⟩
  | .local _ .vmem, ⟨19, _⟩ => ⟨S512x2048, .bf16⟩
  | .local _ .vmem, ⟨20, _⟩ => ⟨S512x2048, .bf16⟩
  | .local _ .vmem, ⟨21, _⟩ => ⟨S4x128x128, .f32⟩
  | _, _ => ⟨S4096x3072, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_cst_1 : Ref sig .tc := ⟨.hbm, 22, rfl⟩
abbrev main_v18 : Ref sig .tc := ⟨.hbm, 23, rfl⟩
abbrev main_v19 : Ref sig .tc := ⟨.hbm, 24, rfl⟩
abbrev main_cst_2 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_cst_3 : Ref sig .tc := ⟨.hbm, 37, rfl⟩
abbrev main_v31 : Ref sig .tc := ⟨.hbm, 38, rfl⟩
abbrev main_v32 : Ref sig .tc := ⟨.hbm, 39, rfl⟩
abbrev main_v33 : Ref sig .tc := ⟨.hbm, 40, rfl⟩
abbrev main_v34 : Ref sig .tc := ⟨.hbm, 41, rfl⟩
abbrev main_cst_4 : Ref sig .tc := ⟨.hbm, 42, rfl⟩
abbrev main_call0_v0 : Ref sig .tc := ⟨.hbm, 43, rfl⟩
abbrev main_call0_v1 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_cst_5 : Ref sig .tc := ⟨.hbm, 51, rfl⟩
abbrev main_call1_v0 : Ref sig .tc := ⟨.hbm, 52, rfl⟩
abbrev main_call1_v1 : Ref sig .tc := ⟨.hbm, 53, rfl⟩
abbrev main_call1_v2 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_cst_6 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩
abbrev main_cst_7 : Ref sig .tc := ⟨.hbm, 67, rfl⟩
abbrev main_v52 : Ref sig .tc := ⟨.hbm, 68, rfl⟩
abbrev main_v53 : Ref sig .tc := ⟨.hbm, 69, rfl⟩
abbrev main_v54 : Ref sig .tc := ⟨.hbm, 70, rfl⟩
abbrev main_v55 : Ref sig .tc := ⟨.hbm, 71, rfl⟩
abbrev main_v56 : Ref sig .tc := ⟨.hbm, 72, rfl⟩
abbrev main_v57 : Ref sig .tc := ⟨.hbm, 73, rfl⟩
abbrev main_cst_8 : Ref sig .tc := ⟨.hbm, 74, rfl⟩
abbrev main_v58 : Ref sig .tc := ⟨.hbm, 75, rfl⟩
abbrev main_v59 : Ref sig .tc := ⟨.hbm, 76, rfl⟩
abbrev main_v60 : Ref sig .tc := ⟨.hbm, 77, rfl⟩
abbrev main_v61 : Ref sig .tc := ⟨.hbm, 78, rfl⟩
abbrev main_v62 : Ref sig .tc := ⟨.hbm, 79, rfl⟩
abbrev main_v63 : Ref sig .tc := ⟨.hbm, 80, rfl⟩
abbrev main_v64 : Ref sig .tc := ⟨.hbm, 81, rfl⟩
abbrev main_v65 : Ref sig .tc := ⟨.hbm, 82, rfl⟩
abbrev main_v66 : Ref sig .tc := ⟨.hbm, 83, rfl⟩
abbrev main_v67 : Ref sig .tc := ⟨.hbm, 84, rfl⟩
abbrev main_v68 : Ref sig .tc := ⟨.hbm, 85, rfl⟩
abbrev main_v69 : Ref sig .tc := ⟨.hbm, 86, rfl⟩
abbrev main_v70 : Ref sig .tc := ⟨.hbm, 87, rfl⟩
abbrev main_v71 : Ref sig .tc := ⟨.hbm, 88, rfl⟩
abbrev main_v72 : Ref sig .tc := ⟨.hbm, 89, rfl⟩
abbrev main_v73 : Ref sig .tc := ⟨.hbm, 90, rfl⟩
abbrev main_v74 : Ref sig .tc := ⟨.hbm, 91, rfl⟩
abbrev main_v75 : Ref sig .tc := ⟨.hbm, 92, rfl⟩
abbrev main_v76 : Ref sig .tc := ⟨.hbm, 93, rfl⟩
abbrev main_v77 : Ref sig .tc := ⟨.hbm, 94, rfl⟩
abbrev main_v78 : Ref sig .tc := ⟨.hbm, 95, rfl⟩
abbrev main_v79 : Ref sig .tc := ⟨.hbm, 96, rfl⟩
abbrev main_v80 : Ref sig .tc := ⟨.hbm, 97, rfl⟩
abbrev main_v81 : Ref sig .tc := ⟨.hbm, 98, rfl⟩
abbrev main_v82 : Ref sig .tc := ⟨.hbm, 99, rfl⟩
abbrev main_v83 : Ref sig .tc := ⟨.hbm, 100, rfl⟩
abbrev main_v84 : Ref sig .tc := ⟨.hbm, 101, rfl⟩
abbrev main_v85 : Ref sig .tc := ⟨.hbm, 102, rfl⟩
abbrev main_v86 : Ref sig .tc := ⟨.hbm, 103, rfl⟩
abbrev main_v87 : Ref sig .tc := ⟨.hbm, 104, rfl⟩
abbrev main_v88 : Ref sig .tc := ⟨.hbm, 105, rfl⟩
abbrev main_v89 : Ref sig .tc := ⟨.hbm, 106, rfl⟩
abbrev main_v90 : Ref sig .tc := ⟨.hbm, 107, rfl⟩
abbrev main_v91 : Ref sig .tc := ⟨.hbm, 108, rfl⟩
abbrev main_v92 : Ref sig .tc := ⟨.hbm, 109, rfl⟩
abbrev main_v93 : Ref sig .tc := ⟨.hbm, 110, rfl⟩
abbrev main_v94 : Ref sig .tc := ⟨.hbm, 111, rfl⟩
abbrev main_v95 : Ref sig .tc := ⟨.hbm, 112, rfl⟩
abbrev main_v96 : Ref sig .tc := ⟨.hbm, 113, rfl⟩
abbrev main_v97 : Ref sig .tc := ⟨.hbm, 114, rfl⟩
abbrev main_v98 : Ref sig .tc := ⟨.hbm, 115, rfl⟩
abbrev main_v99 : Ref sig .tc := ⟨.hbm, 116, rfl⟩
abbrev main_v100 : Ref sig .tc := ⟨.hbm, 117, rfl⟩
abbrev main_v101 : Ref sig .tc := ⟨.hbm, 118, rfl⟩
abbrev main_v102 : Ref sig .tc := ⟨.hbm, 119, rfl⟩
abbrev main_v103 : Ref sig .tc := ⟨.hbm, 120, rfl⟩
abbrev main_v104 : Ref sig .tc := ⟨.hbm, 121, rfl⟩
abbrev main_v105 : Ref sig .tc := ⟨.hbm, 122, rfl⟩
abbrev main_cst_9 : Ref sig .tc := ⟨.hbm, 123, rfl⟩
abbrev main_v106 : Ref sig .tc := ⟨.hbm, 124, rfl⟩
abbrev main_v107 : Ref sig .tc := ⟨.hbm, 125, rfl⟩
abbrev main_v108 : Ref sig .tc := ⟨.hbm, 126, rfl⟩
abbrev main_v109 : Ref sig .tc := ⟨.hbm, 127, rfl⟩
abbrev main_v110 : Ref sig .tc := ⟨.hbm, 128, rfl⟩
abbrev main_v111 : Ref sig .tc := ⟨.hbm, 129, rfl⟩
abbrev main_v112 : Ref sig .tc := ⟨.hbm, 130, rfl⟩
abbrev main_v113 : Ref sig .tc := ⟨.hbm, 131, rfl⟩
abbrev main_v114 : Ref sig .tc := ⟨.hbm, 132, rfl⟩
abbrev main_cst_10 : Ref sig .tc := ⟨.hbm, 133, rfl⟩
abbrev main_v115 : Ref sig .tc := ⟨.hbm, 134, rfl⟩
abbrev main_v116 : Ref sig .tc := ⟨.hbm, 135, rfl⟩
abbrev main_v117 : Ref sig .tc := ⟨.hbm, 136, rfl⟩
abbrev main_v118 : Ref sig .tc := ⟨.hbm, 137, rfl⟩
abbrev main_v119 : Ref sig .tc := ⟨.hbm, 138, rfl⟩
abbrev main_v120 : Ref sig .tc := ⟨.hbm, 139, rfl⟩
abbrev main_v121 : Ref sig .tc := ⟨.hbm, 140, rfl⟩
abbrev main_v122 : Ref sig .tc := ⟨.hbm, 141, rfl⟩
abbrev main_v123 : Ref sig .tc := ⟨.hbm, 142, rfl⟩
abbrev main_v124 : Ref sig .tc := ⟨.hbm, 143, rfl⟩
abbrev main_v125 : Ref sig .tc := ⟨.hbm, 144, rfl⟩
abbrev main_v126 : Ref sig .tc := ⟨.hbm, 145, rfl⟩
abbrev main_v127 : Ref sig .tc := ⟨.hbm, 146, rfl⟩
abbrev main_v128 : Ref sig .tc := ⟨.hbm, 147, rfl⟩
abbrev main_v129 : Ref sig .tc := ⟨.hbm, 148, rfl⟩
abbrev main_v130 : Ref sig .tc := ⟨.hbm, 149, rfl⟩
abbrev main_v131 : Ref sig .tc := ⟨.hbm, 150, rfl⟩
abbrev main_v132 : Ref sig .tc := ⟨.hbm, 151, rfl⟩
abbrev main_v133 : Ref sig .tc := ⟨.hbm, 152, rfl⟩
abbrev main_v134 : Ref sig .tc := ⟨.hbm, 153, rfl⟩
abbrev main_v135 : Ref sig .tc := ⟨.hbm, 154, rfl⟩
abbrev main_v136 : Ref sig .tc := ⟨.hbm, 155, rfl⟩
abbrev main_v137 : Ref sig .tc := ⟨.hbm, 156, rfl⟩
abbrev main_v138 : Ref sig .tc := ⟨.hbm, 157, rfl⟩
abbrev main_v139 : Ref sig .tc := ⟨.hbm, 158, rfl⟩
abbrev main_v140 : Ref sig .tc := ⟨.hbm, 159, rfl⟩
abbrev main_v141 : Ref sig .tc := ⟨.hbm, 160, rfl⟩
abbrev main_v142 : Ref sig .tc := ⟨.hbm, 161, rfl⟩
abbrev main_v143 : Ref sig .tc := ⟨.hbm, 162, rfl⟩
abbrev main_v144 : Ref sig .tc := ⟨.hbm, 163, rfl⟩
abbrev main_v145 : Ref sig .tc := ⟨.hbm, 164, rfl⟩
abbrev main_v146 : Ref sig .tc := ⟨.hbm, 165, rfl⟩
abbrev main_v147 : Ref sig .tc := ⟨.hbm, 166, rfl⟩
abbrev main_v148 : Ref sig .tc := ⟨.hbm, 167, rfl⟩
abbrev main_v149 : Ref sig .tc := ⟨.hbm, 168, rfl⟩
abbrev main_v150 : Ref sig .tc := ⟨.hbm, 169, rfl⟩
abbrev main_v151 : Ref sig .tc := ⟨.hbm, 170, rfl⟩
abbrev main_v152 : Ref sig .tc := ⟨.hbm, 171, rfl⟩
abbrev main_v153 : Ref sig .tc := ⟨.hbm, 172, rfl⟩
abbrev main_v154 : Ref sig .tc := ⟨.hbm, 173, rfl⟩
abbrev main_v155 : Ref sig .tc := ⟨.hbm, 174, rfl⟩
abbrev main_v156 : Ref sig .tc := ⟨.hbm, 175, rfl⟩
abbrev main_v157 : Ref sig .tc := ⟨.hbm, 176, rfl⟩
abbrev main_v158 : Ref sig .tc := ⟨.hbm, 177, rfl⟩
abbrev main_v159 : Ref sig .tc := ⟨.hbm, 178, rfl⟩
abbrev main_v160 : Ref sig .tc := ⟨.hbm, 179, rfl⟩
abbrev main_v161 : Ref sig .tc := ⟨.hbm, 180, rfl⟩
abbrev main_v162 : Ref sig .tc := ⟨.hbm, 181, rfl⟩
abbrev main_v163 : Ref sig .tc := ⟨.hbm, 182, rfl⟩
abbrev main_v164 : Ref sig .tc := ⟨.hbm, 183, rfl⟩
abbrev main_v165 : Ref sig .tc := ⟨.hbm, 184, rfl⟩
abbrev main_v166 : Ref sig .tc := ⟨.hbm, 185, rfl⟩
abbrev main_v167 : Ref sig .tc := ⟨.hbm, 186, rfl⟩
abbrev main_v168 : Ref sig .tc := ⟨.hbm, 187, rfl⟩
abbrev main_v169 : Ref sig .tc := ⟨.hbm, 188, rfl⟩
abbrev main_v170 : Ref sig .tc := ⟨.hbm, 189, rfl⟩
abbrev main_v171 : Ref sig .tc := ⟨.hbm, 190, rfl⟩
abbrev main_v172 : Ref sig .tc := ⟨.hbm, 191, rfl⟩
abbrev main_v173 : Ref sig .tc := ⟨.hbm, 192, rfl⟩
abbrev main_v174 : Ref sig .tc := ⟨.hbm, 193, rfl⟩
abbrev main_v175 : Ref sig .tc := ⟨.hbm, 194, rfl⟩
abbrev main_v176 : Ref sig .tc := ⟨.hbm, 195, rfl⟩
abbrev main_v177 : Ref sig .tc := ⟨.hbm, 196, rfl⟩
abbrev main_v178 : Ref sig .tc := ⟨.hbm, 197, rfl⟩
abbrev main_v179 : Ref sig .tc := ⟨.hbm, 198, rfl⟩
abbrev main_v180 : Ref sig .tc := ⟨.hbm, 199, rfl⟩
abbrev main_v181 : Ref sig .tc := ⟨.hbm, 200, rfl⟩
abbrev main_v182 : Ref sig .tc := ⟨.hbm, 201, rfl⟩
abbrev main_v183 : Ref sig .tc := ⟨.hbm, 202, rfl⟩
abbrev main_v184 : Ref sig .tc := ⟨.hbm, 203, rfl⟩
abbrev main_v185 : Ref sig .tc := ⟨.hbm, 204, rfl⟩
abbrev main_v186 : Ref sig .tc := ⟨.hbm, 205, rfl⟩
abbrev main_v187 : Ref sig .tc := ⟨.hbm, 206, rfl⟩
abbrev main_v188 : Ref sig .tc := ⟨.hbm, 207, rfl⟩
abbrev main_v189 : Ref sig .tc := ⟨.hbm, 208, rfl⟩
abbrev main_v190 : Ref sig .tc := ⟨.hbm, 209, rfl⟩
abbrev main_v191 : Ref sig .tc := ⟨.hbm, 210, rfl⟩
abbrev main_v192 : Ref sig .tc := ⟨.hbm, 211, rfl⟩
abbrev main_v193 : Ref sig .tc := ⟨.hbm, 212, rfl⟩
abbrev main_v194 : Ref sig .tc := ⟨.hbm, 213, rfl⟩
abbrev main_v195 : Ref sig .tc := ⟨.hbm, 214, rfl⟩
abbrev main_v196 : Ref sig .tc := ⟨.hbm, 215, rfl⟩
abbrev main_v197 : Ref sig .tc := ⟨.hbm, 216, rfl⟩
abbrev main_v198 : Ref sig .tc := ⟨.hbm, 217, rfl⟩
abbrev main_v199 : Ref sig .tc := ⟨.hbm, 218, rfl⟩
abbrev main_v200 : Ref sig .tc := ⟨.hbm, 219, rfl⟩
abbrev main_v201 : Ref sig .tc := ⟨.hbm, 220, rfl⟩
abbrev main_v202 : Ref sig .tc := ⟨.hbm, 221, rfl⟩
abbrev main_v203 : Ref sig .tc := ⟨.hbm, 222, rfl⟩
abbrev main_v204 : Ref sig .tc := ⟨.hbm, 223, rfl⟩
abbrev main_v205 : Ref sig .tc := ⟨.hbm, 224, rfl⟩
abbrev main_v206 : Ref sig .tc := ⟨.hbm, 225, rfl⟩
abbrev main_v207 : Ref sig .tc := ⟨.hbm, 226, rfl⟩
abbrev main_v208 : Ref sig .tc := ⟨.hbm, 227, rfl⟩
abbrev main_v209 : Ref sig .tc := ⟨.hbm, 228, rfl⟩
abbrev main_v210 : Ref sig .tc := ⟨.hbm, 229, rfl⟩
abbrev main_v211 : Ref sig .tc := ⟨.hbm, 230, rfl⟩
abbrev main_v212 : Ref sig .tc := ⟨.hbm, 231, rfl⟩
abbrev main_v213 : Ref sig .tc := ⟨.hbm, 232, rfl⟩
abbrev main_v214 : Ref sig .tc := ⟨.hbm, 233, rfl⟩
abbrev main_v215 : Ref sig .tc := ⟨.hbm, 234, rfl⟩
abbrev main_v216 : Ref sig .tc := ⟨.hbm, 235, rfl⟩
abbrev main_v217 : Ref sig .tc := ⟨.hbm, 236, rfl⟩
abbrev main_v218 : Ref sig .tc := ⟨.hbm, 237, rfl⟩
abbrev main_v219 : Ref sig .tc := ⟨.hbm, 238, rfl⟩
abbrev main_v220 : Ref sig .tc := ⟨.hbm, 239, rfl⟩
abbrev main_v221 : Ref sig .tc := ⟨.hbm, 240, rfl⟩
abbrev main_v222 : Ref sig .tc := ⟨.hbm, 241, rfl⟩
abbrev main_v223 : Ref sig .tc := ⟨.hbm, 242, rfl⟩
abbrev main_v224 : Ref sig .tc := ⟨.hbm, 243, rfl⟩
abbrev main_v225 : Ref sig .tc := ⟨.hbm, 244, rfl⟩
abbrev main_v226 : Ref sig .tc := ⟨.hbm, 245, rfl⟩
abbrev main_v227 : Ref sig .tc := ⟨.hbm, 246, rfl⟩
abbrev main_v228 : Ref sig .tc := ⟨.hbm, 247, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_stg9_0 : Ref sig .tc := ⟨.vmem, 17, rfl⟩
abbrev cc0_stg9_1 : Ref sig .tc := ⟨.vmem, 18, rfl⟩
abbrev cc0_stg10_0 : Ref sig .tc := ⟨.vmem, 19, rfl⟩
abbrev cc0_stg10_1 : Ref sig .tc := ⟨.vmem, 20, rfl⟩
abbrev cc0_scratch0 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17
abbrev cc0_sem9_1 : DmaSem sig := 18
abbrev cc0_sem10_0 : DmaSem sig := 19
abbrev cc0_sem10_1 : DmaSem sig := 20

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c7_i32 : BitVec 32 := 7#32
  let v0 : BitVec 32 := Scalar.subi c7_i32 arg0
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let c7_i32 : BitVec 32 := 7#32
  let v0 : BitVec 32 := Scalar.subi c7_i32 arg0
  let c1_i32 : BitVec 32 := 1#32
  let c0_i32 : BitVec 32 := 0#32
  ![v0.toNat, c1_i32.toNat]

def cc0_transform_2 (i : grid0.Coords) : Fin 2 → Nat :=
  let arg0 : BitVec 32 := BitVec.ofNat 32 (i 0).val
  let c7_i32 : BitVec 32 := 7#32
  let v0 : BitVec 32 := Scalar.subi c7_i32 arg0
  let c2_i32 : BitVec 32 := 2#32
  let c0_i32 : BitVec 32 := 0#32
  ![v0.toNat, c2_i32.toNat]

def cc0_transform_3 (i : grid0.Coords) : Fin 2 → Nat :=
  let arg0 : BitVec 32 := BitVec.ofNat 32 (i 0).val
  let c7_i32 : BitVec 32 := 7#32
  let v0 : BitVec 32 := Scalar.subi c7_i32 arg0
  let c3_i32 : BitVec 32 := 3#32
  let c0_i32 : BitVec 32 := 0#32
  ![v0.toNat, c3_i32.toNat]

def cc0_transform_4 (i : grid0.Coords) : Fin 2 → Nat :=
  let arg0 : BitVec 32 := BitVec.ofNat 32 (i 0).val
  let c7_i32 : BitVec 32 := 7#32
  let v0 : BitVec 32 := Scalar.subi c7_i32 arg0
  let c0_i32 : BitVec 32 := 0#32
  let c0_i32_0 : BitVec 32 := 0#32
  ![v0.toNat, c0_i32.toNat]

def cc0_transform_5 (i : grid0.Coords) : Fin 2 → Nat :=
  let arg0 : BitVec 32 := BitVec.ofNat 32 (i 0).val
  let c7_i32 : BitVec 32 := 7#32
  let v0 : BitVec 32 := Scalar.subi c7_i32 arg0
  let c0_i32 : BitVec 32 := 0#32
  let c0_i32_0 : BitVec 32 := 0#32
  ![v0.toNat, c0_i32.toNat]

def cc0_transform_6 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_7 (i : grid0.Coords) : Fin 2 → Nat :=
  let arg0 : BitVec 32 := BitVec.ofNat 32 (i 0).val
  let c7_i32 : BitVec 32 := 7#32
  let v0 : BitVec 32 := Scalar.subi c7_i32 arg0
  let c0_i32 : BitVec 32 := 0#32
  let c0_i32_0 : BitVec 32 := 0#32
  ![v0.toNat, c0_i32.toNat]

def cc0_transform_8 (i : grid0.Coords) : Fin 4 → Nat :=
  let arg0 : BitVec 32 := BitVec.ofNat 32 (i 0).val
  let c7_i32 : BitVec 32 := 7#32
  let v0 : BitVec 32 := Scalar.subi c7_i32 arg0
  let c0_i32 : BitVec 32 := 0#32
  let c0_i32_0 : BitVec 32 := 0#32
  let c0_i32_1 : BitVec 32 := 0#32
  let c0_i32_2 : BitVec 32 := 0#32
  ![v0.toNat, c0_i32.toNat, c0_i32_0.toNat, c0_i32_1.toNat]

def cc0_transform_9 (i : grid0.Coords) : Fin 2 → Nat :=
  let arg0 : BitVec 32 := BitVec.ofNat 32 (i 0).val
  let c7_i32 : BitVec 32 := 7#32
  let v0 : BitVec 32 := Scalar.subi c7_i32 arg0
  let c0_i32 : BitVec 32 := 0#32
  let c0_i32_0 : BitVec 32 := 0#32
  ![v0.toNat, c0_i32.toNat]

def cc0_transform_10 (i : grid0.Coords) : Fin 2 → Nat :=
  let arg0 : BitVec 32 := BitVec.ofNat 32 (i 0).val
  let c7_i32 : BitVec 32 := 7#32
  let v0 : BitVec 32 := Scalar.subi c7_i32 arg0
  let c0_i32 : BitVec 32 := 0#32
  let c0_i32_0 : BitVec 32 := 0#32
  ![v0.toNat, c0_i32.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S4x4x128x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S4x4x128x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x512 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x2048 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]
-- ==== RetRefIdeal.lean ====
abbrev S4096x3072 : Shape := ⟨2, ![4096, 3072]⟩
abbrev S4096x1024 : Shape := ⟨2, ![4096, 1024]⟩
abbrev S4096x512 : Shape := ⟨2, ![4096, 512]⟩
abbrev S1x4096x512 : Shape := ⟨3, ![1, 4096, 512]⟩
abbrev S4096 : Shape := ⟨1, ![4096]⟩
abbrev S1x4096x4x128 : Shape := ⟨4, ![1, 4096, 4, 128]⟩
abbrev S64 : Shape := ⟨1, ![64]⟩
abbrev S_ : Shape := ⟨0, ![]⟩
abbrev S4096x1 : Shape := ⟨2, ![4096, 1]⟩
abbrev S1x64 : Shape := ⟨2, ![1, 64]⟩
abbrev S4096x64 : Shape := ⟨2, ![4096, 64]⟩
abbrev S1x4096x1x64 : Shape := ⟨4, ![1, 4096, 1, 64]⟩
abbrev S1x4096x4x64 : Shape := ⟨4, ![1, 4096, 4, 64]⟩
abbrev S4 : Shape := ⟨1, ![4]⟩
abbrev S1x32x128x4x128 : Shape := ⟨5, ![1, 32, 128, 4, 128]⟩
abbrev S128 : Shape := ⟨1, ![128]⟩
abbrev S128x1 : Shape := ⟨2, ![128, 1]⟩
abbrev S1x128 : Shape := ⟨2, ![1, 128]⟩
abbrev S128x128 : Shape := ⟨2, ![128, 128]⟩
abbrev S4x1x1 : Shape := ⟨3, ![4, 1, 1]⟩
abbrev S1x128x128 : Shape := ⟨3, ![1, 128, 128]⟩
abbrev S4x128x128 : Shape := ⟨3, ![4, 128, 128]⟩
abbrev S1x32x4x128x128 : Shape := ⟨5, ![1, 32, 4, 128, 128]⟩
abbrev S1x1x4x128x128 : Shape := ⟨5, ![1, 1, 4, 128, 128]⟩
abbrev S1x4 : Shape := ⟨2, ![1, 4]⟩
abbrev S128x4 : Shape := ⟨2, ![128, 4]⟩
abbrev S128x4x1 : Shape := ⟨3, ![128, 4, 1]⟩
abbrev S1x1x128x4x1 : Shape := ⟨5, ![1, 1, 128, 4, 1]⟩
abbrev S1x4x128x128 : Shape := ⟨4, ![1, 4, 128, 128]⟩
abbrev S32x1x4x128x128 : Shape := ⟨5, ![32, 1, 4, 128, 128]⟩
abbrev S1x4x1x1 : Shape := ⟨4, ![1, 4, 1, 1]⟩
abbrev S0x1x4x128x128 : Shape := ⟨5, ![0, 1, 4, 128, 128]⟩
abbrev S16x1x4x128x128 : Shape := ⟨5, ![16, 1, 4, 128, 128]⟩
abbrev S1x4096x4 : Shape := ⟨3, ![1, 4096, 4]⟩
abbrev S1x4096x4x1 : Shape := ⟨4, ![1, 4096, 4, 1]⟩
abbrev S4096x4 : Shape := ⟨2, ![4096, 4]⟩
abbrev S1x4096x2048 : Shape := ⟨3, ![1, 4096, 2048]⟩
abbrev S4096x2048 : Shape := ⟨2, ![4096, 2048]⟩

abbrev nBuf : Space → Nat
  | .hbm => 702
  | .vmem => 0
  | .smem => 0
  | _ => 0

abbrev hbmTy0_0 (i : Nat) : BufTy := match i % 128 with
  | 0 => ⟨S4096x3072, .f32⟩
  | 1 => ⟨S4096x1024, .f32⟩
  | 2 => ⟨S4096x512, .f32⟩
  | 3 => ⟨S1x4096x512, .f32⟩
  | 4 => ⟨S4096x512, .f32⟩
  | 5 => ⟨S1x4096x512, .f32⟩
  | 6 => ⟨S4096x512, .f32⟩
  | 7 => ⟨S1x4096x512, .f32⟩
  | 8 => ⟨S4096x512, .f32⟩
  | 9 => ⟨S1x4096x512, .f32⟩
  | 10 => ⟨S4096, .i32⟩
  | 11 => ⟨S1x4096x4x128, .f32⟩
  | 12 => ⟨S64, .f32⟩
  | 13 => ⟨S64, .f32⟩
  | 14 => ⟨S_, .f32⟩
  | 15 => ⟨S64, .f32⟩
  | 16 => ⟨S64, .f32⟩
  | 17 => ⟨S_, .f32⟩
  | 18 => ⟨S64, .f32⟩
  | 19 => ⟨S64, .f32⟩
  | 20 => ⟨S4096, .f32⟩
  | 21 => ⟨S4096x1, .f32⟩
  | 22 => ⟨S1x64, .f32⟩
  | 23 => ⟨S4096x64, .f32⟩
  | 24 => ⟨S4096x64, .f32⟩
  | 25 => ⟨S4096x64, .f32⟩
  | 26 => ⟨S4096x64, .f32⟩
  | 27 => ⟨S1x4096x1x64, .f32⟩
  | 28 => ⟨S4096x64, .f32⟩
  | 29 => ⟨S1x4096x1x64, .f32⟩
  | 30 => ⟨S1x4096x4x64, .f32⟩
  | 31 => ⟨S1x4096x4x64, .f32⟩
  | 32 => ⟨S1x4096x4x64, .f32⟩
  | 33 => ⟨S1x4096x4x64, .f32⟩
  | 34 => ⟨S1x4096x4x64, .f32⟩
  | 35 => ⟨S1x4096x4x64, .f32⟩
  | 36 => ⟨S1x4096x4x64, .f32⟩
  | 37 => ⟨S1x4096x4x64, .f32⟩
  | 38 => ⟨S1x4096x4x64, .f32⟩
  | 39 => ⟨S1x4096x4x64, .f32⟩
  | 40 => ⟨S1x4096x4x64, .f32⟩
  | 41 => ⟨S1x4096x4x64, .f32⟩
  | 42 => ⟨S1x4096x4x128, .f32⟩
  | 43 => ⟨S1x4096x4x128, .f32⟩
  | 44 => ⟨S64, .f32⟩
  | 45 => ⟨S64, .f32⟩
  | 46 => ⟨S_, .f32⟩
  | 47 => ⟨S64, .f32⟩
  | 48 => ⟨S64, .f32⟩
  | 49 => ⟨S_, .f32⟩
  | 50 => ⟨S64, .f32⟩
  | 51 => ⟨S64, .f32⟩
  | 52 => ⟨S4096, .f32⟩
  | 53 => ⟨S4096x1, .f32⟩
  | 54 => ⟨S1x64, .f32⟩
  | 55 => ⟨S4096x64, .f32⟩
  | 56 => ⟨S4096x64, .f32⟩
  | 57 => ⟨S4096x64, .f32⟩
  | 58 => ⟨S4096x64, .f32⟩
  | 59 => ⟨S1x4096x1x64, .f32⟩
  | 60 => ⟨S4096x64, .f32⟩
  | 61 => ⟨S1x4096x1x64, .f32⟩
  | 62 => ⟨S1x4096x4x64, .f32⟩
  | 63 => ⟨S1x4096x4x64, .f32⟩
  | 64 => ⟨S1x4096x4x64, .f32⟩
  | 65 => ⟨S1x4096x4x64, .f32⟩
  | 66 => ⟨S1x4096x4x64, .f32⟩
  | 67 => ⟨S1x4096x4x64, .f32⟩
  | 68 => ⟨S1x4096x4x64, .f32⟩
  | 69 => ⟨S1x4096x4x64, .f32⟩
  | 70 => ⟨S1x4096x4x64, .f32⟩
  | 71 => ⟨S1x4096x4x64, .f32⟩
  | 72 => ⟨S1x4096x4x64, .f32⟩
  | 73 => ⟨S1x4096x4x64, .f32⟩
  | 74 => ⟨S1x4096x4x128, .f32⟩
  | 75 => ⟨S1x4096x4x128, .f32⟩
  | 76 => ⟨S4, .f32⟩
  | 77 => ⟨S_, .f32⟩
  | 78 => ⟨S4, .f32⟩
  | 79 => ⟨S4, .f32⟩
  | 80 => ⟨S_, .f32⟩
  | 81 => ⟨S4, .f32⟩
  | 82 => ⟨S4, .f32⟩
  | 83 => ⟨S4, .f32⟩
  | 84 => ⟨S4, .f32⟩
  | 85 => ⟨S4, .f32⟩
  | 86 => ⟨S_, .f32⟩
  | 87 => ⟨S1x4096x4x128, .f32⟩
  | 88 => ⟨S1x4096x4x128, .f32⟩
  | 89 => ⟨S1x32x128x4x128, .f32⟩
  | 90 => ⟨S1x32x128x4x128, .f32⟩
  | 91 => ⟨S1x32x128x4x128, .f32⟩
  | 92 => ⟨S128, .f32⟩
  | 93 => ⟨S128x1, .f32⟩
  | 94 => ⟨S1x128, .f32⟩
  | 95 => ⟨S128x128, .f32⟩
  | 96 => ⟨S128x128, .f32⟩
  | 97 => ⟨S128x128, .f32⟩
  | 98 => ⟨S_, .f32⟩
  | 99 => ⟨S128x128, .f32⟩
  | 100 => ⟨S128x128, .i1⟩
  | 101 => ⟨S4x1x1, .f32⟩
  | 102 => ⟨S_, .f32⟩
  | 103 => ⟨S_, .f32⟩
  | 104 => ⟨S128x128, .f32⟩
  | 105 => ⟨S128x128, .f32⟩
  | 106 => ⟨S1x128x128, .f32⟩
  | 107 => ⟨S4x128x128, .f32⟩
  | 108 => ⟨S4x128x128, .f32⟩
  | 109 => ⟨S4x128x128, .f32⟩
  | 110 => ⟨S4x128x128, .f32⟩
  | 111 => ⟨S_, .f32⟩
  | 112 => ⟨S_, .f32⟩
  | 113 => ⟨S4x128x128, .i1⟩
  | 114 => ⟨S4x128x128, .f32⟩
  | 115 => ⟨S4x128x128, .f32⟩
  | 116 => ⟨S1x32x4x128x128, .f32⟩
  | 117 => ⟨S1x1x4x128x128, .f32⟩
  | 118 => ⟨S1x32x4x128x128, .f32⟩
  | 119 => ⟨S1x32x4x128x128, .f32⟩
  | 120 => ⟨S1x32x4x128x128, .f32⟩
  | 121 => ⟨S1x32x128x4x128, .f32⟩
  | 122 => ⟨S1x4, .f32⟩
  | 123 => ⟨S128x1, .f32⟩
  | 124 => ⟨S_, .f32⟩
  | 125 => ⟨S128x1, .f32⟩
  | 126 => ⟨S128x1, .f32⟩
  | 127 => ⟨S128x4, .f32⟩
  | _ => ⟨S4096x3072, .f32⟩

abbrev hbmTy0_1 (i : Nat) : BufTy := match i % 128 with
  | 0 => ⟨S128x4, .f32⟩
  | 1 => ⟨S128x4, .f32⟩
  | 2 => ⟨S128x4, .f32⟩
  | 3 => ⟨S1x4, .f32⟩
  | 4 => ⟨S128x1, .f32⟩
  | 5 => ⟨S_, .f32⟩
  | 6 => ⟨S128x1, .f32⟩
  | 7 => ⟨S128x1, .f32⟩
  | 8 => ⟨S128x4, .f32⟩
  | 9 => ⟨S128x4, .f32⟩
  | 10 => ⟨S128x4, .f32⟩
  | 11 => ⟨S128x4, .f32⟩
  | 12 => ⟨S_, .f32⟩
  | 13 => ⟨S4, .f32⟩
  | 14 => ⟨S4, .f32⟩
  | 15 => ⟨S4, .f32⟩
  | 16 => ⟨S128x4x1, .f32⟩
  | 17 => ⟨S1x1x128x4x1, .f32⟩
  | 18 => ⟨S1x32x128x4x128, .f32⟩
  | 19 => ⟨S1x32x128x4x128, .f32⟩
  | 20 => ⟨S1x32x4x128x128, .f32⟩
  | 21 => ⟨S_, .f32⟩
  | 22 => ⟨S1x4x128x128, .f32⟩
  | 23 => ⟨S32x1x4x128x128, .f32⟩
  | 24 => ⟨S1x4x1x1, .f32⟩
  | 25 => ⟨S0x1x4x128x128, .f32⟩
  | 26 => ⟨S32x1x4x128x128, .f32⟩
  | 27 => ⟨S_, .f32⟩
  | 28 => ⟨S0x1x4x128x128, .f32⟩
  | 29 => ⟨S1x1x4x128x128, .f32⟩
  | 30 => ⟨S1x4x128x128, .f32⟩
  | 31 => ⟨S1x4x128x128, .f32⟩
  | 32 => ⟨S1x4x128x128, .f32⟩
  | 33 => ⟨S1x4x128x128, .f32⟩
  | 34 => ⟨S1x1x4x128x128, .f32⟩
  | 35 => ⟨S1x4x128x128, .f32⟩
  | 36 => ⟨S1x4x128x128, .f32⟩
  | 37 => ⟨S1x4x128x128, .f32⟩
  | 38 => ⟨S1x4x128x128, .f32⟩
  | 39 => ⟨S1x1x4x128x128, .f32⟩
  | 40 => ⟨S1x4x128x128, .f32⟩
  | 41 => ⟨S1x4x128x128, .f32⟩
  | 42 => ⟨S1x4x128x128, .f32⟩
  | 43 => ⟨S1x4x128x128, .f32⟩
  | 44 => ⟨S1x1x4x128x128, .f32⟩
  | 45 => ⟨S1x4x128x128, .f32⟩
  | 46 => ⟨S1x4x128x128, .f32⟩
  | 47 => ⟨S1x4x128x128, .f32⟩
  | 48 => ⟨S1x4x128x128, .f32⟩
  | 49 => ⟨S1x1x4x128x128, .f32⟩
  | 50 => ⟨S1x4x128x128, .f32⟩
  | 51 => ⟨S1x4x128x128, .f32⟩
  | 52 => ⟨S1x4x128x128, .f32⟩
  | 53 => ⟨S1x4x128x128, .f32⟩
  | 54 => ⟨S1x1x4x128x128, .f32⟩
  | 55 => ⟨S1x4x128x128, .f32⟩
  | 56 => ⟨S1x4x128x128, .f32⟩
  | 57 => ⟨S1x4x128x128, .f32⟩
  | 58 => ⟨S1x4x128x128, .f32⟩
  | 59 => ⟨S1x1x4x128x128, .f32⟩
  | 60 => ⟨S1x4x128x128, .f32⟩
  | 61 => ⟨S1x4x128x128, .f32⟩
  | 62 => ⟨S1x4x128x128, .f32⟩
  | 63 => ⟨S1x4x128x128, .f32⟩
  | 64 => ⟨S1x1x4x128x128, .f32⟩
  | 65 => ⟨S1x4x128x128, .f32⟩
  | 66 => ⟨S1x4x128x128, .f32⟩
  | 67 => ⟨S1x4x128x128, .f32⟩
  | 68 => ⟨S1x4x128x128, .f32⟩
  | 69 => ⟨S1x1x4x128x128, .f32⟩
  | 70 => ⟨S1x4x128x128, .f32⟩
  | 71 => ⟨S1x4x128x128, .f32⟩
  | 72 => ⟨S1x4x128x128, .f32⟩
  | 73 => ⟨S1x4x128x128, .f32⟩
  | 74 => ⟨S1x1x4x128x128, .f32⟩
  | 75 => ⟨S1x4x128x128, .f32⟩
  | 76 => ⟨S1x4x128x128, .f32⟩
  | 77 => ⟨S1x4x128x128, .f32⟩
  | 78 => ⟨S1x4x128x128, .f32⟩
  | 79 => ⟨S1x1x4x128x128, .f32⟩
  | 80 => ⟨S1x4x128x128, .f32⟩
  | 81 => ⟨S1x4x128x128, .f32⟩
  | 82 => ⟨S1x4x128x128, .f32⟩
  | 83 => ⟨S1x4x128x128, .f32⟩
  | 84 => ⟨S1x1x4x128x128, .f32⟩
  | 85 => ⟨S1x4x128x128, .f32⟩
  | 86 => ⟨S1x4x128x128, .f32⟩
  | 87 => ⟨S1x4x128x128, .f32⟩
  | 88 => ⟨S1x4x128x128, .f32⟩
  | 89 => ⟨S1x1x4x128x128, .f32⟩
  | 90 => ⟨S1x4x128x128, .f32⟩
  | 91 => ⟨S1x4x128x128, .f32⟩
  | 92 => ⟨S1x4x128x128, .f32⟩
  | 93 => ⟨S1x4x128x128, .f32⟩
  | 94 => ⟨S1x1x4x128x128, .f32⟩
  | 95 => ⟨S1x4x128x128, .f32⟩
  | 96 => ⟨S1x4x128x128, .f32⟩
  | 97 => ⟨S1x4x128x128, .f32⟩
  | 98 => ⟨S1x4x128x128, .f32⟩
  | 99 => ⟨S1x1x4x128x128, .f32⟩
  | 100 => ⟨S1x4x128x128, .f32⟩
  | 101 => ⟨S1x4x128x128, .f32⟩
  | 102 => ⟨S1x4x128x128, .f32⟩
  | 103 => ⟨S1x4x128x128, .f32⟩
  | 104 => ⟨S1x1x4x128x128, .f32⟩
  | 105 => ⟨S1x4x128x128, .f32⟩
  | 106 => ⟨S1x4x128x128, .f32⟩
  | 107 => ⟨S1x4x128x128, .f32⟩
  | 108 => ⟨S1x4x128x128, .f32⟩
  | 109 => ⟨S1x1x4x128x128, .f32⟩
  | 110 => ⟨S1x4x128x128, .f32⟩
  | 111 => ⟨S1x4x128x128, .f32⟩
  | 112 => ⟨S1x4x128x128, .f32⟩
  | 113 => ⟨S1x4x128x128, .f32⟩
  | 114 => ⟨S1x1x4x128x128, .f32⟩
  | 115 => ⟨S1x4x128x128, .f32⟩
  | 116 => ⟨S1x4x128x128, .f32⟩
  | 117 => ⟨S1x4x128x128, .f32⟩
  | 118 => ⟨S1x4x128x128, .f32⟩
  | 119 => ⟨S1x1x4x128x128, .f32⟩
  | 120 => ⟨S1x4x128x128, .f32⟩
  | 121 => ⟨S1x4x128x128, .f32⟩
  | 122 => ⟨S1x4x128x128, .f32⟩
  | 123 => ⟨S1x4x128x128, .f32⟩
  | 124 => ⟨S1x1x4x128x128, .f32⟩
  | 125 => ⟨S1x4x128x128, .f32⟩
  | 126 => ⟨S1x4x128x128, .f32⟩
  | 127 => ⟨S1x4x128x128, .f32⟩
  | _ => ⟨S4096x3072, .f32⟩

abbrev hbmTy0_2 (i : Nat) : BufTy := match i % 128 with
  | 0 => ⟨S1x4x128x128, .f32⟩
  | 1 => ⟨S1x1x4x128x128, .f32⟩
  | 2 => ⟨S1x4x128x128, .f32⟩
  | 3 => ⟨S1x4x128x128, .f32⟩
  | 4 => ⟨S1x4x128x128, .f32⟩
  | 5 => ⟨S1x4x128x128, .f32⟩
  | 6 => ⟨S1x1x4x128x128, .f32⟩
  | 7 => ⟨S1x4x128x128, .f32⟩
  | 8 => ⟨S1x4x128x128, .f32⟩
  | 9 => ⟨S1x4x128x128, .f32⟩
  | 10 => ⟨S1x4x128x128, .f32⟩
  | 11 => ⟨S1x1x4x128x128, .f32⟩
  | 12 => ⟨S1x4x128x128, .f32⟩
  | 13 => ⟨S1x4x128x128, .f32⟩
  | 14 => ⟨S1x4x128x128, .f32⟩
  | 15 => ⟨S1x4x128x128, .f32⟩
  | 16 => ⟨S1x1x4x128x128, .f32⟩
  | 17 => ⟨S1x4x128x128, .f32⟩
  | 18 => ⟨S1x4x128x128, .f32⟩
  | 19 => ⟨S1x4x128x128, .f32⟩
  | 20 => ⟨S1x4x128x128, .f32⟩
  | 21 => ⟨S1x1x4x128x128, .f32⟩
  | 22 => ⟨S1x4x128x128, .f32⟩
  | 23 => ⟨S1x4x128x128, .f32⟩
  | 24 => ⟨S1x4x128x128, .f32⟩
  | 25 => ⟨S1x4x128x128, .f32⟩
  | 26 => ⟨S1x1x4x128x128, .f32⟩
  | 27 => ⟨S1x4x128x128, .f32⟩
  | 28 => ⟨S1x4x128x128, .f32⟩
  | 29 => ⟨S1x4x128x128, .f32⟩
  | 30 => ⟨S1x4x128x128, .f32⟩
  | 31 => ⟨S1x1x4x128x128, .f32⟩
  | 32 => ⟨S1x4x128x128, .f32⟩
  | 33 => ⟨S1x4x128x128, .f32⟩
  | 34 => ⟨S1x4x128x128, .f32⟩
  | 35 => ⟨S1x4x128x128, .f32⟩
  | 36 => ⟨S1x1x4x128x128, .f32⟩
  | 37 => ⟨S1x4x128x128, .f32⟩
  | 38 => ⟨S1x4x128x128, .f32⟩
  | 39 => ⟨S1x4x128x128, .f32⟩
  | 40 => ⟨S1x4x128x128, .f32⟩
  | 41 => ⟨S1x1x4x128x128, .f32⟩
  | 42 => ⟨S1x4x128x128, .f32⟩
  | 43 => ⟨S1x4x128x128, .f32⟩
  | 44 => ⟨S1x4x128x128, .f32⟩
  | 45 => ⟨S1x4x128x128, .f32⟩
  | 46 => ⟨S1x1x4x128x128, .f32⟩
  | 47 => ⟨S1x4x128x128, .f32⟩
  | 48 => ⟨S1x4x128x128, .f32⟩
  | 49 => ⟨S1x4x128x128, .f32⟩
  | 50 => ⟨S1x4x128x128, .f32⟩
  | 51 => ⟨S1x1x4x128x128, .f32⟩
  | 52 => ⟨S1x4x128x128, .f32⟩
  | 53 => ⟨S1x4x128x128, .f32⟩
  | 54 => ⟨S1x4x128x128, .f32⟩
  | 55 => ⟨S1x4x128x128, .f32⟩
  | 56 => ⟨S1x1x4x128x128, .f32⟩
  | 57 => ⟨S1x4x128x128, .f32⟩
  | 58 => ⟨S1x4x128x128, .f32⟩
  | 59 => ⟨S1x4x128x128, .f32⟩
  | 60 => ⟨S1x4x128x128, .f32⟩
  | 61 => ⟨S1x1x4x128x128, .f32⟩
  | 62 => ⟨S1x1x4x128x128, .f32⟩
  | 63 => ⟨S1x1x4x128x128, .f32⟩
  | 64 => ⟨S1x1x4x128x128, .f32⟩
  | 65 => ⟨S1x1x4x128x128, .f32⟩
  | 66 => ⟨S1x1x4x128x128, .f32⟩
  | 67 => ⟨S1x1x4x128x128, .f32⟩
  | 68 => ⟨S1x1x4x128x128, .f32⟩
  | 69 => ⟨S1x1x4x128x128, .f32⟩
  | 70 => ⟨S1x1x4x128x128, .f32⟩
  | 71 => ⟨S1x1x4x128x128, .f32⟩
  | 72 => ⟨S1x1x4x128x128, .f32⟩
  | 73 => ⟨S1x1x4x128x128, .f32⟩
  | 74 => ⟨S1x1x4x128x128, .f32⟩
  | 75 => ⟨S1x1x4x128x128, .f32⟩
  | 76 => ⟨S1x1x4x128x128, .f32⟩
  | 77 => ⟨S1x1x4x128x128, .f32⟩
  | 78 => ⟨S1x1x4x128x128, .f32⟩
  | 79 => ⟨S1x1x4x128x128, .f32⟩
  | 80 => ⟨S1x1x4x128x128, .f32⟩
  | 81 => ⟨S1x1x4x128x128, .f32⟩
  | 82 => ⟨S1x1x4x128x128, .f32⟩
  | 83 => ⟨S1x1x4x128x128, .f32⟩
  | 84 => ⟨S1x1x4x128x128, .f32⟩
  | 85 => ⟨S1x1x4x128x128, .f32⟩
  | 86 => ⟨S1x1x4x128x128, .f32⟩
  | 87 => ⟨S1x1x4x128x128, .f32⟩
  | 88 => ⟨S1x1x4x128x128, .f32⟩
  | 89 => ⟨S1x1x4x128x128, .f32⟩
  | 90 => ⟨S1x1x4x128x128, .f32⟩
  | 91 => ⟨S1x1x4x128x128, .f32⟩
  | 92 => ⟨S1x1x4x128x128, .f32⟩
  | 93 => ⟨S16x1x4x128x128, .f32⟩
  | 94 => ⟨S16x1x4x128x128, .f32⟩
  | 95 => ⟨S32x1x4x128x128, .f32⟩
  | 96 => ⟨S32x1x4x128x128, .f32⟩
  | 97 => ⟨S1x32x4x128x128, .f32⟩
  | 98 => ⟨S128x4x1, .f32⟩
  | 99 => ⟨S1x1x128x4x1, .f32⟩
  | 100 => ⟨S1x32x128x4x128, .f32⟩
  | 101 => ⟨S1x32x128x4x128, .f32⟩
  | 102 => ⟨S1x32x4x128x128, .f32⟩
  | 103 => ⟨S1x32x128x4x128, .f32⟩
  | 104 => ⟨S1x32x128x4x128, .f32⟩
  | 105 => ⟨S1x4096x4x128, .f32⟩
  | 106 => ⟨S1x4096x4x128, .f32⟩
  | 107 => ⟨S_, .f32⟩
  | 108 => ⟨S1x4096x4, .f32⟩
  | 109 => ⟨S1x4096x4x1, .f32⟩
  | 110 => ⟨S_, .f32⟩
  | 111 => ⟨S1x4096x4x1, .f32⟩
  | 112 => ⟨S1x4096x4x1, .f32⟩
  | 113 => ⟨S_, .f32⟩
  | 114 => ⟨S1x4096x4x1, .f32⟩
  | 115 => ⟨S1x4096x4x1, .f32⟩
  | 116 => ⟨S1x4096x4x1, .f32⟩
  | 117 => ⟨S1x4096x4x1, .f32⟩
  | 118 => ⟨S_, .f32⟩
  | 119 => ⟨S1x4096x4x1, .f32⟩
  | 120 => ⟨S1x4096x4x1, .f32⟩
  | 121 => ⟨S1x4096x4x128, .f32⟩
  | 122 => ⟨S1x4096x4x128, .f32⟩
  | 123 => ⟨S1x4096x512, .f32⟩
  | 124 => ⟨S1x4096x512, .f32⟩
  | 125 => ⟨S1x4096x512, .f32⟩
  | 126 => ⟨S_, .f32⟩
  | 127 => ⟨S1x4096x512, .f32⟩
  | _ => ⟨S4096x3072, .f32⟩

abbrev hbmTy0_3 (i : Nat) : BufTy := match i % 128 with
  | 0 => ⟨S1x4096x512, .f32⟩
  | 1 => ⟨S_, .f32⟩
  | 2 => ⟨S1x4096x512, .f32⟩
  | 3 => ⟨S1x4096x512, .f32⟩
  | 4 => ⟨S_, .f32⟩
  | 5 => ⟨S1x4096x512, .f32⟩
  | 6 => ⟨S1x4096x512, .f32⟩
  | 7 => ⟨S1x4096x512, .f32⟩
  | 8 => ⟨S1x4096x512, .f32⟩
  | 9 => ⟨S1x4096x512, .f32⟩
  | 10 => ⟨S4096x512, .f32⟩
  | 11 => ⟨S1x4096x512, .f32⟩
  | 12 => ⟨S_, .f32⟩
  | 13 => ⟨S1x4x128x128, .f32⟩
  | 14 => ⟨S1x4096x512, .f32⟩
  | 15 => ⟨S1x4096x512, .f32⟩
  | 16 => ⟨S1x4096x512, .f32⟩
  | 17 => ⟨S1x4096x512, .f32⟩
  | 18 => ⟨S1x4096x512, .f32⟩
  | 19 => ⟨S1x4096x512, .f32⟩
  | 20 => ⟨S1x4096x4x128, .f32⟩
  | 21 => ⟨S1x4096x4x128, .f32⟩
  | 22 => ⟨S_, .f32⟩
  | 23 => ⟨S1x4096x4, .f32⟩
  | 24 => ⟨S1x4096x4x1, .f32⟩
  | 25 => ⟨S1x4096x4x128, .f32⟩
  | 26 => ⟨S1x4096x4x128, .f32⟩
  | 27 => ⟨S1x4096x4x1, .f32⟩
  | 28 => ⟨S_, .f32⟩
  | 29 => ⟨S1x4096x4x1, .f32⟩
  | 30 => ⟨S1x4096x4x1, .f32⟩
  | 31 => ⟨S_, .f32⟩
  | 32 => ⟨S4096x4, .f32⟩
  | 33 => ⟨S1x4096x4, .f32⟩
  | 34 => ⟨S1x4096x4x128, .f32⟩
  | 35 => ⟨S1x4096x4x128, .f32⟩
  | 36 => ⟨S1x4096x4x128, .f32⟩
  | 37 => ⟨S1x4096x4x128, .f32⟩
  | 38 => ⟨S1x4096x4x128, .f32⟩
  | 39 => ⟨S1x32x128x4x128, .f32⟩
  | 40 => ⟨S1x32x4x128x128, .f32⟩
  | 41 => ⟨S1x32x4x128x128, .f32⟩
  | 42 => ⟨S1x32x128x4x128, .f32⟩
  | 43 => ⟨S1x32x4x128x128, .f32⟩
  | 44 => ⟨S1x32x4x128x128, .f32⟩
  | 45 => ⟨S1x32x128x4x128, .f32⟩
  | 46 => ⟨S1x32x128x4x128, .f32⟩
  | 47 => ⟨S32x1x4x128x128, .f32⟩
  | 48 => ⟨S_, .f32⟩
  | 49 => ⟨S1x4x128x128, .f32⟩
  | 50 => ⟨S32x1x4x128x128, .f32⟩
  | 51 => ⟨S0x1x4x128x128, .f32⟩
  | 52 => ⟨S_, .f32⟩
  | 53 => ⟨S0x1x4x128x128, .f32⟩
  | 54 => ⟨S1x1x4x128x128, .f32⟩
  | 55 => ⟨S1x4x128x128, .f32⟩
  | 56 => ⟨S1x4x128x128, .f32⟩
  | 57 => ⟨S1x4x128x128, .f32⟩
  | 58 => ⟨S1x4x128x128, .f32⟩
  | 59 => ⟨S1x1x4x128x128, .f32⟩
  | 60 => ⟨S1x4x128x128, .f32⟩
  | 61 => ⟨S1x4x128x128, .f32⟩
  | 62 => ⟨S1x4x128x128, .f32⟩
  | 63 => ⟨S1x4x128x128, .f32⟩
  | 64 => ⟨S1x1x4x128x128, .f32⟩
  | 65 => ⟨S1x4x128x128, .f32⟩
  | 66 => ⟨S1x4x128x128, .f32⟩
  | 67 => ⟨S1x4x128x128, .f32⟩
  | 68 => ⟨S1x4x128x128, .f32⟩
  | 69 => ⟨S1x1x4x128x128, .f32⟩
  | 70 => ⟨S1x4x128x128, .f32⟩
  | 71 => ⟨S1x4x128x128, .f32⟩
  | 72 => ⟨S1x4x128x128, .f32⟩
  | 73 => ⟨S1x4x128x128, .f32⟩
  | 74 => ⟨S1x1x4x128x128, .f32⟩
  | 75 => ⟨S1x4x128x128, .f32⟩
  | 76 => ⟨S1x4x128x128, .f32⟩
  | 77 => ⟨S1x4x128x128, .f32⟩
  | 78 => ⟨S1x4x128x128, .f32⟩
  | 79 => ⟨S1x1x4x128x128, .f32⟩
  | 80 => ⟨S1x4x128x128, .f32⟩
  | 81 => ⟨S1x4x128x128, .f32⟩
  | 82 => ⟨S1x4x128x128, .f32⟩
  | 83 => ⟨S1x4x128x128, .f32⟩
  | 84 => ⟨S1x1x4x128x128, .f32⟩
  | 85 => ⟨S1x4x128x128, .f32⟩
  | 86 => ⟨S1x4x128x128, .f32⟩
  | 87 => ⟨S1x4x128x128, .f32⟩
  | 88 => ⟨S1x4x128x128, .f32⟩
  | 89 => ⟨S1x1x4x128x128, .f32⟩
  | 90 => ⟨S1x4x128x128, .f32⟩
  | 91 => ⟨S1x4x128x128, .f32⟩
  | 92 => ⟨S1x4x128x128, .f32⟩
  | 93 => ⟨S1x4x128x128, .f32⟩
  | 94 => ⟨S1x1x4x128x128, .f32⟩
  | 95 => ⟨S1x4x128x128, .f32⟩
  | 96 => ⟨S1x4x128x128, .f32⟩
  | 97 => ⟨S1x4x128x128, .f32⟩
  | 98 => ⟨S1x4x128x128, .f32⟩
  | 99 => ⟨S1x1x4x128x128, .f32⟩
  | 100 => ⟨S1x4x128x128, .f32⟩
  | 101 => ⟨S1x4x128x128, .f32⟩
  | 102 => ⟨S1x4x128x128, .f32⟩
  | 103 => ⟨S1x4x128x128, .f32⟩
  | 104 => ⟨S1x1x4x128x128, .f32⟩
  | 105 => ⟨S1x4x128x128, .f32⟩
  | 106 => ⟨S1x4x128x128, .f32⟩
  | 107 => ⟨S1x4x128x128, .f32⟩
  | 108 => ⟨S1x4x128x128, .f32⟩
  | 109 => ⟨S1x1x4x128x128, .f32⟩
  | 110 => ⟨S1x4x128x128, .f32⟩
  | 111 => ⟨S1x4x128x128, .f32⟩
  | 112 => ⟨S1x4x128x128, .f32⟩
  | 113 => ⟨S1x4x128x128, .f32⟩
  | 114 => ⟨S1x1x4x128x128, .f32⟩
  | 115 => ⟨S1x4x128x128, .f32⟩
  | 116 => ⟨S1x4x128x128, .f32⟩
  | 117 => ⟨S1x4x128x128, .f32⟩
  | 118 => ⟨S1x4x128x128, .f32⟩
  | 119 => ⟨S1x1x4x128x128, .f32⟩
  | 120 => ⟨S1x4x128x128, .f32⟩
  | 121 => ⟨S1x4x128x128, .f32⟩
  | 122 => ⟨S1x4x128x128, .f32⟩
  | 123 => ⟨S1x4x128x128, .f32⟩
  | 124 => ⟨S1x1x4x128x128, .f32⟩
  | 125 => ⟨S1x4x128x128, .f32⟩
  | 126 => ⟨S1x4x128x128, .f32⟩
  | 127 => ⟨S1x4x128x128, .f32⟩
  | _ => ⟨S4096x3072, .f32⟩

abbrev hbmTy0_4 (i : Nat) : BufTy := match i % 128 with
  | 0 => ⟨S1x4x128x128, .f32⟩
  | 1 => ⟨S1x1x4x128x128, .f32⟩
  | 2 => ⟨S1x4x128x128, .f32⟩
  | 3 => ⟨S1x4x128x128, .f32⟩
  | 4 => ⟨S1x4x128x128, .f32⟩
  | 5 => ⟨S1x4x128x128, .f32⟩
  | 6 => ⟨S1x1x4x128x128, .f32⟩
  | 7 => ⟨S1x4x128x128, .f32⟩
  | 8 => ⟨S1x4x128x128, .f32⟩
  | 9 => ⟨S1x4x128x128, .f32⟩
  | 10 => ⟨S1x4x128x128, .f32⟩
  | 11 => ⟨S1x1x4x128x128, .f32⟩
  | 12 => ⟨S1x4x128x128, .f32⟩
  | 13 => ⟨S1x4x128x128, .f32⟩
  | 14 => ⟨S1x4x128x128, .f32⟩
  | 15 => ⟨S1x4x128x128, .f32⟩
  | 16 => ⟨S1x1x4x128x128, .f32⟩
  | 17 => ⟨S1x4x128x128, .f32⟩
  | 18 => ⟨S1x4x128x128, .f32⟩
  | 19 => ⟨S1x4x128x128, .f32⟩
  | 20 => ⟨S1x4x128x128, .f32⟩
  | 21 => ⟨S1x1x4x128x128, .f32⟩
  | 22 => ⟨S1x4x128x128, .f32⟩
  | 23 => ⟨S1x4x128x128, .f32⟩
  | 24 => ⟨S1x4x128x128, .f32⟩
  | 25 => ⟨S1x4x128x128, .f32⟩
  | 26 => ⟨S1x1x4x128x128, .f32⟩
  | 27 => ⟨S1x4x128x128, .f32⟩
  | 28 => ⟨S1x4x128x128, .f32⟩
  | 29 => ⟨S1x4x128x128, .f32⟩
  | 30 => ⟨S1x4x128x128, .f32⟩
  | 31 => ⟨S1x1x4x128x128, .f32⟩
  | 32 => ⟨S1x4x128x128, .f32⟩
  | 33 => ⟨S1x4x128x128, .f32⟩
  | 34 => ⟨S1x4x128x128, .f32⟩
  | 35 => ⟨S1x4x128x128, .f32⟩
  | 36 => ⟨S1x1x4x128x128, .f32⟩
  | 37 => ⟨S1x4x128x128, .f32⟩
  | 38 => ⟨S1x4x128x128, .f32⟩
  | 39 => ⟨S1x4x128x128, .f32⟩
  | 40 => ⟨S1x4x128x128, .f32⟩
  | 41 => ⟨S1x1x4x128x128, .f32⟩
  | 42 => ⟨S1x4x128x128, .f32⟩
  | 43 => ⟨S1x4x128x128, .f32⟩
  | 44 => ⟨S1x4x128x128, .f32⟩
  | 45 => ⟨S1x4x128x128, .f32⟩
  | 46 => ⟨S1x1x4x128x128, .f32⟩
  | 47 => ⟨S1x4x128x128, .f32⟩
  | 48 => ⟨S1x4x128x128, .f32⟩
  | 49 => ⟨S1x4x128x128, .f32⟩
  | 50 => ⟨S1x4x128x128, .f32⟩
  | 51 => ⟨S1x1x4x128x128, .f32⟩
  | 52 => ⟨S1x4x128x128, .f32⟩
  | 53 => ⟨S1x4x128x128, .f32⟩
  | 54 => ⟨S1x4x128x128, .f32⟩
  | 55 => ⟨S1x4x128x128, .f32⟩
  | 56 => ⟨S1x1x4x128x128, .f32⟩
  | 57 => ⟨S1x4x128x128, .f32⟩
  | 58 => ⟨S1x4x128x128, .f32⟩
  | 59 => ⟨S1x4x128x128, .f32⟩
  | 60 => ⟨S1x4x128x128, .f32⟩
  | 61 => ⟨S1x1x4x128x128, .f32⟩
  | 62 => ⟨S1x4x128x128, .f32⟩
  | 63 => ⟨S1x4x128x128, .f32⟩
  | 64 => ⟨S1x4x128x128, .f32⟩
  | 65 => ⟨S1x4x128x128, .f32⟩
  | 66 => ⟨S1x1x4x128x128, .f32⟩
  | 67 => ⟨S1x4x128x128, .f32⟩
  | 68 => ⟨S1x4x128x128, .f32⟩
  | 69 => ⟨S1x4x128x128, .f32⟩
  | 70 => ⟨S1x4x128x128, .f32⟩
  | 71 => ⟨S1x1x4x128x128, .f32⟩
  | 72 => ⟨S1x4x128x128, .f32⟩
  | 73 => ⟨S1x4x128x128, .f32⟩
  | 74 => ⟨S1x4x128x128, .f32⟩
  | 75 => ⟨S1x4x128x128, .f32⟩
  | 76 => ⟨S1x1x4x128x128, .f32⟩
  | 77 => ⟨S1x4x128x128, .f32⟩
  | 78 => ⟨S1x4x128x128, .f32⟩
  | 79 => ⟨S1x4x128x128, .f32⟩
  | 80 => ⟨S1x4x128x128, .f32⟩
  | 81 => ⟨S1x1x4x128x128, .f32⟩
  | 82 => ⟨S1x4x128x128, .f32⟩
  | 83 => ⟨S1x4x128x128, .f32⟩
  | 84 => ⟨S1x4x128x128, .f32⟩
  | 85 => ⟨S1x4x128x128, .f32⟩
  | 86 => ⟨S1x1x4x128x128, .f32⟩
  | 87 => ⟨S1x1x4x128x128, .f32⟩
  | 88 => ⟨S1x1x4x128x128, .f32⟩
  | 89 => ⟨S1x1x4x128x128, .f32⟩
  | 90 => ⟨S1x1x4x128x128, .f32⟩
  | 91 => ⟨S1x1x4x128x128, .f32⟩
  | 92 => ⟨S1x1x4x128x128, .f32⟩
  | 93 => ⟨S1x1x4x128x128, .f32⟩
  | 94 => ⟨S1x1x4x128x128, .f32⟩
  | 95 => ⟨S1x1x4x128x128, .f32⟩
  | 96 => ⟨S1x1x4x128x128, .f32⟩
  | 97 => ⟨S1x1x4x128x128, .f32⟩
  | 98 => ⟨S1x1x4x128x128, .f32⟩
  | 99 => ⟨S1x1x4x128x128, .f32⟩
  | 100 => ⟨S1x1x4x128x128, .f32⟩
  | 101 => ⟨S1x1x4x128x128, .f32⟩
  | 102 => ⟨S1x1x4x128x128, .f32⟩
  | 103 => ⟨S1x1x4x128x128, .f32⟩
  | 104 => ⟨S1x1x4x128x128, .f32⟩
  | 105 => ⟨S1x1x4x128x128, .f32⟩
  | 106 => ⟨S1x1x4x128x128, .f32⟩
  | 107 => ⟨S1x1x4x128x128, .f32⟩
  | 108 => ⟨S1x1x4x128x128, .f32⟩
  | 109 => ⟨S1x1x4x128x128, .f32⟩
  | 110 => ⟨S1x1x4x128x128, .f32⟩
  | 111 => ⟨S1x1x4x128x128, .f32⟩
  | 112 => ⟨S1x1x4x128x128, .f32⟩
  | 113 => ⟨S1x1x4x128x128, .f32⟩
  | 114 => ⟨S1x1x4x128x128, .f32⟩
  | 115 => ⟨S1x1x4x128x128, .f32⟩
  | 116 => ⟨S1x1x4x128x128, .f32⟩
  | 117 => ⟨S1x1x4x128x128, .f32⟩
  | 118 => ⟨S16x1x4x128x128, .f32⟩
  | 119 => ⟨S16x1x4x128x128, .f32⟩
  | 120 => ⟨S32x1x4x128x128, .f32⟩
  | 121 => ⟨S32x1x4x128x128, .f32⟩
  | 122 => ⟨S1x32x4x128x128, .f32⟩
  | 123 => ⟨S1x32x4x128x128, .f32⟩
  | 124 => ⟨S1x32x128x4x128, .f32⟩
  | 125 => ⟨S1x32x4x128x128, .f32⟩
  | 126 => ⟨S1x32x128x4x128, .f32⟩
  | 127 => ⟨S1x32x128x4x128, .f32⟩
  | _ => ⟨S4096x3072, .f32⟩

abbrev hbmTy0_5 (i : Nat) : BufTy := match i % 128 with
  | 0 => ⟨S1x32x128x4x128, .f32⟩
  | 1 => ⟨S1x32x4x128x128, .f32⟩
  | 2 => ⟨S1x32x4x128x128, .f32⟩
  | 3 => ⟨S1x32x4x128x128, .f32⟩
  | 4 => ⟨S1x32x128x4x128, .f32⟩
  | 5 => ⟨S1x32x128x4x128, .f32⟩
  | 6 => ⟨S1x32x4x128x128, .f32⟩
  | 7 => ⟨S1x32x4x128x128, .f32⟩
  | 8 => ⟨S1x32x4x128x128, .f32⟩
  | 9 => ⟨S1x32x128x4x128, .f32⟩
  | 10 => ⟨S1x32x128x4x128, .f32⟩
  | 11 => ⟨S1x32x4x128x128, .f32⟩
  | 12 => ⟨S1x32x128x4x128, .f32⟩
  | 13 => ⟨S1x32x128x4x128, .f32⟩
  | 14 => ⟨S1x4096x4x128, .f32⟩
  | 15 => ⟨S1x4096x4x128, .f32⟩
  | 16 => ⟨S1x4096x4x128, .f32⟩
  | 17 => ⟨S_, .f32⟩
  | 18 => ⟨S1x4096x4x128, .f32⟩
  | 19 => ⟨S1x4096x4x128, .f32⟩
  | 20 => ⟨S1x4096x512, .f32⟩
  | 21 => ⟨S1x4096x4x64, .f32⟩
  | 22 => ⟨S1x4096x4x64, .f32⟩
  | 23 => ⟨S1x4096x4x64, .f32⟩
  | 24 => ⟨S1x4096x4x64, .f32⟩
  | 25 => ⟨S1x4096x4x64, .f32⟩
  | 26 => ⟨S1x4096x4x64, .f32⟩
  | 27 => ⟨S1x4096x4x64, .f32⟩
  | 28 => ⟨S1x4096x4x64, .f32⟩
  | 29 => ⟨S1x4096x4x64, .f32⟩
  | 30 => ⟨S1x4096x4x64, .f32⟩
  | 31 => ⟨S1x4096x4x64, .f32⟩
  | 32 => ⟨S1x4096x4x64, .f32⟩
  | 33 => ⟨S1x4096x4x64, .f32⟩
  | 34 => ⟨S_, .f32⟩
  | 35 => ⟨S1x4096x4x128, .f32⟩
  | 36 => ⟨S_, .f32⟩
  | 37 => ⟨S1x4096x4x128, .f32⟩
  | 38 => ⟨S1x4096x4x128, .f32⟩
  | 39 => ⟨S1x4096x512, .f32⟩
  | 40 => ⟨S1x4096x4x64, .f32⟩
  | 41 => ⟨S1x4096x4x64, .f32⟩
  | 42 => ⟨S1x4096x4x64, .f32⟩
  | 43 => ⟨S1x4096x4x64, .f32⟩
  | 44 => ⟨S1x4096x4x64, .f32⟩
  | 45 => ⟨S1x4096x4x64, .f32⟩
  | 46 => ⟨S1x4096x4x64, .f32⟩
  | 47 => ⟨S1x4096x4x64, .f32⟩
  | 48 => ⟨S1x4096x4x64, .f32⟩
  | 49 => ⟨S1x4096x4x64, .f32⟩
  | 50 => ⟨S1x4096x4x64, .f32⟩
  | 51 => ⟨S1x4096x4x64, .f32⟩
  | 52 => ⟨S1x4096x4x64, .f32⟩
  | 53 => ⟨S_, .f32⟩
  | 54 => ⟨S1x4096x4x128, .f32⟩
  | 55 => ⟨S_, .f32⟩
  | 56 => ⟨S1x4096x4x128, .f32⟩
  | 57 => ⟨S1x4096x4x128, .f32⟩
  | 58 => ⟨S1x4096x512, .f32⟩
  | 59 => ⟨S1x4096x2048, .f32⟩
  | 60 => ⟨S4096x2048, .f32⟩
  | 61 => ⟨S4096x2048, .bf16⟩
  | _ => ⟨S4096x3072, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | 5 => hbmTy0_5 i
  | _ => ⟨S4096x3072, .f32⟩

abbrev bufTy : (tb : Table) → Fin (tcTables nBuf tb) → BufTy
  | .hbm, ⟨i, _⟩ => hbmTy i
  | _, _ => ⟨S4096x3072, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_cst : Ref sig .tc := ⟨.hbm, 14, rfl⟩
abbrev main_v12 : Ref sig .tc := ⟨.hbm, 15, rfl⟩
abbrev main_v13 : Ref sig .tc := ⟨.hbm, 16, rfl⟩
abbrev main_cst_0 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_v24 : Ref sig .tc := ⟨.hbm, 28, rfl⟩
abbrev main_v25 : Ref sig .tc := ⟨.hbm, 29, rfl⟩
abbrev main_v26 : Ref sig .tc := ⟨.hbm, 30, rfl⟩
abbrev main_v27 : Ref sig .tc := ⟨.hbm, 31, rfl⟩
abbrev main_v28 : Ref sig .tc := ⟨.hbm, 32, rfl⟩
abbrev main_v29 : Ref sig .tc := ⟨.hbm, 33, rfl⟩
abbrev main_v30 : Ref sig .tc := ⟨.hbm, 34, rfl⟩
abbrev main_v31 : Ref sig .tc := ⟨.hbm, 35, rfl⟩
abbrev main_v32 : Ref sig .tc := ⟨.hbm, 36, rfl⟩
abbrev main_v33 : Ref sig .tc := ⟨.hbm, 37, rfl⟩
abbrev main_v34 : Ref sig .tc := ⟨.hbm, 38, rfl⟩
abbrev main_v35 : Ref sig .tc := ⟨.hbm, 39, rfl⟩
abbrev main_v36 : Ref sig .tc := ⟨.hbm, 40, rfl⟩
abbrev main_v37 : Ref sig .tc := ⟨.hbm, 41, rfl⟩
abbrev main_v38 : Ref sig .tc := ⟨.hbm, 42, rfl⟩
abbrev main_v39 : Ref sig .tc := ⟨.hbm, 43, rfl⟩
abbrev main_v40 : Ref sig .tc := ⟨.hbm, 44, rfl⟩
abbrev main_v41 : Ref sig .tc := ⟨.hbm, 45, rfl⟩
abbrev main_cst_1 : Ref sig .tc := ⟨.hbm, 46, rfl⟩
abbrev main_v42 : Ref sig .tc := ⟨.hbm, 47, rfl⟩
abbrev main_v43 : Ref sig .tc := ⟨.hbm, 48, rfl⟩
abbrev main_cst_2 : Ref sig .tc := ⟨.hbm, 49, rfl⟩
abbrev main_v44 : Ref sig .tc := ⟨.hbm, 50, rfl⟩
abbrev main_v45 : Ref sig .tc := ⟨.hbm, 51, rfl⟩
abbrev main_v46 : Ref sig .tc := ⟨.hbm, 52, rfl⟩
abbrev main_v47 : Ref sig .tc := ⟨.hbm, 53, rfl⟩
abbrev main_v48 : Ref sig .tc := ⟨.hbm, 54, rfl⟩
abbrev main_v49 : Ref sig .tc := ⟨.hbm, 55, rfl⟩
abbrev main_v50 : Ref sig .tc := ⟨.hbm, 56, rfl⟩
abbrev main_v51 : Ref sig .tc := ⟨.hbm, 57, rfl⟩
abbrev main_v52 : Ref sig .tc := ⟨.hbm, 58, rfl⟩
abbrev main_v53 : Ref sig .tc := ⟨.hbm, 59, rfl⟩
abbrev main_v54 : Ref sig .tc := ⟨.hbm, 60, rfl⟩
abbrev main_v55 : Ref sig .tc := ⟨.hbm, 61, rfl⟩
abbrev main_v56 : Ref sig .tc := ⟨.hbm, 62, rfl⟩
abbrev main_v57 : Ref sig .tc := ⟨.hbm, 63, rfl⟩
abbrev main_v58 : Ref sig .tc := ⟨.hbm, 64, rfl⟩
abbrev main_v59 : Ref sig .tc := ⟨.hbm, 65, rfl⟩
abbrev main_v60 : Ref sig .tc := ⟨.hbm, 66, rfl⟩
abbrev main_v61 : Ref sig .tc := ⟨.hbm, 67, rfl⟩
abbrev main_v62 : Ref sig .tc := ⟨.hbm, 68, rfl⟩
abbrev main_v63 : Ref sig .tc := ⟨.hbm, 69, rfl⟩
abbrev main_v64 : Ref sig .tc := ⟨.hbm, 70, rfl⟩
abbrev main_v65 : Ref sig .tc := ⟨.hbm, 71, rfl⟩
abbrev main_v66 : Ref sig .tc := ⟨.hbm, 72, rfl⟩
abbrev main_v67 : Ref sig .tc := ⟨.hbm, 73, rfl⟩
abbrev main_v68 : Ref sig .tc := ⟨.hbm, 74, rfl⟩
abbrev main_v69 : Ref sig .tc := ⟨.hbm, 75, rfl⟩
abbrev main_v70 : Ref sig .tc := ⟨.hbm, 76, rfl⟩
abbrev main_cst_3 : Ref sig .tc := ⟨.hbm, 77, rfl⟩
abbrev main_v71 : Ref sig .tc := ⟨.hbm, 78, rfl⟩
abbrev main_v72 : Ref sig .tc := ⟨.hbm, 79, rfl⟩
abbrev main_cst_4 : Ref sig .tc := ⟨.hbm, 80, rfl⟩
abbrev main_v73 : Ref sig .tc := ⟨.hbm, 81, rfl⟩
abbrev main_v74 : Ref sig .tc := ⟨.hbm, 82, rfl⟩
abbrev main_v75 : Ref sig .tc := ⟨.hbm, 83, rfl⟩
abbrev main_v76 : Ref sig .tc := ⟨.hbm, 84, rfl⟩
abbrev main_v77 : Ref sig .tc := ⟨.hbm, 85, rfl⟩
abbrev main_cst_5 : Ref sig .tc := ⟨.hbm, 86, rfl⟩
abbrev main_v78 : Ref sig .tc := ⟨.hbm, 87, rfl⟩
abbrev main_v79 : Ref sig .tc := ⟨.hbm, 88, rfl⟩
abbrev main_v80 : Ref sig .tc := ⟨.hbm, 89, rfl⟩
abbrev main_v81 : Ref sig .tc := ⟨.hbm, 90, rfl⟩
abbrev main_v82 : Ref sig .tc := ⟨.hbm, 91, rfl⟩
abbrev main_v83 : Ref sig .tc := ⟨.hbm, 92, rfl⟩
abbrev main_v84 : Ref sig .tc := ⟨.hbm, 93, rfl⟩
abbrev main_v85 : Ref sig .tc := ⟨.hbm, 94, rfl⟩
abbrev main_v86 : Ref sig .tc := ⟨.hbm, 95, rfl⟩
abbrev main_v87 : Ref sig .tc := ⟨.hbm, 96, rfl⟩
abbrev main_v88 : Ref sig .tc := ⟨.hbm, 97, rfl⟩
abbrev main_cst_6 : Ref sig .tc := ⟨.hbm, 98, rfl⟩
abbrev main_v89 : Ref sig .tc := ⟨.hbm, 99, rfl⟩
abbrev main_v90 : Ref sig .tc := ⟨.hbm, 100, rfl⟩
abbrev main_v91 : Ref sig .tc := ⟨.hbm, 101, rfl⟩
abbrev main_cst_7 : Ref sig .tc := ⟨.hbm, 102, rfl⟩
abbrev main_call0_v0 : Ref sig .tc := ⟨.hbm, 103, rfl⟩
abbrev main_call0_v1 : Ref sig .tc := ⟨.hbm, 104, rfl⟩
abbrev main_v92 : Ref sig .tc := ⟨.hbm, 105, rfl⟩
abbrev main_v93 : Ref sig .tc := ⟨.hbm, 106, rfl⟩
abbrev main_v94 : Ref sig .tc := ⟨.hbm, 107, rfl⟩
abbrev main_v95 : Ref sig .tc := ⟨.hbm, 108, rfl⟩
abbrev main_v96 : Ref sig .tc := ⟨.hbm, 109, rfl⟩
abbrev main_v97 : Ref sig .tc := ⟨.hbm, 110, rfl⟩
abbrev main_cst_8 : Ref sig .tc := ⟨.hbm, 111, rfl⟩
abbrev main_call1_v0 : Ref sig .tc := ⟨.hbm, 112, rfl⟩
abbrev main_call1_v1 : Ref sig .tc := ⟨.hbm, 113, rfl⟩
abbrev main_call1_v2 : Ref sig .tc := ⟨.hbm, 114, rfl⟩
abbrev main_v98 : Ref sig .tc := ⟨.hbm, 115, rfl⟩
abbrev main_v99 : Ref sig .tc := ⟨.hbm, 116, rfl⟩
abbrev main_v100 : Ref sig .tc := ⟨.hbm, 117, rfl⟩
abbrev main_v101 : Ref sig .tc := ⟨.hbm, 118, rfl⟩
abbrev main_v102 : Ref sig .tc := ⟨.hbm, 119, rfl⟩
abbrev main_v103 : Ref sig .tc := ⟨.hbm, 120, rfl⟩
abbrev main_v104 : Ref sig .tc := ⟨.hbm, 121, rfl⟩
abbrev main_v105 : Ref sig .tc := ⟨.hbm, 122, rfl⟩
abbrev main_v106 : Ref sig .tc := ⟨.hbm, 123, rfl⟩
abbrev main_cst_9 : Ref sig .tc := ⟨.hbm, 124, rfl⟩
abbrev main_v107 : Ref sig .tc := ⟨.hbm, 125, rfl⟩
abbrev main_v108 : Ref sig .tc := ⟨.hbm, 126, rfl⟩
abbrev main_v109 : Ref sig .tc := ⟨.hbm, 127, rfl⟩
abbrev main_v110 : Ref sig .tc := ⟨.hbm, 128, rfl⟩
abbrev main_v111 : Ref sig .tc := ⟨.hbm, 129, rfl⟩
abbrev main_v112 : Ref sig .tc := ⟨.hbm, 130, rfl⟩
abbrev main_v113 : Ref sig .tc := ⟨.hbm, 131, rfl⟩
abbrev main_v114 : Ref sig .tc := ⟨.hbm, 132, rfl⟩
abbrev main_cst_10 : Ref sig .tc := ⟨.hbm, 133, rfl⟩
abbrev main_v115 : Ref sig .tc := ⟨.hbm, 134, rfl⟩
abbrev main_v116 : Ref sig .tc := ⟨.hbm, 135, rfl⟩
abbrev main_v117 : Ref sig .tc := ⟨.hbm, 136, rfl⟩
abbrev main_v118 : Ref sig .tc := ⟨.hbm, 137, rfl⟩
abbrev main_v119 : Ref sig .tc := ⟨.hbm, 138, rfl⟩
abbrev main_v120 : Ref sig .tc := ⟨.hbm, 139, rfl⟩
abbrev main_cst_11 : Ref sig .tc := ⟨.hbm, 140, rfl⟩
abbrev main_v121 : Ref sig .tc := ⟨.hbm, 141, rfl⟩
abbrev main_v122 : Ref sig .tc := ⟨.hbm, 142, rfl⟩
abbrev main_v123 : Ref sig .tc := ⟨.hbm, 143, rfl⟩
abbrev main_v124 : Ref sig .tc := ⟨.hbm, 144, rfl⟩
abbrev main_v125 : Ref sig .tc := ⟨.hbm, 145, rfl⟩
abbrev main_v126 : Ref sig .tc := ⟨.hbm, 146, rfl⟩
abbrev main_v127 : Ref sig .tc := ⟨.hbm, 147, rfl⟩
abbrev main_v128 : Ref sig .tc := ⟨.hbm, 148, rfl⟩
abbrev main_cst_12 : Ref sig .tc := ⟨.hbm, 149, rfl⟩
abbrev main_v129 : Ref sig .tc := ⟨.hbm, 150, rfl⟩
abbrev main_v130 : Ref sig .tc := ⟨.hbm, 151, rfl⟩
abbrev main_v131 : Ref sig .tc := ⟨.hbm, 152, rfl⟩
abbrev main_v132 : Ref sig .tc := ⟨.hbm, 153, rfl⟩
abbrev main_v133 : Ref sig .tc := ⟨.hbm, 154, rfl⟩
abbrev main_cst_13 : Ref sig .tc := ⟨.hbm, 155, rfl⟩
abbrev main_v134 : Ref sig .tc := ⟨.hbm, 156, rfl⟩
abbrev main_v135 : Ref sig .tc := ⟨.hbm, 157, rfl⟩
abbrev main_v136 : Ref sig .tc := ⟨.hbm, 158, rfl⟩
abbrev main_v137 : Ref sig .tc := ⟨.hbm, 159, rfl⟩
abbrev main_v138 : Ref sig .tc := ⟨.hbm, 160, rfl⟩
abbrev main_v139 : Ref sig .tc := ⟨.hbm, 161, rfl⟩
abbrev main_v140 : Ref sig .tc := ⟨.hbm, 162, rfl⟩
abbrev main_v141 : Ref sig .tc := ⟨.hbm, 163, rfl⟩
abbrev main_v142 : Ref sig .tc := ⟨.hbm, 164, rfl⟩
abbrev main_v143 : Ref sig .tc := ⟨.hbm, 165, rfl⟩
abbrev main_v144 : Ref sig .tc := ⟨.hbm, 166, rfl⟩
abbrev main_v145 : Ref sig .tc := ⟨.hbm, 167, rfl⟩
abbrev main_v146 : Ref sig .tc := ⟨.hbm, 168, rfl⟩
abbrev main_v147 : Ref sig .tc := ⟨.hbm, 169, rfl⟩
abbrev main_v148 : Ref sig .tc := ⟨.hbm, 170, rfl⟩
abbrev main_v149 : Ref sig .tc := ⟨.hbm, 171, rfl⟩
abbrev main_v150 : Ref sig .tc := ⟨.hbm, 172, rfl⟩
abbrev main_v151 : Ref sig .tc := ⟨.hbm, 173, rfl⟩
abbrev main_v152 : Ref sig .tc := ⟨.hbm, 174, rfl⟩
abbrev main_v153 : Ref sig .tc := ⟨.hbm, 175, rfl⟩
abbrev main_v154 : Ref sig .tc := ⟨.hbm, 176, rfl⟩
abbrev main_v155 : Ref sig .tc := ⟨.hbm, 177, rfl⟩
abbrev main_v156 : Ref sig .tc := ⟨.hbm, 178, rfl⟩
abbrev main_v157 : Ref sig .tc := ⟨.hbm, 179, rfl⟩
abbrev main_v158 : Ref sig .tc := ⟨.hbm, 180, rfl⟩
abbrev main_v159 : Ref sig .tc := ⟨.hbm, 181, rfl⟩
abbrev main_v160 : Ref sig .tc := ⟨.hbm, 182, rfl⟩
abbrev main_v161 : Ref sig .tc := ⟨.hbm, 183, rfl⟩
abbrev main_v162 : Ref sig .tc := ⟨.hbm, 184, rfl⟩
abbrev main_v163 : Ref sig .tc := ⟨.hbm, 185, rfl⟩
abbrev main_v164 : Ref sig .tc := ⟨.hbm, 186, rfl⟩
abbrev main_v165 : Ref sig .tc := ⟨.hbm, 187, rfl⟩
abbrev main_v166 : Ref sig .tc := ⟨.hbm, 188, rfl⟩
abbrev main_v167 : Ref sig .tc := ⟨.hbm, 189, rfl⟩
abbrev main_v168 : Ref sig .tc := ⟨.hbm, 190, rfl⟩
abbrev main_v169 : Ref sig .tc := ⟨.hbm, 191, rfl⟩
abbrev main_v170 : Ref sig .tc := ⟨.hbm, 192, rfl⟩
abbrev main_v171 : Ref sig .tc := ⟨.hbm, 193, rfl⟩
abbrev main_v172 : Ref sig .tc := ⟨.hbm, 194, rfl⟩
abbrev main_v173 : Ref sig .tc := ⟨.hbm, 195, rfl⟩
abbrev main_v174 : Ref sig .tc := ⟨.hbm, 196, rfl⟩
abbrev main_v175 : Ref sig .tc := ⟨.hbm, 197, rfl⟩
abbrev main_v176 : Ref sig .tc := ⟨.hbm, 198, rfl⟩
abbrev main_v177 : Ref sig .tc := ⟨.hbm, 199, rfl⟩
abbrev main_v178 : Ref sig .tc := ⟨.hbm, 200, rfl⟩
abbrev main_v179 : Ref sig .tc := ⟨.hbm, 201, rfl⟩
abbrev main_v180 : Ref sig .tc := ⟨.hbm, 202, rfl⟩
abbrev main_v181 : Ref sig .tc := ⟨.hbm, 203, rfl⟩
abbrev main_v182 : Ref sig .tc := ⟨.hbm, 204, rfl⟩
abbrev main_v183 : Ref sig .tc := ⟨.hbm, 205, rfl⟩
abbrev main_v184 : Ref sig .tc := ⟨.hbm, 206, rfl⟩
abbrev main_v185 : Ref sig .tc := ⟨.hbm, 207, rfl⟩
abbrev main_v186 : Ref sig .tc := ⟨.hbm, 208, rfl⟩
abbrev main_v187 : Ref sig .tc := ⟨.hbm, 209, rfl⟩
abbrev main_v188 : Ref sig .tc := ⟨.hbm, 210, rfl⟩
abbrev main_v189 : Ref sig .tc := ⟨.hbm, 211, rfl⟩
abbrev main_v190 : Ref sig .tc := ⟨.hbm, 212, rfl⟩
abbrev main_v191 : Ref sig .tc := ⟨.hbm, 213, rfl⟩
abbrev main_v192 : Ref sig .tc := ⟨.hbm, 214, rfl⟩
abbrev main_v193 : Ref sig .tc := ⟨.hbm, 215, rfl⟩
abbrev main_v194 : Ref sig .tc := ⟨.hbm, 216, rfl⟩
abbrev main_v195 : Ref sig .tc := ⟨.hbm, 217, rfl⟩
abbrev main_v196 : Ref sig .tc := ⟨.hbm, 218, rfl⟩
abbrev main_v197 : Ref sig .tc := ⟨.hbm, 219, rfl⟩
abbrev main_v198 : Ref sig .tc := ⟨.hbm, 220, rfl⟩
abbrev main_v199 : Ref sig .tc := ⟨.hbm, 221, rfl⟩
abbrev main_v200 : Ref sig .tc := ⟨.hbm, 222, rfl⟩
abbrev main_v201 : Ref sig .tc := ⟨.hbm, 223, rfl⟩
abbrev main_v202 : Ref sig .tc := ⟨.hbm, 224, rfl⟩
abbrev main_v203 : Ref sig .tc := ⟨.hbm, 225, rfl⟩
abbrev main_v204 : Ref sig .tc := ⟨.hbm, 226, rfl⟩
abbrev main_v205 : Ref sig .tc := ⟨.hbm, 227, rfl⟩
abbrev main_v206 : Ref sig .tc := ⟨.hbm, 228, rfl⟩
abbrev main_v207 : Ref sig .tc := ⟨.hbm, 229, rfl⟩
abbrev main_v208 : Ref sig .tc := ⟨.hbm, 230, rfl⟩
abbrev main_v209 : Ref sig .tc := ⟨.hbm, 231, rfl⟩
abbrev main_v210 : Ref sig .tc := ⟨.hbm, 232, rfl⟩
abbrev main_v211 : Ref sig .tc := ⟨.hbm, 233, rfl⟩
abbrev main_v212 : Ref sig .tc := ⟨.hbm, 234, rfl⟩
abbrev main_v213 : Ref sig .tc := ⟨.hbm, 235, rfl⟩
abbrev main_v214 : Ref sig .tc := ⟨.hbm, 236, rfl⟩
abbrev main_v215 : Ref sig .tc := ⟨.hbm, 237, rfl⟩
abbrev main_v216 : Ref sig .tc := ⟨.hbm, 238, rfl⟩
abbrev main_v217 : Ref sig .tc := ⟨.hbm, 239, rfl⟩
abbrev main_v218 : Ref sig .tc := ⟨.hbm, 240, rfl⟩
abbrev main_v219 : Ref sig .tc := ⟨.hbm, 241, rfl⟩
abbrev main_v220 : Ref sig .tc := ⟨.hbm, 242, rfl⟩
abbrev main_v221 : Ref sig .tc := ⟨.hbm, 243, rfl⟩
abbrev main_v222 : Ref sig .tc := ⟨.hbm, 244, rfl⟩
abbrev main_v223 : Ref sig .tc := ⟨.hbm, 245, rfl⟩
abbrev main_v224 : Ref sig .tc := ⟨.hbm, 246, rfl⟩
abbrev main_v225 : Ref sig .tc := ⟨.hbm, 247, rfl⟩
abbrev main_v226 : Ref sig .tc := ⟨.hbm, 248, rfl⟩
abbrev main_v227 : Ref sig .tc := ⟨.hbm, 249, rfl⟩
abbrev main_v228 : Ref sig .tc := ⟨.hbm, 250, rfl⟩
abbrev main_v229 : Ref sig .tc := ⟨.hbm, 251, rfl⟩
abbrev main_v230 : Ref sig .tc := ⟨.hbm, 252, rfl⟩
abbrev main_v231 : Ref sig .tc := ⟨.hbm, 253, rfl⟩
abbrev main_v232 : Ref sig .tc := ⟨.hbm, 254, rfl⟩
abbrev main_v233 : Ref sig .tc := ⟨.hbm, 255, rfl⟩
abbrev main_v234 : Ref sig .tc := ⟨.hbm, 256, rfl⟩
abbrev main_v235 : Ref sig .tc := ⟨.hbm, 257, rfl⟩
abbrev main_v236 : Ref sig .tc := ⟨.hbm, 258, rfl⟩
abbrev main_v237 : Ref sig .tc := ⟨.hbm, 259, rfl⟩
abbrev main_v238 : Ref sig .tc := ⟨.hbm, 260, rfl⟩
abbrev main_v239 : Ref sig .tc := ⟨.hbm, 261, rfl⟩
abbrev main_v240 : Ref sig .tc := ⟨.hbm, 262, rfl⟩
abbrev main_v241 : Ref sig .tc := ⟨.hbm, 263, rfl⟩
abbrev main_v242 : Ref sig .tc := ⟨.hbm, 264, rfl⟩
abbrev main_v243 : Ref sig .tc := ⟨.hbm, 265, rfl⟩
abbrev main_v244 : Ref sig .tc := ⟨.hbm, 266, rfl⟩
abbrev main_v245 : Ref sig .tc := ⟨.hbm, 267, rfl⟩
abbrev main_v246 : Ref sig .tc := ⟨.hbm, 268, rfl⟩
abbrev main_v247 : Ref sig .tc := ⟨.hbm, 269, rfl⟩
abbrev main_v248 : Ref sig .tc := ⟨.hbm, 270, rfl⟩
abbrev main_v249 : Ref sig .tc := ⟨.hbm, 271, rfl⟩
abbrev main_v250 : Ref sig .tc := ⟨.hbm, 272, rfl⟩
abbrev main_v251 : Ref sig .tc := ⟨.hbm, 273, rfl⟩
abbrev main_v252 : Ref sig .tc := ⟨.hbm, 274, rfl⟩
abbrev main_v253 : Ref sig .tc := ⟨.hbm, 275, rfl⟩
abbrev main_v254 : Ref sig .tc := ⟨.hbm, 276, rfl⟩
abbrev main_v255 : Ref sig .tc := ⟨.hbm, 277, rfl⟩
abbrev main_v256 : Ref sig .tc := ⟨.hbm, 278, rfl⟩
abbrev main_v257 : Ref sig .tc := ⟨.hbm, 279, rfl⟩
abbrev main_v258 : Ref sig .tc := ⟨.hbm, 280, rfl⟩
abbrev main_v259 : Ref sig .tc := ⟨.hbm, 281, rfl⟩
abbrev main_v260 : Ref sig .tc := ⟨.hbm, 282, rfl⟩
abbrev main_v261 : Ref sig .tc := ⟨.hbm, 283, rfl⟩
abbrev main_v262 : Ref sig .tc := ⟨.hbm, 284, rfl⟩
abbrev main_v263 : Ref sig .tc := ⟨.hbm, 285, rfl⟩
abbrev main_v264 : Ref sig .tc := ⟨.hbm, 286, rfl⟩
abbrev main_v265 : Ref sig .tc := ⟨.hbm, 287, rfl⟩
abbrev main_v266 : Ref sig .tc := ⟨.hbm, 288, rfl⟩
abbrev main_v267 : Ref sig .tc := ⟨.hbm, 289, rfl⟩
abbrev main_v268 : Ref sig .tc := ⟨.hbm, 290, rfl⟩
abbrev main_v269 : Ref sig .tc := ⟨.hbm, 291, rfl⟩
abbrev main_v270 : Ref sig .tc := ⟨.hbm, 292, rfl⟩
abbrev main_v271 : Ref sig .tc := ⟨.hbm, 293, rfl⟩
abbrev main_v272 : Ref sig .tc := ⟨.hbm, 294, rfl⟩
abbrev main_v273 : Ref sig .tc := ⟨.hbm, 295, rfl⟩
abbrev main_v274 : Ref sig .tc := ⟨.hbm, 296, rfl⟩
abbrev main_v275 : Ref sig .tc := ⟨.hbm, 297, rfl⟩
abbrev main_v276 : Ref sig .tc := ⟨.hbm, 298, rfl⟩
abbrev main_v277 : Ref sig .tc := ⟨.hbm, 299, rfl⟩
abbrev main_v278 : Ref sig .tc := ⟨.hbm, 300, rfl⟩
abbrev main_v279 : Ref sig .tc := ⟨.hbm, 301, rfl⟩
abbrev main_v280 : Ref sig .tc := ⟨.hbm, 302, rfl⟩
abbrev main_v281 : Ref sig .tc := ⟨.hbm, 303, rfl⟩
abbrev main_v282 : Ref sig .tc := ⟨.hbm, 304, rfl⟩
abbrev main_v283 : Ref sig .tc := ⟨.hbm, 305, rfl⟩
abbrev main_v284 : Ref sig .tc := ⟨.hbm, 306, rfl⟩
abbrev main_v285 : Ref sig .tc := ⟨.hbm, 307, rfl⟩
abbrev main_v286 : Ref sig .tc := ⟨.hbm, 308, rfl⟩
abbrev main_v287 : Ref sig .tc := ⟨.hbm, 309, rfl⟩
abbrev main_v288 : Ref sig .tc := ⟨.hbm, 310, rfl⟩
abbrev main_v289 : Ref sig .tc := ⟨.hbm, 311, rfl⟩
abbrev main_v290 : Ref sig .tc := ⟨.hbm, 312, rfl⟩
abbrev main_v291 : Ref sig .tc := ⟨.hbm, 313, rfl⟩
abbrev main_v292 : Ref sig .tc := ⟨.hbm, 314, rfl⟩
abbrev main_v293 : Ref sig .tc := ⟨.hbm, 315, rfl⟩
abbrev main_v294 : Ref sig .tc := ⟨.hbm, 316, rfl⟩
abbrev main_v295 : Ref sig .tc := ⟨.hbm, 317, rfl⟩
abbrev main_v296 : Ref sig .tc := ⟨.hbm, 318, rfl⟩
abbrev main_v297 : Ref sig .tc := ⟨.hbm, 319, rfl⟩
abbrev main_v298 : Ref sig .tc := ⟨.hbm, 320, rfl⟩
abbrev main_v299 : Ref sig .tc := ⟨.hbm, 321, rfl⟩
abbrev main_v300 : Ref sig .tc := ⟨.hbm, 322, rfl⟩
abbrev main_v301 : Ref sig .tc := ⟨.hbm, 323, rfl⟩
abbrev main_v302 : Ref sig .tc := ⟨.hbm, 324, rfl⟩
abbrev main_v303 : Ref sig .tc := ⟨.hbm, 325, rfl⟩
abbrev main_v304 : Ref sig .tc := ⟨.hbm, 326, rfl⟩
abbrev main_v305 : Ref sig .tc := ⟨.hbm, 327, rfl⟩
abbrev main_v306 : Ref sig .tc := ⟨.hbm, 328, rfl⟩
abbrev main_v307 : Ref sig .tc := ⟨.hbm, 329, rfl⟩
abbrev main_v308 : Ref sig .tc := ⟨.hbm, 330, rfl⟩
abbrev main_v309 : Ref sig .tc := ⟨.hbm, 331, rfl⟩
abbrev main_v310 : Ref sig .tc := ⟨.hbm, 332, rfl⟩
abbrev main_v311 : Ref sig .tc := ⟨.hbm, 333, rfl⟩
abbrev main_v312 : Ref sig .tc := ⟨.hbm, 334, rfl⟩
abbrev main_v313 : Ref sig .tc := ⟨.hbm, 335, rfl⟩
abbrev main_v314 : Ref sig .tc := ⟨.hbm, 336, rfl⟩
abbrev main_v315 : Ref sig .tc := ⟨.hbm, 337, rfl⟩
abbrev main_v316 : Ref sig .tc := ⟨.hbm, 338, rfl⟩
abbrev main_v317 : Ref sig .tc := ⟨.hbm, 339, rfl⟩
abbrev main_v318 : Ref sig .tc := ⟨.hbm, 340, rfl⟩
abbrev main_v319 : Ref sig .tc := ⟨.hbm, 341, rfl⟩
abbrev main_v320 : Ref sig .tc := ⟨.hbm, 342, rfl⟩
abbrev main_v321 : Ref sig .tc := ⟨.hbm, 343, rfl⟩
abbrev main_v322 : Ref sig .tc := ⟨.hbm, 344, rfl⟩
abbrev main_v323 : Ref sig .tc := ⟨.hbm, 345, rfl⟩
abbrev main_v324 : Ref sig .tc := ⟨.hbm, 346, rfl⟩
abbrev main_v325 : Ref sig .tc := ⟨.hbm, 347, rfl⟩
abbrev main_v326 : Ref sig .tc := ⟨.hbm, 348, rfl⟩
abbrev main_v327 : Ref sig .tc := ⟨.hbm, 349, rfl⟩
abbrev main_v328 : Ref sig .tc := ⟨.hbm, 350, rfl⟩
abbrev main_v329 : Ref sig .tc := ⟨.hbm, 351, rfl⟩
abbrev main_v330 : Ref sig .tc := ⟨.hbm, 352, rfl⟩
abbrev main_v331 : Ref sig .tc := ⟨.hbm, 353, rfl⟩
abbrev main_v332 : Ref sig .tc := ⟨.hbm, 354, rfl⟩
abbrev main_v333 : Ref sig .tc := ⟨.hbm, 355, rfl⟩
abbrev main_v334 : Ref sig .tc := ⟨.hbm, 356, rfl⟩
abbrev main_v335 : Ref sig .tc := ⟨.hbm, 357, rfl⟩
abbrev main_v336 : Ref sig .tc := ⟨.hbm, 358, rfl⟩
abbrev main_v337 : Ref sig .tc := ⟨.hbm, 359, rfl⟩
abbrev main_v338 : Ref sig .tc := ⟨.hbm, 360, rfl⟩
abbrev main_v339 : Ref sig .tc := ⟨.hbm, 361, rfl⟩
abbrev main_v340 : Ref sig .tc := ⟨.hbm, 362, rfl⟩
abbrev main_cst_14 : Ref sig .tc := ⟨.hbm, 363, rfl⟩
abbrev main_v341 : Ref sig .tc := ⟨.hbm, 364, rfl⟩
abbrev main_v342 : Ref sig .tc := ⟨.hbm, 365, rfl⟩
abbrev main_cst_15 : Ref sig .tc := ⟨.hbm, 366, rfl⟩
abbrev main_v343 : Ref sig .tc := ⟨.hbm, 367, rfl⟩
abbrev main_v344 : Ref sig .tc := ⟨.hbm, 368, rfl⟩
abbrev main_cst_16 : Ref sig .tc := ⟨.hbm, 369, rfl⟩
abbrev main_v345 : Ref sig .tc := ⟨.hbm, 370, rfl⟩
abbrev main_v346 : Ref sig .tc := ⟨.hbm, 371, rfl⟩
abbrev main_v347 : Ref sig .tc := ⟨.hbm, 372, rfl⟩
abbrev main_v348 : Ref sig .tc := ⟨.hbm, 373, rfl⟩
abbrev main_cst_17 : Ref sig .tc := ⟨.hbm, 374, rfl⟩
abbrev main_v349 : Ref sig .tc := ⟨.hbm, 375, rfl⟩
abbrev main_v350 : Ref sig .tc := ⟨.hbm, 376, rfl⟩
abbrev main_v351 : Ref sig .tc := ⟨.hbm, 377, rfl⟩
abbrev main_v352 : Ref sig .tc := ⟨.hbm, 378, rfl⟩
abbrev main_v353 : Ref sig .tc := ⟨.hbm, 379, rfl⟩
abbrev main_call2_v0 : Ref sig .tc := ⟨.hbm, 380, rfl⟩
abbrev main_call2_v1 : Ref sig .tc := ⟨.hbm, 381, rfl⟩
abbrev main_call2_cst : Ref sig .tc := ⟨.hbm, 382, rfl⟩
abbrev main_call2_v2 : Ref sig .tc := ⟨.hbm, 383, rfl⟩
abbrev main_call2_v3 : Ref sig .tc := ⟨.hbm, 384, rfl⟩
abbrev main_call2_cst_0 : Ref sig .tc := ⟨.hbm, 385, rfl⟩
abbrev main_call2_v4 : Ref sig .tc := ⟨.hbm, 386, rfl⟩
abbrev main_v354_2 : Ref sig .tc := ⟨.hbm, 387, rfl⟩
abbrev main_call2_cst_1 : Ref sig .tc := ⟨.hbm, 388, rfl⟩
abbrev main_call2_v6 : Ref sig .tc := ⟨.hbm, 389, rfl⟩
abbrev main_call2_v7 : Ref sig .tc := ⟨.hbm, 390, rfl⟩
abbrev main_v354_1 : Ref sig .tc := ⟨.hbm, 391, rfl⟩
abbrev main_v354_0 : Ref sig .tc := ⟨.hbm, 392, rfl⟩
abbrev main_v355 : Ref sig .tc := ⟨.hbm, 393, rfl⟩
abbrev main_v356 : Ref sig .tc := ⟨.hbm, 394, rfl⟩
abbrev main_v357 : Ref sig .tc := ⟨.hbm, 395, rfl⟩
abbrev main_cst_18 : Ref sig .tc := ⟨.hbm, 396, rfl⟩
abbrev main_v358 : Ref sig .tc := ⟨.hbm, 397, rfl⟩
abbrev main_v359 : Ref sig .tc := ⟨.hbm, 398, rfl⟩
abbrev main_v360 : Ref sig .tc := ⟨.hbm, 399, rfl⟩
abbrev main_call3_v0 : Ref sig .tc := ⟨.hbm, 400, rfl⟩
abbrev main_call3_v1 : Ref sig .tc := ⟨.hbm, 401, rfl⟩
abbrev main_call3_v2 : Ref sig .tc := ⟨.hbm, 402, rfl⟩
abbrev main_v361 : Ref sig .tc := ⟨.hbm, 403, rfl⟩
abbrev main_v362 : Ref sig .tc := ⟨.hbm, 404, rfl⟩
abbrev main_v363 : Ref sig .tc := ⟨.hbm, 405, rfl⟩
abbrev main_cst_19 : Ref sig .tc := ⟨.hbm, 406, rfl⟩
abbrev main_v364 : Ref sig .tc := ⟨.hbm, 407, rfl⟩
abbrev main_v365 : Ref sig .tc := ⟨.hbm, 408, rfl⟩
abbrev main_v366 : Ref sig .tc := ⟨.hbm, 409, rfl⟩
abbrev main_v367 : Ref sig .tc := ⟨.hbm, 410, rfl⟩
abbrev main_v368 : Ref sig .tc := ⟨.hbm, 411, rfl⟩
abbrev main_cst_20 : Ref sig .tc := ⟨.hbm, 412, rfl⟩
abbrev main_v369 : Ref sig .tc := ⟨.hbm, 413, rfl⟩
abbrev main_v370 : Ref sig .tc := ⟨.hbm, 414, rfl⟩
abbrev main_cst_21 : Ref sig .tc := ⟨.hbm, 415, rfl⟩
abbrev main_v371 : Ref sig .tc := ⟨.hbm, 416, rfl⟩
abbrev main_v372 : Ref sig .tc := ⟨.hbm, 417, rfl⟩
abbrev main_v373 : Ref sig .tc := ⟨.hbm, 418, rfl⟩
abbrev main_v374 : Ref sig .tc := ⟨.hbm, 419, rfl⟩
abbrev main_v375 : Ref sig .tc := ⟨.hbm, 420, rfl⟩
abbrev main_v376 : Ref sig .tc := ⟨.hbm, 421, rfl⟩
abbrev main_v377 : Ref sig .tc := ⟨.hbm, 422, rfl⟩
abbrev main_v378 : Ref sig .tc := ⟨.hbm, 423, rfl⟩
abbrev main_v379 : Ref sig .tc := ⟨.hbm, 424, rfl⟩
abbrev main_v380 : Ref sig .tc := ⟨.hbm, 425, rfl⟩
abbrev main_v381 : Ref sig .tc := ⟨.hbm, 426, rfl⟩
abbrev main_v382 : Ref sig .tc := ⟨.hbm, 427, rfl⟩
abbrev main_v383 : Ref sig .tc := ⟨.hbm, 428, rfl⟩
abbrev main_v384 : Ref sig .tc := ⟨.hbm, 429, rfl⟩
abbrev main_v385 : Ref sig .tc := ⟨.hbm, 430, rfl⟩
abbrev main_v386 : Ref sig .tc := ⟨.hbm, 431, rfl⟩
abbrev main_cst_22 : Ref sig .tc := ⟨.hbm, 432, rfl⟩
abbrev main_v387 : Ref sig .tc := ⟨.hbm, 433, rfl⟩
abbrev main_v388 : Ref sig .tc := ⟨.hbm, 434, rfl⟩
abbrev main_v389 : Ref sig .tc := ⟨.hbm, 435, rfl⟩
abbrev main_cst_23 : Ref sig .tc := ⟨.hbm, 436, rfl⟩
abbrev main_v390 : Ref sig .tc := ⟨.hbm, 437, rfl⟩
abbrev main_v391 : Ref sig .tc := ⟨.hbm, 438, rfl⟩
abbrev main_v392 : Ref sig .tc := ⟨.hbm, 439, rfl⟩
abbrev main_v393 : Ref sig .tc := ⟨.hbm, 440, rfl⟩
abbrev main_v394 : Ref sig .tc := ⟨.hbm, 441, rfl⟩
abbrev main_v395 : Ref sig .tc := ⟨.hbm, 442, rfl⟩
abbrev main_v396 : Ref sig .tc := ⟨.hbm, 443, rfl⟩
abbrev main_v397 : Ref sig .tc := ⟨.hbm, 444, rfl⟩
abbrev main_v398 : Ref sig .tc := ⟨.hbm, 445, rfl⟩
abbrev main_v399 : Ref sig .tc := ⟨.hbm, 446, rfl⟩
abbrev main_v400 : Ref sig .tc := ⟨.hbm, 447, rfl⟩
abbrev main_v401 : Ref sig .tc := ⟨.hbm, 448, rfl⟩
abbrev main_v402 : Ref sig .tc := ⟨.hbm, 449, rfl⟩
abbrev main_v403 : Ref sig .tc := ⟨.hbm, 450, rfl⟩
abbrev main_v404 : Ref sig .tc := ⟨.hbm, 451, rfl⟩
abbrev main_v405 : Ref sig .tc := ⟨.hbm, 452, rfl⟩
abbrev main_v406 : Ref sig .tc := ⟨.hbm, 453, rfl⟩
abbrev main_v407 : Ref sig .tc := ⟨.hbm, 454, rfl⟩
abbrev main_v408 : Ref sig .tc := ⟨.hbm, 455, rfl⟩
abbrev main_v409 : Ref sig .tc := ⟨.hbm, 456, rfl⟩
abbrev main_v410 : Ref sig .tc := ⟨.hbm, 457, rfl⟩
abbrev main_v411 : Ref sig .tc := ⟨.hbm, 458, rfl⟩
abbrev main_v412 : Ref sig .tc := ⟨.hbm, 459, rfl⟩
abbrev main_v413 : Ref sig .tc := ⟨.hbm, 460, rfl⟩
abbrev main_v414 : Ref sig .tc := ⟨.hbm, 461, rfl⟩
abbrev main_v415 : Ref sig .tc := ⟨.hbm, 462, rfl⟩
abbrev main_v416 : Ref sig .tc := ⟨.hbm, 463, rfl⟩
abbrev main_v417 : Ref sig .tc := ⟨.hbm, 464, rfl⟩
abbrev main_v418 : Ref sig .tc := ⟨.hbm, 465, rfl⟩
abbrev main_v419 : Ref sig .tc := ⟨.hbm, 466, rfl⟩
abbrev main_v420 : Ref sig .tc := ⟨.hbm, 467, rfl⟩
abbrev main_v421 : Ref sig .tc := ⟨.hbm, 468, rfl⟩
abbrev main_v422 : Ref sig .tc := ⟨.hbm, 469, rfl⟩
abbrev main_v423 : Ref sig .tc := ⟨.hbm, 470, rfl⟩
abbrev main_v424 : Ref sig .tc := ⟨.hbm, 471, rfl⟩
abbrev main_v425 : Ref sig .tc := ⟨.hbm, 472, rfl⟩
abbrev main_v426 : Ref sig .tc := ⟨.hbm, 473, rfl⟩
abbrev main_v427 : Ref sig .tc := ⟨.hbm, 474, rfl⟩
abbrev main_v428 : Ref sig .tc := ⟨.hbm, 475, rfl⟩
abbrev main_v429 : Ref sig .tc := ⟨.hbm, 476, rfl⟩
abbrev main_v430 : Ref sig .tc := ⟨.hbm, 477, rfl⟩
abbrev main_v431 : Ref sig .tc := ⟨.hbm, 478, rfl⟩
abbrev main_v432 : Ref sig .tc := ⟨.hbm, 479, rfl⟩
abbrev main_v433 : Ref sig .tc := ⟨.hbm, 480, rfl⟩
abbrev main_v434 : Ref sig .tc := ⟨.hbm, 481, rfl⟩
abbrev main_v435 : Ref sig .tc := ⟨.hbm, 482, rfl⟩
abbrev main_v436 : Ref sig .tc := ⟨.hbm, 483, rfl⟩
abbrev main_v437 : Ref sig .tc := ⟨.hbm, 484, rfl⟩
abbrev main_v438 : Ref sig .tc := ⟨.hbm, 485, rfl⟩
abbrev main_v439 : Ref sig .tc := ⟨.hbm, 486, rfl⟩
abbrev main_v440 : Ref sig .tc := ⟨.hbm, 487, rfl⟩
abbrev main_v441 : Ref sig .tc := ⟨.hbm, 488, rfl⟩
abbrev main_v442 : Ref sig .tc := ⟨.hbm, 489, rfl⟩
abbrev main_v443 : Ref sig .tc := ⟨.hbm, 490, rfl⟩
abbrev main_v444 : Ref sig .tc := ⟨.hbm, 491, rfl⟩
abbrev main_v445 : Ref sig .tc := ⟨.hbm, 492, rfl⟩
abbrev main_v446 : Ref sig .tc := ⟨.hbm, 493, rfl⟩
abbrev main_v447 : Ref sig .tc := ⟨.hbm, 494, rfl⟩
abbrev main_v448 : Ref sig .tc := ⟨.hbm, 495, rfl⟩
abbrev main_v449 : Ref sig .tc := ⟨.hbm, 496, rfl⟩
abbrev main_v450 : Ref sig .tc := ⟨.hbm, 497, rfl⟩
abbrev main_v451 : Ref sig .tc := ⟨.hbm, 498, rfl⟩
abbrev main_v452 : Ref sig .tc := ⟨.hbm, 499, rfl⟩
abbrev main_v453 : Ref sig .tc := ⟨.hbm, 500, rfl⟩
abbrev main_v454 : Ref sig .tc := ⟨.hbm, 501, rfl⟩
abbrev main_v455 : Ref sig .tc := ⟨.hbm, 502, rfl⟩
abbrev main_v456 : Ref sig .tc := ⟨.hbm, 503, rfl⟩
abbrev main_v457 : Ref sig .tc := ⟨.hbm, 504, rfl⟩
abbrev main_v458 : Ref sig .tc := ⟨.hbm, 505, rfl⟩
abbrev main_v459 : Ref sig .tc := ⟨.hbm, 506, rfl⟩
abbrev main_v460 : Ref sig .tc := ⟨.hbm, 507, rfl⟩
abbrev main_v461 : Ref sig .tc := ⟨.hbm, 508, rfl⟩
abbrev main_v462 : Ref sig .tc := ⟨.hbm, 509, rfl⟩
abbrev main_v463 : Ref sig .tc := ⟨.hbm, 510, rfl⟩
abbrev main_v464 : Ref sig .tc := ⟨.hbm, 511, rfl⟩
abbrev main_v465 : Ref sig .tc := ⟨.hbm, 512, rfl⟩
abbrev main_v466 : Ref sig .tc := ⟨.hbm, 513, rfl⟩
abbrev main_v467 : Ref sig .tc := ⟨.hbm, 514, rfl⟩
abbrev main_v468 : Ref sig .tc := ⟨.hbm, 515, rfl⟩
abbrev main_v469 : Ref sig .tc := ⟨.hbm, 516, rfl⟩
abbrev main_v470 : Ref sig .tc := ⟨.hbm, 517, rfl⟩
abbrev main_v471 : Ref sig .tc := ⟨.hbm, 518, rfl⟩
abbrev main_v472 : Ref sig .tc := ⟨.hbm, 519, rfl⟩
abbrev main_v473 : Ref sig .tc := ⟨.hbm, 520, rfl⟩
abbrev main_v474 : Ref sig .tc := ⟨.hbm, 521, rfl⟩
abbrev main_v475 : Ref sig .tc := ⟨.hbm, 522, rfl⟩
abbrev main_v476 : Ref sig .tc := ⟨.hbm, 523, rfl⟩
abbrev main_v477 : Ref sig .tc := ⟨.hbm, 524, rfl⟩
abbrev main_v478 : Ref sig .tc := ⟨.hbm, 525, rfl⟩
abbrev main_v479 : Ref sig .tc := ⟨.hbm, 526, rfl⟩
abbrev main_v480 : Ref sig .tc := ⟨.hbm, 527, rfl⟩
abbrev main_v481 : Ref sig .tc := ⟨.hbm, 528, rfl⟩
abbrev main_v482 : Ref sig .tc := ⟨.hbm, 529, rfl⟩
abbrev main_v483 : Ref sig .tc := ⟨.hbm, 530, rfl⟩
abbrev main_v484 : Ref sig .tc := ⟨.hbm, 531, rfl⟩
abbrev main_v485 : Ref sig .tc := ⟨.hbm, 532, rfl⟩
abbrev main_v486 : Ref sig .tc := ⟨.hbm, 533, rfl⟩
abbrev main_v487 : Ref sig .tc := ⟨.hbm, 534, rfl⟩
abbrev main_v488 : Ref sig .tc := ⟨.hbm, 535, rfl⟩
abbrev main_v489 : Ref sig .tc := ⟨.hbm, 536, rfl⟩
abbrev main_v490 : Ref sig .tc := ⟨.hbm, 537, rfl⟩
abbrev main_v491 : Ref sig .tc := ⟨.hbm, 538, rfl⟩
abbrev main_v492 : Ref sig .tc := ⟨.hbm, 539, rfl⟩
abbrev main_v493 : Ref sig .tc := ⟨.hbm, 540, rfl⟩
abbrev main_v494 : Ref sig .tc := ⟨.hbm, 541, rfl⟩
abbrev main_v495 : Ref sig .tc := ⟨.hbm, 542, rfl⟩
abbrev main_v496 : Ref sig .tc := ⟨.hbm, 543, rfl⟩
abbrev main_v497 : Ref sig .tc := ⟨.hbm, 544, rfl⟩
abbrev main_v498 : Ref sig .tc := ⟨.hbm, 545, rfl⟩
abbrev main_v499 : Ref sig .tc := ⟨.hbm, 546, rfl⟩
abbrev main_v500 : Ref sig .tc := ⟨.hbm, 547, rfl⟩
abbrev main_v501 : Ref sig .tc := ⟨.hbm, 548, rfl⟩
abbrev main_v502 : Ref sig .tc := ⟨.hbm, 549, rfl⟩
abbrev main_v503 : Ref sig .tc := ⟨.hbm, 550, rfl⟩
abbrev main_v504 : Ref sig .tc := ⟨.hbm, 551, rfl⟩
abbrev main_v505 : Ref sig .tc := ⟨.hbm, 552, rfl⟩
abbrev main_v506 : Ref sig .tc := ⟨.hbm, 553, rfl⟩
abbrev main_v507 : Ref sig .tc := ⟨.hbm, 554, rfl⟩
abbrev main_v508 : Ref sig .tc := ⟨.hbm, 555, rfl⟩
abbrev main_v509 : Ref sig .tc := ⟨.hbm, 556, rfl⟩
abbrev main_v510 : Ref sig .tc := ⟨.hbm, 557, rfl⟩
abbrev main_v511 : Ref sig .tc := ⟨.hbm, 558, rfl⟩
abbrev main_v512 : Ref sig .tc := ⟨.hbm, 559, rfl⟩
abbrev main_v513 : Ref sig .tc := ⟨.hbm, 560, rfl⟩
abbrev main_v514 : Ref sig .tc := ⟨.hbm, 561, rfl⟩
abbrev main_v515 : Ref sig .tc := ⟨.hbm, 562, rfl⟩
abbrev main_v516 : Ref sig .tc := ⟨.hbm, 563, rfl⟩
abbrev main_v517 : Ref sig .tc := ⟨.hbm, 564, rfl⟩
abbrev main_v518 : Ref sig .tc := ⟨.hbm, 565, rfl⟩
abbrev main_v519 : Ref sig .tc := ⟨.hbm, 566, rfl⟩
abbrev main_v520 : Ref sig .tc := ⟨.hbm, 567, rfl⟩
abbrev main_v521 : Ref sig .tc := ⟨.hbm, 568, rfl⟩
abbrev main_v522 : Ref sig .tc := ⟨.hbm, 569, rfl⟩
abbrev main_v523 : Ref sig .tc := ⟨.hbm, 570, rfl⟩
abbrev main_v524 : Ref sig .tc := ⟨.hbm, 571, rfl⟩
abbrev main_v525 : Ref sig .tc := ⟨.hbm, 572, rfl⟩
abbrev main_v526 : Ref sig .tc := ⟨.hbm, 573, rfl⟩
abbrev main_v527 : Ref sig .tc := ⟨.hbm, 574, rfl⟩
abbrev main_v528 : Ref sig .tc := ⟨.hbm, 575, rfl⟩
abbrev main_v529 : Ref sig .tc := ⟨.hbm, 576, rfl⟩
abbrev main_v530 : Ref sig .tc := ⟨.hbm, 577, rfl⟩
abbrev main_v531 : Ref sig .tc := ⟨.hbm, 578, rfl⟩
abbrev main_v532 : Ref sig .tc := ⟨.hbm, 579, rfl⟩
abbrev main_v533 : Ref sig .tc := ⟨.hbm, 580, rfl⟩
abbrev main_v534 : Ref sig .tc := ⟨.hbm, 581, rfl⟩
abbrev main_v535 : Ref sig .tc := ⟨.hbm, 582, rfl⟩
abbrev main_v536 : Ref sig .tc := ⟨.hbm, 583, rfl⟩
abbrev main_v537 : Ref sig .tc := ⟨.hbm, 584, rfl⟩
abbrev main_v538 : Ref sig .tc := ⟨.hbm, 585, rfl⟩
abbrev main_v539 : Ref sig .tc := ⟨.hbm, 586, rfl⟩
abbrev main_v540 : Ref sig .tc := ⟨.hbm, 587, rfl⟩
abbrev main_v541 : Ref sig .tc := ⟨.hbm, 588, rfl⟩
abbrev main_v542 : Ref sig .tc := ⟨.hbm, 589, rfl⟩
abbrev main_v543 : Ref sig .tc := ⟨.hbm, 590, rfl⟩
abbrev main_v544 : Ref sig .tc := ⟨.hbm, 591, rfl⟩
abbrev main_v545 : Ref sig .tc := ⟨.hbm, 592, rfl⟩
abbrev main_v546 : Ref sig .tc := ⟨.hbm, 593, rfl⟩
abbrev main_v547 : Ref sig .tc := ⟨.hbm, 594, rfl⟩
abbrev main_v548 : Ref sig .tc := ⟨.hbm, 595, rfl⟩
abbrev main_v549 : Ref sig .tc := ⟨.hbm, 596, rfl⟩
abbrev main_v550 : Ref sig .tc := ⟨.hbm, 597, rfl⟩
abbrev main_v551 : Ref sig .tc := ⟨.hbm, 598, rfl⟩
abbrev main_v552 : Ref sig .tc := ⟨.hbm, 599, rfl⟩
abbrev main_v553 : Ref sig .tc := ⟨.hbm, 600, rfl⟩
abbrev main_v554 : Ref sig .tc := ⟨.hbm, 601, rfl⟩
abbrev main_v555 : Ref sig .tc := ⟨.hbm, 602, rfl⟩
abbrev main_v556 : Ref sig .tc := ⟨.hbm, 603, rfl⟩
abbrev main_v557 : Ref sig .tc := ⟨.hbm, 604, rfl⟩
abbrev main_v558 : Ref sig .tc := ⟨.hbm, 605, rfl⟩
abbrev main_v559 : Ref sig .tc := ⟨.hbm, 606, rfl⟩
abbrev main_v560 : Ref sig .tc := ⟨.hbm, 607, rfl⟩
abbrev main_v561 : Ref sig .tc := ⟨.hbm, 608, rfl⟩
abbrev main_v562 : Ref sig .tc := ⟨.hbm, 609, rfl⟩
abbrev main_v563 : Ref sig .tc := ⟨.hbm, 610, rfl⟩
abbrev main_v564 : Ref sig .tc := ⟨.hbm, 611, rfl⟩
abbrev main_v565 : Ref sig .tc := ⟨.hbm, 612, rfl⟩
abbrev main_v566 : Ref sig .tc := ⟨.hbm, 613, rfl⟩
abbrev main_v567 : Ref sig .tc := ⟨.hbm, 614, rfl⟩
abbrev main_v568 : Ref sig .tc := ⟨.hbm, 615, rfl⟩
abbrev main_v569 : Ref sig .tc := ⟨.hbm, 616, rfl⟩
abbrev main_v570 : Ref sig .tc := ⟨.hbm, 617, rfl⟩
abbrev main_v571 : Ref sig .tc := ⟨.hbm, 618, rfl⟩
abbrev main_v572 : Ref sig .tc := ⟨.hbm, 619, rfl⟩
abbrev main_v573 : Ref sig .tc := ⟨.hbm, 620, rfl⟩
abbrev main_v574 : Ref sig .tc := ⟨.hbm, 621, rfl⟩
abbrev main_v575 : Ref sig .tc := ⟨.hbm, 622, rfl⟩
abbrev main_v576 : Ref sig .tc := ⟨.hbm, 623, rfl⟩
abbrev main_v577 : Ref sig .tc := ⟨.hbm, 624, rfl⟩
abbrev main_v578 : Ref sig .tc := ⟨.hbm, 625, rfl⟩
abbrev main_v579 : Ref sig .tc := ⟨.hbm, 626, rfl⟩
abbrev main_v580 : Ref sig .tc := ⟨.hbm, 627, rfl⟩
abbrev main_v581 : Ref sig .tc := ⟨.hbm, 628, rfl⟩
abbrev main_v582 : Ref sig .tc := ⟨.hbm, 629, rfl⟩
abbrev main_v583 : Ref sig .tc := ⟨.hbm, 630, rfl⟩
abbrev main_v584 : Ref sig .tc := ⟨.hbm, 631, rfl⟩
abbrev main_v585 : Ref sig .tc := ⟨.hbm, 632, rfl⟩
abbrev main_v586 : Ref sig .tc := ⟨.hbm, 633, rfl⟩
abbrev main_v587 : Ref sig .tc := ⟨.hbm, 634, rfl⟩
abbrev main_v588 : Ref sig .tc := ⟨.hbm, 635, rfl⟩
abbrev main_v589 : Ref sig .tc := ⟨.hbm, 636, rfl⟩
abbrev main_v590 : Ref sig .tc := ⟨.hbm, 637, rfl⟩
abbrev main_v591 : Ref sig .tc := ⟨.hbm, 638, rfl⟩
abbrev main_v592 : Ref sig .tc := ⟨.hbm, 639, rfl⟩
abbrev main_v593 : Ref sig .tc := ⟨.hbm, 640, rfl⟩
abbrev main_v594 : Ref sig .tc := ⟨.hbm, 641, rfl⟩
abbrev main_v595 : Ref sig .tc := ⟨.hbm, 642, rfl⟩
abbrev main_v596 : Ref sig .tc := ⟨.hbm, 643, rfl⟩
abbrev main_v597 : Ref sig .tc := ⟨.hbm, 644, rfl⟩
abbrev main_v598 : Ref sig .tc := ⟨.hbm, 645, rfl⟩
abbrev main_v599 : Ref sig .tc := ⟨.hbm, 646, rfl⟩
abbrev main_v600 : Ref sig .tc := ⟨.hbm, 647, rfl⟩
abbrev main_v601 : Ref sig .tc := ⟨.hbm, 648, rfl⟩
abbrev main_v602 : Ref sig .tc := ⟨.hbm, 649, rfl⟩
abbrev main_v603 : Ref sig .tc := ⟨.hbm, 650, rfl⟩
abbrev main_v604 : Ref sig .tc := ⟨.hbm, 651, rfl⟩
abbrev main_v605 : Ref sig .tc := ⟨.hbm, 652, rfl⟩
abbrev main_v606 : Ref sig .tc := ⟨.hbm, 653, rfl⟩
abbrev main_v607 : Ref sig .tc := ⟨.hbm, 654, rfl⟩
abbrev main_v608 : Ref sig .tc := ⟨.hbm, 655, rfl⟩
abbrev main_v609 : Ref sig .tc := ⟨.hbm, 656, rfl⟩
abbrev main_cst_24 : Ref sig .tc := ⟨.hbm, 657, rfl⟩
abbrev main_v610 : Ref sig .tc := ⟨.hbm, 658, rfl⟩
abbrev main_v611 : Ref sig .tc := ⟨.hbm, 659, rfl⟩
abbrev main_v612 : Ref sig .tc := ⟨.hbm, 660, rfl⟩
abbrev main_v613 : Ref sig .tc := ⟨.hbm, 661, rfl⟩
abbrev main_v614 : Ref sig .tc := ⟨.hbm, 662, rfl⟩
abbrev main_v615 : Ref sig .tc := ⟨.hbm, 663, rfl⟩
abbrev main_v616 : Ref sig .tc := ⟨.hbm, 664, rfl⟩
abbrev main_v617 : Ref sig .tc := ⟨.hbm, 665, rfl⟩
abbrev main_v618 : Ref sig .tc := ⟨.hbm, 666, rfl⟩
abbrev main_v619 : Ref sig .tc := ⟨.hbm, 667, rfl⟩
abbrev main_v620 : Ref sig .tc := ⟨.hbm, 668, rfl⟩
abbrev main_v621 : Ref sig .tc := ⟨.hbm, 669, rfl⟩
abbrev main_v622 : Ref sig .tc := ⟨.hbm, 670, rfl⟩
abbrev main_v623 : Ref sig .tc := ⟨.hbm, 671, rfl⟩
abbrev main_v624 : Ref sig .tc := ⟨.hbm, 672, rfl⟩
abbrev main_v625 : Ref sig .tc := ⟨.hbm, 673, rfl⟩
abbrev main_cst_25 : Ref sig .tc := ⟨.hbm, 674, rfl⟩
abbrev main_v626 : Ref sig .tc := ⟨.hbm, 675, rfl⟩
abbrev main_cst_26 : Ref sig .tc := ⟨.hbm, 676, rfl⟩
abbrev main_v627 : Ref sig .tc := ⟨.hbm, 677, rfl⟩
abbrev main_v628 : Ref sig .tc := ⟨.hbm, 678, rfl⟩
abbrev main_v629 : Ref sig .tc := ⟨.hbm, 679, rfl⟩
abbrev main_v630 : Ref sig .tc := ⟨.hbm, 680, rfl⟩
abbrev main_v631 : Ref sig .tc := ⟨.hbm, 681, rfl⟩
abbrev main_v632 : Ref sig .tc := ⟨.hbm, 682, rfl⟩
abbrev main_v633 : Ref sig .tc := ⟨.hbm, 683, rfl⟩
abbrev main_v634 : Ref sig .tc := ⟨.hbm, 684, rfl⟩
abbrev main_v635 : Ref sig .tc := ⟨.hbm, 685, rfl⟩
abbrev main_v636 : Ref sig .tc := ⟨.hbm, 686, rfl⟩
abbrev main_v637 : Ref sig .tc := ⟨.hbm, 687, rfl⟩
abbrev main_v638 : Ref sig .tc := ⟨.hbm, 688, rfl⟩
abbrev main_v639 : Ref sig .tc := ⟨.hbm, 689, rfl⟩
abbrev main_v640 : Ref sig .tc := ⟨.hbm, 690, rfl⟩
abbrev main_v641 : Ref sig .tc := ⟨.hbm, 691, rfl⟩
abbrev main_v642 : Ref sig .tc := ⟨.hbm, 692, rfl⟩
abbrev main_cst_27 : Ref sig .tc := ⟨.hbm, 693, rfl⟩
abbrev main_v643 : Ref sig .tc := ⟨.hbm, 694, rfl⟩
abbrev main_cst_28 : Ref sig .tc := ⟨.hbm, 695, rfl⟩
abbrev main_v644 : Ref sig .tc := ⟨.hbm, 696, rfl⟩
abbrev main_v645 : Ref sig .tc := ⟨.hbm, 697, rfl⟩
abbrev main_v646 : Ref sig .tc := ⟨.hbm, 698, rfl⟩
abbrev main_v647 : Ref sig .tc := ⟨.hbm, 699, rfl⟩
abbrev main_v648 : Ref sig .tc := ⟨.hbm, 700, rfl⟩
abbrev main_v649 : Ref sig .tc := ⟨.hbm, 701, rfl⟩

abbrev nD : Nat := 1
abbrev τ : Topo := Topo.v7x

variable {F : FTy → Type} [FloatOps F]
-- ==== MlpDh.lean ====
abbrev S4096x1024 : Shape := ⟨2, ![4096, 1024]⟩
abbrev S1024 : Shape := ⟨1, ![1024]⟩
abbrev S1024x4096 : Shape := ⟨2, ![1024, 4096]⟩
abbrev S4096x4096 : Shape := ⟨2, ![4096, 4096]⟩
abbrev S1024x8x512 : Shape := ⟨3, ![1024, 8, 512]⟩
abbrev S8x1024x512 : Shape := ⟨3, ![8, 1024, 512]⟩
abbrev S1x1024 : Shape := ⟨2, ![1, 1024]⟩
abbrev S1024x1024 : Shape := ⟨2, ![1024, 1024]⟩
abbrev S2x1024x512 : Shape := ⟨3, ![2, 1024, 512]⟩
abbrev S1024x512 : Shape := ⟨2, ![1024, 512]⟩
abbrev S1x1024x512 : Shape := ⟨3, ![1, 1024, 512]⟩
abbrev S1024x1 : Shape := ⟨2, ![1024, 1]⟩

abbrev nBuf : Space → Nat
  | .hbm => 13
  | .vmem => 15
  | .smem => 0
  | _ => 0

abbrev bufTy : (tb : Table) → Fin (tcTables nBuf tb) → BufTy
  | .hbm, ⟨0, _⟩ => ⟨S4096x1024, .f32⟩
  | .hbm, ⟨1, _⟩ => ⟨S1024, .f32⟩
  | .hbm, ⟨2, _⟩ => ⟨S1024x4096, .f32⟩
  | .hbm, ⟨3, _⟩ => ⟨S4096x1024, .f32⟩
  | .hbm, ⟨4, _⟩ => ⟨S4096x4096, .f32⟩
  | .hbm, ⟨5, _⟩ => ⟨S1024x4096, .bf16⟩
  | .hbm, ⟨6, _⟩ => ⟨S1024x8x512, .bf16⟩
  | .hbm, ⟨7, _⟩ => ⟨S8x1024x512, .bf16⟩
  | .hbm, ⟨8, _⟩ => ⟨S4096x4096, .bf16⟩
  | .hbm, ⟨9, _⟩ => ⟨S1x1024, .f32⟩
  | .hbm, ⟨10, _⟩ => ⟨S4096x1024, .f32⟩
  | .hbm, ⟨11, _⟩ => ⟨S4096x1024, .bf16⟩
  | .hbm, ⟨12, _⟩ => ⟨S1x1024, .f32⟩
  | .local _ .vmem, ⟨0, _⟩ => ⟨S1024x1024, .bf16⟩
  | .local _ .vmem, ⟨1, _⟩ => ⟨S1024x1024, .bf16⟩
  | .local _ .vmem, ⟨2, _⟩ => ⟨S2x1024x512, .bf16⟩
  | .local _ .vmem, ⟨3, _⟩ => ⟨S2x1024x512, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | .local _ .vmem, ⟨7, _⟩ => ⟨S1024x1024, .f32⟩
  | .local _ .vmem, ⟨8, _⟩ => ⟨S1x1024, .f32⟩
  | .local _ .vmem, ⟨9, _⟩ => ⟨S1024x1024, .f32⟩
  | .local _ .vmem, ⟨10, _⟩ => ⟨S1024x1024, .f32⟩
  | .local _ .vmem, ⟨11, _⟩ => ⟨S1024x1024, .bf16⟩
  | .local _ .vmem, ⟨12, _⟩ => ⟨S1024x1024, .bf16⟩
  | .local _ .vmem, ⟨13, _⟩ => ⟨S1x1024, .f32⟩
  | .local _ .vmem, ⟨14, _⟩ => ⟨S1024x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5_0 : Ref sig .tc := ⟨.hbm, 10, rfl⟩
abbrev main_v5_1 : Ref sig .tc := ⟨.hbm, 11, rfl⟩
abbrev main_v5_2 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_scratch0 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13

abbrev nD : Nat := 1
abbrev τ : Topo := Topo.v7x

variable {F : FTy → Type} [FloatOps F]

abbrev grid0 : Pipeline.Grid := ⟨3, ![4, 1, 4], ![false, false, false]⟩

def k0_cond3 (i : grid0.Coords) : BitVec 1 :=
  let arg2 : BitVec 32 := BitVec.ofNat 32 (i 2).val
  let c3_i32_3 : BitVec 32 := 3#32
  let v8 : BitVec 1 := Scalar.cmpi .eq arg2 c3_i32_3
  let v9 : BitVec 32 := Scalar.extui v8
  let c0_i32_4 : BitVec 32 := 0#32
  let v10 : BitVec 1 := Scalar.cmpi .ne v9 c0_i32_4
  v10

def k0_cond4 (i : grid0.Coords) : BitVec 1 :=
  let arg0 : BitVec 32 := BitVec.ofNat 32 (i 0).val
  let c0_i32_32 : BitVec 32 := 0#32
  let v59 : BitVec 1 := Scalar.cmpi .eq arg0 c0_i32_32
  let v60 : BitVec 32 := Scalar.extui v59
  let c0_i32_33 : BitVec 32 := 0#32
  let v61 : BitVec 1 := Scalar.cmpi .ne v60 c0_i32_33
  v61

def k0_cond5 (i : grid0.Coords) : BitVec 1 :=
  let arg0 : BitVec 32 := BitVec.ofNat 32 (i 0).val
  let c0_i32_34 : BitVec 32 := 0#32
  let v62 : BitVec 1 := Scalar.cmpi .sgt arg0 c0_i32_34
  let v63 : BitVec 32 := Scalar.extui v62
  let c0_i32_35 : BitVec 32 := 0#32
  let v64 : BitVec 1 := Scalar.cmpi .ne v63 c0_i32_35
  v64

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, arg1.toNat, c0_i32.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2x1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, true, false]

abbrev stage0_5 : Fin 2 → Memref sig .tc .vmem S1024x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]

abbrev stage0_6 : Fin 2 → Memref sig .tc .vmem S1024x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, true, false]
-- ==== MlpDhRefIdeal.lean ====
abbrev S4096x1024 : Shape := ⟨2, ![4096, 1024]⟩
abbrev S1024 : Shape := ⟨1, ![1024]⟩
abbrev S1024x4096 : Shape := ⟨2, ![1024, 4096]⟩
abbrev S4096x4096 : Shape := ⟨2, ![4096, 4096]⟩
abbrev S_ : Shape := ⟨0, ![]⟩
abbrev S4096 : Shape := ⟨1, ![4096]⟩
abbrev S4096x1 : Shape := ⟨2, ![4096, 1]⟩
abbrev S1x1024 : Shape := ⟨2, ![1, 1024]⟩

abbrev nBuf : Space → Nat
  | .hbm => 55
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024, .f32⟩
  | .hbm, ⟨2, _⟩ => ⟨S1024x4096, .f32⟩
  | .hbm, ⟨3, _⟩ => ⟨S4096x1024, .f32⟩
  | .hbm, ⟨4, _⟩ => ⟨S4096x4096, .f32⟩
  | .hbm, ⟨5, _⟩ => ⟨S4096x1024, .f32⟩
  | .hbm, ⟨6, _⟩ => ⟨S_, .f32⟩
  | .hbm, ⟨7, _⟩ => ⟨S4096, .f32⟩
  | .hbm, ⟨8, _⟩ => ⟨S4096x1, .f32⟩
  | .hbm, ⟨9, _⟩ => ⟨S_, .f32⟩
  | .hbm, ⟨10, _⟩ => ⟨S4096x1, .f32⟩
  | .hbm, ⟨11, _⟩ => ⟨S4096x1, .f32⟩
  | .hbm, ⟨12, _⟩ => ⟨S_, .f32⟩
  | .hbm, ⟨13, _⟩ => ⟨S4096x1, .f32⟩
  | .hbm, ⟨14, _⟩ => ⟨S4096x1, .f32⟩
  | .hbm, ⟨15, _⟩ => ⟨S4096x1, .f32⟩
  | .hbm, ⟨16, _⟩ => ⟨S4096x1, .f32⟩
  | .hbm, ⟨17, _⟩ => ⟨S_, .f32⟩
  | .hbm, ⟨18, _⟩ => ⟨S4096x1, .f32⟩
  | .hbm, ⟨19, _⟩ => ⟨S4096x1, .f32⟩
  | .hbm, ⟨20, _⟩ => ⟨S4096x1024, .f32⟩
  | .hbm, ⟨21, _⟩ => ⟨S4096x1024, .f32⟩
  | .hbm, ⟨22, _⟩ => ⟨S1x1024, .f32⟩
  | .hbm, ⟨23, _⟩ => ⟨S4096x1024, .f32⟩
  | .hbm, ⟨24, _⟩ => ⟨S4096x1024, .f32⟩
  | .hbm, ⟨25, _⟩ => ⟨S4096x4096, .f32⟩
  | .hbm, ⟨26, _⟩ => ⟨S4096x1024, .f32⟩
  | .hbm, ⟨27, _⟩ => ⟨S4096x1024, .f32⟩
  | .hbm, ⟨28, _⟩ => ⟨S_, .f32⟩
  | .hbm, ⟨29, _⟩ => ⟨S1024, .f32⟩
  | .hbm, ⟨30, _⟩ => ⟨S1x1024, .f32⟩
  | .hbm, ⟨31, _⟩ => ⟨S4096x1024, .f32⟩
  | .hbm, ⟨32, _⟩ => ⟨S4096x1024, .f32⟩
  | .hbm, ⟨33, _⟩ => ⟨S_, .f32⟩
  | .hbm, ⟨34, _⟩ => ⟨S1024, .f32⟩
  | .hbm, ⟨35, _⟩ => ⟨S4096x1024, .f32⟩
  | .hbm, ⟨36, _⟩ => ⟨S_, .f32⟩
  | .hbm, ⟨37, _⟩ => ⟨S4096, .f32⟩
  | .hbm, ⟨38, _⟩ => ⟨S4096x1, .f32⟩
  | .hbm, ⟨39, _⟩ => ⟨S4096x1024, .f32⟩
  | .hbm, ⟨40, _⟩ => ⟨S4096x1024, .f32⟩
  | .hbm, ⟨41, _⟩ => ⟨S4096x1024, .f32⟩
  | .hbm, ⟨42, _⟩ => ⟨S4096x1, .f32⟩
  | .hbm, ⟨43, _⟩ => ⟨S_, .f32⟩
  | .hbm, ⟨44, _⟩ => ⟨S4096x1, .f32⟩
  | .hbm, ⟨45, _⟩ => ⟨S4096x1, .f32⟩
  | .hbm, ⟨46, _⟩ => ⟨S_, .f32⟩
  | .hbm, ⟨47, _⟩ => ⟨S4096, .f32⟩
  | .hbm, ⟨48, _⟩ => ⟨S4096x1024, .f32⟩
  | .hbm, ⟨49, _⟩ => ⟨S4096x1024, .f32⟩
  | .hbm, ⟨50, _⟩ => ⟨S4096x1024, .f32⟩
  | .hbm, ⟨51, _⟩ => ⟨S4096x1024, .f32⟩
  | .hbm, ⟨52, _⟩ => ⟨S4096x1024, .f32⟩
  | .hbm, ⟨53, _⟩ => ⟨S4096x1024, .bf16⟩
  | .hbm, ⟨54, _⟩ => ⟨S1x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_cst_3 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_cst_4 : Ref sig .tc := ⟨.hbm, 33, rfl⟩
abbrev main_v23 : Ref sig .tc := ⟨.hbm, 34, rfl⟩
abbrev main_v24 : Ref sig .tc := ⟨.hbm, 35, rfl⟩
abbrev main_cst_5 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_cst_6 : Ref sig .tc := ⟨.hbm, 43, rfl⟩
abbrev main_v31 : Ref sig .tc := ⟨.hbm, 44, rfl⟩
abbrev main_v32 : Ref sig .tc := ⟨.hbm, 45, rfl⟩
abbrev main_cst_7 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩

abbrev nD : Nat := 1
abbrev τ : Topo := Topo.v7x

variable {F : FTy → Type} [FloatOps F]
-- ==== InEven.lean ====
abbrev S4096x1024 : Shape := ⟨2, ![4096, 1024]⟩
abbrev S1024 : Shape := ⟨1, ![1024]⟩
abbrev S1024x3072 : Shape := ⟨2, ![1024, 3072]⟩
abbrev S4096x3072 : Shape := ⟨2, ![4096, 3072]⟩
abbrev S1024x8x384 : Shape := ⟨3, ![1024, 8, 384]⟩
abbrev S8x1024x384 : Shape := ⟨3, ![8, 1024, 384]⟩
abbrev S1x1024 : Shape := ⟨2, ![1, 1024]⟩
abbrev S1024x768 : Shape := ⟨2, ![1024, 768]⟩
abbrev S2x1024x384 : Shape := ⟨3, ![2, 1024, 384]⟩
abbrev S1024x1024 : Shape := ⟨2, ![1024, 1024]⟩
abbrev S1024x384 : Shape := ⟨2, ![1024, 384]⟩
abbrev S1x1024x384 : Shape := ⟨3, ![1, 1024, 384]⟩
abbrev S1024x1 : Shape := ⟨2, ![1024, 1]⟩

abbrev nBuf : Space → Nat
  | .hbm => 13
  | .vmem => 15
  | .smem => 0
  | _ => 0

abbrev bufTy : (tb : Table) → Fin (tcTables nBuf tb) → BufTy
  | .hbm, ⟨0, _⟩ => ⟨S4096x1024, .f32⟩
  | .hbm, ⟨1, _⟩ => ⟨S1024, .f32⟩
  | .hbm, ⟨2, _⟩ => ⟨S1024x3072, .f32⟩
  | .hbm, ⟨3, _⟩ => ⟨S4096x1024, .f32⟩
  | .hbm, ⟨4, _⟩ => ⟨S4096x3072, .f32⟩
  | .hbm, ⟨5, _⟩ => ⟨S1024x3072, .bf16⟩
  | .hbm, ⟨6, _⟩ => ⟨S1024x8x384, .bf16⟩
  | .hbm, ⟨7, _⟩ => ⟨S8x1024x384, .bf16⟩
  | .hbm, ⟨8, _⟩ => ⟨S4096x3072, .bf16⟩
  | .hbm, ⟨9, _⟩ => ⟨S1x1024, .f32⟩
  | .hbm, ⟨10, _⟩ => ⟨S4096x1024, .f32⟩
  | .hbm, ⟨11, _⟩ => ⟨S4096x1024, .bf16⟩
  | .hbm, ⟨12, _⟩ => ⟨S1x1024, .f32⟩
  | .local _ .vmem, ⟨0, _⟩ => ⟨S1024x768, .bf16⟩
  | .local _ .vmem, ⟨1, _⟩ => ⟨S1024x768, .bf16⟩
  | .local _ .vmem, ⟨2, _⟩ => ⟨S2x1024x384, .bf16⟩
  | .local _ .vmem, ⟨3, _⟩ => ⟨S2x1024x384, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | .local _ .vmem, ⟨7, _⟩ => ⟨S1024x1024, .f32⟩
  | .local _ .vmem, ⟨8, _⟩ => ⟨S1x1024, .f32⟩
  | .local _ .vmem, ⟨9, _⟩ => ⟨S1024x1024, .f32⟩
  | .local _ .vmem, ⟨10, _⟩ => ⟨S1024x1024, .f32⟩
  | .local _ .vmem, ⟨11, _⟩ => ⟨S1024x1024, .bf16⟩
  | .local _ .vmem, ⟨12, _⟩ => ⟨S1024x1024, .bf16⟩
  | .local _ .vmem, ⟨13, _⟩ => ⟨S1x1024, .f32⟩
  | .local _ .vmem, ⟨14, _⟩ => ⟨S1024x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5_0 : Ref sig .tc := ⟨.hbm, 10, rfl⟩
abbrev main_v5_1 : Ref sig .tc := ⟨.hbm, 11, rfl⟩
abbrev main_v5_2 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_scratch0 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13

abbrev nD : Nat := 1
abbrev τ : Topo := Topo.v7x

variable {F : FTy → Type} [FloatOps F]

abbrev grid0 : Pipeline.Grid := ⟨3, ![4, 1, 4], ![false, false, false]⟩

def k0_cond3 (i : grid0.Coords) : BitVec 1 :=
  let arg2 : BitVec 32 := BitVec.ofNat 32 (i 2).val
  let c3_i32_3 : BitVec 32 := 3#32
  let v8 : BitVec 1 := Scalar.cmpi .eq arg2 c3_i32_3
  let v9 : BitVec 32 := Scalar.extui v8
  let c0_i32_4 : BitVec 32 := 0#32
  let v10 : BitVec 1 := Scalar.cmpi .ne v9 c0_i32_4
  v10

def k0_cond4 (i : grid0.Coords) : BitVec 1 :=
  let arg0 : BitVec 32 := BitVec.ofNat 32 (i 0).val
  let c0_i32_32 : BitVec 32 := 0#32
  let v59 : BitVec 1 := Scalar.cmpi .eq arg0 c0_i32_32
  let v60 : BitVec 32 := Scalar.extui v59
  let c0_i32_33 : BitVec 32 := 0#32
  let v61 : BitVec 1 := Scalar.cmpi .ne v60 c0_i32_33
  v61

def k0_cond5 (i : grid0.Coords) : BitVec 1 :=
  let arg0 : BitVec 32 := BitVec.ofNat 32 (i 0).val
  let c0_i32_34 : BitVec 32 := 0#32
  let v62 : BitVec 1 := Scalar.cmpi .sgt arg0 c0_i32_34
  let v63 : BitVec 32 := Scalar.extui v62
  let c0_i32_35 : BitVec 32 := 0#32
  let v64 : BitVec 1 := Scalar.cmpi .ne v63 c0_i32_35
  v64

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, arg1.toNat, c0_i32.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

abbrev stage0_0 : Fin 2 → Memref sig .tc .vmem S1024x768 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2x1024x384 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, true, false]

abbrev stage0_5 : Fin 2 → Memref sig .tc .vmem S1024x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]

abbrev stage0_6 : Fin 2 → Memref sig .tc .vmem S1024x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, true, false]
-- ==== InEvenRefIdeal.lean ====
abbrev S4096x1024 : Shape := ⟨2, ![4096, 1024]⟩
abbrev S1024 : Shape := ⟨1, ![1024]⟩
abbrev S1024x3072 : Shape := ⟨2, ![1024, 3072]⟩
abbrev S4096x3072 : Shape := ⟨2, ![4096, 3072]⟩
abbrev S_ : Shape := ⟨0, ![]⟩
abbrev S4096 : Shape := ⟨1, ![4096]⟩
abbrev S4096x1 : Shape := ⟨2, ![4096, 1]⟩
abbrev S1x1024 : Shape := ⟨2, ![1, 1024]⟩

abbrev nBuf : Space → Nat
  | .hbm => 55
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024, .f32⟩
  | .hbm, ⟨2, _⟩ => ⟨S1024x3072, .f32⟩
  | .hbm, ⟨3, _⟩ => ⟨S4096x1024, .f32⟩
  | .hbm, ⟨4, _⟩ => ⟨S4096x3072, .f32⟩
  | .hbm, ⟨5, _⟩ => ⟨S4096x1024, .f32⟩
  | .hbm, ⟨6, _⟩ => ⟨S_, .f32⟩
  | .hbm, ⟨7, _⟩ => ⟨S4096, .f32⟩
  | .hbm, ⟨8, _⟩ => ⟨S4096x1, .f32⟩
  | .hbm, ⟨9, _⟩ => ⟨S_, .f32⟩
  | .hbm, ⟨10, _⟩ => ⟨S4096x1, .f32⟩
  | .hbm, ⟨11, _⟩ => ⟨S4096x1, .f32⟩
  | .hbm, ⟨12, _⟩ => ⟨S_, .f32⟩
  | .hbm, ⟨13, _⟩ => ⟨S4096x1, .f32⟩
  | .hbm, ⟨14, _⟩ => ⟨S4096x1, .f32⟩
  | .hbm, ⟨15, _⟩ => ⟨S4096x1, .f32⟩
  | .hbm, ⟨16, _⟩ => ⟨S4096x1, .f32⟩
  | .hbm, ⟨17, _⟩ => ⟨S_, .f32⟩
  | .hbm, ⟨18, _⟩ => ⟨S4096x1, .f32⟩
  | .hbm, ⟨19, _⟩ => ⟨S4096x1, .f32⟩
  | .hbm, ⟨20, _⟩ => ⟨S4096x1024, .f32⟩
  | .hbm, ⟨21, _⟩ => ⟨S4096x1024, .f32⟩
  | .hbm, ⟨22, _⟩ => ⟨S1x1024, .f32⟩
  | .hbm, ⟨23, _⟩ => ⟨S4096x1024, .f32⟩
  | .hbm, ⟨24, _⟩ => ⟨S4096x1024, .f32⟩
  | .hbm, ⟨25, _⟩ => ⟨S4096x3072, .f32⟩
  | .hbm, ⟨26, _⟩ => ⟨S4096x1024, .f32⟩
  | .hbm, ⟨27, _⟩ => ⟨S4096x1024, .f32⟩
  | .hbm, ⟨28, _⟩ => ⟨S_, .f32⟩
  | .hbm, ⟨29, _⟩ => ⟨S1024, .f32⟩
  | .hbm, ⟨30, _⟩ => ⟨S1x1024, .f32⟩
  | .hbm, ⟨31, _⟩ => ⟨S4096x1024, .f32⟩
  | .hbm, ⟨32, _⟩ => ⟨S4096x1024, .f32⟩
  | .hbm, ⟨33, _⟩ => ⟨S_, .f32⟩
  | .hbm, ⟨34, _⟩ => ⟨S1024, .f32⟩
  | .hbm, ⟨35, _⟩ => ⟨S4096x1024, .f32⟩
  | .hbm, ⟨36, _⟩ => ⟨S_, .f32⟩
  | .hbm, ⟨37, _⟩ => ⟨S4096, .f32⟩
  | .hbm, ⟨38, _⟩ => ⟨S4096x1, .f32⟩
  | .hbm, ⟨39, _⟩ => ⟨S4096x1024, .f32⟩
  | .hbm, ⟨40, _⟩ => ⟨S4096x1024, .f32⟩
  | .hbm, ⟨41, _⟩ => ⟨S4096x1024, .f32⟩
  | .hbm, ⟨42, _⟩ => ⟨S4096x1, .f32⟩
  | .hbm, ⟨43, _⟩ => ⟨S_, .f32⟩
  | .hbm, ⟨44, _⟩ => ⟨S4096x1, .f32⟩
  | .hbm, ⟨45, _⟩ => ⟨S4096x1, .f32⟩
  | .hbm, ⟨46, _⟩ => ⟨S_, .f32⟩
  | .hbm, ⟨47, _⟩ => ⟨S4096, .f32⟩
  | .hbm, ⟨48, _⟩ => ⟨S4096x1024, .f32⟩
  | .hbm, ⟨49, _⟩ => ⟨S4096x1024, .f32⟩
  | .hbm, ⟨50, _⟩ => ⟨S4096x1024, .f32⟩
  | .hbm, ⟨51, _⟩ => ⟨S4096x1024, .f32⟩
  | .hbm, ⟨52, _⟩ => ⟨S4096x1024, .f32⟩
  | .hbm, ⟨53, _⟩ => ⟨S4096x1024, .bf16⟩
  | .hbm, ⟨54, _⟩ => ⟨S1x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_cst_3 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_cst_4 : Ref sig .tc := ⟨.hbm, 33, rfl⟩
abbrev main_v23 : Ref sig .tc := ⟨.hbm, 34, rfl⟩
abbrev main_v24 : Ref sig .tc := ⟨.hbm, 35, rfl⟩
abbrev main_cst_5 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_cst_6 : Ref sig .tc := ⟨.hbm, 43, rfl⟩
abbrev main_v31 : Ref sig .tc := ⟨.hbm, 44, rfl⟩
abbrev main_v32 : Ref sig .tc := ⟨.hbm, 45, rfl⟩
abbrev main_cst_7 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩

abbrev nD : Nat := 1
abbrev τ : Topo := Topo.v7x

variable {F : FTy → Type} [FloatOps F]
-- ==== InOdd.lean ====
abbrev S4096x1024 : Shape := ⟨2, ![4096, 1024]⟩
abbrev S1024 : Shape := ⟨1, ![1024]⟩
abbrev S1024x4112 : Shape := ⟨2, ![1024, 4112]⟩
abbrev S4096x4112 : Shape := ⟨2, ![4096, 4112]⟩
abbrev S_ : Shape := ⟨0, ![]⟩
abbrev S4096x4224 : Shape := ⟨2, ![4096, 4224]⟩
abbrev S1024x4224 : Shape := ⟨2, ![1024, 4224]⟩
abbrev S1x1024 : Shape := ⟨2, ![1, 1024]⟩
abbrev S1024x1408 : Shape := ⟨2, ![1024, 1408]⟩
abbrev S1024x1024 : Shape := ⟨2, ![1024, 1024]⟩
abbrev S1024x1 : Shape := ⟨2, ![1024, 1]⟩

abbrev nBuf : Space → Nat
  | .hbm => 17
  | .vmem => 15
  | .smem => 0
  | _ => 0

abbrev bufTy : (tb : Table) → Fin (tcTables nBuf tb) → BufTy
  | .hbm, ⟨0, _⟩ => ⟨S4096x1024, .f32⟩
  | .hbm, ⟨1, _⟩ => ⟨S1024, .f32⟩
  | .hbm, ⟨2, _⟩ => ⟨S1024x4112, .f32⟩
  | .hbm, ⟨3, _⟩ => ⟨S4096x1024, .f32⟩
  | .hbm, ⟨4, _⟩ => ⟨S4096x4112, .f32⟩
  | .hbm, ⟨5, _⟩ => ⟨S4096x4112, .bf16⟩
  | .hbm, ⟨6, _⟩ => ⟨S_, .i32⟩
  | .hbm, ⟨7, _⟩ => ⟨S_, .bf16⟩
  | .hbm, ⟨8, _⟩ => ⟨S4096x4224, .bf16⟩
  | .hbm, ⟨9, _⟩ => ⟨S1024x4112, .bf16⟩
  | .hbm, ⟨10, _⟩ => ⟨S_, .i32⟩
  | .hbm, ⟨11, _⟩ => ⟨S_, .bf16⟩
  | .hbm, ⟨12, _⟩ => ⟨S1024x4224, .bf16⟩
  | .hbm, ⟨13, _⟩ => ⟨S1x1024, .f32⟩
  | .hbm, ⟨14, _⟩ => ⟨S4096x1024, .f32⟩
  | .hbm, ⟨15, _⟩ => ⟨S4096x1024, .bf16⟩
  | .hbm, ⟨16, _⟩ => ⟨S1x1024, .f32⟩
  | .local _ .vmem, ⟨0, _⟩ => ⟨S1024x1408, .bf16⟩
  | .local _ .vmem, ⟨1, _⟩ => ⟨S1024x1408, .bf16⟩
  | .local _ .vmem, ⟨2, _⟩ => ⟨S1024x1408, .bf16⟩
  | .local _ .vmem, ⟨3, _⟩ => ⟨S1024x1408, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | .local _ .vmem, ⟨7, _⟩ => ⟨S1024x1024, .f32⟩
  | .local _ .vmem, ⟨8, _⟩ => ⟨S1x1024, .f32⟩
  | .local _ .vmem, ⟨9, _⟩ => ⟨S1024x1024, .f32⟩
  | .local _ .vmem, ⟨10, _⟩ => ⟨S1024x1024, .f32⟩
  | .local _ .vmem, ⟨11, _⟩ => ⟨S1024x1024, .bf16⟩
  | .local _ .vmem, ⟨12, _⟩ => ⟨S1024x1024, .bf16⟩
  | .local _ .vmem, ⟨13, _⟩ => ⟨S1x1024, .f32⟩
  | .local _ .vmem, ⟨14, _⟩ => ⟨S1024x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_c : Ref sig .tc := ⟨.hbm, 6, rfl⟩
abbrev main_call0_v0 : Ref sig .tc := ⟨.hbm, 7, rfl⟩
abbrev main_v1 : Ref sig .tc := ⟨.hbm, 8, rfl⟩
abbrev main_v2 : Ref sig .tc := ⟨.hbm, 9, rfl⟩
abbrev main_c_0 : Ref sig .tc := ⟨.hbm, 10, rfl⟩
abbrev main_call1_v0 : Ref sig .tc := ⟨.hbm, 11, rfl⟩
abbrev main_v3 : Ref sig .tc := ⟨.hbm, 12, rfl⟩
abbrev main_v4 : Ref sig .tc := ⟨.hbm, 13, rfl⟩
abbrev main_v5_0 : Ref sig .tc := ⟨.hbm, 14, rfl⟩
abbrev main_v5_1 : Ref sig .tc := ⟨.hbm, 15, rfl⟩
abbrev main_v5_2 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_scratch0 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13

abbrev nD : Nat := 1
abbrev τ : Topo := Topo.v7x

variable {F : FTy → Type} [FloatOps F]

abbrev grid0 : Pipeline.Grid := ⟨3, ![4, 1, 3], ![false, false, false]⟩

def k0_cond3 (i : grid0.Coords) : BitVec 1 :=
  let arg2 : BitVec 32 := BitVec.ofNat 32 (i 2).val
  let c2_i32_3 : BitVec 32 := 2#32
  let v8 : BitVec 1 := Scalar.cmpi .eq arg2 c2_i32_3
  let v9 : BitVec 32 := Scalar.extui v8
  let c0_i32_4 : BitVec 32 := 0#32
  let v10 : BitVec 1 := Scalar.cmpi .ne v9 c0_i32_4
  v10

def k0_cond4 (i : grid0.Coords) : BitVec 1 :=
  let arg0 : BitVec 32 := BitVec.ofNat 32 (i 0).val
  let c0_i32_26 : BitVec 32 := 0#32
  let v51 : BitVec 1 := Scalar.cmpi .eq arg0 c0_i32_26
  let v52 : BitVec 32 := Scalar.extui v51
  let c0_i32_27 : BitVec 32 := 0#32
  let v53 : BitVec 1 := Scalar.cmpi .ne v52 c0_i32_27
  v53

def k0_cond5 (i : grid0.Coords) : BitVec 1 :=
  let arg0 : BitVec 32 := BitVec.ofNat 32 (i 0).val
  let c0_i32_28 : BitVec 32 := 0#32
  let v54 : BitVec 1 := Scalar.cmpi .sgt arg0 c0_i32_28
  let v55 : BitVec 32 := Scalar.extui v54
  let c0_i32_29 : BitVec 32 := 0#32
  let v56 : BitVec 1 := Scalar.cmpi .ne v55 c0_i32_29
  v56

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

abbrev stage0_0 : Fin 2 → Memref sig .tc .vmem S1024x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, true, false]

abbrev stage0_5 : Fin 2 → Memref sig .tc .vmem S1024x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]

abbrev stage0_6 : Fin 2 → Memref sig .tc .vmem S1024x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, true, false]
-- ==== InOddRefIdeal.lean ====
abbrev S4096x1024 : Shape := ⟨2, ![4096, 1024]⟩
abbrev S1024 : Shape := ⟨1, ![1024]⟩
abbrev S1024x4112 : Shape := ⟨2, ![1024, 4112]⟩
abbrev S4096x4112 : Shape := ⟨2, ![4096, 4112]⟩
abbrev S_ : Shape := ⟨0, ![]⟩
abbrev S4096 : Shape := ⟨1, ![4096]⟩
abbrev S4096x1 : Shape := ⟨2, ![4096, 1]⟩
abbrev S1x1024 : Shape := ⟨2, ![1, 1024]⟩

abbrev nBuf : Space → Nat
  | .hbm => 55
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024, .f32⟩
  | .hbm, ⟨2, _⟩ => ⟨S1024x4112, .f32⟩
  | .hbm, ⟨3, _⟩ => ⟨S4096x1024, .f32⟩
  | .hbm, ⟨4, _⟩ => ⟨S4096x4112, .f32⟩
  | .hbm, ⟨5, _⟩ => ⟨S4096x1024, .f32⟩
  | .hbm, ⟨6, _⟩ => ⟨S_, .f32⟩
  | .hbm, ⟨7, _⟩ => ⟨S4096, .f32⟩
  | .hbm, ⟨8, _⟩ => ⟨S4096x1, .f32⟩
  | .hbm, ⟨9, _⟩ => ⟨S_, .f32⟩
  | .hbm, ⟨10, _⟩ => ⟨S4096x1, .f32⟩
  | .hbm, ⟨11, _⟩ => ⟨S4096x1, .f32⟩
  | .hbm, ⟨12, _⟩ => ⟨S_, .f32⟩
  | .hbm, ⟨13, _⟩ => ⟨S4096x1, .f32⟩
  | .hbm, ⟨14, _⟩ => ⟨S4096x1, .f32⟩
  | .hbm, ⟨15, _⟩ => ⟨S4096x1, .f32⟩
  | .hbm, ⟨16, _⟩ => ⟨S4096x1, .f32⟩
  | .hbm, ⟨17, _⟩ => ⟨S_, .f32⟩
  | .hbm, ⟨18, _⟩ => ⟨S4096x1, .f32⟩
  | .hbm, ⟨19, _⟩ => ⟨S4096x1, .f32⟩
  | .hbm, ⟨20, _⟩ => ⟨S4096x1024, .f32⟩
  | .hbm, ⟨21, _⟩ => ⟨S4096x1024, .f32⟩
  | .hbm, ⟨22, _⟩ => ⟨S1x1024, .f32⟩
  | .hbm, ⟨23, _⟩ => ⟨S4096x1024, .f32⟩
  | .hbm, ⟨24, _⟩ => ⟨S4096x1024, .f32⟩
  | .hbm, ⟨25, _⟩ => ⟨S4096x4112, .f32⟩
  | .hbm, ⟨26, _⟩ => ⟨S4096x1024, .f32⟩
  | .hbm, ⟨27, _⟩ => ⟨S4096x1024, .f32⟩
  | .hbm, ⟨28, _⟩ => ⟨S_, .f32⟩
  | .hbm, ⟨29, _⟩ => ⟨S1024, .f32⟩
  | .hbm, ⟨30, _⟩ => ⟨S1x1024, .f32⟩
  | .hbm, ⟨31, _⟩ => ⟨S4096x1024, .f32⟩
  | .hbm, ⟨32, _⟩ => ⟨S4096x1024, .f32⟩
  | .hbm, ⟨33, _⟩ => ⟨S_, .f32⟩
  | .hbm, ⟨34, _⟩ => ⟨S1024, .f32⟩
  | .hbm, ⟨35, _⟩ => ⟨S4096x1024, .f32⟩
  | .hbm, ⟨36, _⟩ => ⟨S_, .f32⟩
  | .hbm, ⟨37, _⟩ => ⟨S4096, .f32⟩
  | .hbm, ⟨38, _⟩ => ⟨S4096x1, .f32⟩
  | .hbm, ⟨39, _⟩ => ⟨S4096x1024, .f32⟩
  | .hbm, ⟨40, _⟩ => ⟨S4096x1024, .f32⟩
  | .hbm, ⟨41, _⟩ => ⟨S4096x1024, .f32⟩
  | .hbm, ⟨42, _⟩ => ⟨S4096x1, .f32⟩
  | .hbm, ⟨43, _⟩ => ⟨S_, .f32⟩
  | .hbm, ⟨44, _⟩ => ⟨S4096x1, .f32⟩
  | .hbm, ⟨45, _⟩ => ⟨S4096x1, .f32⟩
  | .hbm, ⟨46, _⟩ => ⟨S_, .f32⟩
  | .hbm, ⟨47, _⟩ => ⟨S4096, .f32⟩
  | .hbm, ⟨48, _⟩ => ⟨S4096x1024, .f32⟩
  | .hbm, ⟨49, _⟩ => ⟨S4096x1024, .f32⟩
  | .hbm, ⟨50, _⟩ => ⟨S4096x1024, .f32⟩
  | .hbm, ⟨51, _⟩ => ⟨S4096x1024, .f32⟩
  | .hbm, ⟨52, _⟩ => ⟨S4096x1024, .f32⟩
  | .hbm, ⟨53, _⟩ => ⟨S4096x1024, .bf16⟩
  | .hbm, ⟨54, _⟩ => ⟨S1x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_cst_3 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_cst_4 : Ref sig .tc := ⟨.hbm, 33, rfl⟩
abbrev main_v23 : Ref sig .tc := ⟨.hbm, 34, rfl⟩
abbrev main_v24 : Ref sig .tc := ⟨.hbm, 35, rfl⟩
abbrev main_cst_5 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_cst_6 : Ref sig .tc := ⟨.hbm, 43, rfl⟩
abbrev main_v31 : Ref sig .tc := ⟨.hbm, 44, rfl⟩
abbrev main_v32 : Ref sig .tc := ⟨.hbm, 45, rfl⟩
abbrev main_cst_7 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩

abbrev nD : Nat := 1
abbrev τ : Topo := Topo.v7x

variable {F : FTy → Type} [FloatOps F]
-- ==== Loss.lean ====
abbrev S4096x1024 : Shape := ⟨2, ![4096, 1024]⟩
abbrev S4096x4096 : Shape := ⟨2, ![4096, 4096]⟩
abbrev S1024 : Shape := ⟨1, ![1024]⟩
abbrev S_ : Shape := ⟨0, ![]⟩
abbrev S1x1024 : Shape := ⟨2, ![1, 1024]⟩
abbrev S1024x1024 : Shape := ⟨2, ![1024, 1024]⟩
abbrev S1024x1 : Shape := ⟨2, ![1024, 1]⟩
abbrev S1 : Shape := ⟨1, ![1]⟩
abbrev S1x1 : Shape := ⟨2, ![1, 1]⟩

abbrev nBuf : Space → Nat
  | .hbm => 15
  | .vmem => 16
  | .smem => 0
  | _ => 0

abbrev bufTy : (tb : Table) → Fin (tcTables nBuf tb) → BufTy
  | .hbm, ⟨0, _⟩ => ⟨S4096x1024, .f32⟩
  | .hbm, ⟨1, _⟩ => ⟨S4096x4096, .f32⟩
  | .hbm, ⟨2, _⟩ => ⟨S4096x1024, .f32⟩
  | .hbm, ⟨3, _⟩ => ⟨S1024, .f32⟩
  | .hbm, ⟨4, _⟩ => ⟨S4096x1024, .f32⟩
  | .hbm, ⟨5, _⟩ => ⟨S_, .f32⟩
  | .hbm, ⟨6, _⟩ => ⟨S4096x4096, .f32⟩
  | .hbm, ⟨7, _⟩ => ⟨S4096x4096, .f32⟩
  | .hbm, ⟨8, _⟩ => ⟨S4096x4096, .bf16⟩
  | .hbm, ⟨9, _⟩ => ⟨S4096x1024, .bf16⟩
  | .hbm, ⟨10, _⟩ => ⟨S1x1024, .f32⟩
  | .hbm, ⟨11, _⟩ => ⟨S1x1024, .f32⟩
  | .hbm, ⟨12, _⟩ => ⟨S4096x1024, .f32⟩
  | .hbm, ⟨13, _⟩ => ⟨S4096x1024, .bf16⟩
  | .hbm, ⟨14, _⟩ => ⟨S1x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .f32⟩
  | .local _ .vmem, ⟨5, _⟩ => ⟨S1024x1024, .f32⟩
  | .local _ .vmem, ⟨6, _⟩ => ⟨S1x1024, .f32⟩
  | .local _ .vmem, ⟨7, _⟩ => ⟨S1024x1024, .f32⟩
  | .local _ .vmem, ⟨8, _⟩ => ⟨S1024x1024, .f32⟩
  | .local _ .vmem, ⟨9, _⟩ => ⟨S1x1024, .f32⟩
  | .local _ .vmem, ⟨10, _⟩ => ⟨S1024x1024, .f32⟩
  | .local _ .vmem, ⟨11, _⟩ => ⟨S1024x1024, .f32⟩
  | .local _ .vmem, ⟨12, _⟩ => ⟨S1024x1024, .bf16⟩
  | .local _ .vmem, ⟨13, _⟩ => ⟨S1024x1024, .bf16⟩
  | .local _ .vmem, ⟨14, _⟩ => ⟨S1x1024, .f32⟩
  | .local _ .vmem, ⟨15, _⟩ => ⟨S1024x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5_0 : Ref sig .tc := ⟨.hbm, 11, rfl⟩
abbrev main_v5_1 : Ref sig .tc := ⟨.hbm, 12, rfl⟩
abbrev main_v5_2 : Ref sig .tc := ⟨.hbm, 13, rfl⟩
abbrev main_v5_3 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_scratch0 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14

abbrev nD : Nat := 1
abbrev τ : Topo := Topo.v7x

variable {F : FTy → Type} [FloatOps F]

abbrev grid0 : Pipeline.Grid := ⟨3, ![4, 1, 4], ![false, false, false]⟩

def k0_cond3 (i : grid0.Coords) : BitVec 1 :=
  let arg2 : BitVec 32 := BitVec.ofNat 32 (i 2).val
  let c3_i32_3 : BitVec 32 := 3#32
  let v8 : BitVec 1 := Scalar.cmpi .eq arg2 c3_i32_3
  let v9 : BitVec 32 := Scalar.extui v8
  let c0_i32_4 : BitVec 32 := 0#32
  let v10 : BitVec 1 := Scalar.cmpi .ne v9 c0_i32_4
  v10

def k0_cond4 (i : grid0.Coords) : BitVec 1 :=
  let arg0 : BitVec 32 := BitVec.ofNat 32 (i 0).val
  let c0_i32_27 : BitVec 32 := 0#32
  let v65 : BitVec 1 := Scalar.cmpi .eq arg0 c0_i32_27
  let v66 : BitVec 32 := Scalar.extui v65
  let c0_i32_28 : BitVec 32 := 0#32
  let v67 : BitVec 1 := Scalar.cmpi .ne v66 c0_i32_28
  v67

def k0_cond5 (i : grid0.Coords) : BitVec 1 :=
  let arg0 : BitVec 32 := BitVec.ofNat 32 (i 0).val
  let c0_i32_29 : BitVec 32 := 0#32
  let v68 : BitVec 1 := Scalar.cmpi .sgt arg0 c0_i32_29
  let v69 : BitVec 32 := Scalar.extui v68
  let c0_i32_30 : BitVec 32 := 0#32
  let v70 : BitVec 1 := Scalar.cmpi .ne v69 c0_i32_30
  v70

def k0_cond6 (i : grid0.Coords) : BitVec 1 :=
  let arg0 : BitVec 32 := BitVec.ofNat 32 (i 0).val
  let c0_i32_35 : BitVec 32 := 0#32
  let v74 : BitVec 1 := Scalar.cmpi .eq arg0 c0_i32_35
  let v75 : BitVec 32 := Scalar.extui v74
  let c0_i32_36 : BitVec 32 := 0#32
  let v76 : BitVec 1 := Scalar.cmpi .ne v75 c0_i32_36
  v76

def k0_cond7 (i : grid0.Coords) : BitVec 1 :=
  let arg0 : BitVec 32 := BitVec.ofNat 32 (i 0).val
  let c0_i32_37 : BitVec 32 := 0#32
  let v77 : BitVec 1 := Scalar.cmpi .sgt arg0 c0_i32_37
  let v78 : BitVec 32 := Scalar.extui v77
  let c0_i32_38 : BitVec 32 := 0#32
  let v79 : BitVec 1 := Scalar.cmpi .ne v78 c0_i32_38
  v79

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_8 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, true, false]

abbrev stage0_4 : Fin 2 → Memref sig .tc .vmem S1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, true, false]

abbrev stage0_6 : Fin 2 → Memref sig .tc .vmem S1024x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, false]

abbrev stage0_7 : Fin 2 → Memref sig .tc .vmem S1024x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, true, false]
-- ==== LossRefIdeal.lean ====
abbrev S4096x1024 : Shape := ⟨2, ![4096, 1024]⟩
abbrev S4096x4096 : Shape := ⟨2, ![4096, 4096]⟩
abbrev S1024 : Shape := ⟨1, ![1024]⟩
abbrev S_ : Shape := ⟨0, ![]⟩
abbrev S4096 : Shape := ⟨1, ![4096]⟩
abbrev S4096x1 : Shape := ⟨2, ![4096, 1]⟩
abbrev S1x1024 : Shape := ⟨2, ![1, 1024]⟩

abbrev nBuf : Space → Nat
  | .hbm => 82
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x4096, .f32⟩
  | .hbm, ⟨2, _⟩ => ⟨S4096x1024, .f32⟩
  | .hbm, ⟨3, _⟩ => ⟨S1024, .f32⟩
  | .hbm, ⟨4, _⟩ => ⟨S4096x1024, .f32⟩
  | .hbm, ⟨5, _⟩ => ⟨S_, .f32⟩
  | .hbm, ⟨6, _⟩ => ⟨S4096x4096, .f32⟩
  | .hbm, ⟨7, _⟩ => ⟨S4096x4096, .f32⟩
  | .hbm, ⟨8, _⟩ => ⟨S4096x4096, .f32⟩
  | .hbm, ⟨9, _⟩ => ⟨S4096x1024, .f32⟩
  | .hbm, ⟨10, _⟩ => ⟨S4096x1024, .f32⟩
  | .hbm, ⟨11, _⟩ => ⟨S4096x1024, .f32⟩
  | .hbm, ⟨12, _⟩ => ⟨S_, .f32⟩
  | .hbm, ⟨13, _⟩ => ⟨S4096, .f32⟩
  | .hbm, ⟨14, _⟩ => ⟨S4096x1, .f32⟩
  | .hbm, ⟨15, _⟩ => ⟨S_, .f32⟩
  | .hbm, ⟨16, _⟩ => ⟨S4096x1, .f32⟩
  | .hbm, ⟨17, _⟩ => ⟨S4096x1, .f32⟩
  | .hbm, ⟨18, _⟩ => ⟨S_, .f32⟩
  | .hbm, ⟨19, _⟩ => ⟨S4096x1, .f32⟩
  | .hbm, ⟨20, _⟩ => ⟨S4096x1, .f32⟩
  | .hbm, ⟨21, _⟩ => ⟨S4096x1, .f32⟩
  | .hbm, ⟨22, _⟩ => ⟨S4096x1, .f32⟩
  | .hbm, ⟨23, _⟩ => ⟨S_, .f32⟩
  | .hbm, ⟨24, _⟩ => ⟨S4096x1, .f32⟩
  | .hbm, ⟨25, _⟩ => ⟨S4096x1, .f32⟩
  | .hbm, ⟨26, _⟩ => ⟨S4096x1024, .f32⟩
  | .hbm, ⟨27, _⟩ => ⟨S4096x1024, .f32⟩
  | .hbm, ⟨28, _⟩ => ⟨S1x1024, .f32⟩
  | .hbm, ⟨29, _⟩ => ⟨S4096x1024, .f32⟩
  | .hbm, ⟨30, _⟩ => ⟨S4096x1024, .f32⟩
  | .hbm, ⟨31, _⟩ => ⟨S4096x1024, .f32⟩
  | .hbm, ⟨32, _⟩ => ⟨S4096x1024, .f32⟩
  | .hbm, ⟨33, _⟩ => ⟨S_, .f32⟩
  | .hbm, ⟨34, _⟩ => ⟨S4096x1024, .f32⟩
  | .hbm, ⟨35, _⟩ => ⟨S4096x1024, .f32⟩
  | .hbm, ⟨36, _⟩ => ⟨S_, .f32⟩
  | .hbm, ⟨37, _⟩ => ⟨S4096, .f32⟩
  | .hbm, ⟨38, _⟩ => ⟨S_, .f32⟩
  | .hbm, ⟨39, _⟩ => ⟨S4096, .f32⟩
  | .hbm, ⟨40, _⟩ => ⟨S4096, .f32⟩
  | .hbm, ⟨41, _⟩ => ⟨S_, .f32⟩
  | .hbm, ⟨42, _⟩ => ⟨S_, .f32⟩
  | .hbm, ⟨43, _⟩ => ⟨S_, .f32⟩
  | .hbm, ⟨44, _⟩ => ⟨S_, .f32⟩
  | .hbm, ⟨45, _⟩ => ⟨S_, .f32⟩
  | .hbm, ⟨46, _⟩ => ⟨S_, .f32⟩
  | .hbm, ⟨47, _⟩ => ⟨S_, .f32⟩
  | .hbm, ⟨48, _⟩ => ⟨S4096, .f32⟩
  | .hbm, ⟨49, _⟩ => ⟨S_, .f32⟩
  | .hbm, ⟨50, _⟩ => ⟨S4096, .f32⟩
  | .hbm, ⟨51, _⟩ => ⟨S4096, .f32⟩
  | .hbm, ⟨52, _⟩ => ⟨S4096x1024, .f32⟩
  | .hbm, ⟨53, _⟩ => ⟨S4096x1024, .f32⟩
  | .hbm, ⟨54, _⟩ => ⟨S4096x1024, .f32⟩
  | .hbm, ⟨55, _⟩ => ⟨S_, .f32⟩
  | .hbm, ⟨56, _⟩ => ⟨S1024, .f32⟩
  | .hbm, ⟨57, _⟩ => ⟨S1x1024, .f32⟩
  | .hbm, ⟨58, _⟩ => ⟨S4096x1024, .f32⟩
  | .hbm, ⟨59, _⟩ => ⟨S4096x1024, .f32⟩
  | .hbm, ⟨60, _⟩ => ⟨S_, .f32⟩
  | .hbm, ⟨61, _⟩ => ⟨S1024, .f32⟩
  | .hbm, ⟨62, _⟩ => ⟨S4096x1024, .f32⟩
  | .hbm, ⟨63, _⟩ => ⟨S_, .f32⟩
  | .hbm, ⟨64, _⟩ => ⟨S4096, .f32⟩
  | .hbm, ⟨65, _⟩ => ⟨S4096x1, .f32⟩
  | .hbm, ⟨66, _⟩ => ⟨S4096x1024, .f32⟩
  | .hbm, ⟨67, _⟩ => ⟨S4096x1024, .f32⟩
  | .hbm, ⟨68, _⟩ => ⟨S4096x1, .f32⟩
  | .hbm, ⟨69, _⟩ => ⟨S_, .f32⟩
  | .hbm, ⟨70, _⟩ => ⟨S4096x1, .f32⟩
  | .hbm, ⟨71, _⟩ => ⟨S4096x1, .f32⟩
  | .hbm, ⟨72, _⟩ => ⟨S_, .f32⟩
  | .hbm, ⟨73, _⟩ => ⟨S4096, .f32⟩
  | .hbm, ⟨74, _⟩ => ⟨S4096x1024, .f32⟩
  | .hbm, ⟨75, _⟩ => ⟨S4096x1024, .f32⟩
  | .hbm, ⟨76, _⟩ => ⟨S4096x1024, .f32⟩
  | .hbm, ⟨77, _⟩ => ⟨S4096x1024, .f32⟩
  | .hbm, ⟨78, _⟩ => ⟨S4096x1024, .f32⟩
  | .hbm, ⟨79, _⟩ => ⟨S1x1024, .f32⟩
  | .hbm, ⟨80, _⟩ => ⟨S4096x1024, .bf16⟩
  | .hbm, ⟨81, _⟩ => ⟨S1x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_call0_cst : Ref sig .tc := ⟨.hbm, 5, rfl⟩
abbrev main_call0_v0 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_cst : Ref sig .tc := ⟨.hbm, 12, rfl⟩
abbrev main_v5 : Ref sig .tc := ⟨.hbm, 13, rfl⟩
abbrev main_v6 : Ref sig .tc := ⟨.hbm, 14, rfl⟩
abbrev main_cst_0 : Ref sig .tc := ⟨.hbm, 15, rfl⟩
abbrev main_v7 : Ref sig .tc := ⟨.hbm, 16, rfl⟩
abbrev main_v8 : Ref sig .tc := ⟨.hbm, 17, rfl⟩
abbrev main_cst_1 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_cst_2 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_cst_3 : Ref sig .tc := ⟨.hbm, 33, rfl⟩
abbrev main_v22 : Ref sig .tc := ⟨.hbm, 34, rfl⟩
abbrev main_v23 : Ref sig .tc := ⟨.hbm, 35, rfl⟩
abbrev main_cst_4 : Ref sig .tc := ⟨.hbm, 36, rfl⟩
abbrev main_v24 : Ref sig .tc := ⟨.hbm, 37, rfl⟩
abbrev main_cst_5 : Ref sig .tc := ⟨.hbm, 38, rfl⟩
abbrev main_v25 : Ref sig .tc := ⟨.hbm, 39, rfl⟩
abbrev main_v26 : Ref sig .tc := ⟨.hbm, 40, rfl⟩
abbrev main_cst_6 : Ref sig .tc := ⟨.hbm, 41, rfl⟩
abbrev main_v27 : Ref sig .tc := ⟨.hbm, 42, rfl⟩
abbrev main_cst_7 : Ref sig .tc := ⟨.hbm, 43, rfl⟩
abbrev main_v28 : Ref sig .tc := ⟨.hbm, 44, rfl⟩
abbrev main_cst_8 : Ref sig .tc := ⟨.hbm, 45, rfl⟩
abbrev main_cst_9 : Ref sig .tc := ⟨.hbm, 46, rfl⟩
abbrev main_v29 : Ref sig .tc := ⟨.hbm, 47, rfl⟩
abbrev main_v30 : Ref sig .tc := ⟨.hbm, 48, rfl⟩
abbrev main_cst_10 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_cst_11 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_cst_12 : Ref sig .tc := ⟨.hbm, 60, rfl⟩
abbrev main_v40 : Ref sig .tc := ⟨.hbm, 61, rfl⟩
abbrev main_v41 : Ref sig .tc := ⟨.hbm, 62, rfl⟩
abbrev main_cst_13 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_cst_14 : Ref sig .tc := ⟨.hbm, 69, rfl⟩
abbrev main_v47 : Ref sig .tc := ⟨.hbm, 70, rfl⟩
abbrev main_v48 : Ref sig .tc := ⟨.hbm, 71, rfl⟩
abbrev main_cst_15 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩

abbrev nD : Nat := 1
abbrev τ : Topo := Topo.v7x

variable {F : FTy → Type} [FloatOps F]
-- ==== RetFwd.lean ====
abbrev S4096x3072 : Shape := ⟨2, ![4096, 3072]⟩
abbrev S64 : Shape := ⟨1, ![64]⟩
abbrev S_ : Shape := ⟨0, ![]⟩
abbrev S4096 : Shape := ⟨1, ![4096]⟩
abbrev S4096x1 : Shape := ⟨2, ![4096, 1]⟩
abbrev S1x64 : Shape := ⟨2, ![1, 64]⟩
abbrev S4096x64 : Shape := ⟨2, ![4096, 64]⟩
abbrev S4096x128 : Shape := ⟨2, ![4096, 128]⟩
abbrev S4 : Shape := ⟨1, ![4]⟩
abbrev S128 : Shape := ⟨1, ![128]⟩
abbrev S128x1 : Shape := ⟨2, ![128, 1]⟩
abbrev S1x128 : Shape := ⟨2, ![1, 128]⟩
abbrev S128x128 : Shape := ⟨2, ![128, 128]⟩
abbrev S1x128x128 : Shape := ⟨3, ![1, 128, 128]⟩
abbrev S4x1x1 : Shape := ⟨3, ![4, 1, 1]⟩
abbrev S4x128x128 : Shape := ⟨3, ![4, 128, 128]⟩
abbrev S4x1 : Shape := ⟨2, ![4, 1]⟩
abbrev S4x128 : Shape := ⟨2, ![4, 128]⟩
abbrev S4x128x1 : Shape := ⟨3, ![4, 128, 1]⟩
abbrev S4x1x128x128 : Shape := ⟨4, ![4, 1, 128, 128]⟩
abbrev S4x4x128x128 : Shape := ⟨4, ![4, 4, 128, 128]⟩
abbrev S4096x512 : Shape := ⟨2, ![4096, 512]⟩
abbrev S32x4x128x128 : Shape := ⟨4, ![32, 4, 128, 128]⟩
abbrev S512x512 : Shape := ⟨2, ![512, 512]⟩
abbrev S512x128 : Shape := ⟨2, ![512, 128]⟩
abbrev S128x512 : Shape := ⟨2, ![128, 512]⟩
abbrev S1x4x128x128 : Shape := ⟨4, ![1, 4, 128, 128]⟩

abbrev nBuf : Space → Nat
  | .hbm => 91
  | .vmem => 20
  | .smem => 0
  | _ => 0

abbrev bufTy : (tb : Table) → Fin (tcTables nBuf tb) → BufTy
  | .hbm, ⟨0, _⟩ => ⟨S4096x3072, .f32⟩
  | .hbm, ⟨1, _⟩ => ⟨S64, .f32⟩
  | .hbm, ⟨2, _⟩ => ⟨S64, .f32⟩
  | .hbm, ⟨3, _⟩ => ⟨S_, .f32⟩
  | .hbm, ⟨4, _⟩ => ⟨S64, .f32⟩
  | .hbm, ⟨5, _⟩ => ⟨S64, .f32⟩
  | .hbm, ⟨6, _⟩ => ⟨S_, .f32⟩
  | .hbm, ⟨7, _⟩ => ⟨S64, .f32⟩
  | .hbm, ⟨8, _⟩ => ⟨S64, .f32⟩
  | .hbm, ⟨9, _⟩ => ⟨S4096, .f32⟩
  | .hbm, ⟨10, _⟩ => ⟨S4096x1, .f32⟩
  | .hbm, ⟨11, _⟩ => ⟨S1x64, .f32⟩
  | .hbm, ⟨12, _⟩ => ⟨S4096x64, .f32⟩
  | .hbm, ⟨13, _⟩ => ⟨S4096x64, .f32⟩
  | .hbm, ⟨14, _⟩ => ⟨S4096x64, .f32⟩
  | .hbm, ⟨15, _⟩ => ⟨S4096x64, .f32⟩
  | .hbm, ⟨16, _⟩ => ⟨S4096x64, .f32⟩
  | .hbm, ⟨17, _⟩ => ⟨S4096x128, .f32⟩
  | .hbm, ⟨18, _⟩ => ⟨S4096x64, .f32⟩
  | .hbm, ⟨19, _⟩ => ⟨S4096x128, .f32⟩
  | .hbm, ⟨20, _⟩ => ⟨S4, .f32⟩
  | .hbm, ⟨21, _⟩ => ⟨S_, .f32⟩
  | .hbm, ⟨22, _⟩ => ⟨S4, .f32⟩
  | .hbm, ⟨23, _⟩ => ⟨S4, .f32⟩
  | .hbm, ⟨24, _⟩ => ⟨S_, .f32⟩
  | .hbm, ⟨25, _⟩ => ⟨S4, .f32⟩
  | .hbm, ⟨26, _⟩ => ⟨S4, .f32⟩
  | .hbm, ⟨27, _⟩ => ⟨S4, .f32⟩
  | .hbm, ⟨28, _⟩ => ⟨S4, .f32⟩
  | .hbm, ⟨29, _⟩ => ⟨S4, .f32⟩
  | .hbm, ⟨30, _⟩ => ⟨S128, .f32⟩
  | .hbm, ⟨31, _⟩ => ⟨S128x1, .f32⟩
  | .hbm, ⟨32, _⟩ => ⟨S1x128, .f32⟩
  | .hbm, ⟨33, _⟩ => ⟨S128x128, .f32⟩
  | .hbm, ⟨34, _⟩ => ⟨S128x128, .f32⟩
  | .hbm, ⟨35, _⟩ => ⟨S128x128, .f32⟩
  | .hbm, ⟨36, _⟩ => ⟨S_, .f32⟩
  | .hbm, ⟨37, _⟩ => ⟨S128x128, .f32⟩
  | .hbm, ⟨38, _⟩ => ⟨S128x128, .i1⟩
  | .hbm, ⟨39, _⟩ => ⟨S1x128x128, .i1⟩
  | .hbm, ⟨40, _⟩ => ⟨S4x1x1, .f32⟩
  | .hbm, ⟨41, _⟩ => ⟨S_, .f32⟩
  | .hbm, ⟨42, _⟩ => ⟨S_, .f32⟩
  | .hbm, ⟨43, _⟩ => ⟨S128x128, .f32⟩
  | .hbm, ⟨44, _⟩ => ⟨S128x128, .f32⟩
  | .hbm, ⟨45, _⟩ => ⟨S1x128x128, .f32⟩
  | .hbm, ⟨46, _⟩ => ⟨S4x128x128, .f32⟩
  | .hbm, ⟨47, _⟩ => ⟨S4x128x128, .f32⟩
  | .hbm, ⟨48, _⟩ => ⟨S4x128x128, .f32⟩
  | .hbm, ⟨49, _⟩ => ⟨S4x128x128, .f32⟩
  | .hbm, ⟨50, _⟩ => ⟨S_, .f32⟩
  | .hbm, ⟨51, _⟩ => ⟨S_, .f32⟩
  | .hbm, ⟨52, _⟩ => ⟨S4x128x128, .i1⟩
  | .hbm, ⟨53, _⟩ => ⟨S4x128x128, .f32⟩
  | .hbm, ⟨54, _⟩ => ⟨S4x128x128, .f32⟩
  | .hbm, ⟨55, _⟩ => ⟨S4x1, .f32⟩
  | .hbm, ⟨56, _⟩ => ⟨S1x128, .f32⟩
  | .hbm, ⟨57, _⟩ => ⟨S_, .f32⟩
  | .hbm, ⟨58, _⟩ => ⟨S1x128, .f32⟩
  | .hbm, ⟨59, _⟩ => ⟨S1x128, .f32⟩
  | .hbm, ⟨60, _⟩ => ⟨S4x128, .f32⟩
  | .hbm, ⟨61, _⟩ => ⟨S4x128, .f32⟩
  | .hbm, ⟨62, _⟩ => ⟨S4x128, .f32⟩
  | .hbm, ⟨63, _⟩ => ⟨S4x128, .f32⟩
  | .hbm, ⟨64, _⟩ => ⟨S4x1, .f32⟩
  | .hbm, ⟨65, _⟩ => ⟨S1x128, .f32⟩
  | .hbm, ⟨66, _⟩ => ⟨S_, .f32⟩
  | .hbm, ⟨67, _⟩ => ⟨S1x128, .f32⟩
  | .hbm, ⟨68, _⟩ => ⟨S1x128, .f32⟩
  | .hbm, ⟨69, _⟩ => ⟨S4x128, .f32⟩
  | .hbm, ⟨70, _⟩ => ⟨S4x128, .f32⟩
  | .hbm, ⟨71, _⟩ => ⟨S4x128, .f32⟩
  | .hbm, ⟨72, _⟩ => ⟨S4x128, .f32⟩
  | .hbm, ⟨73, _⟩ => ⟨S_, .f32⟩
  | .hbm, ⟨74, _⟩ => ⟨S4, .f32⟩
  | .hbm, ⟨75, _⟩ => ⟨S4, .f32⟩
  | .hbm, ⟨76, _⟩ => ⟨S4, .f32⟩
  | .hbm, ⟨77, _⟩ => ⟨S4x128x1, .f32⟩
  | .hbm, ⟨78, _⟩ => ⟨S4x128x128, .f32⟩
  | .hbm, ⟨79, _⟩ => ⟨S4x128x1, .f32⟩
  | .hbm, ⟨80, _⟩ => ⟨S4x128x128, .f32⟩
  | .hbm, ⟨81, _⟩ => ⟨S4x1x1, .f32⟩
  | .hbm, ⟨82, _⟩ => ⟨S4x128x128, .f32⟩
  | .hbm, ⟨83, _⟩ => ⟨S4x1x128x128, .f32⟩
  | .hbm, ⟨84, _⟩ => ⟨S4x1x128x128, .f32⟩
  | .hbm, ⟨85, _⟩ => ⟨S4x1x128x128, .f32⟩
  | .hbm, ⟨86, _⟩ => ⟨S4x1x128x128, .f32⟩
  | .hbm, ⟨87, _⟩ => ⟨S4x4x128x128, .f32⟩
  | .hbm, ⟨88, _⟩ => ⟨S4096x512, .bf16⟩
  | .hbm, ⟨89, _⟩ => ⟨S4096x512, .f32⟩
  | .hbm, ⟨90, _⟩ => ⟨S32x4x128x128, .f32⟩
  | .local _ .vmem, ⟨0, _⟩ => ⟨S512x512, .f32⟩
  | .local _ .vmem, ⟨1, _⟩ => ⟨S512x512, .f32⟩
  | .local _ .vmem, ⟨2, _⟩ => ⟨S512x512, .f32⟩
  | .local _ .vmem, ⟨3, _⟩ => ⟨S512x512, .f32⟩
  | .local _ .vmem, ⟨4, _⟩ => ⟨S512x512, .f32⟩
  | .local _ .vmem, ⟨5, _⟩ => ⟨S512x512, .f32⟩
  | .local _ .vmem, ⟨6, _⟩ => ⟨S512x512, .f32⟩
  | .local _ .vmem, ⟨7, _⟩ => ⟨S512x512, .f32⟩
  | .local _ .vmem, ⟨8, _⟩ => ⟨S512x128, .f32⟩
  | .local _ .vmem, ⟨9, _⟩ => ⟨S512x128, .f32⟩
  | .local _ .vmem, ⟨10, _⟩ => ⟨S512x128, .f32⟩
  | .local _ .vmem, ⟨11, _⟩ => ⟨S512x128, .f32⟩
  | .local _ .vmem, ⟨12, _⟩ => ⟨S4x4x128x128, .f32⟩
  | .local _ .vmem, ⟨13, _⟩ => ⟨S512x512, .bf16⟩
  | .local _ .vmem, ⟨14, _⟩ => ⟨S512x512, .bf16⟩
  | .local _ .vmem, ⟨15, _⟩ => ⟨S512x512, .f32⟩
  | .local _ .vmem, ⟨16, _⟩ => ⟨S512x512, .f32⟩
  | .local _ .vmem, ⟨17, _⟩ => ⟨S4x4x128x128, .f32⟩
  | .local _ .vmem, ⟨18, _⟩ => ⟨S4x4x128x128, .f32⟩
  | .local _ .vmem, ⟨19, _⟩ => ⟨S4x128x128, .f32⟩
  | _, _ => ⟨S4096x3072, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_cst : Ref sig .tc := ⟨.hbm, 3, rfl⟩
abbrev main_v2 : Ref sig .tc := ⟨.hbm, 4, rfl⟩
abbrev main_v3 : Ref sig .tc := ⟨.hbm, 5, rfl⟩
abbrev main_cst_0 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_cst_1 : Ref sig .tc := ⟨.hbm, 21, rfl⟩
abbrev main_v18 : Ref sig .tc := ⟨.hbm, 22, rfl⟩
abbrev main_v19 : Ref sig .tc := ⟨.hbm, 23, rfl⟩
abbrev main_cst_2 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_v28 : Ref sig .tc := ⟨.hbm, 33, rfl⟩
abbrev main_v29 : Ref sig .tc := ⟨.hbm, 34, rfl⟩
abbrev main_v30 : Ref sig .tc := ⟨.hbm, 35, rfl⟩
abbrev main_cst_3 : Ref sig .tc := ⟨.hbm, 36, rfl⟩
abbrev main_v31 : Ref sig .tc := ⟨.hbm, 37, rfl⟩
abbrev main_v32 : Ref sig .tc := ⟨.hbm, 38, rfl⟩
abbrev main_v33 : Ref sig .tc := ⟨.hbm, 39, rfl⟩
abbrev main_v34 : Ref sig .tc := ⟨.hbm, 40, rfl⟩
abbrev main_cst_4 : Ref sig .tc := ⟨.hbm, 41, rfl⟩
abbrev main_call0_v0 : Ref sig .tc := ⟨.hbm, 42, rfl⟩
abbrev main_call0_v1 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_v38 : Ref sig .tc := ⟨.hbm, 47, rfl⟩
abbrev main_v39 : Ref sig .tc := ⟨.hbm, 48, rfl⟩
abbrev main_v40 : Ref sig .tc := ⟨.hbm, 49, rfl⟩
abbrev main_cst_5 : Ref sig .tc := ⟨.hbm, 50, rfl⟩
abbrev main_call1_v0 : Ref sig .tc := ⟨.hbm, 51, rfl⟩
abbrev main_call1_v1 : Ref sig .tc := ⟨.hbm, 52, rfl⟩
abbrev main_call1_v2 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_cst_6 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_v51 : Ref sig .tc := ⟨.hbm, 65, rfl⟩
abbrev main_cst_7 : Ref sig .tc := ⟨.hbm, 66, rfl⟩
abbrev main_v52 : Ref sig .tc := ⟨.hbm, 67, rfl⟩
abbrev main_v53 : Ref sig .tc := ⟨.hbm, 68, rfl⟩
abbrev main_v54 : Ref sig .tc := ⟨.hbm, 69, rfl⟩
abbrev main_v55 : Ref sig .tc := ⟨.hbm, 70, rfl⟩
abbrev main_v56 : Ref sig .tc := ⟨.hbm, 71, rfl⟩
abbrev main_v57 : Ref sig .tc := ⟨.hbm, 72, rfl⟩
abbrev main_cst_8 : Ref sig .tc := ⟨.hbm, 73, rfl⟩
abbrev main_v58 : Ref sig .tc := ⟨.hbm, 74, rfl⟩
abbrev main_v59 : Ref sig .tc := ⟨.hbm, 75, rfl⟩
abbrev main_v60 : Ref sig .tc := ⟨.hbm, 76, rfl⟩
abbrev main_v61 : Ref sig .tc := ⟨.hbm, 77, rfl⟩
abbrev main_v62 : Ref sig .tc := ⟨.hbm, 78, rfl⟩
abbrev main_v63 : Ref sig .tc := ⟨.hbm, 79, rfl⟩
abbrev main_v64 : Ref sig .tc := ⟨.hbm, 80, rfl⟩
abbrev main_v65 : Ref sig .tc := ⟨.hbm, 81, rfl⟩
abbrev main_v66 : Ref sig .tc := ⟨.hbm, 82, rfl⟩
abbrev main_v67 : Ref sig .tc := ⟨.hbm, 83, rfl⟩
abbrev main_v68 : Ref sig .tc := ⟨.hbm, 84, rfl⟩
abbrev main_v69 : Ref sig .tc := ⟨.hbm, 85, rfl⟩
abbrev main_v70 : Ref sig .tc := ⟨.hbm, 86, rfl⟩
abbrev main_v71 : Ref sig .tc := ⟨.hbm, 87, rfl⟩
abbrev main_v72_0 : Ref sig .tc := ⟨.hbm, 88, rfl⟩
abbrev main_v72_1 : Ref sig .tc := ⟨.hbm, 89, rfl⟩
abbrev main_v72_2 : Ref sig .tc := ⟨.hbm, 90, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_stg9_0 : Ref sig .tc := ⟨.vmem, 17, rfl⟩
abbrev cc0_stg9_1 : Ref sig .tc := ⟨.vmem, 18, rfl⟩
abbrev cc0_scratch0 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17
abbrev cc0_sem9_1 : DmaSem sig := 18

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_2 (i : grid0.Coords) : Fin 2 → Nat :=
  let arg0 : BitVec 32 := BitVec.ofNat 32 (i 0).val
  let c2_i32 : BitVec 32 := 2#32
  let c0_i32 : BitVec 32 := 0#32
  ![arg0.toNat, c2_i32.toNat]

def cc0_transform_3 (i : grid0.Coords) : Fin 2 → Nat :=
  let arg0 : BitVec 32 := BitVec.ofNat 32 (i 0).val
  let c3_i32 : BitVec 32 := 3#32
  let c0_i32 : BitVec 32 := 0#32
  ![arg0.toNat, c3_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S4x4x128x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S4x4x128x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== RetFwdRefIdeal.lean ====
abbrev S4096x3072 : Shape := ⟨2, ![4096, 3072]⟩
abbrev S4096x512 : Shape := ⟨2, ![4096, 512]⟩
abbrev S1x4096x512 : Shape := ⟨3, ![1, 4096, 512]⟩
abbrev S4096 : Shape := ⟨1, ![4096]⟩
abbrev S1x4096x4x128 : Shape := ⟨4, ![1, 4096, 4, 128]⟩
abbrev S64 : Shape := ⟨1, ![64]⟩
abbrev S_ : Shape := ⟨0, ![]⟩
abbrev S4096x1 : Shape := ⟨2, ![4096, 1]⟩
abbrev S1x64 : Shape := ⟨2, ![1, 64]⟩
abbrev S4096x64 : Shape := ⟨2, ![4096, 64]⟩
abbrev S1x4096x1x64 : Shape := ⟨4, ![1, 4096, 1, 64]⟩
abbrev S1x4096x4x64 : Shape := ⟨4, ![1, 4096, 4, 64]⟩
abbrev S4 : Shape := ⟨1, ![4]⟩
abbrev S1x32x128x4x128 : Shape := ⟨5, ![1, 32, 128, 4, 128]⟩
abbrev S128 : Shape := ⟨1, ![128]⟩
abbrev S128x1 : Shape := ⟨2, ![128, 1]⟩
abbrev S1x128 : Shape := ⟨2, ![1, 128]⟩
abbrev S128x128 : Shape := ⟨2, ![128, 128]⟩
abbrev S4x1x1 : Shape := ⟨3, ![4, 1, 1]⟩
abbrev S1x128x128 : Shape := ⟨3, ![1, 128, 128]⟩
abbrev S4x128x128 : Shape := ⟨3, ![4, 128, 128]⟩
abbrev S1x32x4x128x128 : Shape := ⟨5, ![1, 32, 4, 128, 128]⟩
abbrev S1x1x4x128x128 : Shape := ⟨5, ![1, 1, 4, 128, 128]⟩
abbrev S1x4 : Shape := ⟨2, ![1, 4]⟩
abbrev S128x4 : Shape := ⟨2, ![128, 4]⟩
abbrev S128x4x1 : Shape := ⟨3, ![128, 4, 1]⟩
abbrev S1x1x128x4x1 : Shape := ⟨5, ![1, 1, 128, 4, 1]⟩
abbrev S1x4x128x128 : Shape := ⟨4, ![1, 4, 128, 128]⟩
abbrev S32x1x4x128x128 : Shape := ⟨5, ![32, 1, 4, 128, 128]⟩
abbrev S0x1x4x128x128 : Shape := ⟨5, ![0, 1, 4, 128, 128]⟩
abbrev S1x4x1x1 : Shape := ⟨4, ![1, 4, 1, 1]⟩
abbrev S16x1x4x128x128 : Shape := ⟨5, ![16, 1, 4, 128, 128]⟩
abbrev S1x4096x4 : Shape := ⟨3, ![1, 4096, 4]⟩
abbrev S1x4096x4x1 : Shape := ⟨4, ![1, 4096, 4, 1]⟩
abbrev S32x4x128x128 : Shape := ⟨4, ![32, 4, 128, 128]⟩

abbrev nBuf : Space → Nat
  | .hbm => 420
  | .vmem => 0
  | .smem => 0
  | _ => 0

abbrev hbmTy0_0 (i : Nat) : BufTy := match i % 128 with
  | 0 => ⟨S4096x3072, .f32⟩
  | 1 => ⟨S4096x512, .f32⟩
  | 2 => ⟨S1x4096x512, .f32⟩
  | 3 => ⟨S4096x512, .f32⟩
  | 4 => ⟨S1x4096x512, .f32⟩
  | 5 => ⟨S4096x512, .f32⟩
  | 6 => ⟨S1x4096x512, .f32⟩
  | 7 => ⟨S4096x512, .f32⟩
  | 8 => ⟨S1x4096x512, .f32⟩
  | 9 => ⟨S4096, .i32⟩
  | 10 => ⟨S1x4096x4x128, .f32⟩
  | 11 => ⟨S64, .f32⟩
  | 12 => ⟨S64, .f32⟩
  | 13 => ⟨S_, .f32⟩
  | 14 => ⟨S64, .f32⟩
  | 15 => ⟨S64, .f32⟩
  | 16 => ⟨S_, .f32⟩
  | 17 => ⟨S64, .f32⟩
  | 18 => ⟨S64, .f32⟩
  | 19 => ⟨S4096, .f32⟩
  | 20 => ⟨S4096x1, .f32⟩
  | 21 => ⟨S1x64, .f32⟩
  | 22 => ⟨S4096x64, .f32⟩
  | 23 => ⟨S4096x64, .f32⟩
  | 24 => ⟨S4096x64, .f32⟩
  | 25 => ⟨S4096x64, .f32⟩
  | 26 => ⟨S1x4096x1x64, .f32⟩
  | 27 => ⟨S4096x64, .f32⟩
  | 28 => ⟨S1x4096x1x64, .f32⟩
  | 29 => ⟨S1x4096x4x64, .f32⟩
  | 30 => ⟨S1x4096x4x64, .f32⟩
  | 31 => ⟨S1x4096x4x64, .f32⟩
  | 32 => ⟨S1x4096x4x64, .f32⟩
  | 33 => ⟨S1x4096x4x64, .f32⟩
  | 34 => ⟨S1x4096x4x64, .f32⟩
  | 35 => ⟨S1x4096x4x64, .f32⟩
  | 36 => ⟨S1x4096x4x64, .f32⟩
  | 37 => ⟨S1x4096x4x64, .f32⟩
  | 38 => ⟨S1x4096x4x64, .f32⟩
  | 39 => ⟨S1x4096x4x64, .f32⟩
  | 40 => ⟨S1x4096x4x64, .f32⟩
  | 41 => ⟨S1x4096x4x128, .f32⟩
  | 42 => ⟨S1x4096x4x128, .f32⟩
  | 43 => ⟨S64, .f32⟩
  | 44 => ⟨S64, .f32⟩
  | 45 => ⟨S_, .f32⟩
  | 46 => ⟨S64, .f32⟩
  | 47 => ⟨S64, .f32⟩
  | 48 => ⟨S_, .f32⟩
  | 49 => ⟨S64, .f32⟩
  | 50 => ⟨S64, .f32⟩
  | 51 => ⟨S4096, .f32⟩
  | 52 => ⟨S4096x1, .f32⟩
  | 53 => ⟨S1x64, .f32⟩
  | 54 => ⟨S4096x64, .f32⟩
  | 55 => ⟨S4096x64, .f32⟩
  | 56 => ⟨S4096x64, .f32⟩
  | 57 => ⟨S4096x64, .f32⟩
  | 58 => ⟨S1x4096x1x64, .f32⟩
  | 59 => ⟨S4096x64, .f32⟩
  | 60 => ⟨S1x4096x1x64, .f32⟩
  | 61 => ⟨S1x4096x4x64, .f32⟩
  | 62 => ⟨S1x4096x4x64, .f32⟩
  | 63 => ⟨S1x4096x4x64, .f32⟩
  | 64 => ⟨S1x4096x4x64, .f32⟩
  | 65 => ⟨S1x4096x4x64, .f32⟩
  | 66 => ⟨S1x4096x4x64, .f32⟩
  | 67 => ⟨S1x4096x4x64, .f32⟩
  | 68 => ⟨S1x4096x4x64, .f32⟩
  | 69 => ⟨S1x4096x4x64, .f32⟩
  | 70 => ⟨S1x4096x4x64, .f32⟩
  | 71 => ⟨S1x4096x4x64, .f32⟩
  | 72 => ⟨S1x4096x4x64, .f32⟩
  | 73 => ⟨S1x4096x4x128, .f32⟩
  | 74 => ⟨S1x4096x4x128, .f32⟩
  | 75 => ⟨S4, .f32⟩
  | 76 => ⟨S_, .f32⟩
  | 77 => ⟨S4, .f32⟩
  | 78 => ⟨S4, .f32⟩
  | 79 => ⟨S_, .f32⟩
  | 80 => ⟨S4, .f32⟩
  | 81 => ⟨S4, .f32⟩
  | 82 => ⟨S4, .f32⟩
  | 83 => ⟨S4, .f32⟩
  | 84 => ⟨S4, .f32⟩
  | 85 => ⟨S_, .f32⟩
  | 86 => ⟨S1x4096x4x128, .f32⟩
  | 87 => ⟨S1x4096x4x128, .f32⟩
  | 88 => ⟨S1x32x128x4x128, .f32⟩
  | 89 => ⟨S1x32x128x4x128, .f32⟩
  | 90 => ⟨S1x32x128x4x128, .f32⟩
  | 91 => ⟨S128, .f32⟩
  | 92 => ⟨S128x1, .f32⟩
  | 93 => ⟨S1x128, .f32⟩
  | 94 => ⟨S128x128, .f32⟩
  | 95 => ⟨S128x128, .f32⟩
  | 96 => ⟨S128x128, .f32⟩
  | 97 => ⟨S_, .f32⟩
  | 98 => ⟨S128x128, .f32⟩
  | 99 => ⟨S128x128, .i1⟩
  | 100 => ⟨S4x1x1, .f32⟩
  | 101 => ⟨S_, .f32⟩
  | 102 => ⟨S_, .f32⟩
  | 103 => ⟨S128x128, .f32⟩
  | 104 => ⟨S128x128, .f32⟩
  | 105 => ⟨S1x128x128, .f32⟩
  | 106 => ⟨S4x128x128, .f32⟩
  | 107 => ⟨S4x128x128, .f32⟩
  | 108 => ⟨S4x128x128, .f32⟩
  | 109 => ⟨S4x128x128, .f32⟩
  | 110 => ⟨S_, .f32⟩
  | 111 => ⟨S_, .f32⟩
  | 112 => ⟨S4x128x128, .i1⟩
  | 113 => ⟨S4x128x128, .f32⟩
  | 114 => ⟨S4x128x128, .f32⟩
  | 115 => ⟨S1x32x4x128x128, .f32⟩
  | 116 => ⟨S1x1x4x128x128, .f32⟩
  | 117 => ⟨S1x32x4x128x128, .f32⟩
  | 118 => ⟨S1x32x4x128x128, .f32⟩
  | 119 => ⟨S1x32x4x128x128, .f32⟩
  | 120 => ⟨S1x32x128x4x128, .f32⟩
  | 121 => ⟨S1x4, .f32⟩
  | 122 => ⟨S128x1, .f32⟩
  | 123 => ⟨S_, .f32⟩
  | 124 => ⟨S128x1, .f32⟩
  | 125 => ⟨S128x1, .f32⟩
  | 126 => ⟨S128x4, .f32⟩
  | 127 => ⟨S128x4, .f32⟩
  | _ => ⟨S4096x3072, .f32⟩

abbrev hbmTy0_1 (i : Nat) : BufTy := match i % 128 with
  | 0 => ⟨S128x4, .f32⟩
  | 1 => ⟨S128x4, .f32⟩
  | 2 => ⟨S1x4, .f32⟩
  | 3 => ⟨S128x1, .f32⟩
  | 4 => ⟨S_, .f32⟩
  | 5 => ⟨S128x1, .f32⟩
  | 6 => ⟨S128x1, .f32⟩
  | 7 => ⟨S128x4, .f32⟩
  | 8 => ⟨S128x4, .f32⟩
  | 9 => ⟨S128x4, .f32⟩
  | 10 => ⟨S128x4, .f32⟩
  | 11 => ⟨S_, .f32⟩
  | 12 => ⟨S4, .f32⟩
  | 13 => ⟨S4, .f32⟩
  | 14 => ⟨S4, .f32⟩
  | 15 => ⟨S128x4x1, .f32⟩
  | 16 => ⟨S1x1x128x4x1, .f32⟩
  | 17 => ⟨S1x32x128x4x128, .f32⟩
  | 18 => ⟨S1x32x128x4x128, .f32⟩
  | 19 => ⟨S1x32x4x128x128, .f32⟩
  | 20 => ⟨S_, .f32⟩
  | 21 => ⟨S1x4x128x128, .f32⟩
  | 22 => ⟨S32x1x4x128x128, .f32⟩
  | 23 => ⟨S0x1x4x128x128, .f32⟩
  | 24 => ⟨S32x1x4x128x128, .f32⟩
  | 25 => ⟨S_, .f32⟩
  | 26 => ⟨S0x1x4x128x128, .f32⟩
  | 27 => ⟨S1x1x4x128x128, .f32⟩
  | 28 => ⟨S1x4x128x128, .f32⟩
  | 29 => ⟨S1x4x1x1, .f32⟩
  | 30 => ⟨S1x4x128x128, .f32⟩
  | 31 => ⟨S1x4x128x128, .f32⟩
  | 32 => ⟨S1x4x128x128, .f32⟩
  | 33 => ⟨S1x1x4x128x128, .f32⟩
  | 34 => ⟨S1x4x128x128, .f32⟩
  | 35 => ⟨S1x4x1x1, .f32⟩
  | 36 => ⟨S1x4x128x128, .f32⟩
  | 37 => ⟨S1x4x128x128, .f32⟩
  | 38 => ⟨S1x4x128x128, .f32⟩
  | 39 => ⟨S1x1x4x128x128, .f32⟩
  | 40 => ⟨S1x4x128x128, .f32⟩
  | 41 => ⟨S1x4x1x1, .f32⟩
  | 42 => ⟨S1x4x128x128, .f32⟩
  | 43 => ⟨S1x4x128x128, .f32⟩
  | 44 => ⟨S1x4x128x128, .f32⟩
  | 45 => ⟨S1x1x4x128x128, .f32⟩
  | 46 => ⟨S1x4x128x128, .f32⟩
  | 47 => ⟨S1x4x1x1, .f32⟩
  | 48 => ⟨S1x4x128x128, .f32⟩
  | 49 => ⟨S1x4x128x128, .f32⟩
  | 50 => ⟨S1x4x128x128, .f32⟩
  | 51 => ⟨S1x1x4x128x128, .f32⟩
  | 52 => ⟨S1x4x128x128, .f32⟩
  | 53 => ⟨S1x4x1x1, .f32⟩
  | 54 => ⟨S1x4x128x128, .f32⟩
  | 55 => ⟨S1x4x128x128, .f32⟩
  | 56 => ⟨S1x4x128x128, .f32⟩
  | 57 => ⟨S1x1x4x128x128, .f32⟩
  | 58 => ⟨S1x4x128x128, .f32⟩
  | 59 => ⟨S1x4x1x1, .f32⟩
  | 60 => ⟨S1x4x128x128, .f32⟩
  | 61 => ⟨S1x4x128x128, .f32⟩
  | 62 => ⟨S1x4x128x128, .f32⟩
  | 63 => ⟨S1x1x4x128x128, .f32⟩
  | 64 => ⟨S1x4x128x128, .f32⟩
  | 65 => ⟨S1x4x1x1, .f32⟩
  | 66 => ⟨S1x4x128x128, .f32⟩
  | 67 => ⟨S1x4x128x128, .f32⟩
  | 68 => ⟨S1x4x128x128, .f32⟩
  | 69 => ⟨S1x1x4x128x128, .f32⟩
  | 70 => ⟨S1x4x128x128, .f32⟩
  | 71 => ⟨S1x4x1x1, .f32⟩
  | 72 => ⟨S1x4x128x128, .f32⟩
  | 73 => ⟨S1x4x128x128, .f32⟩
  | 74 => ⟨S1x4x128x128, .f32⟩
  | 75 => ⟨S1x1x4x128x128, .f32⟩
  | 76 => ⟨S1x4x128x128, .f32⟩
  | 77 => ⟨S1x4x1x1, .f32⟩
  | 78 => ⟨S1x4x128x128, .f32⟩
  | 79 => ⟨S1x4x128x128, .f32⟩
  | 80 => ⟨S1x4x128x128, .f32⟩
  | 81 => ⟨S1x1x4x128x128, .f32⟩
  | 82 => ⟨S1x4x128x128, .f32⟩
  | 83 => ⟨S1x4x1x1, .f32⟩
  | 84 => ⟨S1x4x128x128, .f32⟩
  | 85 => ⟨S1x4x128x128, .f32⟩
  | 86 => ⟨S1x4x128x128, .f32⟩
  | 87 => ⟨S1x1x4x128x128, .f32⟩
  | 88 => ⟨S1x4x128x128, .f32⟩
  | 89 => ⟨S1x4x1x1, .f32⟩
  | 90 => ⟨S1x4x128x128, .f32⟩
  | 91 => ⟨S1x4x128x128, .f32⟩
  | 92 => ⟨S1x4x128x128, .f32⟩
  | 93 => ⟨S1x1x4x128x128, .f32⟩
  | 94 => ⟨S1x4x128x128, .f32⟩
  | 95 => ⟨S1x4x1x1, .f32⟩
  | 96 => ⟨S1x4x128x128, .f32⟩
  | 97 => ⟨S1x4x128x128, .f32⟩
  | 98 => ⟨S1x4x128x128, .f32⟩
  | 99 => ⟨S1x1x4x128x128, .f32⟩
  | 100 => ⟨S1x4x128x128, .f32⟩
  | 101 => ⟨S1x4x1x1, .f32⟩
  | 102 => ⟨S1x4x128x128, .f32⟩
  | 103 => ⟨S1x4x128x128, .f32⟩
  | 104 => ⟨S1x4x128x128, .f32⟩
  | 105 => ⟨S1x1x4x128x128, .f32⟩
  | 106 => ⟨S1x4x128x128, .f32⟩
  | 107 => ⟨S1x4x1x1, .f32⟩
  | 108 => ⟨S1x4x128x128, .f32⟩
  | 109 => ⟨S1x4x128x128, .f32⟩
  | 110 => ⟨S1x4x128x128, .f32⟩
  | 111 => ⟨S1x1x4x128x128, .f32⟩
  | 112 => ⟨S1x4x128x128, .f32⟩
  | 113 => ⟨S1x4x1x1, .f32⟩
  | 114 => ⟨S1x4x128x128, .f32⟩
  | 115 => ⟨S1x4x128x128, .f32⟩
  | 116 => ⟨S1x4x128x128, .f32⟩
  | 117 => ⟨S1x1x4x128x128, .f32⟩
  | 118 => ⟨S1x4x128x128, .f32⟩
  | 119 => ⟨S1x4x1x1, .f32⟩
  | 120 => ⟨S1x4x128x128, .f32⟩
  | 121 => ⟨S1x4x128x128, .f32⟩
  | 122 => ⟨S1x4x128x128, .f32⟩
  | 123 => ⟨S1x1x4x128x128, .f32⟩
  | 124 => ⟨S1x4x128x128, .f32⟩
  | 125 => ⟨S1x4x1x1, .f32⟩
  | 126 => ⟨S1x4x128x128, .f32⟩
  | 127 => ⟨S1x4x128x128, .f32⟩
  | _ => ⟨S4096x3072, .f32⟩

abbrev hbmTy0_2 (i : Nat) : BufTy := match i % 128 with
  | 0 => ⟨S1x4x128x128, .f32⟩
  | 1 => ⟨S1x1x4x128x128, .f32⟩
  | 2 => ⟨S1x4x128x128, .f32⟩
  | 3 => ⟨S1x4x1x1, .f32⟩
  | 4 => ⟨S1x4x128x128, .f32⟩
  | 5 => ⟨S1x4x128x128, .f32⟩
  | 6 => ⟨S1x4x128x128, .f32⟩
  | 7 => ⟨S1x1x4x128x128, .f32⟩
  | 8 => ⟨S1x4x128x128, .f32⟩
  | 9 => ⟨S1x4x1x1, .f32⟩
  | 10 => ⟨S1x4x128x128, .f32⟩
  | 11 => ⟨S1x4x128x128, .f32⟩
  | 12 => ⟨S1x4x128x128, .f32⟩
  | 13 => ⟨S1x1x4x128x128, .f32⟩
  | 14 => ⟨S1x4x128x128, .f32⟩
  | 15 => ⟨S1x4x1x1, .f32⟩
  | 16 => ⟨S1x4x128x128, .f32⟩
  | 17 => ⟨S1x4x128x128, .f32⟩
  | 18 => ⟨S1x4x128x128, .f32⟩
  | 19 => ⟨S1x1x4x128x128, .f32⟩
  | 20 => ⟨S1x4x128x128, .f32⟩
  | 21 => ⟨S1x4x1x1, .f32⟩
  | 22 => ⟨S1x4x128x128, .f32⟩
  | 23 => ⟨S1x4x128x128, .f32⟩
  | 24 => ⟨S1x4x128x128, .f32⟩
  | 25 => ⟨S1x1x4x128x128, .f32⟩
  | 26 => ⟨S1x4x128x128, .f32⟩
  | 27 => ⟨S1x4x1x1, .f32⟩
  | 28 => ⟨S1x4x128x128, .f32⟩
  | 29 => ⟨S1x4x128x128, .f32⟩
  | 30 => ⟨S1x4x128x128, .f32⟩
  | 31 => ⟨S1x1x4x128x128, .f32⟩
  | 32 => ⟨S1x4x128x128, .f32⟩
  | 33 => ⟨S1x4x1x1, .f32⟩
  | 34 => ⟨S1x4x128x128, .f32⟩
  | 35 => ⟨S1x4x128x128, .f32⟩
  | 36 => ⟨S1x4x128x128, .f32⟩
  | 37 => ⟨S1x1x4x128x128, .f32⟩
  | 38 => ⟨S1x4x128x128, .f32⟩
  | 39 => ⟨S1x4x1x1, .f32⟩
  | 40 => ⟨S1x4x128x128, .f32⟩
  | 41 => ⟨S1x4x128x128, .f32⟩
  | 42 => ⟨S1x4x128x128, .f32⟩
  | 43 => ⟨S1x1x4x128x128, .f32⟩
  | 44 => ⟨S1x4x128x128, .f32⟩
  | 45 => ⟨S1x4x1x1, .f32⟩
  | 46 => ⟨S1x4x128x128, .f32⟩
  | 47 => ⟨S1x4x128x128, .f32⟩
  | 48 => ⟨S1x4x128x128, .f32⟩
  | 49 => ⟨S1x1x4x128x128, .f32⟩
  | 50 => ⟨S1x4x128x128, .f32⟩
  | 51 => ⟨S1x4x1x1, .f32⟩
  | 52 => ⟨S1x4x128x128, .f32⟩
  | 53 => ⟨S1x4x128x128, .f32⟩
  | 54 => ⟨S1x4x128x128, .f32⟩
  | 55 => ⟨S1x1x4x128x128, .f32⟩
  | 56 => ⟨S1x4x128x128, .f32⟩
  | 57 => ⟨S1x4x1x1, .f32⟩
  | 58 => ⟨S1x4x128x128, .f32⟩
  | 59 => ⟨S1x4x128x128, .f32⟩
  | 60 => ⟨S1x4x128x128, .f32⟩
  | 61 => ⟨S1x1x4x128x128, .f32⟩
  | 62 => ⟨S1x4x128x128, .f32⟩
  | 63 => ⟨S1x4x1x1, .f32⟩
  | 64 => ⟨S1x4x128x128, .f32⟩
  | 65 => ⟨S1x4x128x128, .f32⟩
  | 66 => ⟨S1x4x128x128, .f32⟩
  | 67 => ⟨S1x1x4x128x128, .f32⟩
  | 68 => ⟨S1x4x128x128, .f32⟩
  | 69 => ⟨S1x4x1x1, .f32⟩
  | 70 => ⟨S1x4x128x128, .f32⟩
  | 71 => ⟨S1x4x128x128, .f32⟩
  | 72 => ⟨S1x4x128x128, .f32⟩
  | 73 => ⟨S1x1x4x128x128, .f32⟩
  | 74 => ⟨S1x4x128x128, .f32⟩
  | 75 => ⟨S1x4x1x1, .f32⟩
  | 76 => ⟨S1x4x128x128, .f32⟩
  | 77 => ⟨S1x4x128x128, .f32⟩
  | 78 => ⟨S1x4x128x128, .f32⟩
  | 79 => ⟨S1x1x4x128x128, .f32⟩
  | 80 => ⟨S1x4x128x128, .f32⟩
  | 81 => ⟨S1x4x1x1, .f32⟩
  | 82 => ⟨S1x4x128x128, .f32⟩
  | 83 => ⟨S1x4x128x128, .f32⟩
  | 84 => ⟨S1x4x128x128, .f32⟩
  | 85 => ⟨S1x1x4x128x128, .f32⟩
  | 86 => ⟨S1x4x128x128, .f32⟩
  | 87 => ⟨S1x4x1x1, .f32⟩
  | 88 => ⟨S1x4x128x128, .f32⟩
  | 89 => ⟨S1x4x128x128, .f32⟩
  | 90 => ⟨S1x4x128x128, .f32⟩
  | 91 => ⟨S1x1x4x128x128, .f32⟩
  | 92 => ⟨S1x1x4x128x128, .f32⟩
  | 93 => ⟨S1x1x4x128x128, .f32⟩
  | 94 => ⟨S1x1x4x128x128, .f32⟩
  | 95 => ⟨S1x1x4x128x128, .f32⟩
  | 96 => ⟨S1x1x4x128x128, .f32⟩
  | 97 => ⟨S1x1x4x128x128, .f32⟩
  | 98 => ⟨S1x1x4x128x128, .f32⟩
  | 99 => ⟨S1x1x4x128x128, .f32⟩
  | 100 => ⟨S1x1x4x128x128, .f32⟩
  | 101 => ⟨S1x1x4x128x128, .f32⟩
  | 102 => ⟨S1x1x4x128x128, .f32⟩
  | 103 => ⟨S1x1x4x128x128, .f32⟩
  | 104 => ⟨S1x1x4x128x128, .f32⟩
  | 105 => ⟨S1x1x4x128x128, .f32⟩
  | 106 => ⟨S1x1x4x128x128, .f32⟩
  | 107 => ⟨S1x1x4x128x128, .f32⟩
  | 108 => ⟨S1x1x4x128x128, .f32⟩
  | 109 => ⟨S1x1x4x128x128, .f32⟩
  | 110 => ⟨S1x1x4x128x128, .f32⟩
  | 111 => ⟨S1x1x4x128x128, .f32⟩
  | 112 => ⟨S1x1x4x128x128, .f32⟩
  | 113 => ⟨S1x1x4x128x128, .f32⟩
  | 114 => ⟨S1x1x4x128x128, .f32⟩
  | 115 => ⟨S1x1x4x128x128, .f32⟩
  | 116 => ⟨S1x1x4x128x128, .f32⟩
  | 117 => ⟨S1x1x4x128x128, .f32⟩
  | 118 => ⟨S1x1x4x128x128, .f32⟩
  | 119 => ⟨S1x1x4x128x128, .f32⟩
  | 120 => ⟨S1x1x4x128x128, .f32⟩
  | 121 => ⟨S1x1x4x128x128, .f32⟩
  | 122 => ⟨S1x1x4x128x128, .f32⟩
  | 123 => ⟨S16x1x4x128x128, .f32⟩
  | 124 => ⟨S16x1x4x128x128, .f32⟩
  | 125 => ⟨S32x1x4x128x128, .f32⟩
  | 126 => ⟨S32x1x4x128x128, .f32⟩
  | 127 => ⟨S1x32x4x128x128, .f32⟩
  | _ => ⟨S4096x3072, .f32⟩

abbrev hbmTy0_3 (i : Nat) : BufTy := match i % 128 with
  | 0 => ⟨S128x4x1, .f32⟩
  | 1 => ⟨S1x1x128x4x1, .f32⟩
  | 2 => ⟨S1x32x128x4x128, .f32⟩
  | 3 => ⟨S1x32x128x4x128, .f32⟩
  | 4 => ⟨S1x32x4x128x128, .f32⟩
  | 5 => ⟨S1x32x128x4x128, .f32⟩
  | 6 => ⟨S1x32x128x4x128, .f32⟩
  | 7 => ⟨S1x4096x4x128, .f32⟩
  | 8 => ⟨S1x4096x4x128, .f32⟩
  | 9 => ⟨S_, .f32⟩
  | 10 => ⟨S1x4096x4, .f32⟩
  | 11 => ⟨S1x4096x4x1, .f32⟩
  | 12 => ⟨S_, .f32⟩
  | 13 => ⟨S1x4096x4x1, .f32⟩
  | 14 => ⟨S1x4096x4x1, .f32⟩
  | 15 => ⟨S_, .f32⟩
  | 16 => ⟨S1x4096x4x1, .f32⟩
  | 17 => ⟨S1x4096x4x1, .f32⟩
  | 18 => ⟨S1x4096x4x1, .f32⟩
  | 19 => ⟨S1x4096x4x128, .f32⟩
  | 20 => ⟨S1x4096x4x128, .f32⟩
  | 21 => ⟨S1x4096x512, .f32⟩
  | 22 => ⟨S1x4096x512, .f32⟩
  | 23 => ⟨S1x4096x512, .f32⟩
  | 24 => ⟨S_, .f32⟩
  | 25 => ⟨S1x4096x512, .f32⟩
  | 26 => ⟨S1x4096x512, .f32⟩
  | 27 => ⟨S_, .f32⟩
  | 28 => ⟨S1x4096x512, .f32⟩
  | 29 => ⟨S1x4096x512, .f32⟩
  | 30 => ⟨S1x4096x512, .f32⟩
  | 31 => ⟨S1x4096x512, .f32⟩
  | 32 => ⟨S4096x512, .f32⟩
  | 33 => ⟨S4096x512, .bf16⟩
  | 34 => ⟨S4096x512, .f32⟩
  | 35 => ⟨S32x4x128x128, .f32⟩
  | _ => ⟨S4096x3072, .f32⟩

abbrev hbmTy (i : Nat) : BufTy := match i / 128 with
  | 0 => hbmTy0_0 i
  | 1 => hbmTy0_1 i
  | 2 => hbmTy0_2 i
  | 3 => hbmTy0_3 i
  | _ => ⟨S4096x3072, .f32⟩

abbrev bufTy : (tb : Table) → Fin (tcTables nBuf tb) → BufTy
  | .hbm, ⟨i, _⟩ => hbmTy i
  | _, _ => ⟨S4096x3072, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_v4 : Ref sig .tc := ⟨.hbm, 5, rfl⟩
abbrev main_v5 : Ref sig .tc := ⟨.hbm, 6, rfl⟩
abbrev main_v6 : Ref sig .tc := ⟨.hbm, 7, rfl⟩
abbrev main_v7 : Ref sig .tc := ⟨.hbm, 8, rfl⟩
abbrev main_v8 : Ref sig .tc := ⟨.hbm, 9, rfl⟩
abbrev main_v9 : Ref sig .tc := ⟨.hbm, 10, rfl⟩
abbrev main_v10 : Ref sig .tc := ⟨.hbm, 11, rfl⟩
abbrev main_v11 : Ref sig .tc := ⟨.hbm, 12, rfl⟩
abbrev main_cst : Ref sig .tc := ⟨.hbm, 13, rfl⟩
abbrev main_v12 : Ref sig .tc := ⟨.hbm, 14, rfl⟩
abbrev main_v13 : Ref sig .tc := ⟨.hbm, 15, rfl⟩
abbrev main_cst_0 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_v18 : Ref sig .tc := ⟨.hbm, 21, rfl⟩
abbrev main_v19 : Ref sig .tc := ⟨.hbm, 22, rfl⟩
abbrev main_v20 : Ref sig .tc := ⟨.hbm, 23, rfl⟩
abbrev main_v21 : Ref sig .tc := ⟨.hbm, 24, rfl⟩
abbrev main_v22 : Ref sig .tc := ⟨.hbm, 25, rfl⟩
abbrev main_v23 : Ref sig .tc := ⟨.hbm, 26, rfl⟩
abbrev main_v24 : Ref sig .tc := ⟨.hbm, 27, rfl⟩
abbrev main_v25 : Ref sig .tc := ⟨.hbm, 28, rfl⟩
abbrev main_v26 : Ref sig .tc := ⟨.hbm, 29, rfl⟩
abbrev main_v27 : Ref sig .tc := ⟨.hbm, 30, rfl⟩
abbrev main_v28 : Ref sig .tc := ⟨.hbm, 31, rfl⟩
abbrev main_v29 : Ref sig .tc := ⟨.hbm, 32, rfl⟩
abbrev main_v30 : Ref sig .tc := ⟨.hbm, 33, rfl⟩
abbrev main_v31 : Ref sig .tc := ⟨.hbm, 34, rfl⟩
abbrev main_v32 : Ref sig .tc := ⟨.hbm, 35, rfl⟩
abbrev main_v33 : Ref sig .tc := ⟨.hbm, 36, rfl⟩
abbrev main_v34 : Ref sig .tc := ⟨.hbm, 37, rfl⟩
abbrev main_v35 : Ref sig .tc := ⟨.hbm, 38, rfl⟩
abbrev main_v36 : Ref sig .tc := ⟨.hbm, 39, rfl⟩
abbrev main_v37 : Ref sig .tc := ⟨.hbm, 40, rfl⟩
abbrev main_v38 : Ref sig .tc := ⟨.hbm, 41, rfl⟩
abbrev main_v39 : Ref sig .tc := ⟨.hbm, 42, rfl⟩
abbrev main_v40 : Ref sig .tc := ⟨.hbm, 43, rfl⟩
abbrev main_v41 : Ref sig .tc := ⟨.hbm, 44, rfl⟩
abbrev main_cst_1 : Ref sig .tc := ⟨.hbm, 45, rfl⟩
abbrev main_v42 : Ref sig .tc := ⟨.hbm, 46, rfl⟩
abbrev main_v43 : Ref sig .tc := ⟨.hbm, 47, rfl⟩
abbrev main_cst_2 : Ref sig .tc := ⟨.hbm, 48, rfl⟩
abbrev main_v44 : Ref sig .tc := ⟨.hbm, 49, rfl⟩
abbrev main_v45 : Ref sig .tc := ⟨.hbm, 50, rfl⟩
abbrev main_v46 : Ref sig .tc := ⟨.hbm, 51, rfl⟩
abbrev main_v47 : Ref sig .tc := ⟨.hbm, 52, rfl⟩
abbrev main_v48 : Ref sig .tc := ⟨.hbm, 53, rfl⟩
abbrev main_v49 : Ref sig .tc := ⟨.hbm, 54, rfl⟩
abbrev main_v50 : Ref sig .tc := ⟨.hbm, 55, rfl⟩
abbrev main_v51 : Ref sig .tc := ⟨.hbm, 56, rfl⟩
abbrev main_v52 : Ref sig .tc := ⟨.hbm, 57, rfl⟩
abbrev main_v53 : Ref sig .tc := ⟨.hbm, 58, rfl⟩
abbrev main_v54 : Ref sig .tc := ⟨.hbm, 59, rfl⟩
abbrev main_v55 : Ref sig .tc := ⟨.hbm, 60, rfl⟩
abbrev main_v56 : Ref sig .tc := ⟨.hbm, 61, rfl⟩
abbrev main_v57 : Ref sig .tc := ⟨.hbm, 62, rfl⟩
abbrev main_v58 : Ref sig .tc := ⟨.hbm, 63, rfl⟩
abbrev main_v59 : Ref sig .tc := ⟨.hbm, 64, rfl⟩
abbrev main_v60 : Ref sig .tc := ⟨.hbm, 65, rfl⟩
abbrev main_v61 : Ref sig .tc := ⟨.hbm, 66, rfl⟩
abbrev main_v62 : Ref sig .tc := ⟨.hbm, 67, rfl⟩
abbrev main_v63 : Ref sig .tc := ⟨.hbm, 68, rfl⟩
abbrev main_v64 : Ref sig .tc := ⟨.hbm, 69, rfl⟩
abbrev main_v65 : Ref sig .tc := ⟨.hbm, 70, rfl⟩
abbrev main_v66 : Ref sig .tc := ⟨.hbm, 71, rfl⟩
abbrev main_v67 : Ref sig .tc := ⟨.hbm, 72, rfl⟩
abbrev main_v68 : Ref sig .tc := ⟨.hbm, 73, rfl⟩
abbrev main_v69 : Ref sig .tc := ⟨.hbm, 74, rfl⟩
abbrev main_v70 : Ref sig .tc := ⟨.hbm, 75, rfl⟩
abbrev main_cst_3 : Ref sig .tc := ⟨.hbm, 76, rfl⟩
abbrev main_v71 : Ref sig .tc := ⟨.hbm, 77, rfl⟩
abbrev main_v72 : Ref sig .tc := ⟨.hbm, 78, rfl⟩
abbrev main_cst_4 : Ref sig .tc := ⟨.hbm, 79, rfl⟩
abbrev main_v73 : Ref sig .tc := ⟨.hbm, 80, rfl⟩
abbrev main_v74 : Ref sig .tc := ⟨.hbm, 81, rfl⟩
abbrev main_v75 : Ref sig .tc := ⟨.hbm, 82, rfl⟩
abbrev main_v76 : Ref sig .tc := ⟨.hbm, 83, rfl⟩
abbrev main_v77 : Ref sig .tc := ⟨.hbm, 84, rfl⟩
abbrev main_cst_5 : Ref sig .tc := ⟨.hbm, 85, rfl⟩
abbrev main_v78 : Ref sig .tc := ⟨.hbm, 86, rfl⟩
abbrev main_v79 : Ref sig .tc := ⟨.hbm, 87, rfl⟩
abbrev main_v80 : Ref sig .tc := ⟨.hbm, 88, rfl⟩
abbrev main_v81 : Ref sig .tc := ⟨.hbm, 89, rfl⟩
abbrev main_v82 : Ref sig .tc := ⟨.hbm, 90, rfl⟩
abbrev main_v83 : Ref sig .tc := ⟨.hbm, 91, rfl⟩
abbrev main_v84 : Ref sig .tc := ⟨.hbm, 92, rfl⟩
abbrev main_v85 : Ref sig .tc := ⟨.hbm, 93, rfl⟩
abbrev main_v86 : Ref sig .tc := ⟨.hbm, 94, rfl⟩
abbrev main_v87 : Ref sig .tc := ⟨.hbm, 95, rfl⟩
abbrev main_v88 : Ref sig .tc := ⟨.hbm, 96, rfl⟩
abbrev main_cst_6 : Ref sig .tc := ⟨.hbm, 97, rfl⟩
abbrev main_v89 : Ref sig .tc := ⟨.hbm, 98, rfl⟩
abbrev main_v90 : Ref sig .tc := ⟨.hbm, 99, rfl⟩
abbrev main_v91 : Ref sig .tc := ⟨.hbm, 100, rfl⟩
abbrev main_cst_7 : Ref sig .tc := ⟨.hbm, 101, rfl⟩
abbrev main_call0_v0 : Ref sig .tc := ⟨.hbm, 102, rfl⟩
abbrev main_call0_v1 : Ref sig .tc := ⟨.hbm, 103, rfl⟩
abbrev main_v92 : Ref sig .tc := ⟨.hbm, 104, rfl⟩
abbrev main_v93 : Ref sig .tc := ⟨.hbm, 105, rfl⟩
abbrev main_v94 : Ref sig .tc := ⟨.hbm, 106, rfl⟩
abbrev main_v95 : Ref sig .tc := ⟨.hbm, 107, rfl⟩
abbrev main_v96 : Ref sig .tc := ⟨.hbm, 108, rfl⟩
abbrev main_v97 : Ref sig .tc := ⟨.hbm, 109, rfl⟩
abbrev main_cst_8 : Ref sig .tc := ⟨.hbm, 110, rfl⟩
abbrev main_call1_v0 : Ref sig .tc := ⟨.hbm, 111, rfl⟩
abbrev main_call1_v1 : Ref sig .tc := ⟨.hbm, 112, rfl⟩
abbrev main_call1_v2 : Ref sig .tc := ⟨.hbm, 113, rfl⟩
abbrev main_v98 : Ref sig .tc := ⟨.hbm, 114, rfl⟩
abbrev main_v99 : Ref sig .tc := ⟨.hbm, 115, rfl⟩
abbrev main_v100 : Ref sig .tc := ⟨.hbm, 116, rfl⟩
abbrev main_v101 : Ref sig .tc := ⟨.hbm, 117, rfl⟩
abbrev main_v102 : Ref sig .tc := ⟨.hbm, 118, rfl⟩
abbrev main_v103 : Ref sig .tc := ⟨.hbm, 119, rfl⟩
abbrev main_v104 : Ref sig .tc := ⟨.hbm, 120, rfl⟩
abbrev main_v105 : Ref sig .tc := ⟨.hbm, 121, rfl⟩
abbrev main_v106 : Ref sig .tc := ⟨.hbm, 122, rfl⟩
abbrev main_cst_9 : Ref sig .tc := ⟨.hbm, 123, rfl⟩
abbrev main_v107 : Ref sig .tc := ⟨.hbm, 124, rfl⟩
abbrev main_v108 : Ref sig .tc := ⟨.hbm, 125, rfl⟩
abbrev main_v109 : Ref sig .tc := ⟨.hbm, 126, rfl⟩
abbrev main_v110 : Ref sig .tc := ⟨.hbm, 127, rfl⟩
abbrev main_v111 : Ref sig .tc := ⟨.hbm, 128, rfl⟩
abbrev main_v112 : Ref sig .tc := ⟨.hbm, 129, rfl⟩
abbrev main_v113 : Ref sig .tc := ⟨.hbm, 130, rfl⟩
abbrev main_v114 : Ref sig .tc := ⟨.hbm, 131, rfl⟩
abbrev main_cst_10 : Ref sig .tc := ⟨.hbm, 132, rfl⟩
abbrev main_v115 : Ref sig .tc := ⟨.hbm, 133, rfl⟩
abbrev main_v116 : Ref sig .tc := ⟨.hbm, 134, rfl⟩
abbrev main_v117 : Ref sig .tc := ⟨.hbm, 135, rfl⟩
abbrev main_v118 : Ref sig .tc := ⟨.hbm, 136, rfl⟩
abbrev main_v119 : Ref sig .tc := ⟨.hbm, 137, rfl⟩
abbrev main_v120 : Ref sig .tc := ⟨.hbm, 138, rfl⟩
abbrev main_cst_11 : Ref sig .tc := ⟨.hbm, 139, rfl⟩
abbrev main_v121 : Ref sig .tc := ⟨.hbm, 140, rfl⟩
abbrev main_v122 : Ref sig .tc := ⟨.hbm, 141, rfl⟩
abbrev main_v123 : Ref sig .tc := ⟨.hbm, 142, rfl⟩
abbrev main_v124 : Ref sig .tc := ⟨.hbm, 143, rfl⟩
abbrev main_v125 : Ref sig .tc := ⟨.hbm, 144, rfl⟩
abbrev main_v126 : Ref sig .tc := ⟨.hbm, 145, rfl⟩
abbrev main_v127 : Ref sig .tc := ⟨.hbm, 146, rfl⟩
abbrev main_v128 : Ref sig .tc := ⟨.hbm, 147, rfl⟩
abbrev main_cst_12 : Ref sig .tc := ⟨.hbm, 148, rfl⟩
abbrev main_v129 : Ref sig .tc := ⟨.hbm, 149, rfl⟩
abbrev main_v130 : Ref sig .tc := ⟨.hbm, 150, rfl⟩
abbrev main_v131 : Ref sig .tc := ⟨.hbm, 151, rfl⟩
abbrev main_v132 : Ref sig .tc := ⟨.hbm, 152, rfl⟩
abbrev main_cst_13 : Ref sig .tc := ⟨.hbm, 153, rfl⟩
abbrev main_v133 : Ref sig .tc := ⟨.hbm, 154, rfl⟩
abbrev main_v134 : Ref sig .tc := ⟨.hbm, 155, rfl⟩
abbrev main_v135 : Ref sig .tc := ⟨.hbm, 156, rfl⟩
abbrev main_v136 : Ref sig .tc := ⟨.hbm, 157, rfl⟩
abbrev main_v137 : Ref sig .tc := ⟨.hbm, 158, rfl⟩
abbrev main_v138 : Ref sig .tc := ⟨.hbm, 159, rfl⟩
abbrev main_v139 : Ref sig .tc := ⟨.hbm, 160, rfl⟩
abbrev main_v140 : Ref sig .tc := ⟨.hbm, 161, rfl⟩
abbrev main_v141 : Ref sig .tc := ⟨.hbm, 162, rfl⟩
abbrev main_v142 : Ref sig .tc := ⟨.hbm, 163, rfl⟩
abbrev main_v143 : Ref sig .tc := ⟨.hbm, 164, rfl⟩
abbrev main_v144 : Ref sig .tc := ⟨.hbm, 165, rfl⟩
abbrev main_v145 : Ref sig .tc := ⟨.hbm, 166, rfl⟩
abbrev main_v146 : Ref sig .tc := ⟨.hbm, 167, rfl⟩
abbrev main_v147 : Ref sig .tc := ⟨.hbm, 168, rfl⟩
abbrev main_v148 : Ref sig .tc := ⟨.hbm, 169, rfl⟩
abbrev main_v149 : Ref sig .tc := ⟨.hbm, 170, rfl⟩
abbrev main_v150 : Ref sig .tc := ⟨.hbm, 171, rfl⟩
abbrev main_v151 : Ref sig .tc := ⟨.hbm, 172, rfl⟩
abbrev main_v152 : Ref sig .tc := ⟨.hbm, 173, rfl⟩
abbrev main_v153 : Ref sig .tc := ⟨.hbm, 174, rfl⟩
abbrev main_v154 : Ref sig .tc := ⟨.hbm, 175, rfl⟩
abbrev main_v155 : Ref sig .tc := ⟨.hbm, 176, rfl⟩
abbrev main_v156 : Ref sig .tc := ⟨.hbm, 177, rfl⟩
abbrev main_v157 : Ref sig .tc := ⟨.hbm, 178, rfl⟩
abbrev main_v158 : Ref sig .tc := ⟨.hbm, 179, rfl⟩
abbrev main_v159 : Ref sig .tc := ⟨.hbm, 180, rfl⟩
abbrev main_v160 : Ref sig .tc := ⟨.hbm, 181, rfl⟩
abbrev main_v161 : Ref sig .tc := ⟨.hbm, 182, rfl⟩
abbrev main_v162 : Ref sig .tc := ⟨.hbm, 183, rfl⟩
abbrev main_v163 : Ref sig .tc := ⟨.hbm, 184, rfl⟩
abbrev main_v164 : Ref sig .tc := ⟨.hbm, 185, rfl⟩
abbrev main_v165 : Ref sig .tc := ⟨.hbm, 186, rfl⟩
abbrev main_v166 : Ref sig .tc := ⟨.hbm, 187, rfl⟩
abbrev main_v167 : Ref sig .tc := ⟨.hbm, 188, rfl⟩
abbrev main_v168 : Ref sig .tc := ⟨.hbm, 189, rfl⟩
abbrev main_v169 : Ref sig .tc := ⟨.hbm, 190, rfl⟩
abbrev main_v170 : Ref sig .tc := ⟨.hbm, 191, rfl⟩
abbrev main_v171 : Ref sig .tc := ⟨.hbm, 192, rfl⟩
abbrev main_v172 : Ref sig .tc := ⟨.hbm, 193, rfl⟩
abbrev main_v173 : Ref sig .tc := ⟨.hbm, 194, rfl⟩
abbrev main_v174 : Ref sig .tc := ⟨.hbm, 195, rfl⟩
abbrev main_v175 : Ref sig .tc := ⟨.hbm, 196, rfl⟩
abbrev main_v176 : Ref sig .tc := ⟨.hbm, 197, rfl⟩
abbrev main_v177 : Ref sig .tc := ⟨.hbm, 198, rfl⟩
abbrev main_v178 : Ref sig .tc := ⟨.hbm, 199, rfl⟩
abbrev main_v179 : Ref sig .tc := ⟨.hbm, 200, rfl⟩
abbrev main_v180 : Ref sig .tc := ⟨.hbm, 201, rfl⟩
abbrev main_v181 : Ref sig .tc := ⟨.hbm, 202, rfl⟩
abbrev main_v182 : Ref sig .tc := ⟨.hbm, 203, rfl⟩
abbrev main_v183 : Ref sig .tc := ⟨.hbm, 204, rfl⟩
abbrev main_v184 : Ref sig .tc := ⟨.hbm, 205, rfl⟩
abbrev main_v185 : Ref sig .tc := ⟨.hbm, 206, rfl⟩
abbrev main_v186 : Ref sig .tc := ⟨.hbm, 207, rfl⟩
abbrev main_v187 : Ref sig .tc := ⟨.hbm, 208, rfl⟩
abbrev main_v188 : Ref sig .tc := ⟨.hbm, 209, rfl⟩
abbrev main_v189 : Ref sig .tc := ⟨.hbm, 210, rfl⟩
abbrev main_v190 : Ref sig .tc := ⟨.hbm, 211, rfl⟩
abbrev main_v191 : Ref sig .tc := ⟨.hbm, 212, rfl⟩
abbrev main_v192 : Ref sig .tc := ⟨.hbm, 213, rfl⟩
abbrev main_v193 : Ref sig .tc := ⟨.hbm, 214, rfl⟩
abbrev main_v194 : Ref sig .tc := ⟨.hbm, 215, rfl⟩
abbrev main_v195 : Ref sig .tc := ⟨.hbm, 216, rfl⟩
abbrev main_v196 : Ref sig .tc := ⟨.hbm, 217, rfl⟩
abbrev main_v197 : Ref sig .tc := ⟨.hbm, 218, rfl⟩
abbrev main_v198 : Ref sig .tc := ⟨.hbm, 219, rfl⟩
abbrev main_v199 : Ref sig .tc := ⟨.hbm, 220, rfl⟩
abbrev main_v200 : Ref sig .tc := ⟨.hbm, 221, rfl⟩
abbrev main_v201 : Ref sig .tc := ⟨.hbm, 222, rfl⟩
abbrev main_v202 : Ref sig .tc := ⟨.hbm, 223, rfl⟩
abbrev main_v203 : Ref sig .tc := ⟨.hbm, 224, rfl⟩
abbrev main_v204 : Ref sig .tc := ⟨.hbm, 225, rfl⟩
abbrev main_v205 : Ref sig .tc := ⟨.hbm, 226, rfl⟩
abbrev main_v206 : Ref sig .tc := ⟨.hbm, 227, rfl⟩
abbrev main_v207 : Ref sig .tc := ⟨.hbm, 228, rfl⟩
abbrev main_v208 : Ref sig .tc := ⟨.hbm, 229, rfl⟩
abbrev main_v209 : Ref sig .tc := ⟨.hbm, 230, rfl⟩
abbrev main_v210 : Ref sig .tc := ⟨.hbm, 231, rfl⟩
abbrev main_v211 : Ref sig .tc := ⟨.hbm, 232, rfl⟩
abbrev main_v212 : Ref sig .tc := ⟨.hbm, 233, rfl⟩
abbrev main_v213 : Ref sig .tc := ⟨.hbm, 234, rfl⟩
abbrev main_v214 : Ref sig .tc := ⟨.hbm, 235, rfl⟩
abbrev main_v215 : Ref sig .tc := ⟨.hbm, 236, rfl⟩
abbrev main_v216 : Ref sig .tc := ⟨.hbm, 237, rfl⟩
abbrev main_v217 : Ref sig .tc := ⟨.hbm, 238, rfl⟩
abbrev main_v218 : Ref sig .tc := ⟨.hbm, 239, rfl⟩
abbrev main_v219 : Ref sig .tc := ⟨.hbm, 240, rfl⟩
abbrev main_v220 : Ref sig .tc := ⟨.hbm, 241, rfl⟩
abbrev main_v221 : Ref sig .tc := ⟨.hbm, 242, rfl⟩
abbrev main_v222 : Ref sig .tc := ⟨.hbm, 243, rfl⟩
abbrev main_v223 : Ref sig .tc := ⟨.hbm, 244, rfl⟩
abbrev main_v224 : Ref sig .tc := ⟨.hbm, 245, rfl⟩
abbrev main_v225 : Ref sig .tc := ⟨.hbm, 246, rfl⟩
abbrev main_v226 : Ref sig .tc := ⟨.hbm, 247, rfl⟩
abbrev main_v227 : Ref sig .tc := ⟨.hbm, 248, rfl⟩
abbrev main_v228 : Ref sig .tc := ⟨.hbm, 249, rfl⟩
abbrev main_v229 : Ref sig .tc := ⟨.hbm, 250, rfl⟩
abbrev main_v230 : Ref sig .tc := ⟨.hbm, 251, rfl⟩
abbrev main_v231 : Ref sig .tc := ⟨.hbm, 252, rfl⟩
abbrev main_v232 : Ref sig .tc := ⟨.hbm, 253, rfl⟩
abbrev main_v233 : Ref sig .tc := ⟨.hbm, 254, rfl⟩
abbrev main_v234 : Ref sig .tc := ⟨.hbm, 255, rfl⟩
abbrev main_v235 : Ref sig .tc := ⟨.hbm, 256, rfl⟩
abbrev main_v236 : Ref sig .tc := ⟨.hbm, 257, rfl⟩
abbrev main_v237 : Ref sig .tc := ⟨.hbm, 258, rfl⟩
abbrev main_v238 : Ref sig .tc := ⟨.hbm, 259, rfl⟩
abbrev main_v239 : Ref sig .tc := ⟨.hbm, 260, rfl⟩
abbrev main_v240 : Ref sig .tc := ⟨.hbm, 261, rfl⟩
abbrev main_v241 : Ref sig .tc := ⟨.hbm, 262, rfl⟩
abbrev main_v242 : Ref sig .tc := ⟨.hbm, 263, rfl⟩
abbrev main_v243 : Ref sig .tc := ⟨.hbm, 264, rfl⟩
abbrev main_v244 : Ref sig .tc := ⟨.hbm, 265, rfl⟩
abbrev main_v245 : Ref sig .tc := ⟨.hbm, 266, rfl⟩
abbrev main_v246 : Ref sig .tc := ⟨.hbm, 267, rfl⟩
abbrev main_v247 : Ref sig .tc := ⟨.hbm, 268, rfl⟩
abbrev main_v248 : Ref sig .tc := ⟨.hbm, 269, rfl⟩
abbrev main_v249 : Ref sig .tc := ⟨.hbm, 270, rfl⟩
abbrev main_v250 : Ref sig .tc := ⟨.hbm, 271, rfl⟩
abbrev main_v251 : Ref sig .tc := ⟨.hbm, 272, rfl⟩
abbrev main_v252 : Ref sig .tc := ⟨.hbm, 273, rfl⟩
abbrev main_v253 : Ref sig .tc := ⟨.hbm, 274, rfl⟩
abbrev main_v254 : Ref sig .tc := ⟨.hbm, 275, rfl⟩
abbrev main_v255 : Ref sig .tc := ⟨.hbm, 276, rfl⟩
abbrev main_v256 : Ref sig .tc := ⟨.hbm, 277, rfl⟩
abbrev main_v257 : Ref sig .tc := ⟨.hbm, 278, rfl⟩
abbrev main_v258 : Ref sig .tc := ⟨.hbm, 279, rfl⟩
abbrev main_v259 : Ref sig .tc := ⟨.hbm, 280, rfl⟩
abbrev main_v260 : Ref sig .tc := ⟨.hbm, 281, rfl⟩
abbrev main_v261 : Ref sig .tc := ⟨.hbm, 282, rfl⟩
abbrev main_v262 : Ref sig .tc := ⟨.hbm, 283, rfl⟩
abbrev main_v263 : Ref sig .tc := ⟨.hbm, 284, rfl⟩
abbrev main_v264 : Ref sig .tc := ⟨.hbm, 285, rfl⟩
abbrev main_v265 : Ref sig .tc := ⟨.hbm, 286, rfl⟩
abbrev main_v266 : Ref sig .tc := ⟨.hbm, 287, rfl⟩
abbrev main_v267 : Ref sig .tc := ⟨.hbm, 288, rfl⟩
abbrev main_v268 : Ref sig .tc := ⟨.hbm, 289, rfl⟩
abbrev main_v269 : Ref sig .tc := ⟨.hbm, 290, rfl⟩
abbrev main_v270 : Ref sig .tc := ⟨.hbm, 291, rfl⟩
abbrev main_v271 : Ref sig .tc := ⟨.hbm, 292, rfl⟩
abbrev main_v272 : Ref sig .tc := ⟨.hbm, 293, rfl⟩
abbrev main_v273 : Ref sig .tc := ⟨.hbm, 294, rfl⟩
abbrev main_v274 : Ref sig .tc := ⟨.hbm, 295, rfl⟩
abbrev main_v275 : Ref sig .tc := ⟨.hbm, 296, rfl⟩
abbrev main_v276 : Ref sig .tc := ⟨.hbm, 297, rfl⟩
abbrev main_v277 : Ref sig .tc := ⟨.hbm, 298, rfl⟩
abbrev main_v278 : Ref sig .tc := ⟨.hbm, 299, rfl⟩
abbrev main_v279 : Ref sig .tc := ⟨.hbm, 300, rfl⟩
abbrev main_v280 : Ref sig .tc := ⟨.hbm, 301, rfl⟩
abbrev main_v281 : Ref sig .tc := ⟨.hbm, 302, rfl⟩
abbrev main_v282 : Ref sig .tc := ⟨.hbm, 303, rfl⟩
abbrev main_v283 : Ref sig .tc := ⟨.hbm, 304, rfl⟩
abbrev main_v284 : Ref sig .tc := ⟨.hbm, 305, rfl⟩
abbrev main_v285 : Ref sig .tc := ⟨.hbm, 306, rfl⟩
abbrev main_v286 : Ref sig .tc := ⟨.hbm, 307, rfl⟩
abbrev main_v287 : Ref sig .tc := ⟨.hbm, 308, rfl⟩
abbrev main_v288 : Ref sig .tc := ⟨.hbm, 309, rfl⟩
abbrev main_v289 : Ref sig .tc := ⟨.hbm, 310, rfl⟩
abbrev main_v290 : Ref sig .tc := ⟨.hbm, 311, rfl⟩
abbrev main_v291 : Ref sig .tc := ⟨.hbm, 312, rfl⟩
abbrev main_v292 : Ref sig .tc := ⟨.hbm, 313, rfl⟩
abbrev main_v293 : Ref sig .tc := ⟨.hbm, 314, rfl⟩
abbrev main_v294 : Ref sig .tc := ⟨.hbm, 315, rfl⟩
abbrev main_v295 : Ref sig .tc := ⟨.hbm, 316, rfl⟩
abbrev main_v296 : Ref sig .tc := ⟨.hbm, 317, rfl⟩
abbrev main_v297 : Ref sig .tc := ⟨.hbm, 318, rfl⟩
abbrev main_v298 : Ref sig .tc := ⟨.hbm, 319, rfl⟩
abbrev main_v299 : Ref sig .tc := ⟨.hbm, 320, rfl⟩
abbrev main_v300 : Ref sig .tc := ⟨.hbm, 321, rfl⟩
abbrev main_v301 : Ref sig .tc := ⟨.hbm, 322, rfl⟩
abbrev main_v302 : Ref sig .tc := ⟨.hbm, 323, rfl⟩
abbrev main_v303 : Ref sig .tc := ⟨.hbm, 324, rfl⟩
abbrev main_v304 : Ref sig .tc := ⟨.hbm, 325, rfl⟩
abbrev main_v305 : Ref sig .tc := ⟨.hbm, 326, rfl⟩
abbrev main_v306 : Ref sig .tc := ⟨.hbm, 327, rfl⟩
abbrev main_v307 : Ref sig .tc := ⟨.hbm, 328, rfl⟩
abbrev main_v308 : Ref sig .tc := ⟨.hbm, 329, rfl⟩
abbrev main_v309 : Ref sig .tc := ⟨.hbm, 330, rfl⟩
abbrev main_v310 : Ref sig .tc := ⟨.hbm, 331, rfl⟩
abbrev main_v311 : Ref sig .tc := ⟨.hbm, 332, rfl⟩
abbrev main_v312 : Ref sig .tc := ⟨.hbm, 333, rfl⟩
abbrev main_v313 : Ref sig .tc := ⟨.hbm, 334, rfl⟩
abbrev main_v314 : Ref sig .tc := ⟨.hbm, 335, rfl⟩
abbrev main_v315 : Ref sig .tc := ⟨.hbm, 336, rfl⟩
abbrev main_v316 : Ref sig .tc := ⟨.hbm, 337, rfl⟩
abbrev main_v317 : Ref sig .tc := ⟨.hbm, 338, rfl⟩
abbrev main_v318 : Ref sig .tc := ⟨.hbm, 339, rfl⟩
abbrev main_v319 : Ref sig .tc := ⟨.hbm, 340, rfl⟩
abbrev main_v320 : Ref sig .tc := ⟨.hbm, 341, rfl⟩
abbrev main_v321 : Ref sig .tc := ⟨.hbm, 342, rfl⟩
abbrev main_v322 : Ref sig .tc := ⟨.hbm, 343, rfl⟩
abbrev main_v323 : Ref sig .tc := ⟨.hbm, 344, rfl⟩
abbrev main_v324 : Ref sig .tc := ⟨.hbm, 345, rfl⟩
abbrev main_v325 : Ref sig .tc := ⟨.hbm, 346, rfl⟩
abbrev main_v326 : Ref sig .tc := ⟨.hbm, 347, rfl⟩
abbrev main_v327 : Ref sig .tc := ⟨.hbm, 348, rfl⟩
abbrev main_v328 : Ref sig .tc := ⟨.hbm, 349, rfl⟩
abbrev main_v329 : Ref sig .tc := ⟨.hbm, 350, rfl⟩
abbrev main_v330 : Ref sig .tc := ⟨.hbm, 351, rfl⟩
abbrev main_v331 : Ref sig .tc := ⟨.hbm, 352, rfl⟩
abbrev main_v332 : Ref sig .tc := ⟨.hbm, 353, rfl⟩
abbrev main_v333 : Ref sig .tc := ⟨.hbm, 354, rfl⟩
abbrev main_v334 : Ref sig .tc := ⟨.hbm, 355, rfl⟩
abbrev main_v335 : Ref sig .tc := ⟨.hbm, 356, rfl⟩
abbrev main_v336 : Ref sig .tc := ⟨.hbm, 357, rfl⟩
abbrev main_v337 : Ref sig .tc := ⟨.hbm, 358, rfl⟩
abbrev main_v338 : Ref sig .tc := ⟨.hbm, 359, rfl⟩
abbrev main_v339 : Ref sig .tc := ⟨.hbm, 360, rfl⟩
abbrev main_v340 : Ref sig .tc := ⟨.hbm, 361, rfl⟩
abbrev main_v341 : Ref sig .tc := ⟨.hbm, 362, rfl⟩
abbrev main_v342 : Ref sig .tc := ⟨.hbm, 363, rfl⟩
abbrev main_v343 : Ref sig .tc := ⟨.hbm, 364, rfl⟩
abbrev main_v344 : Ref sig .tc := ⟨.hbm, 365, rfl⟩
abbrev main_v345 : Ref sig .tc := ⟨.hbm, 366, rfl⟩
abbrev main_v346 : Ref sig .tc := ⟨.hbm, 367, rfl⟩
abbrev main_v347 : Ref sig .tc := ⟨.hbm, 368, rfl⟩
abbrev main_v348 : Ref sig .tc := ⟨.hbm, 369, rfl⟩
abbrev main_v349 : Ref sig .tc := ⟨.hbm, 370, rfl⟩
abbrev main_v350 : Ref sig .tc := ⟨.hbm, 371, rfl⟩
abbrev main_v351 : Ref sig .tc := ⟨.hbm, 372, rfl⟩
abbrev main_v352 : Ref sig .tc := ⟨.hbm, 373, rfl⟩
abbrev main_v353 : Ref sig .tc := ⟨.hbm, 374, rfl⟩
abbrev main_v354 : Ref sig .tc := ⟨.hbm, 375, rfl⟩
abbrev main_v355 : Ref sig .tc := ⟨.hbm, 376, rfl⟩
abbrev main_v356 : Ref sig .tc := ⟨.hbm, 377, rfl⟩
abbrev main_v357 : Ref sig .tc := ⟨.hbm, 378, rfl⟩
abbrev main_v358 : Ref sig .tc := ⟨.hbm, 379, rfl⟩
abbrev main_v359 : Ref sig .tc := ⟨.hbm, 380, rfl⟩
abbrev main_v360 : Ref sig .tc := ⟨.hbm, 381, rfl⟩
abbrev main_v361 : Ref sig .tc := ⟨.hbm, 382, rfl⟩
abbrev main_v362 : Ref sig .tc := ⟨.hbm, 383, rfl⟩
abbrev main_v363 : Ref sig .tc := ⟨.hbm, 384, rfl⟩
abbrev main_v364 : Ref sig .tc := ⟨.hbm, 385, rfl⟩
abbrev main_v365 : Ref sig .tc := ⟨.hbm, 386, rfl⟩
abbrev main_v366 : Ref sig .tc := ⟨.hbm, 387, rfl⟩
abbrev main_v367 : Ref sig .tc := ⟨.hbm, 388, rfl⟩
abbrev main_v368 : Ref sig .tc := ⟨.hbm, 389, rfl⟩
abbrev main_v369 : Ref sig .tc := ⟨.hbm, 390, rfl⟩
abbrev main_v370 : Ref sig .tc := ⟨.hbm, 391, rfl⟩
abbrev main_v371 : Ref sig .tc := ⟨.hbm, 392, rfl⟩
abbrev main_cst_14 : Ref sig .tc := ⟨.hbm, 393, rfl⟩
abbrev main_v372 : Ref sig .tc := ⟨.hbm, 394, rfl⟩
abbrev main_v373 : Ref sig .tc := ⟨.hbm, 395, rfl⟩
abbrev main_cst_15 : Ref sig .tc := ⟨.hbm, 396, rfl⟩
abbrev main_v374 : Ref sig .tc := ⟨.hbm, 397, rfl⟩
abbrev main_v375 : Ref sig .tc := ⟨.hbm, 398, rfl⟩
abbrev main_cst_16 : Ref sig .tc := ⟨.hbm, 399, rfl⟩
abbrev main_v376 : Ref sig .tc := ⟨.hbm, 400, rfl⟩
abbrev main_v377 : Ref sig .tc := ⟨.hbm, 401, rfl⟩
abbrev main_v378 : Ref sig .tc := ⟨.hbm, 402, rfl⟩
abbrev main_v379 : Ref sig .tc := ⟨.hbm, 403, rfl⟩
abbrev main_v380 : Ref sig .tc := ⟨.hbm, 404, rfl⟩
abbrev main_v381 : Ref sig .tc := ⟨.hbm, 405, rfl⟩
abbrev main_call2_v0 : Ref sig .tc := ⟨.hbm, 406, rfl⟩
abbrev main_call2_v1 : Ref sig .tc := ⟨.hbm, 407, rfl⟩
abbrev main_call2_cst : Ref sig .tc := ⟨.hbm, 408, rfl⟩
abbrev main_call2_v2 : Ref sig .tc := ⟨.hbm, 409, rfl⟩
abbrev main_call2_v3 : Ref sig .tc := ⟨.hbm, 410, rfl⟩
abbrev main_call2_cst_0 : Ref sig .tc := ⟨.hbm, 411, rfl⟩
abbrev main_call2_v4 : Ref sig .tc := ⟨.hbm, 412, rfl⟩
abbrev main_call2_v5 : Ref sig .tc := ⟨.hbm, 413, rfl⟩
abbrev main_v382 : Ref sig .tc := ⟨.hbm, 414, rfl⟩
abbrev main_v383 : Ref sig .tc := ⟨.hbm, 415, rfl⟩
abbrev main_v384 : Ref sig .tc := ⟨.hbm, 416, rfl⟩
abbrev main_v385 : Ref sig .tc := ⟨.hbm, 417, rfl⟩
abbrev main_v386 : Ref sig .tc := ⟨.hbm, 418, rfl⟩
abbrev main_v387 : Ref sig .tc := ⟨.hbm, 419, rfl⟩

abbrev nD : Nat := 1
abbrev τ : Topo := Topo.v7x

variable {F : FTy → Type} [FloatOps F]
-- ==== OutEven.lean ====
abbrev S4096x1024 : Shape := ⟨2, ![4096, 1024]⟩
abbrev S1024x1024 : Shape := ⟨2, ![1024, 1024]⟩
abbrev S1024 : Shape := ⟨1, ![1024]⟩
abbrev S1x1024 : Shape := ⟨2, ![1, 1024]⟩
abbrev S1024x1 : Shape := ⟨2, ![1024, 1]⟩

abbrev nBuf : Space → Nat
  | .hbm => 9
  | .vmem => 10
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S1024x1024, .f32⟩
  | .hbm, ⟨3, _⟩ => ⟨S1024, .f32⟩
  | .hbm, ⟨4, _⟩ => ⟨S4096x1024, .bf16⟩
  | .hbm, ⟨5, _⟩ => ⟨S1024x1024, .bf16⟩
  | .hbm, ⟨6, _⟩ => ⟨S1x1024, .f32⟩
  | .hbm, ⟨7, _⟩ => ⟨S4096x1024, .f32⟩
  | .hbm, ⟨8, _⟩ => ⟨S4096x1024, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .f32⟩
  | .local _ .vmem, ⟨4, _⟩ => ⟨S1024x1024, .f32⟩
  | .local _ .vmem, ⟨5, _⟩ => ⟨S1x1024, .f32⟩
  | .local _ .vmem, ⟨6, _⟩ => ⟨S1024x1024, .f32⟩
  | .local _ .vmem, ⟨7, _⟩ => ⟨S1024x1024, .f32⟩
  | .local _ .vmem, ⟨8, _⟩ => ⟨S1024x1024, .bf16⟩
  | .local _ .vmem, ⟨9, _⟩ => ⟨S1024x1024, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3_0 : Ref sig .tc := ⟨.hbm, 7, rfl⟩
abbrev main_v3_1 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨3, ![4, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, true, false]

abbrev stage0_4 : Fin 2 → Memref sig .tc .vmem S1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S1024x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]
-- ==== OutEvenRefIdeal.lean ====
abbrev S4096x1024 : Shape := ⟨2, ![4096, 1024]⟩
abbrev S1024x1024 : Shape := ⟨2, ![1024, 1024]⟩
abbrev S1024 : Shape := ⟨1, ![1024]⟩
abbrev S_ : Shape := ⟨0, ![]⟩
abbrev S4096 : Shape := ⟨1, ![4096]⟩
abbrev S4096x1 : Shape := ⟨2, ![4096, 1]⟩
abbrev S1x1024 : Shape := ⟨2, ![1, 1024]⟩

abbrev nBuf : Space → Nat
  | .hbm => 23
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S1024x1024, .f32⟩
  | .hbm, ⟨3, _⟩ => ⟨S1024, .f32⟩
  | .hbm, ⟨4, _⟩ => ⟨S4096x1024, .f32⟩
  | .hbm, ⟨5, _⟩ => ⟨S4096x1024, .f32⟩
  | .hbm, ⟨6, _⟩ => ⟨S4096x1024, .f32⟩
  | .hbm, ⟨7, _⟩ => ⟨S_, .f32⟩
  | .hbm, ⟨8, _⟩ => ⟨S4096, .f32⟩
  | .hbm, ⟨9, _⟩ => ⟨S4096x1, .f32⟩
  | .hbm, ⟨10, _⟩ => ⟨S_, .f32⟩
  | .hbm, ⟨11, _⟩ => ⟨S4096x1, .f32⟩
  | .hbm, ⟨12, _⟩ => ⟨S4096x1, .f32⟩
  | .hbm, ⟨13, _⟩ => ⟨S_, .f32⟩
  | .hbm, ⟨14, _⟩ => ⟨S4096x1, .f32⟩
  | .hbm, ⟨15, _⟩ => ⟨S4096x1, .f32⟩
  | .hbm, ⟨16, _⟩ => ⟨S4096x1, .f32⟩
  | .hbm, ⟨17, _⟩ => ⟨S4096x1024, .f32⟩
  | .hbm, ⟨18, _⟩ => ⟨S4096x1024, .f32⟩
  | .hbm, ⟨19, _⟩ => ⟨S1x1024, .f32⟩
  | .hbm, ⟨20, _⟩ => ⟨S4096x1024, .f32⟩
  | .hbm, ⟨21, _⟩ => ⟨S4096x1024, .f32⟩
  | .hbm, ⟨22, _⟩ => ⟨S4096x1024, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_v4 : Ref sig .tc := ⟨.hbm, 9, rfl⟩
abbrev main_cst_0 : Ref sig .tc := ⟨.hbm, 10, rfl⟩
abbrev main_v5 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩

abbrev nD : Nat := 1
abbrev τ : Topo := Topo.v7x

variable {F : FTy → Type} [FloatOps F]
-- ==== MlpDown.lean ====
abbrev S4096x1024 : Shape := ⟨2, ![4096, 1024]⟩
abbrev S1024x4096 : Shape := ⟨2, ![1024, 4096]⟩
abbrev S1024 : Shape := ⟨1, ![1024]⟩
abbrev S4096x4096 : Shape := ⟨2, ![4096, 4096]⟩
abbrev S_ : Shape := ⟨0, ![]⟩
abbrev S1x1024 : Shape := ⟨2, ![1, 1024]⟩
abbrev S1024x1024 : Shape := ⟨2, ![1024, 1024]⟩
abbrev S1024x1 : Shape := ⟨2, ![1024, 1]⟩

abbrev nBuf : Space → Nat
  | .hbm => 16
  | .vmem => 12
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S1024x4096, .f32⟩
  | .hbm, ⟨3, _⟩ => ⟨S4096x1024, .f32⟩
  | .hbm, ⟨4, _⟩ => ⟨S1024, .f32⟩
  | .hbm, ⟨5, _⟩ => ⟨S4096x1024, .bf16⟩
  | .hbm, ⟨6, _⟩ => ⟨S1024x4096, .bf16⟩
  | .hbm, ⟨7, _⟩ => ⟨S4096x4096, .f32⟩
  | .hbm, ⟨8, _⟩ => ⟨S_, .f32⟩
  | .hbm, ⟨9, _⟩ => ⟨S4096x4096, .f32⟩
  | .hbm, ⟨10, _⟩ => ⟨S4096x4096, .f32⟩
  | .hbm, ⟨11, _⟩ => ⟨S4096x4096, .bf16⟩
  | .hbm, ⟨12, _⟩ => ⟨S4096x1024, .bf16⟩
  | .hbm, ⟨13, _⟩ => ⟨S1x1024, .f32⟩
  | .hbm, ⟨14, _⟩ => ⟨S4096x1024, .f32⟩
  | .hbm, ⟨15, _⟩ => ⟨S4096x1024, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .f32⟩
  | .local _ .vmem, ⟨5, _⟩ => ⟨S1024x1024, .f32⟩
  | .local _ .vmem, ⟨6, _⟩ => ⟨S1x1024, .f32⟩
  | .local _ .vmem, ⟨7, _⟩ => ⟨S1024x1024, .f32⟩
  | .local _ .vmem, ⟨8, _⟩ => ⟨S1024x1024, .f32⟩
  | .local _ .vmem, ⟨9, _⟩ => ⟨S1024x1024, .bf16⟩
  | .local _ .vmem, ⟨10, _⟩ => ⟨S1024x1024, .bf16⟩
  | .local _ .vmem, ⟨11, _⟩ => ⟨S1024x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8_0 : Ref sig .tc := ⟨.hbm, 14, rfl⟩
abbrev main_v8_1 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_scratch0 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨3, ![4, 1, 4], ![false, false, false]⟩

def k0_cond3 (i : grid0.Coords) : BitVec 1 :=
  let arg2 : BitVec 32 := BitVec.ofNat 32 (i 2).val
  let c3_i32_3 : BitVec 32 := 3#32
  let v8 : BitVec 1 := Scalar.cmpi .eq arg2 c3_i32_3
  let v9 : BitVec 32 := Scalar.extui v8
  let c0_i32_4 : BitVec 32 := 0#32
  let v10 : BitVec 1 := Scalar.cmpi .ne v9 c0_i32_4
  v10

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, true, false]

abbrev stage0_4 : Fin 2 → Memref sig .tc .vmem S1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S1024x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]
-- ==== MlpDownRefIdeal.lean ====
abbrev S4096x1024 : Shape := ⟨2, ![4096, 1024]⟩
abbrev S1024x4096 : Shape := ⟨2, ![1024, 4096]⟩
abbrev S1024 : Shape := ⟨1, ![1024]⟩
abbrev S4096x4096 : Shape := ⟨2, ![4096, 4096]⟩
abbrev S_ : Shape := ⟨0, ![]⟩
abbrev S4096 : Shape := ⟨1, ![4096]⟩
abbrev S4096x1 : Shape := ⟨2, ![4096, 1]⟩
abbrev S1x1024 : Shape := ⟨2, ![1, 1024]⟩

abbrev nBuf : Space → Nat
  | .hbm => 29
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S1024x4096, .f32⟩
  | .hbm, ⟨3, _⟩ => ⟨S4096x1024, .f32⟩
  | .hbm, ⟨4, _⟩ => ⟨S1024, .f32⟩
  | .hbm, ⟨5, _⟩ => ⟨S4096x4096, .f32⟩
  | .hbm, ⟨6, _⟩ => ⟨S_, .f32⟩
  | .hbm, ⟨7, _⟩ => ⟨S4096x4096, .f32⟩
  | .hbm, ⟨8, _⟩ => ⟨S4096x4096, .f32⟩
  | .hbm, ⟨9, _⟩ => ⟨S4096x4096, .f32⟩
  | .hbm, ⟨10, _⟩ => ⟨S4096x1024, .f32⟩
  | .hbm, ⟨11, _⟩ => ⟨S4096x1024, .f32⟩
  | .hbm, ⟨12, _⟩ => ⟨S4096x1024, .f32⟩
  | .hbm, ⟨13, _⟩ => ⟨S_, .f32⟩
  | .hbm, ⟨14, _⟩ => ⟨S4096, .f32⟩
  | .hbm, ⟨15, _⟩ => ⟨S4096x1, .f32⟩
  | .hbm, ⟨16, _⟩ => ⟨S_, .f32⟩
  | .hbm, ⟨17, _⟩ => ⟨S4096x1, .f32⟩
  | .hbm, ⟨18, _⟩ => ⟨S4096x1, .f32⟩
  | .hbm, ⟨19, _⟩ => ⟨S_, .f32⟩
  | .hbm, ⟨20, _⟩ => ⟨S4096x1, .f32⟩
  | .hbm, ⟨21, _⟩ => ⟨S4096x1, .f32⟩
  | .hbm, ⟨22, _⟩ => ⟨S4096x1, .f32⟩
  | .hbm, ⟨23, _⟩ => ⟨S4096x1024, .f32⟩
  | .hbm, ⟨24, _⟩ => ⟨S4096x1024, .f32⟩
  | .hbm, ⟨25, _⟩ => ⟨S1x1024, .f32⟩
  | .hbm, ⟨26, _⟩ => ⟨S4096x1024, .f32⟩
  | .hbm, ⟨27, _⟩ => ⟨S4096x1024, .f32⟩
  | .hbm, ⟨28, _⟩ => ⟨S4096x1024, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_call0_cst : Ref sig .tc := ⟨.hbm, 6, rfl⟩
abbrev main_call0_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst : Ref sig .tc := ⟨.hbm, 13, rfl⟩
abbrev main_v6 : Ref sig .tc := ⟨.hbm, 14, rfl⟩
abbrev main_v7 : Ref sig .tc := ⟨.hbm, 15, rfl⟩
abbrev main_cst_0 : Ref sig .tc := ⟨.hbm, 16, rfl⟩
abbrev main_v8 : Ref sig .tc := ⟨.hbm, 17, rfl⟩
abbrev main_v9 : Ref sig .tc := ⟨.hbm, 18, rfl⟩
abbrev main_cst_1 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩

abbrev nD : Nat := 1
abbrev τ : Topo := Topo.v7x

variable {F : FTy → Type} [FloatOps F]
-- ==== MlpUp.lean ====
abbrev S4096x1024 : Shape := ⟨2, ![4096, 1024]⟩
abbrev S1024x4096 : Shape := ⟨2, ![1024, 4096]⟩
abbrev S1024x8x512 : Shape := ⟨3, ![1024, 8, 512]⟩
abbrev S8x1024x512 : Shape := ⟨3, ![8, 1024, 512]⟩
abbrev S4096x4096 : Shape := ⟨2, ![4096, 4096]⟩
abbrev S1x1024x512 : Shape := ⟨3, ![1, 1024, 512]⟩
abbrev S4096x512 : Shape := ⟨2, ![4096, 512]⟩
abbrev S1024x512 : Shape := ⟨2, ![1024, 512]⟩

abbrev nBuf : Space → Nat
  | .hbm => 7
  | .vmem => 5
  | .smem => 0
  | _ => 0

abbrev bufTy : (tb : Table) → Fin (tcTables nBuf tb) → BufTy
  | .hbm, ⟨0, _⟩ => ⟨S4096x1024, .f32⟩
  | .hbm, ⟨1, _⟩ => ⟨S1024x4096, .f32⟩
  | .hbm, ⟨2, _⟩ => ⟨S1024x4096, .bf16⟩
  | .hbm, ⟨3, _⟩ => ⟨S1024x8x512, .bf16⟩
  | .hbm, ⟨4, _⟩ => ⟨S8x1024x512, .bf16⟩
  | .hbm, ⟨5, _⟩ => ⟨S4096x1024, .bf16⟩
  | .hbm, ⟨6, _⟩ => ⟨S4096x4096, .bf16⟩
  | .local _ .vmem, ⟨0, _⟩ => ⟨S4096x1024, .bf16⟩
  | .local _ .vmem, ⟨1, _⟩ => ⟨S1x1024x512, .bf16⟩
  | .local _ .vmem, ⟨2, _⟩ => ⟨S1x1024x512, .bf16⟩
  | .local _ .vmem, ⟨3, _⟩ => ⟨S4096x512, .bf16⟩
  | .local _ .vmem, ⟨4, _⟩ => ⟨S4096x512, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![1, 8, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, arg2.toNat, c0_i32.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 1 → Memref sig .tc .vmem S4096x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 2 → Memref sig .tc .vmem S1x1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S4096x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== MlpUpRefIdeal.lean ====
abbrev S4096x1024 : Shape := ⟨2, ![4096, 1024]⟩
abbrev S1024x4096 : Shape := ⟨2, ![1024, 4096]⟩
abbrev S4096x4096 : Shape := ⟨2, ![4096, 4096]⟩
abbrev S_ : Shape := ⟨0, ![]⟩

abbrev nBuf : Space → Nat
  | .hbm => 7
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024x4096, .f32⟩
  | .hbm, ⟨2, _⟩ => ⟨S4096x4096, .f32⟩
  | .hbm, ⟨3, _⟩ => ⟨S_, .f32⟩
  | .hbm, ⟨4, _⟩ => ⟨S4096x4096, .f32⟩
  | .hbm, ⟨5, _⟩ => ⟨S4096x4096, .f32⟩
  | .hbm, ⟨6, _⟩ => ⟨S4096x4096, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_call0_cst : Ref sig .tc := ⟨.hbm, 3, rfl⟩
abbrev main_call0_v0 : Ref sig .tc := ⟨.hbm, 4, rfl⟩
abbrev main_v1 : Ref sig .tc := ⟨.hbm, 5, rfl⟩
abbrev main_v2 : Ref sig .tc := ⟨.hbm, 6, rfl⟩

abbrev nD : Nat := 1
abbrev τ : Topo := Topo.v7x

variable {F : FTy → Type} [FloatOps F]
-- ==== LruConvFwd.lean ====
abbrev S4096x3072 : Shape := ⟨2, ![4096, 3072]⟩
abbrev S4x512 : Shape := ⟨2, ![4, 512]⟩
abbrev S512 : Shape := ⟨1, ![512]⟩
abbrev S1x512 : Shape := ⟨2, ![1, 512]⟩
abbrev S4096x512 : Shape := ⟨2, ![4096, 512]⟩
abbrev S1024x512 : Shape := ⟨2, ![1024, 512]⟩
abbrev S1032x512 : Shape := ⟨2, ![1032, 512]⟩
abbrev S8x512 : Shape := ⟨2, ![8, 512]⟩
abbrev S4x128 : Shape := ⟨2, ![4, 128]⟩
abbrev S1x128 : Shape := ⟨2, ![1, 128]⟩
abbrev S64x128 : Shape := ⟨2, ![64, 128]⟩

abbrev nBuf : Space → Nat
  | .hbm => 5
  | .vmem => 7
  | .smem => 0
  | _ => 0

abbrev bufTy : (tb : Table) → Fin (tcTables nBuf tb) → BufTy
  | .hbm, ⟨0, _⟩ => ⟨S4096x3072, .f32⟩
  | .hbm, ⟨1, _⟩ => ⟨S4x512, .f32⟩
  | .hbm, ⟨2, _⟩ => ⟨S512, .f32⟩
  | .hbm, ⟨3, _⟩ => ⟨S1x512, .f32⟩
  | .hbm, ⟨4, _⟩ => ⟨S4096x512, .f32⟩
  | .local _ .vmem, ⟨0, _⟩ => ⟨S1024x512, .f32⟩
  | .local _ .vmem, ⟨1, _⟩ => ⟨S1024x512, .f32⟩
  | .local _ .vmem, ⟨2, _⟩ => ⟨S4x512, .f32⟩
  | .local _ .vmem, ⟨3, _⟩ => ⟨S1x512, .f32⟩
  | .local _ .vmem, ⟨4, _⟩ => ⟨S1024x512, .f32⟩
  | .local _ .vmem, ⟨5, _⟩ => ⟨S1024x512, .f32⟩
  | .local _ .vmem, ⟨6, _⟩ => ⟨S1032x512, .f32⟩
  | _, _ => ⟨S4096x3072, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨2, ![1, 4], ![false, false]⟩

def cc0_transform_0 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.addi c4_i32 arg0
  let c0_i32 : BitVec 32 := 0#32
  ![arg1.toNat, v0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S4x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false]

abbrev stage0_2 : Fin 1 → Memref sig .tc .vmem S1x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, false]

abbrev stage0_3 : Fin 2 → Memref sig .tc .vmem S1024x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== LruConvFwdRefIdeal.lean ====
abbrev S4096x3072 : Shape := ⟨2, ![4096, 3072]⟩
abbrev S4x512 : Shape := ⟨2, ![4, 512]⟩
abbrev S512 : Shape := ⟨1, ![512]⟩
abbrev S4096x512 : Shape := ⟨2, ![4096, 512]⟩
abbrev S_ : Shape := ⟨0, ![]⟩
abbrev S3x512 : Shape := ⟨2, ![3, 512]⟩
abbrev S4099x512 : Shape := ⟨2, ![4099, 512]⟩
abbrev S1x512 : Shape := ⟨2, ![1, 512]⟩

abbrev nBuf : Space → Nat
  | .hbm => 40
  | .vmem => 0
  | .smem => 0
  | _ => 0

abbrev bufTy : (tb : Table) → Fin (tcTables nBuf tb) → BufTy
  | .hbm, ⟨0, _⟩ => ⟨S4096x3072, .f32⟩
  | .hbm, ⟨1, _⟩ => ⟨S4x512, .f32⟩
  | .hbm, ⟨2, _⟩ => ⟨S512, .f32⟩
  | .hbm, ⟨3, _⟩ => ⟨S4096x512, .f32⟩
  | .hbm, ⟨4, _⟩ => ⟨S_, .f32⟩
  | .hbm, ⟨5, _⟩ => ⟨S3x512, .f32⟩
  | .hbm, ⟨6, _⟩ => ⟨S4099x512, .f32⟩
  | .hbm, ⟨7, _⟩ => ⟨S1x512, .f32⟩
  | .hbm, ⟨8, _⟩ => ⟨S512, .f32⟩
  | .hbm, ⟨9, _⟩ => ⟨S4096x512, .f32⟩
  | .hbm, ⟨10, _⟩ => ⟨S1x512, .f32⟩
  | .hbm, ⟨11, _⟩ => ⟨S4096x512, .f32⟩
  | .hbm, ⟨12, _⟩ => ⟨S4096x512, .f32⟩
  | .hbm, ⟨13, _⟩ => ⟨S_, .f32⟩
  | .hbm, ⟨14, _⟩ => ⟨S4096x512, .f32⟩
  | .hbm, ⟨15, _⟩ => ⟨S4096x512, .f32⟩
  | .hbm, ⟨16, _⟩ => ⟨S1x512, .f32⟩
  | .hbm, ⟨17, _⟩ => ⟨S512, .f32⟩
  | .hbm, ⟨18, _⟩ => ⟨S4096x512, .f32⟩
  | .hbm, ⟨19, _⟩ => ⟨S1x512, .f32⟩
  | .hbm, ⟨20, _⟩ => ⟨S4096x512, .f32⟩
  | .hbm, ⟨21, _⟩ => ⟨S4096x512, .f32⟩
  | .hbm, ⟨22, _⟩ => ⟨S4096x512, .f32⟩
  | .hbm, ⟨23, _⟩ => ⟨S1x512, .f32⟩
  | .hbm, ⟨24, _⟩ => ⟨S512, .f32⟩
  | .hbm, ⟨25, _⟩ => ⟨S4096x512, .f32⟩
  | .hbm, ⟨26, _⟩ => ⟨S1x512, .f32⟩
  | .hbm, ⟨27, _⟩ => ⟨S4096x512, .f32⟩
  | .hbm, ⟨28, _⟩ => ⟨S4096x512, .f32⟩
  | .hbm, ⟨29, _⟩ => ⟨S4096x512, .f32⟩
  | .hbm, ⟨30, _⟩ => ⟨S1x512, .f32⟩
  | .hbm, ⟨31, _⟩ => ⟨S512, .f32⟩
  | .hbm, ⟨32, _⟩ => ⟨S4096x512, .f32⟩
  | .hbm, ⟨33, _⟩ => ⟨S1x512, .f32⟩
  | .hbm, ⟨34, _⟩ => ⟨S4096x512, .f32⟩
  | .hbm, ⟨35, _⟩ => ⟨S4096x512, .f32⟩
  | .hbm, ⟨36, _⟩ => ⟨S4096x512, .f32⟩
  | .hbm, ⟨37, _⟩ => ⟨S1x512, .f32⟩
  | .hbm, ⟨38, _⟩ => ⟨S4096x512, .f32⟩
  | .hbm, ⟨39, _⟩ => ⟨S4096x512, .f32⟩
  | _, _ => ⟨S4096x3072, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_cst_0 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_v28 : Ref sig .tc := ⟨.hbm, 33, rfl⟩
abbrev main_v29 : Ref sig .tc := ⟨.hbm, 34, rfl⟩
abbrev main_v30 : Ref sig .tc := ⟨.hbm, 35, rfl⟩
abbrev main_v31 : Ref sig .tc := ⟨.hbm, 36, rfl⟩
abbrev main_v32 : Ref sig .tc := ⟨.hbm, 37, rfl⟩
abbrev main_v33 : Ref sig .tc := ⟨.hbm, 38, rfl⟩
abbrev main_v34 : Ref sig .tc := ⟨.hbm, 39, rfl⟩

abbrev nD : Nat := 1
abbrev τ : Topo := Topo.v7x

variable {F : FTy → Type} [FloatOps F]
-- ==== GdnConvFwd.lean ====
abbrev S4096x4224 : Shape := ⟨2, ![4096, 4224]⟩
abbrev S4x3072 : Shape := ⟨2, ![4, 3072]⟩
abbrev S4096x3072 : Shape := ⟨2, ![4096, 3072]⟩
abbrev S1024x1024 : Shape := ⟨2, ![1024, 1024]⟩
abbrev S4x1024 : Shape := ⟨2, ![4, 1024]⟩
abbrev S1032x1024 : Shape := ⟨2, ![1032, 1024]⟩
abbrev S8x1024 : Shape := ⟨2, ![8, 1024]⟩
abbrev S4x128 : Shape := ⟨2, ![4, 128]⟩
abbrev S1x128 : Shape := ⟨2, ![1, 128]⟩
abbrev S64x128 : Shape := ⟨2, ![64, 128]⟩

abbrev nBuf : Space → Nat
  | .hbm => 3
  | .vmem => 7
  | .smem => 0
  | _ => 0

abbrev bufTy : (tb : Table) → Fin (tcTables nBuf tb) → BufTy
  | .hbm, ⟨0, _⟩ => ⟨S4096x4224, .f32⟩
  | .hbm, ⟨1, _⟩ => ⟨S4x3072, .f32⟩
  | .hbm, ⟨2, _⟩ => ⟨S4096x3072, .f32⟩
  | .local _ .vmem, ⟨0, _⟩ => ⟨S1024x1024, .f32⟩
  | .local _ .vmem, ⟨1, _⟩ => ⟨S1024x1024, .f32⟩
  | .local _ .vmem, ⟨2, _⟩ => ⟨S4x1024, .f32⟩
  | .local _ .vmem, ⟨3, _⟩ => ⟨S4x1024, .f32⟩
  | .local _ .vmem, ⟨4, _⟩ => ⟨S1024x1024, .f32⟩
  | .local _ .vmem, ⟨5, _⟩ => ⟨S1024x1024, .f32⟩
  | .local _ .vmem, ⟨6, _⟩ => ⟨S1032x1024, .f32⟩
  | _, _ => ⟨S4096x4224, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![3, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  ![arg1.toNat, v0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S4x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== GdnConvFwdRefIdeal.lean ====
abbrev S4096x4224 : Shape := ⟨2, ![4096, 4224]⟩
abbrev S4x3072 : Shape := ⟨2, ![4, 3072]⟩
abbrev S4096x3072 : Shape := ⟨2, ![4096, 3072]⟩
abbrev S_ : Shape := ⟨0, ![]⟩
abbrev S3x3072 : Shape := ⟨2, ![3, 3072]⟩
abbrev S4099x3072 : Shape := ⟨2, ![4099, 3072]⟩
abbrev S1x3072 : Shape := ⟨2, ![1, 3072]⟩
abbrev S3072 : Shape := ⟨1, ![3072]⟩

abbrev nBuf : Space → Nat
  | .hbm => 45
  | .vmem => 0
  | .smem => 0
  | _ => 0

abbrev bufTy : (tb : Table) → Fin (tcTables nBuf tb) → BufTy
  | .hbm, ⟨0, _⟩ => ⟨S4096x4224, .f32⟩
  | .hbm, ⟨1, _⟩ => ⟨S4x3072, .f32⟩
  | .hbm, ⟨2, _⟩ => ⟨S4096x3072, .f32⟩
  | .hbm, ⟨3, _⟩ => ⟨S_, .f32⟩
  | .hbm, ⟨4, _⟩ => ⟨S3x3072, .f32⟩
  | .hbm, ⟨5, _⟩ => ⟨S4099x3072, .f32⟩
  | .hbm, ⟨6, _⟩ => ⟨S1x3072, .f32⟩
  | .hbm, ⟨7, _⟩ => ⟨S3072, .f32⟩
  | .hbm, ⟨8, _⟩ => ⟨S4096x3072, .f32⟩
  | .hbm, ⟨9, _⟩ => ⟨S1x3072, .f32⟩
  | .hbm, ⟨10, _⟩ => ⟨S4096x3072, .f32⟩
  | .hbm, ⟨11, _⟩ => ⟨S4096x3072, .f32⟩
  | .hbm, ⟨12, _⟩ => ⟨S_, .f32⟩
  | .hbm, ⟨13, _⟩ => ⟨S4096x3072, .f32⟩
  | .hbm, ⟨14, _⟩ => ⟨S4096x3072, .f32⟩
  | .hbm, ⟨15, _⟩ => ⟨S1x3072, .f32⟩
  | .hbm, ⟨16, _⟩ => ⟨S3072, .f32⟩
  | .hbm, ⟨17, _⟩ => ⟨S4096x3072, .f32⟩
  | .hbm, ⟨18, _⟩ => ⟨S1x3072, .f32⟩
  | .hbm, ⟨19, _⟩ => ⟨S4096x3072, .f32⟩
  | .hbm, ⟨20, _⟩ => ⟨S4096x3072, .f32⟩
  | .hbm, ⟨21, _⟩ => ⟨S4096x3072, .f32⟩
  | .hbm, ⟨22, _⟩ => ⟨S1x3072, .f32⟩
  | .hbm, ⟨23, _⟩ => ⟨S3072, .f32⟩
  | .hbm, ⟨24, _⟩ => ⟨S4096x3072, .f32⟩
  | .hbm, ⟨25, _⟩ => ⟨S1x3072, .f32⟩
  | .hbm, ⟨26, _⟩ => ⟨S4096x3072, .f32⟩
  | .hbm, ⟨27, _⟩ => ⟨S4096x3072, .f32⟩
  | .hbm, ⟨28, _⟩ => ⟨S4096x3072, .f32⟩
  | .hbm, ⟨29, _⟩ => ⟨S1x3072, .f32⟩
  | .hbm, ⟨30, _⟩ => ⟨S3072, .f32⟩
  | .hbm, ⟨31, _⟩ => ⟨S4096x3072, .f32⟩
  | .hbm, ⟨32, _⟩ => ⟨S1x3072, .f32⟩
  | .hbm, ⟨33, _⟩ => ⟨S4096x3072, .f32⟩
  | .hbm, ⟨34, _⟩ => ⟨S4096x3072, .f32⟩
  | .hbm, ⟨35, _⟩ => ⟨S4096x3072, .f32⟩
  | .hbm, ⟨36, _⟩ => ⟨S4096x3072, .f32⟩
  | .hbm, ⟨37, _⟩ => ⟨S4096x3072, .f32⟩
  | .hbm, ⟨38, _⟩ => ⟨S_, .f32⟩
  | .hbm, ⟨39, _⟩ => ⟨S4096x3072, .f32⟩
  | .hbm, ⟨40, _⟩ => ⟨S4096x3072, .f32⟩
  | .hbm, ⟨41, _⟩ => ⟨S_, .f32⟩
  | .hbm, ⟨42, _⟩ => ⟨S4096x3072, .f32⟩
  | .hbm, ⟨43, _⟩ => ⟨S4096x3072, .f32⟩
  | .hbm, ⟨44, _⟩ => ⟨S4096x3072, .f32⟩
  | _, _ => ⟨S4096x4224, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_cst_0 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_v24 : Ref sig .tc := ⟨.hbm, 28, rfl⟩
abbrev main_v25 : Ref sig .tc := ⟨.hbm, 29, rfl⟩
abbrev main_v26 : Ref sig .tc := ⟨.hbm, 30, rfl⟩
abbrev main_v27 : Ref sig .tc := ⟨.hbm, 31, rfl⟩
abbrev main_v28 : Ref sig .tc := ⟨.hbm, 32, rfl⟩
abbrev main_v29 : Ref sig .tc := ⟨.hbm, 33, rfl⟩
abbrev main_v30 : Ref sig .tc := ⟨.hbm, 34, rfl⟩
abbrev main_v31 : Ref sig .tc := ⟨.hbm, 35, rfl⟩
abbrev main_call0_v0 : Ref sig .tc := ⟨.hbm, 36, rfl⟩
abbrev main_call0_v1 : Ref sig .tc := ⟨.hbm, 37, rfl⟩
abbrev main_call0_cst : Ref sig .tc := ⟨.hbm, 38, rfl⟩
abbrev main_call0_v2 : Ref sig .tc := ⟨.hbm, 39, rfl⟩
abbrev main_call0_v3 : Ref sig .tc := ⟨.hbm, 40, rfl⟩
abbrev main_call0_cst_0 : Ref sig .tc := ⟨.hbm, 41, rfl⟩
abbrev main_call0_v4 : Ref sig .tc := ⟨.hbm, 42, rfl⟩
abbrev main_call0_v5 : Ref sig .tc := ⟨.hbm, 43, rfl⟩
abbrev main_v32 : Ref sig .tc := ⟨.hbm, 44, rfl⟩

abbrev nD : Nat := 1
abbrev τ : Topo := Topo.v7x

variable {F : FTy → Type} [FloatOps F]
-- ==== LruConv.lean ====
abbrev S4096x3072 : Shape := ⟨2, ![4096, 3072]⟩
abbrev S4x512 : Shape := ⟨2, ![4, 512]⟩
abbrev S512 : Shape := ⟨1, ![512]⟩
abbrev S4096x512 : Shape := ⟨2, ![4096, 512]⟩
abbrev S1x512 : Shape := ⟨2, ![1, 512]⟩
abbrev S1024x512 : Shape := ⟨2, ![1024, 512]⟩
abbrev S8x512 : Shape := ⟨2, ![8, 512]⟩
abbrev S1032x512 : Shape := ⟨2, ![1032, 512]⟩
abbrev S4x128 : Shape := ⟨2, ![4, 128]⟩
abbrev S8x128 : Shape := ⟨2, ![8, 128]⟩
abbrev S64x128 : Shape := ⟨2, ![64, 128]⟩
abbrev S1x128 : Shape := ⟨2, ![1, 128]⟩
abbrev S8x8x128 : Shape := ⟨3, ![8, 8, 128]⟩
abbrev S128 : Shape := ⟨1, ![128]⟩

abbrev nBuf : Space → Nat
  | .hbm => 10
  | .vmem => 14
  | .smem => 0
  | _ => 0

abbrev bufTy : (tb : Table) → Fin (tcTables nBuf tb) → BufTy
  | .hbm, ⟨0, _⟩ => ⟨S4096x3072, .f32⟩
  | .hbm, ⟨1, _⟩ => ⟨S4x512, .f32⟩
  | .hbm, ⟨2, _⟩ => ⟨S512, .f32⟩
  | .hbm, ⟨3, _⟩ => ⟨S4096x512, .f32⟩
  | .hbm, ⟨4, _⟩ => ⟨S4096x3072, .f32⟩
  | .hbm, ⟨5, _⟩ => ⟨S1x512, .f32⟩
  | .hbm, ⟨6, _⟩ => ⟨S4096x3072, .bf16⟩
  | .hbm, ⟨7, _⟩ => ⟨S4096x3072, .bf16⟩
  | .hbm, ⟨8, _⟩ => ⟨S4x512, .f32⟩
  | .hbm, ⟨9, _⟩ => ⟨S1x512, .f32⟩
  | .local _ .vmem, ⟨0, _⟩ => ⟨S1024x512, .f32⟩
  | .local _ .vmem, ⟨1, _⟩ => ⟨S1024x512, .f32⟩
  | .local _ .vmem, ⟨2, _⟩ => ⟨S8x512, .f32⟩
  | .local _ .vmem, ⟨3, _⟩ => ⟨S8x512, .f32⟩
  | .local _ .vmem, ⟨4, _⟩ => ⟨S4x512, .f32⟩
  | .local _ .vmem, ⟨5, _⟩ => ⟨S1x512, .f32⟩
  | .local _ .vmem, ⟨6, _⟩ => ⟨S1024x512, .f32⟩
  | .local _ .vmem, ⟨7, _⟩ => ⟨S1024x512, .f32⟩
  | .local _ .vmem, ⟨8, _⟩ => ⟨S1024x512, .bf16⟩
  | .local _ .vmem, ⟨9, _⟩ => ⟨S1024x512, .bf16⟩
  | .local _ .vmem, ⟨10, _⟩ => ⟨S4x512, .f32⟩
  | .local _ .vmem, ⟨11, _⟩ => ⟨S1x512, .f32⟩
  | .local _ .vmem, ⟨12, _⟩ => ⟨S1032x512, .f32⟩
  | .local _ .vmem, ⟨13, _⟩ => ⟨S1032x512, .f32⟩
  | _, _ => ⟨S4096x3072, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2_0 : Ref sig .tc := ⟨.hbm, 7, rfl⟩
abbrev main_v2_1 : Ref sig .tc := ⟨.hbm, 8, rfl⟩
abbrev main_v2_2 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg7_0 : Ref sig .tc := ⟨.vmem, 11, rfl⟩
abbrev cc0_scratch0 : Ref sig .tc := ⟨.vmem, 12, rfl⟩
abbrev cc0_scratch1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem7_0 : DmaSem sig := 11

abbrev nD : Nat := 1
abbrev τ : Topo := Topo.v7x

variable {F : FTy → Type} [FloatOps F]

abbrev grid0 : Pipeline.Grid := ⟨2, ![1, 4], ![false, false]⟩

def cc0_transform_0 (i : grid0.Coords) : Fin 2 → Nat :=
  let arg0 : BitVec 32 := BitVec.ofNat 32 (i 0).val
  let arg1 : BitVec 32 := BitVec.ofNat 32 (i 1).val
  let c3_i32 : BitVec 32 := 3#32
  let v0 : BitVec 32 := Scalar.subi c3_i32 arg1
  let c4_i32 : BitVec 32 := 4#32
  let v1 : BitVec 32 := Scalar.addi c4_i32 arg0
  let c0_i32 : BitVec 32 := 0#32
  ![v0.toNat, v1.toNat]

def cc0_transform_1 (i : grid0.Coords) : Fin 2 → Nat :=
  let arg0 : BitVec 32 := BitVec.ofNat 32 (i 0).val
  let arg1 : BitVec 32 := BitVec.ofNat 32 (i 1).val
  let c3_i32 : BitVec 32 := 3#32
  let v0 : BitVec 32 := Scalar.subi c3_i32 arg1
  let c128_i32 : BitVec 32 := 128#32
  let v1 : BitVec 32 := Scalar.muli v0 c128_i32
  let c1_i32 : BitVec 32 := 1#32
  let v2 : BitVec 32 := Scalar.subi v1 c1_i32
  let c0_i32 : BitVec 32 := 0#32
  let v3 : BitVec 32 := Scalar.maxsi v2 c0_i32
  let c4_i32 : BitVec 32 := 4#32
  let v4 : BitVec 32 := Scalar.addi c4_i32 arg0
  let c0_i32_0 : BitVec 32 := 0#32
  ![v3.toNat, v4.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let arg1 : BitVec 32 := BitVec.ofNat 32 (i 1).val
  let c3_i32 : BitVec 32 := 3#32
  let v0 : BitVec 32 := Scalar.subi c3_i32 arg1
  let c0_i32 : BitVec 32 := 0#32
  ![v0.toNat, arg0.toNat]

def cc0_transform_6 (i : grid0.Coords) : Fin 2 → Nat :=
  let arg0 : BitVec 32 := BitVec.ofNat 32 (i 0).val
  let arg1 : BitVec 32 := BitVec.ofNat 32 (i 1).val
  let c3_i32 : BitVec 32 := 3#32
  let v0 : BitVec 32 := Scalar.subi c3_i32 arg1
  let c4_i32 : BitVec 32 := 4#32
  let v1 : BitVec 32 := Scalar.addi c4_i32 arg0
  let c0_i32 : BitVec 32 := 0#32
  ![v0.toNat, v1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S1024x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S8x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S4x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, false]

abbrev stage0_3 : Fin 1 → Memref sig .tc .vmem S1x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true, false]

abbrev stage0_4 : Fin 2 → Memref sig .tc .vmem S1024x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1024x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 1 → Memref sig .tc .vmem S4x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true, false]

abbrev stage0_7 : Fin 1 → Memref sig .tc .vmem S1x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true, false]
-- ==== LruConvRefIdeal.lean ====
abbrev S4096x3072 : Shape := ⟨2, ![4096, 3072]⟩
abbrev S4x512 : Shape := ⟨2, ![4, 512]⟩
abbrev S512 : Shape := ⟨1, ![512]⟩
abbrev S4096x512 : Shape := ⟨2, ![4096, 512]⟩
abbrev S_ : Shape := ⟨0, ![]⟩
abbrev S3x512 : Shape := ⟨2, ![3, 512]⟩
abbrev S4099x512 : Shape := ⟨2, ![4099, 512]⟩
abbrev S1x512 : Shape := ⟨2, ![1, 512]⟩
abbrev S4096x2048 : Shape := ⟨2, ![4096, 2048]⟩

abbrev nBuf : Space → Nat
  | .hbm => 115
  | .vmem => 0
  | .smem => 0
  | _ => 0

abbrev bufTy : (tb : Table) → Fin (tcTables nBuf tb) → BufTy
  | .hbm, ⟨0, _⟩ => ⟨S4096x3072, .f32⟩
  | .hbm, ⟨1, _⟩ => ⟨S4x512, .f32⟩
  | .hbm, ⟨2, _⟩ => ⟨S512, .f32⟩
  | .hbm, ⟨3, _⟩ => ⟨S4096x512, .f32⟩
  | .hbm, ⟨4, _⟩ => ⟨S4096x3072, .f32⟩
  | .hbm, ⟨5, _⟩ => ⟨S4096x512, .f32⟩
  | .hbm, ⟨6, _⟩ => ⟨S_, .f32⟩
  | .hbm, ⟨7, _⟩ => ⟨S3x512, .f32⟩
  | .hbm, ⟨8, _⟩ => ⟨S4099x512, .f32⟩
  | .hbm, ⟨9, _⟩ => ⟨S_, .f32⟩
  | .hbm, ⟨10, _⟩ => ⟨S3x512, .f32⟩
  | .hbm, ⟨11, _⟩ => ⟨S1x512, .f32⟩
  | .hbm, ⟨12, _⟩ => ⟨S512, .f32⟩
  | .hbm, ⟨13, _⟩ => ⟨S4096x512, .f32⟩
  | .hbm, ⟨14, _⟩ => ⟨S1x512, .f32⟩
  | .hbm, ⟨15, _⟩ => ⟨S4096x512, .f32⟩
  | .hbm, ⟨16, _⟩ => ⟨S4096x512, .f32⟩
  | .hbm, ⟨17, _⟩ => ⟨S_, .f32⟩
  | .hbm, ⟨18, _⟩ => ⟨S4096x512, .f32⟩
  | .hbm, ⟨19, _⟩ => ⟨S4096x512, .f32⟩
  | .hbm, ⟨20, _⟩ => ⟨S1x512, .f32⟩
  | .hbm, ⟨21, _⟩ => ⟨S512, .f32⟩
  | .hbm, ⟨22, _⟩ => ⟨S4096x512, .f32⟩
  | .hbm, ⟨23, _⟩ => ⟨S1x512, .f32⟩
  | .hbm, ⟨24, _⟩ => ⟨S4096x512, .f32⟩
  | .hbm, ⟨25, _⟩ => ⟨S4096x512, .f32⟩
  | .hbm, ⟨26, _⟩ => ⟨S4096x512, .f32⟩
  | .hbm, ⟨27, _⟩ => ⟨S1x512, .f32⟩
  | .hbm, ⟨28, _⟩ => ⟨S512, .f32⟩
  | .hbm, ⟨29, _⟩ => ⟨S4096x512, .f32⟩
  | .hbm, ⟨30, _⟩ => ⟨S1x512, .f32⟩
  | .hbm, ⟨31, _⟩ => ⟨S4096x512, .f32⟩
  | .hbm, ⟨32, _⟩ => ⟨S4096x512, .f32⟩
  | .hbm, ⟨33, _⟩ => ⟨S4096x512, .f32⟩
  | .hbm, ⟨34, _⟩ => ⟨S1x512, .f32⟩
  | .hbm, ⟨35, _⟩ => ⟨S512, .f32⟩
  | .hbm, ⟨36, _⟩ => ⟨S4096x512, .f32⟩
  | .hbm, ⟨37, _⟩ => ⟨S1x512, .f32⟩
  | .hbm, ⟨38, _⟩ => ⟨S4096x512, .f32⟩
  | .hbm, ⟨39, _⟩ => ⟨S4096x512, .f32⟩
  | .hbm, ⟨40, _⟩ => ⟨S4096x512, .f32⟩
  | .hbm, ⟨41, _⟩ => ⟨S1x512, .f32⟩
  | .hbm, ⟨42, _⟩ => ⟨S4096x512, .f32⟩
  | .hbm, ⟨43, _⟩ => ⟨S4096x512, .f32⟩
  | .hbm, ⟨44, _⟩ => ⟨S4096x512, .f32⟩
  | .hbm, ⟨45, _⟩ => ⟨S_, .f32⟩
  | .hbm, ⟨46, _⟩ => ⟨S512, .f32⟩
  | .hbm, ⟨47, _⟩ => ⟨S1x512, .f32⟩
  | .hbm, ⟨48, _⟩ => ⟨S_, .f32⟩
  | .hbm, ⟨49, _⟩ => ⟨S512, .f32⟩
  | .hbm, ⟨50, _⟩ => ⟨S4096x512, .f32⟩
  | .hbm, ⟨51, _⟩ => ⟨S4096x512, .f32⟩
  | .hbm, ⟨52, _⟩ => ⟨S4096x512, .f32⟩
  | .hbm, ⟨53, _⟩ => ⟨S_, .f32⟩
  | .hbm, ⟨54, _⟩ => ⟨S512, .f32⟩
  | .hbm, ⟨55, _⟩ => ⟨S1x512, .f32⟩
  | .hbm, ⟨56, _⟩ => ⟨S_, .f32⟩
  | .hbm, ⟨57, _⟩ => ⟨S512, .f32⟩
  | .hbm, ⟨58, _⟩ => ⟨S_, .f32⟩
  | .hbm, ⟨59, _⟩ => ⟨S4099x512, .f32⟩
  | .hbm, ⟨60, _⟩ => ⟨S1x512, .f32⟩
  | .hbm, ⟨61, _⟩ => ⟨S_, .f32⟩
  | .hbm, ⟨62, _⟩ => ⟨S4x512, .f32⟩
  | .hbm, ⟨63, _⟩ => ⟨S4096x512, .f32⟩
  | .hbm, ⟨64, _⟩ => ⟨S4096x512, .f32⟩
  | .hbm, ⟨65, _⟩ => ⟨S4096x512, .f32⟩
  | .hbm, ⟨66, _⟩ => ⟨S_, .f32⟩
  | .hbm, ⟨67, _⟩ => ⟨S512, .f32⟩
  | .hbm, ⟨68, _⟩ => ⟨S1x512, .f32⟩
  | .hbm, ⟨69, _⟩ => ⟨S_, .f32⟩
  | .hbm, ⟨70, _⟩ => ⟨S512, .f32⟩
  | .hbm, ⟨71, _⟩ => ⟨S_, .f32⟩
  | .hbm, ⟨72, _⟩ => ⟨S4099x512, .f32⟩
  | .hbm, ⟨73, _⟩ => ⟨S4099x512, .f32⟩
  | .hbm, ⟨74, _⟩ => ⟨S1x512, .f32⟩
  | .hbm, ⟨75, _⟩ => ⟨S_, .f32⟩
  | .hbm, ⟨76, _⟩ => ⟨S4x512, .f32⟩
  | .hbm, ⟨77, _⟩ => ⟨S4x512, .f32⟩
  | .hbm, ⟨78, _⟩ => ⟨S4096x512, .f32⟩
  | .hbm, ⟨79, _⟩ => ⟨S4096x512, .f32⟩
  | .hbm, ⟨80, _⟩ => ⟨S4096x512, .f32⟩
  | .hbm, ⟨81, _⟩ => ⟨S_, .f32⟩
  | .hbm, ⟨82, _⟩ => ⟨S512, .f32⟩
  | .hbm, ⟨83, _⟩ => ⟨S1x512, .f32⟩
  | .hbm, ⟨84, _⟩ => ⟨S_, .f32⟩
  | .hbm, ⟨85, _⟩ => ⟨S512, .f32⟩
  | .hbm, ⟨86, _⟩ => ⟨S_, .f32⟩
  | .hbm, ⟨87, _⟩ => ⟨S4099x512, .f32⟩
  | .hbm, ⟨88, _⟩ => ⟨S4099x512, .f32⟩
  | .hbm, ⟨89, _⟩ => ⟨S1x512, .f32⟩
  | .hbm, ⟨90, _⟩ => ⟨S_, .f32⟩
  | .hbm, ⟨91, _⟩ => ⟨S4x512, .f32⟩
  | .hbm, ⟨92, _⟩ => ⟨S4x512, .f32⟩
  | .hbm, ⟨93, _⟩ => ⟨S4096x512, .f32⟩
  | .hbm, ⟨94, _⟩ => ⟨S4096x512, .f32⟩
  | .hbm, ⟨95, _⟩ => ⟨S4096x512, .f32⟩
  | .hbm, ⟨96, _⟩ => ⟨S_, .f32⟩
  | .hbm, ⟨97, _⟩ => ⟨S512, .f32⟩
  | .hbm, ⟨98, _⟩ => ⟨S1x512, .f32⟩
  | .hbm, ⟨99, _⟩ => ⟨S_, .f32⟩
  | .hbm, ⟨100, _⟩ => ⟨S512, .f32⟩
  | .hbm, ⟨101, _⟩ => ⟨S_, .f32⟩
  | .hbm, ⟨102, _⟩ => ⟨S4099x512, .f32⟩
  | .hbm, ⟨103, _⟩ => ⟨S4099x512, .f32⟩
  | .hbm, ⟨104, _⟩ => ⟨S1x512, .f32⟩
  | .hbm, ⟨105, _⟩ => ⟨S_, .f32⟩
  | .hbm, ⟨106, _⟩ => ⟨S4x512, .f32⟩
  | .hbm, ⟨107, _⟩ => ⟨S4x512, .f32⟩
  | .hbm, ⟨108, _⟩ => ⟨S3x512, .f32⟩
  | .hbm, ⟨109, _⟩ => ⟨S4096x512, .f32⟩
  | .hbm, ⟨110, _⟩ => ⟨S4096x2048, .f32⟩
  | .hbm, ⟨111, _⟩ => ⟨S4096x512, .f32⟩
  | .hbm, ⟨112, _⟩ => ⟨S4096x3072, .f32⟩
  | .hbm, ⟨113, _⟩ => ⟨S4096x3072, .bf16⟩
  | .hbm, ⟨114, _⟩ => ⟨S1x512, .f32⟩
  | _, _ => ⟨S4096x3072, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_cst_1 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩
abbrev main_v36 : Ref sig .tc := ⟨.hbm, 44, rfl⟩
abbrev main_cst_2 : Ref sig .tc := ⟨.hbm, 45, rfl⟩
abbrev main_v37 : Ref sig .tc := ⟨.hbm, 46, rfl⟩
abbrev main_v38 : Ref sig .tc := ⟨.hbm, 47, rfl⟩
abbrev main_cst_3 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_cst_4 : Ref sig .tc := ⟨.hbm, 53, rfl⟩
abbrev main_v43 : Ref sig .tc := ⟨.hbm, 54, rfl⟩
abbrev main_v44 : Ref sig .tc := ⟨.hbm, 55, rfl⟩
abbrev main_cst_5 : Ref sig .tc := ⟨.hbm, 56, rfl⟩
abbrev main_v45 : Ref sig .tc := ⟨.hbm, 57, rfl⟩
abbrev main_cst_6 : Ref sig .tc := ⟨.hbm, 58, rfl⟩
abbrev main_v46 : Ref sig .tc := ⟨.hbm, 59, rfl⟩
abbrev main_v47 : Ref sig .tc := ⟨.hbm, 60, rfl⟩
abbrev main_cst_7 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_v51 : Ref sig .tc := ⟨.hbm, 65, rfl⟩
abbrev main_cst_8 : Ref sig .tc := ⟨.hbm, 66, rfl⟩
abbrev main_v52 : Ref sig .tc := ⟨.hbm, 67, rfl⟩
abbrev main_v53 : Ref sig .tc := ⟨.hbm, 68, rfl⟩
abbrev main_cst_9 : Ref sig .tc := ⟨.hbm, 69, rfl⟩
abbrev main_v54 : Ref sig .tc := ⟨.hbm, 70, rfl⟩
abbrev main_cst_10 : Ref sig .tc := ⟨.hbm, 71, rfl⟩
abbrev main_v55 : Ref sig .tc := ⟨.hbm, 72, rfl⟩
abbrev main_v56 : Ref sig .tc := ⟨.hbm, 73, rfl⟩
abbrev main_v57 : Ref sig .tc := ⟨.hbm, 74, rfl⟩
abbrev main_cst_11 : Ref sig .tc := ⟨.hbm, 75, rfl⟩
abbrev main_v58 : Ref sig .tc := ⟨.hbm, 76, rfl⟩
abbrev main_v59 : Ref sig .tc := ⟨.hbm, 77, rfl⟩
abbrev main_v60 : Ref sig .tc := ⟨.hbm, 78, rfl⟩
abbrev main_v61 : Ref sig .tc := ⟨.hbm, 79, rfl⟩
abbrev main_v62 : Ref sig .tc := ⟨.hbm, 80, rfl⟩
abbrev main_cst_12 : Ref sig .tc := ⟨.hbm, 81, rfl⟩
abbrev main_v63 : Ref sig .tc := ⟨.hbm, 82, rfl⟩
abbrev main_v64 : Ref sig .tc := ⟨.hbm, 83, rfl⟩
abbrev main_cst_13 : Ref sig .tc := ⟨.hbm, 84, rfl⟩
abbrev main_v65 : Ref sig .tc := ⟨.hbm, 85, rfl⟩
abbrev main_cst_14 : Ref sig .tc := ⟨.hbm, 86, rfl⟩
abbrev main_v66 : Ref sig .tc := ⟨.hbm, 87, rfl⟩
abbrev main_v67 : Ref sig .tc := ⟨.hbm, 88, rfl⟩
abbrev main_v68 : Ref sig .tc := ⟨.hbm, 89, rfl⟩
abbrev main_cst_15 : Ref sig .tc := ⟨.hbm, 90, rfl⟩
abbrev main_v69 : Ref sig .tc := ⟨.hbm, 91, rfl⟩
abbrev main_v70 : Ref sig .tc := ⟨.hbm, 92, rfl⟩
abbrev main_v71 : Ref sig .tc := ⟨.hbm, 93, rfl⟩
abbrev main_v72 : Ref sig .tc := ⟨.hbm, 94, rfl⟩
abbrev main_v73 : Ref sig .tc := ⟨.hbm, 95, rfl⟩
abbrev main_cst_16 : Ref sig .tc := ⟨.hbm, 96, rfl⟩
abbrev main_v74 : Ref sig .tc := ⟨.hbm, 97, rfl⟩
abbrev main_v75 : Ref sig .tc := ⟨.hbm, 98, rfl⟩
abbrev main_cst_17 : Ref sig .tc := ⟨.hbm, 99, rfl⟩
abbrev main_v76 : Ref sig .tc := ⟨.hbm, 100, rfl⟩
abbrev main_cst_18 : Ref sig .tc := ⟨.hbm, 101, rfl⟩
abbrev main_v77 : Ref sig .tc := ⟨.hbm, 102, rfl⟩
abbrev main_v78 : Ref sig .tc := ⟨.hbm, 103, rfl⟩
abbrev main_v79 : Ref sig .tc := ⟨.hbm, 104, rfl⟩
abbrev main_cst_19 : Ref sig .tc := ⟨.hbm, 105, rfl⟩
abbrev main_v80 : Ref sig .tc := ⟨.hbm, 106, rfl⟩
abbrev main_v81 : Ref sig .tc := ⟨.hbm, 107, rfl⟩
abbrev main_v82 : Ref sig .tc := ⟨.hbm, 108, rfl⟩
abbrev main_v83 : Ref sig .tc := ⟨.hbm, 109, rfl⟩
abbrev main_v84 : Ref sig .tc := ⟨.hbm, 110, rfl⟩
abbrev main_v85 : Ref sig .tc := ⟨.hbm, 111, rfl⟩
abbrev main_v86 : Ref sig .tc := ⟨.hbm, 112, rfl⟩
abbrev main_v87 : Ref sig .tc := ⟨.hbm, 113, rfl⟩
abbrev main_v88 : Ref sig .tc := ⟨.hbm, 114, rfl⟩

abbrev nD : Nat := 1
abbrev τ : Topo := Topo.v7x

variable {F : FTy → Type} [FloatOps F]
-- ==== GdnConv.lean ====
abbrev S4096x4224 : Shape := ⟨2, ![4096, 4224]⟩
abbrev S4x3072 : Shape := ⟨2, ![4, 3072]⟩
abbrev S4096x3072 : Shape := ⟨2, ![4096, 3072]⟩
abbrev S1x3072 : Shape := ⟨2, ![1, 3072]⟩
abbrev S1024x1024 : Shape := ⟨2, ![1024, 1024]⟩
abbrev S8x1024 : Shape := ⟨2, ![8, 1024]⟩
abbrev S4x1024 : Shape := ⟨2, ![4, 1024]⟩
abbrev S1x1024 : Shape := ⟨2, ![1, 1024]⟩
abbrev S1032x1024 : Shape := ⟨2, ![1032, 1024]⟩
abbrev S4x128 : Shape := ⟨2, ![4, 128]⟩
abbrev S8x128 : Shape := ⟨2, ![8, 128]⟩
abbrev S64x128 : Shape := ⟨2, ![64, 128]⟩
abbrev S1x128 : Shape := ⟨2, ![1, 128]⟩
abbrev S8x8x128 : Shape := ⟨3, ![8, 8, 128]⟩
abbrev S128 : Shape := ⟨1, ![128]⟩

abbrev nBuf : Space → Nat
  | .hbm => 8
  | .vmem => 16
  | .smem => 0
  | _ => 0

abbrev bufTy : (tb : Table) → Fin (tcTables nBuf tb) → BufTy
  | .hbm, ⟨0, _⟩ => ⟨S4096x4224, .f32⟩
  | .hbm, ⟨1, _⟩ => ⟨S4x3072, .f32⟩
  | .hbm, ⟨2, _⟩ => ⟨S4096x3072, .f32⟩
  | .hbm, ⟨3, _⟩ => ⟨S4096x4224, .f32⟩
  | .hbm, ⟨4, _⟩ => ⟨S4096x4224, .bf16⟩
  | .hbm, ⟨5, _⟩ => ⟨S4096x4224, .bf16⟩
  | .hbm, ⟨6, _⟩ => ⟨S4x3072, .f32⟩
  | .hbm, ⟨7, _⟩ => ⟨S1x3072, .f32⟩
  | .local _ .vmem, ⟨0, _⟩ => ⟨S1024x1024, .f32⟩
  | .local _ .vmem, ⟨1, _⟩ => ⟨S1024x1024, .f32⟩
  | .local _ .vmem, ⟨2, _⟩ => ⟨S8x1024, .f32⟩
  | .local _ .vmem, ⟨3, _⟩ => ⟨S8x1024, .f32⟩
  | .local _ .vmem, ⟨4, _⟩ => ⟨S4x1024, .f32⟩
  | .local _ .vmem, ⟨5, _⟩ => ⟨S4x1024, .f32⟩
  | .local _ .vmem, ⟨6, _⟩ => ⟨S1024x1024, .f32⟩
  | .local _ .vmem, ⟨7, _⟩ => ⟨S1024x1024, .f32⟩
  | .local _ .vmem, ⟨8, _⟩ => ⟨S1024x1024, .bf16⟩
  | .local _ .vmem, ⟨9, _⟩ => ⟨S1024x1024, .bf16⟩
  | .local _ .vmem, ⟨10, _⟩ => ⟨S4x1024, .f32⟩
  | .local _ .vmem, ⟨11, _⟩ => ⟨S4x1024, .f32⟩
  | .local _ .vmem, ⟨12, _⟩ => ⟨S1x1024, .f32⟩
  | .local _ .vmem, ⟨13, _⟩ => ⟨S1x1024, .f32⟩
  | .local _ .vmem, ⟨14, _⟩ => ⟨S1032x1024, .f32⟩
  | .local _ .vmem, ⟨15, _⟩ => ⟨S1032x1024, .f32⟩
  | _, _ => ⟨S4096x4224, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1_0 : Ref sig .tc := ⟨.hbm, 5, rfl⟩
abbrev main_v1_1 : Ref sig .tc := ⟨.hbm, 6, rfl⟩
abbrev main_v1_2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_scratch0 : Ref sig .tc := ⟨.vmem, 14, rfl⟩
abbrev cc0_scratch1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![3, 4], ![false, false]⟩

def cc0_transform_0 (i : grid0.Coords) : Fin 2 → Nat :=
  let arg0 : BitVec 32 := BitVec.ofNat 32 (i 0).val
  let arg1 : BitVec 32 := BitVec.ofNat 32 (i 1).val
  let c3_i32 : BitVec 32 := 3#32
  let v0 : BitVec 32 := Scalar.subi c3_i32 arg1
  let c0_i32 : BitVec 32 := 0#32
  let v1 : BitVec 32 := Scalar.addi c0_i32 arg0
  let c0_i32_0 : BitVec 32 := 0#32
  ![v0.toNat, v1.toNat]

def cc0_transform_1 (i : grid0.Coords) : Fin 2 → Nat :=
  let arg0 : BitVec 32 := BitVec.ofNat 32 (i 0).val
  let arg1 : BitVec 32 := BitVec.ofNat 32 (i 1).val
  let c3_i32 : BitVec 32 := 3#32
  let v0 : BitVec 32 := Scalar.subi c3_i32 arg1
  let c128_i32 : BitVec 32 := 128#32
  let v1 : BitVec 32 := Scalar.muli v0 c128_i32
  let c1_i32 : BitVec 32 := 1#32
  let v2 : BitVec 32 := Scalar.subi v1 c1_i32
  let c0_i32 : BitVec 32 := 0#32
  let v3 : BitVec 32 := Scalar.maxsi v2 c0_i32
  let c0_i32_0 : BitVec 32 := 0#32
  let v4 : BitVec 32 := Scalar.addi c0_i32_0 arg0
  let c0_i32_1 : BitVec 32 := 0#32
  ![v3.toNat, v4.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let arg1 : BitVec 32 := BitVec.ofNat 32 (i 1).val
  let c3_i32 : BitVec 32 := 3#32
  let v0 : BitVec 32 := Scalar.subi c3_i32 arg1
  let c0_i32 : BitVec 32 := 0#32
  ![v0.toNat, arg0.toNat]

def cc0_transform_5 (i : grid0.Coords) : Fin 2 → Nat :=
  let arg0 : BitVec 32 := BitVec.ofNat 32 (i 0).val
  let arg1 : BitVec 32 := BitVec.ofNat 32 (i 1).val
  let c3_i32 : BitVec 32 := 3#32
  let v0 : BitVec 32 := Scalar.subi c3_i32 arg1
  let c0_i32 : BitVec 32 := 0#32
  let v1 : BitVec 32 := Scalar.addi c0_i32 arg0
  let c0_i32_0 : BitVec 32 := 0#32
  ![v0.toNat, v1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S8x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S4x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1024x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S4x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]
-- ==== GdnConvRefIdeal.lean ====
abbrev S4096x4224 : Shape := ⟨2, ![4096, 4224]⟩
abbrev S4x3072 : Shape := ⟨2, ![4, 3072]⟩
abbrev S4096x3072 : Shape := ⟨2, ![4096, 3072]⟩
abbrev S_ : Shape := ⟨0, ![]⟩
abbrev S3x3072 : Shape := ⟨2, ![3, 3072]⟩
abbrev S4099x3072 : Shape := ⟨2, ![4099, 3072]⟩
abbrev S1x3072 : Shape := ⟨2, ![1, 3072]⟩
abbrev S3072 : Shape := ⟨1, ![3072]⟩
abbrev S4096x1152 : Shape := ⟨2, ![4096, 1152]⟩

abbrev nBuf : Space → Nat
  | .hbm => 120
  | .vmem => 0
  | .smem => 0
  | _ => 0

abbrev bufTy : (tb : Table) → Fin (tcTables nBuf tb) → BufTy
  | .hbm, ⟨0, _⟩ => ⟨S4096x4224, .f32⟩
  | .hbm, ⟨1, _⟩ => ⟨S4x3072, .f32⟩
  | .hbm, ⟨2, _⟩ => ⟨S4096x3072, .f32⟩
  | .hbm, ⟨3, _⟩ => ⟨S4096x4224, .f32⟩
  | .hbm, ⟨4, _⟩ => ⟨S4096x3072, .f32⟩
  | .hbm, ⟨5, _⟩ => ⟨S_, .f32⟩
  | .hbm, ⟨6, _⟩ => ⟨S3x3072, .f32⟩
  | .hbm, ⟨7, _⟩ => ⟨S4099x3072, .f32⟩
  | .hbm, ⟨8, _⟩ => ⟨S_, .f32⟩
  | .hbm, ⟨9, _⟩ => ⟨S3x3072, .f32⟩
  | .hbm, ⟨10, _⟩ => ⟨S1x3072, .f32⟩
  | .hbm, ⟨11, _⟩ => ⟨S3072, .f32⟩
  | .hbm, ⟨12, _⟩ => ⟨S4096x3072, .f32⟩
  | .hbm, ⟨13, _⟩ => ⟨S1x3072, .f32⟩
  | .hbm, ⟨14, _⟩ => ⟨S4096x3072, .f32⟩
  | .hbm, ⟨15, _⟩ => ⟨S4096x3072, .f32⟩
  | .hbm, ⟨16, _⟩ => ⟨S_, .f32⟩
  | .hbm, ⟨17, _⟩ => ⟨S4096x3072, .f32⟩
  | .hbm, ⟨18, _⟩ => ⟨S4096x3072, .f32⟩
  | .hbm, ⟨19, _⟩ => ⟨S1x3072, .f32⟩
  | .hbm, ⟨20, _⟩ => ⟨S3072, .f32⟩
  | .hbm, ⟨21, _⟩ => ⟨S4096x3072, .f32⟩
  | .hbm, ⟨22, _⟩ => ⟨S1x3072, .f32⟩
  | .hbm, ⟨23, _⟩ => ⟨S4096x3072, .f32⟩
  | .hbm, ⟨24, _⟩ => ⟨S4096x3072, .f32⟩
  | .hbm, ⟨25, _⟩ => ⟨S4096x3072, .f32⟩
  | .hbm, ⟨26, _⟩ => ⟨S1x3072, .f32⟩
  | .hbm, ⟨27, _⟩ => ⟨S3072, .f32⟩
  | .hbm, ⟨28, _⟩ => ⟨S4096x3072, .f32⟩
  | .hbm, ⟨29, _⟩ => ⟨S1x3072, .f32⟩
  | .hbm, ⟨30, _⟩ => ⟨S4096x3072, .f32⟩
  | .hbm, ⟨31, _⟩ => ⟨S4096x3072, .f32⟩
  | .hbm, ⟨32, _⟩ => ⟨S4096x3072, .f32⟩
  | .hbm, ⟨33, _⟩ => ⟨S1x3072, .f32⟩
  | .hbm, ⟨34, _⟩ => ⟨S3072, .f32⟩
  | .hbm, ⟨35, _⟩ => ⟨S4096x3072, .f32⟩
  | .hbm, ⟨36, _⟩ => ⟨S1x3072, .f32⟩
  | .hbm, ⟨37, _⟩ => ⟨S4096x3072, .f32⟩
  | .hbm, ⟨38, _⟩ => ⟨S4096x3072, .f32⟩
  | .hbm, ⟨39, _⟩ => ⟨S4096x3072, .f32⟩
  | .hbm, ⟨40, _⟩ => ⟨S4096x3072, .f32⟩
  | .hbm, ⟨41, _⟩ => ⟨S4096x3072, .f32⟩
  | .hbm, ⟨42, _⟩ => ⟨S_, .f32⟩
  | .hbm, ⟨43, _⟩ => ⟨S4096x3072, .f32⟩
  | .hbm, ⟨44, _⟩ => ⟨S4096x3072, .f32⟩
  | .hbm, ⟨45, _⟩ => ⟨S_, .f32⟩
  | .hbm, ⟨46, _⟩ => ⟨S4096x3072, .f32⟩
  | .hbm, ⟨47, _⟩ => ⟨S4096x3072, .f32⟩
  | .hbm, ⟨48, _⟩ => ⟨S_, .f32⟩
  | .hbm, ⟨49, _⟩ => ⟨S4096x3072, .f32⟩
  | .hbm, ⟨50, _⟩ => ⟨S4096x3072, .f32⟩
  | .hbm, ⟨51, _⟩ => ⟨S4096x3072, .f32⟩
  | .hbm, ⟨52, _⟩ => ⟨S4096x3072, .f32⟩
  | .hbm, ⟨53, _⟩ => ⟨S4096x3072, .f32⟩
  | .hbm, ⟨54, _⟩ => ⟨S4096x3072, .f32⟩
  | .hbm, ⟨55, _⟩ => ⟨S4096x3072, .f32⟩
  | .hbm, ⟨56, _⟩ => ⟨S4096x3072, .f32⟩
  | .hbm, ⟨57, _⟩ => ⟨S4096x3072, .f32⟩
  | .hbm, ⟨58, _⟩ => ⟨S4096x3072, .f32⟩
  | .hbm, ⟨59, _⟩ => ⟨S4096x3072, .f32⟩
  | .hbm, ⟨60, _⟩ => ⟨S_, .f32⟩
  | .hbm, ⟨61, _⟩ => ⟨S3072, .f32⟩
  | .hbm, ⟨62, _⟩ => ⟨S1x3072, .f32⟩
  | .hbm, ⟨63, _⟩ => ⟨S_, .f32⟩
  | .hbm, ⟨64, _⟩ => ⟨S3072, .f32⟩
  | .hbm, ⟨65, _⟩ => ⟨S_, .f32⟩
  | .hbm, ⟨66, _⟩ => ⟨S4099x3072, .f32⟩
  | .hbm, ⟨67, _⟩ => ⟨S1x3072, .f32⟩
  | .hbm, ⟨68, _⟩ => ⟨S_, .f32⟩
  | .hbm, ⟨69, _⟩ => ⟨S4x3072, .f32⟩
  | .hbm, ⟨70, _⟩ => ⟨S4096x3072, .f32⟩
  | .hbm, ⟨71, _⟩ => ⟨S4096x3072, .f32⟩
  | .hbm, ⟨72, _⟩ => ⟨S4096x3072, .f32⟩
  | .hbm, ⟨73, _⟩ => ⟨S_, .f32⟩
  | .hbm, ⟨74, _⟩ => ⟨S3072, .f32⟩
  | .hbm, ⟨75, _⟩ => ⟨S1x3072, .f32⟩
  | .hbm, ⟨76, _⟩ => ⟨S_, .f32⟩
  | .hbm, ⟨77, _⟩ => ⟨S3072, .f32⟩
  | .hbm, ⟨78, _⟩ => ⟨S_, .f32⟩
  | .hbm, ⟨79, _⟩ => ⟨S4099x3072, .f32⟩
  | .hbm, ⟨80, _⟩ => ⟨S4099x3072, .f32⟩
  | .hbm, ⟨81, _⟩ => ⟨S1x3072, .f32⟩
  | .hbm, ⟨82, _⟩ => ⟨S_, .f32⟩
  | .hbm, ⟨83, _⟩ => ⟨S4x3072, .f32⟩
  | .hbm, ⟨84, _⟩ => ⟨S4x3072, .f32⟩
  | .hbm, ⟨85, _⟩ => ⟨S4096x3072, .f32⟩
  | .hbm, ⟨86, _⟩ => ⟨S4096x3072, .f32⟩
  | .hbm, ⟨87, _⟩ => ⟨S4096x3072, .f32⟩
  | .hbm, ⟨88, _⟩ => ⟨S_, .f32⟩
  | .hbm, ⟨89, _⟩ => ⟨S3072, .f32⟩
  | .hbm, ⟨90, _⟩ => ⟨S1x3072, .f32⟩
  | .hbm, ⟨91, _⟩ => ⟨S_, .f32⟩
  | .hbm, ⟨92, _⟩ => ⟨S3072, .f32⟩
  | .hbm, ⟨93, _⟩ => ⟨S_, .f32⟩
  | .hbm, ⟨94, _⟩ => ⟨S4099x3072, .f32⟩
  | .hbm, ⟨95, _⟩ => ⟨S4099x3072, .f32⟩
  | .hbm, ⟨96, _⟩ => ⟨S1x3072, .f32⟩
  | .hbm, ⟨97, _⟩ => ⟨S_, .f32⟩
  | .hbm, ⟨98, _⟩ => ⟨S4x3072, .f32⟩
  | .hbm, ⟨99, _⟩ => ⟨S4x3072, .f32⟩
  | .hbm, ⟨100, _⟩ => ⟨S4096x3072, .f32⟩
  | .hbm, ⟨101, _⟩ => ⟨S4096x3072, .f32⟩
  | .hbm, ⟨102, _⟩ => ⟨S4096x3072, .f32⟩
  | .hbm, ⟨103, _⟩ => ⟨S_, .f32⟩
  | .hbm, ⟨104, _⟩ => ⟨S3072, .f32⟩
  | .hbm, ⟨105, _⟩ => ⟨S1x3072, .f32⟩
  | .hbm, ⟨106, _⟩ => ⟨S_, .f32⟩
  | .hbm, ⟨107, _⟩ => ⟨S3072, .f32⟩
  | .hbm, ⟨108, _⟩ => ⟨S_, .f32⟩
  | .hbm, ⟨109, _⟩ => ⟨S4099x3072, .f32⟩
  | .hbm, ⟨110, _⟩ => ⟨S4099x3072, .f32⟩
  | .hbm, ⟨111, _⟩ => ⟨S1x3072, .f32⟩
  | .hbm, ⟨112, _⟩ => ⟨S_, .f32⟩
  | .hbm, ⟨113, _⟩ => ⟨S4x3072, .f32⟩
  | .hbm, ⟨114, _⟩ => ⟨S4x3072, .f32⟩
  | .hbm, ⟨115, _⟩ => ⟨S3x3072, .f32⟩
  | .hbm, ⟨116, _⟩ => ⟨S4096x3072, .f32⟩
  | .hbm, ⟨117, _⟩ => ⟨S4096x1152, .f32⟩
  | .hbm, ⟨118, _⟩ => ⟨S4096x4224, .f32⟩
  | .hbm, ⟨119, _⟩ => ⟨S4096x4224, .bf16⟩
  | _, _ => ⟨S4096x4224, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_cst_1 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_call0_v0 : Ref sig .tc := ⟨.hbm, 40, rfl⟩
abbrev main_call0_v1 : Ref sig .tc := ⟨.hbm, 41, rfl⟩
abbrev main_call0_cst : Ref sig .tc := ⟨.hbm, 42, rfl⟩
abbrev main_call0_v2 : Ref sig .tc := ⟨.hbm, 43, rfl⟩
abbrev main_call0_v3 : Ref sig .tc := ⟨.hbm, 44, rfl⟩
abbrev main_call0_cst_0 : Ref sig .tc := ⟨.hbm, 45, rfl⟩
abbrev main_call0_v4 : Ref sig .tc := ⟨.hbm, 46, rfl⟩
abbrev main_v33_2 : Ref sig .tc := ⟨.hbm, 47, rfl⟩
abbrev main_call0_cst_1 : Ref sig .tc := ⟨.hbm, 48, rfl⟩
abbrev main_call0_v6 : Ref sig .tc := ⟨.hbm, 49, rfl⟩
abbrev main_call0_v7 : Ref sig .tc := ⟨.hbm, 50, rfl⟩
abbrev main_v33_1 : Ref sig .tc := ⟨.hbm, 51, rfl⟩
abbrev main_v33_0 : Ref sig .tc := ⟨.hbm, 52, rfl⟩
abbrev main_call1_v0 : Ref sig .tc := ⟨.hbm, 53, rfl⟩
abbrev main_call1_v1 : Ref sig .tc := ⟨.hbm, 54, rfl⟩
abbrev main_call1_v2 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_cst_2 : Ref sig .tc := ⟨.hbm, 60, rfl⟩
abbrev main_v38 : Ref sig .tc := ⟨.hbm, 61, rfl⟩
abbrev main_v39 : Ref sig .tc := ⟨.hbm, 62, rfl⟩
abbrev main_cst_3 : Ref sig .tc := ⟨.hbm, 63, rfl⟩
abbrev main_v40 : Ref sig .tc := ⟨.hbm, 64, rfl⟩
abbrev main_cst_4 : Ref sig .tc := ⟨.hbm, 65, rfl⟩
abbrev main_v41 : Ref sig .tc := ⟨.hbm, 66, rfl⟩
abbrev main_v42 : Ref sig .tc := ⟨.hbm, 67, rfl⟩
abbrev main_cst_5 : Ref sig .tc := ⟨.hbm, 68, rfl⟩
abbrev main_v43 : Ref sig .tc := ⟨.hbm, 69, rfl⟩
abbrev main_v44 : Ref sig .tc := ⟨.hbm, 70, rfl⟩
abbrev main_v45 : Ref sig .tc := ⟨.hbm, 71, rfl⟩
abbrev main_v46 : Ref sig .tc := ⟨.hbm, 72, rfl⟩
abbrev main_cst_6 : Ref sig .tc := ⟨.hbm, 73, rfl⟩
abbrev main_v47 : Ref sig .tc := ⟨.hbm, 74, rfl⟩
abbrev main_v48 : Ref sig .tc := ⟨.hbm, 75, rfl⟩
abbrev main_cst_7 : Ref sig .tc := ⟨.hbm, 76, rfl⟩
abbrev main_v49 : Ref sig .tc := ⟨.hbm, 77, rfl⟩
abbrev main_cst_8 : Ref sig .tc := ⟨.hbm, 78, rfl⟩
abbrev main_v50 : Ref sig .tc := ⟨.hbm, 79, rfl⟩
abbrev main_v51 : Ref sig .tc := ⟨.hbm, 80, rfl⟩
abbrev main_v52 : Ref sig .tc := ⟨.hbm, 81, rfl⟩
abbrev main_cst_9 : Ref sig .tc := ⟨.hbm, 82, rfl⟩
abbrev main_v53 : Ref sig .tc := ⟨.hbm, 83, rfl⟩
abbrev main_v54 : Ref sig .tc := ⟨.hbm, 84, rfl⟩
abbrev main_v55 : Ref sig .tc := ⟨.hbm, 85, rfl⟩
abbrev main_v56 : Ref sig .tc := ⟨.hbm, 86, rfl⟩
abbrev main_v57 : Ref sig .tc := ⟨.hbm, 87, rfl⟩
abbrev main_cst_10 : Ref sig .tc := ⟨.hbm, 88, rfl⟩
abbrev main_v58 : Ref sig .tc := ⟨.hbm, 89, rfl⟩
abbrev main_v59 : Ref sig .tc := ⟨.hbm, 90, rfl⟩
abbrev main_cst_11 : Ref sig .tc := ⟨.hbm, 91, rfl⟩
abbrev main_v60 : Ref sig .tc := ⟨.hbm, 92, rfl⟩
abbrev main_cst_12 : Ref sig .tc := ⟨.hbm, 93, rfl⟩
abbrev main_v61 : Ref sig .tc := ⟨.hbm, 94, rfl⟩
abbrev main_v62 : Ref sig .tc := ⟨.hbm, 95, rfl⟩
abbrev main_v63 : Ref sig .tc := ⟨.hbm, 96, rfl⟩
abbrev main_cst_13 : Ref sig .tc := ⟨.hbm, 97, rfl⟩
abbrev main_v64 : Ref sig .tc := ⟨.hbm, 98, rfl⟩
abbrev main_v65 : Ref sig .tc := ⟨.hbm, 99, rfl⟩
abbrev main_v66 : Ref sig .tc := ⟨.hbm, 100, rfl⟩
abbrev main_v67 : Ref sig .tc := ⟨.hbm, 101, rfl⟩
abbrev main_v68 : Ref sig .tc := ⟨.hbm, 102, rfl⟩
abbrev main_cst_14 : Ref sig .tc := ⟨.hbm, 103, rfl⟩
abbrev main_v69 : Ref sig .tc := ⟨.hbm, 104, rfl⟩
abbrev main_v70 : Ref sig .tc := ⟨.hbm, 105, rfl⟩
abbrev main_cst_15 : Ref sig .tc := ⟨.hbm, 106, rfl⟩
abbrev main_v71 : Ref sig .tc := ⟨.hbm, 107, rfl⟩
abbrev main_cst_16 : Ref sig .tc := ⟨.hbm, 108, rfl⟩
abbrev main_v72 : Ref sig .tc := ⟨.hbm, 109, rfl⟩
abbrev main_v73 : Ref sig .tc := ⟨.hbm, 110, rfl⟩
abbrev main_v74 : Ref sig .tc := ⟨.hbm, 111, rfl⟩
abbrev main_cst_17 : Ref sig .tc := ⟨.hbm, 112, rfl⟩
abbrev main_v75 : Ref sig .tc := ⟨.hbm, 113, rfl⟩
abbrev main_v76 : Ref sig .tc := ⟨.hbm, 114, rfl⟩
abbrev main_v77 : Ref sig .tc := ⟨.hbm, 115, rfl⟩
abbrev main_v78 : Ref sig .tc := ⟨.hbm, 116, rfl⟩
abbrev main_v79 : Ref sig .tc := ⟨.hbm, 117, rfl⟩
abbrev main_v80 : Ref sig .tc := ⟨.hbm, 118, rfl⟩
abbrev main_v81 : Ref sig .tc := ⟨.hbm, 119, rfl⟩

abbrev nD : Nat := 1
abbrev τ : Topo := Topo.v7x

variable {F : FTy → Type} [FloatOps F]
-- ==== InProd.lean ====
abbrev S4096x1024 : Shape := ⟨2, ![4096, 1024]⟩
abbrev S1024x4112 : Shape := ⟨2, ![1024, 4112]⟩
abbrev S_ : Shape := ⟨0, ![]⟩
abbrev S1024x4224 : Shape := ⟨2, ![1024, 4224]⟩
abbrev S4096x4224 : Shape := ⟨2, ![4096, 4224]⟩
abbrev S2048x1024 : Shape := ⟨2, ![2048, 1024]⟩
abbrev S1024x1408 : Shape := ⟨2, ![1024, 1408]⟩
abbrev S2048x1408 : Shape := ⟨2, ![2048, 1408]⟩

abbrev nBuf : Space → Nat
  | .hbm => 8
  | .vmem => 6
  | .smem => 0
  | _ => 0

abbrev bufTy : (tb : Table) → Fin (tcTables nBuf tb) → BufTy
  | .hbm, ⟨0, _⟩ => ⟨S4096x1024, .f32⟩
  | .hbm, ⟨1, _⟩ => ⟨S1024x4112, .f32⟩
  | .hbm, ⟨2, _⟩ => ⟨S1024x4112, .bf16⟩
  | .hbm, ⟨3, _⟩ => ⟨S_, .i32⟩
  | .hbm, ⟨4, _⟩ => ⟨S_, .bf16⟩
  | .hbm, ⟨5, _⟩ => ⟨S1024x4224, .bf16⟩
  | .hbm, ⟨6, _⟩ => ⟨S4096x1024, .bf16⟩
  | .hbm, ⟨7, _⟩ => ⟨S4096x4224, .f32⟩
  | .local _ .vmem, ⟨0, _⟩ => ⟨S2048x1024, .bf16⟩
  | .local _ .vmem, ⟨1, _⟩ => ⟨S2048x1024, .bf16⟩
  | .local _ .vmem, ⟨2, _⟩ => ⟨S1024x1408, .bf16⟩
  | .local _ .vmem, ⟨3, _⟩ => ⟨S1024x1408, .bf16⟩
  | .local _ .vmem, ⟨4, _⟩ => ⟨S2048x1408, .f32⟩
  | .local _ .vmem, ⟨5, _⟩ => ⟨S2048x1408, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_c : Ref sig .tc := ⟨.hbm, 3, rfl⟩
abbrev main_call0_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 3, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2048x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== InProdRefIdeal.lean ====
abbrev S4096x1024 : Shape := ⟨2, ![4096, 1024]⟩
abbrev S1024x4112 : Shape := ⟨2, ![1024, 4112]⟩
abbrev S4096x4112 : Shape := ⟨2, ![4096, 4112]⟩
abbrev S_ : Shape := ⟨0, ![]⟩
abbrev S4096x112 : Shape := ⟨2, ![4096, 112]⟩
abbrev S4096x4224 : Shape := ⟨2, ![4096, 4224]⟩

abbrev nBuf : Space → Nat
  | .hbm => 6
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024x4112, .f32⟩
  | .hbm, ⟨2, _⟩ => ⟨S4096x4112, .f32⟩
  | .hbm, ⟨3, _⟩ => ⟨S_, .f32⟩
  | .hbm, ⟨4, _⟩ => ⟨S4096x112, .f32⟩
  | .hbm, ⟨5, _⟩ => ⟨S4096x4224, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== Adamw.lean ====
abbrev S1x1024x384 : Shape := ⟨3, ![1, 1024, 384]⟩
abbrev S8x1024x384 : Shape := ⟨3, ![8, 1024, 384]⟩
abbrev S1x512x384 : Shape := ⟨3, ![1, 512, 384]⟩
abbrev S8x512x384 : Shape := ⟨3, ![8, 512, 384]⟩
abbrev S512x384 : Shape := ⟨2, ![512, 384]⟩

abbrev nBuf : Space → Nat
  | .hbm => 9
  | .vmem => 16
  | .smem => 0
  | _ => 0

abbrev bufTy : (tb : Table) → Fin (tcTables nBuf tb) → BufTy
  | .hbm, ⟨0, _⟩ => ⟨S1x1024x384, .f32⟩
  | .hbm, ⟨1, _⟩ => ⟨S8x1024x384, .f32⟩
  | .hbm, ⟨2, _⟩ => ⟨S1x1024x384, .f32⟩
  | .hbm, ⟨3, _⟩ => ⟨S1x1024x384, .f32⟩
  | .hbm, ⟨4, _⟩ => ⟨S8x1024x384, .bf16⟩
  | .hbm, ⟨5, _⟩ => ⟨S1x1024x384, .f32⟩
  | .hbm, ⟨6, _⟩ => ⟨S1x1024x384, .f32⟩
  | .hbm, ⟨7, _⟩ => ⟨S1x1024x384, .f32⟩
  | .hbm, ⟨8, _⟩ => ⟨S1x1024x384, .f32⟩
  | .local _ .vmem, ⟨0, _⟩ => ⟨S1x512x384, .f32⟩
  | .local _ .vmem, ⟨1, _⟩ => ⟨S1x512x384, .f32⟩
  | .local _ .vmem, ⟨2, _⟩ => ⟨S8x512x384, .bf16⟩
  | .local _ .vmem, ⟨3, _⟩ => ⟨S8x512x384, .bf16⟩
  | .local _ .vmem, ⟨4, _⟩ => ⟨S1x512x384, .f32⟩
  | .local _ .vmem, ⟨5, _⟩ => ⟨S1x512x384, .f32⟩
  | .local _ .vmem, ⟨6, _⟩ => ⟨S1x512x384, .f32⟩
  | .local _ .vmem, ⟨7, _⟩ => ⟨S1x512x384, .f32⟩
  | .local _ .vmem, ⟨8, _⟩ => ⟨S1x512x384, .f32⟩
  | .local _ .vmem, ⟨9, _⟩ => ⟨S1x512x384, .f32⟩
  | .local _ .vmem, ⟨10, _⟩ => ⟨S1x512x384, .f32⟩
  | .local _ .vmem, ⟨11, _⟩ => ⟨S1x512x384, .f32⟩
  | .local _ .vmem, ⟨12, _⟩ => ⟨S1x512x384, .f32⟩
  | .local _ .vmem, ⟨13, _⟩ => ⟨S1x512x384, .f32⟩
  | .local _ .vmem, ⟨14, _⟩ => ⟨S1x512x384, .f32⟩
  | .local _ .vmem, ⟨15, _⟩ => ⟨S1x512x384, .f32⟩
  | _, _ => ⟨S1x1024x384, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1_0 : Ref sig .tc := ⟨.hbm, 5, rfl⟩
abbrev main_v1_1 : Ref sig .tc := ⟨.hbm, 6, rfl⟩
abbrev main_v1_2 : Ref sig .tc := ⟨.hbm, 7, rfl⟩
abbrev main_v1_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![2], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S1x512x384 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8x512x384 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x512x384 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x512x384 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x512x384 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x512x384 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x512x384 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x512x384 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== AdamwRefIdeal.lean ====
abbrev S1x1024x384 : Shape := ⟨3, ![1, 1024, 384]⟩
abbrev S8x1024x384 : Shape := ⟨3, ![8, 1024, 384]⟩
abbrev S_ : Shape := ⟨0, ![]⟩
abbrev S1024x384 : Shape := ⟨2, ![1024, 384]⟩

abbrev nBuf : Space → Nat
  | .hbm => 40
  | .vmem => 0
  | .smem => 0
  | _ => 0

abbrev bufTy : (tb : Table) → Fin (tcTables nBuf tb) → BufTy
  | .hbm, ⟨0, _⟩ => ⟨S1x1024x384, .f32⟩
  | .hbm, ⟨1, _⟩ => ⟨S8x1024x384, .f32⟩
  | .hbm, ⟨2, _⟩ => ⟨S1x1024x384, .f32⟩
  | .hbm, ⟨3, _⟩ => ⟨S1x1024x384, .f32⟩
  | .hbm, ⟨4, _⟩ => ⟨S_, .f32⟩
  | .hbm, ⟨5, _⟩ => ⟨S1024x384, .f32⟩
  | .hbm, ⟨6, _⟩ => ⟨S1x1024x384, .f32⟩
  | .hbm, ⟨7, _⟩ => ⟨S_, .f32⟩
  | .hbm, ⟨8, _⟩ => ⟨S1x1024x384, .f32⟩
  | .hbm, ⟨9, _⟩ => ⟨S1x1024x384, .f32⟩
  | .hbm, ⟨10, _⟩ => ⟨S_, .f32⟩
  | .hbm, ⟨11, _⟩ => ⟨S1x1024x384, .f32⟩
  | .hbm, ⟨12, _⟩ => ⟨S1x1024x384, .f32⟩
  | .hbm, ⟨13, _⟩ => ⟨S1x1024x384, .f32⟩
  | .hbm, ⟨14, _⟩ => ⟨S_, .f32⟩
  | .hbm, ⟨15, _⟩ => ⟨S1x1024x384, .f32⟩
  | .hbm, ⟨16, _⟩ => ⟨S1x1024x384, .f32⟩
  | .hbm, ⟨17, _⟩ => ⟨S1x1024x384, .f32⟩
  | .hbm, ⟨18, _⟩ => ⟨S_, .f32⟩
  | .hbm, ⟨19, _⟩ => ⟨S1x1024x384, .f32⟩
  | .hbm, ⟨20, _⟩ => ⟨S1x1024x384, .f32⟩
  | .hbm, ⟨21, _⟩ => ⟨S1x1024x384, .f32⟩
  | .hbm, ⟨22, _⟩ => ⟨S_, .f32⟩
  | .hbm, ⟨23, _⟩ => ⟨S1x1024x384, .f32⟩
  | .hbm, ⟨24, _⟩ => ⟨S1x1024x384, .f32⟩
  | .hbm, ⟨25, _⟩ => ⟨S_, .f32⟩
  | .hbm, ⟨26, _⟩ => ⟨S1x1024x384, .f32⟩
  | .hbm, ⟨27, _⟩ => ⟨S1x1024x384, .f32⟩
  | .hbm, ⟨28, _⟩ => ⟨S1x1024x384, .f32⟩
  | .hbm, ⟨29, _⟩ => ⟨S_, .f32⟩
  | .hbm, ⟨30, _⟩ => ⟨S1x1024x384, .f32⟩
  | .hbm, ⟨31, _⟩ => ⟨S1x1024x384, .f32⟩
  | .hbm, ⟨32, _⟩ => ⟨S1x1024x384, .f32⟩
  | .hbm, ⟨33, _⟩ => ⟨S_, .f32⟩
  | .hbm, ⟨34, _⟩ => ⟨S1x1024x384, .f32⟩
  | .hbm, ⟨35, _⟩ => ⟨S1x1024x384, .f32⟩
  | .hbm, ⟨36, _⟩ => ⟨S1x1024x384, .f32⟩
  | .hbm, ⟨37, _⟩ => ⟨S_, .f32⟩
  | .hbm, ⟨38, _⟩ => ⟨S1x1024x384, .f32⟩
  | .hbm, ⟨39, _⟩ => ⟨S1x1024x384, .f32⟩
  | _, _ => ⟨S1x1024x384, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_cst_1 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_2 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_3 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_cst_5 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_6 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_7 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_8 : Ref sig .tc := ⟨.hbm, 37, rfl⟩
abbrev main_v24 : Ref sig .tc := ⟨.hbm, 38, rfl⟩
abbrev main_v25 : Ref sig .tc := ⟨.hbm, 39, rfl⟩

abbrev nD : Nat := 1
abbrev τ : Topo := Topo.v7x

variable {F : FTy → Type} [FloatOps F]
-- ==== LruFwd.lean ====
abbrev S4096x512 : Shape := ⟨2, ![4096, 512]⟩
abbrev S4096x3072 : Shape := ⟨2, ![4096, 3072]⟩
abbrev S8x64x64 : Shape := ⟨3, ![8, 64, 64]⟩
abbrev S512 : Shape := ⟨1, ![512]⟩
abbrev S4096x1024 : Shape := ⟨2, ![4096, 1024]⟩
abbrev S8x8 : Shape := ⟨2, ![8, 8]⟩
abbrev S_ : Shape := ⟨0, ![]⟩
abbrev S8x1x8x1 : Shape := ⟨4, ![8, 1, 8, 1]⟩
abbrev S8x64x1x64 : Shape := ⟨4, ![8, 64, 1, 64]⟩
abbrev S8x64x8x64 : Shape := ⟨4, ![8, 64, 8, 64]⟩
abbrev S512x512 : Shape := ⟨2, ![512, 512]⟩
abbrev S1x512 : Shape := ⟨2, ![1, 512]⟩
abbrev S512x128 : Shape := ⟨2, ![512, 128]⟩
abbrev S128x128 : Shape := ⟨2, ![128, 128]⟩
abbrev S1x128 : Shape := ⟨2, ![1, 128]⟩
abbrev S8x128 : Shape := ⟨2, ![8, 128]⟩

abbrev nBuf : Space → Nat
  | .hbm => 40
  | .vmem => 19
  | .smem => 0
  | _ => 0

abbrev bufTy : (tb : Table) → Fin (tcTables nBuf tb) → BufTy
  | .hbm, ⟨0, _⟩ => ⟨S4096x512, .f32⟩
  | .hbm, ⟨1, _⟩ => ⟨S4096x3072, .f32⟩
  | .hbm, ⟨2, _⟩ => ⟨S8x64x64, .f32⟩
  | .hbm, ⟨3, _⟩ => ⟨S512, .f32⟩
  | .hbm, ⟨4, _⟩ => ⟨S8x64x64, .f32⟩
  | .hbm, ⟨5, _⟩ => ⟨S512, .f32⟩
  | .hbm, ⟨6, _⟩ => ⟨S512, .f32⟩
  | .hbm, ⟨7, _⟩ => ⟨S4096x1024, .f32⟩
  | .hbm, ⟨8, _⟩ => ⟨S8x8, .i32⟩
  | .hbm, ⟨9, _⟩ => ⟨S8x8, .i32⟩
  | .hbm, ⟨10, _⟩ => ⟨S_, .i32⟩
  | .hbm, ⟨11, _⟩ => ⟨S8x8, .i32⟩
  | .hbm, ⟨12, _⟩ => ⟨S8x8, .i32⟩
  | .hbm, ⟨13, _⟩ => ⟨S8x8, .i1⟩
  | .hbm, ⟨14, _⟩ => ⟨S8x8, .f32⟩
  | .hbm, ⟨15, _⟩ => ⟨S8x1x8x1, .f32⟩
  | .hbm, ⟨16, _⟩ => ⟨S8x64x1x64, .f32⟩
  | .hbm, ⟨17, _⟩ => ⟨S8x64x8x64, .f32⟩
  | .hbm, ⟨18, _⟩ => ⟨S8x64x8x64, .f32⟩
  | .hbm, ⟨19, _⟩ => ⟨S8x64x8x64, .f32⟩
  | .hbm, ⟨20, _⟩ => ⟨S512x512, .f32⟩
  | .hbm, ⟨21, _⟩ => ⟨S8x8, .i32⟩
  | .hbm, ⟨22, _⟩ => ⟨S8x8, .i32⟩
  | .hbm, ⟨23, _⟩ => ⟨S_, .i32⟩
  | .hbm, ⟨24, _⟩ => ⟨S8x8, .i32⟩
  | .hbm, ⟨25, _⟩ => ⟨S8x8, .i32⟩
  | .hbm, ⟨26, _⟩ => ⟨S8x8, .i1⟩
  | .hbm, ⟨27, _⟩ => ⟨S8x8, .f32⟩
  | .hbm, ⟨28, _⟩ => ⟨S8x1x8x1, .f32⟩
  | .hbm, ⟨29, _⟩ => ⟨S8x64x1x64, .f32⟩
  | .hbm, ⟨30, _⟩ => ⟨S8x64x8x64, .f32⟩
  | .hbm, ⟨31, _⟩ => ⟨S8x64x8x64, .f32⟩
  | .hbm, ⟨32, _⟩ => ⟨S8x64x8x64, .f32⟩
  | .hbm, ⟨33, _⟩ => ⟨S512x512, .f32⟩
  | .hbm, ⟨34, _⟩ => ⟨S1x512, .f32⟩
  | .hbm, ⟨35, _⟩ => ⟨S1x512, .f32⟩
  | .hbm, ⟨36, _⟩ => ⟨S1x512, .f32⟩
  | .hbm, ⟨37, _⟩ => ⟨S4096x1024, .bf16⟩
  | .hbm, ⟨38, _⟩ => ⟨S4096x1024, .bf16⟩
  | .hbm, ⟨39, _⟩ => ⟨S4096x512, .f32⟩
  | .local _ .vmem, ⟨0, _⟩ => ⟨S512x128, .f32⟩
  | .local _ .vmem, ⟨1, _⟩ => ⟨S512x128, .f32⟩
  | .local _ .vmem, ⟨2, _⟩ => ⟨S512x128, .f32⟩
  | .local _ .vmem, ⟨3, _⟩ => ⟨S512x128, .f32⟩
  | .local _ .vmem, ⟨4, _⟩ => ⟨S128x128, .f32⟩
  | .local _ .vmem, ⟨5, _⟩ => ⟨S128x128, .f32⟩
  | .local _ .vmem, ⟨6, _⟩ => ⟨S128x128, .f32⟩
  | .local _ .vmem, ⟨7, _⟩ => ⟨S128x128, .f32⟩
  | .local _ .vmem, ⟨8, _⟩ => ⟨S1x128, .f32⟩
  | .local _ .vmem, ⟨9, _⟩ => ⟨S1x128, .f32⟩
  | .local _ .vmem, ⟨10, _⟩ => ⟨S1x128, .f32⟩
  | .local _ .vmem, ⟨11, _⟩ => ⟨S1x128, .f32⟩
  | .local _ .vmem, ⟨12, _⟩ => ⟨S1x128, .f32⟩
  | .local _ .vmem, ⟨13, _⟩ => ⟨S1x128, .f32⟩
  | .local _ .vmem, ⟨14, _⟩ => ⟨S512x128, .bf16⟩
  | .local _ .vmem, ⟨15, _⟩ => ⟨S512x128, .bf16⟩
  | .local _ .vmem, ⟨16, _⟩ => ⟨S512x128, .f32⟩
  | .local _ .vmem, ⟨17, _⟩ => ⟨S512x128, .f32⟩
  | .local _ .vmem, ⟨18, _⟩ => ⟨S8x128, .f32⟩
  | _, _ => ⟨S4096x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_c : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_c_0 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28_0 : Ref sig .tc := ⟨.hbm, 38, rfl⟩
abbrev main_v28_1 : Ref sig .tc := ⟨.hbm, 39, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_scratch0 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![4, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c20_i32 : BitVec 32 := 20#32
  let v0 : BitVec 32 := Scalar.addi c20_i32 arg0
  let c0_i32 : BitVec 32 := 0#32
  ![arg1.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_8 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.addi c4_i32 arg0
  let c0_i32 : BitVec 32 := 0#32
  ![arg1.toNat, v0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S512x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S128x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S128x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S512x128 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S512x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== LruFwdRefIdeal.lean ====
abbrev S4096x512 : Shape := ⟨2, ![4096, 512]⟩
abbrev S4096x3072 : Shape := ⟨2, ![4096, 3072]⟩
abbrev S8x64x64 : Shape := ⟨3, ![8, 64, 64]⟩
abbrev S512 : Shape := ⟨1, ![512]⟩
abbrev S4096x1024 : Shape := ⟨2, ![4096, 1024]⟩
abbrev S4096x8x64 : Shape := ⟨3, ![4096, 8, 64]⟩
abbrev S8x64x4096 : Shape := ⟨3, ![8, 64, 4096]⟩
abbrev S1x512 : Shape := ⟨2, ![1, 512]⟩
abbrev S_ : Shape := ⟨0, ![]⟩
abbrev S4096 : Shape := ⟨1, ![4096]⟩
abbrev S4096x1 : Shape := ⟨2, ![4096, 1]⟩

abbrev nBuf : Space → Nat
  | .hbm => 124
  | .vmem => 0
  | .smem => 0
  | _ => 0

abbrev bufTy : (tb : Table) → Fin (tcTables nBuf tb) → BufTy
  | .hbm, ⟨0, _⟩ => ⟨S4096x512, .f32⟩
  | .hbm, ⟨1, _⟩ => ⟨S4096x3072, .f32⟩
  | .hbm, ⟨2, _⟩ => ⟨S8x64x64, .f32⟩
  | .hbm, ⟨3, _⟩ => ⟨S512, .f32⟩
  | .hbm, ⟨4, _⟩ => ⟨S8x64x64, .f32⟩
  | .hbm, ⟨5, _⟩ => ⟨S512, .f32⟩
  | .hbm, ⟨6, _⟩ => ⟨S512, .f32⟩
  | .hbm, ⟨7, _⟩ => ⟨S4096x1024, .f32⟩
  | .hbm, ⟨8, _⟩ => ⟨S4096x8x64, .f32⟩
  | .hbm, ⟨9, _⟩ => ⟨S8x64x4096, .f32⟩
  | .hbm, ⟨10, _⟩ => ⟨S4096x8x64, .f32⟩
  | .hbm, ⟨11, _⟩ => ⟨S4096x512, .f32⟩
  | .hbm, ⟨12, _⟩ => ⟨S1x512, .f32⟩
  | .hbm, ⟨13, _⟩ => ⟨S4096x512, .f32⟩
  | .hbm, ⟨14, _⟩ => ⟨S4096x512, .f32⟩
  | .hbm, ⟨15, _⟩ => ⟨S4096x512, .f32⟩
  | .hbm, ⟨16, _⟩ => ⟨S4096x512, .f32⟩
  | .hbm, ⟨17, _⟩ => ⟨S_, .f32⟩
  | .hbm, ⟨18, _⟩ => ⟨S4096x512, .f32⟩
  | .hbm, ⟨19, _⟩ => ⟨S4096x512, .f32⟩
  | .hbm, ⟨20, _⟩ => ⟨S_, .f32⟩
  | .hbm, ⟨21, _⟩ => ⟨S4096x512, .f32⟩
  | .hbm, ⟨22, _⟩ => ⟨S4096x512, .f32⟩
  | .hbm, ⟨23, _⟩ => ⟨S8x64x4096, .f32⟩
  | .hbm, ⟨24, _⟩ => ⟨S4096x8x64, .f32⟩
  | .hbm, ⟨25, _⟩ => ⟨S4096x512, .f32⟩
  | .hbm, ⟨26, _⟩ => ⟨S1x512, .f32⟩
  | .hbm, ⟨27, _⟩ => ⟨S4096x512, .f32⟩
  | .hbm, ⟨28, _⟩ => ⟨S4096x512, .f32⟩
  | .hbm, ⟨29, _⟩ => ⟨S4096x512, .f32⟩
  | .hbm, ⟨30, _⟩ => ⟨S4096x512, .f32⟩
  | .hbm, ⟨31, _⟩ => ⟨S_, .f32⟩
  | .hbm, ⟨32, _⟩ => ⟨S4096x512, .f32⟩
  | .hbm, ⟨33, _⟩ => ⟨S4096x512, .f32⟩
  | .hbm, ⟨34, _⟩ => ⟨S_, .f32⟩
  | .hbm, ⟨35, _⟩ => ⟨S4096x512, .f32⟩
  | .hbm, ⟨36, _⟩ => ⟨S4096x512, .f32⟩
  | .hbm, ⟨37, _⟩ => ⟨S_, .f32⟩
  | .hbm, ⟨38, _⟩ => ⟨S4096x512, .f32⟩
  | .hbm, ⟨39, _⟩ => ⟨S4096x512, .f32⟩
  | .hbm, ⟨40, _⟩ => ⟨S512, .f32⟩
  | .hbm, ⟨41, _⟩ => ⟨S_, .f32⟩
  | .hbm, ⟨42, _⟩ => ⟨S512, .f32⟩
  | .hbm, ⟨43, _⟩ => ⟨S512, .f32⟩
  | .hbm, ⟨44, _⟩ => ⟨S512, .f32⟩
  | .hbm, ⟨45, _⟩ => ⟨S512, .f32⟩
  | .hbm, ⟨46, _⟩ => ⟨S512, .i1⟩
  | .hbm, ⟨47, _⟩ => ⟨S512, .f32⟩
  | .hbm, ⟨48, _⟩ => ⟨S512, .f32⟩
  | .hbm, ⟨49, _⟩ => ⟨S512, .f32⟩
  | .hbm, ⟨50, _⟩ => ⟨S512, .f32⟩
  | .hbm, ⟨51, _⟩ => ⟨S512, .f32⟩
  | .hbm, ⟨52, _⟩ => ⟨S512, .f32⟩
  | .hbm, ⟨53, _⟩ => ⟨S512, .f32⟩
  | .hbm, ⟨54, _⟩ => ⟨S512, .f32⟩
  | .hbm, ⟨55, _⟩ => ⟨S1x512, .f32⟩
  | .hbm, ⟨56, _⟩ => ⟨S4096x512, .f32⟩
  | .hbm, ⟨57, _⟩ => ⟨S4096x512, .f32⟩
  | .hbm, ⟨58, _⟩ => ⟨S4096x512, .f32⟩
  | .hbm, ⟨59, _⟩ => ⟨S_, .f32⟩
  | .hbm, ⟨60, _⟩ => ⟨S4096x512, .f32⟩
  | .hbm, ⟨61, _⟩ => ⟨S4096x512, .f32⟩
  | .hbm, ⟨62, _⟩ => ⟨S4096x512, .f32⟩
  | .hbm, ⟨63, _⟩ => ⟨S4096x512, .f32⟩
  | .hbm, ⟨64, _⟩ => ⟨S4096x512, .f32⟩
  | .hbm, ⟨65, _⟩ => ⟨S4096, .i32⟩
  | .hbm, ⟨66, _⟩ => ⟨S4096x1, .i32⟩
  | .hbm, ⟨67, _⟩ => ⟨S_, .i32⟩
  | .hbm, ⟨68, _⟩ => ⟨S4096x1, .i32⟩
  | .hbm, ⟨69, _⟩ => ⟨S4096x1, .i1⟩
  | .hbm, ⟨70, _⟩ => ⟨S_, .f32⟩
  | .hbm, ⟨71, _⟩ => ⟨S_, .f32⟩
  | .hbm, ⟨72, _⟩ => ⟨S4096x512, .i1⟩
  | .hbm, ⟨73, _⟩ => ⟨S4096x512, .f32⟩
  | .hbm, ⟨74, _⟩ => ⟨S4096x512, .f32⟩
  | .hbm, ⟨75, _⟩ => ⟨S4096x512, .f32⟩
  | .hbm, ⟨76, _⟩ => ⟨S4096x512, .f32⟩
  | .hbm, ⟨77, _⟩ => ⟨S_, .f32⟩
  | .hbm, ⟨78, _⟩ => ⟨S512, .f32⟩
  | .hbm, ⟨79, _⟩ => ⟨S_, .f32⟩
  | .hbm, ⟨80, _⟩ => ⟨S4096x512, .f32⟩
  | .hbm, ⟨81, _⟩ => ⟨S_, .i32⟩
  | .hbm, ⟨82, _⟩ => ⟨S4096x512, .f32⟩
  | .hbm, ⟨83, _⟩ => ⟨S4096x512, .f32⟩
  | .hbm, ⟨84, _⟩ => ⟨S_, .i32⟩
  | .hbm, ⟨85, _⟩ => ⟨S512, .f32⟩
  | .hbm, ⟨86, _⟩ => ⟨S4096x512, .f32⟩
  | .hbm, ⟨87, _⟩ => ⟨S_, .i32⟩
  | .hbm, ⟨88, _⟩ => ⟨S_, .i1⟩
  | .hbm, ⟨89, _⟩ => ⟨S_, .i32⟩
  | .hbm, ⟨90, _⟩ => ⟨S1x512, .f32⟩
  | .hbm, ⟨91, _⟩ => ⟨S512, .f32⟩
  | .hbm, ⟨92, _⟩ => ⟨S_, .i32⟩
  | .hbm, ⟨93, _⟩ => ⟨S1x512, .f32⟩
  | .hbm, ⟨94, _⟩ => ⟨S512, .f32⟩
  | .hbm, ⟨95, _⟩ => ⟨S512, .f32⟩
  | .hbm, ⟨96, _⟩ => ⟨S512, .f32⟩
  | .hbm, ⟨97, _⟩ => ⟨S1x512, .f32⟩
  | .hbm, ⟨98, _⟩ => ⟨S_, .i32⟩
  | .hbm, ⟨99, _⟩ => ⟨S4096x512, .f32⟩
  | .hbm, ⟨100, _⟩ => ⟨S_, .i32⟩
  | .hbm, ⟨101, _⟩ => ⟨S_, .i32⟩
  | .hbm, ⟨102, _⟩ => ⟨S4096x512, .f32⟩
  | .hbm, ⟨103, _⟩ => ⟨S4096x512, .f32⟩
  | .hbm, ⟨104, _⟩ => ⟨S4096x512, .f32⟩
  | .hbm, ⟨105, _⟩ => ⟨S4096x512, .f32⟩
  | .hbm, ⟨106, _⟩ => ⟨S_, .f32⟩
  | .hbm, ⟨107, _⟩ => ⟨S4096x512, .f32⟩
  | .hbm, ⟨108, _⟩ => ⟨S4096x512, .f32⟩
  | .hbm, ⟨109, _⟩ => ⟨S4096x512, .f32⟩
  | .hbm, ⟨110, _⟩ => ⟨S_, .f32⟩
  | .hbm, ⟨111, _⟩ => ⟨S4096x512, .f32⟩
  | .hbm, ⟨112, _⟩ => ⟨S4096x512, .f32⟩
  | .hbm, ⟨113, _⟩ => ⟨S4096x512, .f32⟩
  | .hbm, ⟨114, _⟩ => ⟨S_, .f32⟩
  | .hbm, ⟨115, _⟩ => ⟨S4096x512, .f32⟩
  | .hbm, ⟨116, _⟩ => ⟨S4096x512, .f32⟩
  | .hbm, ⟨117, _⟩ => ⟨S_, .f32⟩
  | .hbm, ⟨118, _⟩ => ⟨S4096x512, .f32⟩
  | .hbm, ⟨119, _⟩ => ⟨S4096x512, .f32⟩
  | .hbm, ⟨120, _⟩ => ⟨S4096x512, .f32⟩
  | .hbm, ⟨121, _⟩ => ⟨S4096x512, .f32⟩
  | .hbm, ⟨122, _⟩ => ⟨S4096x1024, .f32⟩
  | .hbm, ⟨123, _⟩ => ⟨S4096x1024, .bf16⟩
  | _, _ => ⟨S4096x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst : Ref sig .tc := ⟨.hbm, 17, rfl⟩
abbrev main_v9 : Ref sig .tc := ⟨.hbm, 18, rfl⟩
abbrev main_v10 : Ref sig .tc := ⟨.hbm, 19, rfl⟩
abbrev main_cst_0 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_cst_1 : Ref sig .tc := ⟨.hbm, 31, rfl⟩
abbrev main_v21 : Ref sig .tc := ⟨.hbm, 32, rfl⟩
abbrev main_v22 : Ref sig .tc := ⟨.hbm, 33, rfl⟩
abbrev main_cst_2 : Ref sig .tc := ⟨.hbm, 34, rfl⟩
abbrev main_v23 : Ref sig .tc := ⟨.hbm, 35, rfl⟩
abbrev main_v24 : Ref sig .tc := ⟨.hbm, 36, rfl⟩
abbrev main_cst_3 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_call0_cst : Ref sig .tc := ⟨.hbm, 41, rfl⟩
abbrev main_call0_v0 : Ref sig .tc := ⟨.hbm, 42, rfl⟩
abbrev main_call0_v1 : Ref sig .tc := ⟨.hbm, 43, rfl⟩
abbrev main_call0_v2 : Ref sig .tc := ⟨.hbm, 44, rfl⟩
abbrev main_call0_v3 : Ref sig .tc := ⟨.hbm, 45, rfl⟩
abbrev main_call0_v4 : Ref sig .tc := ⟨.hbm, 46, rfl⟩
abbrev main_call0_v5 : Ref sig .tc := ⟨.hbm, 47, rfl⟩
abbrev main_call0_v6 : Ref sig .tc := ⟨.hbm, 48, rfl⟩
abbrev main_call0_v7 : Ref sig .tc := ⟨.hbm, 49, rfl⟩
abbrev main_call0_v8 : Ref sig .tc := ⟨.hbm, 50, rfl⟩
abbrev main_call0_v9 : Ref sig .tc := ⟨.hbm, 51, rfl⟩
abbrev main_call0_v10 : Ref sig .tc := ⟨.hbm, 52, rfl⟩
abbrev main_call0_v11 : Ref sig .tc := ⟨.hbm, 53, rfl⟩
abbrev main_v28 : Ref sig .tc := ⟨.hbm, 54, rfl⟩
abbrev main_v29 : Ref sig .tc := ⟨.hbm, 55, rfl⟩
abbrev main_v30 : Ref sig .tc := ⟨.hbm, 56, rfl⟩
abbrev main_v31 : Ref sig .tc := ⟨.hbm, 57, rfl⟩
abbrev main_v32 : Ref sig .tc := ⟨.hbm, 58, rfl⟩
abbrev main_cst_4 : Ref sig .tc := ⟨.hbm, 59, rfl⟩
abbrev main_v33 : Ref sig .tc := ⟨.hbm, 60, rfl⟩
abbrev main_v34 : Ref sig .tc := ⟨.hbm, 61, rfl⟩
abbrev main_v35 : Ref sig .tc := ⟨.hbm, 62, rfl⟩
abbrev main_v36 : Ref sig .tc := ⟨.hbm, 63, rfl⟩
abbrev main_v37 : Ref sig .tc := ⟨.hbm, 64, rfl⟩
abbrev main_v38 : Ref sig .tc := ⟨.hbm, 65, rfl⟩
abbrev main_v39 : Ref sig .tc := ⟨.hbm, 66, rfl⟩
abbrev main_c : Ref sig .tc := ⟨.hbm, 67, rfl⟩
abbrev main_v40 : Ref sig .tc := ⟨.hbm, 68, rfl⟩
abbrev main_v41 : Ref sig .tc := ⟨.hbm, 69, rfl⟩
abbrev main_cst_5 : Ref sig .tc := ⟨.hbm, 70, rfl⟩
abbrev main_call1_v0 : Ref sig .tc := ⟨.hbm, 71, rfl⟩
abbrev main_call1_v1 : Ref sig .tc := ⟨.hbm, 72, rfl⟩
abbrev main_call1_v2 : Ref sig .tc := ⟨.hbm, 73, rfl⟩
abbrev main_v42 : Ref sig .tc := ⟨.hbm, 74, rfl⟩
abbrev main_v43 : Ref sig .tc := ⟨.hbm, 75, rfl⟩
abbrev main_v44 : Ref sig .tc := ⟨.hbm, 76, rfl⟩
abbrev main_cst_6 : Ref sig .tc := ⟨.hbm, 77, rfl⟩
abbrev main_v45 : Ref sig .tc := ⟨.hbm, 78, rfl⟩
abbrev main_cst_7 : Ref sig .tc := ⟨.hbm, 79, rfl⟩
abbrev main_v46 : Ref sig .tc := ⟨.hbm, 80, rfl⟩
abbrev main_c_8 : Ref sig .tc := ⟨.hbm, 81, rfl⟩
abbrev main_v47_0 : Ref sig .tc := ⟨.hbm, 82, rfl⟩
abbrev main_v47_1 : Ref sig .tc := ⟨.hbm, 83, rfl⟩
abbrev main_v47_2 : Ref sig .tc := ⟨.hbm, 84, rfl⟩
abbrev main_v47_3 : Ref sig .tc := ⟨.hbm, 85, rfl⟩
abbrev main_v47_4 : Ref sig .tc := ⟨.hbm, 86, rfl⟩
abbrev main_while0c_c_17 : Ref sig .tc := ⟨.hbm, 87, rfl⟩
abbrev main_while0c_v66 : Ref sig .tc := ⟨.hbm, 88, rfl⟩
abbrev main_while0b_call2_c : Ref sig .tc := ⟨.hbm, 89, rfl⟩
abbrev main_while0b_call2_v0 : Ref sig .tc := ⟨.hbm, 90, rfl⟩
abbrev main_while0b_v66 : Ref sig .tc := ⟨.hbm, 91, rfl⟩
abbrev main_while0b_call3_c : Ref sig .tc := ⟨.hbm, 92, rfl⟩
abbrev main_while0b_call3_v0 : Ref sig .tc := ⟨.hbm, 93, rfl⟩
abbrev main_while0b_v67 : Ref sig .tc := ⟨.hbm, 94, rfl⟩
abbrev main_while0b_v68 : Ref sig .tc := ⟨.hbm, 95, rfl⟩
abbrev main_while0b_v69 : Ref sig .tc := ⟨.hbm, 96, rfl⟩
abbrev main_while0b_call4_v0 : Ref sig .tc := ⟨.hbm, 97, rfl⟩
abbrev main_while0b_call4_c : Ref sig .tc := ⟨.hbm, 98, rfl⟩
abbrev main_while0b_v70 : Ref sig .tc := ⟨.hbm, 99, rfl⟩
abbrev main_while0b_c_17 : Ref sig .tc := ⟨.hbm, 100, rfl⟩
abbrev main_while0b_v71 : Ref sig .tc := ⟨.hbm, 101, rfl⟩
abbrev main_v48 : Ref sig .tc := ⟨.hbm, 102, rfl⟩
abbrev main_v49 : Ref sig .tc := ⟨.hbm, 103, rfl⟩
abbrev main_v50 : Ref sig .tc := ⟨.hbm, 104, rfl⟩
abbrev main_v51 : Ref sig .tc := ⟨.hbm, 105, rfl⟩
abbrev main_cst_9 : Ref sig .tc := ⟨.hbm, 106, rfl⟩
abbrev main_v52 : Ref sig .tc := ⟨.hbm, 107, rfl⟩
abbrev main_v53 : Ref sig .tc := ⟨.hbm, 108, rfl⟩
abbrev main_v54 : Ref sig .tc := ⟨.hbm, 109, rfl⟩
abbrev main_cst_10 : Ref sig .tc := ⟨.hbm, 110, rfl⟩
abbrev main_v55 : Ref sig .tc := ⟨.hbm, 111, rfl⟩
abbrev main_v56 : Ref sig .tc := ⟨.hbm, 112, rfl⟩
abbrev main_v57 : Ref sig .tc := ⟨.hbm, 113, rfl⟩
abbrev main_cst_11 : Ref sig .tc := ⟨.hbm, 114, rfl⟩
abbrev main_v58 : Ref sig .tc := ⟨.hbm, 115, rfl⟩
abbrev main_v59 : Ref sig .tc := ⟨.hbm, 116, rfl⟩
abbrev main_cst_12 : Ref sig .tc := ⟨.hbm, 117, rfl⟩
abbrev main_v60 : Ref sig .tc := ⟨.hbm, 118, rfl⟩
abbrev main_v61 : Ref sig .tc := ⟨.hbm, 119, rfl⟩
abbrev main_v62 : Ref sig .tc := ⟨.hbm, 120, rfl⟩
abbrev main_v63 : Ref sig .tc := ⟨.hbm, 121, rfl⟩
abbrev main_v64 : Ref sig .tc := ⟨.hbm, 122, rfl⟩
abbrev main_v65 : Ref sig .tc := ⟨.hbm, 123, rfl⟩

abbrev nD : Nat := 1
abbrev τ : Topo := Topo.v7x

variable {F : FTy → Type} [FloatOps F]

abbrev main_while0_count : Scf.Loop 32 := ⟨0#32, 4096#32, 1#32⟩
-- ==== MlpDwd.lean ====
abbrev S4096x1024 : Shape := ⟨2, ![4096, 1024]⟩
abbrev S1024x4096 : Shape := ⟨2, ![1024, 4096]⟩
abbrev S4096x4096 : Shape := ⟨2, ![4096, 4096]⟩
abbrev S_ : Shape := ⟨0, ![]⟩
abbrev S1024x1024 : Shape := ⟨2, ![1024, 1024]⟩

abbrev nBuf : Space → Nat
  | .hbm => 12
  | .vmem => 7
  | .smem => 0
  | _ => 0

abbrev bufTy : (tb : Table) → Fin (tcTables nBuf tb) → BufTy
  | .hbm, ⟨0, _⟩ => ⟨S4096x1024, .f32⟩
  | .hbm, ⟨1, _⟩ => ⟨S1024x4096, .f32⟩
  | .hbm, ⟨2, _⟩ => ⟨S4096x1024, .f32⟩
  | .hbm, ⟨3, _⟩ => ⟨S4096x1024, .bf16⟩
  | .hbm, ⟨4, _⟩ => ⟨S1024x4096, .bf16⟩
  | .hbm, ⟨5, _⟩ => ⟨S4096x4096, .f32⟩
  | .hbm, ⟨6, _⟩ => ⟨S_, .f32⟩
  | .hbm, ⟨7, _⟩ => ⟨S4096x4096, .f32⟩
  | .hbm, ⟨8, _⟩ => ⟨S4096x4096, .f32⟩
  | .hbm, ⟨9, _⟩ => ⟨S4096x4096, .bf16⟩
  | .hbm, ⟨10, _⟩ => ⟨S4096x1024, .bf16⟩
  | .hbm, ⟨11, _⟩ => ⟨S4096x1024, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 1, 4], ![false, false, false]⟩

def k0_cond3 (i : grid0.Coords) : BitVec 1 :=
  let arg2 : BitVec 32 := BitVec.ofNat 32 (i 2).val
  let c3_i32_3 : BitVec 32 := 3#32
  let v8 : BitVec 1 := Scalar.cmpi .eq arg2 c3_i32_3
  let v9 : BitVec 32 := Scalar.extui v8
  let c0_i32_4 : BitVec 32 := 0#32
  let v10 : BitVec 1 := Scalar.cmpi .ne v9 c0_i32_4
  v10

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== MlpDwdRefIdeal.lean ====
abbrev S4096x1024 : Shape := ⟨2, ![4096, 1024]⟩
abbrev S1024x4096 : Shape := ⟨2, ![1024, 4096]⟩
abbrev S_ : Shape := ⟨0, ![]⟩
abbrev S4096x4096 : Shape := ⟨2, ![4096, 4096]⟩

abbrev nBuf : Space → Nat
  | .hbm => 14
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024x4096, .f32⟩
  | .hbm, ⟨2, _⟩ => ⟨S4096x1024, .f32⟩
  | .hbm, ⟨3, _⟩ => ⟨S_, .f32⟩
  | .hbm, ⟨4, _⟩ => ⟨S4096x1024, .f32⟩
  | .hbm, ⟨5, _⟩ => ⟨S4096x4096, .f32⟩
  | .hbm, ⟨6, _⟩ => ⟨S_, .f32⟩
  | .hbm, ⟨7, _⟩ => ⟨S4096x4096, .f32⟩
  | .hbm, ⟨8, _⟩ => ⟨S4096x4096, .f32⟩
  | .hbm, ⟨9, _⟩ => ⟨S4096x4096, .f32⟩
  | .hbm, ⟨10, _⟩ => ⟨S4096x1024, .f32⟩
  | .hbm, ⟨11, _⟩ => ⟨S1024x4096, .f32⟩
  | .hbm, ⟨12, _⟩ => ⟨S4096x1024, .f32⟩
  | .hbm, ⟨13, _⟩ => ⟨S4096x1024, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_call0_cst : Ref sig .tc := ⟨.hbm, 6, rfl⟩
abbrev main_call0_v0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩

abbrev nD : Nat := 1
abbrev τ : Topo := Topo.v7x

variable {F : FTy → Type} [FloatOps F]
-- ==== Proof.Dact.Kernel.lean ====
/- The array the MLP activation gradient's kernel leaves: each of its blocks, and from the blocks the whole. -/
module

public import proofs.«01_k».proof.Proof.Gen.DactIdeal.Value
public import Idealize.ShloMosaic.Lib.Pipeline.ValueKit
public import Idealize.ShloMosaic.Lib.Pointwise

@[expose] public section

set_option maxRecDepth 16384

noncomputable section

namespace Cert.Dact.Proof

open Cert.DactIdeal Cert.DactIdeal.Gen Idealize.ShloMosaic Idealize.ShloMosaic.TcCoe Idealize.SL.Sem

abbrev Arr (s : Shape) (e : EltTy) : Type := (⟨s, e⟩ : BufTy).Contents (Elt Ideal)

/-- The hidden layer after its rectifier, `max(h · w_up, 0)`. -/
def hidden (h : Arr S4096x1024 .f32) (wu : Arr S1024x4096 .f32) : Arr S4096x4096 .f32 := fun i =>
  max (∑ k : Fin 1024, h (ix2 (i 0) k) * wu (ix2 k (i 1)) : EReal) 0

/-- The gradient with respect to the hidden layer before its activation: `(dy · w_downᵀ) · 2 max(h · w_up, 0)`. -/
def hiddenGrad (h : Arr S4096x1024 .f32) (wu : Arr S1024x4096 .f32) (wd dy : Arr S4096x1024 .f32) :
    Arr S4096x4096 .bf16 := fun i =>
  (∑ k : Fin 1024, dy (ix2 (i 0) k) * wd (ix2 (i 1) k))
    * (Ideal.ofBits .f32 0x40000000#32 * hidden h wu i)

variable (m : (ℓ : Loc nD τ sig) → Buf (Elt Ideal) ℓ)

theorem entry_dy (c : Dev nD) (i : S4096x1024.Idx) :
    V m c main_v3 i = m ((c : Thread nD τ).loc main_arg3) i := by
  have e : V m c main_v3
      = (truncf .bf16 (m ((c : Thread nD τ).loc main_arg3) : FVec Ideal S4096x1024 .f32) bitsLt_bf16_f32 :
        FVec Ideal S4096x1024 .bf16) := by
    unfold V hostOps0
    after_results
  rw [e]; rfl

theorem entry_wd (c : Dev nD) (i : S4096x1024.Idx) :
    V m c main_v2 i = m ((c : Thread nD τ).loc main_arg2) i := by
  have e : V m c main_v2
      = (truncf .bf16 (m ((c : Thread nD τ).loc main_arg2) : FVec Ideal S4096x1024 .f32) bitsLt_bf16_f32 :
        FVec Ideal S4096x1024 .bf16) := by
    unfold V hostOps0
    after_results
  rw [e]; rfl

/-- The saved rectified product, computed on the host by the forward lines. -/
theorem entry_r (c : Dev nD) (i : S4096x4096.Idx) :
    V m c main_v7 i = hidden (m ((c : Thread nD τ).loc main_arg0)) (m ((c : Thread nD τ).loc main_arg1)) i := by
  have e : V m c main_v7
      = (truncf .bf16 (maximumf (Host.dotGeneral dot_S4096x1024_S1024x4096_S4096x4096_1_0_0_1_n_n none
          (truncf .bf16 (m ((c : Thread nD τ).loc main_arg0) : FVec Ideal S4096x1024 .f32) bitsLt_bf16_f32)
          (truncf .bf16 (m ((c : Thread nD τ).loc main_arg1) : FVec Ideal S1024x4096 .f32) bitsLt_bf16_f32))
          (broadcastInDim S4096x4096 ![] bcast_S_S4096x4096 (constant S_ .f32 0x00000000#32))) bitsLt_bf16_f32 :
        FVec Ideal S4096x4096 .bf16) := by
    unfold V hostOps0
    after_results
  rw [e]
  pointwise [dot_S4096x1024_S1024x4096_S4096x4096_1_0_0_1_n_n]
  rfl

theorem places : ∀ t : Fin cfg0.N, win0_0.index t = ![0, 0] ∧ win0_1.index t = ![t.val, 0]
    ∧ win0_2.index t = ![0, t.val] ∧ win0_3.index t = ![0, t.val] :=
  (by decide +kernel : ∀ t : Fin grid0.N, _)

/-- What one grid point computes from its three blocks. -/
theorem payload_apply (x0 : FVec Ideal S4096x1024 .bf16) (x1 : FVec Ideal S512x1024 .bf16)
    (x2 : FVec Ideal S4096x512 .bf16) (i : Fin 4096) (j : Fin 512) :
    k0_pay1 x0 x1 x2 (ix2 i j)
      = (∑ k : Fin 1024, x0 (ix2 i k) * x1 (ix2 j k)) * (Ideal.ofBits .f32 0x40000000#32 * x2 (ix2 i j)) := by
  unfold_payloads
  pointwise [dot_S4096x1024_S512x1024_S4096x512_1_1_0_0_n_n]

/-- The kernel's output array. -/
theorem kernel_array (c : Dev nD) : (dats m 0 c).arrAt 3 cfg0.N
    = hiddenGrad (m ((c : Thread nD τ).loc main_arg0)) (m ((c : Thread nD τ).loc main_arg1))
        (m ((c : Thread nD τ).loc main_arg2)) (m ((c : Thread nD τ).loc main_arg3)) := by
  refine (dats m 0 c).arrAt_eq_of_covers 3 _ (by decide +kernel) fun t hf y => ?_
  blk_simp
  rw [after0_3]
  frame_out
  obtain ⟨e0, e1, e2, e3⟩ := places t
  obtain ⟨i, j, rfl⟩ : ∃ (i : Fin 4096) (j : Fin 512), y = ix2 i j := ⟨y 0, y 1, eq_ix2 (n0 := 4096) (n1 := 512) y⟩
  refine (payload_apply _ _ _ i j).trans ?_
  have ht : t.val < 8 := t.isLt
  have place : ((View.whole main_v8).slice (win0_3.rect t)).emb (ix2 i j)
      = (ix2 i ⟨t.val * 512 + j.val, by omega⟩ : S4096x4096.Idx) := by
    blk_ext [e3]
  have r0 : ∀ k : Fin 1024, iblk m c 0 t (ix2 i k) = m ((c : Thread nD τ).loc main_arg3) (ix2 i k) := fun k =>
    (congrArg (V m c main_v3) (show ((View.whole main_v3).slice (win0_0.rect t)).emb (ix2 i k)
      = (ix2 i k : S4096x1024.Idx) by blk_ext [e0])).trans (entry_dy m c _)
  have r1 : ∀ k : Fin 1024, iblk m c 1 t (ix2 j k)
      = m ((c : Thread nD τ).loc main_arg2) (ix2 ⟨t.val * 512 + j.val, by omega⟩ k) := fun k =>
    (congrArg (V m c main_v2) (show ((View.whole main_v2).slice (win0_1.rect t)).emb (ix2 j k)
      = (ix2 ⟨t.val * 512 + j.val, by omega⟩ k : S4096x1024.Idx) by blk_ext [e1])).trans (entry_wd m c _)
  have r2 : iblk m c 2 t (ix2 i j) = hidden (m ((c : Thread nD τ).loc main_arg0)) (m ((c : Thread nD τ).loc main_arg1))
      (ix2 i ⟨t.val * 512 + j.val, by omega⟩) :=
    (congrArg (V m c main_v7) (show ((View.whole main_v7).slice (win0_2.rect t)).emb (ix2 i j)
      = (ix2 i ⟨t.val * 512 + j.val, by omega⟩ : S4096x4096.Idx) by blk_ext [e2])).trans (entry_r m c _)
  rw [place]
  unfold hiddenGrad
  rw [r2]
  exact congrArg (· * _) (Finset.sum_congr rfl fun k _ => by rw [r0, r1]; rfl)

end Cert.Dact.Proof

end
-- ==== Proof.Dact.Reference.lean ====
/- The plain program of the MLP activation gradient, and its equality with the kernel's array. -/
module

public import proofs.«01_k».proof.Proof.Dact.Kernel
public import proofs.«01_k».proof.Proof.Gen.DactRefIdeal.Run
public import proofs.«01_k».proof.Proof.Gen.DactRefIdeal.Read

@[expose] public section

set_option maxRecDepth 16384

noncomputable section

namespace Cert.Dact.Proof

open Cert.DactRefIdeal Cert.DactRefIdeal.Gen Cert.DactRefIdeal.Read Idealize.ShloMosaic Idealize.ShloMosaic.TcCoe Idealize.SL.Sem

/-- Where the rectifier is closed its saved value is zero, so the masked gradient is the product itself. -/
theorem masked (u g two : EReal) : (if 0 < u then g * (two * max u 0) else 0) = g * (two * max u 0) := by
  split
  · rfl
  next h => rw [max_eq_right (not_lt.mp h), mul_zero, mul_zero]

/-- The plain program's array is the same function. -/
theorem reference_array (h : Arr S4096x1024 .f32) (wu : Arr S1024x4096 .f32) (wd dy : Arr S4096x1024 .f32) :
    val_main_v13 (F := Ideal) h wu wd dy = hiddenGrad h wu wd dy := by
  funext i
  obtain ⟨r, c, rfl⟩ : ∃ (r : Fin 4096) (c : Fin 4096), i = ix2 r c := ⟨i 0, i 1, eq_ix2 (n0 := 4096) (n1 := 4096) i⟩
  unfold val_main_v13 val_main_v12 val_main_v11 val_main_v10 val_main_v9 val_main_v7 val_main_v6 val_main_v3 val_main_v2 val_main_v1 val_main_v0
  unfold val_main_cst_1 val_main_cst_2 val_main_cst val_main_call0_v0 val_main_call0_cst
  pointwise [dot_S4096x1024_S1024x4096_S4096x4096_1_0_0_1_n_n, dot_S4096x1024_S4096x1024_S4096x4096_1_1_0_0_n_n]
  exact masked _ _ _

end Cert.Dact.Proof

end
-- ==== Proof.Dact.Claims.lean ====
/- The claims about the MLP activation gradient that the certificate assembles. -/
module

public import proofs.«01_k».proof.Defs
public import proofs.«01_k».proof.Proof.Dact.Reference
public import proofs.«01_k».proof.Proof.Gen.Dact.Frame

@[expose] public section

set_option maxRecDepth 16384

noncomputable section

namespace Cert.Dact.Proof

open Idealize.ShloMosaic Idealize.ShloMosaic.TcCoe Idealize.SL.Sem

theorem reference_frame : Cert.quiescent_DactRefIdeal (hDactRefIdeal := Cert.DactRefIdeal.Gen.facts) := fun m g _ =>
  (θ_run Cert.DactRefIdeal.defs _ _).mono (fun r h => ⟨fun c => (h c).2, sem_eq_zero_of_no_sems (by decide) r.2⟩)
    (Cert.DactRefIdeal.Value.run m g)

theorem algebraic : Cert.algebraic_DactIdeal_DactRefIdeal (hDactIdeal := Cert.DactIdeal.Gen.facts)
    (hDactRefIdeal := Cert.DactRefIdeal.Gen.facts) := by
  intro m g m' g' _ hargs
  refine ⟨fun c => hiddenGrad (m ((c.tc : Thread Cert.DactIdeal.nD Cert.DactIdeal.τ).loc Cert.DactIdeal.main_arg0))
    (m ((c.tc : Thread Cert.DactIdeal.nD Cert.DactIdeal.τ).loc Cert.DactIdeal.main_arg1))
    (m ((c.tc : Thread Cert.DactIdeal.nD Cert.DactIdeal.τ).loc Cert.DactIdeal.main_arg2))
    (m ((c.tc : Thread Cert.DactIdeal.nD Cert.DactIdeal.τ).loc Cert.DactIdeal.main_arg3)), ?_, ?_⟩
  · exact (θ_run Cert.DactIdeal.defs _ _).mono (fun r h c => ⟨(h c).1.trans (kernel_array m c), (h c).2⟩)
      (Cert.DactIdeal.Value.run_blocks m g)
  · refine (θ_run Cert.DactRefIdeal.defs _ _).mono (fun r h c => ⟨(h c).1.trans ?_, (h c).2⟩) (Cert.DactRefIdeal.Value.run m' g')
    obtain ⟨a0, a1, a2, a3⟩ := hargs c
    refine (Cert.DactRefIdeal.Read.val_main_v13_eq _ _ _ _).trans ?_
    rw [a0, a1, a2, a3]
    exact reference_array _ _ _ _

end Cert.Dact.Proof

end
-- ==== Proof.RmsGrad.lean ====
/- The gradient of a root-mean-square normalisation at one row: the kernels' form of it is the derivative's form, for every extended real. -/
module

public import Idealize.ShloMosaic.PureOps.Ideal.Laws
public import Idealize.ShloMosaic.Lib.Pointwise

@[expose] public section

noncomputable section

namespace Cert.RmsGrad

open Idealize.ShloMosaic

/-- A factor that is a positive real may be taken out of a sum of extended reals. -/
theorem sum_mul_coe {n : ℕ} (f : Fin n → EReal) {ρ : ℝ} (h : 0 ≤ ρ) :
    (∑ k, f k) * (ρ : EReal) = ∑ k, f k * (ρ : EReal) := by
  have h0 : (0 : EReal) ≤ (ρ : EReal) := EReal.coe_nonneg.mpr h
  induction n with
  | zero => simp
  | succ n ih =>
    rw [Fin.sum_univ_succ, Fin.sum_univ_succ, ← ih, EReal.right_distrib_of_nonneg_of_ne_top h0 (EReal.coe_ne_top ρ)]

/-- A sum of extended reals none of which is negative and one of which is `⊤`. -/
theorem sum_eq_top {n : ℕ} (f : Fin n → EReal) (h : ∀ k, 0 ≤ f k) (k : Fin n) (hk : f k = ⊤) : ∑ k, f k = ⊤ := by
  refine top_le_iff.mp (hk ▸ ?_)
  exact Finset.single_le_sum (fun i _ => h i) (Finset.mem_univ k)

theorem mul_self_nonneg' (a : EReal) : 0 ≤ a * a := by
  induction a with
  | coe a => norm_cast; exact mul_self_nonneg a
  | top => rw [EReal.top_mul_top]; exact le_top
  | bot => rw [EReal.bot_mul_bot]; exact le_top

theorem add_self_mul (a : EReal) (x : ℝ) : a * (x : EReal) + a * (x : EReal) = a * ((x + x : ℝ) : EReal) := by
  induction a with
  | coe a => norm_cast; ring
  | top =>
    rcases lt_trichotomy x 0 with h | h | h
    · rw [EReal.top_mul_coe_of_neg h, EReal.top_mul_coe_of_neg (by linarith)]; rfl
    · subst h; simp
    · rw [EReal.top_mul_coe_of_pos h, EReal.top_mul_coe_of_pos (by linarith)]; rfl
  | bot =>
    rcases lt_trichotomy x 0 with h | h | h
    · rw [EReal.bot_mul_coe_of_neg h, EReal.bot_mul_coe_of_neg (by linarith)]; rfl
    · subst h; simp
    · rw [EReal.bot_mul_coe_of_pos h, EReal.bot_mul_coe_of_pos (by linarith)]; rfl

variable {n : ℕ}

/-- The mean of the squares, with the small constant that keeps it from zero. -/
def meanSq (N eps : EReal) (o : Fin n → EReal) : EReal := Ideal.div (∑ k, o k * o k) N + eps

/-- The reciprocal root. -/
def rinv (N eps : EReal) (o : Fin n → EReal) : EReal := Ideal.rsqrt (meanSq N eps o)

/-- The row's gradient as the kernels write it. -/
def grad (N eps : EReal) (o ct : Fin n → EReal) (e : Fin n) : EReal :=
  rinv N eps o * (ct e - (o e * rinv N eps o) * Ideal.div (∑ k, ct k * (o k * rinv N eps o)) N)

/-- What the derivative adds twice: the cotangent's sum against the row, through the reciprocal root. -/
def inner (N eps half : EReal) (o ct : Fin n → EReal) : EReal :=
  Ideal.div ((∑ k, o k * ct k) * (half * Ideal.div (rinv N eps o) (meanSq N eps o))) N

/-- A row of reals has a real reciprocal root, which is positive and squares to the reciprocal of the mean. -/
theorem rinv_pos (N eps : ℝ) (hN : 0 < N) (he : 0 < eps) (o : Fin n → EReal) (h : ∀ k, ∃ x : ℝ, o k = (x : EReal)) :
    ∃ w ρ : ℝ, 0 < w ∧ 0 < ρ ∧ ρ * ρ = 1 / w ∧ meanSq (N : EReal) (eps : EReal) o = (w : EReal)
      ∧ rinv (N : EReal) (eps : EReal) o = (ρ : EReal) := by
  choose x hx using h
  obtain rfl : o = fun k => (x k : EReal) := funext hx
  have hs : ∑ k, ((x k : EReal) * (x k : EReal)) = ((∑ k, x k * x k : ℝ) : EReal) := by
    induction (Finset.univ : Finset (Fin n)) using Finset.induction_on with
    | empty => simp
    | insert a t ha ih => rw [Finset.sum_insert ha, Finset.sum_insert ha, ih]; push_cast; rfl
  have hsum : (0 : ℝ) ≤ ∑ k, x k * x k := Finset.sum_nonneg fun k _ => mul_self_nonneg (x k)
  have hwpos : 0 < (∑ k, x k * x k) * (1 / N) + eps := by positivity
  refine ⟨(∑ k, x k * x k) * (1 / N) + eps, (Real.sqrt ((∑ k, x k * x k) * (1 / N) + eps))⁻¹, hwpos, inv_pos.mpr (Real.sqrt_pos.mpr hwpos), ?_, ?_⟩
  · rw [← mul_inv, Real.mul_self_sqrt hwpos.le]; simp only [one_div]
  · have hv : meanSq (N : EReal) (eps : EReal) (fun k => (x k : EReal)) = (((∑ k, x k * x k) * (1 / N) + eps : ℝ) : EReal) := by
      unfold meanSq
      rw [hs, Ideal.div_coe hN.ne']; push_cast; rfl
    refine ⟨hv, ?_⟩
    unfold rinv
    rw [hv, Ideal.rsqrt_coe, if_neg (not_lt.mpr hwpos.le), if_neg hwpos.ne']

theorem rinv_real (N eps : ℝ) (hN : 0 < N) (he : 0 < eps) (o : Fin n → EReal) (h : ∀ k, ∃ x : ℝ, o k = (x : EReal)) :
    ∃ ρ : ℝ, rinv (N : EReal) (eps : EReal) o = (ρ : EReal) := by
  obtain ⟨_, ρ, _, _, _, _, h⟩ := rinv_pos N eps hN he o h
  exact ⟨ρ, h⟩

/-- A row with an infinite entry has mean square `⊤`. -/
theorem meanSq_top (N eps : ℝ) (hN : 0 < N) (o : Fin n → EReal) (h : ¬ ∀ k, ∃ x : ℝ, o k = (x : EReal)) :
    meanSq (N : EReal) (eps : EReal) o = ⊤ := by
  obtain ⟨k, hk⟩ := not_forall.mp h
  have hk' : o k * o k = ⊤ := by
    rcases h : o k with _ | r
    · exact EReal.bot_mul_bot
    · rcases r with _ | r
      · exact EReal.top_mul_top
      · exact absurd ⟨r, h⟩ hk
  unfold meanSq
  rw [sum_eq_top _ (fun k => mul_self_nonneg' (o k)) k hk', Ideal.div_coe hN.ne', EReal.top_mul_coe_of_pos (by positivity)]
  exact EReal.top_add_coe eps

theorem rinv_zero (N eps : ℝ) (hN : 0 < N) (o : Fin n → EReal) (h : ¬ ∀ k, ∃ x : ℝ, o k = (x : EReal)) :
    rinv (N : EReal) (eps : EReal) o = 0 := by
  unfold rinv; rw [meanSq_top N eps hN o h]; exact Ideal.rsqrt_top

theorem grad_eq (N eps : ℝ) (hN : 0 < N) (he : 0 < eps) (o ct : Fin n → EReal) (e : Fin n) :
    grad (N : EReal) (eps : EReal) o ct e
      = ct e * rinv N eps o + o e * inner N eps ((-1 / 2 : ℝ) : EReal) o ct
        + inner N eps ((-1 / 2 : ℝ) : EReal) o ct * o e := by
  have hN0 : N ≠ 0 := hN.ne'
  by_cases hfin : ∀ k, ∃ x : ℝ, o k = (x : EReal)
  · obtain ⟨w, ρ, hwpos, hρpos, hρ2, hv, hr⟩ := rinv_pos N eps hN he o hfin
    choose x hx using hfin
    obtain rfl : o = fun k => (x k : EReal) := funext hx
    unfold grad inner
    rw [hr, hv]
    have hA : ∑ k, ct k * ((x k : EReal) * (ρ : EReal)) = (∑ k, (x k : EReal) * ct k) * (ρ : EReal) := by
      rw [sum_mul_coe _ hρpos.le]
      exact Finset.sum_congr rfl fun k _ => by ac_rfl
    rw [hA]
    generalize ∑ k, (x k : EReal) * ct k = A
    have hρ0 : (0 : EReal) ≤ (ρ : EReal) := EReal.coe_nonneg.mpr hρpos.le
    rw [sub_eq_add_neg, EReal.left_distrib_of_nonneg_of_ne_top hρ0 (EReal.coe_ne_top ρ)]
    rw [Ideal.div_coe hN0, Ideal.div_coe hN0, Ideal.div_coe hwpos.ne', add_assoc]
    congr 1
    · exact mul_comm _ _
    · set γ : ℝ := x e * (-1 / 2 * (ρ * (1 / w)) * (1 / N)) with hγ
      have e1 : (x e : EReal) * (A * (((-1 / 2 : ℝ) : EReal) * ((ρ : EReal) * ((1 / w : ℝ) : EReal))) * ((1 / N : ℝ) : EReal)) = A * (γ : EReal) := by
        rw [hγ]; push_cast; ac_rfl
      rw [mul_comm (_ * _) (x e : EReal), e1, add_self_mul, ← EReal.neg_mul]
      have e2 : -((x e : EReal) * (ρ : EReal)) = ((-(x e * ρ) : ℝ) : EReal) := by push_cast; rfl
      change (ρ : EReal) * (-((x e : EReal) * (ρ : EReal)) * (A * (ρ : EReal) * ((1 / N : ℝ) : EReal))) = _
      rw [e2]
      have e3 : (ρ : EReal) * (((-(x e * ρ) : ℝ) : EReal) * (A * (ρ : EReal) * ((1 / N : ℝ) : EReal)))
          = A * ((ρ * (-(x e * ρ)) * ρ * (1 / N) : ℝ) : EReal) := by push_cast; ac_rfl
      rw [e3]
      refine congrArg (fun z : ℝ => A * (z : EReal)) ?_
      rw [hγ, show ρ * -(x e * ρ) * ρ * (1 / N) = -(x e * ρ * (ρ * ρ) * (1 / N)) by ring, hρ2]
      ring
  · have hv := meanSq_top N eps hN o hfin
    have hr := rinv_zero N eps hN o hfin
    have hi : inner (N : EReal) (eps : EReal) ((-1 / 2 : ℝ) : EReal) o ct = 0 := by
      unfold inner
      rw [hr, hv, Ideal.div_coe hN0]
      have : Ideal.div (0 : EReal) ⊤ = 0 := by simp [Ideal.div]
      rw [this]; simp
    unfold grad
    rw [hr, hi]; simp

end Cert.RmsGrad

end
-- ==== Proof.Ret.Spec.lean ====
/- The gradient of one retention chunk and head, entry by entry: rows `i j`, features `d e`, every factor a table of 128 by 128. -/
module

public import proofs.«01_k».proof.Proof.RmsGrad

@[expose] public section

noncomputable section

namespace Cert.Ret

open Idealize.ShloMosaic

abbrev Tile : Type := Fin 128 → Fin 128 → EReal

/-- The head width, as the programs write it. -/
abbrev N : EReal := Ideal.ofBits .f32 0x43000000#32
/-- The offset under the root. -/
abbrev eps : EReal := Ideal.ofBits .f32 0x358637BD#32
/-- The scale of the keys. -/
abbrev scale : EReal := Ideal.ofBits .f32 0x3DB504F3#32

/-- The gate's value times the cotangent: what reaches the normalised row. -/
def gated (g dy : Tile) : Tile := fun i e => dy i e * (g i e * Ideal.logistic (g i e))

/-- The gradient of the attended row, through its normalisation. -/
def dO (g o dy : Tile) : Tile := fun i => RmsGrad.grad N eps (o i) (gated g dy i)

/-- The gradient of the gate, as one product. -/
def dG (g o dy : Tile) : Tile := fun i e =>
  dy i e * (o i e * RmsGrad.rinv N eps (o i)) * (Ideal.logistic (g i e) * (1 + g i e * (1 - Ideal.logistic (g i e))))

/-- The gradient of the scores under the decay mask. -/
def dP (dm v w : Tile) : Tile := fun i j => (∑ e, w i e * v j e) * dm i j

/-- The gradient of the rotated queries: `w` the attended rows' gradient, `S` the state before the chunk. -/
def dQ (dm qd k v S w : Tile) : Tile := fun i d =>
  (∑ j, dP dm v w i j * k j d) + (∑ e, w i e * S d e) * qd i d

/-- The gradient of the rotated keys: `D` the state's gradient after the chunk. -/
def dK (dm kd q v D w : Tile) : Tile := fun j d =>
  ((∑ i, dP dm v w i j * q i d) + (∑ e, v j e * D d e) * kd j d) * scale

/-- The gradient of the values. -/
def dV (dm kd q k D w : Tile) : Tile := fun j e =>
  (∑ i, (∑ d, q i d * k j d) * dm i j * w i e) + ∑ d, k j d * kd j d * D d e

/-- The state's gradient before the chunk. -/
def step (qd cg q D w : Tile) : Tile := fun d e =>
  cg d e * D d e + ∑ i, q i d * qd i d * w i e

/-- The half of a row a feature is paired with by the rotation. -/
def other (d : Fin 128) : Fin 128 := ⟨(d.val + 64) % 128, Nat.mod_lt _ (by decide)⟩

/-- A row rotated by its position: `s` carries the sign of the half. -/
def rot (c s y : Tile) : Tile := fun i d => y i d * c i d + y i (other d) * s i d

/-- The rotation's transpose. -/
def unrot (c s y : Tile) : Tile := fun i d => y i d * c i d + y i (other d) * s i (other d)

end Cert.Ret

end
-- ==== Proof.Ret.Chunk.lean ====
/- What the kernel's block computes for one chunk, from vectors of the four heads, entry by entry. -/
module

public import proofs.«01_k».proof.Proof.Ret.Spec
public import proofs.«01_k».proof.Proof.Gen.RetIdeal.Value
public import Idealize.ShloMosaic.Lib.Pipeline.ValueKit
public import Idealize.ShloMosaic.Lib.Pipeline.ReadBack
public import Idealize.ShloMosaic.Lib.Pointwise

@[expose] public section

set_option maxRecDepth 16384

noncomputable section

namespace Cert.Ret.Proof

open Cert.RetIdeal Cert.RetIdeal.Gen Idealize.ShloMosaic Idealize.ShloMosaic.TcCoe Idealize.SL.Sem

abbrev V2 : Type := FVec Ideal S128x128 .f32
abbrev V3 : Type := FVec Ideal S4x128x128 .f32

/-- Head `h` of a stack of four tables. -/
def head (x : V3) (h : Fin 4) : Tile := fun i j => x (ix3 h i j)
/-- A table of one head. -/
def tile (x : V2) : Tile := fun i j => x (ix2 i j)

theorem stack_apply (a b c d : V2) (h : Fin 4) :
    head (k0_pay16 a b c d) h = tile (![a, b, c, d] h) := by
  funext i j
  unfold head tile
  unfold_payloads
  fin_cases h <;> pointwise <;> rfl

theorem rotated_apply (c s a0 a1 a2 a3 : V2) (h : Fin 4) :
    head (k0_pay12 c s a0 a1 a2 a3) h = rot (tile c) (tile s) (tile (![a0, a1, a2, a3] h)) := by
  funext i j
  unfold head tile rot
  unfold_payloads
  fin_cases h <;> pointwise <;> rfl

theorem keys_apply (c s a0 a1 a2 a3 : V2) (h : Fin 4) (i j : Fin 128) :
    head (k0_pay15 c s a1 a2 a3 (k0_pay13 c a0) (k0_pay14 s a0)) h i j
      = rot (tile c) (tile s) (tile (![a0, a1, a2, a3] h)) i j * scale := by
  unfold head tile rot
  unfold_payloads
  fin_cases h <;> pointwise <;> rfl

/-- The gradient of the attended rows from the stacks of rows, cotangents and gates. -/
def doV (g : V3) (o0 o1 o2 o3 y0 y1 y2 y3 : V2) : V3 :=
  k0_pay30 (k0_pay25 (k0_pay19 o0) (k0_pay20 o1) (k0_pay21 o2) (k0_pay22 o3))
    (k0_pay26 (k0_pay19 o0) (k0_pay20 o1) (k0_pay21 o2) (k0_pay22 o3)) (k0_pay27 g y0 y1 y2 y3)
    (k0_pay29 g (k0_pay19 o0) (k0_pay20 o1) (k0_pay21 o2) (k0_pay22 o3) y0 y1 y2 y3)

theorem row_apply (o0 o1 o2 o3 : V2) (h : Fin 4) :
    head (k0_pay23 (k0_pay19 o0) (k0_pay20 o1) (k0_pay21 o2) (k0_pay22 o3)) h = tile (![o0, o1, o2, o3] h) := by
  funext i j
  unfold head tile
  unfold_payloads
  fin_cases h <;> pointwise <;> rfl

theorem rinv_apply (p q r s : FVec Ideal S1x128x128 .f32) (h : Fin 4) (i : Fin 128) :
    k0_pay25 p q r s (ix3 h i 0) = RmsGrad.rinv N eps (head (k0_pay23 p q r s) h i) := by
  unfold RmsGrad.rinv RmsGrad.meanSq head
  unfold k0_pay25
  pointwise

theorem norm_apply (p q r s : FVec Ideal S1x128x128 .f32) (h : Fin 4) (i e : Fin 128) :
    k0_pay26 p q r s (ix3 h i e) = head (k0_pay23 p q r s) h i e * RmsGrad.rinv N eps (head (k0_pay23 p q r s) h i) := by
  rw [← rinv_apply]
  unfold head
  unfold k0_pay26
  pointwise

theorem gated_apply (g : V3) (y0 y1 y2 y3 : V2) (h : Fin 4) (i e : Fin 128) :
    k0_pay27 g y0 y1 y2 y3 (ix3 h i e) = gated (head g h) (head (k0_pay24 y0 y1 y2 y3) h) i e := by
  unfold gated head
  unfold k0_pay27
  pointwise

theorem doV_apply (g : V3) (o0 o1 o2 o3 y0 y1 y2 y3 : V2) (h : Fin 4) :
    head (doV g o0 o1 o2 o3 y0 y1 y2 y3) h = dO (head g h) (tile (![o0, o1, o2, o3] h)) (tile (![y0, y1, y2, y3] h)) := by
  rw [← row_apply, ← stack_apply]
  funext i e
  unfold dO RmsGrad.grad
  have e1 : head (k0_pay16 y0 y1 y2 y3) h = head (k0_pay24 y0 y1 y2 y3) h := rfl
  rw [e1]
  simp only [← gated_apply, ← norm_apply, ← rinv_apply]
  unfold head doV k0_pay30 k0_pay29
  pointwise
  rfl

theorem dgV_apply (g : V3) (o0 o1 o2 o3 y0 y1 y2 y3 : V2) (h : Fin 4) :
    head (k0_pay28 g (k0_pay19 o0) (k0_pay20 o1) (k0_pay21 o2) (k0_pay22 o3) y0 y1 y2 y3) h
      = dG (head g h) (tile (![o0, o1, o2, o3] h)) (tile (![y0, y1, y2, y3] h)) := by
  rw [← row_apply, ← stack_apply]
  funext i e
  unfold dG
  have e1 : head (k0_pay16 y0 y1 y2 y3) h = head (k0_pay24 y0 y1 y2 y3) h := rfl
  rw [e1]
  simp only [← norm_apply]
  unfold head k0_pay28
  pointwise

section
variable (dm qd kd cg q k v S D : V3) (r : FVec Ideal S4x128x1 .f32) (n w : V3) (s : FVec Ideal S4x128 .f32) (h : Fin 4)

theorem dP_apply (i j : Fin 128) :
    k0_pay31 dm v r n w s (ix3 h i j) = dP (head dm h) (head v h) (head (k0_pay30 r n w s) h) i j := by
  unfold dP head k0_pay31
  pointwise [dot_S4x128x128_S4x128x128_S4x128x128_2_2_1_1_0_0]

theorem dQ_apply :
    head (k0_pay32 dm qd k v S r n w s) h
      = dQ (head dm h) (head qd h) (head k h) (head v h) (head S h) (head (k0_pay30 r n w s) h) := by
  funext i j
  unfold dQ
  simp only [← dP_apply]
  unfold head k0_pay32
  pointwise [dot_S4x128x128_S4x128x128_S4x128x128_2_2_1_1_0_0, dot_S4x128x128_S4x128x128_S4x128x128_2_1_1_2_0_0]

theorem dK_apply :
    head (k0_pay33 dm kd D q v r n w s) h
      = dK (head dm h) (head kd h) (head q h) (head v h) (head D h) (head (k0_pay30 r n w s) h) := by
  funext i j
  unfold dK
  simp only [← dP_apply]
  unfold head k0_pay33
  pointwise [dot_S4x128x128_S4x128x128_S4x128x128_2_2_1_1_0_0, dot_S4x128x128_S4x128x128_S4x128x128_1_1_2_2_0_0]

theorem dV_apply :
    head (k0_pay34 dm kd D q k r n w s) h
      = dV (head dm h) (head kd h) (head q h) (head k h) (head D h) (head (k0_pay30 r n w s) h) := by
  funext i j
  unfold dV head k0_pay34
  pointwise [dot_S4x128x128_S4x128x128_S4x128x128_2_2_1_1_0_0, dot_S4x128x128_S4x128x128_S4x128x128_1_1_2_2_0_0, dot_S4x128x128_S4x128x128_S4x128x128_2_1_1_2_0_0]

theorem step_apply :
    head (k0_pay35 qd cg D q r n w s) h
      = step (head qd h) (head cg h) (head q h) (head D h) (head (k0_pay30 r n w s) h) := by
  funext i j
  unfold step head k0_pay35
  pointwise [dot_S4x128x128_S4x128x128_S4x128x128_1_1_2_2_0_0]

end

/-- A head's table turned back by its positions, as the block stores it. -/
def unrotV (h : Fin 4) (c s : V2) (x : V3) : FVec Ideal S128x128 .bf16 :=
  match h with
  | 0 => k0_pay38 c s x
  | 1 => k0_pay42 c s x
  | 2 => k0_pay46 c s x
  | 3 => k0_pay51 c s x

/-- A head's table, as the block stores it. -/
def plainV (h : Fin 4) (x : V3) : FVec Ideal S128x128 .bf16 :=
  match h with
  | 0 => k0_pay39 x
  | 1 => k0_pay43 x
  | 2 => k0_pay47 x
  | 3 => k0_pay52 x

theorem unrotV_apply (h : Fin 4) (c s : V2) (x : V3) (i d : Fin 128) :
    unrotV h c s x (ix2 i d) = unrot (tile c) (tile s) (head x h) i d := by
  unfold unrotV head tile unrot
  fin_cases h <;> dsimp only <;> unfold_payloads <;> pointwise <;> rfl

theorem plainV_apply (h : Fin 4) (x : V3) (i d : Fin 128) :
    plainV h x (ix2 i d) = head x h i d := by
  unfold plainV head
  fin_cases h <;> dsimp only <;> unfold_payloads <;> pointwise <;> rfl

end Cert.Ret.Proof

end
-- ==== Proof.Ret.Block.lean ====
/- What one grid point of the retention gradient leaves: the block's four chunks, last first, each with four heads. -/
module

public import proofs.«01_k».proof.Proof.Ret.Chunk
public import Idealize.ShloMosaic.Lib.WholeRead

@[expose] public section

set_option maxRecDepth 65536
set_option maxHeartbeats 2000000

noncomputable section

namespace Cert.Ret.Proof

open Cert.RetIdeal Cert.RetIdeal.Gen Idealize.ShloMosaic Idealize.ShloMosaic.TcCoe Idealize.SL.Sem

abbrev Wide : Type := FVec Ideal S512x512 .f32

/-- What a grid point reads: the projections, the rotation, the decays, the attended rows, the states, the cotangent. -/
structure In where
  q : Wide
  k : Wide
  v : Wide
  g : Wide
  c : FVec Ideal S512x128 .f32
  s : FVec Ideal S512x128 .f32
  tab : FVec Ideal S4x4x128x128 .f32
  o : Wide
  st : FVec Ideal S4x4x128x128 .f32
  dy : Wide

/-- The rows of chunk `c` and the features of head `h`. -/
def ld (x : Wide) (c h : Fin 4) : V2 := fun j =>
  x (((Rect.unit (s := S512x512) ![128 * c.val, 0] S128x512.size (by decide +revert)).withinL
    (Rect.unit (s := S128x512) ![0, 128 * h.val] S128x128.size (by decide +revert)).toLoadRect (fun _ => rfl)).idx j)

/-- The rows of chunk `c` of a table of positions. -/
def rows (x : FVec Ideal S512x128 .f32) (c : Fin 4) : V2 :=
  k0_pay10 (View.ld x (Rect.unit (s := S512x128) ![128 * c.val, 0] S128x128.size (by decide +revert)))

/-- Decay table `w` of the four heads. -/
def decay (x : FVec Ideal S4x4x128x128 .f32) (w : Fin 4) : V3 :=
  k0_pay6 (View.ld x (Rect.unit (s := S4x4x128x128) ![0, w.val, 0, 0] S4x1x128x128.size (by decide +revert)))

/-- The states before chunk `c`. -/
def state (x : FVec Ideal S4x4x128x128 .f32) (c : Fin 4) : V3 :=
  k0_pay18 (View.ld x (Rect.unit (s := S4x4x128x128) ![c.val, 0, 0, 0] S1x4x128x128.size (by decide +revert)))

namespace In
variable (X : In) (D : V3) (c : Fin 4)

def qV : V3 := k0_pay12 (rows X.c c) (rows X.s c) (ld X.q c 0) (ld X.q c 1) (ld X.q c 2) (ld X.q c 3)
def kV : V3 := k0_pay15 (rows X.c c) (rows X.s c) (ld X.k c 1) (ld X.k c 2) (ld X.k c 3)
  (k0_pay13 (rows X.c c) (ld X.k c 0)) (k0_pay14 (rows X.s c) (ld X.k c 0))
def vV : V3 := k0_pay16 (ld X.v c 0) (ld X.v c 1) (ld X.v c 2) (ld X.v c 3)
def gV : V3 := k0_pay16 (ld X.g c 0) (ld X.g c 1) (ld X.g c 2) (ld X.g c 3)
def rV : FVec Ideal S4x128x1 .f32 :=
  k0_pay25 (k0_pay19 (ld X.o c 0)) (k0_pay20 (ld X.o c 1)) (k0_pay21 (ld X.o c 2)) (k0_pay22 (ld X.o c 3))
def nV : V3 :=
  k0_pay26 (k0_pay19 (ld X.o c 0)) (k0_pay20 (ld X.o c 1)) (k0_pay21 (ld X.o c 2)) (k0_pay22 (ld X.o c 3))
def wV : V3 := k0_pay27 (X.gV c) (ld X.dy c 0) (ld X.dy c 1) (ld X.dy c 2) (ld X.dy c 3)
def sV : FVec Ideal S4x128 .f32 :=
  k0_pay29 (X.gV c) (k0_pay19 (ld X.o c 0)) (k0_pay20 (ld X.o c 1)) (k0_pay21 (ld X.o c 2)) (k0_pay22 (ld X.o c 3))
    (ld X.dy c 0) (ld X.dy c 1) (ld X.dy c 2) (ld X.dy c 3)
def dg : V3 :=
  k0_pay28 (X.gV c) (k0_pay19 (ld X.o c 0)) (k0_pay20 (ld X.o c 1)) (k0_pay21 (ld X.o c 2)) (k0_pay22 (ld X.o c 3))
    (ld X.dy c 0) (ld X.dy c 1) (ld X.dy c 2) (ld X.dy c 3)
def dq : V3 := k0_pay32 (decay X.tab 0) (decay X.tab 1) (X.kV c) (X.vV c) (state X.st c) (X.rV c) (X.nV c) (X.wV c) (X.sV c)
def dk : V3 := k0_pay33 (decay X.tab 0) (decay X.tab 2) D (X.qV c) (X.vV c) (X.rV c) (X.nV c) (X.wV c) (X.sV c)
def dv : V3 := k0_pay34 (decay X.tab 0) (decay X.tab 2) D (X.qV c) (X.kV c) (X.rV c) (X.nV c) (X.wV c) (X.sV c)
/-- The state's gradient before chunk `c`, from that after it. -/
def next : V3 := k0_pay35 (decay X.tab 1) (decay X.tab 3) D (X.qV c) (X.rV c) (X.nV c) (X.wV c) (X.sV c)

/-- The state's gradient after chunk `c`, from that after the block. -/
def carried : V3 :=
  match c with
  | 3 => D
  | 2 => X.next D 3
  | 1 => X.next (X.next D 3) 2
  | 0 => X.next (X.next (X.next D 3) 2) 1

/-- What is stored for chunk `c`, head `h` and part `w`: queries, keys, values, gate. -/
def piece (w h : Fin 4) : FVec Ideal S128x128 .bf16 :=
  match w with
  | 0 => unrotV h (rows X.c c) (rows X.s c) (X.dq c)
  | 1 => unrotV h (rows X.c c) (rows X.s c) (X.dk (X.carried D c) c)
  | 2 => plainV h (X.dv (X.carried D c) c)
  | 3 => plainV h (X.dg c)

/-- The block. -/
def out (y : S512x2048.Idx) : EReal :=
  X.piece D ⟨(y 0).val / 128, Nat.div_lt_of_lt_mul (y 0).isLt⟩ ⟨(y 1).val / 512, Nat.div_lt_of_lt_mul (y 1).isLt⟩
    ⟨(y 1).val % 512 / 128, Nat.div_lt_of_lt_mul (Nat.mod_lt _ (by decide))⟩
    (ix2 ⟨(y 0).val % 128, Nat.mod_lt _ (by decide)⟩ ⟨(y 1).val % 128, Nat.mod_lt _ (by decide)⟩)

theorem out_at (y : S512x2048.Idx) (w h : Fin 4) (x : S128x128.Idx) (h0 : (y 0).val = 128 * c.val + (x 0).val)
    (h1 : (y 1).val = 512 * w.val + 128 * h.val + (x 1).val) : X.piece D c w h x = X.out D y := by
  have x0 : (x 0).val < 128 := (x 0).isLt
  have x1 : (x 1).val < 128 := (x 1).isLt
  have hh := h.isLt
  unfold out
  have e1 : (⟨(y 0).val / 128, Nat.div_lt_of_lt_mul (y 0).isLt⟩ : Fin 4) = c := Fin.ext (by simp only; omega)
  have e2 : (⟨(y 1).val / 512, Nat.div_lt_of_lt_mul (y 1).isLt⟩ : Fin 4) = w := Fin.ext (by simp only; omega)
  have e3 : (⟨(y 1).val % 512 / 128, Nat.div_lt_of_lt_mul (Nat.mod_lt _ (by decide))⟩ : Fin 4) = h := Fin.ext (by simp only; omega)
  have e4 : (ix2 ⟨(y 0).val % 128, Nat.mod_lt _ (by decide)⟩ ⟨(y 1).val % 128, Nat.mod_lt _ (by decide)⟩ : S128x128.Idx) = x := by
    refine (congrArg₂ ix2 (Fin.ext ?_) (Fin.ext ?_)).trans (eq_ix2 (n0 := 128) (n1 := 128) x).symm <;> simp only <;> omega
  rw [e1, e2, e3, e4]

/-- The same with the chunk, part and head read off the piece's place. -/
theorem out_piece (y : S512x2048.Idx) (a b : ℕ) (x : S128x128.Idx) (h0 : (y 0).val = a + (x 0).val) (h1 : (y 1).val = b + (x 1).val)
    (ha : a / 128 * 128 = a := by decide) (hb : b / 128 * 128 = b := by decide) (ha' : a / 128 < 4 := by decide)
    (hb' : b / 512 < 4 := by decide) (hb'' : b % 512 / 128 < 4 := by decide) :
    X.out D y = X.piece D ⟨a / 128, ha'⟩ ⟨b / 512, hb'⟩ ⟨b % 512 / 128, hb''⟩ x :=
  (X.out_at D ⟨a / 128, ha'⟩ y ⟨b / 512, hb'⟩ ⟨b % 512 / 128, hb''⟩ x (by simp only; omega) (by simp only; omega)).symm

end In

variable (m : (ℓ : Loc nD τ sig) → Buf (Elt Ideal) ℓ)

/-- What grid point `t` reads. -/
def blocks (c : Dev nD) (t : Fin cfg0.N) : In :=
  ⟨iblk m c 0 t, iblk m c 1 t, iblk m c 2 t, iblk m c 3 t, iblk m c 4 t, iblk m c 5 t, iblk m c 6 t, iblk m c 7 t,
    iblk m c 8 t, iblk m c 9 t⟩

theorem load_eq {mr : Memref sig .tc .vmem S512x512 .f32} (h : mr.IsWhole) (x : Wide) (B : LoadRect S512x512) :
    View.readAt (Elt Ideal) mr.view B (h.unread x) = fun j => x (B.idx j) :=
  funext fun j => Memref.IsWhole.readAt_unread (Val := Elt Ideal) h x B j

theorem cast_self (x : V3) : k0_pay4 x = x := by
  funext i
  unfold_payloads
  exact congrFun (shapeCast_self x _) i

end Cert.Ret.Proof

end
-- ==== Proof.Ret.Points.lean ====
/- What the grid points of the retention gradient leave, one after the other: the block each writes and the state's gradient each carries on. -/
module

public import proofs.«01_k».proof.Proof.Ret.Block

@[expose] public section

set_option maxRecDepth 65536
set_option maxHeartbeats 4000000

noncomputable section

namespace Cert.Ret.Proof
open Cert.RetIdeal Cert.RetIdeal.Gen Idealize.ShloMosaic Idealize.ShloMosaic.TcCoe Idealize.SL.Sem

variable (m : (ℓ : Loc nD τ sig) → Buf (Elt Ideal) ℓ)

theorem scratch_A (c : Dev nD) (t : Fin cfg0.N) (h0 : t.val % 8 = 0) :
    (outsAt0 m c t.val t.isLt).2 = (blocks m c t).next ((blocks m c t).carried k0_pay5 0) 0 := by
  rw [Gen.outsAt0_A m c t h0]
  frame_open
  simp (disch := decide) only [↓ View.readCov_skip, ↓ View.readCov_cons_toLoadRect, ↓ View.readCov_fill]
  frame_out
  simp only [load_eq, read_unread_whole]
  refine (cast_self _).trans ?_
  unfold blocks
  generalize iblk m c 0 t = x0
  generalize iblk m c 1 t = x1
  generalize iblk m c 2 t = x2
  generalize iblk m c 3 t = x3
  generalize iblk m c 4 t = x4
  generalize iblk m c 5 t = x5
  generalize iblk m c 6 t = x6
  generalize iblk m c 7 t = x7
  generalize iblk m c 8 t = x8
  generalize iblk m c 9 t = x9
  generalize (k0_pay5 : V3) = D
  dsimp only [In.carried, In.next, In.qV, In.kV, In.vV, In.rV, In.nV, In.wV, In.sV, In.gV, ld, rows, decay, state]
  unfold_payloads
  rfl

theorem scratch_B (c : Dev nD) (t : Fin cfg0.N) (h0 : ¬t.val % 8 = 0) :
    (outsAt0 m c t.val t.isLt).2 = (blocks m c t).next ((blocks m c t).carried (outsAt0 m c (t.val - 1) (Nat.lt_of_le_of_lt (Nat.sub_le _ _) t.isLt)).2 0) 0 := by
  rw [Gen.outsAt0_B m c t h0]
  frame_open
  frame_out
  simp only [load_eq, read_unread_whole]
  refine (cast_self _).trans ?_
  unfold blocks
  generalize iblk m c 0 t = x0
  generalize iblk m c 1 t = x1
  generalize iblk m c 2 t = x2
  generalize iblk m c 3 t = x3
  generalize iblk m c 4 t = x4
  generalize iblk m c 5 t = x5
  generalize iblk m c 6 t = x6
  generalize iblk m c 7 t = x7
  generalize iblk m c 8 t = x8
  generalize iblk m c 9 t = x9
  generalize (outsAt0 m c (t.val - 1) (Nat.lt_of_le_of_lt (Nat.sub_le _ _) t.isLt)).2 = D
  dsimp only [In.carried, In.next, In.qV, In.kV, In.vV, In.rV, In.nV, In.wV, In.sV, In.gV, ld, rows, decay, state]
  unfold_payloads
  rfl

theorem out_A (c : Dev nD) (t : Fin cfg0.N) (h0 : t.val % 8 = 0) (y : S512x2048.Idx) :
    (outsAt0 m c t.val t.isLt).1 y = (blocks m c t).out k0_pay5 y := by
  rw [Gen.outsAt0_A m c t h0]
  frame_open
  simp (disch := decide) only [↓ View.readCov_skip, ↓ View.readCov_cons_toLoadRect, ↓ View.readCov_fill]
  frame_out
  simp only [load_eq, read_unread_whole]
  generalize (k0_pay5 : V3) = D
  unfold blocks
  generalize iblk m c 0 t = x0
  generalize iblk m c 1 t = x1
  generalize iblk m c 2 t = x2
  generalize iblk m c 3 t = x3
  generalize iblk m c 4 t = x4
  generalize iblk m c 5 t = x5
  generalize iblk m c 6 t = x6
  generalize iblk m c 7 t = x7
  generalize iblk m c 8 t = x8
  generalize iblk m c 9 t = x9
  canon_tiles x h
  all_goals
    first
      | refine Eq.trans ?_ (In.out_piece _ _ _ _ _ x h0 h1).symm
      | refine Eq.trans ?_ (In.out_piece _ _ _ _ _ x (h0.trans (Nat.zero_add _).symm) h1).symm
      | refine Eq.trans ?_ (In.out_piece _ _ _ _ _ x h0 (h1.trans (Nat.zero_add _).symm)).symm
      | refine Eq.trans ?_ (In.out_piece _ _ _ _ _ x (h0.trans (Nat.zero_add _).symm) (h1.trans (Nat.zero_add _).symm)).symm
    dsimp only [In.piece, In.carried, In.next, In.dq, In.dk, In.dv, In.dg, In.qV, In.kV, In.vV, In.rV, In.nV, In.wV, In.sV, In.gV, ld, rows, decay, state, unrotV, plainV]
    unfold_payloads
    rfl

theorem out_B (c : Dev nD) (t : Fin cfg0.N) (h0 : ¬t.val % 8 = 0) (y : S512x2048.Idx) :
    (outsAt0 m c t.val t.isLt).1 y = (blocks m c t).out (outsAt0 m c (t.val - 1) (Nat.lt_of_le_of_lt (Nat.sub_le _ _) t.isLt)).2 y := by
  rw [Gen.outsAt0_B m c t h0]
  frame_open
  frame_out
  simp only [load_eq, read_unread_whole]
  generalize (outsAt0 m c (t.val - 1) (Nat.lt_of_le_of_lt (Nat.sub_le _ _) t.isLt)).2 = D
  unfold blocks
  generalize iblk m c 0 t = x0
  generalize iblk m c 1 t = x1
  generalize iblk m c 2 t = x2
  generalize iblk m c 3 t = x3
  generalize iblk m c 4 t = x4
  generalize iblk m c 5 t = x5
  generalize iblk m c 6 t = x6
  generalize iblk m c 7 t = x7
  generalize iblk m c 8 t = x8
  generalize iblk m c 9 t = x9
  canon_tiles x h
  all_goals
    first
      | refine Eq.trans ?_ (In.out_piece _ _ _ _ _ x h0 h1).symm
      | refine Eq.trans ?_ (In.out_piece _ _ _ _ _ x (h0.trans (Nat.zero_add _).symm) h1).symm
      | refine Eq.trans ?_ (In.out_piece _ _ _ _ _ x h0 (h1.trans (Nat.zero_add _).symm)).symm
      | refine Eq.trans ?_ (In.out_piece _ _ _ _ _ x (h0.trans (Nat.zero_add _).symm) (h1.trans (Nat.zero_add _).symm)).symm
    dsimp only [In.piece, In.carried, In.next, In.dq, In.dk, In.dv, In.dg, In.qV, In.kV, In.vV, In.rV, In.nV, In.wV, In.sV, In.gV, ld, rows, decay, state, unrotV, plainV]
    unfold_payloads
    rfl

/-- The state's gradient before grid point `n`, the points going from the last chunks to the first. -/
def before (c : Dev nD) : ℕ → V3
  | 0 => k0_pay5
  | n + 1 => if h : n < cfg0.N then (blocks m c ⟨n, h⟩).next ((blocks m c ⟨n, h⟩).carried (before c n) 0) 0 else before c n

theorem carried_eq (c : Dev nD) (n : ℕ) (h : n < cfg0.N) : (outsAt0 m c n h).2 = before m c (n + 1) := by
  induction n with
  | zero =>
    rw [before, dif_pos h, before]
    exact scratch_A m c ⟨0, h⟩ rfl
  | succ n ih =>
    have hN : cfg0.N = 8 := N_0
    rw [before, dif_pos h, ← ih (by omega)]
    exact scratch_B m c ⟨n + 1, h⟩ (by simp only; omega)

theorem out_eq (c : Dev nD) (t : Fin cfg0.N) (y : S512x2048.Idx) :
    (outsAt0 m c t.val t.isLt).1 y = (blocks m c t).out (before m c t.val) y := by
  have hN : cfg0.N = 8 := N_0
  obtain ⟨n, h⟩ := t
  cases n with
  | zero => exact out_A m c ⟨0, h⟩ rfl y
  | succ n =>
    rw [← carried_eq m c n (by omega)]
    exact out_B m c ⟨n + 1, h⟩ (by simp only; omega) y

end Cert.Ret.Proof

end
-- ==== Proof.Ret.Whole.lean ====
/- The retention gradient of the whole array: 32 chunks of 128 rows, four heads; the states run forward, their gradients backward. -/
module

public import proofs.«01_k».proof.Proof.Ret.Spec

@[expose] public section

noncomputable section

namespace Cert.Ret

open Idealize.ShloMosaic

/-- A whole number as the programs' float. -/
abbrev num (n : ℕ) : EReal := FloatOps.sitofp (F := Ideal) FTy.f32 (BitVec.ofNat 32 n)

/-- The rotation's angle of row `r` and frequency `x`. -/
def angle (r x : ℕ) : EReal :=
  num r * Ideal.pow (Ideal.ofBits .f32 0x461C4000#32) (Ideal.div (-num x) (Ideal.ofBits .f32 0x42800000#32))

/-- Row `i` of chunk `n`. -/
def row (n : Fin 32) (i : Fin 128) : Fin 4096 := ⟨128 * n.val + i.val, by omega⟩

/-- Feature `d` of head `h` of part `w` of the projections. -/
def col (w h : Fin 4) (d : Fin 128) : Fin 3072 := ⟨512 * w.val + 128 * h.val + d.val, by omega⟩

/-- Feature `d` of head `h` of the cotangent. -/
def colY (h : Fin 4) (d : Fin 128) : Fin 1024 := ⟨128 * h.val + d.val, by omega⟩

def cosT (n : Fin 32) : Tile := fun i d => Ideal.cos (angle (row n i).val (d.val % 64))
def sinT (n : Fin 32) : Tile := fun i d =>
  if d.val < 64 then -Ideal.sin (angle (row n i).val (d.val % 64)) else Ideal.sin (angle (row n i).val (d.val % 64))

/-- The logarithm of a head's decay. -/
def lg (h : Fin 4) : EReal :=
  Ideal.log1p (-Ideal.exp (Ideal.ofBits .f32 0x3F317218#32 * (Ideal.ofBits .f32 0xC0A00000#32 - num h.val)))

def dmT (h : Fin 4) : Tile := fun i j =>
  if 0 ≤ num i.val - num j.val then Ideal.exp (lg h * if 0 ≤ num i.val - num j.val then num i.val - num j.val else 0) else 0
def qdE (h : Fin 4) (i : Fin 128) : EReal := Ideal.exp (lg h * (num i.val + 1))
def kdE (h : Fin 4) (i : Fin 128) : EReal := Ideal.exp (lg h * (Ideal.ofBits .f32 0x42FE0000#32 - num i.val))
def cgE (h : Fin 4) : EReal := Ideal.exp (lg h * Ideal.ofBits .f32 0x43000000#32)
def qdT (h : Fin 4) : Tile := fun i _ => qdE h i
def kdT (h : Fin 4) : Tile := fun i _ => kdE h i
def cgT (h : Fin 4) : Tile := fun _ _ => cgE h

variable (P : Fin 4096 → Fin 3072 → EReal) (Y : Fin 4096 → Fin 1024 → EReal)

/-- One head of one chunk of a part of the projections. -/
def part (w : Fin 4) (n : Fin 32) (h : Fin 4) : Tile := fun i d => P (row n i) (col w h d)
/-- The cotangent's. -/
def ctT (n : Fin 32) (h : Fin 4) : Tile := fun i d => Y (row n i) (colY h d)

def qT (n : Fin 32) (h : Fin 4) : Tile := rot (cosT n) (sinT n) (part P 0 n h)
def kT (n : Fin 32) (h : Fin 4) : Tile := fun i d => rot (cosT n) (sinT n) (part P 1 n h) i d * scale

/-- What a chunk adds to the state. -/
def kv (n : Fin 32) (h : Fin 4) : Tile := fun d e => ∑ j, kT P n h j d * kdT h j d * part P 2 n h j e

/-- The state before chunk `n`. -/
def St : ℕ → Fin 4 → Tile
  | 0 => fun _ _ _ => 0
  | n + 1 => fun h d e => cgT h d e * St n h d e + kv P ⟨n % 32, Nat.mod_lt _ (by decide)⟩ h d e

/-- The attended rows. -/
def oT (n : Fin 32) (h : Fin 4) : Tile := fun i e =>
  (∑ j, ((∑ d, qT P n h i d * kT P n h j d) * dmT h i j) * part P 2 n h j e) + ∑ d, qT P n h i d * qdT h i d * St P n.val h d e

/-- Their gradient. -/
def wT (n : Fin 32) (h : Fin 4) : Tile := dO (part P 3 n h) (oT P n h) (ctT Y n h)

/-- The state's gradient after chunk `31 - k`. -/
def Dt : ℕ → Fin 4 → Tile
  | 0 => fun _ _ _ => 0
  | k + 1 => fun h => step (qdT h) (cgT h) (qT P (Fin.rev ⟨k % 32, Nat.mod_lt _ (by decide)⟩) h) (Dt k h)
      (wT P Y (Fin.rev ⟨k % 32, Nat.mod_lt _ (by decide)⟩) h)

/-- The gradients of one head of one chunk: queries, keys, values, gate. -/
def grads (n : Fin 32) (w h : Fin 4) : Tile :=
  match w with
  | 0 => unrot (cosT n) (sinT n) (dQ (dmT h) (qdT h) (kT P n h) (part P 2 n h) (St P n.val h) (wT P Y n h))
  | 1 => unrot (cosT n) (sinT n) (dK (dmT h) (kdT h) (qT P n h) (part P 2 n h) (Dt P Y n.rev.val h) (wT P Y n h))
  | 2 => dV (dmT h) (kdT h) (qT P n h) (kT P n h) (Dt P Y n.rev.val h) (wT P Y n h)
  | 3 => dG (part P 3 n h) (oT P n h) (ctT Y n h)

/-- The gradient at a row and a column of the four parts. -/
def whole (r : Fin 4096) (x : Fin 2048) : EReal :=
  grads P Y ⟨r.val / 128, by omega⟩ ⟨x.val / 512, by omega⟩ ⟨x.val % 512 / 128, by omega⟩
    ⟨r.val % 128, by omega⟩ ⟨x.val % 128, by omega⟩

end Cert.Ret

end
-- ==== Proof.Ret.Host.lean ====
/- What the host lines before the region leave: the rotation's tables, the decays, the rotated queries and keys, the states. -/
module

public import proofs.«01_k».proof.Proof.Ret.Whole
public import proofs.«01_k».proof.Proof.Gen.RetIdeal.Value
public import Idealize.ShloMosaic.Lib.StableHlo.ReadAt
public import Idealize.ShloMosaic.Lib.Pointwise

@[expose] public section

set_option maxRecDepth 65536
set_option maxHeartbeats 4000000

noncomputable section

namespace Cert.Ret.Proof

open Cert.RetIdeal Cert.RetIdeal.Gen Idealize.ShloMosaic Idealize.ShloMosaic.TcCoe Idealize.SL.Sem

variable (m : (ℓ : Loc nD τ sig) → Buf (Elt Ideal) ℓ)

/-- The projections and the cotangent that core `c` starts with. -/
def projIn (c : Dev nD) (r : Fin 4096) (x : Fin 3072) : EReal := (m (c.tc.loc main_arg0) : FVec Ideal S4096x3072 .f32) (ix2 r x)
def ctIn (c : Dev nD) (r : Fin 4096) (x : Fin 1024) : EReal := (m (c.tc.loc main_arg1) : FVec Ideal S4096x1024 .f32) (ix2 r x)

theorem cos_at (c : Dev nD) (r : Fin 4096) (d : Fin 128) :
    (V m c main_v14 : FVec Ideal S4096x128 .f32) (ix2 r d) = Ideal.cos (angle r.val (d.val % 64)) := by
  unfold V hostOps0 hostOps0_1 hostOps0_2 hostOps0_3 hostOps0_4
  after_reads_at
  unfold angle
  split
  · rw [Nat.mod_eq_of_lt ‹_›]
  · rw [show d.val % 64 = d.val - 64 by omega]

theorem sin_at (c : Dev nD) (r : Fin 4096) (d : Fin 128) : (V m c main_v16 : FVec Ideal S4096x128 .f32) (ix2 r d)
    = if d.val < 64 then -Ideal.sin (angle r.val (d.val % 64)) else Ideal.sin (angle r.val (d.val % 64)) := by
  unfold V hostOps0 hostOps0_1 hostOps0_2 hostOps0_3 hostOps0_4
  after_reads_at
  unfold angle
  split
  · rw [Nat.mod_eq_of_lt ‹_›]
  · rw [show d.val % 64 = d.val - 64 by omega]

theorem zero_word : Ideal.ofBits .f32 0x00000000#32 = 0 := Ideal.ofBits_zero_f32

theorem dm_at (c : Dev nD) (h : Fin 4) (i j : Fin 128) : (V m c main_v41 : FVec Ideal S4x128x128 .f32) (ix3 h i j) = dmT h i j := by
  unfold V hostOps0 hostOps0_1 hostOps0_2 hostOps0_3 hostOps0_4
  after_reads_at
  simp only [id_eq, constant_apply, show (FloatOps.ofBits FTy.f32 0#32 : Ideal .f32) = (0 : EReal) from zero_word]
  rfl

theorem qd_at (c : Dev nD) (h : Fin 4) (i j : Fin 128) : (V m c main_v62 : FVec Ideal S4x128x128 .f32) (ix3 h i j) = qdT h i j := by
  unfold V hostOps0 hostOps0_1 hostOps0_2 hostOps0_3 hostOps0_4
  after_reads_at
  rfl

theorem kd_at (c : Dev nD) (h : Fin 4) (i j : Fin 128) : (V m c main_v64 : FVec Ideal S4x128x128 .f32) (ix3 h i j) = kdT h i j := by
  unfold V hostOps0 hostOps0_1 hostOps0_2 hostOps0_3 hostOps0_4
  after_reads_at
  rfl

theorem cg_at (c : Dev nD) (h : Fin 4) (i j : Fin 128) : (V m c main_v66 : FVec Ideal S4x128x128 .f32) (ix3 h i j) = cgT h i j := by
  unfold V hostOps0 hostOps0_1 hostOps0_2 hostOps0_3 hostOps0_4
  after_reads_at
  rfl

/-- The four tables of decays joined. -/
def joined (a b c d : FVec Ideal S4x1x128x128 .f32) : FVec Ideal S4x4x128x128 .f32 :=
  concatenate S4x4x128x128 1 [⟨S4x1x128x128, a⟩, ⟨S4x1x128x128, b⟩, ⟨S4x1x128x128, c⟩, ⟨S4x1x128x128, d⟩]
    concatenates_S4x1x128x128_S4x1x128x128_S4x1x128x128_S4x1x128x128_S4x4x128x128_d1

/-- The lines before the region. -/
abbrev lines : List (HloOp τ sig (Elt Ideal)) := List.flatten [hostOps0, hostOps0_1, hostOps0_2, hostOps0_3, hostOps0_4]

theorem tab_parts (X : Valuation τ sig (Elt Ideal)) (a b c d : FVec Ideal S4x1x128x128 .f32)
    (ha : StableHlo.upto lines X 86 (Proc.devRef .tc main_v67) = a) (hb : StableHlo.upto lines X 86 (Proc.devRef .tc main_v68) = b)
    (hc : StableHlo.upto lines X 86 (Proc.devRef .tc main_v69) = c) (hd : StableHlo.upto lines X 86 (Proc.devRef .tc main_v70) = d) :
    StableHlo.after lines X (Proc.devRef .tc main_v71) = joined a b c d := by
  after_reads_simp
  subst ha hb hc hd
  rfl

theorem tab_eq (c : Dev nD) : (V m c main_v71 : FVec Ideal S4x4x128x128 .f32)
    = joined (V m c main_v67) (V m c main_v68) (V m c main_v69) (V m c main_v70) := by
  refine tab_parts (fun b => m (c, b)) _ _ _ _ ?_ ?_ ?_ ?_ <;> (unfold V; after_reads_simp)

/-- The decay tables in their order. -/
def decT (w h : Fin 4) : Tile :=
  match w with
  | 0 => dmT h
  | 1 => qdT h
  | 2 => kdT h
  | 3 => cgT h

theorem tab_at (c : Dev nD) (h w : Fin 4) (i j : Fin 128) :
    (V m c main_v71 : FVec Ideal S4x4x128x128 .f32) (ix4 h w i j) = decT w h i j := by
  have e67 : (V m c main_v67 : FVec Ideal S4x1x128x128 .f32)
    = broadcastInDim S4x1x128x128 ![0, 2, 3] bcast_S4x128x128_S4x1x128x128_0_2_3 (V m c main_v41 : FVec Ideal S4x128x128 .f32) := by
    unfold V; after_reads_simp
  have e68 : (V m c main_v68 : FVec Ideal S4x1x128x128 .f32)
    = broadcastInDim S4x1x128x128 ![0, 2, 3] bcast_S4x128x128_S4x1x128x128_0_2_3 (V m c main_v62 : FVec Ideal S4x128x128 .f32) := by
    unfold V; after_reads_simp
  have e69 : (V m c main_v69 : FVec Ideal S4x1x128x128 .f32)
    = broadcastInDim S4x1x128x128 ![0, 2, 3] bcast_S4x128x128_S4x1x128x128_0_2_3 (V m c main_v64 : FVec Ideal S4x128x128 .f32) := by
    unfold V; after_reads_simp
  have e70 : (V m c main_v70 : FVec Ideal S4x1x128x128 .f32)
    = broadcastInDim S4x1x128x128 ![0, 2, 3] bcast_S4x128x128_S4x1x128x128_0_2_3 (V m c main_v66 : FVec Ideal S4x128x128 .f32) := by
    unfold V; after_reads_simp
  rw [tab_eq, e67, e68, e69, e70]
  unfold joined
  match w with
  | 0 => exact Eq.trans (by pointwise) (dm_at m c h i j)
  | 1 => exact Eq.trans (by pointwise) (qd_at m c h i j)
  | 2 => exact Eq.trans (by pointwise) (kd_at m c h i j)
  | 3 => exact Eq.trans (by pointwise) (cg_at m c h i j)

/-- Every head of every chunk, and of one chunk. -/
abbrev V4 : Type := FVec Ideal S32x4x128x128 .f32
abbrev V1 : Type := FVec Ideal S1x4x128x128 .f32

/-- The heads of the columns from `off`. -/
def headsV (off : ℕ) (hs : S4096x3072.Slices ![0, off] S4096x512) (p : FVec Ideal S4096x3072 .f32) : V4 :=
  transpose S32x4x128x128 [0, 2, 1, 3]
    (shapeCast S32x128x4x128 (extractStridedSlice S4096x512 ![0, off] p hs) shapeCasts_S4096x512_S32x128x4x128)
    transposes_S32x128x4x128_S32x4x128x128_0_2_1_3

def tile4 (c : FVec Ideal S4096x128 .f32) : V4 :=
  broadcastInDim S32x4x128x128 ![0, 1, 2, 3] bcast_S32x1x128x128_S32x4x128x128_0_1_2_3
    (shapeCast S32x1x128x128 c shapeCasts_S4096x128_S32x1x128x128)

def swapped (x : V4) : V4 :=
  concatenate S32x4x128x128 3
    [⟨S32x4x128x64, extractStridedSlice S32x4x128x64 ![0, 0, 0, 64] x slices_S32x4x128x128_S32x4x128x64_0_0_0_64⟩,
     ⟨S32x4x128x64, extractStridedSlice S32x4x128x64 ![0, 0, 0, 0] x slices_S32x4x128x128_S32x4x128x64_0_0_0_0⟩]
    concatenates_S32x4x128x64_S32x4x128x64_S32x4x128x128_d3

def rotV (x : V4) (c s : FVec Ideal S4096x128 .f32) : V4 := addf (mulf x (tile4 c)) (mulf (swapped x) (tile4 s))

theorem headsV_at (off : ℕ) (hs : S4096x3072.Slices ![0, off] S4096x512) (p : FVec Ideal S4096x3072 .f32) (w : Fin 4)
    (hw : off = 512 * w.val) (n : Fin 32) (h : Fin 4) (i d : Fin 128) :
    headsV off hs p (ix4 n h i d) = p (ix2 (row n i) (col w h d)) := by
  unfold headsV
  pointwise
  exact congrArg p (congrArg₂ ix2 (Fin.ext (by simp only [row]; omega)) (Fin.ext (by simp only [col]; omega)))

theorem tile4_at (c : FVec Ideal S4096x128 .f32) (n : Fin 32) (h : Fin 4) (i d : Fin 128) :
    tile4 c (ix4 n h i d) = c (ix2 (row n i) d) := by
  unfold tile4
  pointwise
  exact congrArg c (congrArg₂ ix2 (Fin.ext (by simp only [row]; omega)) rfl)

theorem swapped_at (x : V4) (n : Fin 32) (h : Fin 4) (i d : Fin 128) : swapped x (ix4 n h i d) = x (ix4 n h i (other d)) := by
  unfold swapped
  pointwise
  split
  · exact congrArg x (congrArg (ix4 n h i) (Fin.ext (by simp only [other]; omega)))
  · exact congrArg x (congrArg (ix4 n h i) (Fin.ext (by simp only [other]; omega)))

theorem q_eq (c : Dev nD) : (V m c main_v92 : V4)
    = rotV (headsV 0 slices_S4096x3072_S4096x512_0_0 (m (c.tc.loc main_arg0))) (V m c main_v14) (V m c main_v16) := by
  unfold V; after_reads_simp; rfl

theorem k_eq (c : Dev nD) : (V m c main_v107 : V4)
    = mulf (rotV (headsV 512 slices_S4096x3072_S4096x512_0_512 (m (c.tc.loc main_arg0))) (V m c main_v14) (V m c main_v16))
      (broadcastInDim S32x4x128x128 ![] bcast_S_S32x4x128x128 (constant S_ .f32 0x3DB504F3#32)) := by
  unfold V; after_reads_simp; rfl

theorem v_eq (c : Dev nD) : (V m c main_v110 : V4) = headsV 1024 slices_S4096x3072_S4096x512_0_1024 (m (c.tc.loc main_arg0)) := by
  unfold V; after_reads_simp; rfl

theorem rotV_at (x : V4) (c s : FVec Ideal S4096x128 .f32) (n : Fin 32) (h : Fin 4) (i d : Fin 128) :
    rotV x c s (ix4 n h i d) = x (ix4 n h i d) * c (ix2 (row n i) d) + x (ix4 n h i (other d)) * s (ix2 (row n i) d) := by
  show x _ * tile4 c _ + swapped x _ * tile4 s _ = _
  rw [tile4_at, tile4_at, swapped_at]

theorem q_at (c : Dev nD) (n : Fin 32) (h : Fin 4) (i d : Fin 128) :
    (V m c main_v92 : V4) (ix4 n h i d) = qT (projIn m c) n h i d := by
  rw [q_eq, rotV_at, headsV_at 0 _ _ 0 rfl, headsV_at 0 _ _ 0 rfl, cos_at, sin_at]
  rfl

theorem k_at (c : Dev nD) (n : Fin 32) (h : Fin 4) (i d : Fin 128) :
    (V m c main_v107 : V4) (ix4 n h i d) = kT (projIn m c) n h i d := by
  rw [k_eq]
  show rotV _ _ _ _ * scale = _
  rw [rotV_at, headsV_at 512 _ _ 1 rfl, headsV_at 512 _ _ 1 rfl, cos_at, sin_at]
  rfl

theorem v_at (c : Dev nD) (n : Fin 32) (h : Fin 4) (i d : Fin 128) :
    (V m c main_v110 : V4) (ix4 n h i d) = part (projIn m c) 2 n h i d := by
  rw [v_eq, headsV_at 1024 _ _ 2 rfl]
  rfl

/-- A decay table for every chunk. -/
def spreadV (off : ℕ) (hs : S4x4x128x128.Slices ![0, off, 0, 0] S4x1x128x128) (t : FVec Ideal S4x4x128x128 .f32) : V1 :=
  broadcastInDim S1x4x128x128 ![1, 2, 3] bcast_S4x128x128_S1x4x128x128_1_2_3
    (shapeCast S4x128x128 (extractStridedSlice S4x1x128x128 ![0, off, 0, 0] t hs) shapeCasts_S4x1x128x128_S4x128x128)

def allV (x : V1) : V4 := broadcastInDim S32x4x128x128 ![0, 1, 2, 3] bcast_S1x4x128x128_S32x4x128x128_0_1_2_3 x

theorem spreadV_at (off : ℕ) (hs : S4x4x128x128.Slices ![0, off, 0, 0] S4x1x128x128) (t : FVec Ideal S4x4x128x128 .f32) (w : Fin 4)
    (hw : off = w.val) (z : Fin 1) (h : Fin 4) (i d : Fin 128) : spreadV off hs t (ix4 z h i d) = t (ix4 h w i d) := by
  subst hw
  unfold spreadV
  pointwise

theorem allV_at (x : V1) (n : Fin 32) (h : Fin 4) (i d : Fin 128) : allV x (ix4 n h i d) = x (ix4 0 h i d) := by
  unfold allV
  pointwise

/-- What every chunk adds to the state. -/
def addsV (k v : V4) (t : FVec Ideal S4x4x128x128 .f32) : V4 :=
  Host.dotGeneral dot_S32x4x128x128_S32x4x128x128_S32x4x128x128_2_2_3_3_01_01 none
    (mulf k (allV (spreadV 2 slices_S4x4x128x128_S4x1x128x128_0_2_0_0 t))) v

theorem addsV_at (k v : V4) (t : FVec Ideal S4x4x128x128 .f32) (n : Fin 32) (h : Fin 4) (d e : Fin 128) :
    addsV k v t (ix4 n h d e) = ∑ j, k (ix4 n h j d) * t (ix4 h 2 j d) * v (ix4 n h j e) := by
  unfold addsV
  pointwise [dot_S32x4x128x128_S32x4x128x128_S32x4x128x128_2_2_3_3_01_01]
  refine Finset.sum_congr rfl fun j _ => ?_
  rw [allV_at, spreadV_at 2 _ _ 2 rfl]

theorem kv_eq (c : Dev nD) : (V m c main_v114 : V4) = addsV (V m c main_v107) (V m c main_v110) (V m c main_v71) := by
  unfold V; after_reads_simp; rfl

theorem kv_at (c : Dev nD) (n : Fin 32) (h : Fin 4) (d e : Fin 128) :
    (V m c main_v114 : V4) (ix4 n h d e) = kv (projIn m c) n h d e := by
  refine (congrFun (kv_eq m c) _).trans ((addsV_at _ _ _ n h d e).trans (Finset.sum_congr rfl fun j _ => ?_))
  rw [k_at, v_at, tab_at]
  rfl

theorem slices_chunk (n : Fin 32) : S32x4x128x128.Slices ![n.val, 0, 0, 0] S1x4x128x128 := by
  revert n; decide +kernel

/-- The states, one after another. -/
def stateV (cg : V1) (x : V4) : ℕ → V1
  | 0 => broadcastInDim S1x4x128x128 ![] bcast_S_S1x4x128x128 (constant S_ .f32 0x00000000#32)
  | n + 1 => addf (mulf cg (stateV cg x n)) (extractStridedSlice S1x4x128x128 ![n % 32, 0, 0, 0] x (slices_chunk ⟨n % 32, Nat.mod_lt _ (by decide)⟩))

/-- Sixteen states joined. -/
def cat16 (f : Fin 16 → V1) : FVec Ideal S16x4x128x128 .f32 :=
  concatenate S16x4x128x128 0
    [⟨S1x4x128x128, f 0⟩, ⟨S1x4x128x128, f 1⟩, ⟨S1x4x128x128, f 2⟩, ⟨S1x4x128x128, f 3⟩, ⟨S1x4x128x128, f 4⟩, ⟨S1x4x128x128, f 5⟩,
      ⟨S1x4x128x128, f 6⟩, ⟨S1x4x128x128, f 7⟩, ⟨S1x4x128x128, f 8⟩, ⟨S1x4x128x128, f 9⟩, ⟨S1x4x128x128, f 10⟩, ⟨S1x4x128x128, f
      11⟩, ⟨S1x4x128x128, f 12⟩, ⟨S1x4x128x128, f 13⟩, ⟨S1x4x128x128, f 14⟩, ⟨S1x4x128x128, f 15⟩]
    concatenates_S1x4x128x128_S1x4x128x128_S1x4x128x128_S1x4x128x128_S1x4x128x128_S1x4x128x128_S1x4x128x128_S1x4x128x128_S1x4x128x128_S1x4x128x128_S1x4x128x128_S1x4x128x128_S1x4x128x128_S1x4x128x128_S1x4x128x128_S1x4x128x128_S16x4x128x128_d0

theorem cat16_at (f : Fin 16 → V1) (k : Fin 16) (h : Fin 4) (d e : Fin 128) : cat16 f (ix4 k h d e) = f k (ix4 0 h d e) := by
  unfold cat16
  fin_cases k <;> pointwise

/-- What the lines have left in a buffer when the states are joined. -/
abbrev rd (X : Valuation τ sig (Elt Ideal)) (b : Ref sig .tc) := StableHlo.upto lines X 230 (Proc.devRef .tc b)

def low (X : Valuation τ sig (Elt Ideal)) : Fin 16 → V1 :=
    ![rd X main_v115, rd X main_v119, rd X main_v122, rd X main_v125, rd X main_v128, rd X main_v131, rd X main_v134, rd X
      main_v137, rd X main_v140, rd X main_v143, rd X main_v146, rd X main_v149, rd X main_v152, rd X main_v155, rd X main_v158,
      rd X main_v161]

def high (X : Valuation τ sig (Elt Ideal)) : Fin 16 → V1 :=
    ![rd X main_v164, rd X main_v167, rd X main_v170, rd X main_v173, rd X main_v176, rd X main_v179, rd X main_v182, rd X
      main_v185, rd X main_v188, rd X main_v191, rd X main_v194, rd X main_v197, rd X main_v200, rd X main_v203, rd X main_v206,
      rd X main_v209]

theorem low_eq (X : Valuation τ sig (Elt Ideal)) (k : Fin 16) : low X k = stateV (rd X main_v116) (rd X main_v114) k.val := by
  fin_cases k <;> (simp only [low, rd, Matrix.cons_val]; after_reads_simp; rfl)

theorem high_eq (X : Valuation τ sig (Elt Ideal)) (k : Fin 16) : high X k = stateV (rd X main_v116) (rd X main_v114) (16 + k.val) := by
  fin_cases k <;> (simp only [high, rd, Matrix.cons_val]; after_reads_simp; rfl)

theorem joined_low (X : Valuation τ sig (Elt Ideal)) (f : Fin 16 → V1) (hf : low X = f) :
    StableHlo.after lines X (Proc.devRef .tc main_v213) = cat16 f := by
  after_reads_simp
  subst hf
  rfl

theorem joined_high (X : Valuation τ sig (Elt Ideal)) (f : Fin 16 → V1) (hf : high X = f) :
    StableHlo.after lines X (Proc.devRef .tc main_v214) = cat16 f := by
  after_reads_simp
  subst hf
  rfl

/-- The states before every chunk, joined. -/
def statesV (f g : Fin 16 → V1) : V4 :=
  concatenate S32x4x128x128 0 [⟨S16x4x128x128, cat16 f⟩, ⟨S16x4x128x128, cat16 g⟩]
    concatenates_S16x4x128x128_S16x4x128x128_S32x4x128x128_d0

theorem statesV_at (f : ℕ → V1) (n : Fin 32) (h : Fin 4) (d e : Fin 128) :
    statesV (fun k => f k.val) (fun k => f (16 + k.val)) (ix4 n h d e) = f n.val (ix4 0 h d e) := by
  unfold statesV
  pointwise
  split <;> rw [cat16_at]
  rw [show 16 + (n.val - 16) = n.val by omega]

theorem states_parts (X : Valuation τ sig (Elt Ideal)) (a b : FVec Ideal S16x4x128x128 .f32)
    (ha : StableHlo.upto lines X 232 (Proc.devRef .tc main_v213) = a) (hb : StableHlo.upto lines X 232 (Proc.devRef .tc main_v214) = b) :
    StableHlo.after lines X (Proc.devRef .tc main_v215) = concatenate S32x4x128x128 0 [⟨S16x4x128x128, a⟩, ⟨S16x4x128x128, b⟩]
      concatenates_S16x4x128x128_S16x4x128x128_S32x4x128x128_d0 := by
  after_reads_simp
  subst ha hb
  rfl

theorem states_eq (c : Dev nD) : (V m c main_v215 : V4)
    = statesV (fun k => stateV (V m c main_v116) (V m c main_v114) k.val) (fun k => stateV (V m c main_v116) (V m c main_v114) (16 + k.val)) := by
  have e116 : rd (fun b => m (c, b)) main_v116 = V m c main_v116 := by unfold V; after_reads_simp
  have e114 : rd (fun b => m (c, b)) main_v114 = V m c main_v114 := by unfold V; after_reads_simp
  rw [← e116, ← e114]
  refine states_parts (fun b => m (c, b)) _ _ (Eq.trans ?_ (joined_low _ _ (funext (low_eq _)))) (Eq.trans ?_ (joined_high _ _ (funext (high_eq _))))
  · after_reads_simp
  · after_reads_simp

theorem cgS_eq (c : Dev nD) : (V m c main_v116 : V1) = spreadV 3 slices_S4x4x128x128_S4x1x128x128_0_3_0_0 (V m c main_v71) := by
  unfold V; after_reads_simp; rfl

theorem stateV_at (c : Dev nD) (k : ℕ) (h : Fin 4) (d e : Fin 128) :
    stateV (V m c main_v116) (V m c main_v114) k (ix4 0 h d e) = St (projIn m c) k h d e := by
  induction k with
  | zero => unfold stateV; pointwise; rfl
  | succ k ih =>
    have s : extractStridedSlice S1x4x128x128 ![k % 32, 0, 0, 0] (V m c main_v114 : V4) (slices_chunk ⟨k % 32, Nat.mod_lt _ (by decide)⟩) (ix4 0 h d e)
      = (V m c main_v114 : V4) (ix4 ⟨k % 32, Nat.mod_lt _ (by decide)⟩ h d e) := by pointwise
    have g : (V m c main_v116 : V1) (ix4 0 h d e) = cgT h d e := by
      rw [cgS_eq, spreadV_at 3 _ _ 3 rfl, tab_at]
      rfl
    exact congrArg₂ (· + ·) (congrArg₂ (· * ·) g ih) (s.trans (kv_at m c _ h d e))

theorem state_at (c : Dev nD) (n : Fin 32) (h : Fin 4) (d e : Fin 128) :
    (V m c main_v215 : V4) (ix4 n h d e) = St (projIn m c) n.val h d e := by
  rw [states_eq, statesV_at (stateV (V m c main_v116) (V m c main_v114)), stateV_at]

/-- The attended rows of every chunk. -/
def attendedV (q k v S : V4) (t : FVec Ideal S4x4x128x128 .f32) : V4 :=
  addf
    (Host.dotGeneral dot_S32x4x128x128_S32x4x128x128_S32x4x128x128_3_2_2_3_01_01 none
      (mulf (Host.dotGeneral dot_S32x4x128x128_S32x4x128x128_S32x4x128x128_3_3_2_2_01_01 none q k)
        (allV (spreadV 0 slices_S4x4x128x128_S4x1x128x128_0_0_0_0 t))) v)
    (Host.dotGeneral dot_S32x4x128x128_S32x4x128x128_S32x4x128x128_3_2_2_3_01_01 none
      (mulf q (allV (spreadV 1 slices_S4x4x128x128_S4x1x128x128_0_1_0_0 t))) S)

theorem attendedV_at (q k v S : V4) (t : FVec Ideal S4x4x128x128 .f32) (n : Fin 32) (h : Fin 4) (i e : Fin 128) :
    attendedV q k v S t (ix4 n h i e)
    = (∑ j, ((∑ d, q (ix4 n h i d) * k (ix4 n h j d)) * t (ix4 h 0 i j)) * v (ix4 n h j e))
      + ∑ d, q (ix4 n h i d) * t (ix4 h 1 i d) * S (ix4 n h d e) := by
  unfold attendedV
  pointwise [dot_S32x4x128x128_S32x4x128x128_S32x4x128x128_3_2_2_3_01_01, dot_S32x4x128x128_S32x4x128x128_S32x4x128x128_3_3_2_2_01_01]
  refine congrArg₂ (· + ·) (Finset.sum_congr rfl fun j _ => ?_) (Finset.sum_congr rfl fun j _ => ?_)
  · rw [allV_at, spreadV_at 0 _ _ 0 rfl]
  · rw [allV_at, spreadV_at 1 _ _ 1 rfl]

/-- The heads' rows put back side by side. -/
def flatV (x : V4) : FVec Ideal S4096x512 .f32 :=
  shapeCast S4096x512 (transpose S32x128x4x128 [0, 2, 1, 3] x transposes_S32x4x128x128_S32x128x4x128_0_2_1_3) shapeCasts_S32x128x4x128_S4096x512

theorem flatV_at (x : V4) (n : Fin 32) (h : Fin 4) (i d : Fin 128) :
    flatV x (ix2 (row n i) ⟨128 * h.val + d.val, by omega⟩) = x (ix4 n h i d) := by
  unfold flatV
  pointwise
  exact congrArg x (congrArg₂ (fun a b => ix4 a h b d) (Fin.ext (by simp only [row]; omega)) (Fin.ext (by simp only [row]; omega)))

theorem o_eq (c : Dev nD) : (V m c main_v227 : FVec Ideal S4096x512 .f32)
    = flatV (attendedV (V m c main_v92) (V m c main_v107) (V m c main_v110) (V m c main_v215) (V m c main_v71)) := by
  unfold V; after_reads_simp; rfl

theorem o_at (c : Dev nD) (n : Fin 32) (h : Fin 4) (i d : Fin 128) :
    (V m c main_v227 : FVec Ideal S4096x512 .f32) (ix2 (row n i) ⟨128 * h.val + d.val, by omega⟩) = oT (projIn m c) n h i d := by
  rw [o_eq, flatV_at, attendedV_at]
  refine congrArg₂ (· + ·) (Finset.sum_congr rfl fun j _ => congrArg₂ (· * ·) (congrArg₂ (· * ·) (Finset.sum_congr rfl fun x _ =>
    congrArg₂ (· * ·) (q_at m c n h i x) (k_at m c n h j x)) (tab_at m c h 0 i j)) (v_at m c n h j d))
    (Finset.sum_congr rfl fun x _ => congrArg₂ (· * ·) (congrArg₂ (· * ·) (q_at m c n h i x) (tab_at m c h 1 i x)) (state_at m c n h x d))

end Cert.Ret.Proof

end
-- ==== Proof.Ret.Kernel.lean ====
/- The array the retention gradient's kernel leaves: its grid points go from the last chunks to the first. -/
module

public import proofs.«01_k».proof.Proof.Ret.Points
public import proofs.«01_k».proof.Proof.Ret.Host

@[expose] public section

set_option maxRecDepth 16384
set_option maxHeartbeats 1000000

noncomputable section

namespace Cert.Ret.Proof

open Cert.RetIdeal Cert.RetIdeal.Gen Idealize.ShloMosaic Idealize.ShloMosaic.TcCoe Idealize.SL.Sem

variable (m : (ℓ : Loc nD τ sig) → Buf (Elt Ideal) ℓ)

theorem places : ∀ t : Fin cfg0.N, (win0_0.index t = ![7 - t.val, 0] ∧ win0_1.index t = ![7 - t.val, 1]
    ∧ win0_2.index t = ![7 - t.val, 2] ∧ win0_3.index t = ![7 - t.val, 3]) ∧ (win0_4.index t = ![7 - t.val, 0]
    ∧ win0_5.index t = ![7 - t.val, 0] ∧ win0_6.index t = ![0, 0, 0, 0] ∧ win0_7.index t = ![7 - t.val, 0])
    ∧ win0_8.index t = ![7 - t.val, 0, 0, 0] ∧ win0_9.index t = ![7 - t.val, 0] ∧ win0_10.index t = ![7 - t.val, 0] :=
  (by decide +kernel : ∀ t : Fin grid0.N, _)

theorem lt8 (t : Fin cfg0.N) : t.val < 8 := t.isLt

/-- Chunk `k` of grid point `t`. -/
def chunkOf (t : Fin cfg0.N) (k : Fin 4) : Fin 32 := ⟨4 * (7 - t.val) + k.val, by have := lt8 t; omega⟩

theorem ld_at (x : Wide) (k h : Fin 4) (i d : Fin 128) :
    ld x k h (ix2 i d) = x (ix2 ⟨128 * k.val + i.val, by omega⟩ ⟨128 * h.val + d.val, by omega⟩) := by
  unfold ld
  refine congrArg x ((Rect.idx_withinL _ _ _ _).trans ?_)
  funext a
  refine Fin.ext ?_
  fin_cases a
  · show 128 * k.val + 1 * (0 + 1 * i.val) = 128 * k.val + i.val
    omega
  · show 0 + 1 * (128 * h.val + 1 * d.val) = 128 * h.val + d.val
    omega

theorem rows_at (x : FVec Ideal S512x128 .f32) (k : Fin 4) (i d : Fin 128) :
    rows x k (ix2 i d) = x (ix2 ⟨128 * k.val + i.val, by omega⟩ d) := by
  unfold rows
  unfold_payloads
  pointwise

theorem decay_at (x : FVec Ideal S4x4x128x128 .f32) (w h : Fin 4) (i d : Fin 128) :
    decay x w (ix3 h i d) = x (ix4 h w i d) := by
  unfold decay
  unfold_payloads
  pointwise

theorem state_blk (x : FVec Ideal S4x4x128x128 .f32) (w h : Fin 4) (i d : Fin 128) :
    state x w (ix3 h i d) = x (ix4 w h i d) := by
  unfold state
  unfold_payloads
  pointwise

section
variable (c : Dev nD) (t : Fin cfg0.N) (k h : Fin 4)

theorem q_blk : tile (ld (blocks m c t).q k h) = part (projIn m c) 0 (chunkOf t k) h := by
  funext i d
  have ht := lt8 t
  exact (ld_at _ k h i d).trans ((congrArg (V m c main_arg0) (show ((View.whole main_arg0).slice (win0_0.rect t)).emb _
    = (ix2 (row (chunkOf t k) i) (col 0 h d) : S4096x3072.Idx) by blk_ext [(places t).1.1, row, col, chunkOf])).trans (congrFun (V_main_arg0 m c) _))

theorem k_blk : tile (ld (blocks m c t).k k h) = part (projIn m c) 1 (chunkOf t k) h := by
  funext i d
  have ht := lt8 t
  exact (ld_at _ k h i d).trans ((congrArg (V m c main_arg0) (show ((View.whole main_arg0).slice (win0_1.rect t)).emb _
    = (ix2 (row (chunkOf t k) i) (col 1 h d) : S4096x3072.Idx) by blk_ext [(places t).1.2.1, row, col, chunkOf])).trans (congrFun (V_main_arg0 m c) _))

theorem v_blk : tile (ld (blocks m c t).v k h) = part (projIn m c) 2 (chunkOf t k) h := by
  funext i d
  have ht := lt8 t
  exact (ld_at _ k h i d).trans ((congrArg (V m c main_arg0) (show ((View.whole main_arg0).slice (win0_2.rect t)).emb _
    = (ix2 (row (chunkOf t k) i) (col 2 h d) : S4096x3072.Idx) by blk_ext [(places t).1.2.2.1, row, col, chunkOf])).trans (congrFun (V_main_arg0 m c) _))

theorem g_blk : tile (ld (blocks m c t).g k h) = part (projIn m c) 3 (chunkOf t k) h := by
  funext i d
  have ht := lt8 t
  exact (ld_at _ k h i d).trans ((congrArg (V m c main_arg0) (show ((View.whole main_arg0).slice (win0_3.rect t)).emb _
    = (ix2 (row (chunkOf t k) i) (col 3 h d) : S4096x3072.Idx) by blk_ext [(places t).1.2.2.2, row, col, chunkOf])).trans (congrFun (V_main_arg0 m c) _))

theorem c_blk : tile (rows (blocks m c t).c k) = cosT (chunkOf t k) := by
  funext i d
  have ht := lt8 t
  exact (rows_at _ k i d).trans ((congrArg (V m c main_v14) (show ((View.whole main_v14).slice (win0_4.rect t)).emb _
    = (ix2 (row (chunkOf t k) i) d : S4096x128.Idx) by blk_ext [(places t).2.1.1, row, chunkOf])).trans (cos_at m c _ _))

theorem s_blk : tile (rows (blocks m c t).s k) = sinT (chunkOf t k) := by
  funext i d
  have ht := lt8 t
  exact (rows_at _ k i d).trans ((congrArg (V m c main_v16) (show ((View.whole main_v16).slice (win0_5.rect t)).emb _
    = (ix2 (row (chunkOf t k) i) d : S4096x128.Idx) by blk_ext [(places t).2.1.2.1, row, chunkOf])).trans (sin_at m c _ _))

theorem tab_blk : head (decay (blocks m c t).tab k) h = decT k h := by
  funext i d
  have ht := lt8 t
  exact (decay_at _ k h i d).trans ((congrArg (V m c main_v71) (show ((View.whole main_v71).slice (win0_6.rect t)).emb _
    = (ix4 h k i d : S4x4x128x128.Idx) by blk_ext [(places t).2.1.2.2.1, chunkOf])).trans (tab_at m c h k i d))

theorem o_blk : tile (ld (blocks m c t).o k h) = oT (projIn m c) (chunkOf t k) h := by
  funext i d
  have ht := lt8 t
  exact (ld_at _ k h i d).trans ((congrArg (V m c main_v227) (show ((View.whole main_v227).slice (win0_7.rect t)).emb _
    = (ix2 (row (chunkOf t k) i) ⟨128 * h.val + d.val, by omega⟩ : S4096x512.Idx) by blk_ext [(places t).2.1.2.2.2, row, chunkOf])).trans (o_at m c _ h i d))

theorem st_blk : head (state (blocks m c t).st k) h = St (projIn m c) (chunkOf t k).val h := by
  funext i d
  have ht := lt8 t
  exact (state_blk _ k h i d).trans ((congrArg (V m c main_v215) (show ((View.whole main_v215).slice (win0_8.rect t)).emb _
    = (ix4 (chunkOf t k) h i d : S32x4x128x128.Idx) by blk_ext [(places t).2.2.1, chunkOf])).trans (state_at m c _ h i d))

theorem dy_blk : tile (ld (blocks m c t).dy k h) = ctT (ctIn m c) (chunkOf t k) h := by
  funext i d
  have ht := lt8 t
  exact (ld_at _ k h i d).trans ((congrArg (V m c main_arg1) (show ((View.whole main_arg1).slice (win0_9.rect t)).emb _
    = (ix2 (row (chunkOf t k) i) (colY h d) : S4096x1024.Idx) by blk_ext [(places t).2.2.2.1, row, colY, chunkOf])).trans (congrFun (V_main_arg1 m c) _))

theorem pick (x : Wide) : (![ld x k 0, ld x k 1, ld x k 2, ld x k 3] : Fin 4 → V2) h = ld x k h := by
  fin_cases h <;> rfl

theorem qV_at : head ((blocks m c t).qV k) h = qT (projIn m c) (chunkOf t k) h := by
  refine (rotated_apply _ _ _ _ _ _ h).trans ?_
  rw [pick, c_blk, s_blk, q_blk]
  rfl

theorem kV_at : head ((blocks m c t).kV k) h = kT (projIn m c) (chunkOf t k) h := by
  funext i d
  refine (keys_apply _ _ _ _ _ _ h i d).trans ?_
  rw [pick, c_blk, s_blk, k_blk]
  rfl

theorem vV_at : head ((blocks m c t).vV k) h = part (projIn m c) 2 (chunkOf t k) h := by
  refine (stack_apply _ _ _ _ h).trans ?_
  rw [pick, v_blk]

theorem gV_at : head ((blocks m c t).gV k) h = part (projIn m c) 3 (chunkOf t k) h := by
  refine (stack_apply _ _ _ _ h).trans ?_
  rw [pick, g_blk]

theorem wV_at : head (k0_pay30 ((blocks m c t).rV k) ((blocks m c t).nV k) ((blocks m c t).wV k) ((blocks m c t).sV k)) h
    = wT (projIn m c) (ctIn m c) (chunkOf t k) h := by
  refine (doV_apply _ _ _ _ _ _ _ _ _ h).trans ?_
  rw [pick, pick, gV_at, o_blk, dy_blk]
  rfl

theorem dg_at : head ((blocks m c t).dg k) h = grads (projIn m c) (ctIn m c) (chunkOf t k) 3 h := by
  refine (dgV_apply _ _ _ _ _ _ _ _ _ h).trans ?_
  rw [pick, pick, gV_at, o_blk, dy_blk]
  rfl

variable (D : V3)

theorem next_at : head ((blocks m c t).next D k) h
    = step (qdT h) (cgT h) (qT (projIn m c) (chunkOf t k) h) (head D h) (wT (projIn m c) (ctIn m c) (chunkOf t k) h) := by
  refine (step_apply _ _ _ _ _ _ _ _ h).trans ?_
  rw [tab_blk, tab_blk, qV_at, wV_at]
  rfl

theorem next_grad (j : ℕ) (hj : j = 4 * t.val + (3 - k.val)) (hD : head D h = Dt (projIn m c) (ctIn m c) j h) :
    head ((blocks m c t).next D k) h = Dt (projIn m c) (ctIn m c) (j + 1) h := by
  have e : chunkOf t k = Fin.rev ⟨j % 32, Nat.mod_lt _ (by decide)⟩ := by
    have := lt8 t
    have := k.isLt
    refine Fin.ext ?_
    simp only [chunkOf, Fin.val_rev]
    omega
  rw [next_at, hD, e]
  rfl

theorem carried_grad (hD : head D h = Dt (projIn m c) (ctIn m c) (4 * t.val) h) :
    head ((blocks m c t).carried D k) h = Dt (projIn m c) (ctIn m c) (chunkOf t k).rev.val h := by
  have e3 := next_grad m c t 3 h D (4 * t.val) rfl hD
  have e2 := next_grad m c t 2 h _ (4 * t.val + 1) rfl e3
  have e1 := next_grad m c t 1 h _ (4 * t.val + 2) rfl e2
  have ht := lt8 t
  have v : (chunkOf t k).rev.val = 4 * t.val + (3 - k.val) := by
    have := k.isLt
    simp only [chunkOf, Fin.val_rev]
    omega
  rw [v]
  fin_cases k
  · exact e1
  · exact e2
  · exact e3
  · exact hD

theorem piece_at (w : Fin 4) (i d : Fin 128) (hD : head D h = Dt (projIn m c) (ctIn m c) (4 * t.val) h) :
    (blocks m c t).piece D k w h (ix2 i d) = grads (projIn m c) (ctIn m c) (chunkOf t k) w h i d := by
  have hc := carried_grad m c t k h D hD
  match w with
  | 0 =>
    refine (unrotV_apply h _ _ _ i d).trans ?_
    rw [c_blk, s_blk, show head ((blocks m c t).dq k) h = _ from dQ_apply _ _ _ _ _ _ _ _ _ h, tab_blk, tab_blk, kV_at, vV_at, st_blk, wV_at]
    rfl
  | 1 =>
    refine (unrotV_apply h _ _ _ i d).trans ?_
    rw [c_blk, s_blk, show head ((blocks m c t).dk _ k) h = _ from dK_apply _ _ _ _ _ _ _ _ _ h, tab_blk, tab_blk, qV_at, vV_at, hc, wV_at]
    rfl
  | 2 =>
    refine (plainV_apply h _ i d).trans ?_
    rw [show head ((blocks m c t).dv _ k) h = _ from dV_apply _ _ _ _ _ _ _ _ _ h, tab_blk, tab_blk, qV_at, kV_at, hc, wV_at]
    rfl
  | 3 =>
    refine (plainV_apply h _ i d).trans ?_
    rw [dg_at]

end

theorem before_at (c : Dev nD) (h : Fin 4) (n : ℕ) (hn : n ≤ 8) : head (before m c n) h = Dt (projIn m c) (ctIn m c) (4 * n) h := by
  induction n with
  | zero =>
    funext i d
    show (k0_pay5 : V3) (ix3 h i d) = 0
    unfold_payloads
    pointwise
  | succ n ih =>
    have hN : n < cfg0.N := by show n < grid0.N; rw [N_0]; omega
    rw [before, dif_pos hN]
    refine (next_grad m c ⟨n, hN⟩ 0 h _ (4 * n + 3) rfl ((carried_grad m c ⟨n, hN⟩ 0 h _ (ih (by omega))).trans ?_)).trans rfl
    congr 1
    simp only [chunkOf, Fin.val_rev]
    omega

/-- The kernel's output array. -/
theorem kernel_array (c : Dev nD) : (dats m 0 c).arrAt 10 cfg0.N
    = (fun y => whole (projIn m c) (ctIn m c) (y 0) (y 1) : FVec Ideal S4096x2048 .bf16) := by
  refine (dats m 0 c).arrAt_eq_of_covers 10 _ (by decide +kernel) fun t hf y => ?_
  blk_simp
  rw [after0_10]
  obtain ⟨i, j, rfl⟩ : ∃ (i : Fin 512) (j : Fin 2048), y = ix2 i j := ⟨y 0, y 1, eq_ix2 (n0 := 512) (n1 := 2048) y⟩
  refine (out_eq m c t (ix2 i j)).trans ?_
  have ht := lt8 t
  have place : ((View.whole main_v228).slice (win0_10.rect t)).emb (ix2 i j)
      = (ix2 ⟨(7 - t.val) * 512 + i.val, by omega⟩ j : S4096x2048.Idx) := by
    blk_ext [(places t).2.2.2.2]
  rw [place]
  refine (piece_at m c t _ _ _ _ _ _ (before_at m c _ t.val (by omega))).trans ?_
  unfold whole
  have e : (⟨((7 - t.val) * 512 + i.val) / 128, by omega⟩ : Fin 32) = chunkOf t ⟨i.val / 128, by omega⟩ := Fin.ext (by simp only [chunkOf]; omega)
  have e' : (⟨((7 - t.val) * 512 + i.val) % 128, by omega⟩ : Fin 128) = ⟨i.val % 128, by omega⟩ := Fin.ext (by simp only; omega)
  show _ = grads _ _ (⟨((7 - t.val) * 512 + i.val) / 128, _⟩ : Fin 32) _ _ ⟨((7 - t.val) * 512 + i.val) % 128, _⟩ _
  rw [e, e']
  rfl

end Cert.Ret.Proof

end
-- ==== Proof.Ret.Rotations.lean ====
/-
The plain program's rotated rows and decays.
-/
module

public import proofs.«01_k».proof.Proof.Ret.Whole
public import proofs.«01_k».proof.Proof.Gen.RetRefIdeal.Read
public import Idealize.ShloMosaic.Lib.Pointwise

@[expose] public section

set_option maxRecDepth 16384

noncomputable section

namespace Cert.Ret.Ref

open Cert.RetRefIdeal Cert.RetRefIdeal.Gen Cert.RetRefIdeal.Read Idealize.ShloMosaic Idealize.ShloMosaic.TcCoe Idealize.SL.Sem

abbrev Arg0 : Type := FVec Ideal S4096x3072 .f32
abbrev Arg1 : Type := FVec Ideal S4096x1024 .f32

def proj (x : Arg0) : Fin 4096 → Fin 3072 → EReal := fun r c => x (ix2 r c)
def cot (y : Arg1) : Fin 4096 → Fin 1024 → EReal := fun r c => y (ix2 r c)

theorem angle_q (r : Fin 4096) (x : Fin 64) : val_main_v21 (F := Ideal) (ix2 r x) = angle r.val x.val := by
  unfold val_main_v21 val_main_v20 val_main_v19 val_main_v18 val_main_v17 val_main_v16 val_main_v15 val_main_v14 val_main_cst_0 val_main_v13
    val_main_v12 val_main_cst val_main_v11 val_main_v10 val_main_v8
  pointwise
  rfl

theorem angle_k (r : Fin 4096) (x : Fin 64) : val_main_v51 (F := Ideal) (ix2 r x) = angle r.val x.val := by
  unfold val_main_v51 val_main_v50 val_main_v49 val_main_v48 val_main_v47 val_main_v46 val_main_v45 val_main_v44 val_main_cst_2 val_main_v43
    val_main_v42 val_main_cst_1 val_main_v41 val_main_v40 val_main_v8
  pointwise
  rfl

/-- A row of one head, rotated. -/
def rotated (y : Fin 128 → EReal) (a : ℕ → EReal) (d : Fin 128) : EReal :=
  y d * Ideal.cos (a (d.val % 64)) + y (other d) * if d.val < 64 then -Ideal.sin (a (d.val % 64)) else Ideal.sin (a (d.val % 64))

theorem halves (y : Fin 128 → EReal) (a : ℕ → EReal) (d : Fin 128) :
    (if h : d.val < 64 then
        y d * Ideal.cos (a d.val) - y ⟨64 + d.val, by omega⟩ * Ideal.sin (a d.val)
      else y ⟨d.val - 64, by omega⟩ * Ideal.sin (a (d.val - 64)) + y ⟨64 + (d.val - 64), by omega⟩ * Ideal.cos (a (d.val - 64)))
      = rotated y a d := by
  unfold rotated
  split
  next h =>
    rw [Nat.mod_eq_of_lt h, mul_neg, sub_eq_add_neg, show other d = ⟨64 + d.val, by omega⟩ from Fin.ext (by simp only [other]; omega)]
  next h =>
    rw [show d.val % 64 = d.val - 64 by omega, show other d = ⟨d.val - 64, by omega⟩ from Fin.ext (by simp only [other]; omega),
      show (⟨64 + (d.val - 64), _⟩ : Fin 128) = d from Fin.ext (by simp only; omega), add_comm]

theorem rotated_q (x0 : Arg0) (n : Fin 32) (i : Fin 128) (h : Fin 4) (d : Fin 128) :
    val_main_v38 (F := Ideal) x0 (ix4 0 (row n i) h d) = rot (cosT n) (sinT n) (part (proj x0) 0 n h) i d := by
  have col_at (e : Fin 128) (he) : x0 (ix2 (row n i) ⟨h.val * 128 + e.val, he⟩) = part (proj x0) 0 n h i e :=
    congrArg x0 (congrArg (ix2 (row n i)) (Fin.ext (by simp only [col]; omega)))
  refine Eq.trans ?_ (halves (part (proj x0) 0 n h i) (angle (row n i).val) d)
  unfold val_main_v38 val_main_v37 val_main_v36 val_main_v35 val_main_v34 val_main_v33 val_main_v32 val_main_v31 val_main_v30 val_main_v29 val_main_v28 val_main_v27 val_main_v26 val_main_v25 val_main_v24 val_main_v23 val_main_v22 val_main_v9 val_main_v1 val_main_v0
  pointwise
  simp only [angle_q]
  split
  · exact congrArg₂ (· - ·) (congrArg (· * _) (col_at d _)) (congrArg (· * _) (col_at ⟨64 + d.val, by omega⟩ _))
  · exact congrArg₂ (· + ·) (congrArg (· * _) (col_at ⟨d.val - 64, by omega⟩ _)) (congrArg (· * _) (col_at ⟨64 + (d.val - 64), by omega⟩ _))

theorem q_at (x0 : Arg0) (n : Fin 32) (i : Fin 128) (h : Fin 4) (d : Fin 128) :
    val_main_v80 (F := Ideal) x0 (ix5 0 n i h d) = qT (proj x0) n h i d := by
  unfold val_main_v80
  pointwise
  have e : (⟨n.val * 128 + i.val, by omega⟩ : Fin 4096) = row n i := Fin.ext (by simp only [row]; omega)
  rw [e, rotated_q]
  rfl

theorem rotated_k (x0 : Arg0) (n : Fin 32) (i : Fin 128) (h : Fin 4) (d : Fin 128) :
    val_main_v68 (F := Ideal) x0 (ix4 0 (row n i) h d) = rot (cosT n) (sinT n) (part (proj x0) 1 n h) i d := by
  have col_at (e : Fin 128) (he) : x0 (ix2 (row n i) ⟨512 + (h.val * 128 + e.val), he⟩) = part (proj x0) 1 n h i e :=
    congrArg x0 (congrArg (ix2 (row n i)) (Fin.ext (by simp only [col]; omega)))
  refine Eq.trans ?_ (halves (part (proj x0) 1 n h i) (angle (row n i).val) d)
  unfold val_main_v68 val_main_v67 val_main_v66 val_main_v65 val_main_v64 val_main_v63 val_main_v62 val_main_v61 val_main_v60 val_main_v59 val_main_v58 val_main_v57 val_main_v56 val_main_v55 val_main_v54 val_main_v53 val_main_v52 val_main_v39 val_main_v3 val_main_v2
  pointwise
  simp only [angle_k]
  split
  · exact congrArg₂ (· - ·) (congrArg (· * _) (col_at d _)) (congrArg (· * _) (col_at ⟨64 + d.val, by omega⟩ _))
  · exact congrArg₂ (· + ·) (congrArg (· * _) (col_at ⟨d.val - 64, by omega⟩ _)) (congrArg (· * _) (col_at ⟨64 + (d.val - 64), by omega⟩ _))

theorem k_at (x0 : Arg0) (n : Fin 32) (i : Fin 128) (h : Fin 4) (d : Fin 128) :
    val_main_v81 (F := Ideal) x0 (ix5 0 n i h d) = kT (proj x0) n h i d := by
  unfold val_main_v81 val_main_v79 val_main_v78 val_main_cst_5
  pointwise
  have e : (⟨n.val * 128 + i.val, by omega⟩ : Fin 4096) = row n i := Fin.ext (by simp only [row]; omega)
  rw [e, rotated_k]
  rfl

theorem v_at (x0 : Arg0) (n : Fin 32) (i : Fin 128) (h : Fin 4) (d : Fin 128) :
    val_main_v82 (F := Ideal) x0 (ix5 0 n i h d) = part (proj x0) 2 n h i d := by
  unfold val_main_v82 val_main_v69 val_main_v5 val_main_v4
  pointwise
  exact congrArg x0 (congrArg₂ ix2 (Fin.ext (by simp only [row]; omega)) (Fin.ext (by simp only [col]; omega)))

theorem lg_at (h : Fin 4) : val_main_v77 (F := Ideal) (ix1 h) = lg h := by
  unfold val_main_v77 val_main_v76 val_main_v75 val_main_v74 val_main_v73 val_main_cst_4 val_main_v72 val_main_v71 val_main_cst_3 val_main_v70
  pointwise
  rfl

theorem zero_word : (FloatOps.ofBits FTy.f32 0#32 : Ideal .f32) = (0 : EReal) := Ideal.ofBits_zero_f32

theorem dm_at (h : Fin 4) (i j : Fin 128) : val_main_v98 (F := Ideal) (ix3 h i j) = dmT h i j := by
  unfold val_main_v98 val_main_call1_v2 val_main_call1_v1 val_main_call1_v0 val_main_cst_8 val_main_v97 val_main_v96 val_main_v95 val_main_v94
    val_main_v93 val_main_v92 val_main_call0_v1 val_main_call0_v0 val_main_cst_7 val_main_v91 val_main_v90 val_main_v89 val_main_cst_6
    val_main_v88 val_main_v87 val_main_v86 val_main_v85 val_main_v84 val_main_v83
  pointwise
  simp only [lg_at, id_eq, constant_apply, zero_word]
  rfl

theorem dm_wide (h : Fin 4) (i j : Fin 128) : val_main_v100 (F := Ideal) (ix5 0 0 h i j) = dmT h i j := by
  unfold val_main_v100
  pointwise
  exact dm_at h i j

theorem qd_at (h : Fin 4) (i : Fin 128) : val_main_v333 (F := Ideal) (ix5 0 0 i h 0) = qdE h i := by
  unfold val_main_v333 val_main_v332 val_main_v112 val_main_v111 val_main_v110 val_main_v109 val_main_v108 val_main_v107 val_main_cst_9
    val_main_v106 val_main_v105 val_main_v83
  pointwise
  rw [lg_at]
  rfl

theorem kd_at (h : Fin 4) (i : Fin 128) : val_main_v125 (F := Ideal) (ix5 0 0 i h 0) = kdE h i := by
  unfold val_main_v125 val_main_v124 val_main_v120 val_main_v119 val_main_v118 val_main_v117 val_main_v116 val_main_v115 val_main_cst_10
    val_main_v114 val_main_v113 val_main_v83
  pointwise
  rw [lg_at]
  rfl

theorem cg_at (h : Fin 4) : val_main_v131 (F := Ideal) (ix4 0 h 0 0) = cgE h := by
  unfold val_main_v131 val_main_v123 val_main_v122 val_main_v121 val_main_cst_11
  pointwise
  rw [lg_at]
  rfl

theorem kd_k (x0 : Arg0) (n : Fin 32) (i : Fin 128) (h : Fin 4) (d : Fin 128) :
    val_main_v127 (F := Ideal) x0 (ix5 0 n i h d) = kT (proj x0) n h i d * kdT h i d := by
  unfold val_main_v127 val_main_v126
  pointwise
  rw [k_at, kd_at]
  rfl

theorem qd_q (x0 : Arg0) (n : Fin 32) (i : Fin 128) (h : Fin 4) (d : Fin 128) :
    val_main_v335 (F := Ideal) x0 (ix5 0 n i h d) = qT (proj x0) n h i d * qdT h i d := by
  unfold val_main_v335 val_main_v334
  pointwise
  rw [q_at, qd_at]
  rfl

theorem scores (x0 : Arg0) (n : Fin 32) (h : Fin 4) (i j : Fin 128) :
    val_main_v102 (F := Ideal) x0 (ix5 0 n h i j) = (∑ d, qT (proj x0) n h i d * kT (proj x0) n h j d) * dmT h i j := by
  unfold val_main_v102 val_main_v101 val_main_v99
  pointwise [dot_S1x32x128x4x128_S1x32x128x4x128_S1x32x4x128x128_4_4_2_2_013_013]
  simp only [q_at, k_at, dm_wide]

end Cert.Ret.Ref

end
-- ==== Proof.Ret.Scan.lean ====
/-
The plain program's two scans: the states before the chunks, and their gradients.
-/
module

public import proofs.«01_k».proof.Proof.Ret.Rotations
public import Idealize.ShloMosaic.Lib.Pointwise

@[expose] public section

set_option maxRecDepth 16384

noncomputable section

namespace Cert.Ret.Ref

open Cert.RetRefIdeal Cert.RetRefIdeal.Gen Cert.RetRefIdeal.Read Idealize.ShloMosaic Idealize.ShloMosaic.TcCoe Idealize.SL.Sem

abbrev Wide5 : Type := FVec Ideal S32x1x4x128x128 .f32
abbrev One4 : Type := FVec Ideal S1x4x128x128 .f32
abbrev One5 : Type := FVec Ideal S1x1x4x128x128 .f32

theorem chunk_slices (n : Fin 32) : S32x1x4x128x128.Slices ![n.val, 0, 0, 0, 0] S1x1x4x128x128 := by
  revert n; decide +kernel

/-- Chunk `n` of a stack. -/
def chunk (u : Wide5) (n : Fin 32) : One4 :=
  shapeCast S1x4x128x128 (extractStridedSlice S1x1x4x128x128 ![n.val, 0, 0, 0, 0] u (chunk_slices n)) shapeCasts_S1x1x4x128x128_S1x4x128x128

theorem chunk_at (u : Wide5) (n : Fin 32) (h : Fin 4) (d e : Fin 128) : chunk u n (ix4 0 h d e) = u (ix5 n 0 h d e) := by
  unfold chunk
  pointwise

/-- The decayed state. -/
def decayed (S : One4) : One4 :=
  mulf (broadcastInDim S1x4x128x128 ![0, 1, 2, 3] bcast_S1x4x1x1_S1x4x128x128_0_1_2_3 (val_main_v131 (F := Ideal))) S

theorem decayed_at (S : One4) (h : Fin 4) (d e : Fin 128) : decayed S (ix4 0 h d e) = cgT h d e * S (ix4 0 h d e) := by
  unfold decayed
  pointwise
  rw [cg_at]
  rfl

/-- A state as one piece of a stack. -/
def lift (S : One4) : One5 := broadcastInDim S1x1x4x128x128 ![1, 2, 3, 4] bcast_S1x4x128x128_S1x1x4x128x128_1_2_3_4 S

theorem lift_at (S : One4) (h : Fin 4) (d e : Fin 128) : lift S (ix5 0 0 h d e) = S (ix4 0 h d e) := by
  unfold lift
  pointwise

/-- Sixteen pieces stacked. -/
def stack (f : Fin 16 → One5) : FVec Ideal S16x1x4x128x128 .f32 :=
  concatenate S16x1x4x128x128 0
    [⟨S1x1x4x128x128, f 0⟩, ⟨S1x1x4x128x128, f 1⟩, ⟨S1x1x4x128x128, f 2⟩, ⟨S1x1x4x128x128, f 3⟩, ⟨S1x1x4x128x128, f 4⟩, ⟨S1x1x4x128x128, f 5⟩, ⟨S1x1x4x128x128, f 6⟩, ⟨S1x1x4x128x128, f 7⟩, ⟨S1x1x4x128x128, f 8⟩, ⟨S1x1x4x128x128, f 9⟩, ⟨S1x1x4x128x128, f 10⟩, ⟨S1x1x4x128x128, f 11⟩, ⟨S1x1x4x128x128, f 12⟩, ⟨S1x1x4x128x128, f 13⟩, ⟨S1x1x4x128x128, f 14⟩, ⟨S1x1x4x128x128, f 15⟩]
    concatenates_S1x1x4x128x128_S1x1x4x128x128_S1x1x4x128x128_S1x1x4x128x128_S1x1x4x128x128_S1x1x4x128x128_S1x1x4x128x128_S1x1x4x128x128_S1x1x4x128x128_S1x1x4x128x128_S1x1x4x128x128_S1x1x4x128x128_S1x1x4x128x128_S1x1x4x128x128_S1x1x4x128x128_S1x1x4x128x128_S16x1x4x128x128_d0

theorem stack_at (f : Fin 16 → One5) (k : Fin 16) (h : Fin 4) (d e : Fin 128) : stack f (ix5 k 0 h d e) = f k (ix5 0 0 h d e) := by
  unfold stack
  fin_cases k <;> pointwise

/-- The states the forward scan passes. -/
def fwd (x0 : Arg0) : Fin 32 → One4 :=
  ![val_main_v129 (F := Ideal), val_main_v139 (F := Ideal) x0, val_main_v144 (F := Ideal) x0, val_main_v149 (F := Ideal) x0, val_main_v154 (F := Ideal) x0, val_main_v159 (F := Ideal) x0, val_main_v164 (F := Ideal) x0, val_main_v169 (F := Ideal) x0, val_main_v174 (F := Ideal) x0, val_main_v179 (F := Ideal) x0, val_main_v184 (F := Ideal) x0, val_main_v189 (F := Ideal) x0, val_main_v194 (F := Ideal) x0, val_main_v199 (F := Ideal) x0, val_main_v204 (F := Ideal) x0, val_main_v209 (F := Ideal) x0, val_main_v214 (F := Ideal) x0, val_main_v219 (F := Ideal) x0, val_main_v224 (F := Ideal) x0, val_main_v229 (F := Ideal) x0, val_main_v234 (F := Ideal) x0, val_main_v239 (F := Ideal) x0, val_main_v244 (F := Ideal) x0, val_main_v249 (F := Ideal) x0, val_main_v254 (F := Ideal) x0, val_main_v259 (F := Ideal) x0, val_main_v264 (F := Ideal) x0, val_main_v269 (F := Ideal) x0, val_main_v274 (F := Ideal) x0, val_main_v279 (F := Ideal) x0, val_main_v284 (F := Ideal) x0, val_main_v289 (F := Ideal) x0]

theorem fwd_succ (x0 : Arg0) (n : Fin 31) :
    fwd x0 n.succ = addf (decayed (fwd x0 n.castSucc)) (chunk (val_main_v133 (F := Ideal) x0) n.castSucc) := by
  fin_cases n <;> rfl

theorem low_eq (x0 : Arg0) : val_main_v327 (F := Ideal) x0 = stack (fun k => lift (fwd x0 ⟨k.val, by omega⟩)) := rfl
theorem high_eq (x0 : Arg0) : val_main_v328 (F := Ideal) x0 = stack (fun k => lift (fwd x0 ⟨16 + k.val, by omega⟩)) := rfl

theorem stacked (x0 : Arg0) (n : Fin 32) (h : Fin 4) (d e : Fin 128) :
    val_main_v331 (F := Ideal) x0 (ix5 0 n h d e) = fwd x0 n (ix4 0 h d e) := by
  unfold val_main_v331 val_main_v330 val_main_v329
  rw [low_eq, high_eq]
  pointwise
  rw [dif_neg (Nat.not_lt_zero _)]
  split
  · rw [stack_at, lift_at]
  next hn =>
    rw [stack_at, lift_at, show (⟨16 + (n.val - 16), _⟩ : Fin 32) = n from Fin.ext (by simp only; omega)]

theorem adds (x0 : Arg0) (n : Fin 32) (h : Fin 4) (d e : Fin 128) :
    val_main_v133 (F := Ideal) x0 (ix5 n 0 h d e) = kv (proj x0) n h d e := by
  unfold val_main_v133 val_main_v130 val_main_v128
  pointwise [dot_S1x32x128x4x128_S1x32x128x4x128_S1x32x4x128x128_2_2_4_4_013_013]
  simp only [kd_k, v_at]
  rfl

theorem fwd_at (x0 : Arg0) (n : ℕ) (hn : n < 32) (h : Fin 4) (d e : Fin 128) : fwd x0 ⟨n, hn⟩ (ix4 0 h d e) = St (proj x0) n h d e := by
  induction n with
  | zero =>
    show val_main_v129 (F := Ideal) (ix4 0 h d e) = _
    unfold val_main_v129 val_main_cst_12
    pointwise
    rfl
  | succ n ih =>
    refine (congrFun (fwd_succ x0 ⟨n, by omega⟩) _).trans ?_
    show decayed _ _ + chunk _ _ _ = _
    rw [decayed_at, chunk_at, adds]
    show _ * fwd x0 ⟨n, _⟩ _ + _ = _
    rw [ih (by omega)]
    have e : n % 32 = n := Nat.mod_eq_of_lt (by omega)
    simp only [St, e]
    rfl

theorem state_at (x0 : Arg0) (n : Fin 32) (h : Fin 4) (d e : Fin 128) :
    val_main_v331 (F := Ideal) x0 (ix5 0 n h d e) = St (proj x0) n.val h d e :=
  (stacked x0 n h d e).trans (fwd_at x0 n.val n.isLt h d e)

/-- The attended rows. -/
theorem attended (x0 : Arg0) (n : Fin 32) (i : Fin 128) (h : Fin 4) (e : Fin 128) :
    val_main_v338 (F := Ideal) x0 (ix5 0 n i h e) = oT (proj x0) n h i e := by
  unfold val_main_v338 val_main_v337 val_main_v336 val_main_v104 val_main_v103
  pointwise [dot_S1x32x128x4x128_S1x32x4x128x128_S1x32x4x128x128_2_4_4_3_013_012, dot_S1x32x4x128x128_S1x32x128x4x128_S1x32x4x128x128_3_4_4_2_012_013]
  simp only [state_at, qd_q, v_at, scores]
  exact congrArg₂ (· + ·) (Finset.sum_congr rfl fun j _ => mul_comm _ _) (Finset.sum_congr rfl fun j _ => mul_comm _ _)

end Cert.Ret.Ref

end
-- ==== Proof.Silu.lean ====
/- The gradient of `x · σ(x)`: the kernels' one product is the derivative's sum, for a finite cotangent. -/
module

public import proofs.«01_k».proof.Proof.RmsGrad

@[expose] public section

noncomputable section

namespace Cert.Silu

open Idealize.ShloMosaic

/-- The logistic function as the host spells it. -/
theorem host_logistic (x : EReal) : Ideal.div 1 (1 + Ideal.exp (-x)) = Ideal.logistic x := rfl

theorem silu_grad (c : ℝ) (g : EReal) :
    (c : EReal) * (Ideal.logistic g * (1 + g * (1 - Ideal.logistic g)))
      = (c : EReal) * Ideal.logistic g + g * (c : EReal) * (Ideal.logistic g * (1 - Ideal.logistic g)) := by
  induction g with
  | coe g =>
    rw [Ideal.logistic_coe]
    norm_cast
    ring
  | top =>
    rw [Ideal.logistic_top]
    have h : (1 : EReal) - 1 = 0 := by rw [← EReal.coe_one, ← EReal.coe_sub]; simp
    rw [h]; simp
  | bot => rw [Ideal.logistic_bot]; simp

/-- A normalised entry is a real number, whatever the row. -/
theorem norm_real {n : ℕ} (N eps : ℝ) (hN : 0 < N) (he : 0 < eps) (o : Fin n → EReal) (e : Fin n) :
    ∃ x : ℝ, o e * RmsGrad.rinv (N : EReal) (eps : EReal) o = (x : EReal) := by
  by_cases hfin : ∀ k, ∃ x : ℝ, o k = (x : EReal)
  · obtain ⟨ρ, hρ⟩ := RmsGrad.rinv_real N eps hN he o hfin
    obtain ⟨x, hx⟩ := hfin e
    exact ⟨x * ρ, by rw [hx, hρ]; norm_cast⟩
  · exact ⟨0, by rw [RmsGrad.rinv_zero N eps hN o hfin]; simp⟩

end Cert.Silu

end
-- ==== Proof.Ret.Gate.lean ====
/-
The plain program's gate, and the gradient of the attended rows.
-/
module

public import proofs.«01_k».proof.Proof.Ret.Scan
public import proofs.«01_k».proof.Proof.Silu
public import Idealize.ShloMosaic.Lib.Pointwise

@[expose] public section

set_option maxRecDepth 16384

noncomputable section

namespace Cert.Ret.Ref

open Cert.RetRefIdeal Cert.RetRefIdeal.Gen Cert.RetRefIdeal.Read Idealize.ShloMosaic Idealize.ShloMosaic.TcCoe Idealize.SL.Sem

theorem N_real : N = ((128 : ℝ) : EReal) := by
  simp [N, Ideal.ofBits, Ideal.ieee, -EReal.coe_mul]
  norm_num

theorem eps_real : eps = ((8796093 / 8796093022208 : ℝ) : EReal) := by
  simp [eps, Ideal.ofBits, Ideal.ieee, -EReal.coe_mul]
  norm_num

theorem eps_pos : (0 : ℝ) < 8796093 / 8796093022208 := by norm_num

theorem half_real : Ideal.ofBits .f32 0xBF000000#32 = ((-1 / 2 : ℝ) : EReal) := by
  simp [Ideal.ofBits, Ideal.ieee, -EReal.coe_mul]
  norm_num

/-- A sum over two axes of size one is its one term. -/
theorem sum_units (u : S1x4096x4x1.ReducesTo [0, 3] S4096x4) (v : S1x4096x4x1.Idx → EReal) (z : EReal) (r : Fin 4096) (h : Fin 4) :
    Ideal.hostReduceAdd u v z (ix2 r h) = z + v (ix4 0 r h 0) := by
  unfold Ideal.hostReduceAdd
  rw [show Finset.univ.filter (fun i => u.drop i = ix2 r h) = {(ix4 0 r h 0 : S1x4096x4x1.Idx)} from ?_, Finset.sum_singleton]
  ext i
  obtain ⟨a, b, c, d, rfl⟩ : ∃ (a : Fin 1) (b : Fin 4096) (c : Fin 4) (d : Fin 1), i = ix4 a b c d :=
    ⟨i 0, i 1, i 2, i 3, eq_ix4 (n0 := 1) (n1 := 4096) (n2 := 4) (n3 := 1) i⟩
  have e : u.drop (ix4 a b c d) = ix2 b c := funext fun k => by fin_cases k <;> rfl
  rw [Finset.mem_filter, e, Finset.mem_singleton, Subsingleton.elim a 0, Subsingleton.elim d 0]
  constructor
  · intro hh
    rw [show b = r from congrFun hh.2 0, show c = h from congrFun hh.2 1]
  · intro hh
    exact ⟨Finset.mem_univ _, by rw [show b = r from congrFun hh 1, show c = h from congrFun hh 2]⟩

theorem row_div (n : Fin 32) (i : Fin 128) (h) : (⟨(row n i).val / 128, h⟩ : Fin 32) = n := Fin.ext (by simp only [row]; omega)
theorem row_mod (n : Fin 32) (i : Fin 128) (h) : (⟨(row n i).val % 128, h⟩ : Fin 128) = i := Fin.ext (by simp only [row]; omega)

variable (x0 : Arg0) (x1 : Arg1) (n : Fin 32) (i : Fin 128) (h : Fin 4)

theorem o_at (e : Fin 128) : val_main_v339 (F := Ideal) x0 (ix4 0 (row n i) h e) = oT (proj x0) n h i e := by
  unfold val_main_v339
  pointwise
  rw [row_div, row_mod, attended]

theorem mean_at : val_main_v346 (F := Ideal) x0 (ix4 0 (row n i) h 0) = RmsGrad.meanSq N eps (oT (proj x0) n h i) := by
  unfold val_main_v346 val_main_v345 val_main_cst_16 val_main_v344 val_main_v343 val_main_cst_15 val_main_v342 val_main_v341 val_main_v340
    val_main_cst_14
  pointwise
  simp only [o_at]
  rfl

theorem rinv_at : val_main_v347 (F := Ideal) x0 (ix4 0 (row n i) h 0) = RmsGrad.rinv N eps (oT (proj x0) n h i) := by
  unfold val_main_v347
  pointwise
  rw [mean_at]
  rfl

/-- Feature `d` of head `h` of the joined heads. -/
def lane (h : Fin 4) (d : Fin 128) : Fin 512 := ⟨h.val * 128 + d.val, by omega⟩

theorem normed (e : Fin 128) : val_main_v353 (F := Ideal) x0 (ix3 0 (row n i) (lane h e))
    = oT (proj x0) n h i e * RmsGrad.rinv N eps (oT (proj x0) n h i) := by
  unfold val_main_v353 val_main_v352 val_main_v351 lane
  pointwise
  simp only [o_at, rinv_at]
  done

theorem gate_at (e : Fin 128) : val_main_v7 (F := Ideal) x0 (ix3 0 (row n i) (lane h e)) = part (proj x0) 3 n h i e := by
  unfold val_main_v7 val_main_v6 lane
  pointwise
  exact congrArg x0 (congrArg₂ ix2 rfl (Fin.ext (by simp only [col]; omega)))

theorem logistic_at (e : Fin 128) : val_main_v354_2 (F := Ideal) x0 (ix3 0 (row n i) (lane h e)) = Ideal.logistic (part (proj x0) 3 n h i e) := by
  unfold val_main_v354_2 val_main_call2_v4 val_main_call2_cst_0 val_main_call2_v3 val_main_call2_v2 val_main_call2_cst val_main_call2_v1 val_main_call2_v0
  pointwise
  rw [gate_at]
  exact Silu.host_logistic _

theorem ct_at (e : Fin 128) : val_main_v357 (F := Ideal) x1 (ix3 0 (row n i) (lane h e)) = ctT (cot x1) n h i e := by
  unfold val_main_v357 val_main_v356 lane
  pointwise
  exact congrArg x1 (congrArg₂ ix2 rfl (Fin.ext (by simp only [colY]; omega)))

/-- The gate's gradient. -/
theorem dg_at (hy : ∀ r c, ∃ y : ℝ, cot x1 r c = (y : EReal)) (e : Fin 128) :
    val_main_v361 (F := Ideal) x0 x1 (ix3 0 (row n i) (lane h e)) = dG (part (proj x0) 3 n h) (oT (proj x0) n h) (ctT (cot x1) n h) i e := by
  unfold val_main_v361 val_main_call3_v2 val_main_call3_v1 val_main_call3_v0 val_main_v359 val_main_v354_1 val_main_call2_v7 val_main_call2_v6
    val_main_call2_cst_1
  pointwise
  simp only [gate_at, logistic_at, ct_at, normed]
  obtain ⟨y, ey⟩ := hy (row n i) (colY h e)
  obtain ⟨z, ez⟩ := Silu.norm_real 128 _ (by norm_num) eps_pos (oT (proj x0) n h i) e
  have ec : oT (proj x0) n h i e * RmsGrad.rinv N eps (oT (proj x0) n h i) * ctT (cot x1) n h i e = ((z * y : ℝ) : EReal) := by
    rw [N_real, eps_real, ez, show ctT (cot x1) n h i e = (y : EReal) from ey]
    norm_cast
  rw [ec, ← Silu.silu_grad, ← ec]
  unfold dG
  rw [mul_comm (ctT (cot x1) n h i e)]

theorem gated_at (e : Fin 128) : val_main_v362 (F := Ideal) x0 x1 (ix4 0 (row n i) h e) = gated (part (proj x0) 3 n h) (ctT (cot x1) n h) i e := by
  unfold val_main_v362 val_main_v360 val_main_v354_0
  pointwise
  have g := gate_at x0 n i h e
  have l := logistic_at x0 n i h e
  have c := ct_at x1 n i h e
  unfold lane at g l c
  rw [g, l, c]
  rfl

/-- The attended rows' gradient. -/
theorem do_at (e : Fin 128) : val_main_v378 (F := Ideal) x0 x1 (ix5 0 n i h e) = wT (proj x0) (cot x1) n h i e := by
  have e4 : val_main_v378 (F := Ideal) x0 x1 (ix5 0 n i h e) = val_main_v377 (F := Ideal) x0 x1 (ix4 0 (row n i) h e) := by
    unfold val_main_v378
    pointwise
    exact congrArg (val_main_v377 (F := Ideal) x0 x1) (congrArg (fun r => ix4 0 r h e) (Fin.ext (by simp only [row]; omega)))
  have inn : val_main_v371 (F := Ideal) x0 x1 (ix2 (row n i) h)
      = RmsGrad.inner N eps (Ideal.ofBits .f32 0xBF000000#32) (oT (proj x0) n h i) (gated (part (proj x0) 3 n h) (ctT (cot x1) n h) i) := by
    refine (sum_units reducesTo_S1x4096x4x1_S4096x4_d0_3 (val_main_v370 (F := Ideal) x0 x1) _ (row n i) h).trans ?_
    unfold val_main_cst_21 val_main_v370
      val_main_v369 val_main_cst_20 val_main_v368 val_main_v365 val_main_v364 val_main_cst_19 val_main_v363 val_main_v350
      val_main_v349 val_main_cst_17 val_main_v348
    pointwise
    simp only [o_at, rinv_at, mean_at, gated_at]
    rfl
  rw [e4]
  unfold val_main_v377 val_main_v376 val_main_v375 val_main_v374 val_main_v373 val_main_v372 val_main_v367 val_main_v366
  pointwise
  simp only [o_at, rinv_at, gated_at, inn]
  unfold wT dO
  rw [N_real, eps_real, half_real, RmsGrad.grad_eq 128 _ (by norm_num) eps_pos]

end Cert.Ret.Ref

end
-- ==== Proof.Ret.Reference.lean ====
/-
The plain program's array is the gradient.
-/
module

public import proofs.«01_k».proof.Proof.Ret.Gate
public import Idealize.ShloMosaic.Lib.Pointwise

@[expose] public section

set_option maxRecDepth 16384

noncomputable section

namespace Cert.Ret.Ref

open Cert.RetRefIdeal Cert.RetRefIdeal.Gen Cert.RetRefIdeal.Read Idealize.ShloMosaic Idealize.ShloMosaic.TcCoe Idealize.SL.Sem

/-- The states' gradients after the chunks, which the backward scan passes last to first. -/
def late (x0 : Arg0) (x1 : Arg1) : Fin 32 → One4 :=
  ![val_main_v545 (F := Ideal) x0 x1, val_main_v540 (F := Ideal) x0 x1, val_main_v535 (F := Ideal) x0 x1, val_main_v530 (F := Ideal) x0 x1, val_main_v525 (F := Ideal) x0 x1, val_main_v520 (F := Ideal) x0 x1, val_main_v515 (F := Ideal) x0 x1, val_main_v510 (F := Ideal) x0 x1, val_main_v505 (F := Ideal) x0 x1, val_main_v500 (F := Ideal) x0 x1, val_main_v495 (F := Ideal) x0 x1, val_main_v490 (F := Ideal) x0 x1, val_main_v485 (F := Ideal) x0 x1, val_main_v480 (F := Ideal) x0 x1, val_main_v475 (F := Ideal) x0 x1, val_main_v470 (F := Ideal) x0 x1, val_main_v465 (F := Ideal) x0 x1, val_main_v460 (F := Ideal) x0 x1, val_main_v455 (F := Ideal) x0 x1, val_main_v450 (F := Ideal) x0 x1, val_main_v445 (F := Ideal) x0 x1, val_main_v440 (F := Ideal) x0 x1, val_main_v435 (F := Ideal) x0 x1, val_main_v430 (F := Ideal) x0 x1, val_main_v425 (F := Ideal) x0 x1, val_main_v420 (F := Ideal) x0 x1, val_main_v415 (F := Ideal) x0 x1, val_main_v410 (F := Ideal) x0 x1, val_main_v405 (F := Ideal) x0 x1, val_main_v400 (F := Ideal) x0 x1, val_main_v395 (F := Ideal) x0 x1, val_main_v387 (F := Ideal)]

variable (x0 : Arg0) (x1 : Arg1)

theorem late_pred (n : Fin 31) :
    late x0 x1 n.castSucc = addf (chunk (val_main_v388 (F := Ideal) x0 x1) n.succ) (decayed (late x0 x1 n.succ)) := by
  fin_cases n <;> rfl

theorem low_grad : val_main_v583 (F := Ideal) x0 x1 = stack (fun k => lift (late x0 x1 ⟨k.val, by omega⟩)) := rfl
theorem high_grad : val_main_v584 (F := Ideal) x0 x1 = stack (fun k => lift (late x0 x1 ⟨16 + k.val, by omega⟩)) := rfl

theorem stacked_grad (n : Fin 32) (h : Fin 4) (d e : Fin 128) :
    val_main_v587 (F := Ideal) x0 x1 (ix5 0 n h d e) = late x0 x1 n (ix4 0 h d e) := by
  unfold val_main_v587 val_main_v586 val_main_v585
  rw [low_grad, high_grad]
  pointwise
  split
  · rw [stack_at, lift_at]
  next hn =>
    rw [stack_at, lift_at, show (⟨16 + (n.val - 16), _⟩ : Fin 32) = n from Fin.ext (by simp only; omega)]

theorem adds_grad (n : Fin 32) (h : Fin 4) (d e : Fin 128) :
    val_main_v388 (F := Ideal) x0 x1 (ix5 n 0 h d e) = ∑ i, qT (proj x0) n h i d * qdT h i d * wT (proj x0) (cot x1) n h i e := by
  unfold val_main_v388 val_main_v386 val_main_v383 val_main_v382 val_main_v379
  pointwise [dot_S1x32x4x128x128_S1x32x128x4x128_S1x32x4x128x128_4_2_3_4_012_013]
  simp only [qd_q, do_at]
  exact Finset.sum_congr rfl fun i _ => mul_comm _ _

theorem late_at (k : ℕ) (n : Fin 32) (hn : n.val + k = 31) (h : Fin 4) (d e : Fin 128) :
    late x0 x1 n (ix4 0 h d e) = Dt (proj x0) (cot x1) k h d e := by
  induction k generalizing n with
  | zero =>
    rw [show n = 31 from Fin.ext hn]
    show val_main_v387 (F := Ideal) (ix4 0 h d e) = _
    unfold val_main_v387 val_main_cst_22
    pointwise
    rfl
  | succ k ih =>
    have hn' : n.val < 31 := by omega
    refine (congrFun (late_pred x0 x1 ⟨n.val, hn'⟩) _).trans ?_
    show chunk _ _ _ + decayed _ _ = _
    rw [decayed_at, chunk_at, adds_grad, ih _ (by simp only [Fin.val_succ]; omega), add_comm]
    have e : Fin.succ ⟨n.val, hn'⟩ = Fin.rev ⟨k % 32, Nat.mod_lt _ (by decide)⟩ := Fin.ext (by simp only [Fin.val_succ, Fin.val_rev]; omega)
    rw [e]
    rfl

theorem after_at (n : Fin 32) (h : Fin 4) (d e : Fin 128) :
    val_main_v587 (F := Ideal) x0 x1 (ix5 0 n h d e) = Dt (proj x0) (cot x1) n.rev.val h d e :=
  (stacked_grad x0 x1 n h d e).trans (late_at x0 x1 n.rev.val n (by simp only [Fin.val_rev]; omega) h d e)

variable (n : Fin 32) (i : Fin 128) (h : Fin 4)

theorem dv_at (e : Fin 128) : val_main_v598 (F := Ideal) x0 x1 (ix5 0 n i h e)
    = dV (dmT h) (kdT h) (qT (proj x0) n h) (kT (proj x0) n h) (Dt (proj x0) (cot x1) n.rev.val h) (wT (proj x0) (cot x1) n h) i e := by
  unfold val_main_v598 val_main_v597 val_main_v596 val_main_v594 val_main_v589 val_main_v588
  pointwise [dot_S1x32x4x128x128_S1x32x4x128x128_S1x32x4x128x128_4_3_3_4_012_012, dot_S1x32x4x128x128_S1x32x128x4x128_S1x32x4x128x128_3_4_4_2_012_013]
  simp only [do_at, scores, after_at, kd_k]
  rw [add_comm]
  exact congrArg₂ (· + ·) (Finset.sum_congr rfl fun j _ => mul_comm _ _) (Finset.sum_congr rfl fun j _ => mul_comm _ _)

theorem dP_at (j : Fin 128) : val_main_v600 (F := Ideal) x0 x1 (ix5 0 n h i j)
    = dP (dmT h) (part (proj x0) 2 n h) (wT (proj x0) (cot x1) n h) i j := by
  unfold val_main_v600 val_main_v599 val_main_v595 val_main_v594
  pointwise [dot_S1x32x4x128x128_S1x32x128x4x128_S1x32x4x128x128_3_4_4_2_012_013]
  simp only [do_at, v_at, dm_wide]
  rfl

theorem dk_at (d : Fin 128) : val_main_v611 (F := Ideal) x0 x1 (ix4 0 (row n i) h d)
    = dK (dmT h) (kdT h) (qT (proj x0) n h) (part (proj x0) 2 n h) (Dt (proj x0) (cot x1) n.rev.val h) (wT (proj x0) (cot x1) n h) i d := by
  unfold val_main_v611 val_main_v610 val_main_cst_24 val_main_v608
  pointwise
  rw [row_div, row_mod]
  unfold val_main_v603 val_main_v602 val_main_v601 val_main_v593 val_main_v592 val_main_v591 val_main_v590
  pointwise [dot_S1x32x4x128x128_S1x32x128x4x128_S1x32x4x128x128_3_2_4_4_012_013, dot_S1x32x4x128x128_S1x32x128x4x128_S1x32x4x128x128_4_4_3_2_012_013]
  simp only [dP_at, q_at, after_at, v_at, kd_at]
  rw [add_comm]
  exact congrArg (fun x => (_ + x * _) * _) (Finset.sum_congr rfl fun j _ => mul_comm _ _)

theorem dq_at (d : Fin 128) : val_main_v609 (F := Ideal) x0 x1 (ix4 0 (row n i) h d)
    = dQ (dmT h) (qdT h) (kT (proj x0) n h) (part (proj x0) 2 n h) (St (proj x0) n.val h) (wT (proj x0) (cot x1) n h) i d := by
  unfold val_main_v609
  pointwise
  rw [row_div, row_mod]
  unfold val_main_v606 val_main_v605 val_main_v604 val_main_v385 val_main_v384 val_main_v381 val_main_v380 val_main_v379
  pointwise [dot_S1x32x4x128x128_S1x32x128x4x128_S1x32x4x128x128_4_2_3_4_012_013, dot_S1x32x4x128x128_S1x32x4x128x128_S1x32x4x128x128_3_4_4_3_012_012]
  simp only [dP_at, k_at, do_at, state_at, qd_at]
  rw [add_comm]
  rfl

/-- Turning a row back, by halves. -/
theorem back_halves (y : Fin 128 → EReal) (n : Fin 32) (i d : Fin 128) :
    (if h : d.val < 64 then
        y ⟨64 + d.val, by omega⟩ * Ideal.sin (angle (row n i).val d.val) + y d * Ideal.cos (angle (row n i).val d.val)
      else y d * Ideal.cos (angle (row n i).val (d.val - 64)) + -y (other d) * Ideal.sin (angle (row n i).val (d.val - 64)))
      = y d * cosT n i d + y (other d) * sinT n i (other d) := by
  unfold cosT sinT
  split
  next h =>
    have o : other d = ⟨64 + d.val, by omega⟩ := Fin.ext (by simp only [other]; omega)
    rw [o, if_neg (by simp only; omega), add_comm, Nat.mod_eq_of_lt h, show (64 + d.val) % 64 = d.val by omega]
  next h =>
    have o : (other d).val = d.val - 64 := by simp only [other]; omega
    rw [if_pos (by omega), o, show d.val % 64 = d.val - 64 by omega, show (d.val - 64) % 64 = d.val - 64 by omega, neg_mul, mul_neg]

theorem unrope_k (d : Fin 128) : val_main_v628 (F := Ideal) x0 x1 (ix4 0 (row n i) h d) = unrot (cosT n) (sinT n) (dK (dmT h) (kdT h) (qT (proj x0) n h) (part (proj x0) 2 n h) (Dt (proj x0) (cot x1) n.rev.val h) (wT (proj x0) (cot x1) n h)) i d := by
  unfold unrot
  refine Eq.trans ?_ (back_halves _ n i d)
  simp only [← dk_at]
  unfold val_main_v628 val_main_v627 val_main_v626 val_main_v625 val_main_v624 val_main_v623 val_main_v622 val_main_v621 val_main_v620 val_main_v619 val_main_v618 val_main_v617 val_main_v616 val_main_v615 val_main_v614 val_main_v613 val_main_cst_25 val_main_cst_26 val_main_v55 val_main_v54 val_main_v53 val_main_v52
  pointwise
  simp only [angle_k]
  by_cases hd : d.val < 64
  · rw [dif_neg (by omega), dif_pos hd, dif_pos hd, zero_add]
  · rw [dif_pos (by omega), dif_neg hd, dif_neg hd, add_zero, show (⟨64 + (d.val - 64), _⟩ : Fin 128) = d from Fin.ext (by simp only; omega),
      show other d = ⟨d.val - 64, by omega⟩ from Fin.ext (by simp only [other]; omega)]

theorem unrope_q (d : Fin 128) : val_main_v645 (F := Ideal) x0 x1 (ix4 0 (row n i) h d) = unrot (cosT n) (sinT n) (dQ (dmT h) (qdT h) (kT (proj x0) n h) (part (proj x0) 2 n h) (St (proj x0) n.val h) (wT (proj x0) (cot x1) n h)) i d := by
  unfold unrot
  refine Eq.trans ?_ (back_halves _ n i d)
  simp only [← dq_at]
  unfold val_main_v645 val_main_v644 val_main_v643 val_main_v642 val_main_v641 val_main_v640 val_main_v639 val_main_v638 val_main_v637 val_main_v636 val_main_v635 val_main_v634 val_main_v633 val_main_v632 val_main_v631 val_main_v630 val_main_cst_27 val_main_cst_28 val_main_v25 val_main_v24 val_main_v23 val_main_v22
  pointwise
  simp only [angle_q]
  by_cases hd : d.val < 64
  · rw [dif_neg (by omega), dif_pos hd, dif_pos hd, zero_add]
  · rw [dif_pos (by omega), dif_neg hd, dif_neg hd, add_zero, show (⟨64 + (d.val - 64), _⟩ : Fin 128) = d from Fin.ext (by simp only; omega),
      show other d = ⟨d.val - 64, by omega⟩ from Fin.ext (by simp only [other]; omega)]

theorem lane_div (d : Fin 128) (p) : (⟨(lane h d).val / 128, p⟩ : Fin 4) = h := Fin.ext (by simp only [lane]; omega)
theorem lane_mod (d : Fin 128) (p) : (⟨(lane h d).val % 128, p⟩ : Fin 128) = d := Fin.ext (by simp only [lane]; omega)

theorem q_part (d : Fin 128) :
    val_main_v646 (F := Ideal) x0 x1 (ix3 0 (row n i) (lane h d)) = grads (proj x0) (cot x1) n 0 h i d := by
  unfold val_main_v646
  pointwise
  rw [lane_div, lane_mod, unrope_q]
  rfl

theorem k_part (d : Fin 128) :
    val_main_v629 (F := Ideal) x0 x1 (ix3 0 (row n i) (lane h d)) = grads (proj x0) (cot x1) n 1 h i d := by
  unfold val_main_v629
  pointwise
  rw [lane_div, lane_mod, unrope_k]
  rfl

theorem v_part (d : Fin 128) :
    val_main_v612 (F := Ideal) x0 x1 (ix3 0 (row n i) (lane h d)) = grads (proj x0) (cot x1) n 2 h i d := by
  unfold val_main_v612 val_main_v607
  pointwise
  rw [lane_div, lane_mod, row_div, row_mod, dv_at]
  rfl

theorem g_part (hy : ∀ r c, ∃ y : ℝ, cot x1 r c = (y : EReal)) (d : Fin 128) :
    val_main_v361 (F := Ideal) x0 x1 (ix3 0 (row n i) (lane h d)) = grads (proj x0) (cot x1) n 3 h i d :=
  (dg_at x0 x1 n i h hy d).trans rfl

theorem row_eq (r : Fin 4096) : row ⟨r.val / 128, by omega⟩ ⟨r.val % 128, by omega⟩ = r := Fin.ext (by simp only [row]; omega)

theorem lane_eq (x : Fin 2048) (z : Fin 512) (hz : x.val % 512 = z.val) :
    lane ⟨x.val % 512 / 128, by omega⟩ ⟨x.val % 128, by omega⟩ = z := Fin.ext (by simp only [lane]; omega)

theorem reference_array (hy : ∀ r c, ∃ y : ℝ, cot x1 r c = (y : EReal)) :
    val_main_v649 (F := Ideal) x0 x1 = fun y => whole (proj x0) (cot x1) (y 0) (y 1) := by
  funext y
  obtain ⟨r, x, rfl⟩ : ∃ (r : Fin 4096) (x : Fin 2048), y = ix2 r x := ⟨y 0, y 1, eq_ix2 (n0 := 4096) (n1 := 2048) y⟩
  show _ = whole (proj x0) (cot x1) r x
  unfold whole val_main_v649 val_main_v648 val_main_v647
  pointwise
  split
  next h0 =>
    rw [show (⟨x.val / 512, _⟩ : Fin 4) = 0 from Fin.ext (Nat.div_eq_of_lt h0), ← q_part, row_eq, lane_eq x ⟨x.val, h0⟩ (by simp only; omega)]
  next h0 =>
    split
    next h1 =>
      rw [show (⟨x.val / 512, _⟩ : Fin 4) = 1 from Fin.ext (show x.val / 512 = 1 by omega), ← k_part, row_eq, lane_eq x ⟨x.val - 512, h1⟩ (by simp only; omega)]
    next h1 =>
      split
      next h2 =>
        rw [show (⟨x.val / 512, _⟩ : Fin 4) = 2 from Fin.ext (show x.val / 512 = 2 by omega), ← v_part, row_eq,
          lane_eq x ⟨x.val - 512 - 512, h2⟩ (by simp only; omega)]
      next h2 =>
        rw [show (⟨x.val / 512, _⟩ : Fin 4) = 3 from Fin.ext (show x.val / 512 = 3 by omega), ← g_part x0 x1 _ _ _ hy, row_eq,
          lane_eq x ⟨x.val - 512 - 512 - 512, by omega⟩ (by simp only; omega)]

end Cert.Ret.Ref

end
-- ==== Proof.Finite.lean ====
/-
An element whose absolute value is below infinity is a real number.
-/
module

public import Idealize.ShloMosaic.Lib.Pointwise

@[expose] public section

noncomputable section

namespace Cert.Finite

open Idealize.ShloMosaic

theorem infinity : Ideal.ofBits .f32 0x7F800000#32 = (⊤ : EReal) := by
  simp [Ideal.ofBits, Ideal.ieee]

theorem real_of_abs_lt_top {x : EReal} (h : max x (-x) < ⊤) : ∃ y : ℝ, x = (y : EReal) := by
  induction x using EReal.rec with
  | bot => simp at h
  | top => simp at h
  | coe y => exact ⟨y, rfl⟩

/-- The same of the comparison a precondition makes. -/
theorem real_of_bit {x : Ideal .f32}
    (h : BitVec.ofBool (decide ((FloatOps.absf x : Ideal .f32) < (Ideal.ofBits .f32 0x7F800000#32 : EReal))) = 1#1) :
    ∃ y : ℝ, (x : EReal) = (y : EReal) := by
  apply real_of_abs_lt_top
  rw [infinity] at h
  by_contra hn
  have : decide ((FloatOps.absf x : Ideal .f32) < (⊤ : EReal)) = false := decide_eq_false hn
  rw [this] at h
  exact absurd h (by decide)

end Cert.Finite

end
-- ==== Proof.Ret.Claims.lean ====
/-
The claims about the retention's gradient.
-/
module

public import proofs.«01_k».proof.Defs
public import proofs.«01_k».proof.Proof.Ret.Kernel
public import proofs.«01_k».proof.Proof.Ret.Reference
public import proofs.«01_k».proof.Proof.Gen.Ret.Frame
public import proofs.«01_k».proof.Proof.Gen.Pre_pre_ret
public import proofs.«01_k».proof.Proof.Finite
public import Idealize.ShloMosaic.Lib.ReduceAll

@[expose] public section

set_option maxRecDepth 16384

noncomputable section

namespace Cert.Ret.Proof

open Idealize.ShloMosaic Idealize.ShloMosaic.TcCoe Idealize.SL.Sem

theorem reference_frame : Cert.quiescent_RetRefIdeal (hRetRefIdeal := Cert.RetRefIdeal.Gen.facts) := fun m g _ =>
  (θ_run Cert.RetRefIdeal.defs _ _).mono (fun r h => ⟨fun c => (h c).2, sem_eq_zero_of_no_sems (by decide) r.2⟩)
    (Cert.RetRefIdeal.Value.run m g)

/-- The precondition, read at an element: the cotangent is a real number. -/
theorem finite (x0 : Ref.Arg0) (x1 : Ref.Arg1)
    (h : Cert.Pre_pre_ret.fn (F := Ideal) x0 x1 = fun _ => 1#1) (r : Fin 4096) (c : Fin 1024) : ∃ y : ℝ, Ref.cot x1 r c = (y : EReal) := by
  have e := congrFun h (fun a => a.elim0)
  dsimp only [Cert.Pre_pre_ret.fn] at e
  have e' := Host.reduce_andi_all _ _ _ _ _ e (ix2 r c)
  pointwise at e'
  exact Cert.Finite.real_of_bit e'

/-- The gradient of the projection, an array of its entries. -/
def gradient (x0 : Ref.Arg0) (x1 : Ref.Arg1) : FVec Ideal Cert.RetRefIdeal.S4096x2048 .bf16 :=
  fun y => whole (Ref.proj x0) (Ref.cot x1) (y 0) (y 1)

theorem kernel_gradient (m : (ℓ : Loc Cert.RetIdeal.nD Cert.RetIdeal.τ Cert.RetIdeal.sig) → Buf (Elt Ideal) ℓ) (c : Dev Cert.RetIdeal.nD) :
    (Cert.RetIdeal.Gen.dats m 0 c).arrAt 10 Cert.RetIdeal.cfg0.N
      = gradient (m ((c.tc : Thread Cert.RetIdeal.nD Cert.RetIdeal.τ).loc Cert.RetIdeal.main_arg0))
          (m ((c.tc : Thread Cert.RetIdeal.nD Cert.RetIdeal.τ).loc Cert.RetIdeal.main_arg1)) := kernel_array m c

theorem reference_gradient (x0 : Ref.Arg0) (x1 : Ref.Arg1) (h : Cert.Pre_pre_ret.fn (F := Ideal) x0 x1 = fun _ => 1#1) :
    Cert.RetRefIdeal.Read.val_main_v649 (F := Ideal) x0 x1 = gradient x0 x1 := Ref.reference_array x0 x1 (finite x0 x1 h)

theorem algebraic : Cert.algebraic_RetIdeal_RetRefIdeal_pre_pre_ret (hRetIdeal := Cert.RetIdeal.Gen.facts)
    (hRetRefIdeal := Cert.RetRefIdeal.Gen.facts) (hPre_pre_ret := Cert.Pre_pre_ret.Gen.facts) := by
  intro m g m' g' hpre hargs
  refine ⟨fun c => gradient (m ((c.tc : Thread Cert.RetIdeal.nD Cert.RetIdeal.τ).loc Cert.RetIdeal.main_arg0))
    (m ((c.tc : Thread Cert.RetIdeal.nD Cert.RetIdeal.τ).loc Cert.RetIdeal.main_arg1)), ?_, ?_⟩
  · exact (θ_run Cert.RetIdeal.defs _ _).mono (fun r h c => ⟨(h c).1.trans (kernel_gradient m c), (h c).2⟩)
      (Cert.RetIdeal.Value.run_blocks m g)
  · refine (θ_run Cert.RetRefIdeal.defs _ _).mono (fun r h c => ⟨(h c).1.trans ?_, (h c).2⟩) (Cert.RetRefIdeal.Value.run m' g')
    obtain ⟨a0, a1⟩ := hargs c
    exact ((Cert.RetRefIdeal.Read.val_main_v649_eq _).trans
      (congrArg₂ (Cert.RetRefIdeal.Read.val_main_v649 (F := Ideal)) a0 a1)).trans (reference_gradient _ _ (hpre c))

end Cert.Ret.Proof

end
-- ==== Proof.NormGrad.Spec.lean ====
/- The gradient of a norm followed by a product: at one entry of the rows' gradient, at one entry of the weight's. -/
module

public import proofs.«01_k».proof.Proof.RmsGrad

@[expose] public section

noncomputable section

namespace Cert.NormGrad

open Idealize.ShloMosaic

/-- The number of features, and the small constant that keeps the root from zero. -/
abbrev width : EReal := Ideal.ofBits .f32 0x44800000#32
abbrev small : EReal := Ideal.ofBits .f32 0x358637BD#32

theorem width_real : width = ((1024 : ℝ) : EReal) := by
  simp [width, Ideal.ofBits, Ideal.ieee, -EReal.coe_mul]; norm_num

theorem small_real : small = ((8796093 / 8796093022208 : ℝ) : EReal) := by
  simp [small, Ideal.ofBits, Ideal.ieee, -EReal.coe_mul]; norm_num

/-- Entry `e` of a row's gradient: the residual's cotangent `dres`, and the norm's gradient of the cotangent `dh` times the weight `w`. -/
def row (x w dh dres : Fin 1024 → EReal) (e : Fin 1024) : EReal :=
  dres e + RmsGrad.grad width small x (fun k => dh k * w k) e

/-- What one row adds to entry `e` of the weight's gradient. -/
def weight (x dh : Fin 1024 → EReal) (e : Fin 1024) : EReal :=
  dh e * (x e * RmsGrad.rinv width small x)

/-- The rows' gradient in the form of a derivative. -/
theorem row_eq (x w dh dres : Fin 1024 → EReal) (e : Fin 1024) :
    row x w dh dres e = dres e + (dh e * w e * RmsGrad.rinv width small x
        + x e * RmsGrad.inner width small ((-1 / 2 : ℝ) : EReal) x (fun k => dh k * w k)
        + RmsGrad.inner width small ((-1 / 2 : ℝ) : EReal) x (fun k => dh k * w k) * x e) := by
  unfold row
  rw [width_real, small_real, RmsGrad.grad_eq 1024 _ (by norm_num) (by norm_num)]

end Cert.NormGrad

end
-- ==== Proof.Load.lean ====
/- A load of a block held whole reads the block's elements. -/
module

public import Idealize.ShloMosaic.Lib.WholeRead
public import Idealize.ShloMosaic.Lib.Pipeline.ReadBack
public import Idealize.ShloMosaic.Lib.Pipeline.ValueKit
public import Idealize.ShloMosaic.Lib.Pointwise

@[expose] public section

namespace Cert.Load

open Idealize.ShloMosaic

variable {sig : RefSig} {κ : Kind} {sp : Space} {s : Shape} {e : EltTy}

theorem load_eq {mr : Memref sig κ sp s e} (h : mr.IsWhole) (x : s.Idx → Elt Ideal e) (B : LoadRect s) :
    View.readAt (Elt Ideal) mr.view B (h.unread x) = fun j => x (B.idx j) :=
  funext fun j => Memref.IsWhole.readAt_unread (Val := Elt Ideal) h x B j

end Cert.Load
-- ==== Proof.MlpDh.Points.lean ====
/- What a grid point leaves of the norm's gradient behind the MLP's up projection. -/
module

public import proofs.«01_k».proof.Proof.Gen.MlpDhIdeal.Value
public import proofs.«01_k».proof.Proof.NormGrad.Spec
public import proofs.«01_k».proof.Proof.Load

@[expose] public section

set_option maxRecDepth 16384

noncomputable section

namespace Cert.MlpDh.Proof

open Cert.MlpDhIdeal Cert.MlpDhIdeal.Gen Idealize.ShloMosaic Idealize.ShloMosaic.TcCoe Idealize.SL.Sem

variable (m : (ℓ : Loc nD τ sig) → Buf (Elt Ideal) ℓ)

/-- The product of a block of the cotangent with two shards of the weight, at an entry. -/
def prod (x : FVec Ideal S1024x1024 .bf16) (w : FVec Ideal S2x1024x512 .bf16) (r e : Fin 1024) : EReal :=
  (∑ j : Fin 512, x (ix2 r ⟨512 + j.val, by omega⟩) * w (ix3 1 e j)) + ∑ j : Fin 512, x (ix2 r ⟨j.val, by omega⟩) * w (ix3 0 e j)

/-- What the point before left. -/
abbrev prev (c : Dev nD) (t : Fin cfg0.N) := outsAt0 m c (t.val - 1) (Nat.lt_of_le_of_lt (Nat.sub_le _ _) t.isLt)

theorem scratch_A (c : Dev nD) (t : Fin cfg0.N) (h : t.val % 4 = 0) (r e : Fin 1024) :
    (outsAt0 m c t.val t.isLt).2.2.2 (ix2 r e) = prod (iblk m c 0 t) (iblk m c 1 t) r e := by
  rw [Gen.outsAt0_A m c t h (by omega) (by omega)]
  frame_open
  frame_out
  generalize iblk m c 0 t = x0
  generalize iblk m c 1 t = x1
  unfold_payloads
  pointwise [dot_S1024x512_S1024x512_S1024x1024_1_1_0_0_n_n]
  rfl

theorem scratch_B (c : Dev nD) (t : Fin cfg0.N) (h : 1 ≤ t.val % 4 ∧ t.val % 4 ≤ 2) (r e : Fin 1024) :
    (outsAt0 m c t.val t.isLt).2.2.2 (ix2 r e) = (prev m c t).2.2.2 (ix2 r e) + prod (iblk m c 0 t) (iblk m c 1 t) r e := by
  rw [Gen.outsAt0_B m c t (by omega) h (by omega)]
  frame_open
  frame_out
  simp only [Cert.Load.load_eq, read_unread_whole]
  generalize iblk m c 0 t = x0
  generalize iblk m c 1 t = x1
  unfold_payloads
  pointwise [dot_S1024x512_S1024x512_S1024x1024_1_1_0_0_n_n]
  rfl

theorem sum_A (c : Dev nD) (t : Fin cfg0.N) (h : t.val % 4 = 0) (ht : t.val ≠ 0) (e : Fin 1024) :
    (outsAt0 m c t.val t.isLt).2.2.1 (ix2 0 e) = (prev m c t).2.2.1 (ix2 0 e) := by
  rw [Gen.outsAt0_A m c t h (by omega) (by omega)]
  rfl

theorem sum_B (c : Dev nD) (t : Fin cfg0.N) (h : 1 ≤ t.val % 4 ∧ t.val % 4 ≤ 2) (e : Fin 1024) :
    (outsAt0 m c t.val t.isLt).2.2.1 (ix2 0 e) = (prev m c t).2.2.1 (ix2 0 e) := by
  rw [Gen.outsAt0_B m c t (by omega) h (by omega)]
  rfl

/-- The whole product at a row tile's last point. -/
def total (c : Dev nD) (t : Fin cfg0.N) (r e : Fin 1024) : EReal :=
  (prev m c t).2.2.2 (ix2 r e) + prod (iblk m c 0 t) (iblk m c 1 t) r e

/-- The blocks of the rows, the residual's cotangent and the weight. -/
def rows (c : Dev nD) (t : Fin cfg0.N) (r e : Fin 1024) : EReal := (iblk m c 2 t : FVec Ideal S1024x1024 .f32) (ix2 r e)
def resid (c : Dev nD) (t : Fin cfg0.N) (r e : Fin 1024) : EReal := (iblk m c 3 t : FVec Ideal S1024x1024 .f32) (ix2 r e)
def scale (c : Dev nD) (t : Fin cfg0.N) (e : Fin 1024) : EReal := (iblk m c 4 t : FVec Ideal S1x1024 .f32) (ix2 0 e)

theorem out_C (c : Dev nD) (t : Fin cfg0.N) (h : t.val = 3) (r e : Fin 1024) :
    (outsAt0 m c t.val t.isLt).1 (ix2 r e) = NormGrad.row (rows m c t r) (scale m c t) (total m c t r) (resid m c t r) e := by
  rw [Gen.outsAt0_C m c t (by omega) (by omega) (by omega) (by omega) (by omega)]
  frame_open
  frame_out
  simp only [Cert.Load.load_eq, read_unread_whole]
  unfold rows resid scale total
  generalize iblk m c 0 t = x0
  generalize iblk m c 1 t = x1
  generalize iblk m c 2 t = x2
  generalize iblk m c 3 t = x3
  generalize iblk m c 4 t = x4
  unfold_payloads
  pointwise [dot_S1024x512_S1024x512_S1024x1024_1_1_0_0_n_n]
  rfl

theorem out_D (c : Dev nD) (t : Fin cfg0.N) (h : t.val % 4 = 3 ∧ 4 ≤ t.val) (r e : Fin 1024) :
    (outsAt0 m c t.val t.isLt).1 (ix2 r e) = NormGrad.row (rows m c t r) (scale m c t) (total m c t r) (resid m c t r) e := by
  rw [Gen.outsAt0_D m c t (by omega) (by omega) (by omega) (by omega) (by omega)]
  frame_open
  frame_out
  simp only [Cert.Load.load_eq, read_unread_whole]
  unfold rows resid scale total
  generalize iblk m c 0 t = x0
  generalize iblk m c 1 t = x1
  generalize iblk m c 2 t = x2
  generalize iblk m c 3 t = x3
  generalize iblk m c 4 t = x4
  unfold_payloads
  pointwise [dot_S1024x512_S1024x512_S1024x1024_1_1_0_0_n_n]
  rfl

theorem cast_C (c : Dev nD) (t : Fin cfg0.N) (h : t.val = 3) (r e : Fin 1024) :
    (outsAt0 m c t.val t.isLt).2.1 (ix2 r e) = NormGrad.row (rows m c t r) (scale m c t) (total m c t r) (resid m c t r) e := by
  rw [Gen.outsAt0_C m c t (by omega) (by omega) (by omega) (by omega) (by omega)]
  frame_open
  frame_out
  simp only [Cert.Load.load_eq, read_unread_whole]
  unfold rows resid scale total
  generalize iblk m c 0 t = x0
  generalize iblk m c 1 t = x1
  generalize iblk m c 2 t = x2
  generalize iblk m c 3 t = x3
  generalize iblk m c 4 t = x4
  unfold_payloads
  pointwise [dot_S1024x512_S1024x512_S1024x1024_1_1_0_0_n_n]
  rfl

theorem cast_D (c : Dev nD) (t : Fin cfg0.N) (h : t.val % 4 = 3 ∧ 4 ≤ t.val) (r e : Fin 1024) :
    (outsAt0 m c t.val t.isLt).2.1 (ix2 r e) = NormGrad.row (rows m c t r) (scale m c t) (total m c t r) (resid m c t r) e := by
  rw [Gen.outsAt0_D m c t (by omega) (by omega) (by omega) (by omega) (by omega)]
  frame_open
  frame_out
  simp only [Cert.Load.load_eq, read_unread_whole]
  unfold rows resid scale total
  generalize iblk m c 0 t = x0
  generalize iblk m c 1 t = x1
  generalize iblk m c 2 t = x2
  generalize iblk m c 3 t = x3
  generalize iblk m c 4 t = x4
  unfold_payloads
  pointwise [dot_S1024x512_S1024x512_S1024x1024_1_1_0_0_n_n]
  rfl

theorem sum_C (c : Dev nD) (t : Fin cfg0.N) (h : t.val = 3) (e : Fin 1024) :
    (outsAt0 m c t.val t.isLt).2.2.1 (ix2 0 e) = ∑ r : Fin 1024, NormGrad.weight (rows m c t r) (total m c t r) e := by
  rw [Gen.outsAt0_C m c t (by omega) (by omega) (by omega) (by omega) (by omega)]
  frame_open
  frame_out
  simp only [Cert.Load.load_eq, read_unread_whole]
  unfold rows total
  generalize iblk m c 0 t = x0
  generalize iblk m c 1 t = x1
  generalize iblk m c 2 t = x2
  generalize iblk m c 3 t = x3
  generalize iblk m c 4 t = x4
  unfold_payloads
  pointwise [dot_S1024x512_S1024x512_S1024x1024_1_1_0_0_n_n]
  rfl

theorem sum_D (c : Dev nD) (t : Fin cfg0.N) (h : t.val % 4 = 3 ∧ 4 ≤ t.val) (e : Fin 1024) :
    (outsAt0 m c t.val t.isLt).2.2.1 (ix2 0 e) = (prev m c t).2.2.1 (ix2 0 e) + ∑ r : Fin 1024, NormGrad.weight (rows m c t r) (total m c t r) e := by
  rw [Gen.outsAt0_D m c t (by omega) (by omega) (by omega) (by omega) (by omega)]
  frame_open
  frame_out
  simp only [Cert.Load.load_eq, read_unread_whole]
  unfold rows total
  generalize iblk m c 0 t = x0
  generalize iblk m c 1 t = x1
  generalize iblk m c 2 t = x2
  generalize iblk m c 3 t = x3
  generalize iblk m c 4 t = x4
  unfold_payloads
  pointwise [dot_S1024x512_S1024x512_S1024x1024_1_1_0_0_n_n]
  rfl

end Cert.MlpDh.Proof

end
-- ==== Proof.MlpDh.Kernel.lean ====
/- The arrays the norm's gradient behind the MLP's up projection leaves: four row tiles, each after four steps of its product. -/
module

public import proofs.«01_k».proof.Proof.MlpDh.Points
public import Idealize.ShloMosaic.Lib.StableHlo.ReadAt

@[expose] public section

set_option maxRecDepth 16384

noncomputable section

namespace Cert.MlpDh.Proof

open Cert.MlpDhIdeal Cert.MlpDhIdeal.Gen Idealize.ShloMosaic Idealize.ShloMosaic.TcCoe Idealize.SL.Sem

abbrev Arr (s : Shape) : Type := (⟨s, .f32⟩ : BufTy).Contents (Elt Ideal)

/-- The cotangent of the normalised rows: `du · w_upᵀ`. -/
def dh (wu : Arr S1024x4096) (du : Arr S4096x4096) (r : Fin 4096) (e : Fin 1024) : EReal :=
  ∑ j : Fin 4096, du (ix2 r j) * wu (ix2 e j)

/-- The gradient of the rows, and of the norm's weight. -/
def dx (x : Arr S4096x1024) (nw : Arr S1024) (wu : Arr S1024x4096) (dxo : Arr S4096x1024) (du : Arr S4096x4096) :
    Arr S4096x1024 := fun i =>
  NormGrad.row (fun e => x (ix2 (i 0) e)) (fun e => nw (ix1 e)) (dh wu du (i 0)) (fun e => dxo (ix2 (i 0) e)) (i 1)

def dnw (x : Arr S4096x1024) (wu : Arr S1024x4096) (du : Arr S4096x4096) : Arr S1x1024 := fun i =>
  ∑ r : Fin 4096, NormGrad.weight (fun e => x (ix2 r e)) (dh wu du r) (i 1)

variable (m : (ℓ : Loc nD τ sig) → Buf (Elt Ideal) ℓ)

section
variable (c : Dev nD)
abbrev xIn : Arr S4096x1024 := m ((c : Thread nD τ).loc main_arg0)
abbrev nwIn : Arr S1024 := m ((c : Thread nD τ).loc main_arg1)
abbrev wuIn : Arr S1024x4096 := m ((c : Thread nD τ).loc main_arg2)
abbrev dxoIn : Arr S4096x1024 := m ((c : Thread nD τ).loc main_arg3)
abbrev duIn : Arr S4096x4096 := m ((c : Thread nD τ).loc main_arg4)
end

theorem du_at (c : Dev nD) (i : S4096x4096.Idx) : V m c main_v3 i = duIn m c i := by
  have e : V m c main_v3 = (truncf .bf16 (duIn m c : FVec Ideal S4096x4096 .f32) bitsLt_bf16_f32 :
      FVec Ideal S4096x4096 .bf16) := by
    unfold V hostOps0
    after_results
  rw [e]; rfl

theorem nw_at (c : Dev nD) (e : Fin 1024) : V m c main_v4 (ix2 0 e) = nwIn m c (ix1 e) := by
  unfold V hostOps0
  after_reads_at

theorem wu_at (c : Dev nD) (k : Fin 8) (e : Fin 1024) (j : Fin 512) :
    V m c main_v2 (ix3 k e j) = wuIn m c (ix2 e ⟨k.val * 512 + j.val, by omega⟩) := by
  unfold V hostOps0
  after_reads_at

theorem places : ∀ t : Fin cfg0.N, (win0_0.index t = ![t.val / 4, t.val % 4] ∧ win0_1.index t = ![t.val % 4, 0, 0]
    ∧ win0_2.index t = ![t.val / 4, 0] ∧ win0_3.index t = ![t.val / 4, 0]) ∧ win0_4.index t = ![0, 0]
    ∧ win0_5.index t = ![t.val / 4, 0] ∧ win0_6.index t = ![t.val / 4, 0] ∧ win0_7.index t = ![0, 0] :=
  (by decide +kernel : ∀ t : Fin grid0.N, _)

theorem lt16 (t : Fin cfg0.N) : t.val < 16 := t.isLt

/-- Row `r` of grid point `t`'s tile. -/
def rowOf (t : Fin cfg0.N) (r : Fin 1024) : Fin 4096 := ⟨1024 * (t.val / 4) + r.val, by have := lt16 t; omega⟩

section
variable (c : Dev nD) (t : Fin cfg0.N)

theorem rows_eq (r : Fin 1024) : rows m c t r = fun e => xIn m c (ix2 (rowOf t r) e) := by
  funext e
  exact (congrArg (V m c main_arg0) (show ((View.whole main_arg0).slice (win0_2.rect t)).emb _
    = (ix2 (rowOf t r) e : S4096x1024.Idx) by blk_ext [(places t).1.2.2.1, rowOf])).trans (congrFun (V_main_arg0 m c) _)

theorem resid_eq (r : Fin 1024) : resid m c t r = fun e => dxoIn m c (ix2 (rowOf t r) e) := by
  funext e
  exact (congrArg (V m c main_arg3) (show ((View.whole main_arg3).slice (win0_3.rect t)).emb _
    = (ix2 (rowOf t r) e : S4096x1024.Idx) by blk_ext [(places t).1.2.2.2, rowOf])).trans (congrFun (V_main_arg3 m c) _)

theorem scale_eq : scale m c t = fun e => nwIn m c (ix1 e) := by
  funext e
  exact (congrArg (V m c main_v4) (show ((View.whole main_v4).slice (win0_4.rect t)).emb _
    = (ix2 0 e : S1x1024.Idx) by blk_ext [(places t).2.1])).trans (nw_at m c e)

theorem du_blk (r j : Fin 1024) : (iblk m c 0 t : FVec Ideal S1024x1024 .bf16) (ix2 r j)
    = duIn m c (ix2 (rowOf t r) ⟨1024 * (t.val % 4) + j.val, by omega⟩) :=
  (congrArg (V m c main_v3) (show ((View.whole main_v3).slice (win0_0.rect t)).emb (ix2 r j)
    = (ix2 (rowOf t r) ⟨1024 * (t.val % 4) + j.val, by omega⟩ : S4096x4096.Idx) by blk_ext [(places t).1.1, rowOf])).trans (du_at m c _)

theorem wu_blk (s : Fin 2) (e : Fin 1024) (j : Fin 512) : (iblk m c 1 t : FVec Ideal S2x1024x512 .bf16) (ix3 s e j)
    = wuIn m c (ix2 e ⟨1024 * (t.val % 4) + (512 * s.val + j.val), by omega⟩) :=
  (congrArg (V m c main_v2) (show ((View.whole main_v2).slice (win0_1.rect t)).emb (ix3 s e j)
    = (ix3 ⟨2 * (t.val % 4) + s.val, by omega⟩ e j : S8x1024x512.Idx) by blk_ext [(places t).1.2.1])).trans
    ((wu_at m c _ e j).trans (congrArg (fun k => wuIn m c (ix2 e k)) (Fin.ext (by show (2 * (t.val % 4) + s.val) * 512 + j.val = 1024 * (t.val % 4) + (512 * s.val + j.val); omega))))

/-- One step of the product, over its stretch of the hidden layer. -/
theorem prod_eq (r e : Fin 1024) : prod (iblk m c 0 t) (iblk m c 1 t) r e
    = ∑ j : Fin 1024, duIn m c (ix2 (rowOf t r) ⟨t.val % 4 * 1024 + j.val, by omega⟩) * wuIn m c (ix2 e ⟨t.val % 4 * 1024 + j.val, by omega⟩) := by
  rw [Fin.sum_univ_two_halves 512 512 rfl, add_comm]
  unfold prod
  refine congrArg₂ (· + ·) (Finset.sum_congr rfl fun j _ => ?_) (Finset.sum_congr rfl fun j _ => ?_)
  · refine congrArg₂ (· * ·) ((du_blk m c t _ _).trans (congrArg (fun k => duIn m c (ix2 _ k)) (Fin.ext ?_)))
      ((wu_blk m c t _ _ _).trans (congrArg (fun k => wuIn m c (ix2 e k)) (Fin.ext ?_)))
    · show 1024 * (t.val % 4) + (512 + j.val) = t.val % 4 * 1024 + (512 + j.val); omega
    · show 1024 * (t.val % 4) + (512 * 1 + j.val) = t.val % 4 * 1024 + (512 + j.val); omega
  · refine congrArg₂ (· * ·) ((du_blk m c t _ _).trans (congrArg (fun k => duIn m c (ix2 _ k)) (Fin.ext ?_)))
      ((wu_blk m c t _ _ _).trans (congrArg (fun k => wuIn m c (ix2 e k)) (Fin.ext ?_)))
    · show 1024 * (t.val % 4) + j.val = t.val % 4 * 1024 + j.val; omega
    · show 1024 * (t.val % 4) + (512 * 0 + j.val) = t.val % 4 * 1024 + j.val; omega

theorem prod_tile (R : Fin 4096) (k : Fin 4) (r e : Fin 1024) (hk : t.val % 4 = k.val) (hR : rowOf t r = R) :
    prod (iblk m c 0 t) (iblk m c 1 t) r e
      = ∑ j : Fin 1024, duIn m c (ix2 R ⟨k.val * 1024 + j.val, by omega⟩) * wuIn m c (ix2 e ⟨k.val * 1024 + j.val, by omega⟩) := by
  subst hR
  obtain ⟨k, hk'⟩ := k
  dsimp only at hk
  subst hk
  exact prod_eq m c t r e

/-- At a row tile's last point the product is complete. -/
theorem total_eq (h : t.val % 4 = 3) (r : Fin 1024) : total m c t r = dh (wuIn m c) (duIn m c) (rowOf t r) := by
  funext e
  have b := lt16 t
  let t2 : Fin cfg0.N := ⟨t.val - 1, by omega⟩
  let t1 : Fin cfg0.N := ⟨t.val - 1 - 1, by omega⟩
  let t0 : Fin cfg0.N := ⟨t.val - 1 - 1 - 1, by omega⟩
  have h2 : t2.val = t.val - 1 := rfl
  have h1 : t1.val = t.val - 2 := by show t.val - 1 - 1 = _; omega
  have h0 : t0.val = t.val - 3 := by show t.val - 1 - 1 - 1 = _; omega
  unfold total dh
  refine (congrArg (· + _) ((scratch_B m c t2 (by omega) r e).trans (congrArg (· + _) ((scratch_B m c t1 (by omega) r e).trans
    (congrArg (· + _) (scratch_A m c t0 (by omega) r e)))))).trans ?_
  have R2 : rowOf t2 r = rowOf t r := Fin.ext (by show 1024 * (t2.val / 4) + _ = 1024 * (t.val / 4) + _; omega)
  have R1 : rowOf t1 r = rowOf t r := Fin.ext (by show 1024 * (t1.val / 4) + _ = 1024 * (t.val / 4) + _; omega)
  have R0 : rowOf t0 r = rowOf t r := Fin.ext (by show 1024 * (t0.val / 4) + _ = 1024 * (t.val / 4) + _; omega)
  rw [prod_tile m c t (rowOf t r) 3 r e h rfl, prod_tile m c t2 (rowOf t r) 2 r e (by show t2.val % 4 = 2; omega) R2,
    prod_tile m c t1 (rowOf t r) 1 r e (by show t1.val % 4 = 1; omega) R1, prod_tile m c t0 (rowOf t r) 0 r e (by show t0.val % 4 = 0; omega) R0,
    ← Fin.sum_mul_add_fin 4 1024 (fun j : Fin 4096 => duIn m c (ix2 (rowOf t r) j) * wuIn m c (ix2 e j)), Fin.sum_univ_four]

theorem row_eq' (h : t.val % 4 = 3) (r e : Fin 1024) :
    NormGrad.row (rows m c t r) (scale m c t) (total m c t r) (resid m c t r) e
      = dx (xIn m c) (nwIn m c) (wuIn m c) (dxoIn m c) (duIn m c) (ix2 (rowOf t r) e) := by
  rw [rows_eq, scale_eq, total_eq m c t h, resid_eq]
  rfl

theorem flush_last : ∀ t : Fin cfg0.N, ((cfg0.win 5).flush t = true → t.val % 4 = 3) ∧ ((cfg0.win 6).flush t = true → t.val % 4 = 3) :=
  (by decide +kernel : ∀ t : Fin grid0.N, _)

end

theorem array_dx (c : Dev nD) : (dats m 0 c).arrAt 5 cfg0.N = dx (xIn m c) (nwIn m c) (wuIn m c) (dxoIn m c) (duIn m c) := by
  refine (dats m 0 c).arrAt_eq_of_covers 5 _ (by decide +kernel) fun t hf y => ?_
  blk_simp
  rw [after0_5]
  obtain ⟨r, e, rfl⟩ : ∃ (r : Fin 1024) (e : Fin 1024), y = ix2 r e := ⟨y 0, y 1, eq_ix2 (n0 := 1024) (n1 := 1024) y⟩
  have h := (flush_last t).1 hf
  have place : ((View.whole main_v5_0).slice (win0_5.rect t)).emb (ix2 r e) = (ix2 (rowOf t r) e : S4096x1024.Idx) := by
    blk_ext [(places t).2.2.1, rowOf]
  rw [place]
  refine Eq.trans ?_ (row_eq' m c t h r e)
  by_cases h4 : 4 ≤ t.val
  · exact out_D m c t ⟨h, h4⟩ r e
  · exact out_C m c t (by omega) r e

theorem array_cast (c : Dev nD) : (dats m 0 c).arrAt 6 cfg0.N = dx (xIn m c) (nwIn m c) (wuIn m c) (dxoIn m c) (duIn m c) := by
  refine (dats m 0 c).arrAt_eq_of_covers 6 _ (by decide +kernel) fun t hf y => ?_
  blk_simp
  rw [after0_6]
  obtain ⟨r, e, rfl⟩ : ∃ (r : Fin 1024) (e : Fin 1024), y = ix2 r e := ⟨y 0, y 1, eq_ix2 (n0 := 1024) (n1 := 1024) y⟩
  have h := (flush_last t).2 hf
  have place : ((View.whole main_v5_1).slice (win0_6.rect t)).emb (ix2 r e) = (ix2 (rowOf t r) e : S4096x1024.Idx) := by
    blk_ext [(places t).2.2.2.1, rowOf]
  rw [place]
  refine Eq.trans ?_ (row_eq' m c t h r e)
  by_cases h4 : 4 ≤ t.val
  · exact cast_D m c t ⟨h, h4⟩ r e
  · exact cast_C m c t (by omega) r e

/-- The weight's gradient kept so far, at a point. -/
abbrev acc (c : Dev nD) (e : Fin 1024) (n : ℕ) (h : n < 16) : EReal := (outsAt0 m c n h).2.2.1 (ix2 0 e)

/-- What row tile `i` adds to it. -/
abbrev part (c : Dev nD) (e : Fin 1024) (i : Fin 4) : EReal :=
  ∑ r : Fin 1024, NormGrad.weight (fun e => xIn m c (ix2 ⟨i.val * 1024 + r.val, by omega⟩ e)) (dh (wuIn m c) (duIn m c) ⟨i.val * 1024 + r.val, by omega⟩) e

theorem part_eq (c : Dev nD) (t : Fin cfg0.N) (h : t.val % 4 = 3) (i : Fin 4) (hi : t.val / 4 = i.val) (e : Fin 1024) :
    ∑ r : Fin 1024, NormGrad.weight (rows m c t r) (total m c t r) e = part m c e i := by
  refine Finset.sum_congr rfl fun r _ => ?_
  rw [rows_eq, total_eq m c t h, show rowOf t r = ⟨i.val * 1024 + r.val, by omega⟩ from
    Fin.ext (by show 1024 * (t.val / 4) + r.val = i.val * 1024 + r.val; omega)]

theorem acc_hold (c : Dev nD) (e : Fin 1024) (n : ℕ) (h : n + 1 < 16) (hn : (n + 1) % 4 ≠ 3) :
    acc m c e (n + 1) h = acc m c e n (by omega) := by
  by_cases h0 : (n + 1) % 4 = 0
  · exact sum_A m c ⟨n + 1, h⟩ h0 (by simp) e
  · exact sum_B m c ⟨n + 1, h⟩ (by dsimp only; omega) e

theorem acc_step (c : Dev nD) (e : Fin 1024) (i : Fin 4) (hi : 1 ≤ i.val) :
    acc m c e (4 * i.val + 3) (by omega) = acc m c e (4 * (i.val - 1) + 3) (by omega) + part m c e i := by
  refine (sum_D m c ⟨4 * i.val + 3, by show _ < 16; omega⟩ (by dsimp only; omega) e).trans ?_
  rw [part_eq m c _ (by dsimp only; omega) i (by dsimp only; omega)]
  refine congrArg (· + _) ?_
  have a := acc_hold m c e (4 * i.val + 1) (by omega) (by omega)
  have b := acc_hold m c e (4 * i.val) (by omega) (by omega)
  have d := acc_hold m c e (4 * i.val - 1) (by omega) (by omega)
  show acc m c e (4 * i.val + 2) _ = _
  rw [a, b]
  have e1 : ∀ n n' h h', n = n' → acc m c e n h = acc m c e n' h' := fun n n' h h' q => by subst q; rfl
  exact (e1 _ _ _ _ (by omega)).trans (d.trans (e1 _ _ _ _ (by omega)))

theorem acc_last (c : Dev nD) (e : Fin 1024) : acc m c e 15 (by omega)
    = dnw (xIn m c) (wuIn m c) (duIn m c) (ix2 0 e) := by
  show _ = ∑ r : Fin 4096, NormGrad.weight (fun e => xIn m c (ix2 r e)) (dh (wuIn m c) (duIn m c) r) e
  refine Eq.trans ?_ (Fin.sum_mul_add_fin 4 1024 (fun r : Fin 4096 => NormGrad.weight (fun e => xIn m c (ix2 r e)) (dh (wuIn m c) (duIn m c) r) e))
  rw [Fin.sum_univ_four]
  refine (acc_step m c e 3 (by decide)).trans (congrArg (· + _) ((acc_step m c e 2 (by decide)).trans (congrArg (· + _)
    ((acc_step m c e 1 (by decide)).trans (congrArg (· + _) ?_)))))
  refine (sum_C m c ⟨3, by show 3 < 16; omega⟩ rfl e).trans (part_eq m c _ rfl 0 rfl e)

theorem array_dnw (c : Dev nD) : (dats m 0 c).arrAt 7 cfg0.N = dnw (xIn m c) (wuIn m c) (duIn m c) := by
  refine (dats m 0 c).arrAt_eq_of_after_last 7 ⟨15, by show 15 < 16; omega⟩ (by decide +kernel) _ fun j => ?_
  rw [after0_7]
  obtain ⟨z, e, rfl⟩ : ∃ (z : Fin 1) (e : Fin 1024), j = ix2 z e := ⟨j 0, j 1, eq_ix2 (n0 := 1) (n1 := 1024) j⟩
  obtain rfl : z = 0 := Subsingleton.elim _ _
  exact acc_last m c e

end Cert.MlpDh.Proof

end
-- ==== Proof.MlpDh.Reference.lean ====
/- The derivative of the norm behind the MLP's up projection, as the reference computes it. -/
module

public import proofs.«01_k».proof.Proof.MlpDh.Kernel
public import proofs.«01_k».proof.Proof.Gen.MlpDhRefIdeal.Read

@[expose] public section

set_option maxRecDepth 16384

noncomputable section

namespace Cert.MlpDh.Proof.Ref

open Cert.MlpDhRefIdeal Cert.MlpDhRefIdeal.Read Idealize.ShloMosaic Idealize.ShloMosaic.TcCoe

variable (x : Arr S4096x1024) (nw : Arr S1024) (wu : Arr S1024x4096) (dxo : Arr S4096x1024) (du : Arr S4096x4096)

/-- The rows, and the cotangent behind the weight. -/
abbrev rowAt (r : Fin 4096) (e : Fin 1024) : EReal := x (ix2 r e)
abbrev ctAt (r : Fin 4096) (e : Fin 1024) : EReal := dh wu du r e * nw (ix1 e)

theorem mean_at (r : Fin 4096) : val_main_v6 (F := Ideal) x (ix2 r 0)
    = RmsGrad.meanSq NormGrad.width NormGrad.small (rowAt x r) := by
  unfold val_main_v6 val_main_v5 val_main_v4 val_main_v3 val_main_v2 val_main_v1 val_main_v0 val_main_cst val_main_cst_0 val_main_cst_1
  pointwise
  rfl

theorem rinv_at (r : Fin 4096) : val_main_v7 (F := Ideal) x (ix2 r 0)
    = RmsGrad.rinv NormGrad.width NormGrad.small (rowAt x r) := by
  unfold val_main_v7
  pointwise
  rw [mean_at]
  rfl

theorem normed_at (r : Fin 4096) (e : Fin 1024) : val_main_v12 (F := Ideal) x (ix2 r e)
    = x (ix2 r e) * RmsGrad.rinv NormGrad.width NormGrad.small (rowAt x r) := by
  unfold val_main_v12 val_main_v11
  pointwise
  rw [rinv_at]

theorem dh_at (r : Fin 4096) (e : Fin 1024) : val_main_v17 (F := Ideal) wu du (ix2 r e) = dh wu du r e := by
  unfold val_main_v17
  pointwise [dot_S4096x4096_S1024x4096_S4096x1024_1_1_0_0_n_n]
  rfl

theorem ct_at (r : Fin 4096) (e : Fin 1024) : val_main_v22 (F := Ideal) nw wu du (ix2 r e) = ctAt nw wu du r e := by
  unfold val_main_v22 val_main_v21 val_main_v13
  pointwise
  rw [dh_at]

theorem half_real : Ideal.ofBits .f32 0xBF000000#32 = ((-1 / 2 : ℝ) : EReal) := by
  simp [Ideal.ofBits, Ideal.ieee, -EReal.coe_mul]; norm_num

theorem inner_at (r : Fin 4096) (e : Fin 1024) : val_main_v34 (F := Ideal) x nw wu du (ix2 r e)
    = RmsGrad.inner NormGrad.width NormGrad.small ((-1 / 2 : ℝ) : EReal) (rowAt x r) (ctAt nw wu du r) := by
  unfold val_main_v34 val_main_v33 val_main_v32 val_main_v31 val_main_v30 val_main_v26 val_main_v25 val_main_v24 val_main_v10 val_main_v9 val_main_v8
    val_main_cst_2 val_main_cst_5 val_main_cst_6 val_main_cst_7
  pointwise
  simp only [ct_at, Fin.sum_univ_one, rinv_at, mean_at]
  rw [← half_real]
  rfl

theorem dx_at (r : Fin 4096) (e : Fin 1024) : val_main_v38 (F := Ideal) x nw wu dxo du (ix2 r e) = dx x nw wu dxo du (ix2 r e) := by
  refine Eq.trans ?_ (NormGrad.row_eq (rowAt x r) (fun e => nw (ix1 e)) (dh wu du r) (fun e => dxo (ix2 r e)) e).symm
  unfold val_main_v38 val_main_v37 val_main_v36 val_main_v35 val_main_v29 val_main_v28 val_main_v27
  pointwise
  simp only [ct_at, rinv_at, inner_at, add_assoc]

theorem reference_dx : val_main_v38 (F := Ideal) x nw wu dxo du = dx x nw wu dxo du := by
  funext i
  obtain ⟨r, e, rfl⟩ : ∃ (r : Fin 4096) (e : Fin 1024), i = ix2 r e := ⟨i 0, i 1, eq_ix2 (n0 := 4096) (n1 := 1024) i⟩
  exact dx_at x nw wu dxo du r e

theorem reference_cast : val_main_v39 (F := Ideal) x nw wu dxo du = dx x nw wu dxo du := by
  refine Eq.trans ?_ (reference_dx x nw wu dxo du)
  rfl

theorem reference_dnw : val_main_v40 (F := Ideal) x wu du = dnw x wu du := by
  funext i
  obtain ⟨z, e, rfl⟩ : ∃ (z : Fin 1) (e : Fin 1024), i = ix2 z e := ⟨i 0, i 1, eq_ix2 (n0 := 1) (n1 := 1024) i⟩
  unfold val_main_v40 val_main_v23 val_main_v20 val_main_v19 val_main_v18 val_main_cst_3 val_main_cst_4
  pointwise
  simp only [Fin.sum_univ_one, normed_at, dh_at]
  exact Finset.sum_congr rfl fun r _ => mul_comm (_ : EReal) _

end Cert.MlpDh.Proof.Ref

end
-- ==== Proof.MlpDh.Claims.lean ====
/- The claims about the norm's gradient behind the MLP's up projection that the certificate assembles. -/
module

public import proofs.«01_k».proof.Defs
public import proofs.«01_k».proof.Proof.MlpDh.Reference
public import proofs.«01_k».proof.Proof.Gen.MlpDh.Frame

@[expose] public section

set_option maxRecDepth 16384

noncomputable section

namespace Cert.MlpDh.Proof

open Idealize.ShloMosaic Idealize.ShloMosaic.TcCoe Idealize.SL.Sem

theorem reference_frame : Cert.quiescent_MlpDhRefIdeal (hMlpDhRefIdeal := Cert.MlpDhRefIdeal.Gen.facts) := fun m g _ =>
  (θ_run Cert.MlpDhRefIdeal.defs _ _).mono (fun r h => ⟨fun c => (h c).2.2.2, sem_eq_zero_of_no_sems (by decide) r.2⟩)
    (Cert.MlpDhRefIdeal.Value.run m g)

theorem algebraic : Cert.algebraic_MlpDhIdeal_MlpDhRefIdeal (hMlpDhIdeal := Cert.MlpDhIdeal.Gen.facts)
    (hMlpDhRefIdeal := Cert.MlpDhRefIdeal.Gen.facts) := by
  intro m g m' g' _ hargs
  refine ⟨fun c => dx (xIn m c) (nwIn m c) (wuIn m c) (dxoIn m c) (duIn m c), fun c => dx (xIn m c) (nwIn m c) (wuIn m c) (dxoIn m c) (duIn m c),
    fun c => dnw (xIn m c) (wuIn m c) (duIn m c), ?_, ?_⟩
  · exact (θ_run Cert.MlpDhIdeal.defs _ _).mono (fun r h c => ⟨(h c).1.trans (array_dx m c), (h c).2.1.trans (array_cast m c),
      (h c).2.2.1.trans (array_dnw m c), (h c).2.2.2⟩) (Cert.MlpDhIdeal.Value.run_blocks m g)
  · refine (θ_run Cert.MlpDhRefIdeal.defs _ _).mono (fun r h c => ?_) (Cert.MlpDhRefIdeal.Value.run m' g')
    obtain ⟨a0, a1, a2, a3, a4⟩ := hargs c
    refine ⟨(h c).1.trans ?_, (h c).2.1.trans ?_, (h c).2.2.1.trans ?_, (h c).2.2.2⟩
    · refine (Cert.MlpDhRefIdeal.Read.val_main_v38_eq m' c).trans ?_
      rw [a0, a1, a2, a3, a4]
      exact Ref.reference_dx _ _ _ _ _
    · refine (Cert.MlpDhRefIdeal.Read.val_main_v39_eq m' c).trans ?_
      rw [a0, a1, a2, a3, a4]
      exact Ref.reference_cast _ _ _ _ _
    · refine (Cert.MlpDhRefIdeal.Read.val_main_v40_eq _ _ _).trans ?_
      rw [a0, a2, a4]
      exact Ref.reference_dnw _ _ _

end Cert.MlpDh.Proof

end
-- ==== Proof.InEven.Points.lean ====
/- What a grid point leaves of the norm's gradient behind the even layer's projection. -/
module

public import proofs.«01_k».proof.Proof.Gen.InEvenIdeal.Value
public import proofs.«01_k».proof.Proof.NormGrad.Spec
public import proofs.«01_k».proof.Proof.Load

@[expose] public section

set_option maxRecDepth 16384

noncomputable section

namespace Cert.InEven.Proof

open Cert.InEvenIdeal Cert.InEvenIdeal.Gen Idealize.ShloMosaic Idealize.ShloMosaic.TcCoe Idealize.SL.Sem

variable (m : (ℓ : Loc nD τ sig) → Buf (Elt Ideal) ℓ)

/-- The product of a block of the cotangent with two shards of the weight, at an entry. -/
def prod (x : FVec Ideal S1024x768 .bf16) (w : FVec Ideal S2x1024x384 .bf16) (r e : Fin 1024) : EReal :=
  (∑ j : Fin 384, x (ix2 r ⟨384 + j.val, by omega⟩) * w (ix3 1 e j)) + ∑ j : Fin 384, x (ix2 r ⟨j.val, by omega⟩) * w (ix3 0 e j)

/-- What the point before left. -/
abbrev prev (c : Dev nD) (t : Fin cfg0.N) := outsAt0 m c (t.val - 1) (Nat.lt_of_le_of_lt (Nat.sub_le _ _) t.isLt)

theorem scratch_A (c : Dev nD) (t : Fin cfg0.N) (h : t.val % 4 = 0) (r e : Fin 1024) :
    (outsAt0 m c t.val t.isLt).2.2.2 (ix2 r e) = prod (iblk m c 0 t) (iblk m c 1 t) r e := by
  rw [Gen.outsAt0_A m c t h (by omega) (by omega)]
  frame_open
  frame_out
  generalize iblk m c 0 t = x0
  generalize iblk m c 1 t = x1
  unfold_payloads
  pointwise [dot_S1024x384_S1024x384_S1024x1024_1_1_0_0_n_n]
  rfl

theorem scratch_B (c : Dev nD) (t : Fin cfg0.N) (h : 1 ≤ t.val % 4 ∧ t.val % 4 ≤ 2) (r e : Fin 1024) :
    (outsAt0 m c t.val t.isLt).2.2.2 (ix2 r e) = (prev m c t).2.2.2 (ix2 r e) + prod (iblk m c 0 t) (iblk m c 1 t) r e := by
  rw [Gen.outsAt0_B m c t (by omega) h (by omega)]
  frame_open
  frame_out
  simp only [Cert.Load.load_eq, read_unread_whole]
  generalize iblk m c 0 t = x0
  generalize iblk m c 1 t = x1
  unfold_payloads
  pointwise [dot_S1024x384_S1024x384_S1024x1024_1_1_0_0_n_n]
  rfl

theorem sum_A (c : Dev nD) (t : Fin cfg0.N) (h : t.val % 4 = 0) (ht : t.val ≠ 0) (e : Fin 1024) :
    (outsAt0 m c t.val t.isLt).2.2.1 (ix2 0 e) = (prev m c t).2.2.1 (ix2 0 e) := by
  rw [Gen.outsAt0_A m c t h (by omega) (by omega)]
  rfl

theorem sum_B (c : Dev nD) (t : Fin cfg0.N) (h : 1 ≤ t.val % 4 ∧ t.val % 4 ≤ 2) (e : Fin 1024) :
    (outsAt0 m c t.val t.isLt).2.2.1 (ix2 0 e) = (prev m c t).2.2.1 (ix2 0 e) := by
  rw [Gen.outsAt0_B m c t (by omega) h (by omega)]
  rfl

/-- The whole product at a row tile's last point. -/
def total (c : Dev nD) (t : Fin cfg0.N) (r e : Fin 1024) : EReal :=
  (prev m c t).2.2.2 (ix2 r e) + prod (iblk m c 0 t) (iblk m c 1 t) r e

/-- The blocks of the rows, the residual's cotangent and the weight. -/
def rows (c : Dev nD) (t : Fin cfg0.N) (r e : Fin 1024) : EReal := (iblk m c 2 t : FVec Ideal S1024x1024 .f32) (ix2 r e)
def resid (c : Dev nD) (t : Fin cfg0.N) (r e : Fin 1024) : EReal := (iblk m c 3 t : FVec Ideal S1024x1024 .f32) (ix2 r e)
def scale (c : Dev nD) (t : Fin cfg0.N) (e : Fin 1024) : EReal := (iblk m c 4 t : FVec Ideal S1x1024 .f32) (ix2 0 e)

theorem out_C (c : Dev nD) (t : Fin cfg0.N) (h : t.val = 3) (r e : Fin 1024) :
    (outsAt0 m c t.val t.isLt).1 (ix2 r e) = NormGrad.row (rows m c t r) (scale m c t) (total m c t r) (resid m c t r) e := by
  rw [Gen.outsAt0_C m c t (by omega) (by omega) (by omega) (by omega) (by omega)]
  frame_open
  frame_out
  simp only [Cert.Load.load_eq, read_unread_whole]
  unfold rows resid scale total
  generalize iblk m c 0 t = x0
  generalize iblk m c 1 t = x1
  generalize iblk m c 2 t = x2
  generalize iblk m c 3 t = x3
  generalize iblk m c 4 t = x4
  unfold_payloads
  pointwise [dot_S1024x384_S1024x384_S1024x1024_1_1_0_0_n_n]
  rfl

theorem out_D (c : Dev nD) (t : Fin cfg0.N) (h : t.val % 4 = 3 ∧ 4 ≤ t.val) (r e : Fin 1024) :
    (outsAt0 m c t.val t.isLt).1 (ix2 r e) = NormGrad.row (rows m c t r) (scale m c t) (total m c t r) (resid m c t r) e := by
  rw [Gen.outsAt0_D m c t (by omega) (by omega) (by omega) (by omega) (by omega)]
  frame_open
  frame_out
  simp only [Cert.Load.load_eq, read_unread_whole]
  unfold rows resid scale total
  generalize iblk m c 0 t = x0
  generalize iblk m c 1 t = x1
  generalize iblk m c 2 t = x2
  generalize iblk m c 3 t = x3
  generalize iblk m c 4 t = x4
  unfold_payloads
  pointwise [dot_S1024x384_S1024x384_S1024x1024_1_1_0_0_n_n]
  rfl

theorem cast_C (c : Dev nD) (t : Fin cfg0.N) (h : t.val = 3) (r e : Fin 1024) :
    (outsAt0 m c t.val t.isLt).2.1 (ix2 r e) = NormGrad.row (rows m c t r) (scale m c t) (total m c t r) (resid m c t r) e := by
  rw [Gen.outsAt0_C m c t (by omega) (by omega) (by omega) (by omega) (by omega)]
  frame_open
  frame_out
  simp only [Cert.Load.load_eq, read_unread_whole]
  unfold rows resid scale total
  generalize iblk m c 0 t = x0
  generalize iblk m c 1 t = x1
  generalize iblk m c 2 t = x2
  generalize iblk m c 3 t = x3
  generalize iblk m c 4 t = x4
  unfold_payloads
  pointwise [dot_S1024x384_S1024x384_S1024x1024_1_1_0_0_n_n]
  rfl

theorem cast_D (c : Dev nD) (t : Fin cfg0.N) (h : t.val % 4 = 3 ∧ 4 ≤ t.val) (r e : Fin 1024) :
    (outsAt0 m c t.val t.isLt).2.1 (ix2 r e) = NormGrad.row (rows m c t r) (scale m c t) (total m c t r) (resid m c t r) e := by
  rw [Gen.outsAt0_D m c t (by omega) (by omega) (by omega) (by omega) (by omega)]
  frame_open
  frame_out
  simp only [Cert.Load.load_eq, read_unread_whole]
  unfold rows resid scale total
  generalize iblk m c 0 t = x0
  generalize iblk m c 1 t = x1
  generalize iblk m c 2 t = x2
  generalize iblk m c 3 t = x3
  generalize iblk m c 4 t = x4
  unfold_payloads
  pointwise [dot_S1024x384_S1024x384_S1024x1024_1_1_0_0_n_n]
  rfl

theorem sum_C (c : Dev nD) (t : Fin cfg0.N) (h : t.val = 3) (e : Fin 1024) :
    (outsAt0 m c t.val t.isLt).2.2.1 (ix2 0 e) = ∑ r : Fin 1024, NormGrad.weight (rows m c t r) (total m c t r) e := by
  rw [Gen.outsAt0_C m c t (by omega) (by omega) (by omega) (by omega) (by omega)]
  frame_open
  frame_out
  simp only [Cert.Load.load_eq, read_unread_whole]
  unfold rows total
  generalize iblk m c 0 t = x0
  generalize iblk m c 1 t = x1
  generalize iblk m c 2 t = x2
  generalize iblk m c 3 t = x3
  generalize iblk m c 4 t = x4
  unfold_payloads
  pointwise [dot_S1024x384_S1024x384_S1024x1024_1_1_0_0_n_n]
  rfl

theorem sum_D (c : Dev nD) (t : Fin cfg0.N) (h : t.val % 4 = 3 ∧ 4 ≤ t.val) (e : Fin 1024) :
    (outsAt0 m c t.val t.isLt).2.2.1 (ix2 0 e) = (prev m c t).2.2.1 (ix2 0 e) + ∑ r : Fin 1024, NormGrad.weight (rows m c t r) (total m c t r) e := by
  rw [Gen.outsAt0_D m c t (by omega) (by omega) (by omega) (by omega) (by omega)]
  frame_open
  frame_out
  simp only [Cert.Load.load_eq, read_unread_whole]
  unfold rows total
  generalize iblk m c 0 t = x0
  generalize iblk m c 1 t = x1
  generalize iblk m c 2 t = x2
  generalize iblk m c 3 t = x3
  generalize iblk m c 4 t = x4
  unfold_payloads
  pointwise [dot_S1024x384_S1024x384_S1024x1024_1_1_0_0_n_n]
  rfl

end Cert.InEven.Proof

end
-- ==== Proof.InEven.Kernel.lean ====
/- The arrays the norm's gradient behind the even layer's projection leaves: four row tiles, each after four steps of its product. -/
module

public import proofs.«01_k».proof.Proof.InEven.Points
public import Idealize.ShloMosaic.Lib.StableHlo.ReadAt

@[expose] public section

set_option maxRecDepth 16384

noncomputable section

namespace Cert.InEven.Proof

open Cert.InEvenIdeal Cert.InEvenIdeal.Gen Idealize.ShloMosaic Idealize.ShloMosaic.TcCoe Idealize.SL.Sem

abbrev Arr (s : Shape) : Type := (⟨s, .f32⟩ : BufTy).Contents (Elt Ideal)

/-- The cotangent of the normalised rows: `du · w_inᵀ`. -/
def dh (wu : Arr S1024x3072) (du : Arr S4096x3072) (r : Fin 4096) (e : Fin 1024) : EReal :=
  ∑ j : Fin 3072, du (ix2 r j) * wu (ix2 e j)

/-- The gradient of the rows, and of the norm's weight. -/
def dx (x : Arr S4096x1024) (nw : Arr S1024) (wu : Arr S1024x3072) (dxo : Arr S4096x1024) (du : Arr S4096x3072) :
    Arr S4096x1024 := fun i =>
  NormGrad.row (fun e => x (ix2 (i 0) e)) (fun e => nw (ix1 e)) (dh wu du (i 0)) (fun e => dxo (ix2 (i 0) e)) (i 1)

def dnw (x : Arr S4096x1024) (wu : Arr S1024x3072) (du : Arr S4096x3072) : Arr S1x1024 := fun i =>
  ∑ r : Fin 4096, NormGrad.weight (fun e => x (ix2 r e)) (dh wu du r) (i 1)

variable (m : (ℓ : Loc nD τ sig) → Buf (Elt Ideal) ℓ)

section
variable (c : Dev nD)
abbrev xIn : Arr S4096x1024 := m ((c : Thread nD τ).loc main_arg0)
abbrev nwIn : Arr S1024 := m ((c : Thread nD τ).loc main_arg1)
abbrev wuIn : Arr S1024x3072 := m ((c : Thread nD τ).loc main_arg2)
abbrev dxoIn : Arr S4096x1024 := m ((c : Thread nD τ).loc main_arg3)
abbrev duIn : Arr S4096x3072 := m ((c : Thread nD τ).loc main_arg4)
end

theorem du_at (c : Dev nD) (i : S4096x3072.Idx) : V m c main_v3 i = duIn m c i := by
  have e : V m c main_v3 = (truncf .bf16 (duIn m c : FVec Ideal S4096x3072 .f32) bitsLt_bf16_f32 :
      FVec Ideal S4096x3072 .bf16) := by
    unfold V hostOps0
    after_results
  rw [e]; rfl

theorem nw_at (c : Dev nD) (e : Fin 1024) : V m c main_v4 (ix2 0 e) = nwIn m c (ix1 e) := by
  unfold V hostOps0
  after_reads_at

theorem wu_at (c : Dev nD) (k : Fin 8) (e : Fin 1024) (j : Fin 384) :
    V m c main_v2 (ix3 k e j) = wuIn m c (ix2 e ⟨k.val * 384 + j.val, by omega⟩) := by
  unfold V hostOps0
  after_reads_at

theorem places : ∀ t : Fin cfg0.N, (win0_0.index t = ![t.val / 4, t.val % 4] ∧ win0_1.index t = ![t.val % 4, 0, 0]
    ∧ win0_2.index t = ![t.val / 4, 0] ∧ win0_3.index t = ![t.val / 4, 0]) ∧ win0_4.index t = ![0, 0]
    ∧ win0_5.index t = ![t.val / 4, 0] ∧ win0_6.index t = ![t.val / 4, 0] ∧ win0_7.index t = ![0, 0] :=
  (by decide +kernel : ∀ t : Fin grid0.N, _)

theorem lt16 (t : Fin cfg0.N) : t.val < 16 := t.isLt

/-- Row `r` of grid point `t`'s tile. -/
def rowOf (t : Fin cfg0.N) (r : Fin 1024) : Fin 4096 := ⟨1024 * (t.val / 4) + r.val, by have := lt16 t; omega⟩

section
variable (c : Dev nD) (t : Fin cfg0.N)

theorem rows_eq (r : Fin 1024) : rows m c t r = fun e => xIn m c (ix2 (rowOf t r) e) := by
  funext e
  exact (congrArg (V m c main_arg0) (show ((View.whole main_arg0).slice (win0_2.rect t)).emb _
    = (ix2 (rowOf t r) e : S4096x1024.Idx) by blk_ext [(places t).1.2.2.1, rowOf])).trans (congrFun (V_main_arg0 m c) _)

theorem resid_eq (r : Fin 1024) : resid m c t r = fun e => dxoIn m c (ix2 (rowOf t r) e) := by
  funext e
  exact (congrArg (V m c main_arg3) (show ((View.whole main_arg3).slice (win0_3.rect t)).emb _
    = (ix2 (rowOf t r) e : S4096x1024.Idx) by blk_ext [(places t).1.2.2.2, rowOf])).trans (congrFun (V_main_arg3 m c) _)

theorem scale_eq : scale m c t = fun e => nwIn m c (ix1 e) := by
  funext e
  exact (congrArg (V m c main_v4) (show ((View.whole main_v4).slice (win0_4.rect t)).emb _
    = (ix2 0 e : S1x1024.Idx) by blk_ext [(places t).2.1])).trans (nw_at m c e)

theorem du_blk (r : Fin 1024) (j : Fin 768) : (iblk m c 0 t : FVec Ideal S1024x768 .bf16) (ix2 r j)
    = duIn m c (ix2 (rowOf t r) ⟨768 * (t.val % 4) + j.val, by omega⟩) :=
  (congrArg (V m c main_v3) (show ((View.whole main_v3).slice (win0_0.rect t)).emb (ix2 r j)
    = (ix2 (rowOf t r) ⟨768 * (t.val % 4) + j.val, by omega⟩ : S4096x3072.Idx) by blk_ext [(places t).1.1, rowOf])).trans (du_at m c _)

theorem wu_blk (s : Fin 2) (e : Fin 1024) (j : Fin 384) : (iblk m c 1 t : FVec Ideal S2x1024x384 .bf16) (ix3 s e j)
    = wuIn m c (ix2 e ⟨768 * (t.val % 4) + (384 * s.val + j.val), by omega⟩) :=
  (congrArg (V m c main_v2) (show ((View.whole main_v2).slice (win0_1.rect t)).emb (ix3 s e j)
    = (ix3 ⟨2 * (t.val % 4) + s.val, by omega⟩ e j : S8x1024x384.Idx) by blk_ext [(places t).1.2.1])).trans
    ((wu_at m c _ e j).trans (congrArg (fun k => wuIn m c (ix2 e k)) (Fin.ext (by show (2 * (t.val % 4) + s.val) * 384 + j.val = 768 * (t.val % 4) + (384 * s.val + j.val); omega))))

/-- One step of the product, over its stretch of the projection. -/
theorem prod_eq (r e : Fin 1024) : prod (iblk m c 0 t) (iblk m c 1 t) r e
    = ∑ j : Fin 768, duIn m c (ix2 (rowOf t r) ⟨t.val % 4 * 768 + j.val, by omega⟩) * wuIn m c (ix2 e ⟨t.val % 4 * 768 + j.val, by omega⟩) := by
  rw [Fin.sum_univ_two_halves 384 384 rfl, add_comm]
  unfold prod
  refine congrArg₂ (· + ·) (Finset.sum_congr rfl fun j _ => ?_) (Finset.sum_congr rfl fun j _ => ?_)
  · refine congrArg₂ (· * ·) ((du_blk m c t _ _).trans (congrArg (fun k => duIn m c (ix2 _ k)) (Fin.ext ?_)))
      ((wu_blk m c t _ _ _).trans (congrArg (fun k => wuIn m c (ix2 e k)) (Fin.ext ?_)))
    · show 768 * (t.val % 4) + (384 + j.val) = t.val % 4 * 768 + (384 + j.val); omega
    · show 768 * (t.val % 4) + (384 * 1 + j.val) = t.val % 4 * 768 + (384 + j.val); omega
  · refine congrArg₂ (· * ·) ((du_blk m c t _ _).trans (congrArg (fun k => duIn m c (ix2 _ k)) (Fin.ext ?_)))
      ((wu_blk m c t _ _ _).trans (congrArg (fun k => wuIn m c (ix2 e k)) (Fin.ext ?_)))
    · show 768 * (t.val % 4) + j.val = t.val % 4 * 768 + j.val; omega
    · show 768 * (t.val % 4) + (384 * 0 + j.val) = t.val % 4 * 768 + j.val; omega

theorem prod_tile (R : Fin 4096) (k : Fin 4) (r e : Fin 1024) (hk : t.val % 4 = k.val) (hR : rowOf t r = R) :
    prod (iblk m c 0 t) (iblk m c 1 t) r e
      = ∑ j : Fin 768, duIn m c (ix2 R ⟨k.val * 768 + j.val, by omega⟩) * wuIn m c (ix2 e ⟨k.val * 768 + j.val, by omega⟩) := by
  subst hR
  obtain ⟨k, hk'⟩ := k
  dsimp only at hk
  subst hk
  exact prod_eq m c t r e

/-- At a row tile's last point the product is complete. -/
theorem total_eq (h : t.val % 4 = 3) (r : Fin 1024) : total m c t r = dh (wuIn m c) (duIn m c) (rowOf t r) := by
  funext e
  have b := lt16 t
  let t2 : Fin cfg0.N := ⟨t.val - 1, by omega⟩
  let t1 : Fin cfg0.N := ⟨t.val - 1 - 1, by omega⟩
  let t0 : Fin cfg0.N := ⟨t.val - 1 - 1 - 1, by omega⟩
  have h2 : t2.val = t.val - 1 := rfl
  have h1 : t1.val = t.val - 2 := by show t.val - 1 - 1 = _; omega
  have h0 : t0.val = t.val - 3 := by show t.val - 1 - 1 - 1 = _; omega
  unfold total dh
  refine (congrArg (· + _) ((scratch_B m c t2 (by omega) r e).trans (congrArg (· + _) ((scratch_B m c t1 (by omega) r e).trans
    (congrArg (· + _) (scratch_A m c t0 (by omega) r e)))))).trans ?_
  have R2 : rowOf t2 r = rowOf t r := Fin.ext (by show 1024 * (t2.val / 4) + _ = 1024 * (t.val / 4) + _; omega)
  have R1 : rowOf t1 r = rowOf t r := Fin.ext (by show 1024 * (t1.val / 4) + _ = 1024 * (t.val / 4) + _; omega)
  have R0 : rowOf t0 r = rowOf t r := Fin.ext (by show 1024 * (t0.val / 4) + _ = 1024 * (t.val / 4) + _; omega)
  rw [prod_tile m c t (rowOf t r) 3 r e h rfl, prod_tile m c t2 (rowOf t r) 2 r e (by show t2.val % 4 = 2; omega) R2,
    prod_tile m c t1 (rowOf t r) 1 r e (by show t1.val % 4 = 1; omega) R1, prod_tile m c t0 (rowOf t r) 0 r e (by show t0.val % 4 = 0; omega) R0,
    ← Fin.sum_mul_add_fin 4 768 (fun j : Fin 3072 => duIn m c (ix2 (rowOf t r) j) * wuIn m c (ix2 e j)), Fin.sum_univ_four]

theorem row_eq' (h : t.val % 4 = 3) (r e : Fin 1024) :
    NormGrad.row (rows m c t r) (scale m c t) (total m c t r) (resid m c t r) e
      = dx (xIn m c) (nwIn m c) (wuIn m c) (dxoIn m c) (duIn m c) (ix2 (rowOf t r) e) := by
  rw [rows_eq, scale_eq, total_eq m c t h, resid_eq]
  rfl

theorem flush_last : ∀ t : Fin cfg0.N, ((cfg0.win 5).flush t = true → t.val % 4 = 3) ∧ ((cfg0.win 6).flush t = true → t.val % 4 = 3) :=
  (by decide +kernel : ∀ t : Fin grid0.N, _)

end

theorem array_dx (c : Dev nD) : (dats m 0 c).arrAt 5 cfg0.N = dx (xIn m c) (nwIn m c) (wuIn m c) (dxoIn m c) (duIn m c) := by
  refine (dats m 0 c).arrAt_eq_of_covers 5 _ (by decide +kernel) fun t hf y => ?_
  blk_simp
  rw [after0_5]
  obtain ⟨r, e, rfl⟩ : ∃ (r : Fin 1024) (e : Fin 1024), y = ix2 r e := ⟨y 0, y 1, eq_ix2 (n0 := 1024) (n1 := 1024) y⟩
  have h := (flush_last t).1 hf
  have place : ((View.whole main_v5_0).slice (win0_5.rect t)).emb (ix2 r e) = (ix2 (rowOf t r) e : S4096x1024.Idx) := by
    blk_ext [(places t).2.2.1, rowOf]
  rw [place]
  refine Eq.trans ?_ (row_eq' m c t h r e)
  by_cases h4 : 4 ≤ t.val
  · exact out_D m c t ⟨h, h4⟩ r e
  · exact out_C m c t (by omega) r e

theorem array_cast (c : Dev nD) : (dats m 0 c).arrAt 6 cfg0.N = dx (xIn m c) (nwIn m c) (wuIn m c) (dxoIn m c) (duIn m c) := by
  refine (dats m 0 c).arrAt_eq_of_covers 6 _ (by decide +kernel) fun t hf y => ?_
  blk_simp
  rw [after0_6]
  obtain ⟨r, e, rfl⟩ : ∃ (r : Fin 1024) (e : Fin 1024), y = ix2 r e := ⟨y 0, y 1, eq_ix2 (n0 := 1024) (n1 := 1024) y⟩
  have h := (flush_last t).2 hf
  have place : ((View.whole main_v5_1).slice (win0_6.rect t)).emb (ix2 r e) = (ix2 (rowOf t r) e : S4096x1024.Idx) := by
    blk_ext [(places t).2.2.2.1, rowOf]
  rw [place]
  refine Eq.trans ?_ (row_eq' m c t h r e)
  by_cases h4 : 4 ≤ t.val
  · exact cast_D m c t ⟨h, h4⟩ r e
  · exact cast_C m c t (by omega) r e

/-- The weight's gradient kept so far, at a point. -/
abbrev acc (c : Dev nD) (e : Fin 1024) (n : ℕ) (h : n < 16) : EReal := (outsAt0 m c n h).2.2.1 (ix2 0 e)

/-- What row tile `i` adds to it. -/
abbrev part (c : Dev nD) (e : Fin 1024) (i : Fin 4) : EReal :=
  ∑ r : Fin 1024, NormGrad.weight (fun e => xIn m c (ix2 ⟨i.val * 1024 + r.val, by omega⟩ e)) (dh (wuIn m c) (duIn m c) ⟨i.val * 1024 + r.val, by omega⟩) e

theorem part_eq (c : Dev nD) (t : Fin cfg0.N) (h : t.val % 4 = 3) (i : Fin 4) (hi : t.val / 4 = i.val) (e : Fin 1024) :
    ∑ r : Fin 1024, NormGrad.weight (rows m c t r) (total m c t r) e = part m c e i := by
  refine Finset.sum_congr rfl fun r _ => ?_
  rw [rows_eq, total_eq m c t h, show rowOf t r = ⟨i.val * 1024 + r.val, by omega⟩ from
    Fin.ext (by show 1024 * (t.val / 4) + r.val = i.val * 1024 + r.val; omega)]

theorem acc_hold (c : Dev nD) (e : Fin 1024) (n : ℕ) (h : n + 1 < 16) (hn : (n + 1) % 4 ≠ 3) :
    acc m c e (n + 1) h = acc m c e n (by omega) := by
  by_cases h0 : (n + 1) % 4 = 0
  · exact sum_A m c ⟨n + 1, h⟩ h0 (by simp) e
  · exact sum_B m c ⟨n + 1, h⟩ (by dsimp only; omega) e

theorem acc_step (c : Dev nD) (e : Fin 1024) (i : Fin 4) (hi : 1 ≤ i.val) :
    acc m c e (4 * i.val + 3) (by omega) = acc m c e (4 * (i.val - 1) + 3) (by omega) + part m c e i := by
  refine (sum_D m c ⟨4 * i.val + 3, by show _ < 16; omega⟩ (by dsimp only; omega) e).trans ?_
  rw [part_eq m c _ (by dsimp only; omega) i (by dsimp only; omega)]
  refine congrArg (· + _) ?_
  have a := acc_hold m c e (4 * i.val + 1) (by omega) (by omega)
  have b := acc_hold m c e (4 * i.val) (by omega) (by omega)
  have d := acc_hold m c e (4 * i.val - 1) (by omega) (by omega)
  show acc m c e (4 * i.val + 2) _ = _
  rw [a, b]
  have e1 : ∀ n n' h h', n = n' → acc m c e n h = acc m c e n' h' := fun n n' h h' q => by subst q; rfl
  exact (e1 _ _ _ _ (by omega)).trans (d.trans (e1 _ _ _ _ (by omega)))

theorem acc_last (c : Dev nD) (e : Fin 1024) : acc m c e 15 (by omega)
    = dnw (xIn m c) (wuIn m c) (duIn m c) (ix2 0 e) := by
  show _ = ∑ r : Fin 4096, NormGrad.weight (fun e => xIn m c (ix2 r e)) (dh (wuIn m c) (duIn m c) r) e
  refine Eq.trans ?_ (Fin.sum_mul_add_fin 4 1024 (fun r : Fin 4096 => NormGrad.weight (fun e => xIn m c (ix2 r e)) (dh (wuIn m c) (duIn m c) r) e))
  rw [Fin.sum_univ_four]
  refine (acc_step m c e 3 (by decide)).trans (congrArg (· + _) ((acc_step m c e 2 (by decide)).trans (congrArg (· + _)
    ((acc_step m c e 1 (by decide)).trans (congrArg (· + _) ?_)))))
  refine (sum_C m c ⟨3, by show 3 < 16; omega⟩ rfl e).trans (part_eq m c _ rfl 0 rfl e)

theorem array_dnw (c : Dev nD) : (dats m 0 c).arrAt 7 cfg0.N = dnw (xIn m c) (wuIn m c) (duIn m c) := by
  refine (dats m 0 c).arrAt_eq_of_after_last 7 ⟨15, by show 15 < 16; omega⟩ (by decide +kernel) _ fun j => ?_
  rw [after0_7]
  obtain ⟨z, e, rfl⟩ : ∃ (z : Fin 1) (e : Fin 1024), j = ix2 z e := ⟨j 0, j 1, eq_ix2 (n0 := 1) (n1 := 1024) j⟩
  obtain rfl : z = 0 := Subsingleton.elim _ _
  exact acc_last m c e

end Cert.InEven.Proof

end
-- ==== Proof.InEven.Reference.lean ====
/- The derivative of the norm behind the even layer's projection, as the reference computes it. -/
module

public import proofs.«01_k».proof.Proof.InEven.Kernel
public import proofs.«01_k».proof.Proof.Gen.InEvenRefIdeal.Read

@[expose] public section

set_option maxRecDepth 16384

noncomputable section

namespace Cert.InEven.Proof.Ref

open Cert.InEvenRefIdeal Cert.InEvenRefIdeal.Read Idealize.ShloMosaic Idealize.ShloMosaic.TcCoe

variable (x : Arr S4096x1024) (nw : Arr S1024) (wu : Arr S1024x3072) (dxo : Arr S4096x1024) (du : Arr S4096x3072)

/-- The rows, and the cotangent behind the weight. -/
abbrev rowAt (r : Fin 4096) (e : Fin 1024) : EReal := x (ix2 r e)
abbrev ctAt (r : Fin 4096) (e : Fin 1024) : EReal := dh wu du r e * nw (ix1 e)

theorem mean_at (r : Fin 4096) : val_main_v6 (F := Ideal) x (ix2 r 0)
    = RmsGrad.meanSq NormGrad.width NormGrad.small (rowAt x r) := by
  unfold val_main_v6 val_main_v5 val_main_v4 val_main_v3 val_main_v2 val_main_v1 val_main_v0 val_main_cst val_main_cst_0 val_main_cst_1
  pointwise
  rfl

theorem rinv_at (r : Fin 4096) : val_main_v7 (F := Ideal) x (ix2 r 0)
    = RmsGrad.rinv NormGrad.width NormGrad.small (rowAt x r) := by
  unfold val_main_v7
  pointwise
  rw [mean_at]
  rfl

theorem normed_at (r : Fin 4096) (e : Fin 1024) : val_main_v12 (F := Ideal) x (ix2 r e)
    = x (ix2 r e) * RmsGrad.rinv NormGrad.width NormGrad.small (rowAt x r) := by
  unfold val_main_v12 val_main_v11
  pointwise
  rw [rinv_at]

theorem dh_at (r : Fin 4096) (e : Fin 1024) : val_main_v17 (F := Ideal) wu du (ix2 r e) = dh wu du r e := by
  unfold val_main_v17
  pointwise [dot_S4096x3072_S1024x3072_S4096x1024_1_1_0_0_n_n]
  rfl

theorem ct_at (r : Fin 4096) (e : Fin 1024) : val_main_v22 (F := Ideal) nw wu du (ix2 r e) = ctAt nw wu du r e := by
  unfold val_main_v22 val_main_v21 val_main_v13
  pointwise
  rw [dh_at]

theorem half_real : Ideal.ofBits .f32 0xBF000000#32 = ((-1 / 2 : ℝ) : EReal) := by
  simp [Ideal.ofBits, Ideal.ieee, -EReal.coe_mul]; norm_num

theorem inner_at (r : Fin 4096) (e : Fin 1024) : val_main_v34 (F := Ideal) x nw wu du (ix2 r e)
    = RmsGrad.inner NormGrad.width NormGrad.small ((-1 / 2 : ℝ) : EReal) (rowAt x r) (ctAt nw wu du r) := by
  unfold val_main_v34 val_main_v33 val_main_v32 val_main_v31 val_main_v30 val_main_v26 val_main_v25 val_main_v24 val_main_v10 val_main_v9 val_main_v8
    val_main_cst_2 val_main_cst_5 val_main_cst_6 val_main_cst_7
  pointwise
  simp only [ct_at, Fin.sum_univ_one, rinv_at, mean_at]
  rw [← half_real]
  rfl

theorem dx_at (r : Fin 4096) (e : Fin 1024) : val_main_v38 (F := Ideal) x nw wu dxo du (ix2 r e) = dx x nw wu dxo du (ix2 r e) := by
  refine Eq.trans ?_ (NormGrad.row_eq (rowAt x r) (fun e => nw (ix1 e)) (dh wu du r) (fun e => dxo (ix2 r e)) e).symm
  unfold val_main_v38 val_main_v37 val_main_v36 val_main_v35 val_main_v29 val_main_v28 val_main_v27
  pointwise
  simp only [ct_at, rinv_at, inner_at, add_assoc]

theorem reference_dx : val_main_v38 (F := Ideal) x nw wu dxo du = dx x nw wu dxo du := by
  funext i
  obtain ⟨r, e, rfl⟩ : ∃ (r : Fin 4096) (e : Fin 1024), i = ix2 r e := ⟨i 0, i 1, eq_ix2 (n0 := 4096) (n1 := 1024) i⟩
  exact dx_at x nw wu dxo du r e

theorem reference_cast : val_main_v39 (F := Ideal) x nw wu dxo du = dx x nw wu dxo du := by
  refine Eq.trans ?_ (reference_dx x nw wu dxo du)
  rfl

theorem reference_dnw : val_main_v40 (F := Ideal) x wu du = dnw x wu du := by
  funext i
  obtain ⟨z, e, rfl⟩ : ∃ (z : Fin 1) (e : Fin 1024), i = ix2 z e := ⟨i 0, i 1, eq_ix2 (n0 := 1) (n1 := 1024) i⟩
  unfold val_main_v40 val_main_v23 val_main_v20 val_main_v19 val_main_v18 val_main_cst_3 val_main_cst_4
  pointwise
  simp only [Fin.sum_univ_one, normed_at, dh_at]
  exact Finset.sum_congr rfl fun r _ => mul_comm (_ : EReal) _

end Cert.InEven.Proof.Ref

end
-- ==== Proof.InEven.Claims.lean ====
/- The claims about the norm's gradient behind the even layer's projection that the certificate assembles. -/
module

public import proofs.«01_k».proof.Defs
public import proofs.«01_k».proof.Proof.InEven.Reference
public import proofs.«01_k».proof.Proof.Gen.InEven.Frame

@[expose] public section

set_option maxRecDepth 16384

noncomputable section

namespace Cert.InEven.Proof

open Idealize.ShloMosaic Idealize.ShloMosaic.TcCoe Idealize.SL.Sem

theorem reference_frame : Cert.quiescent_InEvenRefIdeal (hInEvenRefIdeal := Cert.InEvenRefIdeal.Gen.facts) := fun m g _ =>
  (θ_run Cert.InEvenRefIdeal.defs _ _).mono (fun r h => ⟨fun c => (h c).2.2.2, sem_eq_zero_of_no_sems (by decide) r.2⟩)
    (Cert.InEvenRefIdeal.Value.run m g)

theorem algebraic : Cert.algebraic_InEvenIdeal_InEvenRefIdeal (hInEvenIdeal := Cert.InEvenIdeal.Gen.facts)
    (hInEvenRefIdeal := Cert.InEvenRefIdeal.Gen.facts) := by
  intro m g m' g' _ hargs
  refine ⟨fun c => dx (xIn m c) (nwIn m c) (wuIn m c) (dxoIn m c) (duIn m c), fun c => dx (xIn m c) (nwIn m c) (wuIn m c) (dxoIn m c) (duIn m c),
    fun c => dnw (xIn m c) (wuIn m c) (duIn m c), ?_, ?_⟩
  · exact (θ_run Cert.InEvenIdeal.defs _ _).mono (fun r h c => ⟨(h c).1.trans (array_dx m c), (h c).2.1.trans (array_cast m c),
      (h c).2.2.1.trans (array_dnw m c), (h c).2.2.2⟩) (Cert.InEvenIdeal.Value.run_blocks m g)
  · refine (θ_run Cert.InEvenRefIdeal.defs _ _).mono (fun r h c => ?_) (Cert.InEvenRefIdeal.Value.run m' g')
    obtain ⟨a0, a1, a2, a3, a4⟩ := hargs c
    refine ⟨(h c).1.trans ?_, (h c).2.1.trans ?_, (h c).2.2.1.trans ?_, (h c).2.2.2⟩
    · refine (Cert.InEvenRefIdeal.Read.val_main_v38_eq m' c).trans ?_
      rw [a0, a1, a2, a3, a4]
      exact Ref.reference_dx _ _ _ _ _
    · refine (Cert.InEvenRefIdeal.Read.val_main_v39_eq m' c).trans ?_
      rw [a0, a1, a2, a3, a4]
      exact Ref.reference_cast _ _ _ _ _
    · refine (Cert.InEvenRefIdeal.Read.val_main_v40_eq _ _ _).trans ?_
      rw [a0, a2, a4]
      exact Ref.reference_dnw _ _ _

end Cert.InEven.Proof

end
-- ==== Proof.InOdd.Points.lean ====
/- What a grid point leaves of the norm's gradient behind the odd layer's projection. -/
module

public import proofs.«01_k».proof.Proof.Gen.InOddIdeal.Value
public import proofs.«01_k».proof.Proof.NormGrad.Spec
public import proofs.«01_k».proof.Proof.Load

@[expose] public section

set_option maxRecDepth 16384

noncomputable section

namespace Cert.InOdd.Proof

open Cert.InOddIdeal Cert.InOddIdeal.Gen Idealize.ShloMosaic Idealize.ShloMosaic.TcCoe Idealize.SL.Sem

variable (m : (ℓ : Loc nD τ sig) → Buf (Elt Ideal) ℓ)

/-- The product of a block of the cotangent with a block of the weight, at an entry. -/
def prod (x w : FVec Ideal S1024x1408 .bf16) (r e : Fin 1024) : EReal :=
  ∑ j : Fin 1408, x (ix2 r j) * w (ix2 e j)

/-- What the point before left. -/
abbrev prev (c : Dev nD) (t : Fin cfg0.N) := outsAt0 m c (t.val - 1) (Nat.lt_of_le_of_lt (Nat.sub_le _ _) t.isLt)

theorem scratch_A (c : Dev nD) (t : Fin cfg0.N) (h : t.val % 3 = 0) (r e : Fin 1024) :
    (outsAt0 m c t.val t.isLt).2.2.2 (ix2 r e) = prod (iblk m c 0 t) (iblk m c 1 t) r e := by
  rw [Gen.outsAt0_A m c t h (by omega) (by omega)]
  frame_open
  frame_out
  generalize iblk m c 0 t = x0
  generalize iblk m c 1 t = x1
  unfold_payloads
  pointwise [dot_S1024x1408_S1024x1408_S1024x1024_1_1_0_0_n_n]
  rfl

theorem scratch_B (c : Dev nD) (t : Fin cfg0.N) (h : t.val % 3 = 1) (r e : Fin 1024) :
    (outsAt0 m c t.val t.isLt).2.2.2 (ix2 r e) = (prev m c t).2.2.2 (ix2 r e) + prod (iblk m c 0 t) (iblk m c 1 t) r e := by
  rw [Gen.outsAt0_B m c t (by omega) h (by omega)]
  frame_open
  frame_out
  simp only [Cert.Load.load_eq, read_unread_whole]
  generalize iblk m c 0 t = x0
  generalize iblk m c 1 t = x1
  unfold_payloads
  pointwise [dot_S1024x1408_S1024x1408_S1024x1024_1_1_0_0_n_n]
  rfl

theorem sum_A (c : Dev nD) (t : Fin cfg0.N) (h : t.val % 3 = 0) (ht : t.val ≠ 0) (e : Fin 1024) :
    (outsAt0 m c t.val t.isLt).2.2.1 (ix2 0 e) = (prev m c t).2.2.1 (ix2 0 e) := by
  rw [Gen.outsAt0_A m c t h (by omega) (by omega)]
  rfl

theorem sum_B (c : Dev nD) (t : Fin cfg0.N) (h : t.val % 3 = 1) (e : Fin 1024) :
    (outsAt0 m c t.val t.isLt).2.2.1 (ix2 0 e) = (prev m c t).2.2.1 (ix2 0 e) := by
  rw [Gen.outsAt0_B m c t (by omega) h (by omega)]
  rfl

/-- The whole product at a row tile's last point. -/
def total (c : Dev nD) (t : Fin cfg0.N) (r e : Fin 1024) : EReal :=
  (prev m c t).2.2.2 (ix2 r e) + prod (iblk m c 0 t) (iblk m c 1 t) r e

/-- The blocks of the rows, the residual's cotangent and the weight. -/
def rows (c : Dev nD) (t : Fin cfg0.N) (r e : Fin 1024) : EReal := (iblk m c 2 t : FVec Ideal S1024x1024 .f32) (ix2 r e)
def resid (c : Dev nD) (t : Fin cfg0.N) (r e : Fin 1024) : EReal := (iblk m c 3 t : FVec Ideal S1024x1024 .f32) (ix2 r e)
def scale (c : Dev nD) (t : Fin cfg0.N) (e : Fin 1024) : EReal := (iblk m c 4 t : FVec Ideal S1x1024 .f32) (ix2 0 e)

theorem out_C (c : Dev nD) (t : Fin cfg0.N) (h : t.val = 2) (r e : Fin 1024) :
    (outsAt0 m c t.val t.isLt).1 (ix2 r e) = NormGrad.row (rows m c t r) (scale m c t) (total m c t r) (resid m c t r) e := by
  rw [Gen.outsAt0_C m c t (by omega) (by omega) (by omega) (by omega) (by omega)]
  frame_open
  frame_out
  simp only [Cert.Load.load_eq, read_unread_whole]
  unfold rows resid scale total
  generalize iblk m c 0 t = x0
  generalize iblk m c 1 t = x1
  generalize iblk m c 2 t = x2
  generalize iblk m c 3 t = x3
  generalize iblk m c 4 t = x4
  unfold_payloads
  pointwise [dot_S1024x1408_S1024x1408_S1024x1024_1_1_0_0_n_n]
  rfl

theorem out_D (c : Dev nD) (t : Fin cfg0.N) (h : t.val % 3 = 2 ∧ 3 ≤ t.val) (r e : Fin 1024) :
    (outsAt0 m c t.val t.isLt).1 (ix2 r e) = NormGrad.row (rows m c t r) (scale m c t) (total m c t r) (resid m c t r) e := by
  rw [Gen.outsAt0_D m c t (by omega) (by omega) (by omega) (by omega) (by omega)]
  frame_open
  frame_out
  simp only [Cert.Load.load_eq, read_unread_whole]
  unfold rows resid scale total
  generalize iblk m c 0 t = x0
  generalize iblk m c 1 t = x1
  generalize iblk m c 2 t = x2
  generalize iblk m c 3 t = x3
  generalize iblk m c 4 t = x4
  unfold_payloads
  pointwise [dot_S1024x1408_S1024x1408_S1024x1024_1_1_0_0_n_n]
  rfl

theorem cast_C (c : Dev nD) (t : Fin cfg0.N) (h : t.val = 2) (r e : Fin 1024) :
    (outsAt0 m c t.val t.isLt).2.1 (ix2 r e) = NormGrad.row (rows m c t r) (scale m c t) (total m c t r) (resid m c t r) e := by
  rw [Gen.outsAt0_C m c t (by omega) (by omega) (by omega) (by omega) (by omega)]
  frame_open
  frame_out
  simp only [Cert.Load.load_eq, read_unread_whole]
  unfold rows resid scale total
  generalize iblk m c 0 t = x0
  generalize iblk m c 1 t = x1
  generalize iblk m c 2 t = x2
  generalize iblk m c 3 t = x3
  generalize iblk m c 4 t = x4
  unfold_payloads
  pointwise [dot_S1024x1408_S1024x1408_S1024x1024_1_1_0_0_n_n]
  rfl

theorem cast_D (c : Dev nD) (t : Fin cfg0.N) (h : t.val % 3 = 2 ∧ 3 ≤ t.val) (r e : Fin 1024) :
    (outsAt0 m c t.val t.isLt).2.1 (ix2 r e) = NormGrad.row (rows m c t r) (scale m c t) (total m c t r) (resid m c t r) e := by
  rw [Gen.outsAt0_D m c t (by omega) (by omega) (by omega) (by omega) (by omega)]
  frame_open
  frame_out
  simp only [Cert.Load.load_eq, read_unread_whole]
  unfold rows resid scale total
  generalize iblk m c 0 t = x0
  generalize iblk m c 1 t = x1
  generalize iblk m c 2 t = x2
  generalize iblk m c 3 t = x3
  generalize iblk m c 4 t = x4
  unfold_payloads
  pointwise [dot_S1024x1408_S1024x1408_S1024x1024_1_1_0_0_n_n]
  rfl

theorem sum_C (c : Dev nD) (t : Fin cfg0.N) (h : t.val = 2) (e : Fin 1024) :
    (outsAt0 m c t.val t.isLt).2.2.1 (ix2 0 e) = ∑ r : Fin 1024, NormGrad.weight (rows m c t r) (total m c t r) e := by
  rw [Gen.outsAt0_C m c t (by omega) (by omega) (by omega) (by omega) (by omega)]
  frame_open
  frame_out
  simp only [Cert.Load.load_eq, read_unread_whole]
  unfold rows total
  generalize iblk m c 0 t = x0
  generalize iblk m c 1 t = x1
  generalize iblk m c 2 t = x2
  generalize iblk m c 3 t = x3
  generalize iblk m c 4 t = x4
  unfold_payloads
  pointwise [dot_S1024x1408_S1024x1408_S1024x1024_1_1_0_0_n_n]
  rfl

theorem sum_D (c : Dev nD) (t : Fin cfg0.N) (h : t.val % 3 = 2 ∧ 3 ≤ t.val) (e : Fin 1024) :
    (outsAt0 m c t.val t.isLt).2.2.1 (ix2 0 e) = (prev m c t).2.2.1 (ix2 0 e) + ∑ r : Fin 1024, NormGrad.weight (rows m c t r) (total m c t r) e := by
  rw [Gen.outsAt0_D m c t (by omega) (by omega) (by omega) (by omega) (by omega)]
  frame_open
  frame_out
  simp only [Cert.Load.load_eq, read_unread_whole]
  unfold rows total
  generalize iblk m c 0 t = x0
  generalize iblk m c 1 t = x1
  generalize iblk m c 2 t = x2
  generalize iblk m c 3 t = x3
  generalize iblk m c 4 t = x4
  unfold_payloads
  pointwise [dot_S1024x1408_S1024x1408_S1024x1024_1_1_0_0_n_n]
  rfl

end Cert.InOdd.Proof

end
-- ==== Proof.InOdd.Kernel.lean ====
/- The arrays the norm's gradient behind the odd layer's projection leaves: four row tiles, each after three steps of its product. -/
module

public import proofs.«01_k».proof.Proof.InOdd.Points
public import Idealize.ShloMosaic.Lib.StableHlo.ReadAt

@[expose] public section

set_option maxRecDepth 12384

noncomputable section

namespace Cert.InOdd.Proof

open Cert.InOddIdeal Cert.InOddIdeal.Gen Idealize.ShloMosaic Idealize.ShloMosaic.TcCoe Idealize.SL.Sem

abbrev Arr (s : Shape) : Type := (⟨s, .f32⟩ : BufTy).Contents (Elt Ideal)

/-- The cotangent of the normalised rows: `du · w_inᵀ`. -/
def dh (wu : Arr S1024x4112) (du : Arr S4096x4112) (r : Fin 4096) (e : Fin 1024) : EReal :=
  ∑ j : Fin 4112, du (ix2 r j) * wu (ix2 e j)

/-- The gradient of the rows, and of the norm's weight. -/
def dx (x : Arr S4096x1024) (nw : Arr S1024) (wu : Arr S1024x4112) (dxo : Arr S4096x1024) (du : Arr S4096x4112) :
    Arr S4096x1024 := fun i =>
  NormGrad.row (fun e => x (ix2 (i 0) e)) (fun e => nw (ix1 e)) (dh wu du (i 0)) (fun e => dxo (ix2 (i 0) e)) (i 1)

def dnw (x : Arr S4096x1024) (wu : Arr S1024x4112) (du : Arr S4096x4112) : Arr S1x1024 := fun i =>
  ∑ r : Fin 4096, NormGrad.weight (fun e => x (ix2 r e)) (dh wu du r) (i 1)

variable (m : (ℓ : Loc nD τ sig) → Buf (Elt Ideal) ℓ)

section
variable (c : Dev nD)
abbrev xIn : Arr S4096x1024 := m ((c : Thread nD τ).loc main_arg0)
abbrev nwIn : Arr S1024 := m ((c : Thread nD τ).loc main_arg1)
abbrev wuIn : Arr S1024x4112 := m ((c : Thread nD τ).loc main_arg2)
abbrev dxoIn : Arr S4096x1024 := m ((c : Thread nD τ).loc main_arg3)
abbrev duIn : Arr S4096x4112 := m ((c : Thread nD τ).loc main_arg4)
end

/-- The columns of zeros that fill up the last block. -/
def padded {n : ℕ} (x : Fin n → Fin 4112 → EReal) (r : Fin n) (j : Fin 4224) : EReal :=
  if h : j.val < 4112 then x r ⟨j.val, h⟩ else 0

theorem pad_zero : (FloatOps.sitofp .bf16 0#32 : Ideal .bf16) = (0 : EReal) := by
  show (((0#32 : BitVec 32).toInt : ℝ) : EReal) = 0
  norm_num

theorem du_at (c : Dev nD) (r : Fin 4096) (j : Fin 4224) :
    V m c main_v1 (ix2 r j) = padded (fun r j => duIn m c (ix2 r j)) r j := by
  unfold V hostOps0 hostOps0_1 hostOps0_2 hostOps0_3 hostOps0_4
  after_reads_at
  exact congrArg (dite _ _) (funext fun _ => pad_zero)

theorem nw_at (c : Dev nD) (e : Fin 1024) : V m c main_v4 (ix2 0 e) = nwIn m c (ix1 e) := by
  unfold V hostOps0
  after_reads_at

theorem wu_at (c : Dev nD) (e : Fin 1024) (j : Fin 4224) :
    V m c main_v3 (ix2 e j) = padded (fun e j => wuIn m c (ix2 e j)) e j := by
  unfold V hostOps0 hostOps0_1 hostOps0_2 hostOps0_3 hostOps0_4
  after_reads_at
  exact congrArg (dite _ _) (funext fun _ => pad_zero)

theorem places : ∀ t : Fin cfg0.N, (win0_0.index t = ![t.val / 3, t.val % 3] ∧ win0_1.index t = ![0, t.val % 3]
    ∧ win0_2.index t = ![t.val / 3, 0] ∧ win0_3.index t = ![t.val / 3, 0]) ∧ win0_4.index t = ![0, 0]
    ∧ win0_5.index t = ![t.val / 3, 0] ∧ win0_6.index t = ![t.val / 3, 0] ∧ win0_7.index t = ![0, 0] :=
  (by decide +kernel : ∀ t : Fin grid0.N, _)

theorem lt12 (t : Fin cfg0.N) : t.val < 12 := t.isLt

/-- Row `r` of grid point `t`'s tile. -/
def rowOf (t : Fin cfg0.N) (r : Fin 1024) : Fin 4096 := ⟨1024 * (t.val / 3) + r.val, by have := lt12 t; omega⟩

section
variable (c : Dev nD) (t : Fin cfg0.N)

theorem rows_eq (r : Fin 1024) : rows m c t r = fun e => xIn m c (ix2 (rowOf t r) e) := by
  funext e
  exact (congrArg (V m c main_arg0) (show ((View.whole main_arg0).slice (win0_2.rect t)).emb _
    = (ix2 (rowOf t r) e : S4096x1024.Idx) by blk_ext [(places t).1.2.2.1, rowOf])).trans (congrFun (V_main_arg0 m c) _)

theorem resid_eq (r : Fin 1024) : resid m c t r = fun e => dxoIn m c (ix2 (rowOf t r) e) := by
  funext e
  exact (congrArg (V m c main_arg3) (show ((View.whole main_arg3).slice (win0_3.rect t)).emb _
    = (ix2 (rowOf t r) e : S4096x1024.Idx) by blk_ext [(places t).1.2.2.2, rowOf])).trans (congrFun (V_main_arg3 m c) _)

theorem scale_eq : scale m c t = fun e => nwIn m c (ix1 e) := by
  funext e
  exact (congrArg (V m c main_v4) (show ((View.whole main_v4).slice (win0_4.rect t)).emb _
    = (ix2 0 e : S1x1024.Idx) by blk_ext [(places t).2.1])).trans (nw_at m c e)

theorem du_blk (r : Fin 1024) (j : Fin 1408) : (iblk m c 0 t : FVec Ideal S1024x1408 .bf16) (ix2 r j)
    = padded (fun r j => duIn m c (ix2 r j)) (rowOf t r) ⟨t.val % 3 * 1408 + j.val, by omega⟩ :=
  (congrArg (V m c main_v1) (show ((View.whole main_v1).slice (win0_0.rect t)).emb (ix2 r j)
    = (ix2 (rowOf t r) ⟨t.val % 3 * 1408 + j.val, by omega⟩ : S4096x4224.Idx) by blk_ext [(places t).1.1, rowOf])).trans (du_at m c _ _)

theorem wu_blk (e : Fin 1024) (j : Fin 1408) : (iblk m c 1 t : FVec Ideal S1024x1408 .bf16) (ix2 e j)
    = padded (fun e j => wuIn m c (ix2 e j)) e ⟨t.val % 3 * 1408 + j.val, by omega⟩ :=
  (congrArg (V m c main_v3) (show ((View.whole main_v3).slice (win0_1.rect t)).emb (ix2 e j)
    = (ix2 e ⟨t.val % 3 * 1408 + j.val, by omega⟩ : S1024x4224.Idx) by blk_ext [(places t).1.2.1])).trans (wu_at m c _ _)

/-- The product at one place of the padded axis. -/
def term (R : Fin 4096) (e : Fin 1024) (j : Fin 4224) : EReal :=
  padded (fun r j => duIn m c (ix2 r j)) R j * padded (fun e j => wuIn m c (ix2 e j)) e j

theorem prod_tile (R : Fin 4096) (k : Fin 3) (r e : Fin 1024) (hk : t.val % 3 = k.val) (hR : rowOf t r = R) :
    prod (iblk m c 0 t) (iblk m c 1 t) r e = ∑ j : Fin 1408, term m c R e ⟨k.val * 1408 + j.val, by omega⟩ := by
  subst hR
  obtain ⟨k, hk'⟩ := k
  dsimp only at hk
  subst hk
  exact Finset.sum_congr rfl fun j _ => congrArg₂ (· * ·) (du_blk m c t r j) (wu_blk m c t e j)

/-- The padding adds nothing. -/
theorem sum_term (R : Fin 4096) (e : Fin 1024) : ∑ j : Fin 4224, term m c R e j = dh (wuIn m c) (duIn m c) R e := by
  rw [Fin.sum_univ_two_halves 4112 112 rfl]
  refine (congrArg₂ (· + ·) (Finset.sum_congr rfl fun j _ => ?_) (Finset.sum_eq_zero fun j _ => ?_)).trans (add_zero _)
  · have h : j.val < 4112 := j.isLt
    simp only [term, padded, h, dite_true]
  · have h : ¬ 4112 + j.val < 4112 := by omega
    simp only [term, padded, h, dite_false, zero_mul]

/-- At a row tile's last point the product is complete. -/
theorem total_eq (h : t.val % 3 = 2) (r : Fin 1024) : total m c t r = dh (wuIn m c) (duIn m c) (rowOf t r) := by
  funext e
  have b := lt12 t
  let t1 : Fin cfg0.N := ⟨t.val - 1, by omega⟩
  let t0 : Fin cfg0.N := ⟨t.val - 1 - 1, by omega⟩
  have h1 : t1.val = t.val - 1 := rfl
  have h0 : t0.val = t.val - 2 := by show t.val - 1 - 1 = _; omega
  unfold total
  refine (congrArg (· + _) ((scratch_B m c t1 (by omega) r e).trans (congrArg (· + _) (scratch_A m c t0 (by omega) r e)))).trans ?_
  have R1 : rowOf t1 r = rowOf t r := Fin.ext (by show 1024 * (t1.val / 3) + _ = 1024 * (t.val / 3) + _; omega)
  have R0 : rowOf t0 r = rowOf t r := Fin.ext (by show 1024 * (t0.val / 3) + _ = 1024 * (t.val / 3) + _; omega)
  rw [prod_tile m c t (rowOf t r) 2 r e h rfl, prod_tile m c t1 (rowOf t r) 1 r e (by show t1.val % 3 = 1; omega) R1,
    prod_tile m c t0 (rowOf t r) 0 r e (by show t0.val % 3 = 0; omega) R0,
    ← sum_term, ← Fin.sum_mul_add_fin 3 1408 (term m c (rowOf t r) e), Fin.sum_univ_three]

theorem row_eq' (h : t.val % 3 = 2) (r e : Fin 1024) :
    NormGrad.row (rows m c t r) (scale m c t) (total m c t r) (resid m c t r) e
      = dx (xIn m c) (nwIn m c) (wuIn m c) (dxoIn m c) (duIn m c) (ix2 (rowOf t r) e) := by
  rw [rows_eq, scale_eq, total_eq m c t h, resid_eq]
  rfl

theorem flush_last : ∀ t : Fin cfg0.N, ((cfg0.win 5).flush t = true → t.val % 3 = 2) ∧ ((cfg0.win 6).flush t = true → t.val % 3 = 2) :=
  (by decide +kernel : ∀ t : Fin grid0.N, _)

end

theorem array_dx (c : Dev nD) : (dats m 0 c).arrAt 5 cfg0.N = dx (xIn m c) (nwIn m c) (wuIn m c) (dxoIn m c) (duIn m c) := by
  refine (dats m 0 c).arrAt_eq_of_covers 5 _ (by decide +kernel) fun t hf y => ?_
  blk_simp
  rw [after0_5]
  obtain ⟨r, e, rfl⟩ : ∃ (r : Fin 1024) (e : Fin 1024), y = ix2 r e := ⟨y 0, y 1, eq_ix2 (n0 := 1024) (n1 := 1024) y⟩
  have h := (flush_last t).1 hf
  have place : ((View.whole main_v5_0).slice (win0_5.rect t)).emb (ix2 r e) = (ix2 (rowOf t r) e : S4096x1024.Idx) := by
    blk_ext [(places t).2.2.1, rowOf]
  rw [place]
  refine Eq.trans ?_ (row_eq' m c t h r e)
  by_cases h4 : 3 ≤ t.val
  · exact out_D m c t ⟨h, h4⟩ r e
  · exact out_C m c t (by omega) r e

theorem array_cast (c : Dev nD) : (dats m 0 c).arrAt 6 cfg0.N = dx (xIn m c) (nwIn m c) (wuIn m c) (dxoIn m c) (duIn m c) := by
  refine (dats m 0 c).arrAt_eq_of_covers 6 _ (by decide +kernel) fun t hf y => ?_
  blk_simp
  rw [after0_6]
  obtain ⟨r, e, rfl⟩ : ∃ (r : Fin 1024) (e : Fin 1024), y = ix2 r e := ⟨y 0, y 1, eq_ix2 (n0 := 1024) (n1 := 1024) y⟩
  have h := (flush_last t).2 hf
  have place : ((View.whole main_v5_1).slice (win0_6.rect t)).emb (ix2 r e) = (ix2 (rowOf t r) e : S4096x1024.Idx) := by
    blk_ext [(places t).2.2.2.1, rowOf]
  rw [place]
  refine Eq.trans ?_ (row_eq' m c t h r e)
  by_cases h4 : 3 ≤ t.val
  · exact cast_D m c t ⟨h, h4⟩ r e
  · exact cast_C m c t (by omega) r e

/-- The weight's gradient kept so far, at a point. -/
abbrev acc (c : Dev nD) (e : Fin 1024) (n : ℕ) (h : n < 12) : EReal := (outsAt0 m c n h).2.2.1 (ix2 0 e)

/-- What row tile `i` adds to it. -/
abbrev part (c : Dev nD) (e : Fin 1024) (i : Fin 4) : EReal :=
  ∑ r : Fin 1024, NormGrad.weight (fun e => xIn m c (ix2 ⟨i.val * 1024 + r.val, by omega⟩ e)) (dh (wuIn m c) (duIn m c) ⟨i.val * 1024 + r.val, by omega⟩) e

theorem part_eq (c : Dev nD) (t : Fin cfg0.N) (h : t.val % 3 = 2) (i : Fin 4) (hi : t.val / 3 = i.val) (e : Fin 1024) :
    ∑ r : Fin 1024, NormGrad.weight (rows m c t r) (total m c t r) e = part m c e i := by
  refine Finset.sum_congr rfl fun r _ => ?_
  rw [rows_eq, total_eq m c t h, show rowOf t r = ⟨i.val * 1024 + r.val, by omega⟩ from
    Fin.ext (by show 1024 * (t.val / 3) + r.val = i.val * 1024 + r.val; omega)]

theorem acc_hold (c : Dev nD) (e : Fin 1024) (n : ℕ) (h : n + 1 < 12) (hn : (n + 1) % 3 ≠ 2) :
    acc m c e (n + 1) h = acc m c e n (by omega) := by
  by_cases h0 : (n + 1) % 3 = 0
  · exact sum_A m c ⟨n + 1, h⟩ h0 (by simp) e
  · exact sum_B m c ⟨n + 1, h⟩ (by dsimp only; omega) e

theorem acc_step (c : Dev nD) (e : Fin 1024) (i : Fin 4) (hi : 1 ≤ i.val) :
    acc m c e (3 * i.val + 2) (by omega) = acc m c e (3 * (i.val - 1) + 2) (by omega) + part m c e i := by
  refine (sum_D m c ⟨3 * i.val + 2, by show _ < 12; omega⟩ (by dsimp only; omega) e).trans ?_
  rw [part_eq m c _ (by dsimp only; omega) i (by dsimp only; omega)]
  refine congrArg (· + _) ?_
  have b := acc_hold m c e (3 * i.val) (by omega) (by omega)
  have d := acc_hold m c e (3 * i.val - 1) (by omega) (by omega)
  show acc m c e (3 * i.val + 1) _ = _
  rw [b]
  have e1 : ∀ n n' h h', n = n' → acc m c e n h = acc m c e n' h' := fun n n' h h' q => by subst q; rfl
  exact (e1 _ _ _ _ (by omega)).trans (d.trans (e1 _ _ _ _ (by omega)))

theorem acc_last (c : Dev nD) (e : Fin 1024) : acc m c e 11 (by omega)
    = dnw (xIn m c) (wuIn m c) (duIn m c) (ix2 0 e) := by
  show _ = ∑ r : Fin 4096, NormGrad.weight (fun e => xIn m c (ix2 r e)) (dh (wuIn m c) (duIn m c) r) e
  refine Eq.trans ?_ (Fin.sum_mul_add_fin 4 1024 (fun r : Fin 4096 => NormGrad.weight (fun e => xIn m c (ix2 r e)) (dh (wuIn m c) (duIn m c) r) e))
  rw [Fin.sum_univ_four]
  refine (acc_step m c e 3 (by decide)).trans (congrArg (· + _) ((acc_step m c e 2 (by decide)).trans (congrArg (· + _)
    ((acc_step m c e 1 (by decide)).trans (congrArg (· + _) ?_)))))
  refine (sum_C m c ⟨2, by show 2 < 12; omega⟩ rfl e).trans (part_eq m c _ rfl 0 rfl e)

theorem array_dnw (c : Dev nD) : (dats m 0 c).arrAt 7 cfg0.N = dnw (xIn m c) (wuIn m c) (duIn m c) := by
  refine (dats m 0 c).arrAt_eq_of_after_last 7 ⟨11, by show 11 < 12; omega⟩ (by decide +kernel) _ fun j => ?_
  rw [after0_7]
  obtain ⟨z, e, rfl⟩ : ∃ (z : Fin 1) (e : Fin 1024), j = ix2 z e := ⟨j 0, j 1, eq_ix2 (n0 := 1) (n1 := 1024) j⟩
  obtain rfl : z = 0 := Subsingleton.elim _ _
  exact acc_last m c e

end Cert.InOdd.Proof

end
-- ==== Proof.InOdd.Reference.lean ====
/- The derivative of the norm behind the odd layer's projection, as the reference computes it. -/
module

public import proofs.«01_k».proof.Proof.InOdd.Kernel
public import proofs.«01_k».proof.Proof.Gen.InOddRefIdeal.Read

@[expose] public section

set_option maxRecDepth 16384

noncomputable section

namespace Cert.InOdd.Proof.Ref

open Cert.InOddRefIdeal Cert.InOddRefIdeal.Read Idealize.ShloMosaic Idealize.ShloMosaic.TcCoe

variable (x : Arr S4096x1024) (nw : Arr S1024) (wu : Arr S1024x4112) (dxo : Arr S4096x1024) (du : Arr S4096x4112)

/-- The rows, and the cotangent behind the weight. -/
abbrev rowAt (r : Fin 4096) (e : Fin 1024) : EReal := x (ix2 r e)
abbrev ctAt (r : Fin 4096) (e : Fin 1024) : EReal := dh wu du r e * nw (ix1 e)

theorem mean_at (r : Fin 4096) : val_main_v6 (F := Ideal) x (ix2 r 0)
    = RmsGrad.meanSq NormGrad.width NormGrad.small (rowAt x r) := by
  unfold val_main_v6 val_main_v5 val_main_v4 val_main_v3 val_main_v2 val_main_v1 val_main_v0 val_main_cst val_main_cst_0 val_main_cst_1
  pointwise
  rfl

theorem rinv_at (r : Fin 4096) : val_main_v7 (F := Ideal) x (ix2 r 0)
    = RmsGrad.rinv NormGrad.width NormGrad.small (rowAt x r) := by
  unfold val_main_v7
  pointwise
  rw [mean_at]
  rfl

theorem normed_at (r : Fin 4096) (e : Fin 1024) : val_main_v12 (F := Ideal) x (ix2 r e)
    = x (ix2 r e) * RmsGrad.rinv NormGrad.width NormGrad.small (rowAt x r) := by
  unfold val_main_v12 val_main_v11
  pointwise
  rw [rinv_at]

theorem dh_at (r : Fin 4096) (e : Fin 1024) : val_main_v17 (F := Ideal) wu du (ix2 r e) = dh wu du r e := by
  unfold val_main_v17
  pointwise [dot_S4096x4112_S1024x4112_S4096x1024_1_1_0_0_n_n]
  rfl

theorem ct_at (r : Fin 4096) (e : Fin 1024) : val_main_v22 (F := Ideal) nw wu du (ix2 r e) = ctAt nw wu du r e := by
  unfold val_main_v22 val_main_v21 val_main_v13
  pointwise
  rw [dh_at]

theorem half_real : Ideal.ofBits .f32 0xBF000000#32 = ((-1 / 2 : ℝ) : EReal) := by
  simp [Ideal.ofBits, Ideal.ieee, -EReal.coe_mul]; norm_num

theorem inner_at (r : Fin 4096) (e : Fin 1024) : val_main_v34 (F := Ideal) x nw wu du (ix2 r e)
    = RmsGrad.inner NormGrad.width NormGrad.small ((-1 / 2 : ℝ) : EReal) (rowAt x r) (ctAt nw wu du r) := by
  unfold val_main_v34 val_main_v33 val_main_v32 val_main_v31 val_main_v30 val_main_v26 val_main_v25 val_main_v24 val_main_v10 val_main_v9 val_main_v8
    val_main_cst_2 val_main_cst_5 val_main_cst_6 val_main_cst_7
  pointwise
  simp only [ct_at, Fin.sum_univ_one, rinv_at, mean_at]
  rw [← half_real]
  rfl

theorem dx_at (r : Fin 4096) (e : Fin 1024) : val_main_v38 (F := Ideal) x nw wu dxo du (ix2 r e) = dx x nw wu dxo du (ix2 r e) := by
  refine Eq.trans ?_ (NormGrad.row_eq (rowAt x r) (fun e => nw (ix1 e)) (dh wu du r) (fun e => dxo (ix2 r e)) e).symm
  unfold val_main_v38 val_main_v37 val_main_v36 val_main_v35 val_main_v29 val_main_v28 val_main_v27
  pointwise
  simp only [ct_at, rinv_at, inner_at, add_assoc]

theorem reference_dx : val_main_v38 (F := Ideal) x nw wu dxo du = dx x nw wu dxo du := by
  funext i
  obtain ⟨r, e, rfl⟩ : ∃ (r : Fin 4096) (e : Fin 1024), i = ix2 r e := ⟨i 0, i 1, eq_ix2 (n0 := 4096) (n1 := 1024) i⟩
  exact dx_at x nw wu dxo du r e

theorem reference_cast : val_main_v39 (F := Ideal) x nw wu dxo du = dx x nw wu dxo du := by
  refine Eq.trans ?_ (reference_dx x nw wu dxo du)
  rfl

theorem reference_dnw : val_main_v40 (F := Ideal) x wu du = dnw x wu du := by
  funext i
  obtain ⟨z, e, rfl⟩ : ∃ (z : Fin 1) (e : Fin 1024), i = ix2 z e := ⟨i 0, i 1, eq_ix2 (n0 := 1) (n1 := 1024) i⟩
  unfold val_main_v40 val_main_v23 val_main_v20 val_main_v19 val_main_v18 val_main_cst_3 val_main_cst_4
  pointwise
  simp only [Fin.sum_univ_one, normed_at, dh_at]
  exact Finset.sum_congr rfl fun r _ => mul_comm (_ : EReal) _

end Cert.InOdd.Proof.Ref

end
-- ==== Proof.InOdd.Claims.lean ====
/- The claims about the norm's gradient behind the odd layer's projection that the certificate assembles. -/
module

public import proofs.«01_k».proof.Defs
public import proofs.«01_k».proof.Proof.InOdd.Reference
public import proofs.«01_k».proof.Proof.Gen.InOdd.Frame

@[expose] public section

set_option maxRecDepth 16384

noncomputable section

namespace Cert.InOdd.Proof

open Idealize.ShloMosaic Idealize.ShloMosaic.TcCoe Idealize.SL.Sem

theorem reference_frame : Cert.quiescent_InOddRefIdeal (hInOddRefIdeal := Cert.InOddRefIdeal.Gen.facts) := fun m g _ =>
  (θ_run Cert.InOddRefIdeal.defs _ _).mono (fun r h => ⟨fun c => (h c).2.2.2, sem_eq_zero_of_no_sems (by decide) r.2⟩)
    (Cert.InOddRefIdeal.Value.run m g)

theorem algebraic : Cert.algebraic_InOddIdeal_InOddRefIdeal (hInOddIdeal := Cert.InOddIdeal.Gen.facts)
    (hInOddRefIdeal := Cert.InOddRefIdeal.Gen.facts) := by
  intro m g m' g' _ hargs
  refine ⟨fun c => dx (xIn m c) (nwIn m c) (wuIn m c) (dxoIn m c) (duIn m c), fun c => dx (xIn m c) (nwIn m c) (wuIn m c) (dxoIn m c) (duIn m c),
    fun c => dnw (xIn m c) (wuIn m c) (duIn m c), ?_, ?_⟩
  · exact (θ_run Cert.InOddIdeal.defs _ _).mono (fun r h c => ⟨(h c).1.trans (array_dx m c), (h c).2.1.trans (array_cast m c),
      (h c).2.2.1.trans (array_dnw m c), (h c).2.2.2⟩) (Cert.InOddIdeal.Value.run_blocks m g)
  · refine (θ_run Cert.InOddRefIdeal.defs _ _).mono (fun r h c => ?_) (Cert.InOddRefIdeal.Value.run m' g')
    obtain ⟨a0, a1, a2, a3, a4⟩ := hargs c
    refine ⟨(h c).1.trans ?_, (h c).2.1.trans ?_, (h c).2.2.1.trans ?_, (h c).2.2.2⟩
    · refine (Cert.InOddRefIdeal.Read.val_main_v38_eq m' c).trans ?_
      rw [a0, a1, a2, a3, a4]
      exact Ref.reference_dx _ _ _ _ _
    · refine (Cert.InOddRefIdeal.Read.val_main_v39_eq m' c).trans ?_
      rw [a0, a1, a2, a3, a4]
      exact Ref.reference_cast _ _ _ _ _
    · refine (Cert.InOddRefIdeal.Read.val_main_v40_eq _ _ _).trans ?_
      rw [a0, a2, a4]
      exact Ref.reference_dnw _ _ _

end Cert.InOdd.Proof

end
-- ==== Proof.Loss.Spec.lean ====
/- The loss over one row, its error, and the cotangent it sends back. -/
module

public import proofs.«01_k».proof.Proof.NormGrad.Spec

@[expose] public section

noncomputable section

namespace Cert.Loss.Proof

open Idealize.ShloMosaic

abbrev half : EReal := Ideal.ofBits .f32 0x3F000000#32
abbrev two : EReal := Ideal.ofBits .f32 0x40000000#32
abbrev inverse : EReal := Ideal.ofBits .f32 0x3A800000#32

theorem half_real : half = ((1 / 2 : ℝ) : EReal) := by
  simp [half, Ideal.ofBits, Ideal.ieee, -EReal.coe_mul]; norm_num

theorem two_real : two = ((2 : ℝ) : EReal) := by
  simp [two, Ideal.ofBits, Ideal.ieee, -EReal.coe_mul]; norm_num

theorem inverse_real : inverse = ((1 / 1024 : ℝ) : EReal) := by
  simp [inverse, Ideal.ofBits, Ideal.ieee, -EReal.coe_mul]; norm_num

/-- The normalised and weighted row against its target. -/
def err (x w tgt : Fin 1024 → EReal) (e : Fin 1024) : EReal := x e * RmsGrad.rinv NormGrad.width NormGrad.small x * w e - tgt e

/-- The mean of the squared error. -/
def rowLoss (x w tgt : Fin 1024 → EReal) : EReal := Ideal.div (∑ e, err x w tgt e * err x w tgt e) NormGrad.width

/-- The loss's gradient at the weighted row. -/
def dy (x w tgt : Fin 1024 → EReal) (e : Fin 1024) : EReal := err x w tgt e * inverse

/-- The loss's gradient at the row. -/
def rowGrad (x w tgt : Fin 1024 → EReal) (e : Fin 1024) : EReal :=
  RmsGrad.grad NormGrad.width NormGrad.small x (fun k => dy x w tgt k * w k) e

theorem rowGrad_eq (x w tgt : Fin 1024 → EReal) (e : Fin 1024) :
    rowGrad x w tgt e = dy x w tgt e * w e * RmsGrad.rinv NormGrad.width NormGrad.small x
        + x e * RmsGrad.inner NormGrad.width NormGrad.small ((-1 / 2 : ℝ) : EReal) x (fun k => dy x w tgt k * w k)
        + RmsGrad.inner NormGrad.width NormGrad.small ((-1 / 2 : ℝ) : EReal) x (fun k => dy x w tgt k * w k) * x e := by
  unfold rowGrad
  rw [NormGrad.width_real, NormGrad.small_real, RmsGrad.grad_eq 1024 _ (by norm_num) (by norm_num)]

/-- The derivative's factors of the squared error are the one the kernel multiplies by. -/
theorem dy_eq (x w tgt : Fin 1024 → EReal) (e : Fin 1024) :
    Ideal.div (half * Ideal.ofBits .f32 0x3F800000#32) NormGrad.width * (two * err x w tgt e) = dy x w tgt e := by
  unfold dy
  rw [Ideal.ofBits_one_f32, mul_one, half_real, NormGrad.width_real, two_real, inverse_real, Ideal.div_coe (by norm_num), ← mul_assoc,
    ← EReal.coe_mul, ← EReal.coe_mul, mul_comm]
  norm_num

end Cert.Loss.Proof

end
-- ==== Proof.Loss.Points.lean ====
/- What a grid point leaves of the loss and its gradient. -/
module

public import proofs.«01_k».proof.Proof.Gen.LossIdeal.Value
public import proofs.«01_k».proof.Proof.Loss.Spec
public import proofs.«01_k».proof.Proof.Load

@[expose] public section

set_option maxRecDepth 16384

noncomputable section

namespace Cert.Loss.Proof

open Cert.LossIdeal Cert.LossIdeal.Gen Idealize.ShloMosaic Idealize.ShloMosaic.TcCoe Idealize.SL.Sem

variable (m : (ℓ : Loc nD τ sig) → Buf (Elt Ideal) ℓ)

/-- The product of a block of the squared activation with a block of the weight, at an entry. -/
def prod (x w : FVec Ideal S1024x1024 .bf16) (r e : Fin 1024) : EReal :=
  ∑ j : Fin 1024, x (ix2 r j) * x (ix2 r j) * w (ix2 j e)

/-- What the point before left. -/
abbrev prev (c : Dev nD) (t : Fin cfg0.N) := outsAt0 m c (t.val - 1) (Nat.lt_of_le_of_lt (Nat.sub_le _ _) t.isLt)

theorem scratch_A (c : Dev nD) (t : Fin cfg0.N) (h : t.val % 4 = 0) (r e : Fin 1024) :
    (outsAt0 m c t.val t.isLt).2.2.2.2 (ix2 r e) = prod (iblk m c 0 t) (iblk m c 1 t) r e := by
  rw [Gen.outsAt0_A m c t h (by omega) (by omega)]
  frame_open
  frame_out
  generalize iblk m c 0 t = x0
  generalize iblk m c 1 t = x1
  unfold_payloads
  pointwise [dot_S1024x1024_S1024x1024_S1024x1024_1_0_0_1_n_n]
  rfl

theorem scratch_B (c : Dev nD) (t : Fin cfg0.N) (h : 1 ≤ t.val % 4 ∧ t.val % 4 ≤ 2) (r e : Fin 1024) :
    (outsAt0 m c t.val t.isLt).2.2.2.2 (ix2 r e) = (prev m c t).2.2.2.2 (ix2 r e) + prod (iblk m c 0 t) (iblk m c 1 t) r e := by
  rw [Gen.outsAt0_B m c t (by omega) h (by omega)]
  frame_open
  frame_out
  simp only [Cert.Load.load_eq, read_unread_whole]
  generalize iblk m c 0 t = x0
  generalize iblk m c 1 t = x1
  unfold_payloads
  pointwise [dot_S1024x1024_S1024x1024_S1024x1024_1_0_0_1_n_n]
  rfl

theorem loss_A (c : Dev nD) (t : Fin cfg0.N) (h : t.val % 4 = 0) (ht : t.val ≠ 0) (e : Fin 1024) :
    (outsAt0 m c t.val t.isLt).1 (ix2 0 e) = (prev m c t).1 (ix2 0 e) := by
  rw [Gen.outsAt0_A m c t h (by omega) (by omega)]
  rfl

theorem loss_B (c : Dev nD) (t : Fin cfg0.N) (h : 1 ≤ t.val % 4 ∧ t.val % 4 ≤ 2) (e : Fin 1024) :
    (outsAt0 m c t.val t.isLt).1 (ix2 0 e) = (prev m c t).1 (ix2 0 e) := by
  rw [Gen.outsAt0_B m c t (by omega) h (by omega)]
  rfl

theorem sum_A (c : Dev nD) (t : Fin cfg0.N) (h : t.val % 4 = 0) (ht : t.val ≠ 0) (e : Fin 1024) :
    (outsAt0 m c t.val t.isLt).2.2.2.1 (ix2 0 e) = (prev m c t).2.2.2.1 (ix2 0 e) := by
  rw [Gen.outsAt0_A m c t h (by omega) (by omega)]
  rfl

theorem sum_B (c : Dev nD) (t : Fin cfg0.N) (h : 1 ≤ t.val % 4 ∧ t.val % 4 ≤ 2) (e : Fin 1024) :
    (outsAt0 m c t.val t.isLt).2.2.2.1 (ix2 0 e) = (prev m c t).2.2.2.1 (ix2 0 e) := by
  rw [Gen.outsAt0_B m c t (by omega) h (by omega)]
  rfl

/-- The whole product at a row tile's last point. -/
def total (c : Dev nD) (t : Fin cfg0.N) (r e : Fin 1024) : EReal :=
  (prev m c t).2.2.2.2 (ix2 r e) + prod (iblk m c 0 t) (iblk m c 1 t) r e

/-- The residual's, the weight's and the target's blocks, and the rows the loss is taken of. -/
def resid (c : Dev nD) (t : Fin cfg0.N) (r e : Fin 1024) : EReal := (iblk m c 2 t : FVec Ideal S1024x1024 .f32) (ix2 r e)
def rows (c : Dev nD) (t : Fin cfg0.N) (r e : Fin 1024) : EReal := resid m c t r e + total m c t r e
def scale (c : Dev nD) (t : Fin cfg0.N) (e : Fin 1024) : EReal := (iblk m c 3 t : FVec Ideal S1x1024 .f32) (ix2 0 e)
def target (c : Dev nD) (t : Fin cfg0.N) (r e : Fin 1024) : EReal := (iblk m c 4 t : FVec Ideal S1024x1024 .f32) (ix2 r e)

theorem grad_C (c : Dev nD) (t : Fin cfg0.N) (h : t.val = 3) (r e : Fin 1024) :
    (outsAt0 m c t.val t.isLt).2.1 (ix2 r e) = rowGrad (rows m c t r) (scale m c t) (target m c t r) e := by
  rw [Gen.outsAt0_C m c t (by omega) (by omega) (by omega) (by omega) (by omega) (by omega) (by omega)]
  frame_open
  frame_out
  simp only [Cert.Load.load_eq, read_unread_whole]
  unfold rows resid total scale target
  generalize iblk m c 0 t = x0
  generalize iblk m c 1 t = x1
  generalize iblk m c 2 t = x2
  generalize iblk m c 3 t = x3
  generalize iblk m c 4 t = x4
  unfold_payloads
  pointwise [dot_S1024x1024_S1024x1024_S1024x1024_1_0_0_1_n_n]
  rfl

theorem grad_D (c : Dev nD) (t : Fin cfg0.N) (h : t.val % 4 = 3 ∧ 4 ≤ t.val) (r e : Fin 1024) :
    (outsAt0 m c t.val t.isLt).2.1 (ix2 r e) = rowGrad (rows m c t r) (scale m c t) (target m c t r) e := by
  rw [Gen.outsAt0_D m c t (by omega) (by omega) (by omega) (by omega) (by omega) (by omega) (by omega)]
  frame_open
  frame_out
  simp only [Cert.Load.load_eq, read_unread_whole]
  unfold rows resid total scale target
  generalize iblk m c 0 t = x0
  generalize iblk m c 1 t = x1
  generalize iblk m c 2 t = x2
  generalize iblk m c 3 t = x3
  generalize iblk m c 4 t = x4
  unfold_payloads
  pointwise [dot_S1024x1024_S1024x1024_S1024x1024_1_0_0_1_n_n]
  rfl

theorem cast_C (c : Dev nD) (t : Fin cfg0.N) (h : t.val = 3) (r e : Fin 1024) :
    (outsAt0 m c t.val t.isLt).2.2.1 (ix2 r e) = rowGrad (rows m c t r) (scale m c t) (target m c t r) e := by
  rw [Gen.outsAt0_C m c t (by omega) (by omega) (by omega) (by omega) (by omega) (by omega) (by omega)]
  frame_open
  frame_out
  simp only [Cert.Load.load_eq, read_unread_whole]
  unfold rows resid total scale target
  generalize iblk m c 0 t = x0
  generalize iblk m c 1 t = x1
  generalize iblk m c 2 t = x2
  generalize iblk m c 3 t = x3
  generalize iblk m c 4 t = x4
  unfold_payloads
  pointwise [dot_S1024x1024_S1024x1024_S1024x1024_1_0_0_1_n_n]
  rfl

theorem cast_D (c : Dev nD) (t : Fin cfg0.N) (h : t.val % 4 = 3 ∧ 4 ≤ t.val) (r e : Fin 1024) :
    (outsAt0 m c t.val t.isLt).2.2.1 (ix2 r e) = rowGrad (rows m c t r) (scale m c t) (target m c t r) e := by
  rw [Gen.outsAt0_D m c t (by omega) (by omega) (by omega) (by omega) (by omega) (by omega) (by omega)]
  frame_open
  frame_out
  simp only [Cert.Load.load_eq, read_unread_whole]
  unfold rows resid total scale target
  generalize iblk m c 0 t = x0
  generalize iblk m c 1 t = x1
  generalize iblk m c 2 t = x2
  generalize iblk m c 3 t = x3
  generalize iblk m c 4 t = x4
  unfold_payloads
  pointwise [dot_S1024x1024_S1024x1024_S1024x1024_1_0_0_1_n_n]
  rfl

theorem loss_C (c : Dev nD) (t : Fin cfg0.N) (h : t.val = 3) (e : Fin 1024) :
    (outsAt0 m c t.val t.isLt).1 (ix2 0 e) = half * ∑ r : Fin 1024, rowLoss (rows m c t r) (scale m c t) (target m c t r) := by
  rw [Gen.outsAt0_C m c t (by omega) (by omega) (by omega) (by omega) (by omega) (by omega) (by omega)]
  frame_open
  frame_out
  simp only [Cert.Load.load_eq, read_unread_whole]
  unfold rows resid total scale target
  generalize iblk m c 0 t = x0
  generalize iblk m c 1 t = x1
  generalize iblk m c 2 t = x2
  generalize iblk m c 3 t = x3
  generalize iblk m c 4 t = x4
  unfold_payloads
  pointwise [dot_S1024x1024_S1024x1024_S1024x1024_1_0_0_1_n_n]
  rfl

theorem loss_D (c : Dev nD) (t : Fin cfg0.N) (h : t.val % 4 = 3 ∧ 4 ≤ t.val) (e : Fin 1024) :
    (outsAt0 m c t.val t.isLt).1 (ix2 0 e) = (prev m c t).1 (ix2 0 e) + half * ∑ r : Fin 1024, rowLoss (rows m c t r) (scale m c t) (target m c t r) := by
  rw [Gen.outsAt0_D m c t (by omega) (by omega) (by omega) (by omega) (by omega) (by omega) (by omega)]
  frame_open
  frame_out
  simp only [Cert.Load.load_eq, read_unread_whole]
  unfold rows resid total scale target
  generalize iblk m c 0 t = x0
  generalize iblk m c 1 t = x1
  generalize iblk m c 2 t = x2
  generalize iblk m c 3 t = x3
  generalize iblk m c 4 t = x4
  unfold_payloads
  pointwise [dot_S1024x1024_S1024x1024_S1024x1024_1_0_0_1_n_n]
  rfl

theorem sum_C (c : Dev nD) (t : Fin cfg0.N) (h : t.val = 3) (e : Fin 1024) :
    (outsAt0 m c t.val t.isLt).2.2.2.1 (ix2 0 e) = ∑ r : Fin 1024, NormGrad.weight (rows m c t r) (dy (rows m c t r) (scale m c t) (target m c t r)) e := by
  rw [Gen.outsAt0_C m c t (by omega) (by omega) (by omega) (by omega) (by omega) (by omega) (by omega)]
  frame_open
  frame_out
  simp only [Cert.Load.load_eq, read_unread_whole]
  unfold rows resid total scale target
  generalize iblk m c 0 t = x0
  generalize iblk m c 1 t = x1
  generalize iblk m c 2 t = x2
  generalize iblk m c 3 t = x3
  generalize iblk m c 4 t = x4
  unfold_payloads
  pointwise [dot_S1024x1024_S1024x1024_S1024x1024_1_0_0_1_n_n]
  rfl

theorem sum_D (c : Dev nD) (t : Fin cfg0.N) (h : t.val % 4 = 3 ∧ 4 ≤ t.val) (e : Fin 1024) :
    (outsAt0 m c t.val t.isLt).2.2.2.1 (ix2 0 e) = (prev m c t).2.2.2.1 (ix2 0 e) + ∑ r : Fin 1024, NormGrad.weight (rows m c t r) (dy (rows m c t r) (scale m c t) (target m c t r)) e := by
  rw [Gen.outsAt0_D m c t (by omega) (by omega) (by omega) (by omega) (by omega) (by omega) (by omega)]
  frame_open
  frame_out
  simp only [Cert.Load.load_eq, read_unread_whole]
  unfold rows resid total scale target
  generalize iblk m c 0 t = x0
  generalize iblk m c 1 t = x1
  generalize iblk m c 2 t = x2
  generalize iblk m c 3 t = x3
  generalize iblk m c 4 t = x4
  unfold_payloads
  pointwise [dot_S1024x1024_S1024x1024_S1024x1024_1_0_0_1_n_n]
  rfl

end Cert.Loss.Proof

end
-- ==== Proof.Loss.Kernel.lean ====
/- The arrays the loss's kernel leaves: four row tiles, each after four steps of the last product. -/
module

public import proofs.«01_k».proof.Proof.Loss.Points
public import Idealize.ShloMosaic.Lib.StableHlo.ReadAt

@[expose] public section

set_option maxRecDepth 16384

noncomputable section

namespace Cert.Loss.Proof

open Cert.LossIdeal Cert.LossIdeal.Gen Idealize.ShloMosaic Idealize.ShloMosaic.TcCoe Idealize.SL.Sem

abbrev Arr (s : Shape) : Type := (⟨s, .f32⟩ : BufTy).Contents (Elt Ideal)

/-- The activation behind its rectifier, squared. -/
def act (u : Arr S4096x4096) (r j : Fin 4096) : EReal := max (u (ix2 r j)) 0 * max (u (ix2 r j)) 0

/-- The last layer's output: the residual and the product with the down weight. -/
def outRow (x : Arr S4096x1024) (u : Arr S4096x4096) (wd : Arr S4096x1024) (r : Fin 4096) (e : Fin 1024) : EReal :=
  x (ix2 r e) + ∑ j : Fin 4096, act u r j * wd (ix2 j e)

/-- The loss, in every lane of a row. -/
def lossArr (x : Arr S4096x1024) (u : Arr S4096x4096) (wd : Arr S4096x1024) (fw : Arr S1024) (tgt : Arr S4096x1024) : Arr S1x1024 := fun _ =>
  half * ∑ r : Fin 4096, rowLoss (outRow x u wd r) (fun e => fw (ix1 e)) (fun e => tgt (ix2 r e))

/-- Its gradient at the output, and at the final norm's weight. -/
def dxArr (x : Arr S4096x1024) (u : Arr S4096x4096) (wd : Arr S4096x1024) (fw : Arr S1024) (tgt : Arr S4096x1024) : Arr S4096x1024 := fun i =>
  rowGrad (outRow x u wd (i 0)) (fun e => fw (ix1 e)) (fun e => tgt (ix2 (i 0) e)) (i 1)

def dfwArr (x : Arr S4096x1024) (u : Arr S4096x4096) (wd : Arr S4096x1024) (fw : Arr S1024) (tgt : Arr S4096x1024) : Arr S1x1024 := fun i =>
  ∑ r : Fin 4096, NormGrad.weight (outRow x u wd r) (dy (outRow x u wd r) (fun e => fw (ix1 e)) (fun e => tgt (ix2 r e))) (i 1)

variable (m : (ℓ : Loc nD τ sig) → Buf (Elt Ideal) ℓ)

section
variable (c : Dev nD)
abbrev xIn : Arr S4096x1024 := m ((c : Thread nD τ).loc main_arg0)
abbrev uIn : Arr S4096x4096 := m ((c : Thread nD τ).loc main_arg1)
abbrev wdIn : Arr S4096x1024 := m ((c : Thread nD τ).loc main_arg2)
abbrev fwIn : Arr S1024 := m ((c : Thread nD τ).loc main_arg3)
abbrev tgtIn : Arr S4096x1024 := m ((c : Thread nD τ).loc main_arg4)
end

theorem u_at (c : Dev nD) (r j : Fin 4096) : V m c main_v2 (ix2 r j) = (max (uIn m c (ix2 r j)) 0 : EReal) := by
  unfold V hostOps0
  after_reads_at

theorem wd_at (c : Dev nD) (i : S4096x1024.Idx) : V m c main_v3 i = wdIn m c i := by
  have e : V m c main_v3 = (truncf .bf16 (wdIn m c : FVec Ideal S4096x1024 .f32) bitsLt_bf16_f32 :
      FVec Ideal S4096x1024 .bf16) := by
    unfold V hostOps0
    after_results
  rw [e]; rfl

theorem fw_at (c : Dev nD) (e : Fin 1024) : V m c main_v4 (ix2 0 e) = fwIn m c (ix1 e) := by
  unfold V hostOps0
  after_reads_at

theorem places : ∀ t : Fin cfg0.N, (win0_0.index t = ![t.val / 4, t.val % 4] ∧ win0_1.index t = ![t.val % 4, 0]
    ∧ win0_2.index t = ![t.val / 4, 0] ∧ win0_3.index t = ![0, 0]) ∧ win0_4.index t = ![t.val / 4, 0]
    ∧ win0_6.index t = ![t.val / 4, 0] ∧ win0_7.index t = ![t.val / 4, 0] :=
  (by decide +kernel : ∀ t : Fin grid0.N, _)

theorem lt16 (t : Fin cfg0.N) : t.val < 16 := t.isLt

/-- Row `r` of grid point `t`'s tile. -/
def rowOf (t : Fin cfg0.N) (r : Fin 1024) : Fin 4096 := ⟨1024 * (t.val / 4) + r.val, by have := lt16 t; omega⟩

section
variable (c : Dev nD) (t : Fin cfg0.N)

theorem resid_eq (r e : Fin 1024) : resid m c t r e = xIn m c (ix2 (rowOf t r) e) :=
  (congrArg (V m c main_arg0) (show ((View.whole main_arg0).slice (win0_2.rect t)).emb _
    = (ix2 (rowOf t r) e : S4096x1024.Idx) by blk_ext [(places t).1.2.2.1, rowOf])).trans (congrFun (V_main_arg0 m c) _)

theorem scale_eq : scale m c t = fun e => fwIn m c (ix1 e) := by
  funext e
  exact (congrArg (V m c main_v4) (show ((View.whole main_v4).slice (win0_3.rect t)).emb _
    = (ix2 0 e : S1x1024.Idx) by blk_ext [(places t).1.2.2.2])).trans (fw_at m c e)

theorem target_eq (r : Fin 1024) : target m c t r = fun e => tgtIn m c (ix2 (rowOf t r) e) := by
  funext e
  exact (congrArg (V m c main_arg4) (show ((View.whole main_arg4).slice (win0_4.rect t)).emb _
    = (ix2 (rowOf t r) e : S4096x1024.Idx) by blk_ext [(places t).2.1, rowOf])).trans (congrFun (V_main_arg4 m c) _)

theorem u_blk (r j : Fin 1024) : (iblk m c 0 t : FVec Ideal S1024x1024 .bf16) (ix2 r j)
    = (max (uIn m c (ix2 (rowOf t r) ⟨t.val % 4 * 1024 + j.val, by omega⟩)) 0 : EReal) :=
  (congrArg (V m c main_v2) (show ((View.whole main_v2).slice (win0_0.rect t)).emb (ix2 r j)
    = (ix2 (rowOf t r) ⟨t.val % 4 * 1024 + j.val, by omega⟩ : S4096x4096.Idx) by blk_ext [(places t).1.1, rowOf])).trans (u_at m c _ _)

theorem wd_blk (j e : Fin 1024) : (iblk m c 1 t : FVec Ideal S1024x1024 .bf16) (ix2 j e)
    = wdIn m c (ix2 ⟨t.val % 4 * 1024 + j.val, by omega⟩ e) :=
  (congrArg (V m c main_v3) (show ((View.whole main_v3).slice (win0_1.rect t)).emb (ix2 j e)
    = (ix2 ⟨t.val % 4 * 1024 + j.val, by omega⟩ e : S4096x1024.Idx) by blk_ext [(places t).1.2.1])).trans (wd_at m c _)

/-- One step of the product, over its stretch of the hidden layer. -/
theorem prod_tile (R : Fin 4096) (k : Fin 4) (r e : Fin 1024) (hk : t.val % 4 = k.val) (hR : rowOf t r = R) :
    prod (iblk m c 0 t) (iblk m c 1 t) r e
      = ∑ j : Fin 1024, act (uIn m c) R ⟨k.val * 1024 + j.val, by omega⟩ * wdIn m c (ix2 ⟨k.val * 1024 + j.val, by omega⟩ e) := by
  subst hR
  obtain ⟨k, hk'⟩ := k
  dsimp only at hk
  subst hk
  exact Finset.sum_congr rfl fun j _ => congrArg₂ (· * ·) (congrArg₂ (· * ·) (u_blk m c t r j) (u_blk m c t r j)) (wd_blk m c t j e)

/-- At a row tile's last point the rows are complete. -/
theorem rows_eq (h : t.val % 4 = 3) (r : Fin 1024) : rows m c t r = outRow (xIn m c) (uIn m c) (wdIn m c) (rowOf t r) := by
  funext e
  have b := lt16 t
  let t2 : Fin cfg0.N := ⟨t.val - 1, by omega⟩
  let t1 : Fin cfg0.N := ⟨t.val - 1 - 1, by omega⟩
  let t0 : Fin cfg0.N := ⟨t.val - 1 - 1 - 1, by omega⟩
  have h2 : t2.val = t.val - 1 := rfl
  have h1 : t1.val = t.val - 2 := by show t.val - 1 - 1 = _; omega
  have h0 : t0.val = t.val - 3 := by show t.val - 1 - 1 - 1 = _; omega
  unfold rows total outRow
  refine congrArg₂ (· + ·) (resid_eq m c t r e) ?_
  refine (congrArg (· + _) ((scratch_B m c t2 (by omega) r e).trans (congrArg (· + _) ((scratch_B m c t1 (by omega) r e).trans
    (congrArg (· + _) (scratch_A m c t0 (by omega) r e)))))).trans ?_
  have R2 : rowOf t2 r = rowOf t r := Fin.ext (by show 1024 * (t2.val / 4) + _ = 1024 * (t.val / 4) + _; omega)
  have R1 : rowOf t1 r = rowOf t r := Fin.ext (by show 1024 * (t1.val / 4) + _ = 1024 * (t.val / 4) + _; omega)
  have R0 : rowOf t0 r = rowOf t r := Fin.ext (by show 1024 * (t0.val / 4) + _ = 1024 * (t.val / 4) + _; omega)
  rw [prod_tile m c t (rowOf t r) 3 r e h rfl, prod_tile m c t2 (rowOf t r) 2 r e (by show t2.val % 4 = 2; omega) R2,
    prod_tile m c t1 (rowOf t r) 1 r e (by show t1.val % 4 = 1; omega) R1, prod_tile m c t0 (rowOf t r) 0 r e (by show t0.val % 4 = 0; omega) R0,
    ← Fin.sum_mul_add_fin 4 1024 (fun j : Fin 4096 => act (uIn m c) (rowOf t r) j * wdIn m c (ix2 j e)), Fin.sum_univ_four]

theorem grad_eq' (h : t.val % 4 = 3) (r e : Fin 1024) :
    rowGrad (rows m c t r) (scale m c t) (target m c t r) e
      = dxArr (xIn m c) (uIn m c) (wdIn m c) (fwIn m c) (tgtIn m c) (ix2 (rowOf t r) e) := by
  rw [rows_eq m c t h, scale_eq, target_eq]
  rfl

theorem flush_last : ∀ t : Fin cfg0.N, ((cfg0.win 6).flush t = true → t.val % 4 = 3) ∧ ((cfg0.win 7).flush t = true → t.val % 4 = 3) :=
  (by decide +kernel : ∀ t : Fin grid0.N, _)

end

theorem array_dx (c : Dev nD) : (dats m 0 c).arrAt 6 cfg0.N = dxArr (xIn m c) (uIn m c) (wdIn m c) (fwIn m c) (tgtIn m c) := by
  refine (dats m 0 c).arrAt_eq_of_covers 6 _ (by decide +kernel) fun t hf y => ?_
  blk_simp
  rw [after0_6]
  obtain ⟨r, e, rfl⟩ : ∃ (r : Fin 1024) (e : Fin 1024), y = ix2 r e := ⟨y 0, y 1, eq_ix2 (n0 := 1024) (n1 := 1024) y⟩
  have h := (flush_last t).1 hf
  have place : ((View.whole main_v5_1).slice (win0_6.rect t)).emb (ix2 r e) = (ix2 (rowOf t r) e : S4096x1024.Idx) := by
    blk_ext [(places t).2.2.1, rowOf]
  rw [place]
  refine Eq.trans ?_ (grad_eq' m c t h r e)
  by_cases h4 : 4 ≤ t.val
  · exact grad_D m c t ⟨h, h4⟩ r e
  · exact grad_C m c t (by omega) r e

theorem array_cast (c : Dev nD) : (dats m 0 c).arrAt 7 cfg0.N = dxArr (xIn m c) (uIn m c) (wdIn m c) (fwIn m c) (tgtIn m c) := by
  refine (dats m 0 c).arrAt_eq_of_covers 7 _ (by decide +kernel) fun t hf y => ?_
  blk_simp
  rw [after0_7]
  obtain ⟨r, e, rfl⟩ : ∃ (r : Fin 1024) (e : Fin 1024), y = ix2 r e := ⟨y 0, y 1, eq_ix2 (n0 := 1024) (n1 := 1024) y⟩
  have h := (flush_last t).2 hf
  have place : ((View.whole main_v5_2).slice (win0_7.rect t)).emb (ix2 r e) = (ix2 (rowOf t r) e : S4096x1024.Idx) := by
    blk_ext [(places t).2.2.2, rowOf]
  rw [place]
  refine Eq.trans ?_ (grad_eq' m c t h r e)
  by_cases h4 : 4 ≤ t.val
  · exact cast_D m c t ⟨h, h4⟩ r e
  · exact cast_C m c t (by omega) r e

/-- A value kept over the row tiles: the first tile sets it, each later one adds its part. -/
theorem kept_sum (acc : ∀ n, n < 16 → EReal) (part : Fin 4 → EReal) (first : acc 3 (by omega) = part 0)
    (hold : ∀ n (h : n + 1 < 16), (n + 1) % 4 ≠ 3 → acc (n + 1) h = acc n (by omega))
    (step : ∀ i : Fin 4, 1 ≤ i.val → acc (4 * i.val + 3) (by omega) = acc (4 * i.val + 2) (by omega) + part i) :
    acc 15 (by omega) = ∑ i, part i := by
  rw [Fin.sum_univ_four, ← first]
  refine (step 3 (by decide)).trans (congrArg (· + _) ?_)
  refine ((hold 13 (by omega) (by omega)).trans ((hold 12 (by omega) (by omega)).trans (hold 11 (by omega) (by omega)))).trans ?_
  refine (step 2 (by decide)).trans (congrArg (· + _) ?_)
  refine ((hold 9 (by omega) (by omega)).trans ((hold 8 (by omega) (by omega)).trans (hold 7 (by omega) (by omega)))).trans ?_
  refine (step 1 (by decide)).trans (congrArg (· + _) ?_)
  exact (hold 5 (by omega) (by omega)).trans ((hold 4 (by omega) (by omega)).trans (hold 3 (by omega) (by omega)))

section
variable (c : Dev nD)

/-- A row of the output, of the target. -/
abbrev outIn (R : Fin 4096) : Fin 1024 → EReal := outRow (xIn m c) (uIn m c) (wdIn m c) R
abbrev tgtRow (R : Fin 4096) : Fin 1024 → EReal := fun e => tgtIn m c (ix2 R e)
abbrev fwRow : Fin 1024 → EReal := fun e => fwIn m c (ix1 e)

/-- Row tile `i`'s row `r`. -/
abbrev tileRow (i : Fin 4) (r : Fin 1024) : Fin 4096 := ⟨i.val * 1024 + r.val, by omega⟩

theorem rowOf_tile (t : Fin cfg0.N) (i : Fin 4) (hi : t.val / 4 = i.val) (r : Fin 1024) : rowOf t r = tileRow i r :=
  Fin.ext (by show 1024 * (t.val / 4) + r.val = i.val * 1024 + r.val; omega)

theorem loss_part (t : Fin cfg0.N) (h : t.val % 4 = 3) (i : Fin 4) (hi : t.val / 4 = i.val) :
    half * ∑ r : Fin 1024, rowLoss (rows m c t r) (scale m c t) (target m c t r)
      = half * ∑ r : Fin 1024, rowLoss (outIn m c (tileRow i r)) (fwRow m c) (tgtRow m c (tileRow i r)) := by
  refine congrArg (half * ·) (Finset.sum_congr rfl fun r _ => ?_)
  rw [rows_eq m c t h, scale_eq, target_eq, rowOf_tile t i hi]

theorem sum_part (t : Fin cfg0.N) (h : t.val % 4 = 3) (i : Fin 4) (hi : t.val / 4 = i.val) (e : Fin 1024) :
    ∑ r : Fin 1024, NormGrad.weight (rows m c t r) (dy (rows m c t r) (scale m c t) (target m c t r)) e
      = ∑ r : Fin 1024, NormGrad.weight (outIn m c (tileRow i r)) (dy (outIn m c (tileRow i r)) (fwRow m c) (tgtRow m c (tileRow i r))) e := by
  refine Finset.sum_congr rfl fun r _ => ?_
  rw [rows_eq m c t h, scale_eq, target_eq, rowOf_tile t i hi]

theorem loss_last (e : Fin 1024) : (outsAt0 m c 15 (by show 15 < 16; omega)).1 (ix2 0 e)
    = lossArr (xIn m c) (uIn m c) (wdIn m c) (fwIn m c) (tgtIn m c) (ix2 0 e) := by
  refine (kept_sum (fun n h => (outsAt0 m c n h).1 (ix2 0 e))
    (fun i => half * ∑ r : Fin 1024, rowLoss (outIn m c (tileRow i r)) (fwRow m c) (tgtRow m c (tileRow i r)))
    ((loss_C m c ⟨3, by show 3 < 16; omega⟩ rfl e).trans (loss_part m c _ rfl 0 rfl)) (fun n h hn => ?_) (fun i hi => ?_)).trans ?_
  · by_cases h0 : (n + 1) % 4 = 0
    · exact loss_A m c ⟨n + 1, h⟩ h0 (by simp) e
    · exact loss_B m c ⟨n + 1, h⟩ (by dsimp only; omega) e
  · refine (loss_D m c ⟨4 * i.val + 3, by show _ < 16; omega⟩ (by dsimp only; omega) e).trans (congrArg₂ (· + ·) rfl ?_)
    exact loss_part m c _ (by dsimp only; omega) i (by dsimp only; omega)
  · show _ = half * ∑ r : Fin 4096, rowLoss (outIn m c r) (fwRow m c) (tgtRow m c r)
    rw [← Fin.sum_mul_add_fin 4 1024 (fun r : Fin 4096 => rowLoss (outIn m c r) (fwRow m c) (tgtRow m c r)), mul_comm half, half_real,
      RmsGrad.sum_mul_coe _ (by norm_num)]
    exact Finset.sum_congr rfl fun i _ => mul_comm _ _

theorem sum_last (e : Fin 1024) : (outsAt0 m c 15 (by show 15 < 16; omega)).2.2.2.1 (ix2 0 e)
    = dfwArr (xIn m c) (uIn m c) (wdIn m c) (fwIn m c) (tgtIn m c) (ix2 0 e) := by
  refine (kept_sum (fun n h => (outsAt0 m c n h).2.2.2.1 (ix2 0 e))
    (fun i => ∑ r : Fin 1024, NormGrad.weight (outIn m c (tileRow i r)) (dy (outIn m c (tileRow i r)) (fwRow m c) (tgtRow m c (tileRow i r))) e)
    ((sum_C m c ⟨3, by show 3 < 16; omega⟩ rfl e).trans (sum_part m c _ rfl 0 rfl e)) (fun n h hn => ?_) (fun i hi => ?_)).trans ?_
  · by_cases h0 : (n + 1) % 4 = 0
    · exact sum_A m c ⟨n + 1, h⟩ h0 (by simp) e
    · exact sum_B m c ⟨n + 1, h⟩ (by dsimp only; omega) e
  · refine (sum_D m c ⟨4 * i.val + 3, by show _ < 16; omega⟩ (by dsimp only; omega) e).trans (congrArg₂ (· + ·) rfl ?_)
    exact sum_part m c _ (by dsimp only; omega) i (by dsimp only; omega) e
  · exact Fin.sum_mul_add_fin 4 1024 (fun r : Fin 4096 => NormGrad.weight (outIn m c r) (dy (outIn m c r) (fwRow m c) (tgtRow m c r)) e)

end

theorem array_loss (c : Dev nD) : (dats m 0 c).arrAt 5 cfg0.N = lossArr (xIn m c) (uIn m c) (wdIn m c) (fwIn m c) (tgtIn m c) := by
  refine (dats m 0 c).arrAt_eq_of_after_last 5 ⟨15, by show 15 < 16; omega⟩ (by decide +kernel) _ fun j => ?_
  rw [after0_5]
  obtain ⟨z, e, rfl⟩ : ∃ (z : Fin 1) (e : Fin 1024), j = ix2 z e := ⟨j 0, j 1, eq_ix2 (n0 := 1) (n1 := 1024) j⟩
  obtain rfl : z = 0 := Subsingleton.elim _ _
  exact loss_last m c e

theorem array_dfw (c : Dev nD) : (dats m 0 c).arrAt 8 cfg0.N = dfwArr (xIn m c) (uIn m c) (wdIn m c) (fwIn m c) (tgtIn m c) := by
  refine (dats m 0 c).arrAt_eq_of_after_last 8 ⟨15, by show 15 < 16; omega⟩ (by decide +kernel) _ fun j => ?_
  rw [after0_8]
  obtain ⟨z, e, rfl⟩ : ∃ (z : Fin 1) (e : Fin 1024), j = ix2 z e := ⟨j 0, j 1, eq_ix2 (n0 := 1) (n1 := 1024) j⟩
  obtain rfl : z = 0 := Subsingleton.elim _ _
  exact sum_last m c e

end Cert.Loss.Proof

end
-- ==== Proof.Loss.Reference.lean ====
/- The loss, its gradient and the final norm's, as the reference computes them. -/
module

public import proofs.«01_k».proof.Proof.Loss.Kernel
public import proofs.«01_k».proof.Proof.Gen.LossRefIdeal.Read

@[expose] public section

set_option maxRecDepth 16384

noncomputable section

namespace Cert.Loss.Proof.Ref

open Cert.LossRefIdeal Cert.LossRefIdeal.Read Idealize.ShloMosaic Idealize.ShloMosaic.TcCoe

variable (x : Arr S4096x1024) (u : Arr S4096x4096) (wd : Arr S4096x1024) (fw : Arr S1024) (tgt : Arr S4096x1024)

/-- The norm's weight, a row of the target, and the cotangent behind the weight. -/
abbrev w (e : Fin 1024) : EReal := fw (ix1 e)
abbrev aim (r : Fin 4096) (e : Fin 1024) : EReal := tgt (ix2 r e)
abbrev ctAt (r : Fin 4096) (e : Fin 1024) : EReal := dy (outRow x u wd r) (w fw) (aim tgt r) e * fw (ix1 e)

theorem out_at (r : Fin 4096) (e : Fin 1024) : val_main_v3 (F := Ideal) x u wd (ix2 r e) = outRow x u wd r e := by
  unfold val_main_v3 val_main_v2 val_main_v1 val_main_v0 val_main_call0_v0 val_main_call0_cst
  pointwise [dot_S4096x4096_S4096x1024_S4096x1024_1_0_0_1_n_n]
  rfl

theorem mean_at (r : Fin 4096) : val_main_v10 (F := Ideal) x u wd (ix2 r 0)
    = RmsGrad.meanSq NormGrad.width NormGrad.small (outRow x u wd r) := by
  unfold val_main_v10 val_main_v9 val_main_v8 val_main_v7 val_main_v6 val_main_v5 val_main_v4 val_main_cst val_main_cst_0 val_main_cst_1
  pointwise
  simp only [out_at]
  rfl

theorem rinv_at (r : Fin 4096) : val_main_v11 (F := Ideal) x u wd (ix2 r 0)
    = RmsGrad.rinv NormGrad.width NormGrad.small (outRow x u wd r) := by
  unfold val_main_v11
  pointwise
  rw [mean_at]
  rfl

theorem normed_at (r : Fin 4096) (e : Fin 1024) : val_main_v16 (F := Ideal) x u wd (ix2 r e)
    = outRow x u wd r e * RmsGrad.rinv NormGrad.width NormGrad.small (outRow x u wd r) := by
  unfold val_main_v16 val_main_v15
  pointwise
  rw [rinv_at, out_at]

theorem err_at (r : Fin 4096) (e : Fin 1024) : val_main_v20 (F := Ideal) x u wd fw tgt (ix2 r e)
    = err (outRow x u wd r) (w fw) (aim tgt r) e := by
  unfold val_main_v20 val_main_v19 val_main_v18 val_main_v17
  pointwise
  rw [normed_at]
  rfl

theorem dy_at (r : Fin 4096) (e : Fin 1024) : val_main_v34 (F := Ideal) x u wd fw tgt (ix2 r e)
    = dy (outRow x u wd r) (w fw) (aim tgt r) e := by
  unfold val_main_v34 val_main_v33 val_main_v32 val_main_v31 val_main_v30 val_main_v29 val_main_v23 val_main_v22
    val_main_cst_3 val_main_cst_8 val_main_cst_9 val_main_cst_10
  pointwise
  rw [err_at]
  have h := dy_eq (outRow x u wd r) (w fw) (aim tgt r) e
  rw [Ideal.ofBits_one_f32, mul_one] at h
  exact h

theorem ct_at (r : Fin 4096) (e : Fin 1024) : val_main_v39 (F := Ideal) x u wd fw tgt (ix2 r e) = ctAt x u wd fw tgt r e := by
  unfold val_main_v39 val_main_v38 val_main_v17
  pointwise
  rw [dy_at]

theorem minus_half_real : Ideal.ofBits .f32 0xBF000000#32 = ((-1 / 2 : ℝ) : EReal) := by
  simp [Ideal.ofBits, Ideal.ieee, -EReal.coe_mul]; norm_num

theorem inner_at (r : Fin 4096) (e : Fin 1024) : val_main_v50 (F := Ideal) x u wd fw tgt (ix2 r e)
    = RmsGrad.inner NormGrad.width NormGrad.small ((-1 / 2 : ℝ) : EReal) (outRow x u wd r) (ctAt x u wd fw tgt r) := by
  unfold val_main_v50 val_main_v49 val_main_v48 val_main_v47 val_main_v46 val_main_v43 val_main_v42 val_main_v41 val_main_v14 val_main_v13 val_main_v12
    val_main_cst_2 val_main_cst_13 val_main_cst_14 val_main_cst_15
  pointwise
  simp only [ct_at, out_at, Fin.sum_univ_one, rinv_at, mean_at]
  rw [← minus_half_real]
  rfl

theorem dx_at (r : Fin 4096) (e : Fin 1024) : val_main_v54 (F := Ideal) x u wd fw tgt (ix2 r e)
    = dxArr x u wd fw tgt (ix2 r e) := by
  refine Eq.trans ?_ (rowGrad_eq (outRow x u wd r) (w fw) (aim tgt r) e).symm
  unfold val_main_v54 val_main_v53 val_main_v52 val_main_v51 val_main_v45 val_main_v44
  pointwise
  simp only [ct_at, out_at, rinv_at, inner_at]

theorem reference_dx : val_main_v54 (F := Ideal) x u wd fw tgt = dxArr x u wd fw tgt := by
  funext i
  obtain ⟨r, e, rfl⟩ : ∃ (r : Fin 4096) (e : Fin 1024), i = ix2 r e := ⟨i 0, i 1, eq_ix2 (n0 := 4096) (n1 := 1024) i⟩
  exact dx_at x u wd fw tgt r e

theorem reference_cast : val_main_v56 (F := Ideal) x u wd fw tgt = dxArr x u wd fw tgt := by
  refine Eq.trans ?_ (reference_dx x u wd fw tgt)
  rfl

theorem reference_loss : val_main_v55 (F := Ideal) x u wd fw tgt = lossArr x u wd fw tgt := by
  funext i
  obtain ⟨z, e, rfl⟩ : ∃ (z : Fin 1) (e : Fin 1024), i = ix2 z e := ⟨i 0, i 1, eq_ix2 (n0 := 1) (n1 := 1024) i⟩
  unfold val_main_v55 val_main_v28 val_main_v27 val_main_v26 val_main_v25 val_main_v24 val_main_v21
    val_main_cst_4 val_main_cst_5 val_main_cst_6 val_main_cst_7
  pointwise
  simp only [err_at]
  rfl

theorem reference_dfw : val_main_v57 (F := Ideal) x u wd fw tgt = dfwArr x u wd fw tgt := by
  funext i
  obtain ⟨z, e, rfl⟩ : ∃ (z : Fin 1) (e : Fin 1024), i = ix2 z e := ⟨i 0, i 1, eq_ix2 (n0 := 1) (n1 := 1024) i⟩
  unfold val_main_v57 val_main_v40 val_main_v37 val_main_v36 val_main_v35 val_main_cst_11 val_main_cst_12
  pointwise
  simp only [Fin.sum_univ_one, normed_at, dy_at]
  exact Finset.sum_congr rfl fun r _ => mul_comm (_ : EReal) _

end Cert.Loss.Proof.Ref

end
-- ==== Proof.Loss.Claims.lean ====
/- The claims about the loss and its gradient that the certificate assembles. -/
module

public import proofs.«01_k».proof.Defs
public import proofs.«01_k».proof.Proof.Loss.Reference
public import proofs.«01_k».proof.Proof.Gen.Loss.Frame

@[expose] public section

set_option maxRecDepth 16384

noncomputable section

namespace Cert.Loss.Proof

open Idealize.ShloMosaic Idealize.ShloMosaic.TcCoe Idealize.SL.Sem

theorem reference_frame : Cert.quiescent_LossRefIdeal (hLossRefIdeal := Cert.LossRefIdeal.Gen.facts) := fun m g _ =>
  (θ_run Cert.LossRefIdeal.defs _ _).mono (fun r h => ⟨fun c => (h c).2.2.2.2, sem_eq_zero_of_no_sems (by decide) r.2⟩)
    (Cert.LossRefIdeal.Value.run m g)

theorem algebraic : Cert.algebraic_LossIdeal_LossRefIdeal (hLossIdeal := Cert.LossIdeal.Gen.facts)
    (hLossRefIdeal := Cert.LossRefIdeal.Gen.facts) := by
  intro m g m' g' _ hargs
  refine ⟨fun c => lossArr (xIn m c) (uIn m c) (wdIn m c) (fwIn m c) (tgtIn m c), fun c => dxArr (xIn m c) (uIn m c) (wdIn m c) (fwIn m c) (tgtIn m c),
    fun c => dxArr (xIn m c) (uIn m c) (wdIn m c) (fwIn m c) (tgtIn m c), fun c => dfwArr (xIn m c) (uIn m c) (wdIn m c) (fwIn m c) (tgtIn m c), ?_, ?_⟩
  · exact (θ_run Cert.LossIdeal.defs _ _).mono (fun r h c => ⟨(h c).1.trans (array_loss m c), (h c).2.1.trans (array_dx m c),
      (h c).2.2.1.trans (array_cast m c), (h c).2.2.2.1.trans (array_dfw m c), (h c).2.2.2.2⟩) (Cert.LossIdeal.Value.run_blocks m g)
  · refine (θ_run Cert.LossRefIdeal.defs _ _).mono (fun r h c => ?_) (Cert.LossRefIdeal.Value.run m' g')
    obtain ⟨a0, a1, a2, a3, a4⟩ := hargs c
    refine ⟨(h c).1.trans ?_, (h c).2.1.trans ?_, (h c).2.2.1.trans ?_, (h c).2.2.2.1.trans ?_, (h c).2.2.2.2⟩
    · refine (Cert.LossRefIdeal.Read.val_main_v55_eq m' c).trans ?_
      rw [a0, a1, a2, a3, a4]
      exact Ref.reference_loss _ _ _ _ _
    · refine (Cert.LossRefIdeal.Read.val_main_v54_eq m' c).trans ?_
      rw [a0, a1, a2, a3, a4]
      exact Ref.reference_dx _ _ _ _ _
    · refine (Cert.LossRefIdeal.Read.val_main_v56_eq m' c).trans ?_
      rw [a0, a1, a2, a3, a4]
      exact Ref.reference_cast _ _ _ _ _
    · refine (Cert.LossRefIdeal.Read.val_main_v57_eq m' c).trans ?_
      rw [a0, a1, a2, a3, a4]
      exact Ref.reference_dfw _ _ _ _ _

end Cert.Loss.Proof

end
-- ==== Proof.RetFwd.Gated.lean ====
/- The attended row of one head, normalised and gated. -/
module

public import proofs.«01_k».proof.Proof.Ret.Whole

@[expose] public section

noncomputable section

namespace Cert.RetFwd

open Cert.Ret Idealize.ShloMosaic

/-- A row over its root mean square, times the gate. -/
def normGate (g o : Tile) : Tile := fun i e =>
  o i e * RmsGrad.rinv N eps (o i) * (g i e * Ideal.logistic (g i e))

/-- The gated rows of one head of one chunk. -/
def gatedRow (P : Fin 4096 → Fin 3072 → EReal) (n : Fin 32) (h : Fin 4) : Tile := normGate (part P 3 n h) (oT P n h)

end Cert.RetFwd

end
-- ==== Proof.RetFwd.Chunk.lean ====
/- What the kernel's block computes for one chunk, from vectors of the four heads, entry by entry. -/
module

public import proofs.«01_k».proof.Proof.RetFwd.Gated
public import proofs.«01_k».proof.Proof.Gen.RetFwdIdeal.Value
public import Idealize.ShloMosaic.Lib.Pipeline.ValueKit
public import Idealize.ShloMosaic.Lib.Pipeline.ReadBack
public import Idealize.ShloMosaic.Lib.Pointwise

@[expose] public section

set_option maxRecDepth 16384

noncomputable section

namespace Cert.RetFwd.Proof

open Cert.Ret Cert.RetFwdIdeal Cert.RetFwdIdeal.Gen Idealize.ShloMosaic Idealize.ShloMosaic.TcCoe Idealize.SL.Sem

abbrev V2 : Type := FVec Ideal S128x128 .f32
abbrev V3 : Type := FVec Ideal S4x128x128 .f32

/-- Head `h` of a stack of four tables. -/
def head (x : V3) (h : Fin 4) : Tile := fun i j => x (ix3 h i j)
/-- A table of one head. -/
def tile (x : V2) : Tile := fun i j => x (ix2 i j)

theorem stack_apply (a b c d : V2) (h : Fin 4) :
    head (k0_pay15 a b c d) h = tile (![a, b, c, d] h) := by
  funext i j
  unfold head tile
  unfold_payloads
  fin_cases h <;> pointwise <;> rfl

theorem rotated_apply (c s a0 a1 a2 a3 : V2) (h : Fin 4) :
    head (k0_pay11 c s a0 a1 a2 a3) h = rot (tile c) (tile s) (tile (![a0, a1, a2, a3] h)) := by
  funext i j
  unfold head tile rot
  unfold_payloads
  fin_cases h <;> pointwise <;> rfl

/-- The rotated and scaled keys. -/
def keys (c s a0 a1 a2 a3 : V2) : V3 := k0_pay14 c s a1 a2 a3 (k0_pay12 c a0) (k0_pay13 s a0)

theorem keys_apply (c s a0 a1 a2 a3 : V2) (h : Fin 4) (i j : Fin 128) :
    head (keys c s a0 a1 a2 a3) h i j = rot (tile c) (tile s) (tile (![a0, a1, a2, a3] h)) i j * scale := by
  unfold head tile rot keys
  unfold_payloads
  fin_cases h <;> pointwise <;> rfl

/-- The attended rows, from the decays, the state, and the stacks of queries, keys and values. -/
def rowsV (dm qd S q k v : V3) : V3 := k0_pay18 qd S q (scoreV dm q k) v
where
  /-- The masked scores. -/
  scoreV (dm q k : V3) : FVec Ideal S4x128x128 .bf16 :=
    truncf .bf16 (mulf (matmul dot_S4x128x128_S4x128x128_S4x128x128_2_2_1_1_0_0 none (truncf .bf16 q bitsLt_bf16_f32)
      (truncf .bf16 k bitsLt_bf16_f32) (constant S4x128x128 .f32 0x00000000#32)) dm) bitsLt_bf16_f32

section
variable (dm qd kd cg S q k v : V3) (h : Fin 4)

theorem rows_apply (i e : Fin 128) : head (rowsV dm qd S q k v) h i e
    = (∑ j, ((∑ d, head q h i d * head k h j d) * head dm h i j) * head v h j e) + ∑ d, head q h i d * head qd h i d * head S h d e := by
  unfold head rowsV rowsV.scoreV
  unfold_payloads
  pointwise [dot_S4x128x128_S4x128x128_S4x128x128_2_2_1_1_0_0, dot_S4x128x128_S4x128x128_S4x128x128_2_1_1_2_0_0]

theorem next_apply (d e : Fin 128) : head (k0_pay20 kd cg S k v) h d e
    = head cg h d e * head S h d e + ∑ j, head k h j d * head kd h j d * head v h j e := by
  unfold head k0_pay20
  pointwise [dot_S4x128x128_S4x128x128_S4x128x128_1_1_2_2_0_0]

/-- The rows over their root mean squares. -/
def normV : V3 := k0_pay21 qd S q (rowsV.scoreV dm q k) v

theorem norm_apply (i e : Fin 128) : head (normV dm qd S q k v) h i e
    = head (rowsV dm qd S q k v) h i e * RmsGrad.rinv N eps (head (rowsV dm qd S q k v) h i) := by
  unfold RmsGrad.rinv RmsGrad.meanSq head normV rowsV k0_pay21
  pointwise
end

/-- A head's table, as the block stores it. -/
def plainV (h : Fin 4) (x : V3) : V2 :=
  match h with
  | 0 => k0_pay23 x
  | 1 => k0_pay25 x
  | 2 => k0_pay27 x
  | 3 => k0_pay29 x

/-- A head's gated table, as the block stores it. -/
def gatedV (h : Fin 4) (x : V3) (g0 g1 g2 g3 : V2) : FVec Ideal S128x128 .bf16 :=
  match h with
  | 0 => k0_pay24 x g0 g1 g2 g3
  | 1 => k0_pay26 x g0 g1 g2 g3
  | 2 => k0_pay28 x g0 g1 g2 g3
  | 3 => k0_pay30 x g0 g1 g2 g3

theorem plainV_apply (h : Fin 4) (x : V3) (i d : Fin 128) : plainV h x (ix2 i d) = head x h i d := by
  unfold plainV head
  fin_cases h <;> dsimp only <;> unfold_payloads <;> pointwise <;> rfl

theorem gatedV_apply (h : Fin 4) (x : V3) (g0 g1 g2 g3 : V2) (i d : Fin 128) : gatedV h x g0 g1 g2 g3 (ix2 i d)
    = head x h i d * (tile (![g0, g1, g2, g3] h) i d * Ideal.logistic (tile (![g0, g1, g2, g3] h) i d)) := by
  unfold gatedV head tile
  fin_cases h <;> dsimp only <;> unfold_payloads <;> pointwise <;> rfl

theorem state_apply (x : V3) (h : Fin 4) (d e : Fin 128) : k0_pay19 (F := Ideal) x (ix4 0 h d e) = head x h d e := by
  unfold head
  unfold_payloads
  pointwise

end Cert.RetFwd.Proof

end
-- ==== Proof.RetFwd.Block.lean ====
/- What one grid point of the retention leaves: the block's four chunks, first to last, each with four heads. -/
module

public import proofs.«01_k».proof.Proof.RetFwd.Chunk
public import Idealize.ShloMosaic.Lib.WholeRead

@[expose] public section

set_option maxRecDepth 65536
set_option maxHeartbeats 2000000

noncomputable section

namespace Cert.RetFwd.Proof

open Cert.Ret Cert.RetFwdIdeal Cert.RetFwdIdeal.Gen Idealize.ShloMosaic Idealize.ShloMosaic.TcCoe Idealize.SL.Sem

abbrev Wide : Type := FVec Ideal S512x512 .f32

/-- What a grid point reads: the projections, the rotation, the decays. -/
structure In where
  q : Wide
  k : Wide
  v : Wide
  g : Wide
  c : FVec Ideal S512x128 .f32
  s : FVec Ideal S512x128 .f32
  tab : FVec Ideal S4x4x128x128 .f32

/-- The rows of chunk `c` and the features of head `h`. -/
def ld (x : Wide) (c h : Fin 4) : V2 := fun j =>
  x (((Rect.unit (s := S512x512) ![128 * c.val, 0] S128x512.size (by decide +revert)).withinL
    (Rect.unit (s := S128x512) ![0, 128 * h.val] S128x128.size (by decide +revert)).toLoadRect (fun _ => rfl)).idx j)

/-- The rows of chunk `c` of a table of positions. -/
def rows (x : FVec Ideal S512x128 .f32) (c : Fin 4) : V2 :=
  k0_pay9 (View.ld x (Rect.unit (s := S512x128) ![128 * c.val, 0] S128x128.size (by decide +revert)))

/-- Decay table `w` of the four heads. -/
def decay (x : FVec Ideal S4x4x128x128 .f32) (w : Fin 4) : V3 :=
  k0_pay5 (View.ld x (Rect.unit (s := S4x4x128x128) ![0, w.val, 0, 0] S4x1x128x128.size (by decide +revert)))

namespace In
variable (X : In) (D : V3) (c : Fin 4)

def qV : V3 := k0_pay11 (rows X.c c) (rows X.s c) (ld X.q c 0) (ld X.q c 1) (ld X.q c 2) (ld X.q c 3)
def kV : V3 := keys (rows X.c c) (rows X.s c) (ld X.k c 0) (ld X.k c 1) (ld X.k c 2) (ld X.k c 3)
def vV : V3 := k0_pay15 (ld X.v c 0) (ld X.v c 1) (ld X.v c 2) (ld X.v c 3)
/-- The state after chunk `c`, from that before it. -/
def next : V3 := k0_pay20 (decay X.tab 2) (decay X.tab 3) D (X.kV c) (X.vV c)

/-- The state before chunk `c`, from that before the block. -/
def carried : V3 :=
  match c with
  | 0 => D
  | 1 => X.next D 0
  | 2 => X.next (X.next D 0) 1
  | 3 => X.next (X.next (X.next D 0) 1) 2

/-- The attended rows of chunk `c`. -/
def oV : V3 := rowsV (decay X.tab 0) (decay X.tab 1) (X.carried D c) (X.qV c) (X.kV c) (X.vV c)
/-- Over their root mean squares. -/
def nV : V3 := normV (decay X.tab 0) (decay X.tab 1) (X.carried D c) (X.qV c) (X.kV c) (X.vV c)

/-- The attended rows stored for chunk `c` and head `h`. -/
def pieceO (h : Fin 4) : FVec Ideal S128x128 .f32 := plainV h (X.oV D c)
/-- The gated rows stored for chunk `c` and head `h`. -/
def pieceY (h : Fin 4) : FVec Ideal S128x128 .bf16 := gatedV h (X.nV D c) (ld X.g c 0) (ld X.g c 1) (ld X.g c 2) (ld X.g c 3)

end In

/-- A block from its pieces. -/
def spread (P : Fin 4 → Fin 4 → S128x128.Idx → EReal) (y : S512x512.Idx) : EReal :=
  P ⟨(y 0).val / 128, Nat.div_lt_of_lt_mul (y 0).isLt⟩ ⟨(y 1).val / 128, Nat.div_lt_of_lt_mul (y 1).isLt⟩
    (ix2 ⟨(y 0).val % 128, Nat.mod_lt _ (by decide)⟩ ⟨(y 1).val % 128, Nat.mod_lt _ (by decide)⟩)

theorem spread_at (P : Fin 4 → Fin 4 → S128x128.Idx → EReal) (y : S512x512.Idx) (c h : Fin 4) (x : S128x128.Idx)
    (h0 : (y 0).val = 128 * c.val + (x 0).val) (h1 : (y 1).val = 128 * h.val + (x 1).val) : spread P y = P c h x := by
  have x0 : (x 0).val < 128 := (x 0).isLt
  have x1 : (x 1).val < 128 := (x 1).isLt
  have hh := h.isLt
  unfold spread
  have e1 : (⟨(y 0).val / 128, Nat.div_lt_of_lt_mul (y 0).isLt⟩ : Fin 4) = c := Fin.ext (by simp only; omega)
  have e3 : (⟨(y 1).val / 128, Nat.div_lt_of_lt_mul (y 1).isLt⟩ : Fin 4) = h := Fin.ext (by simp only; omega)
  have e4 : (ix2 ⟨(y 0).val % 128, Nat.mod_lt _ (by decide)⟩ ⟨(y 1).val % 128, Nat.mod_lt _ (by decide)⟩ : S128x128.Idx) = x := by
    refine (congrArg₂ ix2 (Fin.ext ?_) (Fin.ext ?_)).trans (eq_ix2 (n0 := 128) (n1 := 128) x).symm <;> simp only <;> omega
  rw [e1, e3, e4]

/-- The same with the chunk and head read off the piece's place. -/
theorem spread_piece (P : Fin 4 → Fin 4 → S128x128.Idx → EReal) (y : S512x512.Idx) (a b : ℕ) (x : S128x128.Idx)
    (h0 : (y 0).val = a + (x 0).val) (h1 : (y 1).val = b + (x 1).val)
    (ha : a / 128 * 128 = a := by decide) (hb : b / 128 * 128 = b := by decide) (ha' : a / 128 < 4 := by decide)
    (hb' : b / 128 < 4 := by decide) : spread P y = P ⟨a / 128, ha'⟩ ⟨b / 128, hb'⟩ x :=
  spread_at P y ⟨a / 128, ha'⟩ ⟨b / 128, hb'⟩ x (by simp only; omega) (by simp only; omega)

/-- A block of states from its chunks. -/
def stacked (P : Fin 4 → V3) (y : S4x4x128x128.Idx) : EReal := P (y 0) (ix3 (y 1) (y 2) (y 3))

theorem stacked_piece (P : Fin 4 → V3) (y : S4x4x128x128.Idx) (a : ℕ) (x : S1x4x128x128.Idx)
    (h0 : (y 0).val = a + (x 0).val) (h1 : (y 1).val = (x 1).val) (h2 : (y 2).val = (x 2).val) (h3 : (y 3).val = (x 3).val)
    (ha : a < 4 := by decide) : stacked P y = k0_pay19 (F := Ideal) (P ⟨a, ha⟩) x := by
  obtain ⟨w, h, d, e, rfl⟩ : ∃ (w : Fin 1) (h : Fin 4) (d e : Fin 128), x = ix4 w h d e :=
    ⟨x 0, x 1, x 2, x 3, eq_ix4 (n0 := 1) (n1 := 4) (n2 := 128) (n3 := 128) x⟩
  obtain rfl := Subsingleton.elim w 0
  rw [state_apply]
  unfold stacked head
  have e0 : y 0 = (⟨a, ha⟩ : Fin 4) := Fin.ext h0
  have e1 : y 1 = h := Fin.ext h1
  have e2 : y 2 = d := Fin.ext h2
  have e3 : y 3 = e := Fin.ext h3
  rw [e0, e1, e2, e3]

variable (m : (ℓ : Loc nD τ sig) → Buf (Elt Ideal) ℓ)

/-- What grid point `t` reads. -/
def blocks (c : Dev nD) (t : Fin cfg0.N) : In :=
  ⟨iblk m c 0 t, iblk m c 1 t, iblk m c 2 t, iblk m c 3 t, iblk m c 4 t, iblk m c 5 t, iblk m c 6 t⟩

theorem load_eq {mr : Memref sig .tc .vmem S512x512 .f32} (h : mr.IsWhole) (x : Wide) (B : LoadRect S512x512) :
    View.readAt (Elt Ideal) mr.view B (h.unread x) = fun j => x (B.idx j) :=
  funext fun j => Memref.IsWhole.readAt_unread (Val := Elt Ideal) h x B j

theorem cast_self (x : V3) : k0_pay3 x = x := by
  funext i
  unfold_payloads
  exact congrFun (shapeCast_self x _) i

end Cert.RetFwd.Proof

end
-- ==== Proof.RetFwd.Points.lean ====
/- What the grid points of the retention leave, one after the other: the blocks each writes and the state each carries on. -/
module

public import proofs.«01_k».proof.Proof.RetFwd.Block

@[expose] public section

set_option maxRecDepth 65536
set_option maxHeartbeats 4000000

noncomputable section

namespace Cert.RetFwd.Proof
open Cert.Ret Cert.RetFwdIdeal Cert.RetFwdIdeal.Gen Idealize.ShloMosaic Idealize.ShloMosaic.TcCoe Idealize.SL.Sem

variable (m : (ℓ : Loc nD τ sig) → Buf (Elt Ideal) ℓ)

theorem scratch_A (c : Dev nD) (t : Fin cfg0.N) (h0 : t.val % 8 = 0) :
    (outsAt0 m c t.val t.isLt).2.2.2 = (blocks m c t).next ((blocks m c t).carried k0_pay4 3) 3 := by
  rw [Gen.outsAt0_A m c t h0]
  frame_open
  simp (disch := decide) only [↓ View.readCov_skip, ↓ View.readCov_cons_toLoadRect, ↓ View.readCov_fill]
  frame_out
  simp only [load_eq, read_unread_whole]
  refine (cast_self _).trans ?_
  unfold blocks
  generalize iblk m c 0 t = x0
  generalize iblk m c 1 t = x1
  generalize iblk m c 2 t = x2
  generalize iblk m c 3 t = x3
  generalize iblk m c 4 t = x4
  generalize iblk m c 5 t = x5
  generalize iblk m c 6 t = x6
  generalize (k0_pay4 : V3) = D
  dsimp only [In.pieceO, In.pieceY, In.oV, In.nV, In.carried, In.next, In.qV, In.kV, In.vV, keys, rowsV, normV, rowsV.scoreV, ld, rows, decay, plainV, gatedV]
  unfold_payloads
  rfl

theorem y_A (c : Dev nD) (t : Fin cfg0.N) (h0 : t.val % 8 = 0) (y : S512x512.Idx) :
    (outsAt0 m c t.val t.isLt).1 y = spread ((blocks m c t).pieceY k0_pay4) y := by
  rw [Gen.outsAt0_A m c t h0]
  frame_open
  simp (disch := decide) only [↓ View.readCov_skip, ↓ View.readCov_cons_toLoadRect, ↓ View.readCov_fill]
  frame_out
  simp only [load_eq, read_unread_whole]
  generalize (k0_pay4 : V3) = D
  unfold blocks
  generalize iblk m c 0 t = x0
  generalize iblk m c 1 t = x1
  generalize iblk m c 2 t = x2
  generalize iblk m c 3 t = x3
  generalize iblk m c 4 t = x4
  generalize iblk m c 5 t = x5
  generalize iblk m c 6 t = x6
  canon_tiles x h
  all_goals
    first
      | refine Eq.trans ?_ (spread_piece _ _ _ _ x h0 h1).symm
      | refine Eq.trans ?_ (spread_piece _ _ _ _ x h0 (h1.trans (Nat.zero_add _).symm)).symm
      | refine Eq.trans ?_ (spread_piece _ _ _ _ x (h0.trans (Nat.zero_add _).symm) h1).symm
      | refine Eq.trans ?_ (spread_piece _ _ _ _ x (h0.trans (Nat.zero_add _).symm) (h1.trans (Nat.zero_add _).symm)).symm
    dsimp only [In.pieceO, In.pieceY, In.oV, In.nV, In.carried, In.next, In.qV, In.kV, In.vV, keys, rowsV, normV, rowsV.scoreV, ld, rows, decay, plainV, gatedV]
    unfold_payloads
    rfl

theorem o_A (c : Dev nD) (t : Fin cfg0.N) (h0 : t.val % 8 = 0) (y : S512x512.Idx) :
    (outsAt0 m c t.val t.isLt).2.1 y = spread ((blocks m c t).pieceO k0_pay4) y := by
  rw [Gen.outsAt0_A m c t h0]
  frame_open
  simp (disch := decide) only [↓ View.readCov_skip, ↓ View.readCov_cons_toLoadRect, ↓ View.readCov_fill]
  frame_out
  simp only [load_eq, read_unread_whole]
  generalize (k0_pay4 : V3) = D
  unfold blocks
  generalize iblk m c 0 t = x0
  generalize iblk m c 1 t = x1
  generalize iblk m c 2 t = x2
  generalize iblk m c 3 t = x3
  generalize iblk m c 4 t = x4
  generalize iblk m c 5 t = x5
  generalize iblk m c 6 t = x6
  canon_tiles x h
  all_goals
    first
      | refine Eq.trans ?_ (spread_piece _ _ _ _ x h0 h1).symm
      | refine Eq.trans ?_ (spread_piece _ _ _ _ x h0 (h1.trans (Nat.zero_add _).symm)).symm
      | refine Eq.trans ?_ (spread_piece _ _ _ _ x (h0.trans (Nat.zero_add _).symm) h1).symm
      | refine Eq.trans ?_ (spread_piece _ _ _ _ x (h0.trans (Nat.zero_add _).symm) (h1.trans (Nat.zero_add _).symm)).symm
    dsimp only [In.pieceO, In.pieceY, In.oV, In.nV, In.carried, In.next, In.qV, In.kV, In.vV, keys, rowsV, normV, rowsV.scoreV, ld, rows, decay, plainV, gatedV]
    unfold_payloads
    rfl

theorem st_A (c : Dev nD) (t : Fin cfg0.N) (h0 : t.val % 8 = 0) (y : S4x4x128x128.Idx) :
    (outsAt0 m c t.val t.isLt).2.2.1 y = stacked ((blocks m c t).carried k0_pay4) y := by
  rw [Gen.outsAt0_A m c t h0]
  frame_open
  simp (disch := decide) only [↓ View.readCov_skip, ↓ View.readCov_cons_toLoadRect, ↓ View.readCov_fill]
  frame_out
  simp only [load_eq, read_unread_whole]
  generalize (k0_pay4 : V3) = D
  unfold blocks
  generalize iblk m c 0 t = x0
  generalize iblk m c 1 t = x1
  generalize iblk m c 2 t = x2
  generalize iblk m c 3 t = x3
  generalize iblk m c 4 t = x4
  generalize iblk m c 5 t = x5
  generalize iblk m c 6 t = x6
  canon_tiles x h
  all_goals
    first
      | refine Eq.trans ?_ (stacked_piece _ _ _ x h0 h1 h2 h3).symm
      | refine Eq.trans ?_ (stacked_piece _ _ _ x (h0.trans (Nat.zero_add _).symm) h1 h2 h3).symm
    dsimp only [In.pieceO, In.pieceY, In.oV, In.nV, In.carried, In.next, In.qV, In.kV, In.vV, keys, rowsV, normV, rowsV.scoreV, ld, rows, decay, plainV, gatedV] <;> (unfold_payloads; rfl)

theorem scratch_B (c : Dev nD) (t : Fin cfg0.N) (h0 : ¬t.val % 8 = 0) :
    (outsAt0 m c t.val t.isLt).2.2.2 = (blocks m c t).next ((blocks m c t).carried (outsAt0 m c (t.val - 1) (Nat.lt_of_le_of_lt (Nat.sub_le _ _) t.isLt)).2.2.2 3) 3 := by
  rw [Gen.outsAt0_B m c t h0]
  frame_open
  frame_out
  simp only [load_eq, read_unread_whole]
  refine (cast_self _).trans ?_
  unfold blocks
  generalize iblk m c 0 t = x0
  generalize iblk m c 1 t = x1
  generalize iblk m c 2 t = x2
  generalize iblk m c 3 t = x3
  generalize iblk m c 4 t = x4
  generalize iblk m c 5 t = x5
  generalize iblk m c 6 t = x6
  generalize ((outsAt0 m c (t.val - 1) (Nat.lt_of_le_of_lt (Nat.sub_le _ _) t.isLt)).2.2.2 : V3) = D
  dsimp only [In.pieceO, In.pieceY, In.oV, In.nV, In.carried, In.next, In.qV, In.kV, In.vV, keys, rowsV, normV, rowsV.scoreV, ld, rows, decay, plainV, gatedV]
  unfold_payloads
  rfl

theorem y_B (c : Dev nD) (t : Fin cfg0.N) (h0 : ¬t.val % 8 = 0) (y : S512x512.Idx) :
    (outsAt0 m c t.val t.isLt).1 y = spread ((blocks m c t).pieceY (outsAt0 m c (t.val - 1) (Nat.lt_of_le_of_lt (Nat.sub_le _ _) t.isLt)).2.2.2) y := by
  rw [Gen.outsAt0_B m c t h0]
  frame_open
  frame_out
  simp only [load_eq, read_unread_whole]
  generalize ((outsAt0 m c (t.val - 1) (Nat.lt_of_le_of_lt (Nat.sub_le _ _) t.isLt)).2.2.2 : V3) = D
  unfold blocks
  generalize iblk m c 0 t = x0
  generalize iblk m c 1 t = x1
  generalize iblk m c 2 t = x2
  generalize iblk m c 3 t = x3
  generalize iblk m c 4 t = x4
  generalize iblk m c 5 t = x5
  generalize iblk m c 6 t = x6
  canon_tiles x h
  all_goals
    first
      | refine Eq.trans ?_ (spread_piece _ _ _ _ x h0 h1).symm
      | refine Eq.trans ?_ (spread_piece _ _ _ _ x h0 (h1.trans (Nat.zero_add _).symm)).symm
      | refine Eq.trans ?_ (spread_piece _ _ _ _ x (h0.trans (Nat.zero_add _).symm) h1).symm
      | refine Eq.trans ?_ (spread_piece _ _ _ _ x (h0.trans (Nat.zero_add _).symm) (h1.trans (Nat.zero_add _).symm)).symm
    dsimp only [In.pieceO, In.pieceY, In.oV, In.nV, In.carried, In.next, In.qV, In.kV, In.vV, keys, rowsV, normV, rowsV.scoreV, ld, rows, decay, plainV, gatedV]
    unfold_payloads
    rfl

theorem o_B (c : Dev nD) (t : Fin cfg0.N) (h0 : ¬t.val % 8 = 0) (y : S512x512.Idx) :
    (outsAt0 m c t.val t.isLt).2.1 y = spread ((blocks m c t).pieceO (outsAt0 m c (t.val - 1) (Nat.lt_of_le_of_lt (Nat.sub_le _ _) t.isLt)).2.2.2) y := by
  rw [Gen.outsAt0_B m c t h0]
  frame_open
  frame_out
  simp only [load_eq, read_unread_whole]
  generalize ((outsAt0 m c (t.val - 1) (Nat.lt_of_le_of_lt (Nat.sub_le _ _) t.isLt)).2.2.2 : V3) = D
  unfold blocks
  generalize iblk m c 0 t = x0
  generalize iblk m c 1 t = x1
  generalize iblk m c 2 t = x2
  generalize iblk m c 3 t = x3
  generalize iblk m c 4 t = x4
  generalize iblk m c 5 t = x5
  generalize iblk m c 6 t = x6
  canon_tiles x h
  all_goals
    first
      | refine Eq.trans ?_ (spread_piece _ _ _ _ x h0 h1).symm
      | refine Eq.trans ?_ (spread_piece _ _ _ _ x h0 (h1.trans (Nat.zero_add _).symm)).symm
      | refine Eq.trans ?_ (spread_piece _ _ _ _ x (h0.trans (Nat.zero_add _).symm) h1).symm
      | refine Eq.trans ?_ (spread_piece _ _ _ _ x (h0.trans (Nat.zero_add _).symm) (h1.trans (Nat.zero_add _).symm)).symm
    dsimp only [In.pieceO, In.pieceY, In.oV, In.nV, In.carried, In.next, In.qV, In.kV, In.vV, keys, rowsV, normV, rowsV.scoreV, ld, rows, decay, plainV, gatedV]
    unfold_payloads
    rfl

theorem st_B (c : Dev nD) (t : Fin cfg0.N) (h0 : ¬t.val % 8 = 0) (y : S4x4x128x128.Idx) :
    (outsAt0 m c t.val t.isLt).2.2.1 y = stacked ((blocks m c t).carried (outsAt0 m c (t.val - 1) (Nat.lt_of_le_of_lt (Nat.sub_le _ _) t.isLt)).2.2.2) y := by
  rw [Gen.outsAt0_B m c t h0]
  frame_open
  frame_out
  simp only [load_eq, read_unread_whole]
  generalize ((outsAt0 m c (t.val - 1) (Nat.lt_of_le_of_lt (Nat.sub_le _ _) t.isLt)).2.2.2 : V3) = D
  unfold blocks
  generalize iblk m c 0 t = x0
  generalize iblk m c 1 t = x1
  generalize iblk m c 2 t = x2
  generalize iblk m c 3 t = x3
  generalize iblk m c 4 t = x4
  generalize iblk m c 5 t = x5
  generalize iblk m c 6 t = x6
  canon_tiles x h
  all_goals
    first
      | refine Eq.trans ?_ (stacked_piece _ _ _ x h0 h1 h2 h3).symm
      | refine Eq.trans ?_ (stacked_piece _ _ _ x (h0.trans (Nat.zero_add _).symm) h1 h2 h3).symm
    dsimp only [In.pieceO, In.pieceY, In.oV, In.nV, In.carried, In.next, In.qV, In.kV, In.vV, keys, rowsV, normV, rowsV.scoreV, ld, rows, decay, plainV, gatedV] <;> (unfold_payloads; rfl)

/-- The state before grid point `n`. -/
def before (c : Dev nD) : ℕ → V3
  | 0 => k0_pay4
  | n + 1 => if h : n < cfg0.N then (blocks m c ⟨n, h⟩).next ((blocks m c ⟨n, h⟩).carried (before c n) 3) 3 else before c n

theorem carried_eq (c : Dev nD) (n : ℕ) (h : n < cfg0.N) : (outsAt0 m c n h).2.2.2 = before m c (n + 1) := by
  induction n with
  | zero =>
    rw [before, dif_pos h, before]
    exact scratch_A m c ⟨0, h⟩ rfl
  | succ n ih =>
    have hN : cfg0.N = 8 := N_0
    rw [before, dif_pos h, ← ih (by omega)]
    exact scratch_B m c ⟨n + 1, h⟩ (by simp only; omega)

theorem y_eq (c : Dev nD) (t : Fin cfg0.N) (y : S512x512.Idx) : (outsAt0 m c t.val t.isLt).1 y = spread ((blocks m c t).pieceY (before m c t.val)) y := by
  have hN : cfg0.N = 8 := N_0
  obtain ⟨n, h⟩ := t
  cases n with
  | zero => exact y_A m c ⟨0, h⟩ rfl y
  | succ n =>
    rw [← carried_eq m c n (by omega)]
    exact y_B m c ⟨n + 1, h⟩ (by simp only; omega) y

theorem o_eq (c : Dev nD) (t : Fin cfg0.N) (y : S512x512.Idx) : (outsAt0 m c t.val t.isLt).2.1 y = spread ((blocks m c t).pieceO (before m c t.val)) y := by
  have hN : cfg0.N = 8 := N_0
  obtain ⟨n, h⟩ := t
  cases n with
  | zero => exact o_A m c ⟨0, h⟩ rfl y
  | succ n =>
    rw [← carried_eq m c n (by omega)]
    exact o_B m c ⟨n + 1, h⟩ (by simp only; omega) y

theorem st_eq (c : Dev nD) (t : Fin cfg0.N) (y : S4x4x128x128.Idx) : (outsAt0 m c t.val t.isLt).2.2.1 y = stacked ((blocks m c t).carried (before m c t.val)) y := by
  have hN : cfg0.N = 8 := N_0
  obtain ⟨n, h⟩ := t
  cases n with
  | zero => exact st_A m c ⟨0, h⟩ rfl y
  | succ n =>
    rw [← carried_eq m c n (by omega)]
    exact st_B m c ⟨n + 1, h⟩ (by simp only; omega) y

end Cert.RetFwd.Proof

end
-- ==== Proof.RetFwd.Host.lean ====
/- What the host lines before the region leave: the rotation's tables, the decays. -/
module

public import proofs.«01_k».proof.Proof.Ret.Whole
public import proofs.«01_k».proof.Proof.Gen.RetFwdIdeal.Value
public import Idealize.ShloMosaic.Lib.StableHlo.ReadAt
public import Idealize.ShloMosaic.Lib.Pointwise

@[expose] public section

set_option maxRecDepth 65536
set_option maxHeartbeats 4000000

noncomputable section

namespace Cert.RetFwd.Proof

open Cert.Ret Cert.RetFwdIdeal Cert.RetFwdIdeal.Gen Idealize.ShloMosaic Idealize.ShloMosaic.TcCoe Idealize.SL.Sem

variable (m : (ℓ : Loc nD τ sig) → Buf (Elt Ideal) ℓ)

/-- The projections that core `c` starts with. -/
def projIn (c : Dev nD) (r : Fin 4096) (x : Fin 3072) : EReal := (m (c.tc.loc main_arg0) : FVec Ideal S4096x3072 .f32) (ix2 r x)

theorem cos_at (c : Dev nD) (r : Fin 4096) (d : Fin 128) :
    (V m c main_v14 : FVec Ideal S4096x128 .f32) (ix2 r d) = Ideal.cos (angle r.val (d.val % 64)) := by
  unfold V hostOps0 hostOps0_1 hostOps0_2 hostOps0_3 hostOps0_4
  after_reads_at
  unfold angle
  split
  · rw [Nat.mod_eq_of_lt ‹_›]
  · rw [show d.val % 64 = d.val - 64 by omega]

theorem sin_at (c : Dev nD) (r : Fin 4096) (d : Fin 128) : (V m c main_v16 : FVec Ideal S4096x128 .f32) (ix2 r d)
    = if d.val < 64 then -Ideal.sin (angle r.val (d.val % 64)) else Ideal.sin (angle r.val (d.val % 64)) := by
  unfold V hostOps0 hostOps0_1 hostOps0_2 hostOps0_3 hostOps0_4
  after_reads_at
  unfold angle
  split
  · rw [Nat.mod_eq_of_lt ‹_›]
  · rw [show d.val % 64 = d.val - 64 by omega]

theorem zero_word : Ideal.ofBits .f32 0x00000000#32 = 0 := Ideal.ofBits_zero_f32

theorem dm_at (c : Dev nD) (h : Fin 4) (i j : Fin 128) : (V m c main_v41 : FVec Ideal S4x128x128 .f32) (ix3 h i j) = dmT h i j := by
  unfold V hostOps0 hostOps0_1 hostOps0_2 hostOps0_3 hostOps0_4
  after_reads_at
  simp only [id_eq, constant_apply, show (FloatOps.ofBits FTy.f32 0#32 : Ideal .f32) = (0 : EReal) from zero_word]
  rfl

theorem qd_at (c : Dev nD) (h : Fin 4) (i j : Fin 128) : (V m c main_v62 : FVec Ideal S4x128x128 .f32) (ix3 h i j) = qdT h i j := by
  unfold V hostOps0 hostOps0_1 hostOps0_2 hostOps0_3 hostOps0_4
  after_reads_at
  rfl

theorem kd_at (c : Dev nD) (h : Fin 4) (i j : Fin 128) : (V m c main_v64 : FVec Ideal S4x128x128 .f32) (ix3 h i j) = kdT h i j := by
  unfold V hostOps0 hostOps0_1 hostOps0_2 hostOps0_3 hostOps0_4
  after_reads_at
  rfl

theorem cg_at (c : Dev nD) (h : Fin 4) (i j : Fin 128) : (V m c main_v66 : FVec Ideal S4x128x128 .f32) (ix3 h i j) = cgT h i j := by
  unfold V hostOps0 hostOps0_1 hostOps0_2 hostOps0_3 hostOps0_4
  after_reads_at
  rfl

/-- The four tables of decays joined. -/
def joined (a b c d : FVec Ideal S4x1x128x128 .f32) : FVec Ideal S4x4x128x128 .f32 :=
  concatenate S4x4x128x128 1 [⟨S4x1x128x128, a⟩, ⟨S4x1x128x128, b⟩, ⟨S4x1x128x128, c⟩, ⟨S4x1x128x128, d⟩]
    concatenates_S4x1x128x128_S4x1x128x128_S4x1x128x128_S4x1x128x128_S4x4x128x128_d1

/-- The lines before the region. -/
abbrev lines : List (HloOp τ sig (Elt Ideal)) := List.flatten [hostOps0, hostOps0_1, hostOps0_2, hostOps0_3, hostOps0_4]

theorem tab_parts (X : Valuation τ sig (Elt Ideal)) (a b c d : FVec Ideal S4x1x128x128 .f32)
    (ha : StableHlo.upto lines X 86 (Proc.devRef .tc main_v67) = a) (hb : StableHlo.upto lines X 86 (Proc.devRef .tc main_v68) = b)
    (hc : StableHlo.upto lines X 86 (Proc.devRef .tc main_v69) = c) (hd : StableHlo.upto lines X 86 (Proc.devRef .tc main_v70) = d) :
    StableHlo.after lines X (Proc.devRef .tc main_v71) = joined a b c d := by
  after_reads_simp
  subst ha hb hc hd
  rfl

theorem tab_eq (c : Dev nD) : (V m c main_v71 : FVec Ideal S4x4x128x128 .f32)
    = joined (V m c main_v67) (V m c main_v68) (V m c main_v69) (V m c main_v70) := by
  refine tab_parts (fun b => m (c, b)) _ _ _ _ ?_ ?_ ?_ ?_ <;> (unfold V; after_reads_simp)

/-- The decay tables in their order. -/
def decT (w h : Fin 4) : Tile :=
  match w with
  | 0 => dmT h
  | 1 => qdT h
  | 2 => kdT h
  | 3 => cgT h

theorem tab_at (c : Dev nD) (h w : Fin 4) (i j : Fin 128) :
    (V m c main_v71 : FVec Ideal S4x4x128x128 .f32) (ix4 h w i j) = decT w h i j := by
  have e67 : (V m c main_v67 : FVec Ideal S4x1x128x128 .f32)
    = broadcastInDim S4x1x128x128 ![0, 2, 3] bcast_S4x128x128_S4x1x128x128_0_2_3 (V m c main_v41 : FVec Ideal S4x128x128 .f32) := by
    unfold V; after_reads_simp
  have e68 : (V m c main_v68 : FVec Ideal S4x1x128x128 .f32)
    = broadcastInDim S4x1x128x128 ![0, 2, 3] bcast_S4x128x128_S4x1x128x128_0_2_3 (V m c main_v62 : FVec Ideal S4x128x128 .f32) := by
    unfold V; after_reads_simp
  have e69 : (V m c main_v69 : FVec Ideal S4x1x128x128 .f32)
    = broadcastInDim S4x1x128x128 ![0, 2, 3] bcast_S4x128x128_S4x1x128x128_0_2_3 (V m c main_v64 : FVec Ideal S4x128x128 .f32) := by
    unfold V; after_reads_simp
  have e70 : (V m c main_v70 : FVec Ideal S4x1x128x128 .f32)
    = broadcastInDim S4x1x128x128 ![0, 2, 3] bcast_S4x128x128_S4x1x128x128_0_2_3 (V m c main_v66 : FVec Ideal S4x128x128 .f32) := by
    unfold V; after_reads_simp
  rw [tab_eq, e67, e68, e69, e70]
  unfold joined
  match w with
  | 0 => exact Eq.trans (by pointwise) (dm_at m c h i j)
  | 1 => exact Eq.trans (by pointwise) (qd_at m c h i j)
  | 2 => exact Eq.trans (by pointwise) (kd_at m c h i j)
  | 3 => exact Eq.trans (by pointwise) (cg_at m c h i j)

end Cert.RetFwd.Proof

end
-- ==== Proof.RetFwd.Kernel.lean ====
/- The arrays the retention's kernel leaves: its grid points go from the first chunks to the last. -/
module

public import proofs.«01_k».proof.Proof.RetFwd.Points
public import proofs.«01_k».proof.Proof.RetFwd.Host

@[expose] public section

set_option maxRecDepth 16384
set_option maxHeartbeats 1000000

noncomputable section

namespace Cert.RetFwd.Proof

open Cert.Ret Cert.RetFwdIdeal Cert.RetFwdIdeal.Gen Idealize.ShloMosaic Idealize.ShloMosaic.TcCoe Idealize.SL.Sem

variable (m : (ℓ : Loc nD τ sig) → Buf (Elt Ideal) ℓ)

theorem places : ∀ t : Fin cfg0.N, (win0_0.index t = ![t.val, 0] ∧ win0_1.index t = ![t.val, 1]
    ∧ win0_2.index t = ![t.val, 2] ∧ win0_3.index t = ![t.val, 3]) ∧ (win0_4.index t = ![t.val, 0]
    ∧ win0_5.index t = ![t.val, 0] ∧ win0_6.index t = ![0, 0, 0, 0]) ∧ win0_7.index t = ![t.val, 0]
    ∧ win0_8.index t = ![t.val, 0] ∧ win0_9.index t = ![t.val, 0, 0, 0] :=
  (by decide +kernel : ∀ t : Fin grid0.N, _)

theorem lt8 (t : Fin cfg0.N) : t.val < 8 := t.isLt

/-- Chunk `k` of grid point `t`. -/
def chunkOf (t : Fin cfg0.N) (k : Fin 4) : Fin 32 := ⟨4 * t.val + k.val, by have := lt8 t; omega⟩

theorem ld_at (x : Wide) (k h : Fin 4) (i d : Fin 128) :
    ld x k h (ix2 i d) = x (ix2 ⟨128 * k.val + i.val, by omega⟩ ⟨128 * h.val + d.val, by omega⟩) := by
  unfold ld
  refine congrArg x ((Rect.idx_withinL _ _ _ _).trans ?_)
  funext a
  refine Fin.ext ?_
  fin_cases a
  · show 128 * k.val + 1 * (0 + 1 * i.val) = 128 * k.val + i.val
    omega
  · show 0 + 1 * (128 * h.val + 1 * d.val) = 128 * h.val + d.val
    omega

theorem rows_at (x : FVec Ideal S512x128 .f32) (k : Fin 4) (i d : Fin 128) :
    rows x k (ix2 i d) = x (ix2 ⟨128 * k.val + i.val, by omega⟩ d) := by
  unfold rows
  unfold_payloads
  pointwise

theorem decay_at (x : FVec Ideal S4x4x128x128 .f32) (w h : Fin 4) (i d : Fin 128) :
    decay x w (ix3 h i d) = x (ix4 h w i d) := by
  unfold decay
  unfold_payloads
  pointwise

section
variable (c : Dev nD) (t : Fin cfg0.N) (k h : Fin 4)

theorem q_blk : tile (ld (blocks m c t).q k h) = part (projIn m c) 0 (chunkOf t k) h := by
  funext i d
  have ht := lt8 t
  exact (ld_at _ k h i d).trans ((congrArg (V m c main_arg0) (show ((View.whole main_arg0).slice (win0_0.rect t)).emb _
    = (ix2 (row (chunkOf t k) i) (col 0 h d) : S4096x3072.Idx) by blk_ext [(places t).1.1, row, col, chunkOf])).trans (congrFun (V_main_arg0 m c) _))

theorem k_blk : tile (ld (blocks m c t).k k h) = part (projIn m c) 1 (chunkOf t k) h := by
  funext i d
  have ht := lt8 t
  exact (ld_at _ k h i d).trans ((congrArg (V m c main_arg0) (show ((View.whole main_arg0).slice (win0_1.rect t)).emb _
    = (ix2 (row (chunkOf t k) i) (col 1 h d) : S4096x3072.Idx) by blk_ext [(places t).1.2.1, row, col, chunkOf])).trans (congrFun (V_main_arg0 m c) _))

theorem v_blk : tile (ld (blocks m c t).v k h) = part (projIn m c) 2 (chunkOf t k) h := by
  funext i d
  have ht := lt8 t
  exact (ld_at _ k h i d).trans ((congrArg (V m c main_arg0) (show ((View.whole main_arg0).slice (win0_2.rect t)).emb _
    = (ix2 (row (chunkOf t k) i) (col 2 h d) : S4096x3072.Idx) by blk_ext [(places t).1.2.2.1, row, col, chunkOf])).trans (congrFun (V_main_arg0 m c) _))

theorem g_blk : tile (ld (blocks m c t).g k h) = part (projIn m c) 3 (chunkOf t k) h := by
  funext i d
  have ht := lt8 t
  exact (ld_at _ k h i d).trans ((congrArg (V m c main_arg0) (show ((View.whole main_arg0).slice (win0_3.rect t)).emb _
    = (ix2 (row (chunkOf t k) i) (col 3 h d) : S4096x3072.Idx) by blk_ext [(places t).1.2.2.2, row, col, chunkOf])).trans (congrFun (V_main_arg0 m c) _))

theorem c_blk : tile (rows (blocks m c t).c k) = cosT (chunkOf t k) := by
  funext i d
  have ht := lt8 t
  exact (rows_at _ k i d).trans ((congrArg (V m c main_v14) (show ((View.whole main_v14).slice (win0_4.rect t)).emb _
    = (ix2 (row (chunkOf t k) i) d : S4096x128.Idx) by blk_ext [(places t).2.1.1, row, chunkOf])).trans (cos_at m c _ _))

theorem s_blk : tile (rows (blocks m c t).s k) = sinT (chunkOf t k) := by
  funext i d
  have ht := lt8 t
  exact (rows_at _ k i d).trans ((congrArg (V m c main_v16) (show ((View.whole main_v16).slice (win0_5.rect t)).emb _
    = (ix2 (row (chunkOf t k) i) d : S4096x128.Idx) by blk_ext [(places t).2.1.2.1, row, chunkOf])).trans (sin_at m c _ _))

theorem tab_blk : head (decay (blocks m c t).tab k) h = decT k h := by
  funext i d
  have ht := lt8 t
  exact (decay_at _ k h i d).trans ((congrArg (V m c main_v71) (show ((View.whole main_v71).slice (win0_6.rect t)).emb _
    = (ix4 h k i d : S4x4x128x128.Idx) by blk_ext [(places t).2.1.2.2, chunkOf])).trans (tab_at m c h k i d))

theorem pick (x : Wide) : (![ld x k 0, ld x k 1, ld x k 2, ld x k 3] : Fin 4 → V2) h = ld x k h := by
  fin_cases h <;> rfl

theorem qV_at : head ((blocks m c t).qV k) h = qT (projIn m c) (chunkOf t k) h := by
  refine (rotated_apply _ _ _ _ _ _ h).trans ?_
  rw [pick, c_blk, s_blk, q_blk]
  rfl

theorem kV_at : head ((blocks m c t).kV k) h = kT (projIn m c) (chunkOf t k) h := by
  funext i d
  refine (keys_apply _ _ _ _ _ _ h i d).trans ?_
  rw [pick, c_blk, s_blk, k_blk]
  rfl

theorem vV_at : head ((blocks m c t).vV k) h = part (projIn m c) 2 (chunkOf t k) h := by
  refine (stack_apply _ _ _ _ h).trans ?_
  rw [pick, v_blk]

variable (D : V3)

theorem next_state (j : ℕ) (hj : j = 4 * t.val + k.val) (hD : head D h = St (projIn m c) j h) :
    head ((blocks m c t).next D k) h = St (projIn m c) (j + 1) h := by
  funext d e
  have n : (⟨j % 32, Nat.mod_lt _ (by decide)⟩ : Fin 32) = chunkOf t k := by
    have := lt8 t
    have := k.isLt
    refine Fin.ext ?_
    simp only [chunkOf]
    omega
  refine (next_apply _ _ _ _ _ h d e).trans ?_
  rw [tab_blk, tab_blk, kV_at, vV_at, hD]
  simp only [St, n]
  rfl

theorem carried_state (hD : head D h = St (projIn m c) (4 * t.val) h) :
    head ((blocks m c t).carried D k) h = St (projIn m c) (chunkOf t k).val h := by
  have e1 := next_state m c t 0 h D (4 * t.val) rfl hD
  have e2 := next_state m c t 1 h _ (4 * t.val + 1) rfl e1
  have e3 := next_state m c t 2 h _ (4 * t.val + 2) rfl e2
  fin_cases k
  · exact hD
  · exact e1
  · exact e2
  · exact e3

theorem oV_at (hD : head D h = St (projIn m c) (4 * t.val) h) : head ((blocks m c t).oV D k) h = oT (projIn m c) (chunkOf t k) h := by
  funext i e
  refine (rows_apply _ _ _ _ _ _ h i e).trans ?_
  rw [tab_blk, tab_blk, qV_at, kV_at, vV_at, carried_state m c t k h D hD]
  rfl

theorem pieceO_at (i d : Fin 128) (hD : head D h = St (projIn m c) (4 * t.val) h) :
    (blocks m c t).pieceO D k h (ix2 i d) = oT (projIn m c) (chunkOf t k) h i d := by
  refine (plainV_apply h _ i d).trans ?_
  rw [oV_at m c t k h D hD]

theorem pieceY_at (i d : Fin 128) (hD : head D h = St (projIn m c) (4 * t.val) h) :
    (blocks m c t).pieceY D k h (ix2 i d) = gatedRow (projIn m c) (chunkOf t k) h i d := by
  refine (gatedV_apply h _ _ _ _ _ i d).trans ?_
  rw [pick, g_blk, show head ((blocks m c t).nV D k) h i d = _ from norm_apply _ _ _ _ _ _ h i d,
    show head (rowsV _ _ _ _ _ _) h = _ from oV_at m c t k h D hD]
  rfl

end

theorem before_at (c : Dev nD) (h : Fin 4) (n : ℕ) (hn : n ≤ 8) : head (before m c n) h = St (projIn m c) (4 * n) h := by
  induction n with
  | zero =>
    funext i d
    show (k0_pay4 : V3) (ix3 h i d) = 0
    unfold_payloads
    pointwise
  | succ n ih =>
    have hN : n < cfg0.N := by show n < grid0.N; rw [N_0]; omega
    rw [before, dif_pos hN]
    exact next_state m c ⟨n, hN⟩ 3 h _ (4 * n + 3) rfl (carried_state m c ⟨n, hN⟩ 3 h _ (ih (by omega)))

/-- The state before a chunk. -/
def states (P : Fin 4096 → Fin 3072 → EReal) (n : Fin 32) (h : Fin 4) : Tile := St P n.val h

/-- An array of rows of heads, from its chunks. -/
def wide (P : Fin 32 → Fin 4 → Tile) (r : Fin 4096) (x : Fin 512) : EReal :=
  P ⟨r.val / 128, by omega⟩ ⟨x.val / 128, by omega⟩ ⟨r.val % 128, by omega⟩ ⟨x.val % 128, by omega⟩

theorem wide_at (P : Fin 32 → Fin 4 → Tile) (t : Fin cfg0.N) (i : Fin 512) (j : Fin 512) (hr : t.val * 512 + i.val < 4096) :
    wide P ⟨t.val * 512 + i.val, hr⟩ j
      = P (chunkOf t ⟨i.val / 128, by omega⟩) ⟨j.val / 128, by omega⟩ ⟨i.val % 128, by omega⟩ ⟨j.val % 128, by omega⟩ := by
  unfold wide
  have e : (⟨(t.val * 512 + i.val) / 128, by omega⟩ : Fin 32) = chunkOf t ⟨i.val / 128, by omega⟩ := Fin.ext (by simp only [chunkOf]; omega)
  have e' : (⟨(t.val * 512 + i.val) % 128, by omega⟩ : Fin 128) = ⟨i.val % 128, by omega⟩ := Fin.ext (by simp only; omega)
  show P (⟨(t.val * 512 + i.val) / 128, _⟩ : Fin 32) _ ⟨(t.val * 512 + i.val) % 128, _⟩ _ = _
  rw [e, e']

/-- The gated rows' array. -/
theorem y_array (c : Dev nD) : (dats m 0 c).arrAt 7 cfg0.N
    = (fun y => wide (gatedRow (projIn m c)) (y 0) (y 1) : FVec Ideal S4096x512 .bf16) := by
  refine (dats m 0 c).arrAt_eq_of_covers 7 _ (by decide +kernel) fun t hf y => ?_
  blk_simp
  rw [after0_7]
  obtain ⟨i, j, rfl⟩ : ∃ (i : Fin 512) (j : Fin 512), y = ix2 i j := ⟨y 0, y 1, eq_ix2 (n0 := 512) (n1 := 512) y⟩
  refine (y_eq m c t (ix2 i j)).trans ?_
  have ht := lt8 t
  have place : ((View.whole main_v72_0).slice (win0_7.rect t)).emb (ix2 i j)
      = (ix2 ⟨t.val * 512 + i.val, by omega⟩ j : S4096x512.Idx) := by
    blk_ext [(places t).2.2.1]
  rw [place]
  exact (pieceY_at m c t _ _ _ _ _ (before_at m c _ t.val (by omega))).trans (wide_at _ t i j (by omega)).symm

/-- The attended rows' array. -/
theorem o_array (c : Dev nD) : (dats m 0 c).arrAt 8 cfg0.N
    = (fun y => wide (oT (projIn m c)) (y 0) (y 1) : FVec Ideal S4096x512 .f32) := by
  refine (dats m 0 c).arrAt_eq_of_covers 8 _ (by decide +kernel) fun t hf y => ?_
  blk_simp
  rw [after0_8]
  obtain ⟨i, j, rfl⟩ : ∃ (i : Fin 512) (j : Fin 512), y = ix2 i j := ⟨y 0, y 1, eq_ix2 (n0 := 512) (n1 := 512) y⟩
  refine (o_eq m c t (ix2 i j)).trans ?_
  have ht := lt8 t
  have place : ((View.whole main_v72_1).slice (win0_8.rect t)).emb (ix2 i j)
      = (ix2 ⟨t.val * 512 + i.val, by omega⟩ j : S4096x512.Idx) := by
    blk_ext [(places t).2.2.2.1]
  rw [place]
  exact (pieceO_at m c t _ _ _ _ _ (before_at m c _ t.val (by omega))).trans (wide_at _ t i j (by omega)).symm

/-- The states' array. -/
theorem st_array (c : Dev nD) : (dats m 0 c).arrAt 9 cfg0.N
    = (fun y => states (projIn m c) (y 0) (y 1) (y 2) (y 3) : FVec Ideal S32x4x128x128 .f32) := by
  refine (dats m 0 c).arrAt_eq_of_covers 9 _ (by decide +kernel) fun t hf y => ?_
  blk_simp
  rw [after0_9]
  obtain ⟨k, h, d, e, rfl⟩ : ∃ (k h : Fin 4) (d e : Fin 128), y = ix4 k h d e :=
    ⟨y 0, y 1, y 2, y 3, eq_ix4 (n0 := 4) (n1 := 4) (n2 := 128) (n3 := 128) y⟩
  refine (st_eq m c t (ix4 k h d e)).trans ?_
  have ht := lt8 t
  have place : ((View.whole main_v72_2).slice (win0_9.rect t)).emb (ix4 k h d e)
      = (ix4 (chunkOf t k) h d e : S32x4x128x128.Idx) := by
    blk_ext [(places t).2.2.2.2, chunkOf]
  rw [place]
  exact congrFun (congrFun (carried_state m c t k h _ (before_at m c h t.val (by omega))) d) e

end Cert.RetFwd.Proof

end
-- ==== Proof.RetFwd.Rotations.lean ====
/-
The plain program's rotated rows and decays.
-/
module

public import proofs.«01_k».proof.Proof.Ret.Whole
public import proofs.«01_k».proof.Proof.Gen.RetFwdRefIdeal.Read
public import Idealize.ShloMosaic.Lib.Pointwise

@[expose] public section

set_option maxRecDepth 16384

noncomputable section

namespace Cert.RetFwd.Ref

open Cert.Ret Cert.RetFwdRefIdeal Cert.RetFwdRefIdeal.Gen Cert.RetFwdRefIdeal.Read Idealize.ShloMosaic Idealize.ShloMosaic.TcCoe Idealize.SL.Sem

abbrev Arg0 : Type := FVec Ideal S4096x3072 .f32

def proj (x : Arg0) : Fin 4096 → Fin 3072 → EReal := fun r c => x (ix2 r c)

theorem angle_q (r : Fin 4096) (x : Fin 64) : val_main_v21 (F := Ideal) (ix2 r x) = angle r.val x.val := by
  unfold val_main_v21 val_main_v20 val_main_v19 val_main_v18 val_main_v17 val_main_v16 val_main_v15 val_main_v14 val_main_cst_0 val_main_v13
    val_main_v12 val_main_cst val_main_v11 val_main_v10 val_main_v8
  pointwise
  rfl

theorem angle_k (r : Fin 4096) (x : Fin 64) : val_main_v51 (F := Ideal) (ix2 r x) = angle r.val x.val := by
  unfold val_main_v51 val_main_v50 val_main_v49 val_main_v48 val_main_v47 val_main_v46 val_main_v45 val_main_v44 val_main_cst_2 val_main_v43
    val_main_v42 val_main_cst_1 val_main_v41 val_main_v40 val_main_v8
  pointwise
  rfl

/-- A row of one head, rotated. -/
def rotated (y : Fin 128 → EReal) (a : ℕ → EReal) (d : Fin 128) : EReal :=
  y d * Ideal.cos (a (d.val % 64)) + y (other d) * if d.val < 64 then -Ideal.sin (a (d.val % 64)) else Ideal.sin (a (d.val % 64))

theorem halves (y : Fin 128 → EReal) (a : ℕ → EReal) (d : Fin 128) :
    (if h : d.val < 64 then
        y d * Ideal.cos (a d.val) - y ⟨64 + d.val, by omega⟩ * Ideal.sin (a d.val)
      else y ⟨d.val - 64, by omega⟩ * Ideal.sin (a (d.val - 64)) + y ⟨64 + (d.val - 64), by omega⟩ * Ideal.cos (a (d.val - 64)))
      = rotated y a d := by
  unfold rotated
  split
  next h =>
    rw [Nat.mod_eq_of_lt h, mul_neg, sub_eq_add_neg, show other d = ⟨64 + d.val, by omega⟩ from Fin.ext (by simp only [other]; omega)]
  next h =>
    rw [show d.val % 64 = d.val - 64 by omega, show other d = ⟨d.val - 64, by omega⟩ from Fin.ext (by simp only [other]; omega),
      show (⟨64 + (d.val - 64), _⟩ : Fin 128) = d from Fin.ext (by simp only; omega), add_comm]

theorem rotated_q (x0 : Arg0) (n : Fin 32) (i : Fin 128) (h : Fin 4) (d : Fin 128) :
    val_main_v38 (F := Ideal) x0 (ix4 0 (row n i) h d) = rot (cosT n) (sinT n) (part (proj x0) 0 n h) i d := by
  have col_at (e : Fin 128) (he) : x0 (ix2 (row n i) ⟨h.val * 128 + e.val, he⟩) = part (proj x0) 0 n h i e :=
    congrArg x0 (congrArg (ix2 (row n i)) (Fin.ext (by simp only [col]; omega)))
  refine Eq.trans ?_ (halves (part (proj x0) 0 n h i) (angle (row n i).val) d)
  unfold val_main_v38 val_main_v37 val_main_v36 val_main_v35 val_main_v34 val_main_v33 val_main_v32 val_main_v31 val_main_v30 val_main_v29 val_main_v28 val_main_v27 val_main_v26 val_main_v25 val_main_v24 val_main_v23 val_main_v22 val_main_v9 val_main_v1 val_main_v0
  pointwise
  simp only [angle_q]
  split
  · exact congrArg₂ (· - ·) (congrArg (· * _) (col_at d _)) (congrArg (· * _) (col_at ⟨64 + d.val, by omega⟩ _))
  · exact congrArg₂ (· + ·) (congrArg (· * _) (col_at ⟨d.val - 64, by omega⟩ _)) (congrArg (· * _) (col_at ⟨64 + (d.val - 64), by omega⟩ _))

theorem q_at (x0 : Arg0) (n : Fin 32) (i : Fin 128) (h : Fin 4) (d : Fin 128) :
    val_main_v80 (F := Ideal) x0 (ix5 0 n i h d) = qT (proj x0) n h i d := by
  unfold val_main_v80
  pointwise
  have e : (⟨n.val * 128 + i.val, by omega⟩ : Fin 4096) = row n i := Fin.ext (by simp only [row]; omega)
  rw [e, rotated_q]
  rfl

theorem rotated_k (x0 : Arg0) (n : Fin 32) (i : Fin 128) (h : Fin 4) (d : Fin 128) :
    val_main_v68 (F := Ideal) x0 (ix4 0 (row n i) h d) = rot (cosT n) (sinT n) (part (proj x0) 1 n h) i d := by
  have col_at (e : Fin 128) (he) : x0 (ix2 (row n i) ⟨512 + (h.val * 128 + e.val), he⟩) = part (proj x0) 1 n h i e :=
    congrArg x0 (congrArg (ix2 (row n i)) (Fin.ext (by simp only [col]; omega)))
  refine Eq.trans ?_ (halves (part (proj x0) 1 n h i) (angle (row n i).val) d)
  unfold val_main_v68 val_main_v67 val_main_v66 val_main_v65 val_main_v64 val_main_v63 val_main_v62 val_main_v61 val_main_v60 val_main_v59 val_main_v58 val_main_v57 val_main_v56 val_main_v55 val_main_v54 val_main_v53 val_main_v52 val_main_v39 val_main_v3 val_main_v2
  pointwise
  simp only [angle_k]
  split
  · exact congrArg₂ (· - ·) (congrArg (· * _) (col_at d _)) (congrArg (· * _) (col_at ⟨64 + d.val, by omega⟩ _))
  · exact congrArg₂ (· + ·) (congrArg (· * _) (col_at ⟨d.val - 64, by omega⟩ _)) (congrArg (· * _) (col_at ⟨64 + (d.val - 64), by omega⟩ _))

theorem k_at (x0 : Arg0) (n : Fin 32) (i : Fin 128) (h : Fin 4) (d : Fin 128) :
    val_main_v81 (F := Ideal) x0 (ix5 0 n i h d) = kT (proj x0) n h i d := by
  unfold val_main_v81 val_main_v79 val_main_v78 val_main_cst_5
  pointwise
  have e : (⟨n.val * 128 + i.val, by omega⟩ : Fin 4096) = row n i := Fin.ext (by simp only [row]; omega)
  rw [e, rotated_k]
  rfl

theorem v_at (x0 : Arg0) (n : Fin 32) (i : Fin 128) (h : Fin 4) (d : Fin 128) :
    val_main_v82 (F := Ideal) x0 (ix5 0 n i h d) = part (proj x0) 2 n h i d := by
  unfold val_main_v82 val_main_v69 val_main_v5 val_main_v4
  pointwise
  exact congrArg x0 (congrArg₂ ix2 (Fin.ext (by simp only [row]; omega)) (Fin.ext (by simp only [col]; omega)))

theorem lg_at (h : Fin 4) : val_main_v77 (F := Ideal) (ix1 h) = lg h := by
  unfold val_main_v77 val_main_v76 val_main_v75 val_main_v74 val_main_v73 val_main_cst_4 val_main_v72 val_main_v71 val_main_cst_3 val_main_v70
  pointwise
  rfl

theorem zero_word : (FloatOps.ofBits FTy.f32 0#32 : Ideal .f32) = (0 : EReal) := Ideal.ofBits_zero_f32

theorem dm_at (h : Fin 4) (i j : Fin 128) : val_main_v98 (F := Ideal) (ix3 h i j) = dmT h i j := by
  unfold val_main_v98 val_main_call1_v2 val_main_call1_v1 val_main_call1_v0 val_main_cst_8 val_main_v97 val_main_v96 val_main_v95 val_main_v94
    val_main_v93 val_main_v92 val_main_call0_v1 val_main_call0_v0 val_main_cst_7 val_main_v91 val_main_v90 val_main_v89 val_main_cst_6
    val_main_v88 val_main_v87 val_main_v86 val_main_v85 val_main_v84 val_main_v83
  pointwise
  simp only [lg_at, id_eq, constant_apply, zero_word]
  rfl

theorem dm_wide (h : Fin 4) (i j : Fin 128) : val_main_v100 (F := Ideal) (ix5 0 0 h i j) = dmT h i j := by
  unfold val_main_v100
  pointwise
  exact dm_at h i j

theorem qd_at (h : Fin 4) (i : Fin 128) : val_main_v364 (F := Ideal) (ix5 0 0 i h 0) = qdE h i := by
  unfold val_main_v364 val_main_v363 val_main_v112 val_main_v111 val_main_v110 val_main_v109 val_main_v108 val_main_v107 val_main_cst_9
    val_main_v106 val_main_v105 val_main_v83
  pointwise
  rw [lg_at]
  rfl

theorem kd_at (h : Fin 4) (i : Fin 128) : val_main_v125 (F := Ideal) (ix5 0 0 i h 0) = kdE h i := by
  unfold val_main_v125 val_main_v124 val_main_v120 val_main_v119 val_main_v118 val_main_v117 val_main_v116 val_main_v115 val_main_cst_10
    val_main_v114 val_main_v113 val_main_v83
  pointwise
  rw [lg_at]
  rfl

theorem cg_at (h : Fin 4) : val_main_v136 (F := Ideal) (ix4 0 h 0 0) = cgE h := by
  unfold val_main_v136 val_main_v123 val_main_v122 val_main_v121 val_main_cst_11
  pointwise
  rw [lg_at]
  rfl

theorem kd_k (x0 : Arg0) (n : Fin 32) (i : Fin 128) (h : Fin 4) (d : Fin 128) :
    val_main_v127 (F := Ideal) x0 (ix5 0 n i h d) = kT (proj x0) n h i d * kdT h i d := by
  unfold val_main_v127 val_main_v126
  pointwise
  rw [k_at, kd_at]
  rfl

theorem qd_q (x0 : Arg0) (n : Fin 32) (i : Fin 128) (h : Fin 4) (d : Fin 128) :
    val_main_v366 (F := Ideal) x0 (ix5 0 n i h d) = qT (proj x0) n h i d * qdT h i d := by
  unfold val_main_v366 val_main_v365
  pointwise
  rw [q_at, qd_at]
  rfl

theorem scores (x0 : Arg0) (n : Fin 32) (h : Fin 4) (i j : Fin 128) :
    val_main_v102 (F := Ideal) x0 (ix5 0 n h i j) = (∑ d, qT (proj x0) n h i d * kT (proj x0) n h j d) * dmT h i j := by
  unfold val_main_v102 val_main_v101 val_main_v99
  pointwise [dot_S1x32x128x4x128_S1x32x128x4x128_S1x32x4x128x128_4_4_2_2_013_013]
  simp only [q_at, k_at, dm_wide]

end Cert.RetFwd.Ref

end
-- ==== Proof.RetFwd.Scan.lean ====
/-
The plain program's scan: the states before the chunks, and the attended rows.
-/
module

public import proofs.«01_k».proof.Proof.RetFwd.Rotations
public import Idealize.ShloMosaic.Lib.Pointwise

@[expose] public section

set_option maxRecDepth 16384

noncomputable section

namespace Cert.RetFwd.Ref

open Cert.Ret Cert.RetFwdRefIdeal Cert.RetFwdRefIdeal.Gen Cert.RetFwdRefIdeal.Read Idealize.ShloMosaic Idealize.ShloMosaic.TcCoe Idealize.SL.Sem

abbrev Wide5 : Type := FVec Ideal S32x1x4x128x128 .f32
abbrev One4 : Type := FVec Ideal S1x4x128x128 .f32
abbrev One5 : Type := FVec Ideal S1x1x4x128x128 .f32

theorem chunk_slices (n : Fin 32) : S32x1x4x128x128.Slices ![n.val, 0, 0, 0, 0] S1x1x4x128x128 := by
  revert n; decide +kernel

/-- Chunk `n` of a stack. -/
def chunk (u : Wide5) (n : Fin 32) : One4 :=
  shapeCast S1x4x128x128 (extractStridedSlice S1x1x4x128x128 ![n.val, 0, 0, 0, 0] u (chunk_slices n)) shapeCasts_S1x1x4x128x128_S1x4x128x128

theorem chunk_at (u : Wide5) (n : Fin 32) (h : Fin 4) (d e : Fin 128) : chunk u n (ix4 0 h d e) = u (ix5 n 0 h d e) := by
  unfold chunk
  pointwise

/-- The decayed state. -/
def decayed (S : One4) : One4 :=
  mulf (broadcastInDim S1x4x128x128 ![0, 1, 2, 3] bcast_S1x4x1x1_S1x4x128x128_0_1_2_3 (val_main_v136 (F := Ideal))) S

theorem decayed_at (S : One4) (h : Fin 4) (d e : Fin 128) : decayed S (ix4 0 h d e) = cgT h d e * S (ix4 0 h d e) := by
  unfold decayed
  pointwise
  rw [cg_at]
  rfl

/-- A state as one piece of a stack. -/
def lift (S : One4) : One5 := broadcastInDim S1x1x4x128x128 ![1, 2, 3, 4] bcast_S1x4x128x128_S1x1x4x128x128_1_2_3_4 S

theorem lift_at (S : One4) (h : Fin 4) (d e : Fin 128) : lift S (ix5 0 0 h d e) = S (ix4 0 h d e) := by
  unfold lift
  pointwise

/-- Sixteen pieces stacked. -/
def stack (f : Fin 16 → One5) : FVec Ideal S16x1x4x128x128 .f32 :=
  concatenate S16x1x4x128x128 0
    [⟨S1x1x4x128x128, f 0⟩, ⟨S1x1x4x128x128, f 1⟩, ⟨S1x1x4x128x128, f 2⟩, ⟨S1x1x4x128x128, f 3⟩, ⟨S1x1x4x128x128, f 4⟩, ⟨S1x1x4x128x128, f 5⟩, ⟨S1x1x4x128x128, f 6⟩, ⟨S1x1x4x128x128, f 7⟩, ⟨S1x1x4x128x128, f 8⟩, ⟨S1x1x4x128x128, f 9⟩, ⟨S1x1x4x128x128, f 10⟩, ⟨S1x1x4x128x128, f 11⟩, ⟨S1x1x4x128x128, f 12⟩, ⟨S1x1x4x128x128, f 13⟩, ⟨S1x1x4x128x128, f 14⟩, ⟨S1x1x4x128x128, f 15⟩]
    concatenates_S1x1x4x128x128_S1x1x4x128x128_S1x1x4x128x128_S1x1x4x128x128_S1x1x4x128x128_S1x1x4x128x128_S1x1x4x128x128_S1x1x4x128x128_S1x1x4x128x128_S1x1x4x128x128_S1x1x4x128x128_S1x1x4x128x128_S1x1x4x128x128_S1x1x4x128x128_S1x1x4x128x128_S1x1x4x128x128_S16x1x4x128x128_d0

theorem stack_at (f : Fin 16 → One5) (k : Fin 16) (h : Fin 4) (d e : Fin 128) : stack f (ix5 k 0 h d e) = f k (ix5 0 0 h d e) := by
  unfold stack
  fin_cases k <;> pointwise

/-- The states the scan passes. -/
def fwd (x0 : Arg0) : Fin 32 → One4 :=
  ![val_main_v129 (F := Ideal), val_main_v139 (F := Ideal) x0, val_main_v145 (F := Ideal) x0, val_main_v151 (F := Ideal) x0, val_main_v157 (F := Ideal) x0, val_main_v163 (F := Ideal) x0, val_main_v169 (F := Ideal) x0, val_main_v175 (F := Ideal) x0, val_main_v181 (F := Ideal) x0, val_main_v187 (F := Ideal) x0, val_main_v193 (F := Ideal) x0, val_main_v199 (F := Ideal) x0, val_main_v205 (F := Ideal) x0, val_main_v211 (F := Ideal) x0, val_main_v217 (F := Ideal) x0, val_main_v223 (F := Ideal) x0, val_main_v229 (F := Ideal) x0, val_main_v235 (F := Ideal) x0, val_main_v241 (F := Ideal) x0, val_main_v247 (F := Ideal) x0, val_main_v253 (F := Ideal) x0, val_main_v259 (F := Ideal) x0, val_main_v265 (F := Ideal) x0, val_main_v271 (F := Ideal) x0, val_main_v277 (F := Ideal) x0, val_main_v283 (F := Ideal) x0, val_main_v289 (F := Ideal) x0, val_main_v295 (F := Ideal) x0, val_main_v301 (F := Ideal) x0, val_main_v307 (F := Ideal) x0, val_main_v313 (F := Ideal) x0, val_main_v319 (F := Ideal) x0]

theorem fwd_succ (x0 : Arg0) (n : Fin 31) :
    fwd x0 n.succ = addf (decayed (fwd x0 n.castSucc)) (chunk (val_main_v132 (F := Ideal) x0) n.castSucc) := by
  fin_cases n <;> rfl

theorem low_eq (x0 : Arg0) : val_main_v358 (F := Ideal) x0 = stack (fun k => lift (fwd x0 ⟨k.val, by omega⟩)) := rfl
theorem high_eq (x0 : Arg0) : val_main_v359 (F := Ideal) x0 = stack (fun k => lift (fwd x0 ⟨16 + k.val, by omega⟩)) := rfl

theorem stacked (x0 : Arg0) (n : Fin 32) (h : Fin 4) (d e : Fin 128) :
    val_main_v362 (F := Ideal) x0 (ix5 0 n h d e) = fwd x0 n (ix4 0 h d e) := by
  unfold val_main_v362 val_main_v361 val_main_v360
  rw [low_eq, high_eq]
  pointwise
  rw [dif_neg (Nat.not_lt_zero _)]
  split
  · rw [stack_at, lift_at]
  next hn =>
    rw [stack_at, lift_at, show (⟨16 + (n.val - 16), _⟩ : Fin 32) = n from Fin.ext (by simp only; omega)]

theorem adds (x0 : Arg0) (n : Fin 32) (h : Fin 4) (d e : Fin 128) :
    val_main_v132 (F := Ideal) x0 (ix5 n 0 h d e) = kv (proj x0) n h d e := by
  unfold val_main_v132 val_main_v130 val_main_v128
  pointwise [dot_S1x32x128x4x128_S1x32x128x4x128_S1x32x4x128x128_2_2_4_4_013_013]
  simp only [kd_k, v_at]
  rfl

theorem fwd_at (x0 : Arg0) (n : ℕ) (hn : n < 32) (h : Fin 4) (d e : Fin 128) : fwd x0 ⟨n, hn⟩ (ix4 0 h d e) = St (proj x0) n h d e := by
  induction n with
  | zero =>
    show val_main_v129 (F := Ideal) (ix4 0 h d e) = _
    unfold val_main_v129 val_main_cst_12
    pointwise
    rfl
  | succ n ih =>
    refine (congrFun (fwd_succ x0 ⟨n, by omega⟩) _).trans ?_
    show decayed _ _ + chunk _ _ _ = _
    rw [decayed_at, chunk_at, adds]
    show _ * fwd x0 ⟨n, _⟩ _ + _ = _
    rw [ih (by omega)]
    have e : n % 32 = n := Nat.mod_eq_of_lt (by omega)
    simp only [St, e]
    rfl

theorem state_at (x0 : Arg0) (n : Fin 32) (h : Fin 4) (d e : Fin 128) :
    val_main_v362 (F := Ideal) x0 (ix5 0 n h d e) = St (proj x0) n.val h d e :=
  (stacked x0 n h d e).trans (fwd_at x0 n.val n.isLt h d e)

/-- The attended rows. -/
theorem attended (x0 : Arg0) (n : Fin 32) (i : Fin 128) (h : Fin 4) (e : Fin 128) :
    val_main_v369 (F := Ideal) x0 (ix5 0 n i h e) = oT (proj x0) n h i e := by
  unfold val_main_v369 val_main_v368 val_main_v367 val_main_v104 val_main_v103
  pointwise [dot_S1x32x128x4x128_S1x32x4x128x128_S1x32x4x128x128_2_4_4_3_013_012, dot_S1x32x4x128x128_S1x32x128x4x128_S1x32x4x128x128_3_4_4_2_012_013]
  simp only [state_at, qd_q, v_at, scores]
  exact congrArg₂ (· + ·) (Finset.sum_congr rfl fun j _ => mul_comm _ _) (Finset.sum_congr rfl fun j _ => mul_comm _ _)

end Cert.RetFwd.Ref

end
-- ==== Proof.RetFwd.Gate.lean ====
/-
The plain program's normalised and gated rows.
-/
module

public import proofs.«01_k».proof.Proof.RetFwd.Scan
public import proofs.«01_k».proof.Proof.RetFwd.Gated
public import proofs.«01_k».proof.Proof.Silu
public import Idealize.ShloMosaic.Lib.Pointwise

@[expose] public section

set_option maxRecDepth 16384

noncomputable section

namespace Cert.RetFwd.Ref

open Cert.Ret Cert.RetFwdRefIdeal Cert.RetFwdRefIdeal.Gen Cert.RetFwdRefIdeal.Read Idealize.ShloMosaic Idealize.ShloMosaic.TcCoe Idealize.SL.Sem

theorem row_div (n : Fin 32) (i : Fin 128) (h) : (⟨(row n i).val / 128, h⟩ : Fin 32) = n := Fin.ext (by simp only [row]; omega)
theorem row_mod (n : Fin 32) (i : Fin 128) (h) : (⟨(row n i).val % 128, h⟩ : Fin 128) = i := Fin.ext (by simp only [row]; omega)

variable (x0 : Arg0) (n : Fin 32) (i : Fin 128) (h : Fin 4)

theorem o_at (e : Fin 128) : val_main_v370 (F := Ideal) x0 (ix4 0 (row n i) h e) = oT (proj x0) n h i e := by
  unfold val_main_v370
  pointwise
  rw [row_div, row_mod, attended]

theorem mean_at : val_main_v377 (F := Ideal) x0 (ix4 0 (row n i) h 0) = RmsGrad.meanSq N eps (oT (proj x0) n h i) := by
  unfold val_main_v377 val_main_v376 val_main_cst_16 val_main_v375 val_main_v374 val_main_cst_15 val_main_v373 val_main_v372 val_main_v371
    val_main_cst_14
  pointwise
  simp only [o_at]
  rfl

theorem rinv_at : val_main_v378 (F := Ideal) x0 (ix4 0 (row n i) h 0) = RmsGrad.rinv N eps (oT (proj x0) n h i) := by
  unfold val_main_v378
  pointwise
  rw [mean_at]
  rfl

/-- Feature `d` of head `h` of the joined heads. -/
def lane (h : Fin 4) (d : Fin 128) : Fin 512 := ⟨h.val * 128 + d.val, by omega⟩

theorem normed (e : Fin 128) : val_main_v381 (F := Ideal) x0 (ix3 0 (row n i) (lane h e))
    = oT (proj x0) n h i e * RmsGrad.rinv N eps (oT (proj x0) n h i) := by
  unfold val_main_v381 val_main_v380 val_main_v379 lane
  pointwise
  simp only [o_at, rinv_at]
  done

theorem gate_at (e : Fin 128) : val_main_v7 (F := Ideal) x0 (ix3 0 (row n i) (lane h e)) = part (proj x0) 3 n h i e := by
  unfold val_main_v7 val_main_v6 lane
  pointwise
  exact congrArg x0 (congrArg₂ ix2 rfl (Fin.ext (by simp only [col]; omega)))

theorem logistic_at (e : Fin 128) : val_main_call2_v5 (F := Ideal) x0 (ix3 0 (row n i) (lane h e)) = Ideal.logistic (part (proj x0) 3 n h i e) := by
  unfold val_main_call2_v5 val_main_call2_v4 val_main_call2_cst_0 val_main_call2_v3 val_main_call2_v2 val_main_call2_cst val_main_call2_v1 val_main_call2_v0
  pointwise
  rw [gate_at]
  exact Silu.host_logistic _

/-- The gated rows. -/
theorem y_at (e : Fin 128) : val_main_v383 (F := Ideal) x0 (ix3 0 (row n i) (lane h e)) = gatedRow (proj x0) n h i e := by
  unfold val_main_v383 val_main_v382
  pointwise
  rw [normed, gate_at, logistic_at]
  rfl

theorem out_at (r : Fin 4096) (x : Fin 512) : val_main_v385 (F := Ideal) x0 (ix2 r x)
    = gatedRow (proj x0) ⟨r.val / 128, by omega⟩ ⟨x.val / 128, by omega⟩ ⟨r.val % 128, by omega⟩ ⟨x.val % 128, by omega⟩ := by
  rw [← y_at]
  unfold val_main_v385 val_main_v384
  pointwise
  exact congrArg (val_main_v383 (F := Ideal) x0) (congrArg₂ (ix3 0) (Fin.ext (by simp only [row]; omega)) (Fin.ext (by simp only [lane]; omega)))

theorem rows_at (r : Fin 4096) (x : Fin 512) : val_main_v386 (F := Ideal) x0 (ix2 r x)
    = oT (proj x0) ⟨r.val / 128, by omega⟩ ⟨x.val / 128, by omega⟩ ⟨r.val % 128, by omega⟩ ⟨x.val % 128, by omega⟩ := by
  rw [← o_at]
  unfold val_main_v386
  pointwise
  exact congrArg (val_main_v370 (F := Ideal) x0) (congrArg₂ (fun a b => ix4 0 a b _) (Fin.ext (by simp only [row]; omega)) rfl)

theorem states_at (d e : Fin 128) : val_main_v387 (F := Ideal) x0 (ix4 n h d e) = St (proj x0) n.val h d e := by
  rw [← state_at]
  unfold val_main_v387
  pointwise

end Cert.RetFwd.Ref

end
-- ==== Proof.RetFwd.Claims.lean ====
/- The claims about the retention's forward pass that the certificate assembles. -/
module

public import proofs.«01_k».proof.Defs
public import proofs.«01_k».proof.Proof.RetFwd.Kernel
public import proofs.«01_k».proof.Proof.RetFwd.Gate
public import proofs.«01_k».proof.Proof.Gen.RetFwd.Frame

@[expose] public section

set_option maxRecDepth 16384

noncomputable section

namespace Cert.RetFwd.Proof

open Cert.Ret Idealize.ShloMosaic Idealize.ShloMosaic.TcCoe Idealize.SL.Sem

theorem reference_frame : Cert.quiescent_RetFwdRefIdeal (hRetFwdRefIdeal := Cert.RetFwdRefIdeal.Gen.facts) := fun m g _ =>
  (θ_run Cert.RetFwdRefIdeal.defs _ _).mono (fun r h => ⟨fun c => (h c).2.2.2, sem_eq_zero_of_no_sems (by decide) r.2⟩)
    (Cert.RetFwdRefIdeal.Value.run m g)

/-- The gated rows. -/
def gatedArr (x0 : Ref.Arg0) : FVec Ideal Cert.RetFwdRefIdeal.S4096x512 .bf16 := fun y => wide (gatedRow (Ref.proj x0)) (y 0) (y 1)
/-- The attended rows. -/
def rowsArr (x0 : Ref.Arg0) : FVec Ideal Cert.RetFwdRefIdeal.S4096x512 .f32 := fun y => wide (oT (Ref.proj x0)) (y 0) (y 1)
/-- The states before the chunks. -/
def statesArr (x0 : Ref.Arg0) : FVec Ideal Cert.RetFwdRefIdeal.S32x4x128x128 .f32 := fun y => states (Ref.proj x0) (y 0) (y 1) (y 2) (y 3)

section
variable (m : (ℓ : Loc Cert.RetFwdIdeal.nD Cert.RetFwdIdeal.τ Cert.RetFwdIdeal.sig) → Buf (Elt Ideal) ℓ) (c : Dev Cert.RetFwdIdeal.nD)

/-- The projections that core `c` starts with. -/
abbrev start : Ref.Arg0 := m ((c.tc : Thread Cert.RetFwdIdeal.nD Cert.RetFwdIdeal.τ).loc Cert.RetFwdIdeal.main_arg0)

theorem kernel_gated : (Cert.RetFwdIdeal.Gen.dats m 0 c).arrAt 7 Cert.RetFwdIdeal.cfg0.N = gatedArr (start m c) := y_array m c
theorem kernel_rows : (Cert.RetFwdIdeal.Gen.dats m 0 c).arrAt 8 Cert.RetFwdIdeal.cfg0.N = rowsArr (start m c) := o_array m c
theorem kernel_states : (Cert.RetFwdIdeal.Gen.dats m 0 c).arrAt 9 Cert.RetFwdIdeal.cfg0.N = statesArr (start m c) := st_array m c
end

theorem reference_gated (x0 : Ref.Arg0) : Cert.RetFwdRefIdeal.Read.val_main_v385 (F := Ideal) x0 = gatedArr x0 := by
  funext y
  obtain ⟨r, x, rfl⟩ : ∃ (r : Fin 4096) (x : Fin 512), y = ix2 r x := ⟨y 0, y 1, eq_ix2 (n0 := 4096) (n1 := 512) y⟩
  exact Ref.out_at x0 r x

theorem reference_rows (x0 : Ref.Arg0) : Cert.RetFwdRefIdeal.Read.val_main_v386 (F := Ideal) x0 = rowsArr x0 := by
  funext y
  obtain ⟨r, x, rfl⟩ : ∃ (r : Fin 4096) (x : Fin 512), y = ix2 r x := ⟨y 0, y 1, eq_ix2 (n0 := 4096) (n1 := 512) y⟩
  exact Ref.rows_at x0 r x

theorem reference_states (x0 : Ref.Arg0) : Cert.RetFwdRefIdeal.Read.val_main_v387 (F := Ideal) x0 = statesArr x0 := by
  funext y
  obtain ⟨n, h, d, e, rfl⟩ : ∃ (n : Fin 32) (h : Fin 4) (d e : Fin 128), y = ix4 n h d e :=
    ⟨y 0, y 1, y 2, y 3, eq_ix4 (n0 := 32) (n1 := 4) (n2 := 128) (n3 := 128) y⟩
  exact Ref.states_at x0 n h d e

theorem algebraic : Cert.algebraic_RetFwdIdeal_RetFwdRefIdeal (hRetFwdIdeal := Cert.RetFwdIdeal.Gen.facts)
    (hRetFwdRefIdeal := Cert.RetFwdRefIdeal.Gen.facts) := by
  intro m g m' g' _ hargs
  refine ⟨fun c => gatedArr (start m c), fun c => rowsArr (start m c), fun c => statesArr (start m c), ?_, ?_⟩
  · exact (θ_run Cert.RetFwdIdeal.defs _ _).mono (fun r h c => ⟨(h c).1.trans (kernel_gated m c), (h c).2.1.trans (kernel_rows m c),
      (h c).2.2.1.trans (kernel_states m c), (h c).2.2.2⟩) (Cert.RetFwdIdeal.Value.run_blocks m g)
  · refine (θ_run Cert.RetFwdRefIdeal.defs _ _).mono (fun r h c => ?_) (Cert.RetFwdRefIdeal.Value.run m' g')
    have a0 := hargs c
    refine ⟨(h c).1.trans ?_, (h c).2.1.trans ?_, (h c).2.2.1.trans ?_, (h c).2.2.2⟩
    · exact ((Cert.RetFwdRefIdeal.Read.val_main_v385_eq _).trans
        (congrArg (Cert.RetFwdRefIdeal.Read.val_main_v385 (F := Ideal)) a0)).trans (reference_gated _)
    · exact ((Cert.RetFwdRefIdeal.Read.val_main_v386_eq _).trans
        (congrArg (Cert.RetFwdRefIdeal.Read.val_main_v386 (F := Ideal)) a0)).trans (reference_rows _)
    · exact ((Cert.RetFwdRefIdeal.Read.val_main_v387_eq _).trans
        (congrArg (Cert.RetFwdRefIdeal.Read.val_main_v387 (F := Ideal)) a0)).trans (reference_states _)

end Cert.RetFwd.Proof

end
-- ==== Proof.NormFwd.Spec.lean ====
/- The norm at one entry of a row. -/
module

public import proofs.«01_k».proof.Proof.NormGrad.Spec

@[expose] public section

noncomputable section

namespace Cert.NormFwd

open Idealize.ShloMosaic

/-- Entry `e` of the row `x`, divided by the root of the row's mean square and scaled by `w`. -/
def normed (x w : Fin 1024 → EReal) (e : Fin 1024) : EReal :=
  x e * RmsGrad.rinv NormGrad.width NormGrad.small x * w e

end Cert.NormFwd

end
-- ==== Proof.OutEven.Kernel.lean ====
/- The residual sum and the norm behind the even layer's output projection: four row tiles, one step each. -/
module

public import proofs.«01_k».proof.Proof.Gen.OutEvenIdeal.Value
public import proofs.«01_k».proof.Proof.NormFwd.Spec
public import Idealize.ShloMosaic.Lib.Pipeline.ValueKit
public import Idealize.ShloMosaic.Lib.Pointwise
public import Idealize.ShloMosaic.Lib.StableHlo.ReadAt

@[expose] public section

set_option maxRecDepth 16384

noncomputable section

namespace Cert.OutEven.Proof

open Cert.OutEvenIdeal Cert.OutEvenIdeal.Gen Idealize.ShloMosaic Idealize.ShloMosaic.TcCoe Idealize.SL.Sem

abbrev Arr (s : Shape) : Type := (⟨s, .f32⟩ : BufTy).Contents (Elt Ideal)

/-- A row of the stream behind the projection. -/
def stream (x mix : Arr S4096x1024) (w : Arr S1024x1024) (r : Fin 4096) (e : Fin 1024) : EReal :=
  x (ix2 r e) + ∑ k : Fin 1024, mix (ix2 r k) * w (ix2 k e)

def sums (x mix : Arr S4096x1024) (w : Arr S1024x1024) : Arr S4096x1024 := fun i => stream x mix w (i 0) (i 1)

def norms (x mix : Arr S4096x1024) (w : Arr S1024x1024) (nw : Arr S1024) : Arr S4096x1024 := fun i =>
  NormFwd.normed (stream x mix w (i 0)) (fun e => nw (ix1 e)) (i 1)

variable (m : (ℓ : Loc nD τ sig) → Buf (Elt Ideal) ℓ)

section
variable (c : Dev nD)
abbrev xIn : Arr S4096x1024 := m ((c : Thread nD τ).loc main_arg0)
abbrev mixIn : Arr S4096x1024 := m ((c : Thread nD τ).loc main_arg1)
abbrev wIn : Arr S1024x1024 := m ((c : Thread nD τ).loc main_arg2)
abbrev nwIn : Arr S1024 := m ((c : Thread nD τ).loc main_arg3)
end

theorem mix_at (c : Dev nD) (r : Fin 4096) (k : Fin 1024) : V m c main_v0 (ix2 r k) = mixIn m c (ix2 r k) := by
  unfold V hostOps0
  after_reads_at

theorem w_at (c : Dev nD) (k e : Fin 1024) : V m c main_v1 (ix2 k e) = wIn m c (ix2 k e) := by
  unfold V hostOps0
  after_reads_at

theorem nw_at (c : Dev nD) (e : Fin 1024) : V m c main_v2 (ix2 0 e) = nwIn m c (ix1 e) := by
  unfold V hostOps0
  after_reads_at

theorem places : ∀ t : Fin cfg0.N, (win0_0.index t = ![t.val, 0] ∧ win0_1.index t = ![0, 0] ∧ win0_2.index t = ![t.val, 0])
    ∧ win0_3.index t = ![0, 0] ∧ win0_4.index t = ![t.val, 0] ∧ win0_5.index t = ![t.val, 0] :=
  (by decide +kernel : ∀ t : Fin grid0.N, _)

/-- What one grid point computes from its blocks: the sum. -/
def tile (x0 x1 : FVec Ideal S1024x1024 .bf16) (x2 : FVec Ideal S1024x1024 .f32) (r e : Fin 1024) : EReal :=
  x2 (ix2 r e) + ∑ k : Fin 1024, x0 (ix2 r k) * x1 (ix2 k e)

theorem tile_sum (x0 x1 : FVec Ideal S1024x1024 .bf16) (x2 : FVec Ideal S1024x1024 .f32) (r e : Fin 1024) :
    k0_pay1 (F := Ideal) x0 x1 x2 (ix2 r e) = tile x0 x1 x2 r e := by
  unfold_payloads
  pointwise [dot_S1024x1024_S1024x1024_S1024x1024_1_0_0_1_n_n]
  rfl

theorem tile_norm (x0 x1 : FVec Ideal S1024x1024 .bf16) (x2 : FVec Ideal S1024x1024 .f32) (x3 : FVec Ideal S1x1024 .f32) (r e : Fin 1024) :
    k0_pay2 (F := Ideal) x0 x1 x2 x3 (ix2 r e) = NormFwd.normed (tile x0 x1 x2 r) (fun e => x3 (ix2 0 e)) e := by
  unfold k0_pay2
  pointwise
  simp only [tile_sum]
  rfl

/-- Row `r` of grid point `t`'s tile. -/
def rowOf (t : Fin cfg0.N) (r : Fin 1024) : Fin 4096 := ⟨1024 * t.val + r.val, by have : t.val < 4 := t.isLt; omega⟩

section
variable (c : Dev nD) (t : Fin cfg0.N)

theorem tile_eq (r : Fin 1024) : tile (iblk m c 0 t) (iblk m c 1 t) (iblk m c 2 t) r = stream (xIn m c) (mixIn m c) (wIn m c) (rowOf t r) := by
  funext e
  unfold tile stream
  refine congrArg₂ (· + ·) ?_ (Finset.sum_congr rfl fun k _ => congrArg₂ (· * ·) ?_ ?_)
  · exact (congrArg (V m c main_arg0) (show ((View.whole main_arg0).slice (win0_2.rect t)).emb _
      = (ix2 (rowOf t r) e : S4096x1024.Idx) by blk_ext [(places t).1.2.2, rowOf])).trans (congrFun (V_main_arg0 m c) _)
  · exact (congrArg (V m c main_v0) (show ((View.whole main_v0).slice (win0_0.rect t)).emb _
      = (ix2 (rowOf t r) k : S4096x1024.Idx) by blk_ext [(places t).1.1, rowOf])).trans (mix_at m c _ _)
  · exact (congrArg (V m c main_v1) (show ((View.whole main_v1).slice (win0_1.rect t)).emb _
      = (ix2 k e : S1024x1024.Idx) by blk_ext [(places t).1.2.1])).trans (w_at m c _ _)

theorem scale_eq : (fun e => (iblk m c 3 t : FVec Ideal S1x1024 .f32) (ix2 0 e)) = fun e => nwIn m c (ix1 e) := by
  funext e
  exact (congrArg (V m c main_v2) (show ((View.whole main_v2).slice (win0_3.rect t)).emb _
    = (ix2 0 e : S1x1024.Idx) by blk_ext [(places t).2.1])).trans (nw_at m c e)

end

theorem array_sums (c : Dev nD) : (dats m 0 c).arrAt 4 cfg0.N = sums (xIn m c) (mixIn m c) (wIn m c) := by
  refine (dats m 0 c).arrAt_eq_of_covers 4 _ (by decide +kernel) fun t hf y => ?_
  blk_simp
  rw [after0_4]
  frame_out
  obtain ⟨r, e, rfl⟩ : ∃ (r e : Fin 1024), y = ix2 r e := ⟨y 0, y 1, eq_ix2 (n0 := 1024) (n1 := 1024) y⟩
  have place : ((View.whole main_v3_0).slice (win0_4.rect t)).emb (ix2 r e) = (ix2 (rowOf t r) e : S4096x1024.Idx) := by
    blk_ext [(places t).2.2.1, rowOf]
  rw [place]
  refine (tile_sum _ _ _ r e).trans ?_
  exact congrFun (tile_eq m c t r) e

theorem array_norms (c : Dev nD) : (dats m 0 c).arrAt 5 cfg0.N = norms (xIn m c) (mixIn m c) (wIn m c) (nwIn m c) := by
  refine (dats m 0 c).arrAt_eq_of_covers 5 _ (by decide +kernel) fun t hf y => ?_
  blk_simp
  rw [after0_5]
  frame_out
  obtain ⟨r, e, rfl⟩ : ∃ (r e : Fin 1024), y = ix2 r e := ⟨y 0, y 1, eq_ix2 (n0 := 1024) (n1 := 1024) y⟩
  have place : ((View.whole main_v3_1).slice (win0_5.rect t)).emb (ix2 r e) = (ix2 (rowOf t r) e : S4096x1024.Idx) := by
    blk_ext [(places t).2.2.2, rowOf]
  rw [place]
  refine (tile_norm _ _ _ _ r e).trans ?_
  refine (congrArg₂ (fun a b => NormFwd.normed a b e) (tile_eq m c t r) (scale_eq m c t)).trans ?_
  rfl

end Cert.OutEven.Proof

end
-- ==== Proof.OutEven.Claims.lean ====
/- The reference's residual sum and norm, and the claims about the call that the certificate assembles. -/
module

public import proofs.«01_k».proof.Defs
public import proofs.«01_k».proof.Proof.OutEven.Kernel
public import proofs.«01_k».proof.Proof.Gen.OutEvenRefIdeal.Read
public import proofs.«01_k».proof.Proof.Gen.OutEven.Frame

@[expose] public section

set_option maxRecDepth 16384

noncomputable section

namespace Cert.OutEven.Proof

namespace Ref

open Cert.OutEvenRefIdeal Cert.OutEvenRefIdeal.Read Idealize.ShloMosaic Idealize.ShloMosaic.TcCoe

variable (x mix : Arr S4096x1024) (w : Arr S1024x1024) (nw : Arr S1024)

theorem stream_at (r : Fin 4096) (e : Fin 1024) : val_main_v1 (F := Ideal) x mix w (ix2 r e) = stream x mix w r e := by
  unfold val_main_v1 val_main_v0
  pointwise [dot_S4096x1024_S1024x1024_S4096x1024_1_0_0_1_n_n]
  rfl

theorem norms_at (r : Fin 4096) (e : Fin 1024) : val_main_v15 (F := Ideal) x mix w nw (ix2 r e)
    = NormFwd.normed (stream x mix w r) (fun e => nw (ix1 e)) e := by
  unfold val_main_v15 val_main_v14 val_main_v13 val_main_v12 val_main_v11 val_main_v10 val_main_v9 val_main_v8 val_main_v7 val_main_cst_1
    val_main_v6 val_main_v5 val_main_cst_0 val_main_v4 val_main_v3 val_main_v2 val_main_cst
  pointwise
  simp only [stream_at]
  rfl

theorem reference_sums : val_main_v1 (F := Ideal) x mix w = sums x mix w := by
  funext i
  obtain ⟨r, e, rfl⟩ : ∃ (r : Fin 4096) (e : Fin 1024), i = ix2 r e := ⟨i 0, i 1, eq_ix2 (n0 := 4096) (n1 := 1024) i⟩
  exact stream_at x mix w r e

theorem reference_norms : val_main_v15 (F := Ideal) x mix w nw = norms x mix w nw := by
  funext i
  obtain ⟨r, e, rfl⟩ : ∃ (r : Fin 4096) (e : Fin 1024), i = ix2 r e := ⟨i 0, i 1, eq_ix2 (n0 := 4096) (n1 := 1024) i⟩
  exact norms_at x mix w nw r e

end Ref

open Idealize.ShloMosaic Idealize.ShloMosaic.TcCoe Idealize.SL.Sem

theorem reference_frame : Cert.quiescent_OutEvenRefIdeal (hOutEvenRefIdeal := Cert.OutEvenRefIdeal.Gen.facts) := fun m g _ =>
  (θ_run Cert.OutEvenRefIdeal.defs _ _).mono (fun r h => ⟨fun c => (h c).2.2, sem_eq_zero_of_no_sems (by decide) r.2⟩)
    (Cert.OutEvenRefIdeal.Value.run m g)

theorem algebraic : Cert.algebraic_OutEvenIdeal_OutEvenRefIdeal (hOutEvenIdeal := Cert.OutEvenIdeal.Gen.facts)
    (hOutEvenRefIdeal := Cert.OutEvenRefIdeal.Gen.facts) := by
  intro m g m' g' _ hargs
  refine ⟨fun c => sums (xIn m c) (mixIn m c) (wIn m c), fun c => norms (xIn m c) (mixIn m c) (wIn m c) (nwIn m c), ?_, ?_⟩
  · exact (θ_run Cert.OutEvenIdeal.defs _ _).mono (fun r h c => ⟨(h c).1.trans (array_sums m c), (h c).2.1.trans (array_norms m c),
      (h c).2.2⟩) (Cert.OutEvenIdeal.Value.run_blocks m g)
  · refine (θ_run Cert.OutEvenRefIdeal.defs _ _).mono (fun r h c => ?_) (Cert.OutEvenRefIdeal.Value.run m' g')
    obtain ⟨a0, a1, a2, a3⟩ := hargs c
    refine ⟨(h c).1.trans ?_, (h c).2.1.trans ?_, (h c).2.2⟩
    · refine (Cert.OutEvenRefIdeal.Read.val_main_v1_eq _ _ _).trans ?_
      rw [a0, a1, a2]
      exact Ref.reference_sums _ _ _
    · refine (Cert.OutEvenRefIdeal.Read.val_main_v15_eq _ _ _ _).trans ?_
      rw [a0, a1, a2, a3]
      exact Ref.reference_norms _ _ _ _

end Cert.OutEven.Proof

end
-- ==== Proof.MlpDown.Kernel.lean ====
/- The residual sum and the norm behind the MLP's second product: four row tiles, each after four steps of its product. -/
module

public import proofs.«01_k».proof.Proof.Gen.MlpDownIdeal.Value
public import proofs.«01_k».proof.Proof.NormFwd.Spec
public import proofs.«01_k».proof.Proof.Load
public import Idealize.ShloMosaic.Lib.StableHlo.ReadAt

@[expose] public section

set_option maxRecDepth 16384

noncomputable section

namespace Cert.MlpDown.Proof

open Cert.MlpDownIdeal Cert.MlpDownIdeal.Gen Idealize.ShloMosaic Idealize.ShloMosaic.TcCoe Idealize.SL.Sem

abbrev Arr (s : Shape) : Type := (⟨s, .f32⟩ : BufTy).Contents (Elt Ideal)

/-- The hidden layer behind its rectifier. -/
def hidden (h : Arr S4096x1024) (wu : Arr S1024x4096) (r j : Fin 4096) : EReal :=
  max (∑ k : Fin 1024, h (ix2 r k) * wu (ix2 k j)) 0

/-- A row of the stream behind the layer: the row before it, and its squared hidden row times the second weight. -/
def stream (x h : Arr S4096x1024) (wu : Arr S1024x4096) (wd : Arr S4096x1024) (r : Fin 4096) (e : Fin 1024) : EReal :=
  x (ix2 r e) + ∑ j : Fin 4096, hidden h wu r j * hidden h wu r j * wd (ix2 j e)

def sums (x h : Arr S4096x1024) (wu : Arr S1024x4096) (wd : Arr S4096x1024) : Arr S4096x1024 := fun i => stream x h wu wd (i 0) (i 1)

def norms (x h : Arr S4096x1024) (wu : Arr S1024x4096) (wd : Arr S4096x1024) (nw : Arr S1024) : Arr S4096x1024 := fun i =>
  NormFwd.normed (stream x h wu wd (i 0)) (fun e => nw (ix1 e)) (i 1)

variable (m : (ℓ : Loc nD τ sig) → Buf (Elt Ideal) ℓ)

section
variable (c : Dev nD)
abbrev xIn : Arr S4096x1024 := m ((c : Thread nD τ).loc main_arg0)
abbrev hIn : Arr S4096x1024 := m ((c : Thread nD τ).loc main_arg1)
abbrev wuIn : Arr S1024x4096 := m ((c : Thread nD τ).loc main_arg2)
abbrev wdIn : Arr S4096x1024 := m ((c : Thread nD τ).loc main_arg3)
abbrev nwIn : Arr S1024 := m ((c : Thread nD τ).loc main_arg4)
end

theorem r_at (c : Dev nD) (r j : Fin 4096) : V m c main_v5 (ix2 r j) = hidden (hIn m c) (wuIn m c) r j := by
  have e : V m c main_v5
      = (truncf .bf16 (maximumf (Host.dotGeneral dot_S4096x1024_S1024x4096_S4096x4096_1_0_0_1_n_n none
          (truncf .bf16 (hIn m c : FVec Ideal S4096x1024 .f32) bitsLt_bf16_f32)
          (truncf .bf16 (wuIn m c : FVec Ideal S1024x4096 .f32) bitsLt_bf16_f32))
          (broadcastInDim S4096x4096 ![] bcast_S_S4096x4096 (constant S_ .f32 0x00000000#32))) bitsLt_bf16_f32 :
        FVec Ideal S4096x4096 .bf16) := by
    unfold V hostOps0
    after_results
  rw [e]
  pointwise [dot_S4096x1024_S1024x4096_S4096x4096_1_0_0_1_n_n]
  rfl

theorem wd_at (c : Dev nD) (j : Fin 4096) (e : Fin 1024) : V m c main_v6 (ix2 j e) = wdIn m c (ix2 j e) := by
  unfold V hostOps0
  after_reads_at

theorem nw_at (c : Dev nD) (e : Fin 1024) : V m c main_v7 (ix2 0 e) = nwIn m c (ix1 e) := by
  unfold V hostOps0
  after_reads_at

theorem places : ∀ t : Fin cfg0.N, (win0_0.index t = ![t.val / 4, t.val % 4] ∧ win0_1.index t = ![t.val % 4, 0]
    ∧ win0_2.index t = ![t.val / 4, 0]) ∧ win0_3.index t = ![0, 0] ∧ win0_4.index t = ![t.val / 4, 0] ∧ win0_5.index t = ![t.val / 4, 0] :=
  (by decide +kernel : ∀ t : Fin grid0.N, _)

theorem lt16 (t : Fin cfg0.N) : t.val < 16 := t.isLt

/-- Row `r` of grid point `t`'s tile. -/
def rowOf (t : Fin cfg0.N) (r : Fin 1024) : Fin 4096 := ⟨1024 * (t.val / 4) + r.val, by have := lt16 t; omega⟩

/-- The product of a block of squares with a block of the weight, at an entry. -/
def prod (x w : FVec Ideal S1024x1024 .bf16) (r e : Fin 1024) : EReal :=
  ∑ j : Fin 1024, x (ix2 r j) * x (ix2 r j) * w (ix2 j e)

/-- What the point before left. -/
abbrev prev (c : Dev nD) (t : Fin cfg0.N) := outsAt0 m c (t.val - 1) (Nat.lt_of_le_of_lt (Nat.sub_le _ _) t.isLt)

theorem scratch_A (c : Dev nD) (t : Fin cfg0.N) (h : t.val % 4 = 0) (r e : Fin 1024) :
    (outsAt0 m c t.val t.isLt).2.2 (ix2 r e) = prod (iblk m c 0 t) (iblk m c 1 t) r e := by
  rw [Gen.outsAt0_A m c t h (by omega) (by omega)]
  frame_open
  frame_out
  generalize iblk m c 0 t = x0
  generalize iblk m c 1 t = x1
  unfold_payloads
  pointwise [dot_S1024x1024_S1024x1024_S1024x1024_1_0_0_1_n_n]
  rfl

theorem scratch_B (c : Dev nD) (t : Fin cfg0.N) (h : 1 ≤ t.val % 4 ∧ t.val % 4 ≤ 2) (r e : Fin 1024) :
    (outsAt0 m c t.val t.isLt).2.2 (ix2 r e) = (prev m c t).2.2 (ix2 r e) + prod (iblk m c 0 t) (iblk m c 1 t) r e := by
  rw [Gen.outsAt0_B m c t (by omega) h (by omega)]
  frame_open
  frame_out
  simp only [Cert.Load.load_eq, read_unread_whole]
  generalize iblk m c 0 t = x0
  generalize iblk m c 1 t = x1
  unfold_payloads
  pointwise [dot_S1024x1024_S1024x1024_S1024x1024_1_0_0_1_n_n]
  rfl

/-- The block of the rows before the layer. -/
def rows (c : Dev nD) (t : Fin cfg0.N) (r e : Fin 1024) : EReal := (iblk m c 2 t : FVec Ideal S1024x1024 .f32) (ix2 r e)

/-- The sum at a row tile's last point. -/
def total (c : Dev nD) (t : Fin cfg0.N) (r e : Fin 1024) : EReal :=
  rows m c t r e + ((prev m c t).2.2 (ix2 r e) + prod (iblk m c 0 t) (iblk m c 1 t) r e)

/-- The block of the norm's weight. -/
def scale (c : Dev nD) (t : Fin cfg0.N) (e : Fin 1024) : EReal := (iblk m c 3 t : FVec Ideal S1x1024 .f32) (ix2 0 e)

theorem sum_C (c : Dev nD) (t : Fin cfg0.N) (h : t.val % 4 = 3) (r e : Fin 1024) :
    (outsAt0 m c t.val t.isLt).1 (ix2 r e) = total m c t r e := by
  rw [Gen.outsAt0_C m c t (by omega) (by omega) h]
  frame_open
  frame_out
  simp only [Cert.Load.load_eq, read_unread_whole]
  unfold total rows
  generalize iblk m c 0 t = x0
  generalize iblk m c 1 t = x1
  generalize iblk m c 2 t = x2
  unfold_payloads
  pointwise [dot_S1024x1024_S1024x1024_S1024x1024_1_0_0_1_n_n]
  rfl

theorem norm_C (c : Dev nD) (t : Fin cfg0.N) (h : t.val % 4 = 3) (r e : Fin 1024) :
    (outsAt0 m c t.val t.isLt).2.1 (ix2 r e) = NormFwd.normed (total m c t r) (scale m c t) e := by
  rw [Gen.outsAt0_C m c t (by omega) (by omega) h]
  frame_open
  frame_out
  simp only [Cert.Load.load_eq, read_unread_whole]
  unfold total scale rows
  generalize iblk m c 0 t = x0
  generalize iblk m c 1 t = x1
  generalize iblk m c 2 t = x2
  generalize iblk m c 3 t = x3
  unfold_payloads
  pointwise [dot_S1024x1024_S1024x1024_S1024x1024_1_0_0_1_n_n]
  rfl

section
variable (c : Dev nD) (t : Fin cfg0.N)

theorem scale_eq : scale m c t = fun e => nwIn m c (ix1 e) := by
  funext e
  exact (congrArg (V m c main_v7) (show ((View.whole main_v7).slice (win0_3.rect t)).emb _
    = (ix2 0 e : S1x1024.Idx) by blk_ext [(places t).2.1])).trans (nw_at m c e)

theorem prod_tile (R : Fin 4096) (k : Fin 4) (r e : Fin 1024) (hk : t.val % 4 = k.val) (hR : rowOf t r = R) :
    prod (iblk m c 0 t) (iblk m c 1 t) r e
      = ∑ j : Fin 1024, hidden (hIn m c) (wuIn m c) R ⟨k.val * 1024 + j.val, by omega⟩ * hidden (hIn m c) (wuIn m c) R ⟨k.val * 1024 + j.val, by omega⟩
          * wdIn m c (ix2 ⟨k.val * 1024 + j.val, by omega⟩ e) := by
  subst hR
  obtain ⟨k, hk'⟩ := k
  dsimp only at hk
  subst hk
  have a (j : Fin 1024) : (iblk m c 0 t : FVec Ideal S1024x1024 .bf16) (ix2 r j)
      = hidden (hIn m c) (wuIn m c) (rowOf t r) ⟨t.val % 4 * 1024 + j.val, by omega⟩ :=
    (congrArg (V m c main_v5) (show ((View.whole main_v5).slice (win0_0.rect t)).emb (ix2 r j)
      = (ix2 (rowOf t r) ⟨t.val % 4 * 1024 + j.val, by omega⟩ : S4096x4096.Idx) by blk_ext [(places t).1.1, rowOf])).trans (r_at m c _ _)
  have b (j : Fin 1024) : (iblk m c 1 t : FVec Ideal S1024x1024 .bf16) (ix2 j e)
      = wdIn m c (ix2 ⟨t.val % 4 * 1024 + j.val, by omega⟩ e) :=
    (congrArg (V m c main_v6) (show ((View.whole main_v6).slice (win0_1.rect t)).emb (ix2 j e)
      = (ix2 ⟨t.val % 4 * 1024 + j.val, by omega⟩ e : S4096x1024.Idx) by blk_ext [(places t).1.2.1])).trans (wd_at m c _ _)
  exact Finset.sum_congr rfl fun j _ => congrArg₂ (· * ·) (congrArg₂ (· * ·) (a j) (a j)) (b j)

/-- At a row tile's last point the sum is complete. -/
theorem total_eq (h : t.val % 4 = 3) (r : Fin 1024) :
    total m c t r = stream (xIn m c) (hIn m c) (wuIn m c) (wdIn m c) (rowOf t r) := by
  funext e
  have b := lt16 t
  let t2 : Fin cfg0.N := ⟨t.val - 1, by omega⟩
  let t1 : Fin cfg0.N := ⟨t.val - 1 - 1, by omega⟩
  let t0 : Fin cfg0.N := ⟨t.val - 1 - 1 - 1, by omega⟩
  have h2 : t2.val = t.val - 1 := rfl
  have h1 : t1.val = t.val - 2 := by show t.val - 1 - 1 = _; omega
  have h0 : t0.val = t.val - 3 := by show t.val - 1 - 1 - 1 = _; omega
  unfold total stream
  refine congrArg₂ (· + ·) ((congrArg (V m c main_arg0) (show ((View.whole main_arg0).slice (win0_2.rect t)).emb _
    = (ix2 (rowOf t r) e : S4096x1024.Idx) by blk_ext [(places t).1.2.2, rowOf])).trans (congrFun (V_main_arg0 m c) _)) ?_
  refine (congrArg (· + _) ((scratch_B m c t2 (by omega) r e).trans (congrArg (· + _) ((scratch_B m c t1 (by omega) r e).trans
    (congrArg (· + _) (scratch_A m c t0 (by omega) r e)))))).trans ?_
  have R2 : rowOf t2 r = rowOf t r := Fin.ext (by show 1024 * (t2.val / 4) + _ = 1024 * (t.val / 4) + _; omega)
  have R1 : rowOf t1 r = rowOf t r := Fin.ext (by show 1024 * (t1.val / 4) + _ = 1024 * (t.val / 4) + _; omega)
  have R0 : rowOf t0 r = rowOf t r := Fin.ext (by show 1024 * (t0.val / 4) + _ = 1024 * (t.val / 4) + _; omega)
  rw [prod_tile m c t (rowOf t r) 3 r e h rfl, prod_tile m c t2 (rowOf t r) 2 r e (by show t2.val % 4 = 2; omega) R2,
    prod_tile m c t1 (rowOf t r) 1 r e (by show t1.val % 4 = 1; omega) R1, prod_tile m c t0 (rowOf t r) 0 r e (by show t0.val % 4 = 0; omega) R0,
    ← Fin.sum_mul_add_fin 4 1024 (fun j : Fin 4096 => hidden (hIn m c) (wuIn m c) (rowOf t r) j * hidden (hIn m c) (wuIn m c) (rowOf t r) j
      * wdIn m c (ix2 j e)), Fin.sum_univ_four]

theorem flush_last : ∀ t : Fin cfg0.N, ((cfg0.win 4).flush t = true → t.val % 4 = 3) ∧ ((cfg0.win 5).flush t = true → t.val % 4 = 3) :=
  (by decide +kernel : ∀ t : Fin grid0.N, _)

end

theorem array_sums (c : Dev nD) : (dats m 0 c).arrAt 4 cfg0.N = sums (xIn m c) (hIn m c) (wuIn m c) (wdIn m c) := by
  refine (dats m 0 c).arrAt_eq_of_covers 4 _ (by decide +kernel) fun t hf y => ?_
  blk_simp
  rw [after0_4]
  obtain ⟨r, e, rfl⟩ : ∃ (r e : Fin 1024), y = ix2 r e := ⟨y 0, y 1, eq_ix2 (n0 := 1024) (n1 := 1024) y⟩
  have h := (flush_last t).1 hf
  have place : ((View.whole main_v8_0).slice (win0_4.rect t)).emb (ix2 r e) = (ix2 (rowOf t r) e : S4096x1024.Idx) := by
    blk_ext [(places t).2.2.1, rowOf]
  rw [place]
  exact (sum_C m c t h r e).trans (congrFun (total_eq m c t h r) e)

theorem array_norms (c : Dev nD) : (dats m 0 c).arrAt 5 cfg0.N = norms (xIn m c) (hIn m c) (wuIn m c) (wdIn m c) (nwIn m c) := by
  refine (dats m 0 c).arrAt_eq_of_covers 5 _ (by decide +kernel) fun t hf y => ?_
  blk_simp
  rw [after0_5]
  obtain ⟨r, e, rfl⟩ : ∃ (r e : Fin 1024), y = ix2 r e := ⟨y 0, y 1, eq_ix2 (n0 := 1024) (n1 := 1024) y⟩
  have h := (flush_last t).2 hf
  have place : ((View.whole main_v8_1).slice (win0_5.rect t)).emb (ix2 r e) = (ix2 (rowOf t r) e : S4096x1024.Idx) := by
    blk_ext [(places t).2.2.2, rowOf]
  rw [place]
  refine (norm_C m c t h r e).trans ?_
  rw [total_eq m c t h, scale_eq]
  rfl

end Cert.MlpDown.Proof

end
-- ==== Proof.MlpDown.Claims.lean ====
/- The reference's hidden layer, residual sum and norm, and the claims about the call that the certificate assembles. -/
module

public import proofs.«01_k».proof.Defs
public import proofs.«01_k».proof.Proof.MlpDown.Kernel
public import proofs.«01_k».proof.Proof.Gen.MlpDownRefIdeal.Read
public import proofs.«01_k».proof.Proof.Gen.MlpDown.Frame

@[expose] public section

set_option maxRecDepth 16384

noncomputable section

namespace Cert.MlpDown.Proof

namespace Ref

open Cert.MlpDownRefIdeal Cert.MlpDownRefIdeal.Read Idealize.ShloMosaic Idealize.ShloMosaic.TcCoe

variable (x h : Arr S4096x1024) (wu : Arr S1024x4096) (wd : Arr S4096x1024) (nw : Arr S1024)

theorem hidden_at (r j : Fin 4096) : val_main_v1 (F := Ideal) h wu (ix2 r j) = hidden h wu r j := by
  unfold val_main_v1 val_main_v0 val_main_call0_v0 val_main_call0_cst
  pointwise [dot_S4096x1024_S1024x4096_S4096x4096_1_0_0_1_n_n]
  rfl

theorem stream_at (r : Fin 4096) (e : Fin 1024) : val_main_v4 (F := Ideal) x h wu wd (ix2 r e) = stream x h wu wd r e := by
  unfold val_main_v4 val_main_v3 val_main_v2
  pointwise [dot_S4096x4096_S4096x1024_S4096x1024_1_0_0_1_n_n]
  simp only [hidden_at]
  rfl

theorem norms_at (r : Fin 4096) (e : Fin 1024) : val_main_v18 (F := Ideal) x h wu wd nw (ix2 r e)
    = NormFwd.normed (stream x h wu wd r) (fun e => nw (ix1 e)) e := by
  unfold val_main_v18 val_main_v17 val_main_v16 val_main_v15 val_main_v14 val_main_v13 val_main_v12 val_main_v11 val_main_v10 val_main_cst_1
    val_main_v9 val_main_v8 val_main_cst_0 val_main_v7 val_main_v6 val_main_v5 val_main_cst
  pointwise
  simp only [stream_at]
  rfl

theorem reference_sums : val_main_v4 (F := Ideal) x h wu wd = sums x h wu wd := by
  funext i
  obtain ⟨r, e, rfl⟩ : ∃ (r : Fin 4096) (e : Fin 1024), i = ix2 r e := ⟨i 0, i 1, eq_ix2 (n0 := 4096) (n1 := 1024) i⟩
  exact stream_at x h wu wd r e

theorem reference_norms : val_main_v18 (F := Ideal) x h wu wd nw = norms x h wu wd nw := by
  funext i
  obtain ⟨r, e, rfl⟩ : ∃ (r : Fin 4096) (e : Fin 1024), i = ix2 r e := ⟨i 0, i 1, eq_ix2 (n0 := 4096) (n1 := 1024) i⟩
  exact norms_at x h wu wd nw r e

end Ref

open Idealize.ShloMosaic Idealize.ShloMosaic.TcCoe Idealize.SL.Sem

theorem reference_frame : Cert.quiescent_MlpDownRefIdeal (hMlpDownRefIdeal := Cert.MlpDownRefIdeal.Gen.facts) := fun m g _ =>
  (θ_run Cert.MlpDownRefIdeal.defs _ _).mono (fun r h => ⟨fun c => (h c).2.2, sem_eq_zero_of_no_sems (by decide) r.2⟩)
    (Cert.MlpDownRefIdeal.Value.run m g)

theorem algebraic : Cert.algebraic_MlpDownIdeal_MlpDownRefIdeal (hMlpDownIdeal := Cert.MlpDownIdeal.Gen.facts)
    (hMlpDownRefIdeal := Cert.MlpDownRefIdeal.Gen.facts) := by
  intro m g m' g' _ hargs
  refine ⟨fun c => sums (xIn m c) (hIn m c) (wuIn m c) (wdIn m c), fun c => norms (xIn m c) (hIn m c) (wuIn m c) (wdIn m c) (nwIn m c), ?_, ?_⟩
  · exact (θ_run Cert.MlpDownIdeal.defs _ _).mono (fun r h c => ⟨(h c).1.trans (array_sums m c), (h c).2.1.trans (array_norms m c),
      (h c).2.2⟩) (Cert.MlpDownIdeal.Value.run_blocks m g)
  · refine (θ_run Cert.MlpDownRefIdeal.defs _ _).mono (fun r h c => ?_) (Cert.MlpDownRefIdeal.Value.run m' g')
    obtain ⟨a0, a1, a2, a3, a4⟩ := hargs c
    refine ⟨(h c).1.trans ?_, (h c).2.1.trans ?_, (h c).2.2⟩
    · refine (Cert.MlpDownRefIdeal.Read.val_main_v4_eq _ _ _ _).trans ?_
      rw [a0, a1, a2, a3]
      exact Ref.reference_sums _ _ _ _
    · refine (Cert.MlpDownRefIdeal.Read.val_main_v18_eq _ _ _ _ _).trans ?_
      rw [a0, a1, a2, a3, a4]
      exact Ref.reference_norms _ _ _ _ _

end Cert.MlpDown.Proof

end
-- ==== Proof.MlpUp.Kernel.lean ====
/- The array the MLP's first product leaves: eight column blocks, one step each. -/
module

public import proofs.«01_k».proof.Proof.Gen.MlpUpIdeal.Value
public import Idealize.ShloMosaic.Lib.Pipeline.ValueKit
public import Idealize.ShloMosaic.Lib.Pointwise
public import Idealize.ShloMosaic.Lib.StableHlo.ReadAt

@[expose] public section

set_option maxRecDepth 16384

noncomputable section

namespace Cert.MlpUp.Proof

open Cert.MlpUpIdeal Cert.MlpUpIdeal.Gen Idealize.ShloMosaic Idealize.ShloMosaic.TcCoe Idealize.SL.Sem

abbrev Arr (s : Shape) : Type := (⟨s, .f32⟩ : BufTy).Contents (Elt Ideal)

/-- The hidden layer behind its rectifier. -/
def hidden (h : Arr S4096x1024) (wu : Arr S1024x4096) : Arr S4096x4096 := fun i =>
  max (∑ k : Fin 1024, h (ix2 (i 0) k) * wu (ix2 k (i 1)) : EReal) 0

variable (m : (ℓ : Loc nD τ sig) → Buf (Elt Ideal) ℓ)

section
variable (c : Dev nD)
abbrev hIn : Arr S4096x1024 := m ((c : Thread nD τ).loc main_arg0)
abbrev wuIn : Arr S1024x4096 := m ((c : Thread nD τ).loc main_arg1)
end

theorem h_at (c : Dev nD) (r : Fin 4096) (k : Fin 1024) : V m c main_v3 (ix2 r k) = hIn m c (ix2 r k) := by
  unfold V hostOps0
  after_reads_at

theorem wu_at (c : Dev nD) (s : Fin 8) (k : Fin 1024) (j : Fin 512) :
    V m c main_v2 (ix3 s k j) = wuIn m c (ix2 k ⟨s.val * 512 + j.val, by omega⟩) := by
  unfold V hostOps0
  after_reads_at

theorem places : ∀ t : Fin cfg0.N, win0_0.index t = ![0, 0] ∧ win0_1.index t = ![t.val, 0, 0] ∧ win0_2.index t = ![0, t.val] :=
  (by decide +kernel : ∀ t : Fin grid0.N, _)

theorem payload_apply (x0 : FVec Ideal S4096x1024 .bf16) (x1 : FVec Ideal S1x1024x512 .bf16) (r : Fin 4096) (j : Fin 512) :
    k0_pay1 (F := Ideal) x0 x1 (ix2 r j) = max (∑ k : Fin 1024, x0 (ix2 r k) * x1 (ix3 0 k j) : EReal) 0 := by
  unfold_payloads
  pointwise [dot_S4096x1024_S1024x512_S4096x512_1_0_0_1_n_n]

theorem kernel_array (c : Dev nD) : (dats m 0 c).arrAt 2 cfg0.N = hidden (hIn m c) (wuIn m c) := by
  refine (dats m 0 c).arrAt_eq_of_covers 2 _ (by decide +kernel) fun t hf y => ?_
  blk_simp
  rw [after0_2]
  frame_out
  obtain ⟨e0, e1, e2⟩ := places t
  obtain ⟨r, j, rfl⟩ : ∃ (r : Fin 4096) (j : Fin 512), y = ix2 r j := ⟨y 0, y 1, eq_ix2 (n0 := 4096) (n1 := 512) y⟩
  have ht : t.val < 8 := t.isLt
  have place : ((View.whole main_v4).slice (win0_2.rect t)).emb (ix2 r j)
      = (ix2 r ⟨t.val * 512 + j.val, by omega⟩ : S4096x4096.Idx) := by
    blk_ext [e2]
  rw [place]
  refine (payload_apply _ _ r j).trans (congrArg (max · 0) (Finset.sum_congr rfl fun k _ => congrArg₂ (· * ·) ?_ ?_))
  · exact (congrArg (V m c main_v3) (show ((View.whole main_v3).slice (win0_0.rect t)).emb (ix2 r k)
      = (ix2 r k : S4096x1024.Idx) by blk_ext [e0])).trans (h_at m c _ _)
  · exact (congrArg (V m c main_v2) (show ((View.whole main_v2).slice (win0_1.rect t)).emb (ix3 0 k j)
      = (ix3 ⟨t.val, ht⟩ k j : S8x1024x512.Idx) by blk_ext [e1])).trans (wu_at m c _ _ _)

end Cert.MlpUp.Proof

end
-- ==== Proof.MlpUp.Claims.lean ====
/- The reference's hidden layer, and the claims about the call that the certificate assembles. -/
module

public import proofs.«01_k».proof.Defs
public import proofs.«01_k».proof.Proof.MlpUp.Kernel
public import proofs.«01_k».proof.Proof.Gen.MlpUpRefIdeal.Read
public import proofs.«01_k».proof.Proof.Gen.MlpUp.Frame

@[expose] public section

set_option maxRecDepth 16384

noncomputable section

namespace Cert.MlpUp.Proof

section
open Cert.MlpUpRefIdeal Cert.MlpUpRefIdeal.Read Idealize.ShloMosaic Idealize.ShloMosaic.TcCoe

theorem reference_hidden (h : Arr S4096x1024) (wu : Arr S1024x4096) : val_main_v2 (F := Ideal) h wu = hidden h wu := by
  funext i
  obtain ⟨r, j, rfl⟩ : ∃ (r j : Fin 4096), i = ix2 r j := ⟨i 0, i 1, eq_ix2 (n0 := 4096) (n1 := 4096) i⟩
  unfold val_main_v2 val_main_v1 val_main_v0 val_main_call0_v0 val_main_call0_cst
  pointwise [dot_S4096x1024_S1024x4096_S4096x4096_1_0_0_1_n_n]
  rfl

end

open Idealize.ShloMosaic Idealize.ShloMosaic.TcCoe Idealize.SL.Sem

theorem reference_frame : Cert.quiescent_MlpUpRefIdeal (hMlpUpRefIdeal := Cert.MlpUpRefIdeal.Gen.facts) := fun m g _ =>
  (θ_run Cert.MlpUpRefIdeal.defs _ _).mono (fun r h => ⟨fun c => (h c).2, sem_eq_zero_of_no_sems (by decide) r.2⟩)
    (Cert.MlpUpRefIdeal.Value.run m g)

theorem algebraic : Cert.algebraic_MlpUpIdeal_MlpUpRefIdeal (hMlpUpIdeal := Cert.MlpUpIdeal.Gen.facts)
    (hMlpUpRefIdeal := Cert.MlpUpRefIdeal.Gen.facts) := by
  intro m g m' g' _ hargs
  refine ⟨fun c => hidden (hIn m c) (wuIn m c), ?_, ?_⟩
  · exact (θ_run Cert.MlpUpIdeal.defs _ _).mono (fun r h c => ⟨(h c).1.trans (kernel_array m c), (h c).2⟩)
      (Cert.MlpUpIdeal.Value.run_blocks m g)
  · refine (θ_run Cert.MlpUpRefIdeal.defs _ _).mono (fun r h c => ?_) (Cert.MlpUpRefIdeal.Value.run m' g')
    obtain ⟨a0, a1⟩ := hargs c
    refine ⟨(h c).1.trans ?_, (h c).2⟩
    refine (Cert.MlpUpRefIdeal.Read.val_main_v2_eq _ _).trans ?_
    rw [a0, a1]
    exact reference_hidden _ _

end Cert.MlpUp.Proof

end
-- ==== Proof.Conv.Rows.lean ====
/-
Blocks of 1024 rows kept in a buffer below eight rows carried from the block before, and the causal convolution of four
taps that reads them: one column at a time.
-/
module

public import Idealize.ShloMosaic.Lib.WholeRead
public import Idealize.ShloMosaic.Lib.Pipeline.ReadBack
public import Idealize.ShloMosaic.Lib.Pipeline.ValueKit
public import Idealize.ShloMosaic.Lib.Pointwise

@[expose] public section

set_option maxRecDepth 16384

noncomputable section

namespace Cert.Conv

open Idealize.ShloMosaic

/-- Row i of a column: the eight carried rows, then the block's. -/
def pad (D : Fin 8 → EReal) (x : Fin 1024 → EReal) (i : ℕ) : EReal :=
  if h : i < 8 then D ⟨i, h⟩ else if h' : i < 1032 then x ⟨i - 8, by omega⟩ else 0

/-- Row i of a column of the whole array below three rows of zeros. -/
def tap (p : Fin 4096 → EReal) (i : ℕ) : EReal :=
  if i < 3 then 0 else if h : i < 4099 then p ⟨i - 3, by omega⟩ else 0

/-- The four taps. -/
def taps (w : Fin 4 → EReal) (f : ℕ → EReal) : EReal := ((w 0 * f 0 + w 1 * f 1) + w 2 * f 2) + w 3 * f 3

theorem taps_congr {w w' : Fin 4 → EReal} {f g : ℕ → EReal} (hw : ∀ k, w k = w' k) (h : ∀ k < 4, f k = g k) : taps w f = taps w' g := by
  unfold taps
  rw [hw, hw, hw, hw, h 0 (by omega), h 1 (by omega), h 2 (by omega), h 3 (by omega)]

/-- The rows of block t stand where the padded array has them. -/
theorem pad_tap (p : Fin 4096 → EReal) (D : Fin 8 → EReal) (x : Fin 1024 → EReal) (t : ℕ) (ht : t < 4)
    (hx : ∀ i : Fin 1024, x i = p ⟨t * 1024 + i.val, by omega⟩)
    (h0 : t = 0 → ∀ i, D i = 0) (hD : ∀ h : 0 < t, ∀ i : Fin 8, D i = p ⟨t * 1024 - 8 + i.val, by omega⟩)
    (r : ℕ) (hr : r < 1024) (k : ℕ) (hk : k < 4) : pad D x (r + (5 + k)) = tap p (t * 1024 + r + k) := by
  unfold pad tap
  by_cases h : r + (5 + k) < 8
  · rw [dif_pos h]
    rcases Nat.eq_zero_or_pos t with ht0 | hpos
    · rw [if_pos (by omega), h0 ht0]
    · rw [if_neg (by omega), dif_pos (by omega), hD hpos]
      exact congrArg p (Fin.ext (by show t * 1024 - 8 + (r + (5 + k)) = t * 1024 + r + k - 3; omega))
  · rw [dif_neg h, dif_pos (by omega), if_neg (by omega), dif_pos (by omega), hx]
    exact congrArg p (Fin.ext (by show t * 1024 + (r + (5 + k) - 8) = t * 1024 + r + k - 3; omega))

variable {n : ℕ}

abbrev Rows (n : ℕ) : Shape := ⟨2, ![1032, n]⟩
abbrev Block (n : ℕ) : Shape := ⟨2, ![1024, n]⟩
abbrev Carried (n : ℕ) : Shape := ⟨2, ![8, n]⟩
abbrev Tile : Shape := ⟨2, ![64, 128]⟩

theorem fits_lower (n : ℕ) : ∀ a, (![8, 0] : Fin 2 → ℕ) a + (Block n).size a ≤ (Rows n).size a := by
  intro a; fin_cases a <;> simp [Block, Rows]

theorem fits_upper (n : ℕ) : ∀ a, (![0, 0] : Fin 2 → ℕ) a + (Carried n).size a ≤ (Rows n).size a := by
  intro a; fin_cases a <;> simp [Carried, Rows]

/-- The rows below the carried ones, and the carried ones. -/
abbrev lower (n : ℕ) : Rect (Rows n) := Rect.unit (s := Rows n) ![8, 0] (Block n).size (fits_lower n)
abbrev upper (n : ℕ) : Rect (Rows n) := Rect.unit (s := Rows n) ![0, 0] (Carried n).size (fits_upper n)

abbrev Mat (s : Shape) : Type := s.Idx → Elt Ideal .f32
abbrev Pieces (n : ℕ) : Type := List (View.Piece (Elt Ideal) (Rows n) .f32)

/-- A column of a block, and of the carried rows. -/
def col (x : Mat (Block n)) (e : Fin n) (i : Fin 1024) : EReal := x (ix2 i e)
def head (D : Mat (Rows n)) (e : Fin n) (i : Fin 8) : EReal := D (ix2 (n0 := 1032) ⟨i.val, by omega⟩ e)

theorem not_lower (i : Fin 1032) (e : Fin n) (h : i.val < 8) : ix2 i e ∉ (lower n).set := by
  intro hm
  obtain ⟨z, hz⟩ := (lower n).exists_idx_of_mem hm
  have e0 : 8 + 1 * (z 0).val = i.val := congrArg (fun y : (Rows n).Idx => (y 0).val) hz
  omega

theorem in_lower (i : Fin 1032) (e : Fin n) (h : ¬i.val < 8) : ix2 i e ∈ (lower n).set := by
  refine Rect.mem_set_unit.mpr fun a => ?_
  fin_cases a
  · show 8 ≤ i.val ∧ i.val < 8 + 1024; omega
  · show 0 ≤ e.val ∧ e.val < 0 + n; omega

theorem canon_lower (X : Mat (Block n)) (L : Pieces n) (D : Fin 8 → EReal) (i : Fin 1032) (e : Fin n) (h : ¬i.val < 8) :
    (View.canon (Val := Elt Ideal) (s := Rows n) (e := .f32) (⟨lower n, X⟩ :: L) (ix2 i e) : EReal) = pad D (col X e) i.val := by
  have here : ix2 i e = (lower n).emb (ix2 ⟨i.val - 8, by omega⟩ e) := by
    funext a
    apply Fin.ext
    fin_cases a
    · show i.val = 8 + 1 * (i.val - 8); omega
    · show e.val = 0 + 1 * e.val; omega
  refine (congrArg (View.canon _) here).trans ((View.canon_cons_emb _ _ _ _).trans ?_)
  unfold pad
  rw [dif_neg h, dif_pos i.isLt]
  rfl

theorem canon_upper (X : Mat (Carried n)) (L : Pieces n) (i : Fin 8) (e : Fin n) :
    (View.canon (Val := Elt Ideal) (s := Rows n) (e := .f32) (⟨upper n, X⟩ :: L) (ix2 (n0 := 1032) ⟨i.val, by omega⟩ e) : EReal) = X (ix2 i e) := by
  have here : ix2 (n0 := 1032) ⟨i.val, by omega⟩ e = (upper n).emb (ix2 i e) := by
    funext a
    apply Fin.ext
    fin_cases a
    · show i.val = 0 + 1 * i.val; omega
    · show e.val = 0 + 1 * e.val; omega
  exact (congrArg (View.canon _) here).trans (View.canon_cons_emb _ _ _ _)

theorem canon_both (X : Mat (Block n)) (Z : Mat (Carried n)) (i : Fin 1032) (e : Fin n) :
    (View.canon (Val := Elt Ideal) (s := Rows n) (e := .f32) [⟨lower n, X⟩, ⟨upper n, Z⟩] (ix2 i e) : EReal)
      = pad (fun k => Z (ix2 k e)) (col X e) i.val := by
  by_cases h : i.val < 8
  · refine (View.canon_cons_of_not_mem (⟨lower n, X⟩ : View.Piece (Elt Ideal) (Rows n) .f32) _ (not_lower i e h)).trans ?_
    refine (canon_upper Z [] ⟨i.val, h⟩ e).trans ?_
    unfold pad
    rw [dif_pos h]
  · exact canon_lower X _ _ i e h

section
variable {sig : RefSig} {κ : Kind} {sp : Space} (v : View sig κ sp (Rows n) .f32)

theorem read_carried (X : Mat (Block n)) (D : Mat (Rows n)) (f : v.ty.Contents (Elt Ideal)) (hf : View.read (Elt Ideal) v f = D)
    (i : Fin 1032) (e : Fin n) :
    (View.read (Elt Ideal) v (v.writes (Elt Ideal) f [⟨lower n, X⟩]) (ix2 i e) : EReal) = pad (head D e) (col X e) i.val := by
  by_cases h : i.val < 8
  · rw [View.writes_cons, View.read_slice_write_of_not_mem _ _ _ _ (by rw [Rect.map_emb_univ]; exact not_lower i e h)]
    refine (congrFun hf _).trans ?_
    unfold pad
    rw [dif_pos h]
    rfl
  · have covered : ∃ p ∈ ([⟨lower n, X⟩] : Pieces n), ix2 i e ∈ p.1.set := ⟨⟨lower n, X⟩, List.mem_cons_self, in_lower i e h⟩
    exact (View.read_writes_apply_eq_canon _ _ _ _ covered).trans (canon_lower X _ _ i e h)

theorem place {o q a b : ℕ} (inb : ∀ k, (![o, q] : Fin 2 → ℕ) k + (![a, b] : Fin 2 → ℕ) k ≤ (Rows n).size k) (i : Fin 1032) (e : Fin n)
    (z : (⟨2, ![a, b]⟩ : Shape).Idx) (h0 : i.val = o + (z 0).val) (h1 : e.val = q + (z 1).val) :
    (Rect.unit (s := Rows n) ![o, q] ![a, b] inb).emb z = ix2 i e := by
  funext k
  apply Fin.ext
  fin_cases k
  · show o + 1 * (z 0).val = i.val; omega
  · show q + 1 * (z 1).val = e.val; omega

theorem inside {o q : ℕ} (inb : ∀ a, (![o, q] : Fin 2 → ℕ) a + (![64, 128] : Fin 2 → ℕ) a ≤ (Rows n).size a) (s i : ℕ) (z : Tile.Idx)
    (h0 : i + s = o + (z 0).val) : i + s < 1032 := by
  have b0 : o + 64 ≤ 1032 := inb 0
  have z0 : (z 0).val < 64 := (z 0).isLt
  omega

/-- A load of rows that all lie below the carried ones. -/
theorem row_at (X : Mat (Block n)) (D : Fin 8 → EReal) (L : Pieces n) {o q : ℕ} (inb) (s : ℕ) (i : Fin 1024) (e : Fin n) (z : Tile.Idx)
    (h0 : i.val + s = o + (z 0).val) (h1 : e.val = q + (z 1).val) (h : 8 ≤ o) :
    (v.readCov (Val := Elt Ideal) (⟨lower n, X⟩ :: L) (Rect.unit (s := Rows n) ![o, q] ![64, 128] inb).toLoadRect z : EReal)
      = pad D (col X e) (i.val + s) := by
  rw [View.readCov_eq_canon']
  exact (congrArg (View.canon _) (place inb ⟨i.val + s, inside inb s i z h0⟩ e z h0 h1)).trans
    (canon_lower X L D ⟨i.val + s, inside inb s i z h0⟩ e (by show ¬i.val + s < 8; omega))

/-- A load of rows of which the first are the carried ones. -/
theorem carried_at (X : Mat (Block n)) (D : Mat (Rows n)) (f : v.ty.Contents (Elt Ideal)) (hf : View.read (Elt Ideal) v f = D)
    {o q : ℕ} (inb) (s : ℕ) (i : Fin 1024) (e : Fin n) (z : Tile.Idx) (h0 : i.val + s = o + (z 0).val) (h1 : e.val = q + (z 1).val) :
    (View.ld (Val := Elt Ideal) (e' := .f32) (View.read (Elt Ideal) v (v.writes (Elt Ideal) f [⟨lower n, X⟩]))
      (Rect.unit (s := Rows n) ![o, q] ![64, 128] inb) z : EReal) = pad (head D e) (col X e) (i.val + s) :=
  (congrArg (View.read _ _ _) (place inb ⟨i.val + s, inside inb s i z h0⟩ e z h0 h1)).trans (read_carried v X D f hf ⟨i.val + s, inside inb s i z h0⟩ e)

/-- A load of rows of which the first were stored with them. -/
theorem both_at (X : Mat (Block n)) (Z : Mat (Carried n)) {o q : ℕ} (inb) (s : ℕ) (i : Fin 1024) (e : Fin n) (z : Tile.Idx)
    (h0 : i.val + s = o + (z 0).val) (h1 : e.val = q + (z 1).val) :
    (v.readCov (Val := Elt Ideal) [⟨lower n, X⟩, ⟨upper n, Z⟩] (Rect.unit (s := Rows n) ![o, q] ![64, 128] inb).toLoadRect z : EReal)
      = pad (fun k => Z (ix2 k e)) (col X e) (i.val + s) := by
  rw [View.readCov_eq_canon']
  exact (congrArg (View.canon _) (place inb ⟨i.val + s, inside inb s i z h0⟩ e z h0 h1)).trans (canon_both X Z ⟨i.val + s, inside inb s i z h0⟩ e)

/-- The block's last eight rows, read back to be carried. -/
theorem tail_at (X : Mat (Block n)) (L : Pieces n) (inb) (i : Fin 8) (e : Fin n) :
    (v.readCov (Val := Elt Ideal) (⟨lower n, X⟩ :: L) (Rect.unit (s := Rows n) ![1024, 0] ![8, n] inb).toLoadRect (ix2 i e) : EReal)
      = X (ix2 ⟨1016 + i.val, by omega⟩ e) := by
  rw [View.readCov_eq_canon']
  refine (congrArg (View.canon _) (place inb ⟨1024 + i.val, by omega⟩ e (ix2 i e) rfl (by show e.val = 0 + e.val; omega))).trans ?_
  refine (canon_lower X L (fun _ => 0) ⟨1024 + i.val, by omega⟩ e (by show ¬1024 + i.val < 8; omega)).trans ?_
  unfold pad
  rw [dif_neg (by show ¬1024 + i.val < 8; omega), dif_pos (by show 1024 + i.val < 1032; omega)]
  exact congrArg (fun k => X (ix2 k e)) (Fin.ext (by show 1024 + i.val - 8 = 1016 + i.val; omega))
end

/-- A weight of a tile's columns. -/
theorem weight_at {k q : ℕ} (inb) (w : Mat ⟨2, ![k, n]⟩) (e : Fin n) (x : Tile.Idx) (j : Fin k) (h : e.val = q + (x 1).val) :
    (View.ld (Val := Elt Ideal) (e' := .f32) w (Rect.unit (s := ⟨2, ![k, n]⟩) ![0, q] ![k, 128] inb) (ix2 j (x 1)) : EReal) = w (ix2 j e) := by
  refine congrArg w ?_
  funext a
  apply Fin.ext
  fin_cases a
  · show 0 + 1 * j.val = j.val; omega
  · show q + 1 * (x 1).val = e.val; omega

end Cert.Conv

end
-- ==== Proof.LruConvFwd.Points.lean ====
/-
What each grid point leaves: the four taps and the bias in every tile, and the rows carried into the next point.
-/
module

public import proofs.«01_k».proof.Proof.Gen.LruConvFwdIdeal.Value
public import proofs.«01_k».proof.Proof.Load
public import proofs.«01_k».proof.Proof.Conv.Rows

@[expose] public section

set_option maxRecDepth 65536
set_option maxHeartbeats 4000000

noncomputable section

namespace Cert.LruConvFwd.Proof

open Cert.Conv Cert.Load Cert.LruConvFwdIdeal Cert.LruConvFwdIdeal.Gen Idealize.ShloMosaic Idealize.ShloMosaic.TcCoe Idealize.SL.Sem

/-- What a point leaves at y, from the rows carried into it. -/
def conv (D : Fin 512 → Fin 8 → EReal) (x : FVec Ideal S1024x512 .f32) (w : FVec Ideal S4x512 .f32) (b : FVec Ideal S1x512 .f32)
    (y : S1024x512.Idx) : EReal :=
  taps (fun k => w (ix2 k (y 1))) (fun k => pad (D (y 1)) (col x (y 1)) ((y 0).val + (5 + k))) + b (ix2 0 (y 1))

theorem tile_at (w : FVec Ideal S4x128 .f32) (a b c d : FVec Ideal S64x128 .f32) (bias : FVec Ideal S1x128 .f32) (x : S64x128.Idx) :
    k0_pay4 (F := Ideal) w a b c d bias x
      = (((w (ix2 0 (x 1)) * a x + w (ix2 1 (x 1)) * b x) + w (ix2 2 (x 1)) * c x) + w (ix2 3 (x 1)) * d x) + bias (ix2 0 (x 1)) := by
  obtain ⟨r, e, rfl⟩ : ∃ r e, x = ix2 r e := ⟨x 0, x 1, by funext a; fin_cases a <;> rfl⟩
  unfold k0_pay4
  pointwise

theorem stored (x : FVec Ideal S1024x512 .f32) : k0_pay3 (F := Ideal) x = x := by
  unfold k0_pay3
  exact shapeCast_self _ _

theorem zeros (z : S8x512.Idx) : (k0_pay2 (F := Ideal) z : EReal) = 0 := by
  obtain ⟨r, e, rfl⟩ : ∃ r e, z = ix2 r e := ⟨z 0, z 1, by funext a; fin_cases a <;> rfl⟩
  unfold k0_pay2
  pointwise

theorem moved (x : FVec Ideal S8x512 .f32) : k0_pay1 (F := Ideal) x = x := by
  unfold k0_pay1
  exact shapeCast_self _ _

variable (m : (ℓ : Loc nD τ sig) → Buf (Elt Ideal) ℓ)

theorem y_A (c : Dev nD) (t : Fin cfg0.N) (h0 : t.val % 4 = 0) (y : S1024x512.Idx) :
    (outsAt0 m c t.val t.isLt).1 y = conv (fun e k => k0_pay2 (F := Ideal) (ix2 k e)) (k0_pay3 (iblk m c 0 t)) (iblk m c 1 t) (iblk m c 2 t) y := by
  rw [Gen.outsAt0_A m c t h0]
  frame_open
  frame_out
  generalize iblk m c 0 t = x0
  generalize iblk m c 1 t = x1
  generalize iblk m c 2 t = x2
  dsimp only [conv, taps]
  canon_tiles x h
  all_goals
    refine (tile_at _ _ _ _ _ _ x).trans ?_
    refine congrArg₂ (· + ·) (congrArg₂ (· + ·) (congrArg₂ (· + ·) (congrArg₂ (· + ·) (congrArg₂ (· * ·) ?_ ?_) (congrArg₂ (· * ·) ?_ ?_))
      (congrArg₂ (· * ·) ?_ ?_)) (congrArg₂ (· * ·) ?_ ?_)) ?_
    · exact weight_at _ x1 (y 1) x 0 (by omega)
    rotate_left
    · exact weight_at _ x1 (y 1) x 1 (by omega)
    rotate_left
    · exact weight_at _ x1 (y 1) x 2 (by omega)
    rotate_left
    · exact weight_at _ x1 (y 1) x 3 (by omega)
    rotate_left
    · exact weight_at _ x2 (y 1) x 0 (by omega)
    all_goals
      first
        | have top : (y 0).val < 64 := by omega
          exact both_at _ (k0_pay3 x0) (k0_pay2 (F := Ideal)) _ _ (y 0) (y 1) x (by omega) (by omega)
        | exact row_at _ (k0_pay3 x0) _ _ _ _ (y 0) (y 1) x (by omega) (by omega) (by omega)

theorem y_B (c : Dev nD) (t : Fin cfg0.N) (h0 : ¬t.val % 4 = 0) (y : S1024x512.Idx) :
    (outsAt0 m c t.val t.isLt).1 y
      = conv (head (n := 512) (outsAt0 m c (t.val - 1) (Nat.lt_of_le_of_lt (Nat.sub_le _ _) t.isLt)).2) (k0_pay3 (iblk m c 0 t)) (iblk m c 1 t) (iblk m c 2 t) y := by
  rw [Gen.outsAt0_B m c t h0]
  frame_open
  frame_out
  generalize iblk m c 0 t = x0
  generalize iblk m c 1 t = x1
  generalize iblk m c 2 t = x2
  generalize (outsAt0 m c (t.val - 1) (Nat.lt_of_le_of_lt (Nat.sub_le _ _) t.isLt)).2 = D
  dsimp only [conv, taps]
  canon_tiles x h
  all_goals
    refine (tile_at _ _ _ _ _ _ x).trans ?_
    refine congrArg₂ (· + ·) (congrArg₂ (· + ·) (congrArg₂ (· + ·) (congrArg₂ (· + ·) (congrArg₂ (· * ·) ?_ ?_) (congrArg₂ (· * ·) ?_ ?_))
      (congrArg₂ (· * ·) ?_ ?_)) (congrArg₂ (· * ·) ?_ ?_)) ?_
    · exact weight_at _ x1 (y 1) x 0 (by omega)
    rotate_left
    · exact weight_at _ x1 (y 1) x 1 (by omega)
    rotate_left
    · exact weight_at _ x1 (y 1) x 2 (by omega)
    rotate_left
    · exact weight_at _ x1 (y 1) x 3 (by omega)
    rotate_left
    · exact weight_at _ x2 (y 1) x 0 (by omega)
    all_goals
      first
        | have top : (y 0).val < 64 := by omega
          first
            | exact carried_at _ (k0_pay3 x0) D _ (read_unread_whole ..) _ _ (y 0) (y 1) x (by omega) (by omega)
            | exact row_at _ (k0_pay3 x0) _ _ _ _ (y 0) (y 1) x (by omega) (by omega) (by omega)
        | exact row_at _ (k0_pay3 x0) _ _ _ _ (y 0) (y 1) x (by omega) (by omega) (by omega)

/-- The rows carried out of a point are the last eight of its block. -/
theorem carry (c : Dev nD) (t : Fin cfg0.N) (e : Fin 512) (i : Fin 8) :
    head (n := 512) (outsAt0 m c t.val t.isLt).2 e i = (iblk m c 0 t : FVec Ideal S1024x512 .f32) (ix2 ⟨1016 + i.val, by omega⟩ e) := by
  have last (x0 : FVec Ideal S1024x512 .f32) (L L' : Pieces 512) (inb) :
      (View.canon (Val := Elt Ideal) (s := Rows 512) (e := .f32) (⟨upper 512, k0_pay1 (F := Ideal) ((View.whole cc0_scratch0).readCov (⟨lower 512, k0_pay3 (F := Ideal) x0⟩ :: L)
        (Rect.unit (s := Rows 512) ![1024, 0] ![8, 512] inb).toLoadRect)⟩ :: L') (ix2 (n0 := 1032) ⟨i.val, by omega⟩ e) : EReal) = x0 (ix2 ⟨1016 + i.val, by omega⟩ e) := by
    rw [moved, stored]
    exact (canon_upper _ L' i e).trans (tail_at _ x0 L inb i e)
  by_cases h : t.val % 4 = 0
  · rw [Gen.outsAt0_A m c t h]
    frame_open
    frame_out
    exact last _ _ _ _
  · rw [Gen.outsAt0_B m c t h]
    frame_open
    frame_out
    exact last _ _ _ _

end Cert.LruConvFwd.Proof

end
-- ==== Proof.LruConvFwd.Kernel.lean ====
/- The array the convolution leaves: four blocks of 1024 rows, the last eight rows of each carried into the next. -/
module

public import proofs.«01_k».proof.Proof.LruConvFwd.Points
public import Idealize.ShloMosaic.Lib.StableHlo.ReadAt

@[expose] public section

set_option maxRecDepth 16384

noncomputable section

namespace Cert.LruConvFwd.Proof

open Cert.Conv Cert.LruConvFwdIdeal Cert.LruConvFwdIdeal.Gen Idealize.ShloMosaic Idealize.ShloMosaic.TcCoe Idealize.SL.Sem

/-- A column of the projections that the convolution reads. -/
def source (p : FVec Ideal S4096x3072 .f32) (e : Fin 512) (i : Fin 4096) : EReal := p (ix2 i ⟨2048 + e.val, by omega⟩)

/-- The four taps and the bias. -/
def convolved (p : FVec Ideal S4096x3072 .f32) (w : FVec Ideal S4x512 .f32) (b : FVec Ideal S512 .f32) : FVec Ideal S4096x512 .f32 := fun y =>
  (taps (fun k => w (ix2 k (y 1))) (fun k => tap (source p (y 1)) ((y 0).val + k)) + b (ix1 (y 1)) : EReal)

variable (m : (ℓ : Loc nD τ sig) → Buf (Elt Ideal) ℓ)

section
variable (c : Dev nD)
abbrev pIn : FVec Ideal S4096x3072 .f32 := m ((c : Thread nD τ).loc main_arg0)
abbrev wIn : FVec Ideal S4x512 .f32 := m ((c : Thread nD τ).loc main_arg1)
abbrev bIn : FVec Ideal S512 .f32 := m ((c : Thread nD τ).loc main_arg2)
end

theorem places : ∀ t : Fin cfg0.N, win0_0.index t = ![t.val, 4] ∧ win0_1.index t = ![0, 0] ∧ win0_2.index t = ![0, 0] ∧ win0_3.index t = ![t.val, 0] :=
  (by decide +kernel : ∀ t : Fin grid0.N, _)

/-- The rows of the block at a grid point. -/
theorem x_at (c : Dev nD) (t : Fin cfg0.N) (ht : t.val < 4) (i : Fin 1024) (e : Fin 512) :
    (iblk m c 0 t : FVec Ideal S1024x512 .f32) (ix2 i e) = pIn m c (ix2 ⟨t.val * 1024 + i.val, by omega⟩ ⟨2048 + e.val, by omega⟩) :=
  (congrArg (V m c main_arg0) (show ((View.whole main_arg0).slice (win0_0.rect t)).emb _
      = (ix2 ⟨t.val * 1024 + i.val, by omega⟩ ⟨2048 + e.val, by omega⟩ : S4096x3072.Idx) by blk_ext [(places t).1])).trans
    (congrFun (V_main_arg0 m c) _)

theorem w_at (c : Dev nD) (t : Fin cfg0.N) (k : Fin 4) (e : Fin 512) :
    (iblk m c 1 t : FVec Ideal S4x512 .f32) (ix2 k e) = wIn m c (ix2 k e) :=
  (congrArg (V m c main_arg1) (show ((View.whole main_arg1).slice (win0_1.rect t)).emb _
      = (ix2 k e : S4x512.Idx) by blk_ext [(places t).2.1])).trans (congrFun (V_main_arg1 m c) _)

theorem bias_row (c : Dev nD) (e : Fin 512) : V m c main_v0 (ix2 0 e) = bIn m c (ix1 e) := by
  unfold V hostOps0
  after_reads_at

theorem b_at (c : Dev nD) (t : Fin cfg0.N) (e : Fin 512) :
    (iblk m c 2 t : FVec Ideal S1x512 .f32) (ix2 0 e) = bIn m c (ix1 e) :=
  (congrArg (V m c main_v0) (show ((View.whole main_v0).slice (win0_2.rect t)).emb _
      = (ix2 0 e : S1x512.Idx) by blk_ext [(places t).2.2.1])).trans (bias_row m c e)

theorem kernel_array (c : Dev nD) : (dats m 0 c).arrAt 3 cfg0.N = convolved (pIn m c) (wIn m c) (bIn m c) := by
  refine (dats m 0 c).arrAt_eq_of_covers 3 _ (by decide +kernel) fun t hf y => ?_
  blk_simp
  rw [after0_3]
  obtain ⟨r, e, rfl⟩ : ∃ (r : Fin 1024) (e : Fin 512), y = ix2 r e := ⟨y 0, y 1, eq_ix2 (n0 := 1024) (n1 := 512) y⟩
  have ht : t.val < 4 := t.isLt
  have place : ((View.whole main_v1).slice (win0_3.rect t)).emb (ix2 r e) = (ix2 ⟨t.val * 1024 + r.val, by omega⟩ e : S4096x512.Idx) := by
    blk_ext [(places t).2.2.2]
  rw [place]
  have hx (i : Fin 1024) : col (n := 512) (k0_pay3 (F := Ideal) (iblk m c 0 t)) e i = source (pIn m c) e ⟨t.val * 1024 + i.val, by omega⟩ := by
    rw [stored]
    exact x_at m c t ht i e
  have row (D : Fin 8 → EReal) (h0 : t.val = 0 → ∀ i, D i = 0) (hD : ∀ h : 0 < t.val, ∀ i : Fin 8, D i = source (pIn m c) e ⟨t.val * 1024 - 8 + i.val, by omega⟩) :
      taps (fun k => (iblk m c 1 t : FVec Ideal S4x512 .f32) (ix2 k e)) (fun k => pad D (col (n := 512) (k0_pay3 (F := Ideal) (iblk m c 0 t)) e) (r.val + (5 + k)))
          + (iblk m c 2 t : FVec Ideal S1x512 .f32) (ix2 0 e)
        = convolved (pIn m c) (wIn m c) (bIn m c) (ix2 ⟨t.val * 1024 + r.val, by omega⟩ e) := by
    exact congrArg₂ (· + ·) (taps_congr (fun k => w_at m c t k e) (pad_tap (source (pIn m c) e) D _ t.val ht hx h0 hD r.val r.isLt)) (b_at m c t e)
  by_cases h : t.val % 4 = 0
  · refine (y_A m c t h (ix2 r e)).trans (row _ (fun _ i => zeros _) (fun hp => absurd h (by omega)))
  · refine (y_B m c t h (ix2 r e)).trans (row _ (fun h' => absurd (by omega) h) (fun hp i => ?_))
    have hN : t.val - 1 < cfg0.N := Nat.lt_of_le_of_lt (Nat.sub_le _ _) t.isLt
    refine (carry m c ⟨t.val - 1, hN⟩ e i).trans ?_
    refine (x_at m c ⟨t.val - 1, hN⟩ (by show t.val - 1 < 4; omega) ⟨1016 + i.val, by omega⟩ e).trans ?_
    exact congrArg (source (pIn m c) e) (Fin.ext (by show (t.val - 1) * 1024 + (1016 + i.val) = t.val * 1024 - 8 + i.val; omega))

end Cert.LruConvFwd.Proof

end
-- ==== Proof.LruConvFwd.Claims.lean ====
/- The claims about the short convolution before the RG-LRU. -/
module

public import proofs.«01_k».proof.Defs
public import proofs.«01_k».proof.Proof.LruConvFwd.Kernel
public import proofs.«01_k».proof.Proof.Gen.LruConvFwd.Frame
public import proofs.«01_k».proof.Proof.Gen.LruConvFwdRefIdeal.Run
public import proofs.«01_k».proof.Proof.Gen.LruConvFwdRefIdeal.Read

@[expose] public section

set_option maxRecDepth 16384

noncomputable section

namespace Cert.LruConvFwd.Ref

open Cert.LruConvFwdRefIdeal Cert.LruConvFwdRefIdeal.Gen Cert.LruConvFwdRefIdeal.Read Idealize.ShloMosaic Idealize.ShloMosaic.TcCoe Idealize.SL.Sem

theorem padded_at (p : FVec Ideal S4096x3072 .f32) (n : Fin 4099) (e : Fin 512) : val_main_v2 (F := Ideal) p (ix2 n e) = Conv.tap (Proof.source p e) n.val := by
  unfold val_main_v2 val_main_v1 val_main_cst val_main_v0
  pointwise
  unfold Conv.tap
  split
  · rfl
  · rw [dif_pos n.isLt]
    rfl

theorem array_at (p : FVec Ideal S4096x3072 .f32) (w : FVec Ideal S4x512 .f32) (b : FVec Ideal S512 .f32) (r : Fin 4096) (e : Fin 512) :
    val_main_v34 (F := Ideal) p w b (ix2 r e) = Proof.convolved p w b (ix2 r e) := by
  unfold val_main_v34 val_main_v33 val_main_v32 val_main_v31 val_main_v30 val_main_v29 val_main_v28 val_main_v27 val_main_v26 val_main_v25
    val_main_v24 val_main_v23 val_main_v22 val_main_v21 val_main_v20 val_main_v19 val_main_v18 val_main_v17 val_main_v16 val_main_v15
    val_main_v14 val_main_v13 val_main_v12 val_main_v11 val_main_v10 val_main_v9 val_main_cst_0 val_main_v8 val_main_v7 val_main_v6
    val_main_v5 val_main_v4 val_main_v3
  pointwise
  simp only [padded_at]
  rw [Nat.add_comm 1 r.val, Nat.add_comm 2 r.val, Nat.add_comm 3 r.val]
  rfl

end Cert.LruConvFwd.Ref

namespace Cert.LruConvFwd.Proof

open Idealize.ShloMosaic Idealize.ShloMosaic.TcCoe Idealize.SL.Sem

theorem reference_array (p : FVec Ideal Cert.LruConvFwdRefIdeal.S4096x3072 .f32) (w : FVec Ideal Cert.LruConvFwdRefIdeal.S4x512 .f32) (b : FVec Ideal Cert.LruConvFwdRefIdeal.S512 .f32) :
    Cert.LruConvFwdRefIdeal.Read.val_main_v34 (F := Ideal) p w b = convolved p w b := by
  funext y
  obtain ⟨r, e, rfl⟩ : ∃ (r : Fin 4096) (e : Fin 512), y = ix2 r e := ⟨y 0, y 1, eq_ix2 (n0 := 4096) (n1 := 512) y⟩
  exact Ref.array_at p w b r e

theorem reference_frame : Cert.quiescent_LruConvFwdRefIdeal (hLruConvFwdRefIdeal := Cert.LruConvFwdRefIdeal.Gen.facts) := fun m g _ =>
  (θ_run Cert.LruConvFwdRefIdeal.defs _ _).mono (fun r h => ⟨fun c => (h c).2, sem_eq_zero_of_no_sems (by decide) r.2⟩)
    (Cert.LruConvFwdRefIdeal.Value.run m g)

theorem algebraic : Cert.algebraic_LruConvFwdIdeal_LruConvFwdRefIdeal (hLruConvFwdIdeal := Cert.LruConvFwdIdeal.Gen.facts)
    (hLruConvFwdRefIdeal := Cert.LruConvFwdRefIdeal.Gen.facts) := by
  intro m g m' g' _ hargs
  refine ⟨fun c => convolved (pIn m c) (wIn m c) (bIn m c), ?_, ?_⟩
  · exact (θ_run Cert.LruConvFwdIdeal.defs _ _).mono (fun r h c => ⟨(h c).1.trans (kernel_array m c), (h c).2⟩)
      (Cert.LruConvFwdIdeal.Value.run_blocks m g)
  · refine (θ_run Cert.LruConvFwdRefIdeal.defs _ _).mono (fun r h c => ?_) (Cert.LruConvFwdRefIdeal.Value.run m' g')
    obtain ⟨a0, a1, a2⟩ := hargs c
    refine ⟨(h c).1.trans ?_, (h c).2⟩
    refine (Cert.LruConvFwdRefIdeal.Read.val_main_v34_eq _ _ _).trans ?_
    rw [a0, a1, a2]
    exact reference_array _ _ _

end Cert.LruConvFwd.Proof

end
-- ==== Proof.GdnConvFwd.Points.lean ====
/-
What each grid point leaves: the four taps behind silu in every tile, and the rows carried into the next point.
-/
module

public import proofs.«01_k».proof.Proof.Gen.GdnConvFwdIdeal.Value
public import proofs.«01_k».proof.Proof.Load
public import proofs.«01_k».proof.Proof.Conv.Rows

@[expose] public section

set_option maxRecDepth 65536
set_option maxHeartbeats 4000000

noncomputable section

namespace Cert.GdnConvFwd.Proof

open Cert.Conv Cert.Load Cert.GdnConvFwdIdeal Cert.GdnConvFwdIdeal.Gen Idealize.ShloMosaic Idealize.ShloMosaic.TcCoe Idealize.SL.Sem

/-- x · σ(x). -/
def silu (x : EReal) : EReal := x * Ideal.logistic x

/-- What a point leaves at y, from the rows carried into it. -/
def conv (D : Fin 1024 → Fin 8 → EReal) (x : FVec Ideal S1024x1024 .f32) (w : FVec Ideal S4x1024 .f32)
    (y : S1024x1024.Idx) : EReal :=
  silu (taps (fun k => w (ix2 k (y 1))) fun k => pad (D (y 1)) (col x (y 1)) ((y 0).val + (5 + k)))

theorem tile_at (w : FVec Ideal S4x128 .f32) (a b c d : FVec Ideal S64x128 .f32) (x : S64x128.Idx) :
    k0_pay5 (F := Ideal) w a b c d x
      = silu ((((w (ix2 0 (x 1)) * a x + w (ix2 1 (x 1)) * b x) + w (ix2 2 (x 1)) * c x) + w (ix2 3 (x 1)) * d x)) := by
  obtain ⟨r, e, rfl⟩ : ∃ r e, x = ix2 r e := ⟨x 0, x 1, by funext a; fin_cases a <;> rfl⟩
  unfold k0_pay5
  pointwise
  rfl

theorem stored (x : FVec Ideal S1024x1024 .f32) : k0_pay4 (F := Ideal) x = x := by
  unfold k0_pay4
  exact shapeCast_self _ _

theorem zeros (z : S8x1024.Idx) : (k0_pay3 (F := Ideal) z : EReal) = 0 := by
  obtain ⟨r, e, rfl⟩ : ∃ r e, z = ix2 r e := ⟨z 0, z 1, by funext a; fin_cases a <;> rfl⟩
  unfold k0_pay3
  pointwise

theorem moved (x : FVec Ideal S8x1024 .f32) : k0_pay2 (F := Ideal) x = x := by
  unfold k0_pay2
  exact shapeCast_self _ _

variable (m : (ℓ : Loc nD τ sig) → Buf (Elt Ideal) ℓ)

theorem y_A (c : Dev nD) (t : Fin cfg0.N) (h0 : t.val % 4 = 0) (y : S1024x1024.Idx) :
    (outsAt0 m c t.val t.isLt).1 y = conv (fun e k => k0_pay3 (F := Ideal) (ix2 k e)) (k0_pay4 (X0_0 m c t)) (iblk m c 1 t)  y := by
  rw [Gen.outsAt0_A m c t h0]
  frame_open
  frame_out
  generalize X0_0 m c t = x0
  generalize iblk m c 1 t = x1
  dsimp only [conv, taps]
  canon_tiles x h
  all_goals
    refine (tile_at _ _ _ _ _ x).trans ?_
    refine congrArg silu (congrArg₂ (· + ·) (congrArg₂ (· + ·) (congrArg₂ (· + ·) (congrArg₂ (· * ·) ?_ ?_) (congrArg₂ (· * ·) ?_ ?_))
      (congrArg₂ (· * ·) ?_ ?_)) (congrArg₂ (· * ·) ?_ ?_))
    · exact weight_at _ x1 (y 1) x 0 (by omega)
    rotate_left
    · exact weight_at _ x1 (y 1) x 1 (by omega)
    rotate_left
    · exact weight_at _ x1 (y 1) x 2 (by omega)
    rotate_left
    · exact weight_at _ x1 (y 1) x 3 (by omega)
    rotate_left
    all_goals
      first
        | have top : (y 0).val < 64 := by omega
          exact both_at _ (k0_pay4 x0) (k0_pay3 (F := Ideal)) _ _ (y 0) (y 1) x (by omega) (by omega)
        | exact row_at _ (k0_pay4 x0) _ _ _ _ (y 0) (y 1) x (by omega) (by omega) (by omega)

theorem y_B (c : Dev nD) (t : Fin cfg0.N) (h0 : ¬t.val % 4 = 0) (y : S1024x1024.Idx) :
    (outsAt0 m c t.val t.isLt).1 y
      = conv (head (n := 1024) (outsAt0 m c (t.val - 1) (Nat.lt_of_le_of_lt (Nat.sub_le _ _) t.isLt)).2) (k0_pay4 (X0_0 m c t)) (iblk m c 1 t)  y := by
  rw [Gen.outsAt0_B m c t h0]
  frame_open
  frame_out
  generalize X0_0 m c t = x0
  generalize iblk m c 1 t = x1
  generalize (outsAt0 m c (t.val - 1) (Nat.lt_of_le_of_lt (Nat.sub_le _ _) t.isLt)).2 = D
  dsimp only [conv, taps]
  canon_tiles x h
  all_goals
    refine (tile_at _ _ _ _ _ x).trans ?_
    refine congrArg silu (congrArg₂ (· + ·) (congrArg₂ (· + ·) (congrArg₂ (· + ·) (congrArg₂ (· * ·) ?_ ?_) (congrArg₂ (· * ·) ?_ ?_))
      (congrArg₂ (· * ·) ?_ ?_)) (congrArg₂ (· * ·) ?_ ?_))
    · exact weight_at _ x1 (y 1) x 0 (by omega)
    rotate_left
    · exact weight_at _ x1 (y 1) x 1 (by omega)
    rotate_left
    · exact weight_at _ x1 (y 1) x 2 (by omega)
    rotate_left
    · exact weight_at _ x1 (y 1) x 3 (by omega)
    rotate_left
    all_goals
      first
        | have top : (y 0).val < 64 := by omega
          first
            | exact carried_at _ (k0_pay4 x0) D _ (read_unread_whole ..) _ _ (y 0) (y 1) x (by omega) (by omega)
            | exact row_at _ (k0_pay4 x0) _ _ _ _ (y 0) (y 1) x (by omega) (by omega) (by omega)
        | exact row_at _ (k0_pay4 x0) _ _ _ _ (y 0) (y 1) x (by omega) (by omega) (by omega)

/-- The rows carried out of a point are the last eight of its block. -/
theorem carry (c : Dev nD) (t : Fin cfg0.N) (e : Fin 1024) (i : Fin 8) :
    head (n := 1024) (outsAt0 m c t.val t.isLt).2 e i = (X0_0 m c t : FVec Ideal S1024x1024 .f32) (ix2 ⟨1016 + i.val, by omega⟩ e) := by
  have last (x0 : FVec Ideal S1024x1024 .f32) (L L' : Pieces 1024) (inb) :
      (View.canon (Val := Elt Ideal) (s := Rows 1024) (e := .f32) (⟨upper 1024, k0_pay2 (F := Ideal) ((View.whole cc0_scratch0).readCov (⟨lower 1024, k0_pay4 (F := Ideal) x0⟩ :: L)
        (Rect.unit (s := Rows 1024) ![1024, 0] ![8, 1024] inb).toLoadRect)⟩ :: L') (ix2 (n0 := 1032) ⟨i.val, by omega⟩ e) : EReal) = x0 (ix2 ⟨1016 + i.val, by omega⟩ e) := by
    rw [moved, stored]
    exact (canon_upper _ L' i e).trans (tail_at _ x0 L inb i e)
  by_cases h : t.val % 4 = 0
  · rw [Gen.outsAt0_A m c t h]
    frame_open
    frame_out
    exact last _ _ _ _
  · rw [Gen.outsAt0_B m c t h]
    frame_open
    frame_out
    exact last _ _ _ _

end Cert.GdnConvFwd.Proof

end
-- ==== Proof.GdnConvFwd.Kernel.lean ====
/- The array the convolution leaves: for each of three column blocks, four blocks of 1024 rows, the last eight rows of each
   carried into the next. -/
module

public import proofs.«01_k».proof.Proof.GdnConvFwd.Points
public import Idealize.ShloMosaic.Lib.StableHlo.ReadAt

@[expose] public section

set_option maxRecDepth 16384

noncomputable section

namespace Cert.GdnConvFwd.Proof

open Cert.Conv Cert.GdnConvFwdIdeal Cert.GdnConvFwdIdeal.Gen Idealize.ShloMosaic Idealize.ShloMosaic.TcCoe Idealize.SL.Sem

/-- A column of the projections that the convolution reads. -/
def source (p : FVec Ideal S4096x4224 .f32) (e : Fin 3072) (i : Fin 4096) : EReal := p (ix2 i ⟨e.val, by omega⟩)

/-- The silu of the four taps. -/
def convolved (p : FVec Ideal S4096x4224 .f32) (w : FVec Ideal S4x3072 .f32) : FVec Ideal S4096x3072 .f32 := fun y =>
  silu (taps (fun k => w (ix2 k (y 1))) (fun k => tap (source p (y 1)) ((y 0).val + k)))

variable (m : (ℓ : Loc nD τ sig) → Buf (Elt Ideal) ℓ)

section
variable (c : Dev nD)
abbrev pIn : FVec Ideal S4096x4224 .f32 := m ((c : Thread nD τ).loc main_arg0)
abbrev wIn : FVec Ideal S4x3072 .f32 := m ((c : Thread nD τ).loc main_arg1)
end

theorem places : ∀ t : Fin cfg0.N, win0_0.index t = ![t.val % 4, t.val / 4] ∧ win0_1.index t = ![0, t.val / 4] ∧ win0_2.index t = ![t.val % 4, t.val / 4] :=
  (by decide +kernel : ∀ t : Fin grid0.N, _)

/-- The rows of the block at a grid point. -/
theorem x_at (c : Dev nD) (t : Fin cfg0.N) (q : ℕ) (hq : t.val / 4 = q) (q3 : q < 3) (g : ℕ) (hg : t.val % 4 = g) (g4 : g < 4) (i : Fin 1024) (e : Fin 1024) :
    (X0_0 m c t : FVec Ideal S1024x1024 .f32) (ix2 i e) = source (pIn m c) ⟨q * 1024 + e.val, by omega⟩ ⟨g * 1024 + i.val, by omega⟩ := by
  subst hq hg
  unfold X0_0 Pipeline.Window.fill
  rw [dif_pos (moved0_0 t _)]
  exact (congrArg (V m c main_arg0) (show ((View.whole main_arg0).slice (win0_0.rect t)).emb _
      = (ix2 ⟨t.val % 4 * 1024 + i.val, by omega⟩ ⟨t.val / 4 * 1024 + e.val, by omega⟩ : S4096x4224.Idx) by blk_ext [(places t).1])).trans
    (congrFun (V_main_arg0 m c) _)

theorem w_at (c : Dev nD) (t : Fin cfg0.N) (q3 : t.val / 4 < 3) (k : Fin 4) (e : Fin 1024) :
    (iblk m c 1 t : FVec Ideal S4x1024 .f32) (ix2 k e) = wIn m c (ix2 k ⟨t.val / 4 * 1024 + e.val, by omega⟩) :=
  (congrArg (V m c main_arg1) (show ((View.whole main_arg1).slice (win0_1.rect t)).emb _
      = (ix2 k ⟨t.val / 4 * 1024 + e.val, by omega⟩ : S4x3072.Idx) by blk_ext [(places t).2.1])).trans (congrFun (V_main_arg1 m c) _)

theorem kernel_array (c : Dev nD) : (dats m 0 c).arrAt 2 cfg0.N = convolved (pIn m c) (wIn m c) := by
  refine (dats m 0 c).arrAt_eq_of_covers 2 _ (by decide +kernel) fun t hf y => ?_
  blk_simp
  rw [after0_2]
  obtain ⟨r, e, rfl⟩ : ∃ (r : Fin 1024) (e : Fin 1024), y = ix2 r e := ⟨y 0, y 1, eq_ix2 (n0 := 1024) (n1 := 1024) y⟩
  have ht : t.val < 12 := t.isLt
  have hq : t.val / 4 < 3 := by omega
  have hg : t.val % 4 < 4 := by omega
  have place : ((View.whole main_v0).slice (win0_2.rect t)).emb (ix2 r e)
      = (ix2 ⟨t.val % 4 * 1024 + r.val, by omega⟩ ⟨t.val / 4 * 1024 + e.val, by omega⟩ : S4096x3072.Idx) := by
    blk_ext [(places t).2.2]
  rw [place]
  have hx (i : Fin 1024) : col (n := 1024) (k0_pay4 (F := Ideal) (X0_0 m c t)) e i
      = source (pIn m c) ⟨t.val / 4 * 1024 + e.val, by omega⟩ ⟨t.val % 4 * 1024 + i.val, by omega⟩ := by
    rw [stored]
    exact x_at m c t _ rfl hq _ rfl hg i e
  have row (D : Fin 8 → EReal) (h0 : t.val % 4 = 0 → ∀ i, D i = 0)
      (hD : ∀ h : 0 < t.val % 4, ∀ i : Fin 8, D i = source (pIn m c) ⟨t.val / 4 * 1024 + e.val, by omega⟩ ⟨t.val % 4 * 1024 - 8 + i.val, by omega⟩) :
      silu (taps (fun k => (iblk m c 1 t : FVec Ideal S4x1024 .f32) (ix2 k e)) (fun k => pad D (col (n := 1024) (k0_pay4 (F := Ideal) (X0_0 m c t)) e) (r.val + (5 + k))))
        = convolved (pIn m c) (wIn m c) (ix2 ⟨t.val % 4 * 1024 + r.val, by omega⟩ ⟨t.val / 4 * 1024 + e.val, by omega⟩) := by
    exact congrArg silu (taps_congr (fun k => w_at m c t hq k e) (pad_tap (source (pIn m c) ⟨t.val / 4 * 1024 + e.val, by omega⟩) D _ (t.val % 4) hg hx h0 hD r.val r.isLt))
  by_cases h : t.val % 4 = 0
  · exact (y_A m c t h (ix2 r e)).trans (row _ (fun _ i => zeros _) (fun hp => absurd h (by omega)))
  · refine (y_B m c t h (ix2 r e)).trans (row _ (fun h' => absurd h' h) (fun hp i => ?_))
    have hN : t.val - 1 < cfg0.N := Nat.lt_of_le_of_lt (Nat.sub_le _ _) t.isLt
    refine (carry m c ⟨t.val - 1, hN⟩ e i).trans ?_
    refine (x_at m c ⟨t.val - 1, hN⟩ (t.val / 4) (by show (t.val - 1) / 4 = t.val / 4; omega) hq (t.val % 4 - 1)
      (by show (t.val - 1) % 4 = t.val % 4 - 1; omega) (by omega) ⟨1016 + i.val, by omega⟩ e).trans ?_
    exact congrArg (source (pIn m c) ⟨t.val / 4 * 1024 + e.val, by omega⟩)
      (Fin.ext (by show (t.val % 4 - 1) * 1024 + (1016 + i.val) = t.val % 4 * 1024 - 8 + i.val; omega))

end Cert.GdnConvFwd.Proof

end
-- ==== Proof.GdnConvFwd.Claims.lean ====
/- The claims about the short convolution before the gated delta rule. -/
module

public import proofs.«01_k».proof.Defs
public import proofs.«01_k».proof.Proof.GdnConvFwd.Kernel
public import proofs.«01_k».proof.Proof.Gen.GdnConvFwd.Frame
public import proofs.«01_k».proof.Proof.Gen.GdnConvFwdRefIdeal.Run
public import proofs.«01_k».proof.Proof.Gen.GdnConvFwdRefIdeal.Read

@[expose] public section

set_option maxRecDepth 16384

noncomputable section

namespace Cert.GdnConvFwd.Ref

open Cert.GdnConvFwdRefIdeal Cert.GdnConvFwdRefIdeal.Gen Cert.GdnConvFwdRefIdeal.Read Idealize.ShloMosaic Idealize.ShloMosaic.TcCoe Idealize.SL.Sem

theorem padded_at (p : FVec Ideal S4096x4224 .f32) (n : Fin 4099) (e : Fin 3072) : val_main_v2 (F := Ideal) p (ix2 n e) = Conv.tap (Proof.source p e) n.val := by
  unfold val_main_v2 val_main_v1 val_main_cst val_main_v0
  pointwise
  unfold Conv.tap
  split
  · rfl
  · rw [dif_pos n.isLt]
    rfl

theorem array_at (p : FVec Ideal S4096x4224 .f32) (w : FVec Ideal S4x3072 .f32) (r : Fin 4096) (e : Fin 3072) :
    val_main_v32 (F := Ideal) p w (ix2 r e) = Proof.convolved p w (ix2 r e) := by
  unfold val_main_v32 val_main_call0_v5 val_main_call0_v4 val_main_call0_cst_0 val_main_call0_v3 val_main_call0_v2 val_main_call0_cst
    val_main_call0_v1 val_main_call0_v0 val_main_v31 val_main_v30 val_main_v29 val_main_v28 val_main_v27 val_main_v26 val_main_v25
    val_main_v24 val_main_v23 val_main_v22 val_main_v21 val_main_v20 val_main_v19 val_main_v18 val_main_v17 val_main_v16 val_main_v15
    val_main_v14 val_main_v13 val_main_v12 val_main_v11 val_main_v10 val_main_v9 val_main_cst_0 val_main_v8 val_main_v7 val_main_v6
    val_main_v5 val_main_v4 val_main_v3
  pointwise
  simp only [padded_at]
  rw [Nat.add_comm 1 r.val, Nat.add_comm 2 r.val, Nat.add_comm 3 r.val]
  rfl

end Cert.GdnConvFwd.Ref

namespace Cert.GdnConvFwd.Proof

open Idealize.ShloMosaic Idealize.ShloMosaic.TcCoe Idealize.SL.Sem

theorem reference_array (p : FVec Ideal Cert.GdnConvFwdRefIdeal.S4096x4224 .f32) (w : FVec Ideal Cert.GdnConvFwdRefIdeal.S4x3072 .f32) :
    Cert.GdnConvFwdRefIdeal.Read.val_main_v32 (F := Ideal) p w = convolved p w := by
  funext y
  obtain ⟨r, e, rfl⟩ : ∃ (r : Fin 4096) (e : Fin 3072), y = ix2 r e := ⟨y 0, y 1, eq_ix2 (n0 := 4096) (n1 := 3072) y⟩
  exact Ref.array_at p w r e

theorem reference_frame : Cert.quiescent_GdnConvFwdRefIdeal (hGdnConvFwdRefIdeal := Cert.GdnConvFwdRefIdeal.Gen.facts) := fun m g _ =>
  (θ_run Cert.GdnConvFwdRefIdeal.defs _ _).mono (fun r h => ⟨fun c => (h c).2, sem_eq_zero_of_no_sems (by decide) r.2⟩)
    (Cert.GdnConvFwdRefIdeal.Value.run m g)

theorem algebraic : Cert.algebraic_GdnConvFwdIdeal_GdnConvFwdRefIdeal (hGdnConvFwdIdeal := Cert.GdnConvFwdIdeal.Gen.facts)
    (hGdnConvFwdRefIdeal := Cert.GdnConvFwdRefIdeal.Gen.facts) := by
  intro m g m' g' _ hargs
  refine ⟨fun c => convolved (pIn m c) (wIn m c), ?_, ?_⟩
  · exact (θ_run Cert.GdnConvFwdIdeal.defs _ _).mono (fun r h c => ⟨(h c).1.trans (kernel_array m c), (h c).2⟩)
      (Cert.GdnConvFwdIdeal.Value.run_blocks m g)
  · refine (θ_run Cert.GdnConvFwdRefIdeal.defs _ _).mono (fun r h c => ?_) (Cert.GdnConvFwdRefIdeal.Value.run m' g')
    obtain ⟨a0, a1⟩ := hargs c
    refine ⟨(h c).1.trans ?_, (h c).2⟩
    refine (Cert.GdnConvFwdRefIdeal.Read.val_main_v32_eq _ _).trans ?_
    rw [a0, a1]
    exact reference_array _ _

end Cert.GdnConvFwd.Proof

end
-- ==== Proof.Conv.Grad.lean ====
/-
The gradient of the causal convolution, one column at a time: a buffer of tiles stored from the last row to the first, with
eight rows of the block behind below them, and the sums over the rows of a block in the order the tiles are met.
-/
module

public import proofs.«01_k».proof.Proof.Conv.Rows

@[expose] public section

set_option maxRecDepth 16384

noncomputable section

namespace Cert.Conv

open Idealize.ShloMosaic

/-- Row i of a column: the block's, then the eight of the block behind. -/
def next (x : Fin 1024 → EReal) (D : Fin 8 → EReal) (i : ℕ) : EReal :=
  if h : i < 1024 then x ⟨i, h⟩ else if h' : i < 1032 then D ⟨i - 1024, by omega⟩ else 0

/-- Row i of a column of the whole array above rows of zeros. -/
def past (d : Fin 4096 → EReal) (i : ℕ) : EReal := if h : i < 4096 then d ⟨i, h⟩ else 0

theorem next_past (d : Fin 4096 → EReal) (x : Fin 1024 → EReal) (D : Fin 8 → EReal) (g : ℕ) (hg : g < 4)
    (hx : ∀ i : Fin 1024, x i = d ⟨g * 1024 + i.val, by omega⟩)
    (h0 : g = 3 → ∀ i, D i = 0) (hD : ∀ h : g < 3, ∀ i : Fin 8, D i = d ⟨(g + 1) * 1024 + i.val, by omega⟩)
    (r : ℕ) (hr : r < 1024) (k : ℕ) (hk : k < 4) : next x D (r + k) = past d (g * 1024 + r + k) := by
  unfold next past
  by_cases h : r + k < 1024
  · rw [dif_pos h, dif_pos (by omega), hx]
    exact congrArg d (Fin.ext (by show g * 1024 + (r + k) = g * 1024 + r + k; omega))
  · rw [dif_neg h, dif_pos (by omega)]
    by_cases h3 : g = 3
    · rw [h0 h3, dif_neg (by omega)]
    · rw [hD (by omega), dif_pos (by omega)]
      exact congrArg d (Fin.ext (by show (g + 1) * 1024 + (r + k - 1024) = g * 1024 + r + k; omega))

/-- The four taps read the other way. -/
def back (w : Fin 4 → EReal) (f : ℕ → EReal) : EReal := ((w 3 * f 0 + w 2 * f 1) + w 1 * f 2) + w 0 * f 3

theorem back_congr {w w' : Fin 4 → EReal} {f g : ℕ → EReal} (hw : ∀ k, w k = w' k) (h : ∀ k < 4, f k = g k) : back w f = back w' g := by
  unfold back
  rw [hw, hw, hw, hw, h 0 (by omega), h 1 (by omega), h 2 (by omega), h 3 (by omega)]

/-! ## Sums -/

/-- The sum over the rows s, s + 8, … of the last c tiles of 64 rows. -/
def part (f : Fin 1024 → EReal) (s : Fin 8) : ℕ → EReal
  | 0 => 0
  | c + 1 => part f s c + ∑ q : Fin 8, f ⟨960 - 64 * c + (q.val * 8 + s.val), by omega⟩

theorem blocks (m n : ℕ) (F : ℕ → EReal) : ∑ k ∈ Finset.range (m * n), F k = ∑ a ∈ Finset.range m, ∑ b ∈ Finset.range n, F (a * n + b) := by
  induction m with
  | zero => simp
  | succ m ih => rw [Nat.succ_mul, Finset.sum_range_add, ih, Finset.sum_range_succ]

theorem part_eq (F : ℕ → EReal) (s : Fin 8) (c : ℕ) :
    part (fun i => F i.val) s c = ∑ a ∈ Finset.range c, ∑ q ∈ Finset.range 8, F (960 - 64 * a + (q * 8 + s.val)) := by
  induction c with
  | zero => rfl
  | succ c ih =>
    rw [Finset.sum_range_succ, ← ih, Finset.sum_range]
    rfl

theorem total (f : Fin 1024 → EReal) : ∑ s : Fin 8, part f s 16 = ∑ i, f i := by
  obtain ⟨F, rfl⟩ : ∃ F : ℕ → EReal, f = fun i => F i.val :=
    ⟨fun k => if h : k < 1024 then f ⟨k, h⟩ else 0, by funext i; simp⟩
  simp only [part_eq]
  rw [Finset.sum_comm]
  rw [← Finset.sum_range (n := 1024) F, show (1024 : ℕ) = 16 * 64 from rfl, blocks 16 64 F, ← Finset.sum_range_reflect]
  refine Finset.sum_congr rfl fun a ha => ?_
  have ha' := Finset.mem_range.mp ha
  rw [show (64 : ℕ) = 8 * 8 from rfl, blocks 8 8]
  rw [Finset.sum_comm]
  refine Finset.sum_congr rfl fun q _ => ?_
  rw [Finset.sum_range]
  refine Finset.sum_congr rfl fun s _ => congrArg F ?_
  omega

theorem four_terms (G : ℕ → EReal) : (((0 + G 3) + G 2) + G 1) + G 0 = ∑ a ∈ Finset.range 4, G a := by
  simp only [Finset.sum_range_succ, Finset.sum_range_zero]
  abel

/-- The sums of the four blocks, last block first. -/
theorem four (f : Fin 4096 → EReal) (g : ℕ → EReal) (hg : ∀ a < 4, g a = ∑ i : Fin 1024, f ⟨a % 4 * 1024 + i.val, by omega⟩) :
    (((0 + g 3) + g 2) + g 1) + g 0 = ∑ i, f i := by
  obtain ⟨F, rfl⟩ : ∃ F : ℕ → EReal, f = fun i => F i.val :=
    ⟨fun k => if h : k < 4096 then f ⟨k, h⟩ else 0, by funext i; simp⟩
  refine (four_terms g).trans (Eq.trans ?_ (((Finset.sum_range F).symm.trans (blocks 4 1024 F)).symm))
  refine Finset.sum_congr rfl fun a ha => ?_
  have ha' := Finset.mem_range.mp ha
  rw [hg a ha', Finset.sum_range]
  refine Finset.sum_congr rfl fun i _ => congrArg F ?_
  show a % 4 * 1024 + i.val = a * 1024 + i.val
  omega

/-! ## Tiles of a buffer -/

abbrev Grid (a b : ℕ) : Shape := ⟨2, ![a, b]⟩

section
variable {N M o q a b : ℕ}

theorem at_place (inb : ∀ k, (![o, q] : Fin 2 → ℕ) k + (![a, b] : Fin 2 → ℕ) k ≤ (Grid N M).size k) (i : Fin N) (e : Fin M)
    (z : (Grid a b).Idx) (h0 : i.val = o + (z 0).val) (h1 : e.val = q + (z 1).val) :
    (Rect.unit (s := Grid N M) ![o, q] ![a, b] inb).emb z = ix2 i e := by
  funext k
  apply Fin.ext
  fin_cases k
  · show o + 1 * (z 0).val = i.val; omega
  · show q + 1 * (z 1).val = e.val; omega

theorem outside (inb : ∀ k, (![o, q] : Fin 2 → ℕ) k + (![a, b] : Fin 2 → ℕ) k ≤ (Grid N M).size k) (i : Fin N) (e : Fin M)
    (out : i.val < o ∨ o + a ≤ i.val ∨ e.val < q ∨ q + b ≤ e.val) : ix2 i e ∉ (Rect.unit (s := Grid N M) ![o, q] ![a, b] inb).set := by
  intro hm
  have h0 : o ≤ i.val ∧ i.val < o + a := Rect.mem_set_unit.mp hm 0
  have h1 : q ≤ e.val ∧ e.val < q + b := Rect.mem_set_unit.mp hm 1
  omega

/-- A tile that does not hold the entry is passed over. -/
theorem skip (inb : ∀ k, (![o, q] : Fin 2 → ℕ) k + (![a, b] : Fin 2 → ℕ) k ≤ (Grid N M).size k) (Z : Mat (Grid a b))
    (L : List (View.Piece (Elt Ideal) (Grid N M) .f32)) (i : Fin N) (e : Fin M) (r : EReal)
    (out : i.val < o ∨ o + a ≤ i.val ∨ e.val < q ∨ q + b ≤ e.val)
    (rest : (View.canon (Val := Elt Ideal) (s := Grid N M) (e := .f32) L (ix2 i e) : EReal) = r) :
    (View.canon (Val := Elt Ideal) (s := Grid N M) (e := .f32) (⟨Rect.unit (s := Grid N M) ![o, q] ![a, b] inb, Z⟩ :: L) (ix2 i e) : EReal) = r :=
  (View.canon_cons_of_not_mem (⟨Rect.unit (s := Grid N M) ![o, q] ![a, b] inb, Z⟩ : View.Piece (Elt Ideal) (Grid N M) .f32) L
    (outside inb i e out)).trans rest

/-- The tile that holds it. -/
theorem hit (inb : ∀ k, (![o, q] : Fin 2 → ℕ) k + (![a, b] : Fin 2 → ℕ) k ≤ (Grid N M).size k) (Z : Mat (Grid a b))
    (L : List (View.Piece (Elt Ideal) (Grid N M) .f32)) (i : Fin N) (e : Fin M) (z : (Grid a b).Idx)
    (h0 : i.val = o + (z 0).val) (h1 : e.val = q + (z 1).val) :
    (View.canon (Val := Elt Ideal) (s := Grid N M) (e := .f32) (⟨Rect.unit (s := Grid N M) ![o, q] ![a, b] inb, Z⟩ :: L) (ix2 i e) : EReal) = Z z :=
  (congrArg (View.canon _) (at_place inb i e z h0 h1).symm).trans (View.canon_cons_emb _ _ _ _)

/-- A load of an array. -/
theorem cell_at (inb : ∀ k, (![o, q] : Fin 2 → ℕ) k + (![a, b] : Fin 2 → ℕ) k ≤ (Grid N M).size k) (X : Mat (Grid N M)) (i : Fin N) (e : Fin M)
    (z : (Grid a b).Idx) (h0 : i.val = o + (z 0).val) (h1 : e.val = q + (z 1).val) :
    (View.ld (Val := Elt Ideal) (e' := .f32) X (Rect.unit (s := Grid N M) ![o, q] ![a, b] inb) z : EReal) = X (ix2 i e) :=
  congrArg X (at_place inb i e z h0 h1)

variable {sig : RefSig} {κ : Kind} {sp : Space}

/-- A load of stored tiles. -/
theorem load_at (v : View sig κ sp (Grid N M) .f32) (L : List (View.Piece (Elt Ideal) (Grid N M) .f32))
    (inb : ∀ k, (![o, q] : Fin 2 → ℕ) k + (![a, b] : Fin 2 → ℕ) k ≤ (Grid N M).size k) (i : Fin N) (e : Fin M) (z : (Grid a b).Idx) (r : EReal)
    (h0 : i.val = o + (z 0).val) (h1 : e.val = q + (z 1).val)
    (rest : (View.canon (Val := Elt Ideal) (s := Grid N M) (e := .f32) L (ix2 i e) : EReal) = r) :
    (v.readCov (Val := Elt Ideal) L (Rect.unit (s := Grid N M) ![o, q] ![a, b] inb).toLoadRect z : EReal) = r := by
  rw [View.readCov_eq_canon']
  exact (congrArg (View.canon _) (at_place inb i e z h0 h1)).trans rest
end

section
variable {n o q : ℕ}

theorem in_block (X : Mat (Block n)) (D : Fin 8 → EReal) (i : ℕ) (e : Fin n) (h : i < 1024) : next (col X e) D i = X (ix2 ⟨i, h⟩ e) := by
  unfold next
  rw [dif_pos h]
  rfl

theorem uncast (X : FVec Ideal Tile .f32) (hc : Tile.ShapeCasts Tile) (z : Tile.Idx) : shapeCast Tile X hc z = X z :=
  congrFun (shapeCast_self X hc) z

/-- A stored tile of the block. -/
theorem tile_hit (X : Mat (Block n)) (D : Fin 8 → EReal) (inb : ∀ k, (![o, q] : Fin 2 → ℕ) k + (![64, 128] : Fin 2 → ℕ) k ≤ (Rows n).size k)
    (inb' : ∀ k, (![o, q] : Fin 2 → ℕ) k + (![64, 128] : Fin 2 → ℕ) k ≤ (Block n).size k) (hc : Tile.ShapeCasts Tile) (L : Pieces n) (i : Fin 1032) (e : Fin n)
    (h0 : o ≤ i.val) (h0' : i.val < o + 64) (h1 : q ≤ e.val) (h1' : e.val < q + 128) :
    (View.canon (Val := Elt Ideal) (s := Rows n) (e := .f32) (⟨Rect.unit (s := Rows n) ![o, q] ![64, 128] inb,
      (shapeCast Tile (View.ld (Val := Elt Ideal) (e' := .f32) X (Rect.unit (s := Block n) ![o, q] ![64, 128] inb') : Mat Tile) hc : Mat Tile)⟩ :: L) (ix2 i e) : EReal)
      = next (col X e) D i.val := by
  have b : o + 64 ≤ 1024 := inb' 0
  refine (hit inb _ L i e (ix2 ⟨i.val - o, by omega⟩ ⟨e.val - q, by omega⟩) (by show i.val = o + (i.val - o); omega) (by show e.val = q + (e.val - q); omega)).trans ?_
  refine (uncast _ hc _).trans ?_
  refine (cell_at inb' X ⟨i.val, by omega⟩ e _ (by show i.val = o + (i.val - o); omega) (by show e.val = q + (e.val - q); omega)).trans ?_
  exact (in_block X D i.val e (by omega)).symm

/-- The eight rows below the block. -/
theorem base_hit (x : Fin 1024 → EReal) (D : Fin 8 → EReal) (Z : Mat (Carried n)) (e : Fin n) (hZ : ∀ k, Z (ix2 k e) = D k) (inb) (L : Pieces n) (i : Fin 1032) (h0 : 1024 ≤ i.val) :
    (View.canon (Val := Elt Ideal) (s := Rows n) (e := .f32) (⟨Rect.unit (s := Rows n) ![1024, 0] ![8, n] inb, Z⟩ :: L) (ix2 i e) : EReal)
      = next x D i.val := by
  refine (hit inb Z L i e (ix2 ⟨i.val - 1024, by omega⟩ e) (by show i.val = 1024 + (i.val - 1024); omega) (by show e.val = 0 + e.val; omega)).trans ?_
  rw [hZ]
  unfold next
  rw [dif_neg (by omega), dif_pos i.isLt]
/-- A load of rows that begin k below row r of the block. -/
theorem load_next {sig : RefSig} {κ : Kind} {sp : Space} (v : View sig κ sp (Rows n) .f32) (L : Pieces n)
    (inb : ∀ k, (![o, q] : Fin 2 → ℕ) k + (![64, 128] : Fin 2 → ℕ) k ≤ (Rows n).size k) (x : Fin 1024 → EReal) (D : Fin 8 → EReal) (r : Fin 1024) (k : ℕ)
    (e : Fin n) (z : Tile.Idx) (h0 : r.val + k = o + (z 0).val) (h1 : e.val = q + (z 1).val)
    (rest : ∀ i : Fin 1032, i.val = o + (z 0).val → (View.canon (Val := Elt Ideal) (s := Rows n) (e := .f32) L (ix2 i e) : EReal) = next x D i.val) :
    (v.readCov (Val := Elt Ideal) L (Rect.unit (s := Rows n) ![o, q] ![64, 128] inb).toLoadRect z : EReal) = next x D (r.val + k) := by
  have b : o + 64 ≤ 1032 := inb 0
  have z0 : (z 0).val < 64 := (z 0).isLt
  rw [h0]
  exact load_at v L inb ⟨o + (z 0).val, by omega⟩ e z _ rfl h1 (rest ⟨o + (z 0).val, by omega⟩ rfl)

theorem here_at (inb : ∀ k, (![o, q] : Fin 2 → ℕ) k + (![64, 128] : Fin 2 → ℕ) k ≤ (Block n).size k) (X : Mat (Block n)) (D : Fin 8 → EReal)
    (r : Fin 1024) (e : Fin n) (z : Tile.Idx) (h0 : r.val = o + (z 0).val) (h1 : e.val = q + (z 1).val) :
    (View.ld (Val := Elt Ideal) (e' := .f32) X (Rect.unit (s := Block n) ![o, q] ![64, 128] inb) z : EReal) = next (col X e) D (r.val + 0) :=
  (cell_at inb X r e z h0 h1).trans (in_block X D r.val e r.isLt).symm

/-- The same over contents a point inherits. -/
theorem kept_skip {a b : ℕ} {sig : RefSig} {κ : Kind} {sp : Space} (v : View sig κ sp (Rows n) .f32) (f : v.ty.Contents (Elt Ideal))
    (inb : ∀ k, (![o, q] : Fin 2 → ℕ) k + (![a, b] : Fin 2 → ℕ) k ≤ (Rows n).size k) (Z : Mat (Grid a b)) (L : Pieces n) (i : Fin 1032) (e : Fin n) (r : EReal)
    (out : i.val < o ∨ o + a ≤ i.val ∨ e.val < q ∨ q + b ≤ e.val)
    (rest : (v.read (Elt Ideal) (v.writes (Elt Ideal) f L) (ix2 i e) : EReal) = r) :
    (v.read (Elt Ideal) (v.writes (Elt Ideal) f (⟨Rect.unit (s := Rows n) ![o, q] ![a, b] inb, Z⟩ :: L)) (ix2 i e) : EReal) = r := by
  rw [View.writes_cons]
  exact (View.read_slice_write_of_not_mem _ _ _ _ (by rw [Rect.map_emb_univ]; exact outside inb i e out)).trans rest

theorem kept_hit {sig : RefSig} {κ : Kind} {sp : Space} (v : View sig κ sp (Rows n) .f32) (f : v.ty.Contents (Elt Ideal)) (X : Mat (Block n)) (D : Fin 8 → EReal)
    (inb) (inb') (hc : Tile.ShapeCasts Tile) (L : Pieces n) (i : Fin 1032) (e : Fin n) (h0 : o ≤ i.val) (h0' : i.val < o + 64) (h1 : q ≤ e.val) (h1' : e.val < q + 128) :
    (v.read (Elt Ideal) (v.writes (Elt Ideal) f (⟨Rect.unit (s := Rows n) ![o, q] ![64, 128] inb,
      (shapeCast Tile (View.ld (Val := Elt Ideal) (e' := .f32) X (Rect.unit (s := Block n) ![o, q] ![64, 128] inb') : Mat Tile) hc : Mat Tile)⟩ :: L)) (ix2 i e) : EReal)
      = next (col X e) D i.val :=
  (View.read_writes_apply_eq_canon v f (ix2 i e) _ ⟨_, List.mem_cons_self .., by
    rw [Rect.mem_set_unit]; intro k; fin_cases k
    · exact ⟨h0, h0'⟩
    · exact ⟨h1, h1'⟩⟩).trans (tile_hit X D inb inb' hc L i e h0 h0' h1 h1')

theorem kept_base {sig : RefSig} {κ : Kind} {sp : Space} (v : View sig κ sp (Rows n) .f32) (f : v.ty.Contents (Elt Ideal)) (W : Mat (Rows n))
    (hf : v.read (Elt Ideal) f = W) (x : Fin 1024 → EReal) (i : Fin 1032) (e : Fin n) (h0 : 1024 ≤ i.val) :
    (v.read (Elt Ideal) (v.writes (Elt Ideal) f []) (ix2 i e) : EReal) = next x (fun k => W (ix2 ⟨1024 + k.val, by omega⟩ e)) i.val := by
  rw [View.writes_nil, hf]
  unfold next
  rw [dif_neg (by omega), dif_pos (by omega)]
  exact congrArg (fun j => W (ix2 j e)) (Fin.ext (by show i.val = 1024 + (i.val - 1024); omega))

theorem kept_next (X : Mat (Rows n))
    (inb : ∀ k, (![o, q] : Fin 2 → ℕ) k + (![64, 128] : Fin 2 → ℕ) k ≤ (Rows n).size k) (x : Fin 1024 → EReal) (D : Fin 8 → EReal) (r : Fin 1024) (k : ℕ)
    (e : Fin n) (z : Tile.Idx) (h0 : r.val + k = o + (z 0).val) (h1 : e.val = q + (z 1).val)
    (rest : ∀ i : Fin 1032, i.val = o + (z 0).val → (X (ix2 i e) : EReal) = next x D i.val) :
    (View.ld (Val := Elt Ideal) (e' := .f32) X (Rect.unit (s := Rows n) ![o, q] ![64, 128] inb) z : EReal) = next x D (r.val + k) := by
  have b : o + 64 ≤ 1032 := inb 0
  have z0 : (z 0).val < 64 := (z 0).isLt
  rw [h0]
  exact (cell_at inb X ⟨o + (z 0).val, by omega⟩ e z rfl h1).trans (rest ⟨o + (z 0).val, by omega⟩ rfl)

/-- A row of the block times the row k above it of the padded columns. -/
def weighted (X d : Mat (Block n)) (D : Fin 8 → EReal) (e : Fin n) (k : ℕ) (i : Fin 1024) : EReal :=
  d (ix2 i e) * pad D (col X e) (i.val + (5 + k))

/-- One row of one tile of a tap's sum. -/
theorem weighted_at {sig : RefSig} {κ : Kind} {sp : Space} (v : View sig κ sp (Rows n) .f32) {o' : ℕ} (inb) (inb') (X d : Mat (Block n)) (Z : Mat (Carried n))
    (e : Fin n) (k : ℕ) (i : Fin 1024) (r : Fin 64) (l : Fin 128) (h0 : i.val = o + r.val) (hk : o' = o + (5 + k)) (h1 : e.val = q + l.val) :
    (View.ld (Val := Elt Ideal) (e' := .f32) d (Rect.unit (s := Block n) ![o, q] ![64, 128] inb) (ix2 r l)
      * v.readCov (Val := Elt Ideal) [⟨lower n, X⟩, ⟨upper n, Z⟩] (Rect.unit (s := Rows n) ![o', q] ![64, 128] inb').toLoadRect (ix2 r l) : EReal)
      = weighted X d (fun k => Z (ix2 k e)) e k i :=
  congrArg₂ (· * ·) (cell_at inb d i e (ix2 r l) h0 h1) (both_at v X Z inb' (5 + k) i e (ix2 r l) (by show i.val + (5 + k) = o' + r.val; omega) h1)
end

end Cert.Conv

end
-- ==== Proof.LruConv.Points.lean ====
/-
What each grid point leaves: the gradient of the columns in every tile, the sums for the taps and the bias, and the rows
carried into the block before.
-/
module

public import proofs.«01_k».proof.Proof.Gen.LruConvIdeal.Value
public import proofs.«01_k».proof.Proof.Conv.Grad

@[expose] public section

set_option maxRecDepth 65536
set_option maxHeartbeats 4000000

noncomputable section

namespace Cert.LruConv.Proof

open Cert.Conv Cert.LruConvIdeal Cert.LruConvIdeal.Gen Idealize.ShloMosaic Idealize.ShloMosaic.TcCoe Idealize.SL.Sem

theorem tile_at (w : FVec Ideal S4x128 .f32) (a b c d : FVec Ideal S64x128 .f32) (x : S64x128.Idx) :
    (k0_pay15 (F := Ideal) w a b c d x : EReal)
      = ((w (ix2 3 (x 1)) * a x + w (ix2 2 (x 1)) * b x) + w (ix2 1 (x 1)) * c x) + w (ix2 0 (x 1)) * d x := by
  obtain ⟨r, e, rfl⟩ : ∃ r e, x = ix2 r e := ⟨x 0, x 1, by funext a; fin_cases a <;> rfl⟩
  unfold k0_pay15
  pointwise

theorem stored (x : FVec Ideal S1024x512 .f32) : k0_pay8 (F := Ideal) x = x := by
  unfold k0_pay8
  exact shapeCast_self _ _

theorem moved (x : FVec Ideal S8x512 .f32) : k0_pay3 (F := Ideal) x = x := by
  unfold k0_pay3
  exact shapeCast_self _ _

theorem below_zero (z : S8x512.Idx) : (k0_pay4 (F := Ideal) z : EReal) = 0 := by
  obtain ⟨r, e, rfl⟩ : ∃ r e, z = ix2 r e := ⟨z 0, z 1, by funext a; fin_cases a <;> rfl⟩
  unfold k0_pay4
  pointwise

theorem dw_zero (z : S4x512.Idx) : (k0_pay5 (F := Ideal) z : EReal) = 0 := by
  unfold k0_pay5
  pointwise

theorem db_zero (z : S1x512.Idx) : (k0_pay6 (F := Ideal) z : EReal) = 0 := by
  unfold k0_pay6
  pointwise

theorem acc_zero (z : S8x128.Idx) : (k0_pay9 (F := Ideal) z : EReal) = 0 := by
  unfold k0_pay9
  pointwise

/-- One tile more of a tap's sum. -/
theorem step_at (A : FVec Ideal S8x128 .f32) (x d : FVec Ideal S64x128 .f32) (s : Fin 8) (l : Fin 128) :
    (k0_pay16 (F := Ideal) A x d (ix2 s l) : EReal) = A (ix2 s l) + ∑ q : Fin 8, d (ix2 ⟨q.val * 8 + s.val, by omega⟩ l) * x (ix2 ⟨q.val * 8 + s.val, by omega⟩ l) := by
  unfold k0_pay16
  pointwise

/-- One tile more of the bias's sum. -/
theorem step0_at (A : FVec Ideal S8x128 .f32) (d : FVec Ideal S64x128 .f32) (s : Fin 8) (l : Fin 128) :
    (k0_pay20 (F := Ideal) A d (ix2 s l) : EReal) = A (ix2 s l) + ∑ q : Fin 8, d (ix2 ⟨q.val * 8 + s.val, by omega⟩ l) := by
  unfold k0_pay20
  pointwise

theorem fin_at (A : FVec Ideal S8x128 .f32) (W : FVec Ideal S1x128 .f32) (z : S1x128.Idx) :
    (k0_pay2 (F := Ideal) A W z : EReal) = W z + ∑ s : Fin 8, A (ix2 s (z 1)) := by
  obtain ⟨r, e, rfl⟩ : ∃ r e, z = ix2 r e := ⟨z 0, z 1, by funext a; fin_cases a <;> rfl⟩
  unfold k0_pay2
  pointwise

theorem step (f : Fin 1024 → EReal) (s : Fin 8) (c : ℕ) (A : FVec Ideal S8x128 .f32) (x d : FVec Ideal S64x128 .f32) (l : Fin 128)
    (hA : (A (ix2 s l) : EReal) = part f s c)
    (h : ∀ (q : Fin 8) (i : Fin 1024) (r : Fin 64), i.val = 960 - 64 * c + (q.val * 8 + s.val) → r.val = q.val * 8 + s.val → (d (ix2 r l) * x (ix2 r l) : EReal) = f i) :
    (k0_pay16 (F := Ideal) A x d (ix2 s l) : EReal) = part f s (c + 1) :=
  (step_at A x d s l).trans (congrArg₂ (· + ·) hA (Finset.sum_congr rfl fun q _ => h q _ _ rfl rfl))

theorem step0 (f : Fin 1024 → EReal) (s : Fin 8) (c : ℕ) (A : FVec Ideal S8x128 .f32) (d : FVec Ideal S64x128 .f32) (l : Fin 128)
    (hA : (A (ix2 s l) : EReal) = part f s c)
    (h : ∀ (q : Fin 8) (i : Fin 1024) (r : Fin 64), i.val = 960 - 64 * c + (q.val * 8 + s.val) → r.val = q.val * 8 + s.val → (d (ix2 r l) : EReal) = f i) :
    (k0_pay20 (F := Ideal) A d (ix2 s l) : EReal) = part f s (c + 1) :=
  (step0_at A d s l).trans (congrArg₂ (· + ·) hA (Finset.sum_congr rfl fun q _ => h q _ _ rfl rfl))

/-- A sum over the rows of a block, added to what was there. -/
theorem summed (f : Fin 1024 → EReal) (A : FVec Ideal S8x128 .f32) (W : FVec Ideal S1x128 .f32) (w : EReal) (z : S1x128.Idx) (hW : (W z : EReal) = w)
    (h : ∀ s, (A (ix2 s (z 1)) : EReal) = part f s 16) : (k0_pay2 (F := Ideal) A W z : EReal) = w + ∑ i, f i :=
  (fin_at A W z).trans (congrArg₂ (· + ·) hW ((Finset.sum_congr rfl fun s _ => h s).trans (total f)))

variable (m : (ℓ : Loc nD τ sig) → Buf (Elt Ideal) ℓ)

/-- The rows above a block. -/
abbrev above (c : Dev nD) (t : Fin cfg0.N) (e : Fin 512) (k : Fin 8) : EReal := k0_pay7 (F := Ideal) (grid0.coords t) (iblk m c 1 t) (ix2 k e)

/-- The rows a point leaves for the next. -/
def tail (D : Mat (Rows 512)) (e : Fin 512) (k : Fin 8) : EReal := D (ix2 (n0 := 1032) ⟨1024 + k.val, by omega⟩ e)

theorem dx_A (c : Dev nD) (t : Fin cfg0.N) (h0 : t.val % 4 = 0) (y : S1024x512.Idx) :
    ((outsAt0 m c t.val t.isLt).1 y : EReal)
      = back (fun k => (iblk m c 2 t : FVec Ideal S4x512 .f32) (ix2 k (y 1)))
        (fun k => next (col (n := 512) (iblk m c 4 t) (y 1)) (fun k => k0_pay4 (F := Ideal) (ix2 k (y 1))) ((y 0).val + k)) := by
  rw [Gen.outsAt0_A m c t h0]
  generalize iblk m c 0 t = x0
  generalize iblk m c 1 t = x1
  generalize iblk m c 2 t = x2
  generalize iblk m c 3 t = x3
  generalize iblk m c 4 t = x4
  frame_open
  frame_out
  dsimp only [back]
  canon_tiles x h
  all_goals
    refine (tile_at _ _ _ _ _ x).trans ?_
    refine congrArg₂ (· + ·) (congrArg₂ (· + ·) (congrArg₂ (· + ·)
        (congrArg₂ (· * ·) (weight_at _ x2 (y 1) x 3 (by omega)) (here_at _ x4 _ (y 0) (y 1) x (by omega) (by omega)))
        (congrArg₂ (· * ·) (weight_at _ x2 (y 1) x 2 (by omega)) ?_)) (congrArg₂ (· * ·) (weight_at _ x2 (y 1) x 1 (by omega)) ?_))
        (congrArg₂ (· * ·) (weight_at _ x2 (y 1) x 0 (by omega)) ?_)
    all_goals
      refine load_next _ _ _ _ _ (y 0) _ (y 1) x (by omega) (by omega) fun i hi => ?_
      rcases Nat.lt_or_ge i.val (64 * ((y 0).val / 64) + 64) with hh | hh
      all_goals
        repeat refine skip _ _ _ _ _ _ (by omega) ?_
        first
          | exact tile_hit x4 _ _ _ _ _ i (y 1) (by omega) (by omega) (by omega) (by omega)
          | exact base_hit _ _ _ (y 1) (fun _ => rfl) _ _ i (by omega)

theorem dx_B (c : Dev nD) (t : Fin cfg0.N) (h0 : ¬t.val % 4 = 0) (y : S1024x512.Idx) :
    ((outsAt0 m c t.val t.isLt).1 y : EReal)
      = back (fun k => (iblk m c 2 t : FVec Ideal S4x512 .f32) (ix2 k (y 1)))
        (fun k => next (col (n := 512) (iblk m c 4 t) (y 1)) (tail (outsAt0 m c (t.val - 1) (Nat.lt_of_le_of_lt (Nat.sub_le _ _) t.isLt)).2.2.2 (y 1)) ((y 0).val + k)) := by
  rw [Gen.outsAt0_B m c t h0]
  generalize iblk m c 0 t = x0
  generalize iblk m c 1 t = x1
  generalize iblk m c 2 t = x2
  generalize iblk m c 3 t = x3
  generalize iblk m c 4 t = x4
  generalize outsAt0 m c (t.val - 1) (Nat.lt_of_le_of_lt (Nat.sub_le _ _) t.isLt) = D
  frame_open
  frame_out
  dsimp only [back]
  canon_tiles x h
  all_goals
    refine (tile_at _ _ _ _ _ x).trans ?_
    refine congrArg₂ (· + ·) (congrArg₂ (· + ·) (congrArg₂ (· + ·)
        (congrArg₂ (· * ·) (weight_at _ x2 (y 1) x 3 (by omega)) (here_at _ x4 _ (y 0) (y 1) x (by omega) (by omega)))
        (congrArg₂ (· * ·) (weight_at _ x2 (y 1) x 2 (by omega)) ?_)) (congrArg₂ (· * ·) (weight_at _ x2 (y 1) x 1 (by omega)) ?_))
        (congrArg₂ (· * ·) (weight_at _ x2 (y 1) x 0 (by omega)) ?_)
    all_goals
      first
        | (refine load_next _ _ _ _ _ (y 0) _ (y 1) x (by omega) (by omega) fun i hi => ?_
           rcases Nat.lt_or_ge i.val (64 * ((y 0).val / 64) + 64) with hh | hh
           all_goals
             repeat refine skip _ _ _ _ _ _ (by omega) ?_
             exact tile_hit x4 _ _ _ _ _ i (y 1) (by omega) (by omega) (by omega) (by omega))
        | (refine kept_next _ _ _ _ (y 0) _ (y 1) x (by omega) (by omega) fun i hi => ?_
           rcases Nat.lt_or_ge i.val 1024 with hh | hh
           · exact kept_hit _ _ x4 _ _ _ _ _ i (y 1) (by omega) (by omega) (by omega) (by omega)
           · repeat refine kept_skip _ _ _ _ _ _ _ _ (by omega) ?_
             exact kept_base _ _ D.2.2.2 (Memref.IsWhole.read_unread _ _) _ i (y 1) hh)

theorem dw_A (c : Dev nD) (t : Fin cfg0.N) (h0 : t.val % 4 = 0) (r : Fin 4) (e : Fin 512) :
    ((outsAt0 m c t.val t.isLt).2.1 (ix2 r e) : EReal)
      = 0 + ∑ i, weighted (n := 512) (k0_pay8 (F := Ideal) (iblk m c 0 t)) (iblk m c 4 t) (above m c t e) e r.val i := by
  rw [Gen.outsAt0_A m c t h0]
  unfold above
  generalize iblk m c 0 t = x0
  generalize iblk m c 1 t = x1
  generalize iblk m c 2 t = x2
  generalize iblk m c 3 t = x3
  generalize iblk m c 4 t = x4
  frame_open
  frame_out
  have he : e.val < 128 ∨ (128 ≤ e.val ∧ e.val < 256) ∨ (256 ≤ e.val ∧ e.val < 384) ∨ 384 ≤ e.val := by omega
  have hr : r.val = 0 ∨ r.val = 1 ∨ r.val = 2 ∨ r.val = 3 := by omega
  rcases he with he | he | he | he <;> rcases hr with hr | hr | hr | hr
  all_goals
    repeat refine skip _ _ _ _ _ _ (by omega) ?_
    refine (hit _ _ _ _ _ (ix2 0 ⟨e.val % 128, by omega⟩) (by show r.val = _ + 0; omega) (by show e.val = _ + e.val % 128; omega)).trans ?_
    refine summed _ _ _ _ _ ?_ fun s => ?_
    · refine load_at _ _ _ r e _ _ (by show r.val = _ + 0; omega) (by show e.val = _ + e.val % 128; omega) ?_
      repeat refine skip _ _ _ _ _ _ (by omega) ?_
      exact (hit _ _ _ _ _ (ix2 r e) (by show r.val = 0 + r.val; omega) (by show e.val = 0 + e.val; omega)).trans (dw_zero _)
    · iterate 16 refine step _ _ _ _ _ _ _ ?_ fun q i z hi hz => weighted_at _ _ _ _ x4 _ e r.val i z ⟨e.val % 128, by omega⟩ (by omega) (by omega) (by show e.val = _ + e.val % 128; omega)
      exact acc_zero _

theorem dw_B (c : Dev nD) (t : Fin cfg0.N) (h0 : ¬t.val % 4 = 0) (y : S4x512.Idx) :
    ((outsAt0 m c t.val t.isLt).2.1 y : EReal)
      = (outsAt0 m c (t.val - 1) (Nat.lt_of_le_of_lt (Nat.sub_le _ _) t.isLt)).2.1 (ix2 (y 0) (y 1))
        + ∑ i, weighted (n := 512) (k0_pay8 (F := Ideal) (iblk m c 0 t)) (iblk m c 4 t) (above m c t (y 1)) (y 1) (y 0).val i := by
  rw [Gen.outsAt0_B m c t h0]
  unfold above
  generalize iblk m c 0 t = x0
  generalize iblk m c 1 t = x1
  generalize iblk m c 2 t = x2
  generalize iblk m c 3 t = x3
  generalize iblk m c 4 t = x4
  generalize outsAt0 m c (t.val - 1) (Nat.lt_of_le_of_lt (Nat.sub_le _ _) t.isLt) = D
  frame_open
  frame_out
  canon_tiles x h
  all_goals
    refine summed _ _ _ _ x (cell_at _ D.2.1 (y 0) (y 1) x (by omega) (by omega)) fun s => ?_
    iterate 16 refine step _ _ _ _ _ _ _ ?_ fun q i r hi hr => weighted_at _ _ _ _ x4 _ (y 1) (y 0).val i r (x 1) (by omega) (by omega) (by omega)
    exact acc_zero _

theorem db_A (c : Dev nD) (t : Fin cfg0.N) (h0 : t.val % 4 = 0) (e : Fin 512) :
    ((outsAt0 m c t.val t.isLt).2.2.1 (ix2 0 e) : EReal) = 0 + ∑ i, col (n := 512) (iblk m c 4 t) e i := by
  rw [Gen.outsAt0_A m c t h0]
  generalize iblk m c 0 t = x0
  generalize iblk m c 1 t = x1
  generalize iblk m c 2 t = x2
  generalize iblk m c 3 t = x3
  generalize iblk m c 4 t = x4
  frame_open
  frame_out
  have he : e.val < 128 ∨ (128 ≤ e.val ∧ e.val < 256) ∨ (256 ≤ e.val ∧ e.val < 384) ∨ 384 ≤ e.val := by omega
  rcases he with he | he | he | he
  all_goals
    repeat refine skip _ _ _ _ _ _ (by omega) ?_
    refine (hit _ _ _ _ _ (ix2 0 ⟨e.val % 128, by omega⟩) (by show 0 = 0 + 0; rfl) (by show e.val = _ + e.val % 128; omega)).trans ?_
    refine summed _ _ _ _ _ ?_ fun s => ?_
    · refine load_at _ _ _ 0 e _ _ (by show 0 = 0 + 0; rfl) (by show e.val = _ + e.val % 128; omega) ?_
      repeat refine skip _ _ _ _ _ _ (by omega) ?_
      exact (hit _ _ _ _ _ (ix2 0 e) (by show 0 = 0 + 0; rfl) (by show e.val = 0 + e.val; omega)).trans (db_zero _)
    · iterate 16 refine step0 _ _ _ _ _ _ ?_ fun q i z hi hz => cell_at _ x4 i e (ix2 z ⟨e.val % 128, by omega⟩) (by show i.val = _ + z.val; omega) (by show e.val = _ + e.val % 128; omega)
      exact acc_zero _

theorem db_B (c : Dev nD) (t : Fin cfg0.N) (h0 : ¬t.val % 4 = 0) (y : S1x512.Idx) :
    ((outsAt0 m c t.val t.isLt).2.2.1 y : EReal)
      = (outsAt0 m c (t.val - 1) (Nat.lt_of_le_of_lt (Nat.sub_le _ _) t.isLt)).2.2.1 (ix2 (y 0) (y 1)) + ∑ i, col (n := 512) (iblk m c 4 t) (y 1) i := by
  rw [Gen.outsAt0_B m c t h0]
  generalize iblk m c 0 t = x0
  generalize iblk m c 1 t = x1
  generalize iblk m c 2 t = x2
  generalize iblk m c 3 t = x3
  generalize iblk m c 4 t = x4
  generalize outsAt0 m c (t.val - 1) (Nat.lt_of_le_of_lt (Nat.sub_le _ _) t.isLt) = D
  frame_open
  frame_out
  canon_tiles x h
  all_goals
    refine summed _ _ _ _ x (cell_at _ D.2.2.1 (y 0) (y 1) x (by omega) (by omega)) fun s => ?_
    iterate 16 refine step0 _ _ _ _ _ _ ?_ fun q i r hi hr => cell_at _ x4 i (y 1) (ix2 r (x 1)) (by show i.val = _ + r.val; omega) (by show (y 1).val = _ + (x 1).val; omega)
    exact acc_zero _

theorem tail_at (c : Dev nD) (t : Fin cfg0.N) (k : Fin 8) (e : Fin 512) :
    (tail (outsAt0 m c t.val t.isLt).2.2.2 e k : EReal) = (iblk m c 4 t : FVec Ideal S1024x512 .f32) (ix2 (n0 := 1024) ⟨k.val, by omega⟩ e) := by
  unfold tail
  have he : e.val < 128 ∨ (128 ≤ e.val ∧ e.val < 256) ∨ (256 ≤ e.val ∧ e.val < 384) ∨ 384 ≤ e.val := by omega
  by_cases h0 : t.val % 4 = 0
  · rw [Gen.outsAt0_A m c t h0]
    generalize iblk m c 0 t = x0
    generalize iblk m c 1 t = x1
    generalize iblk m c 2 t = x2
    generalize iblk m c 3 t = x3
    generalize iblk m c 4 t = x4
    frame_open
    frame_out
    refine (hit _ _ _ _ _ (ix2 k e) (by show 1024 + k.val = 1024 + k.val; rfl) (by show e.val = 0 + e.val; omega)).trans ((congrFun (moved _) _).trans ?_)
    refine load_at _ _ _ ⟨k.val, by omega⟩ e (ix2 k e) _ (by show k.val = 0 + k.val; omega) (by show e.val = 0 + e.val; omega) ?_
    obtain ⟨i, hi⟩ : ∃ i : Fin 1032, i.val = k.val := ⟨⟨k.val, by omega⟩, rfl⟩
    rw [show (⟨k.val, by omega⟩ : Fin 1032) = i from Fin.ext hi.symm]
    refine Eq.trans ?_ ((congrArg (next (col (n := 512) x4 e) (fun _ => 0)) hi).trans (in_block x4 (fun _ => 0) k.val e (by omega)))
    rcases he with he | he | he | he
    all_goals
      repeat refine skip _ _ _ _ _ _ (by omega) ?_
      exact tile_hit x4 _ _ _ _ _ i e (by omega) (by omega) (by omega) (by omega)
  · rw [Gen.outsAt0_B m c t h0]
    generalize iblk m c 0 t = x0
    generalize iblk m c 1 t = x1
    generalize iblk m c 2 t = x2
    generalize iblk m c 3 t = x3
    generalize iblk m c 4 t = x4
    generalize outsAt0 m c (t.val - 1) (Nat.lt_of_le_of_lt (Nat.sub_le _ _) t.isLt) = D
    frame_open
    frame_out
    refine (hit _ _ _ _ _ (ix2 k e) (by show 1024 + k.val = 1024 + k.val; rfl) (by show e.val = 0 + e.val; omega)).trans ((congrFun (moved _) _).trans ?_)
    refine load_at _ _ _ ⟨k.val, by omega⟩ e (ix2 k e) _ (by show k.val = 0 + k.val; omega) (by show e.val = 0 + e.val; omega) ?_
    obtain ⟨i, hi⟩ : ∃ i : Fin 1032, i.val = k.val := ⟨⟨k.val, by omega⟩, rfl⟩
    rw [show (⟨k.val, by omega⟩ : Fin 1032) = i from Fin.ext hi.symm]
    refine Eq.trans ?_ ((congrArg (next (col (n := 512) x4 e) (fun _ => 0)) hi).trans (in_block x4 (fun _ => 0) k.val e (by omega)))
    rcases he with he | he | he | he
    all_goals
      repeat refine skip _ _ _ _ _ _ (by omega) ?_
      exact tile_hit x4 _ _ _ _ _ i e (by omega) (by omega) (by omega) (by omega)

end Cert.LruConv.Proof

end
-- ==== Proof.LruConv.Kernel.lean ====
/- The arrays the gradient of the convolution leaves: four blocks of 1024 rows, the last first, the first eight rows of each carried
   into the block above it, and the sums over the rows gathered block by block. -/
module

public import proofs.«01_k».proof.Proof.LruConv.Points
public import Idealize.ShloMosaic.Lib.StableHlo.ReadAt

@[expose] public section

set_option maxRecDepth 16384

noncomputable section

namespace Cert.LruConv.Proof

open Cert.Conv Cert.LruConvIdeal Cert.LruConvIdeal.Gen Idealize.ShloMosaic Idealize.ShloMosaic.TcCoe Idealize.SL.Sem

/-- A column of the projections that the convolution reads. -/
def source (p : FVec Ideal S4096x3072 .f32) (e : Fin 512) (i : Fin 4096) : EReal := p (ix2 i ⟨2048 + e.val, by omega⟩)

/-- A column of the cotangent. -/
def given (d : FVec Ideal S4096x512 .f32) (e : Fin 512) (i : Fin 4096) : EReal := d (ix2 i e)

/-- The gradient of the projections with the convolution's columns filled in. -/
def filled (w : FVec Ideal S4x512 .f32) (d : FVec Ideal S4096x512 .f32) (dp : FVec Ideal S4096x3072 .f32) : FVec Ideal S4096x3072 .bf16 := fun y =>
  if h : 2048 ≤ (y 1).val ∧ (y 1).val < 2560 then
    back (fun k => w (ix2 k ⟨(y 1).val - 2048, by omega⟩)) (fun k => past (given d ⟨(y 1).val - 2048, by omega⟩) ((y 0).val + k))
  else dp y

/-- The gradient of a tap: the cotangent times the rows the tap reads. -/
def tapGrad (p : FVec Ideal S4096x3072 .f32) (d : FVec Ideal S4096x512 .f32) : FVec Ideal S4x512 .f32 := fun y =>
  (∑ i : Fin 4096, given d (y 1) i * tap (source p (y 1)) (i.val + (y 0).val) : EReal)

/-- The gradient of the bias. -/
def biasGrad (d : FVec Ideal S4096x512 .f32) : FVec Ideal S1x512 .f32 := fun y => (∑ i : Fin 4096, given d (y 1) i : EReal)

theorem filled_at (w : FVec Ideal S4x512 .f32) (d : FVec Ideal S4096x512 .f32) (dp : FVec Ideal S4096x3072 .f32) (r : Fin 4096) (e : Fin 512) (j : Fin 3072)
    (hj : j.val = 2048 + e.val) : filled w d dp (ix2 r j) = back (fun k => w (ix2 k e)) (fun k => past (given d e) (r.val + k)) := by
  have b : j.val - 2048 < 512 := by omega
  obtain rfl : e = ⟨j.val - 2048, b⟩ := Fin.ext (by show e.val = j.val - 2048; omega)
  exact dif_pos (show 2048 ≤ j.val ∧ j.val < 2560 by omega)

theorem filled_kept (w : FVec Ideal S4x512 .f32) (d : FVec Ideal S4096x512 .f32) (dp : FVec Ideal S4096x3072 .f32) (r : Fin 4096) (j : Fin 3072)
    (hj : ¬(2048 ≤ j.val ∧ j.val < 2560)) : filled w d dp (ix2 r j) = dp (ix2 r j) := dif_neg hj

variable (m : (ℓ : Loc nD τ sig) → Buf (Elt Ideal) ℓ)

section
variable (c : Dev nD)
abbrev pIn : FVec Ideal S4096x3072 .f32 := m ((c : Thread nD τ).loc main_arg0)
abbrev wIn : FVec Ideal S4x512 .f32 := m ((c : Thread nD τ).loc main_arg1)
abbrev dIn : FVec Ideal S4096x512 .f32 := m ((c : Thread nD τ).loc main_arg3)
abbrev dpIn : FVec Ideal S4096x3072 .f32 := m ((c : Thread nD τ).loc main_arg4)
end

theorem places : ∀ t : Fin cfg0.N, (win0_0.index t = ![3 - t.val, 4] ∧ win0_1.index t = ![(3 - t.val) * 128 - 1, 4] ∧ win0_2.index t = ![0, 0]
    ∧ win0_4.index t = ![3 - t.val, 0]) ∧ win0_5.index t = ![3 - t.val, 4] ∧ win0_6.index t = ![0, 0] ∧ win0_7.index t = ![0, 0] :=
  (by decide +kernel : ∀ t : Fin grid0.N, _)

theorem first_block : ∀ t : Fin cfg0.N, Scalar.cmpi .eq (BitVec.ofNat 32 (grid0.coords t 1).val) 3#32 = if t.val = 3 then 1#1 else 0#1 :=
  (by decide +kernel : ∀ t : Fin grid0.N, _)

/-- The rows of the block at a grid point. -/
theorem x_at (c : Dev nD) (t : Fin cfg0.N) (i : Fin 1024) (e : Fin 512) :
    (iblk m c 0 t : FVec Ideal S1024x512 .f32) (ix2 i e) = source (pIn m c) e ⟨(3 - t.val) * 1024 + i.val, by omega⟩ :=
  (congrArg (V m c main_arg0) (show ((View.whole main_arg0).slice (win0_0.rect t)).emb _
      = (ix2 ⟨(3 - t.val) * 1024 + i.val, by omega⟩ ⟨2048 + e.val, by omega⟩ : S4096x3072.Idx) by blk_ext [(places t).1.1])).trans
    (congrFun (V_main_arg0 m c) _)

/-- The eight rows above it. -/
theorem up_at (c : Dev nD) (t : Fin cfg0.N) (ht : t.val < 3) (k : Fin 8) (e : Fin 512) :
    (iblk m c 1 t : FVec Ideal S8x512 .f32) (ix2 k e) = source (pIn m c) e ⟨(3 - t.val) * 1024 - 8 + k.val, by omega⟩ :=
  (congrArg (V m c main_arg0) (show ((View.whole main_arg0).slice (win0_1.rect t)).emb _
      = (ix2 ⟨(3 - t.val) * 1024 - 8 + k.val, by omega⟩ ⟨2048 + e.val, by omega⟩ : S4096x3072.Idx) by blk_ext [(places t).1.2.1])).trans
    (congrFun (V_main_arg0 m c) _)

theorem w_at (c : Dev nD) (t : Fin cfg0.N) (k : Fin 4) (e : Fin 512) :
    (iblk m c 2 t : FVec Ideal S4x512 .f32) (ix2 k e) = wIn m c (ix2 k e) :=
  (congrArg (V m c main_arg1) (show ((View.whole main_arg1).slice (win0_2.rect t)).emb _
      = (ix2 k e : S4x512.Idx) by blk_ext [(places t).1.2.2.1])).trans (congrFun (V_main_arg1 m c) _)

theorem d_at (c : Dev nD) (t : Fin cfg0.N) (i : Fin 1024) (e : Fin 512) :
    (iblk m c 4 t : FVec Ideal S1024x512 .f32) (ix2 i e) = given (dIn m c) e ⟨(3 - t.val) * 1024 + i.val, by omega⟩ :=
  (congrArg (V m c main_arg3) (show ((View.whole main_arg3).slice (win0_4.rect t)).emb _
      = (ix2 ⟨(3 - t.val) * 1024 + i.val, by omega⟩ e : S4096x512.Idx) by blk_ext [(places t).1.2.2.2])).trans
    (congrFun (V_main_arg3 m c) _)

theorem above_zero (c : Dev nD) (t : Fin cfg0.N) (h : t.val = 3) (e : Fin 512) (k : Fin 8) : above m c t e k = 0 := by
  unfold above k0_pay7
  simp only [first_block, if_pos h]
  pointwise

theorem above_at (c : Dev nD) (t : Fin cfg0.N) (h : t.val < 3) (e : Fin 512) (k : Fin 8) :
    above m c t e k = source (pIn m c) e ⟨(3 - t.val) * 1024 - 8 + k.val, by omega⟩ := by
  refine Eq.trans ?_ (up_at m c t h k e)
  unfold above k0_pay7
  simp only [first_block, if_neg (show ¬t.val = 3 by omega)]
  pointwise

/-- A block's part of a tap's gradient. -/
theorem block_sum (c : Dev nD) (t : Fin cfg0.N) (e : Fin 512) (k : Fin 4) :
    ∑ i, weighted (n := 512) (k0_pay8 (F := Ideal) (iblk m c 0 t)) (iblk m c 4 t) (above m c t e) e k.val i
      = ∑ i : Fin 1024, (fun i : Fin 4096 => given (dIn m c) e i * tap (source (pIn m c) e) (i.val + k.val)) ⟨(3 - t.val) % 4 * 1024 + i.val, by omega⟩ := by
  have ht : t.val < 4 := t.isLt
  refine Finset.sum_congr rfl fun i _ => ?_
  unfold weighted
  refine congrArg₂ (· * ·) ((d_at m c t i e).trans (congrArg (given (dIn m c) e) (Fin.ext (by show (3 - t.val) * 1024 + i.val = (3 - t.val) % 4 * 1024 + i.val; omega)))) ?_
  refine (pad_tap (source (pIn m c) e) (above m c t e) _ (3 - t.val) (by omega) (fun j => ?_) (fun h j => above_zero m c t (by omega) e j)
    (fun h j => above_at m c t (by omega) e j) i.val i.isLt k.val k.isLt).trans ?_
  · rw [stored]
    exact x_at m c t j e
  · exact congrArg (tap (source (pIn m c) e)) (by show (3 - t.val) * 1024 + i.val + k.val = (3 - t.val) % 4 * 1024 + i.val + k.val; omega)

theorem block_rows (c : Dev nD) (t : Fin cfg0.N) (e : Fin 512) :
    ∑ i, col (n := 512) (iblk m c 4 t) e i = ∑ i : Fin 1024, given (dIn m c) e ⟨(3 - t.val) % 4 * 1024 + i.val, by omega⟩ := by
  have ht : t.val < 4 := t.isLt
  exact Finset.sum_congr rfl fun i _ => (d_at m c t i e).trans
    (congrArg (given (dIn m c) e) (Fin.ext (by show (3 - t.val) * 1024 + i.val = (3 - t.val) % 4 * 1024 + i.val; omega)))

/-- The blocks' sums as the grid gathers them, the last block first. -/
def gather (g : ℕ → EReal) : ℕ → EReal
  | 0 => 0 + g 3
  | n + 1 => gather g n + g (3 - (n + 1))

/-- A block's part of a sum over all rows. -/
abbrev blockOf (f : Fin 4096 → EReal) (a : ℕ) : EReal := ∑ i : Fin 1024, f ⟨a % 4 * 1024 + i.val, by omega⟩

theorem gathered (f : Fin 4096 → EReal) (n : ℕ) (hn : n = 3) : gather (blockOf f) n = ∑ i, f i := by
  subst hn
  exact four f _ fun a _ => rfl

theorem dw_at (c : Dev nD) (k : Fin 4) (e : Fin 512) (n : ℕ) : ∀ hn : n < cfg0.N, ((outsAt0 m c n hn).2.1 (ix2 k e) : EReal)
    = gather (blockOf fun i => given (dIn m c) e i * tap (source (pIn m c) e) (i.val + k.val)) n := by
  induction n with
  | zero => exact fun hn => (dw_A m c ⟨0, hn⟩ (Nat.zero_mod 4) k e).trans (congrArg (0 + ·) (block_sum m c ⟨0, hn⟩ e k))
  | succ n ih =>
    intro hn
    have h4 : n + 1 < 4 := hn
    exact (dw_B m c ⟨n + 1, hn⟩ (by show ¬(n + 1) % 4 = 0; omega) (ix2 k e)).trans
      (congrArg₂ (· + ·) (ih _) (block_sum m c ⟨n + 1, hn⟩ e k))

theorem db_at (c : Dev nD) (e : Fin 512) (n : ℕ) : ∀ hn : n < cfg0.N, ((outsAt0 m c n hn).2.2.1 (ix2 0 e) : EReal)
    = gather (blockOf (given (dIn m c) e)) n := by
  induction n with
  | zero => exact fun hn => (db_A m c ⟨0, hn⟩ (Nat.zero_mod 4) e).trans (congrArg (0 + ·) (block_rows m c ⟨0, hn⟩ e))
  | succ n ih =>
    intro hn
    have h4 : n + 1 < 4 := hn
    exact (db_B m c ⟨n + 1, hn⟩ (by show ¬(n + 1) % 4 = 0; omega) (ix2 0 e)).trans
      (congrArg₂ (· + ·) (ih _) (block_rows m c ⟨n + 1, hn⟩ e))

theorem dw_array (c : Dev nD) : (dats m 0 c).arrAt 6 cfg0.N = tapGrad (pIn m c) (dIn m c) := by
  refine (dats m 0 c).arrAt_eq_of_covers 6 _ (by decide +kernel) fun t hf y => ?_
  have h3 : t.val % 4 = 3 := (flush0_6 t).mp hf
  have ht : t.val = 3 := by have : t.val < 4 := t.isLt; omega
  blk_simp
  rw [after0_6]
  obtain ⟨r, e, rfl⟩ : ∃ (r : Fin 4) (e : Fin 512), y = ix2 r e := ⟨y 0, y 1, eq_ix2 (n0 := 4) (n1 := 512) y⟩
  have place : ((View.whole main_v2_1).slice (win0_6.rect t)).emb (ix2 r e) = (ix2 r e : S4x512.Idx) := by
    blk_ext [(places t).2.2.1]
  rw [place]
  exact (dw_at m c r e t.val t.isLt).trans (gathered _ _ ht)

theorem db_array (c : Dev nD) : (dats m 0 c).arrAt 7 cfg0.N = biasGrad (dIn m c) := by
  refine (dats m 0 c).arrAt_eq_of_covers 7 _ (by decide +kernel) fun t hf y => ?_
  have h3 : t.val % 4 = 3 := (flush0_7 t).mp hf
  have ht : t.val = 3 := by have : t.val < 4 := t.isLt; omega
  blk_simp
  rw [after0_7]
  obtain ⟨r, e, rfl⟩ : ∃ (r : Fin 1) (e : Fin 512), y = ix2 r e := ⟨y 0, y 1, eq_ix2 (n0 := 1) (n1 := 512) y⟩
  obtain rfl : r = 0 := Fin.ext (by omega)
  have place : ((View.whole main_v2_2).slice (win0_7.rect t)).emb (ix2 0 e) = (ix2 0 e : S1x512.Idx) := by
    blk_ext [(places t).2.2.2]
  rw [place]
  exact (db_at m c e t.val t.isLt).trans (gathered _ _ ht)

theorem kept_at (c : Dev nD) (y : S4096x3072.Idx) : (V m c main_v2_0 y : EReal) = dpIn m c y := by
  have e : V m c main_v2_0 = (truncf .bf16 (dpIn m c : FVec Ideal S4096x3072 .f32) bitsLt_bf16_f32 : FVec Ideal S4096x3072 .bf16) := by
    unfold V hostOps0
    after_results
    rfl
  rw [e]
  rfl

theorem dx_array (c : Dev nD) : (dats m 0 c).arrAt 5 cfg0.N = filled (wIn m c) (dIn m c) (dpIn m c) := by
  refine (dats m 0 c).arrAt_eq_of_coversWhere_of_agree 5 _ (fun β => β 1 = 4) (by decide +kernel) (fun t hf y => ?_) (fun j hj => ?_)
  · blk_simp
    rw [after0_5]
    obtain ⟨r, e, rfl⟩ : ∃ (r : Fin 1024) (e : Fin 512), y = ix2 r e := ⟨y 0, y 1, eq_ix2 (n0 := 1024) (n1 := 512) y⟩
    have ht : t.val < 4 := t.isLt
    have place : ((View.whole main_v2_0).slice (win0_5.rect t)).emb (ix2 r e)
        = (ix2 ⟨(3 - t.val) * 1024 + r.val, by omega⟩ ⟨2048 + e.val, by omega⟩ : S4096x3072.Idx) := by
      blk_ext [(places t).2.1]
    rw [place]
    have row (D : Fin 8 → EReal) (h0 : 3 - t.val = 3 → ∀ i, D i = 0)
        (hD : ∀ h : 3 - t.val < 3, ∀ i : Fin 8, D i = given (dIn m c) e ⟨(3 - t.val + 1) * 1024 + i.val, by omega⟩) :
        back (fun k => (iblk m c 2 t : FVec Ideal S4x512 .f32) (ix2 k e)) (fun k => next (col (n := 512) (iblk m c 4 t) e) D (r.val + k))
          = filled (wIn m c) (dIn m c) (dpIn m c) (ix2 ⟨(3 - t.val) * 1024 + r.val, by omega⟩ ⟨2048 + e.val, by omega⟩) := by
      refine (back_congr (fun k => w_at m c t k e) fun k hk => ?_).trans (filled_at _ _ _ _ e _ rfl).symm
      exact next_past (given (dIn m c) e) _ D (3 - t.val) (by omega) (fun i => d_at m c t i e) h0 hD r.val r.isLt k hk
    by_cases h : t.val % 4 = 0
    · exact (dx_A m c t h (ix2 r e)).trans (row _ (fun _ i => below_zero _) (fun hp => absurd h (by omega)))
    · refine (dx_B m c t h (ix2 r e)).trans (row _ (fun h' => absurd h' (by omega)) (fun hp i => ?_))
      have hN : t.val - 1 < cfg0.N := Nat.lt_of_le_of_lt (Nat.sub_le _ _) t.isLt
      refine (tail_at m c ⟨t.val - 1, hN⟩ i e).trans ((d_at m c ⟨t.val - 1, hN⟩ _ e).trans ?_)
      exact congrArg (given (dIn m c) e) (Fin.ext (by show (3 - (t.val - 1)) * 1024 + i.val = (3 - t.val + 1) * 1024 + i.val; omega))
  · blk_simp [Pipeline.Window.cell_apply] at hj
    obtain ⟨r, e, rfl⟩ : ∃ (r : Fin 4096) (e : Fin 3072), j = ix2 r e := ⟨j 0, j 1, eq_ix2 (n0 := 4096) (n1 := 3072) j⟩
    refine (kept_at m c (ix2 r e)).trans (filled_kept _ _ _ r e fun h => hj ?_).symm
    show e.val / 512 = 4
    omega

end Cert.LruConv.Proof

end
-- ==== Proof.LruConv.Reference.lean ====
/- What the derivative of the plain convolution leaves. -/
module

public import proofs.«01_k».proof.Proof.LruConv.Kernel
public import proofs.«01_k».proof.Proof.Gen.LruConvRefIdeal.Read

@[expose] public section

set_option maxRecDepth 16384

noncomputable section

namespace Cert.LruConv.Ref

open Cert.Conv Cert.LruConvRefIdeal Cert.LruConvRefIdeal.Gen Cert.LruConvRefIdeal.Read Idealize.ShloMosaic Idealize.ShloMosaic.TcCoe

theorem padded_at (p : FVec Ideal S4096x3072 .f32) (n : Fin 4099) (e : Fin 512) : val_main_v2 (F := Ideal) p (ix2 n e) = tap (Proof.source p e) n.val := by
  unfold val_main_v2 val_main_v1 val_main_cst val_main_v0
  pointwise
  unfold tap
  split
  · rfl
  · rw [dif_pos n.isLt]
    rfl

theorem ct_at (d : FVec Ideal S4096x512 .f32) (i : Fin 4096) (e : Fin 512) : val_main_v36 (F := Ideal) d (ix2 i e) = Proof.given d e i := by
  unfold val_main_v36
  pointwise
  rfl

theorem bias_at (d : FVec Ideal S4096x512 .f32) (e : Fin 512) : val_main_v88 (F := Ideal) d (ix2 0 e) = Proof.biasGrad d (ix2 0 e) := by
  unfold val_main_v88 val_main_v39 val_main_v38 val_main_v37 val_main_cst_2 val_main_cst_3
  pointwise
  simp only [Finset.univ_unique, Finset.sum_const, Finset.card_singleton, one_smul]
  rfl

theorem tap_at (p : FVec Ideal S4096x3072 .f32) (d : FVec Ideal S4096x512 .f32) (k : Fin 4) (e : Fin 512) :
    val_main_v81 (F := Ideal) p d (ix2 k e) = Proof.tapGrad p d (ix2 k e) := by
  unfold val_main_v81 val_main_v80 val_main_v79 val_main_v76 val_main_v75 val_main_v74 val_main_v73 val_main_v70 val_main_v69 val_main_v68 val_main_v65 val_main_v64
    val_main_v63 val_main_v62 val_main_v59 val_main_v58 val_main_v57 val_main_v54 val_main_v53 val_main_v52 val_main_v51 val_main_v48 val_main_v47 val_main_v45
    val_main_v44 val_main_v43 val_main_v42 val_main_v28 val_main_v21 val_main_v14 val_main_v6 val_main_cst_4 val_main_cst_5 val_main_cst_7 val_main_cst_8 val_main_cst_9
    val_main_cst_11 val_main_cst_12 val_main_cst_13 val_main_cst_15 val_main_cst_16 val_main_cst_17 val_main_cst_19
  pointwise
  simp only [ct_at, padded_at]
  simp only [Finset.univ_unique, Finset.sum_const, Finset.card_singleton, one_smul]
  unfold Proof.tapGrad
  obtain ⟨k, hk⟩ := k
  show _ = ∑ i : Fin 4096, Proof.given d e i * tap (Proof.source p e) (i.val + k)
  rcases (by omega : k = 0 ∨ k = 1 ∨ k = 2 ∨ k = 3) with rfl | rfl | rfl | rfl
  all_goals
    simp only [Nat.add_comm]
    simp

/-- A later row's term, nothing where there is no such row. -/
theorem later (f : Fin 4096 → EReal) (a : EReal) (k : ℕ) (r : Fin 4096) (P : Prop) [Decidable P] (hP : P ↔ r.val + k < 4096) {x : P → EReal}
    (hx : ∀ (h : P) (h' : r.val + k < 4096), x h = f ⟨r.val + k, h'⟩) : (if h : P then a * x h else 0) = a * past f (r.val + k) := by
  unfold past
  by_cases h : P
  · rw [dif_pos h, dif_pos (hP.mp h), hx h (hP.mp h)]
  · rw [dif_neg h, dif_neg (fun h' => h (hP.mpr h')), mul_zero]

theorem rows_at (w : FVec Ideal S4x512 .f32) (d : FVec Ideal S4096x512 .f32) (r : Fin 4096) (e : Fin 512) :
    val_main_v83 (F := Ideal) w d (ix2 r e) = back (fun k => w (ix2 k e)) (fun k => past (Proof.given d e) (r.val + k)) := by
  unfold val_main_v83 val_main_v78 val_main_v77 val_main_v72 val_main_v71 val_main_v67 val_main_v66 val_main_v61 val_main_v60 val_main_v56 val_main_v55 val_main_v50 val_main_v49
    val_main_v46 val_main_v41 val_main_v40 val_main_v29 val_main_v27 val_main_v26 val_main_v22 val_main_v20 val_main_v19 val_main_v15 val_main_v13 val_main_v12
    val_main_v7 val_main_v5 val_main_v4 val_main_cst_6 val_main_cst_10 val_main_cst_14 val_main_cst_18
  pointwise
  simp only [ct_at]
  refine congrArg₂ (· + ·) (congrArg₂ (· + ·) (congrArg₂ (· + ·) (congrArg (w (ix2 3 e) * ·) ?_) (later _ _ 1 _ _ (by omega) ?_)) (later _ _ 2 _ _ (by omega) ?_))
    (later _ _ 3 _ _ (by omega) ?_)
  · exact (show past (Proof.given d e) (r.val + 0) = Proof.given d e r from dif_pos r.isLt).symm
  all_goals
    intro h h'
    refine congrArg (Proof.given d e) (Fin.ext ?_)
    dsimp only
    omega

theorem array_at (w : FVec Ideal S4x512 .f32) (d : FVec Ideal S4096x512 .f32) (dp : FVec Ideal S4096x3072 .f32) (r : Fin 4096) (j : Fin 3072) :
    val_main_v87 (F := Ideal) w d dp (ix2 r j) = Proof.filled w d dp (ix2 r j) := by
  unfold val_main_v87 val_main_v86 val_main_v85 val_main_v84
  pointwise
  by_cases h : 2048 ≤ j.val ∧ j.val < 2560
  · rw [dif_neg (by omega), dif_pos (by omega)]
    exact (rows_at w d r _).trans (Proof.filled_at w d dp r ⟨j.val - 2048, by omega⟩ j (by show j.val = 2048 + (j.val - 2048); omega)).symm
  · rw [Proof.filled_kept w d dp r j h]
    by_cases h0 : j.val < 2048
    · rw [dif_pos h0]
    · rw [dif_neg h0, dif_neg (by omega)]
      exact congrArg (fun k => dp (ix2 r k)) (Fin.ext (by show 2560 + (j.val - 2048 - 512) = j.val; omega))

end Cert.LruConv.Ref

end
-- ==== Proof.LruConv.Claims.lean ====
/- The claims about the gradient of the short convolution before the RG-LRU. -/
module

public import proofs.«01_k».proof.Defs
public import proofs.«01_k».proof.Proof.LruConv.Reference
public import proofs.«01_k».proof.Proof.Gen.LruConv.Frame
public import proofs.«01_k».proof.Proof.Gen.LruConvRefIdeal.Run

@[expose] public section

set_option maxRecDepth 16384

noncomputable section

namespace Cert.LruConv.Proof

open Idealize.ShloMosaic Idealize.ShloMosaic.TcCoe Idealize.SL.Sem

theorem reference_filled (w : FVec Ideal Cert.LruConvRefIdeal.S4x512 .f32) (d : FVec Ideal Cert.LruConvRefIdeal.S4096x512 .f32)
    (dp : FVec Ideal Cert.LruConvRefIdeal.S4096x3072 .f32) : Cert.LruConvRefIdeal.Read.val_main_v87 (F := Ideal) w d dp = filled w d dp := by
  funext y
  obtain ⟨r, e, rfl⟩ : ∃ (r : Fin 4096) (e : Fin 3072), y = ix2 r e := ⟨y 0, y 1, eq_ix2 (n0 := 4096) (n1 := 3072) y⟩
  exact Ref.array_at w d dp r e

theorem reference_taps (p : FVec Ideal Cert.LruConvRefIdeal.S4096x3072 .f32) (d : FVec Ideal Cert.LruConvRefIdeal.S4096x512 .f32) :
    Cert.LruConvRefIdeal.Read.val_main_v81 (F := Ideal) p d = tapGrad p d := by
  funext y
  obtain ⟨r, e, rfl⟩ : ∃ (r : Fin 4) (e : Fin 512), y = ix2 r e := ⟨y 0, y 1, eq_ix2 (n0 := 4) (n1 := 512) y⟩
  exact Ref.tap_at p d r e

theorem reference_bias (d : FVec Ideal Cert.LruConvRefIdeal.S4096x512 .f32) :
    Cert.LruConvRefIdeal.Read.val_main_v88 (F := Ideal) d = biasGrad d := by
  funext y
  obtain ⟨r, e, rfl⟩ : ∃ (r : Fin 1) (e : Fin 512), y = ix2 r e := ⟨y 0, y 1, eq_ix2 (n0 := 1) (n1 := 512) y⟩
  obtain rfl : r = 0 := Fin.ext (by omega)
  exact Ref.bias_at d e

theorem reference_frame : Cert.quiescent_LruConvRefIdeal (hLruConvRefIdeal := Cert.LruConvRefIdeal.Gen.facts) := fun m g _ =>
  (θ_run Cert.LruConvRefIdeal.defs _ _).mono (fun r h => ⟨fun c => (h c).2.2.2, sem_eq_zero_of_no_sems (by decide) r.2⟩)
    (Cert.LruConvRefIdeal.Value.run m g)

theorem algebraic : Cert.algebraic_LruConvIdeal_LruConvRefIdeal (hLruConvIdeal := Cert.LruConvIdeal.Gen.facts)
    (hLruConvRefIdeal := Cert.LruConvRefIdeal.Gen.facts) := by
  intro m g m' g' _ hargs
  refine ⟨fun c => filled (wIn m c) (dIn m c) (dpIn m c), fun c => tapGrad (pIn m c) (dIn m c), fun c => biasGrad (dIn m c), ?_, ?_⟩
  · exact (θ_run Cert.LruConvIdeal.defs _ _).mono (fun r h c => ⟨(h c).1.trans (dx_array m c), (h c).2.1.trans (dw_array m c),
      (h c).2.2.1.trans (db_array m c), (h c).2.2.2⟩) (Cert.LruConvIdeal.Value.run_blocks m g)
  · refine (θ_run Cert.LruConvRefIdeal.defs _ _).mono (fun r h c => ?_) (Cert.LruConvRefIdeal.Value.run m' g')
    obtain ⟨a0, a1, a2, a3, a4⟩ := hargs c
    refine ⟨(h c).1.trans ?_, (h c).2.1.trans ?_, (h c).2.2.1.trans ?_, (h c).2.2.2⟩
    · refine (Cert.LruConvRefIdeal.Read.val_main_v87_eq _ _ _).trans ?_
      rw [a1, a3, a4]
      exact reference_filled _ _ _
    · refine (Cert.LruConvRefIdeal.Read.val_main_v81_eq _ _).trans ?_
      rw [a0, a3]
      exact reference_taps _ _
    · refine (Cert.LruConvRefIdeal.Read.val_main_v88_eq _).trans ?_
      rw [a3]
      exact reference_bias _

end Cert.LruConv.Proof

end
-- ==== Proof.Conv.Gate.lean ====
/-
The gradient behind the silu of a convolution: the cotangent of a row times the slope at the row's taps, in a buffer of
tiles stored from the last row to the first.
-/
module

public import proofs.«01_k».proof.Proof.Conv.Grad

@[expose] public section

set_option maxRecDepth 16384

noncomputable section

namespace Cert.Conv

open Idealize.ShloMosaic

/-- The slope of silu. -/
def rise (y : EReal) : EReal := Ideal.logistic y * (1 + y * (1 - Ideal.logistic y))

variable {n o q : ℕ}

/-- The gradient of the taps at a row of the block. -/
def gated (X d : Mat (Block n)) (w : Fin 4 → EReal) (D : Fin 8 → EReal) (e : Fin n) (i : Fin 1024) : EReal :=
  d (ix2 i e) * rise (taps w fun k => pad D (col X e) (i.val + (5 + k)))

theorem in_rows (f : Fin 1024 → EReal) (D : Fin 8 → EReal) (i : ℕ) (h : i < 1024) : next f D i = f ⟨i, h⟩ := by
  unfold next
  rw [dif_pos h]

/-- A stored tile of any column. -/
theorem made_hit (f : Fin 1024 → EReal) (D : Fin 8 → EReal) (inb : ∀ k, (![o, q] : Fin 2 → ℕ) k + (![64, 128] : Fin 2 → ℕ) k ≤ (Rows n).size k)
    (Z : Mat Tile) (L : Pieces n) (i : Fin 1032) (e : Fin n)
    (h0 : o ≤ i.val) (h0' : i.val < o + 64) (h1 : q ≤ e.val) (h1' : e.val < q + 128) (b : o + 64 ≤ 1024)
    (hZ : ∀ (j : Fin 1024) (z : Tile.Idx), j.val = o + (z 0).val → e.val = q + (z 1).val → (Z z : EReal) = f j) :
    (View.canon (Val := Elt Ideal) (s := Rows n) (e := .f32) (⟨Rect.unit (s := Rows n) ![o, q] ![64, 128] inb, Z⟩ :: L) (ix2 i e) : EReal) = next f D i.val := by
  refine (hit inb _ L i e (ix2 ⟨i.val - o, by omega⟩ ⟨e.val - q, by omega⟩) (by show i.val = o + (i.val - o); omega) (by show e.val = q + (e.val - q); omega)).trans ?_
  refine (hZ ⟨i.val, by omega⟩ _ (by show i.val = o + (i.val - o); omega) (by show e.val = q + (e.val - q); omega)).trans ?_
  exact (in_rows f D i.val (by omega)).symm

theorem kept_made {sig : RefSig} {κ : Kind} {sp : Space} (v : View sig κ sp (Rows n) .f32) (g : v.ty.Contents (Elt Ideal)) (f : Fin 1024 → EReal) (D : Fin 8 → EReal)
    (inb : ∀ k, (![o, q] : Fin 2 → ℕ) k + (![64, 128] : Fin 2 → ℕ) k ≤ (Rows n).size k)
    (Z : Mat Tile) (L : Pieces n) (i : Fin 1032) (e : Fin n)
    (h0 : o ≤ i.val) (h0' : i.val < o + 64) (h1 : q ≤ e.val) (h1' : e.val < q + 128) (b : o + 64 ≤ 1024)
    (hZ : ∀ (j : Fin 1024) (z : Tile.Idx), j.val = o + (z 0).val → e.val = q + (z 1).val → (Z z : EReal) = f j) :
    (v.read (Elt Ideal) (v.writes (Elt Ideal) g (⟨Rect.unit (s := Rows n) ![o, q] ![64, 128] inb, Z⟩ :: L)) (ix2 i e) : EReal) = next f D i.val :=
  (View.read_writes_apply_eq_canon v g (ix2 i e) _ ⟨_, List.mem_cons_self .., by
    rw [Rect.mem_set_unit]; intro k; fin_cases k
    · exact ⟨h0, h0'⟩
    · exact ⟨h1, h1'⟩⟩).trans (made_hit f D inb Z L i e h0 h0' h1 h1' b hZ)

end Cert.Conv

end
-- ==== Proof.GdnConv.Points.lean ====
/-
What one tile computes: the gradient of the taps, the gradient of the columns, and a tap's sum one tile further.
-/
module

public import proofs.«01_k».proof.Proof.Gen.GdnConvIdeal.Value
public import proofs.«01_k».proof.Proof.Conv.Gate

@[expose] public section

set_option maxRecDepth 65536
set_option maxHeartbeats 4000000

noncomputable section

namespace Cert.GdnConv.Proof

open Cert.Conv Cert.GdnConvIdeal Cert.GdnConvIdeal.Gen Idealize.ShloMosaic Idealize.ShloMosaic.TcCoe Idealize.SL.Sem

/-- The gradient of the taps in one tile. -/
abbrev tileGrad (w : FVec Ideal S4x128 .f32) (a b c d g : FVec Ideal S64x128 .f32) : FVec Ideal S64x128 .f32 := k0_pay14 (F := Ideal) w a b c d g (k0_pay13 w)

theorem tileGrad_eq (w : FVec Ideal S4x128 .f32) (a b c d g : FVec Ideal S64x128 .f32) (x : S64x128.Idx) :
    (tileGrad w a b c d g x : EReal)
      = g x * rise (((w (ix2 0 (x 1)) * a x + w (ix2 1 (x 1)) * b x) + w (ix2 2 (x 1)) * c x) + w (ix2 3 (x 1)) * d x) := by
  obtain ⟨r, e, rfl⟩ : ∃ r e, x = ix2 r e := ⟨x 0, x 1, by funext a; fin_cases a <;> rfl⟩
  unfold tileGrad k0_pay14 k0_pay13 rise
  pointwise

theorem tile_at (w : FVec Ideal S4x128 .f32) (a b c d g p q s : FVec Ideal S64x128 .f32) (x : S64x128.Idx) :
    (k0_pay16 (F := Ideal) w a b c d g (k0_pay13 w) p q s x : EReal)
      = ((w (ix2 3 (x 1)) * tileGrad w a b c d g x + w (ix2 2 (x 1)) * p x) + w (ix2 1 (x 1)) * q x) + w (ix2 0 (x 1)) * s x := by
  obtain ⟨r, e, rfl⟩ : ∃ r e, x = ix2 r e := ⟨x 0, x 1, by funext a; fin_cases a <;> rfl⟩
  unfold k0_pay16
  pointwise

theorem stored (x : FVec Ideal S1024x1024 .f32) : k0_pay7 (F := Ideal) x = x := by
  unfold k0_pay7
  exact shapeCast_self _ _

theorem moved (x : FVec Ideal S8x1024 .f32) : k0_pay2 (F := Ideal) x = x := by
  unfold k0_pay2
  exact shapeCast_self _ _

theorem below_zero (z : S8x1024.Idx) : (k0_pay3 (F := Ideal) z : EReal) = 0 := by
  obtain ⟨r, e, rfl⟩ : ∃ r e, z = ix2 r e := ⟨z 0, z 1, by funext a; fin_cases a <;> rfl⟩
  unfold k0_pay3
  pointwise

theorem dw_zero (z : S4x1024.Idx) : (k0_pay4 (F := Ideal) z : EReal) = 0 := by
  unfold k0_pay4
  pointwise

theorem acc_zero (z : S8x128.Idx) : (k0_pay8 (F := Ideal) z : EReal) = 0 := by
  unfold k0_pay8
  pointwise

/-- One tile more of a tap's sum. -/
theorem step_at (A : FVec Ideal S8x128 .f32) (x d : FVec Ideal S64x128 .f32) (s : Fin 8) (l : Fin 128) :
    (k0_pay19 (F := Ideal) A x d (ix2 s l) : EReal) = A (ix2 s l) + ∑ q : Fin 8, d (ix2 ⟨q.val * 8 + s.val, by omega⟩ l) * x (ix2 ⟨q.val * 8 + s.val, by omega⟩ l) := by
  unfold k0_pay19
  pointwise

theorem fin_at (A : FVec Ideal S8x128 .f32) (W : FVec Ideal S1x128 .f32) (z : S1x128.Idx) :
    (k0_pay170 (F := Ideal) A W z : EReal) = W z + ∑ s : Fin 8, A (ix2 s (z 1)) := by
  obtain ⟨r, e, rfl⟩ : ∃ r e, z = ix2 r e := ⟨z 0, z 1, by funext a; fin_cases a <;> rfl⟩
  unfold k0_pay170
  pointwise

theorem step (f : Fin 1024 → EReal) (s : Fin 8) (c : ℕ) (A : FVec Ideal S8x128 .f32) (x d : FVec Ideal S64x128 .f32) (l : Fin 128)
    (hA : (A (ix2 s l) : EReal) = part f s c)
    (h : ∀ (q : Fin 8) (i : Fin 1024) (r : Fin 64), i.val = 960 - 64 * c + (q.val * 8 + s.val) → r.val = q.val * 8 + s.val → (d (ix2 r l) * x (ix2 r l) : EReal) = f i) :
    (k0_pay19 (F := Ideal) A x d (ix2 s l) : EReal) = part f s (c + 1) :=
  (step_at A x d s l).trans (congrArg₂ (· + ·) hA (Finset.sum_congr rfl fun q _ => h q _ _ rfl rfl))

/-- A sum over the rows of a block, added to what was there. -/
theorem summed (f : Fin 1024 → EReal) (A : FVec Ideal S8x128 .f32) (W : FVec Ideal S1x128 .f32) (w : EReal) (z : S1x128.Idx) (hW : (W z : EReal) = w)
    (h : ∀ s, (A (ix2 s (z 1)) : EReal) = part f s 16) : (k0_pay170 (F := Ideal) A W z : EReal) = w + ∑ i, f i :=
  (fin_at A W z).trans (congrArg₂ (· + ·) hW ((Finset.sum_congr rfl fun s _ => h s).trans (total f)))

section
variable {sig' : RefSig} {κ : Kind} {sp : Space} (v : View sig' κ sp (Rows 1024) .f32) {o o0 o1 o2 o3 q : ℕ}

/-- The gradient of the taps in one tile of the block, from the padded columns. -/
theorem tileGrad_at (inbw : ∀ k, (![0, q] : Fin 2 → ℕ) k + (![4, 128] : Fin 2 → ℕ) k ≤ (Grid 4 1024).size k)
    (inb : ∀ k, (![o, q] : Fin 2 → ℕ) k + (![64, 128] : Fin 2 → ℕ) k ≤ (Block 1024).size k) (i0 i1 i2 i3)
    (W : Mat (Grid 4 1024)) (X d : Mat (Block 1024)) (Z : Mat (Carried 1024)) (e : Fin 1024) (i : Fin 1024) (z : Tile.Idx)
    (h0 : i.val = o + (z 0).val) (h1 : e.val = q + (z 1).val) (k0 : o0 = o + 5) (k1 : o1 = o + 6) (k2 : o2 = o + 7) (k3 : o3 = o + 8) :
    (tileGrad (View.ld (Val := Elt Ideal) (e' := .f32) W (Rect.unit (s := Grid 4 1024) ![0, q] ![4, 128] inbw))
      (v.readCov (Val := Elt Ideal) [⟨lower 1024, X⟩, ⟨upper 1024, Z⟩] (Rect.unit (s := Rows 1024) ![o0, q] ![64, 128] i0).toLoadRect)
      (v.readCov (Val := Elt Ideal) [⟨lower 1024, X⟩, ⟨upper 1024, Z⟩] (Rect.unit (s := Rows 1024) ![o1, q] ![64, 128] i1).toLoadRect)
      (v.readCov (Val := Elt Ideal) [⟨lower 1024, X⟩, ⟨upper 1024, Z⟩] (Rect.unit (s := Rows 1024) ![o2, q] ![64, 128] i2).toLoadRect)
      (v.readCov (Val := Elt Ideal) [⟨lower 1024, X⟩, ⟨upper 1024, Z⟩] (Rect.unit (s := Rows 1024) ![o3, q] ![64, 128] i3).toLoadRect)
      (View.ld (Val := Elt Ideal) (e' := .f32) d (Rect.unit (s := Block 1024) ![o, q] ![64, 128] inb)) z : EReal)
      = gated X d (fun k => W (ix2 k e)) (fun k => Z (ix2 k e)) e i := by
  refine (tileGrad_eq _ _ _ _ _ _ z).trans ?_
  unfold gated taps
  refine congrArg₂ (· * ·) (cell_at inb d i e z h0 h1) (congrArg rise ?_)
  have wt (k : Fin 4) : (View.ld (Val := Elt Ideal) (e' := .f32) W (Rect.unit (s := Grid 4 1024) ![0, q] ![4, 128] inbw) (ix2 k (z 1)) : EReal) = W (ix2 k e) :=
    cell_at inbw W k e (ix2 k (z 1)) (by show k.val = 0 + k.val; omega) h1
  refine congrArg₂ (· + ·) (congrArg₂ (· + ·) (congrArg₂ (· + ·) (congrArg₂ (· * ·) (wt 0) ?_) (congrArg₂ (· * ·) (wt 1) ?_)) (congrArg₂ (· * ·) (wt 2) ?_)) (congrArg₂ (· * ·) (wt 3) ?_)
  · exact both_at v X Z i0 (5 + 0) i e z (by omega) h1
  · exact both_at v X Z i1 (5 + 1) i e z (by omega) h1
  · exact both_at v X Z i2 (5 + 2) i e z (by omega) h1
  · exact both_at v X Z i3 (5 + 3) i e z (by omega) h1

/-- One row of one tile of a tap's sum. -/
theorem product_at {o' : ℕ} (inbw : ∀ k, (![0, q] : Fin 2 → ℕ) k + (![4, 128] : Fin 2 → ℕ) k ≤ (Grid 4 1024).size k)
    (inb : ∀ k, (![o, q] : Fin 2 → ℕ) k + (![64, 128] : Fin 2 → ℕ) k ≤ (Block 1024).size k) (i0 i1 i2 i3 i4)
    (W : Mat (Grid 4 1024)) (X d : Mat (Block 1024)) (Z : Mat (Carried 1024)) (e : Fin 1024) (k : ℕ) (i : Fin 1024) (r : Fin 64) (l : Fin 128)
    (h0 : i.val = o + r.val) (h1 : e.val = q + l.val) (k0 : o0 = o + 5) (k1 : o1 = o + 6) (k2 : o2 = o + 7) (k3 : o3 = o + 8) (k4 : o' = o + (5 + k)) :
    (tileGrad (View.ld (Val := Elt Ideal) (e' := .f32) W (Rect.unit (s := Grid 4 1024) ![0, q] ![4, 128] inbw))
      (v.readCov (Val := Elt Ideal) [⟨lower 1024, X⟩, ⟨upper 1024, Z⟩] (Rect.unit (s := Rows 1024) ![o0, q] ![64, 128] i0).toLoadRect)
      (v.readCov (Val := Elt Ideal) [⟨lower 1024, X⟩, ⟨upper 1024, Z⟩] (Rect.unit (s := Rows 1024) ![o1, q] ![64, 128] i1).toLoadRect)
      (v.readCov (Val := Elt Ideal) [⟨lower 1024, X⟩, ⟨upper 1024, Z⟩] (Rect.unit (s := Rows 1024) ![o2, q] ![64, 128] i2).toLoadRect)
      (v.readCov (Val := Elt Ideal) [⟨lower 1024, X⟩, ⟨upper 1024, Z⟩] (Rect.unit (s := Rows 1024) ![o3, q] ![64, 128] i3).toLoadRect)
      (View.ld (Val := Elt Ideal) (e' := .f32) d (Rect.unit (s := Block 1024) ![o, q] ![64, 128] inb)) (ix2 r l)
      * v.readCov (Val := Elt Ideal) [⟨lower 1024, X⟩, ⟨upper 1024, Z⟩] (Rect.unit (s := Rows 1024) ![o', q] ![64, 128] i4).toLoadRect (ix2 r l) : EReal)
      = gated X d (fun k => W (ix2 k e)) (fun k => Z (ix2 k e)) e i * pad (fun k => Z (ix2 k e)) (col X e) (i.val + (5 + k)) :=
  congrArg₂ (· * ·) (tileGrad_at v inbw inb i0 i1 i2 i3 W X d Z e i (ix2 r l) h0 h1 k0 k1 k2 k3)
    (both_at v X Z i4 (5 + k) i e (ix2 r l) (by show i.val + (5 + k) = o' + r.val; omega) h1)
end

variable (m : (ℓ : Loc nD τ sig) → Buf (Elt Ideal) ℓ)

/-- The rows above a block. -/
abbrev above (c : Dev nD) (t : Fin cfg0.N) (e : Fin 1024) (k : Fin 8) : EReal := k0_pay6 (F := Ideal) (grid0.coords t) (X0_1 m c t) (ix2 k e)

/-- The gradient of the taps at a point. -/
abbrev point (c : Dev nD) (t : Fin cfg0.N) (e : Fin 1024) (i : Fin 1024) : EReal :=
  gated (n := 1024) (k0_pay7 (F := Ideal) (X0_0 m c t)) (iblk m c 3 t) (fun k => (iblk m c 2 t : FVec Ideal S4x1024 .f32) (ix2 k e)) (above m c t e) e i

/-- A row of the gradient of the taps times the row k above it of the padded columns. -/
def product (c : Dev nD) (t : Fin cfg0.N) (e : Fin 1024) (k : ℕ) (i : Fin 1024) : EReal :=
  point m c t e i * pad (above m c t e) (col (n := 1024) (k0_pay7 (F := Ideal) (X0_0 m c t)) e) (i.val + (5 + k))

/-- The rows a point leaves for the next. -/
def tail (D : Mat (Rows 1024)) (e : Fin 1024) (k : Fin 8) : EReal := D (ix2 (n0 := 1032) ⟨1024 + k.val, by omega⟩ e)

end Cert.GdnConv.Proof

end
-- ==== Proof.GdnConv.First.lean ====
/-
The gradient of the columns at the first point of a run, nothing behind the block.
-/
module

public import proofs.«01_k».proof.Proof.GdnConv.Points

@[expose] public section

set_option maxRecDepth 65536
set_option maxHeartbeats 4000000

noncomputable section

namespace Cert.GdnConv.Proof

open Cert.Conv Cert.GdnConvIdeal Cert.GdnConvIdeal.Gen Idealize.ShloMosaic Idealize.ShloMosaic.TcCoe Idealize.SL.Sem

variable (m : (ℓ : Loc nD τ sig) → Buf (Elt Ideal) ℓ)

theorem dx_A (c : Dev nD) (t : Fin cfg0.N) (h0 : t.val % 4 = 0) (y : S1024x1024.Idx) :
    ((outsAt0 m c t.val t.isLt).1 y : EReal)
      = back (fun k => (iblk m c 2 t : FVec Ideal S4x1024 .f32) (ix2 k (y 1)))
        (fun k => next (point m c t (y 1)) (fun k => k0_pay3 (F := Ideal) (ix2 k (y 1))) ((y 0).val + k)) := by
  rw [Gen.outsAt0_A m c t h0]
  unfold point above
  generalize X0_0 m c t = x0
  generalize X0_1 m c t = x1
  generalize iblk m c 2 t = x2
  generalize iblk m c 3 t = x3
  frame_open
  frame_out
  dsimp only [back]
  canon_tiles x h
  all_goals
    refine (tile_at _ _ _ _ _ _ _ _ _ x).trans ?_
    refine congrArg₂ (· + ·) (congrArg₂ (· + ·) (congrArg₂ (· + ·)
        (congrArg₂ (· * ·) (weight_at _ x2 (y 1) x 3 (by omega))
          ((tileGrad_at _ _ _ _ _ _ _ x2 _ x3 _ (y 1) (y 0) x (by omega) (by omega) (by omega) (by omega) (by omega) (by omega)).trans (in_rows _ _ ((y 0).val + 0) (y 0).isLt).symm))
        (congrArg₂ (· * ·) (weight_at _ x2 (y 1) x 2 (by omega)) ?_)) (congrArg₂ (· * ·) (weight_at _ x2 (y 1) x 1 (by omega)) ?_))
        (congrArg₂ (· * ·) (weight_at _ x2 (y 1) x 0 (by omega)) ?_)
    all_goals
      refine load_next _ _ _ _ _ (y 0) _ (y 1) x (by omega) (by omega) fun i hi => ?_
      rcases Nat.lt_or_ge i.val (64 * ((y 0).val / 64) + 64) with hh | hh
      all_goals
        repeat refine skip _ _ _ _ _ _ (by omega) ?_
        first
          | exact made_hit _ _ _ _ _ i (y 1) (by omega) (by omega) (by omega) (by omega) (by omega)
              fun j z a b => (uncast _ _ z).trans (tileGrad_at _ _ _ _ _ _ _ x2 _ x3 _ (y 1) j z (by omega) (by omega) (by omega) (by omega) (by omega) (by omega))
          | exact base_hit _ _ _ (y 1) (fun _ => rfl) _ _ i (by omega)

end Cert.GdnConv.Proof

end
-- ==== Proof.GdnConv.Later.lean ====
/-
The gradient of the columns at a later point of a run, the rows of the point before behind the block.
-/
module

public import proofs.«01_k».proof.Proof.GdnConv.Points

@[expose] public section

set_option maxRecDepth 65536
set_option maxHeartbeats 4000000

noncomputable section

namespace Cert.GdnConv.Proof

open Cert.Conv Cert.GdnConvIdeal Cert.GdnConvIdeal.Gen Idealize.ShloMosaic Idealize.ShloMosaic.TcCoe Idealize.SL.Sem

variable (m : (ℓ : Loc nD τ sig) → Buf (Elt Ideal) ℓ)

theorem dx_B (c : Dev nD) (t : Fin cfg0.N) (h0 : ¬t.val % 4 = 0) (y : S1024x1024.Idx) :
    ((outsAt0 m c t.val t.isLt).1 y : EReal)
      = back (fun k => (iblk m c 2 t : FVec Ideal S4x1024 .f32) (ix2 k (y 1)))
        (fun k => next (point m c t (y 1)) (tail (outsAt0 m c (t.val - 1) (Nat.lt_of_le_of_lt (Nat.sub_le _ _) t.isLt)).2.2.2 (y 1)) ((y 0).val + k)) := by
  rw [Gen.outsAt0_B m c t h0]
  unfold point above
  generalize X0_0 m c t = x0
  generalize X0_1 m c t = x1
  generalize iblk m c 2 t = x2
  generalize iblk m c 3 t = x3
  generalize outsAt0 m c (t.val - 1) (Nat.lt_of_le_of_lt (Nat.sub_le _ _) t.isLt) = D
  frame_open
  frame_out
  dsimp only [back]
  canon_tiles x h
  all_goals
    refine (tile_at _ _ _ _ _ _ _ _ _ x).trans ?_
    refine congrArg₂ (· + ·) (congrArg₂ (· + ·) (congrArg₂ (· + ·)
        (congrArg₂ (· * ·) (weight_at _ x2 (y 1) x 3 (by omega))
          ((tileGrad_at _ _ _ _ _ _ _ x2 _ x3 _ (y 1) (y 0) x (by omega) (by omega) (by omega) (by omega) (by omega) (by omega)).trans (in_rows _ _ ((y 0).val + 0) (y 0).isLt).symm))
        (congrArg₂ (· * ·) (weight_at _ x2 (y 1) x 2 (by omega)) ?_)) (congrArg₂ (· * ·) (weight_at _ x2 (y 1) x 1 (by omega)) ?_))
        (congrArg₂ (· * ·) (weight_at _ x2 (y 1) x 0 (by omega)) ?_)
    all_goals
      first
        | (refine load_next _ _ _ _ _ (y 0) _ (y 1) x (by omega) (by omega) fun i hi => ?_
           rcases Nat.lt_or_ge i.val (64 * ((y 0).val / 64) + 64) with hh | hh
           all_goals
             repeat refine skip _ _ _ _ _ _ (by omega) ?_
             exact made_hit _ _ _ _ _ i (y 1) (by omega) (by omega) (by omega) (by omega) (by omega)
               fun j z a b => (uncast _ _ z).trans (tileGrad_at _ _ _ _ _ _ _ x2 _ x3 _ (y 1) j z (by omega) (by omega) (by omega) (by omega) (by omega) (by omega)))
        | (refine kept_next _ _ _ _ (y 0) _ (y 1) x (by omega) (by omega) fun i hi => ?_
           rcases Nat.lt_or_ge i.val 1024 with hh | hh
           · exact kept_made _ _ _ _ _ _ _ i (y 1) (by omega) (by omega) (by omega) (by omega) (by omega)
               fun j z a b => (uncast _ _ z).trans (tileGrad_at _ _ _ _ _ _ _ x2 _ x3 _ (y 1) j z (by omega) (by omega) (by omega) (by omega) (by omega) (by omega))
           · repeat refine kept_skip _ _ _ _ _ _ _ _ (by omega) ?_
             exact kept_base _ _ D.2.2.2 (Memref.IsWhole.read_unread _ _) _ i (y 1) hh)

end Cert.GdnConv.Proof

end
-- ==== Proof.GdnConv.TapsFirst.lean ====
/-
The sums for the taps after the first point of a run.
-/
module

public import proofs.«01_k».proof.Proof.GdnConv.Points

@[expose] public section

set_option maxRecDepth 65536
set_option maxHeartbeats 4000000

noncomputable section

namespace Cert.GdnConv.Proof

open Cert.Conv Cert.GdnConvIdeal Cert.GdnConvIdeal.Gen Idealize.ShloMosaic Idealize.ShloMosaic.TcCoe Idealize.SL.Sem

variable (m : (ℓ : Loc nD τ sig) → Buf (Elt Ideal) ℓ)

theorem dw_A (c : Dev nD) (t : Fin cfg0.N) (h0 : t.val % 4 = 0) (r : Fin 4) (e : Fin 1024) :
    ((outsAt0 m c t.val t.isLt).2.1 (ix2 r e) : EReal) = 0 + ∑ i, product m c t e r.val i := by
  rw [Gen.outsAt0_A m c t h0]
  unfold product point above
  generalize X0_0 m c t = x0
  generalize X0_1 m c t = x1
  generalize iblk m c 2 t = x2
  generalize iblk m c 3 t = x3
  frame_open
  frame_out
  have he : e.val < 128 ∨ (128 ≤ e.val ∧ e.val < 256) ∨ (256 ≤ e.val ∧ e.val < 384) ∨ (384 ≤ e.val ∧ e.val < 512) ∨ (512 ≤ e.val ∧ e.val < 640) ∨ (640 ≤ e.val ∧ e.val < 768) ∨ (768 ≤ e.val ∧ e.val < 896) ∨ 896 ≤ e.val := by omega
  have hr : r.val = 0 ∨ r.val = 1 ∨ r.val = 2 ∨ r.val = 3 := by omega
  rcases he with he | he | he | he | he | he | he | he <;> rcases hr with hr | hr | hr | hr
  all_goals
    repeat refine skip _ _ _ _ _ _ (by omega) ?_
    refine (hit _ _ _ _ _ (ix2 0 ⟨e.val % 128, by omega⟩) (by show r.val = _ + 0; omega) (by show e.val = _ + e.val % 128; omega)).trans ?_
    refine summed _ _ _ _ _ ?_ fun s => ?_
    · refine load_at _ _ _ r e _ _ (by show r.val = _ + 0; omega) (by show e.val = _ + e.val % 128; omega) ?_
      repeat refine skip _ _ _ _ _ _ (by omega) ?_
      exact (hit _ _ _ _ _ (ix2 r e) (by show r.val = 0 + r.val; omega) (by show e.val = 0 + e.val; omega)).trans (dw_zero _)
    · iterate 16 refine step _ _ _ _ _ _ _ ?_ fun q i z hi hz => product_at _ _ _ _ _ _ _ _ x2 _ x3 _ e r.val i z ⟨e.val % 128, by omega⟩ (by omega) (by show e.val = _ + e.val % 128; omega) (by omega) (by omega) (by omega) (by omega) (by omega)
      exact acc_zero _

end Cert.GdnConv.Proof

end
-- ==== Proof.GdnConv.TapsLater.lean ====
/-
The sums for the taps after a later point of a run.
-/
module

public import proofs.«01_k».proof.Proof.GdnConv.Points

@[expose] public section

set_option maxRecDepth 65536
set_option maxHeartbeats 4000000

noncomputable section

namespace Cert.GdnConv.Proof

open Cert.Conv Cert.GdnConvIdeal Cert.GdnConvIdeal.Gen Idealize.ShloMosaic Idealize.ShloMosaic.TcCoe Idealize.SL.Sem

variable (m : (ℓ : Loc nD τ sig) → Buf (Elt Ideal) ℓ)

theorem dw_B (c : Dev nD) (t : Fin cfg0.N) (h0 : ¬t.val % 4 = 0) (y : S4x1024.Idx) :
    ((outsAt0 m c t.val t.isLt).2.1 y : EReal)
      = (outsAt0 m c (t.val - 1) (Nat.lt_of_le_of_lt (Nat.sub_le _ _) t.isLt)).2.1 (ix2 (y 0) (y 1)) + ∑ i, product m c t (y 1) (y 0).val i := by
  rw [Gen.outsAt0_B m c t h0]
  unfold product point above
  generalize X0_0 m c t = x0
  generalize X0_1 m c t = x1
  generalize iblk m c 2 t = x2
  generalize iblk m c 3 t = x3
  generalize outsAt0 m c (t.val - 1) (Nat.lt_of_le_of_lt (Nat.sub_le _ _) t.isLt) = D
  frame_open
  frame_out
  canon_tiles x h
  all_goals
    refine summed _ _ _ _ x (cell_at _ D.2.1 (y 0) (y 1) x (by omega) (by omega)) fun s => ?_
    iterate 16 refine step _ _ _ _ _ _ _ ?_ fun q i r hi hr => product_at _ _ _ _ _ _ _ _ x2 _ x3 _ (y 1) (y 0).val i r (x 1) (by omega) (by omega) (by omega) (by omega) (by omega) (by omega) (by omega)
    exact acc_zero _

end Cert.GdnConv.Proof

end
-- ==== Proof.GdnConv.Tail.lean ====
/-
The rows a point leaves for the block before.
-/
module

public import proofs.«01_k».proof.Proof.GdnConv.Points

@[expose] public section

set_option maxRecDepth 65536
set_option maxHeartbeats 4000000

noncomputable section

namespace Cert.GdnConv.Proof

open Cert.Conv Cert.GdnConvIdeal Cert.GdnConvIdeal.Gen Idealize.ShloMosaic Idealize.ShloMosaic.TcCoe Idealize.SL.Sem

variable (m : (ℓ : Loc nD τ sig) → Buf (Elt Ideal) ℓ)

theorem tail_at (c : Dev nD) (t : Fin cfg0.N) (k : Fin 8) (e : Fin 1024) :
    (tail (outsAt0 m c t.val t.isLt).2.2.2 e k : EReal) = point m c t e ⟨k.val, by omega⟩ := by
  unfold tail point above
  have he : e.val < 128 ∨ (128 ≤ e.val ∧ e.val < 256) ∨ (256 ≤ e.val ∧ e.val < 384) ∨ (384 ≤ e.val ∧ e.val < 512) ∨ (512 ≤ e.val ∧ e.val < 640) ∨ (640 ≤ e.val ∧ e.val < 768) ∨ (768 ≤ e.val ∧ e.val < 896) ∨ 896 ≤ e.val := by omega
  by_cases h0 : t.val % 4 = 0
  · rw [Gen.outsAt0_A m c t h0]
    generalize X0_0 m c t = x0
    generalize X0_1 m c t = x1
    generalize iblk m c 2 t = x2
    generalize iblk m c 3 t = x3
    frame_open
    frame_out
    refine (hit _ _ _ _ _ (ix2 k e) (by show 1024 + k.val = 1024 + k.val; rfl) (by show e.val = 0 + e.val; omega)).trans ((congrFun (moved _) _).trans ?_)
    refine load_at _ _ _ ⟨k.val, by omega⟩ e (ix2 k e) _ (by show k.val = 0 + k.val; omega) (by show e.val = 0 + e.val; omega) ?_
    obtain ⟨i, hi⟩ : ∃ i : Fin 1032, i.val = k.val := ⟨⟨k.val, by omega⟩, rfl⟩
    rw [show (⟨k.val, by omega⟩ : Fin 1032) = i from Fin.ext hi.symm]
    refine Eq.trans ?_ ((congrArg (next _ (fun _ => 0)) hi).trans (in_rows _ (fun _ => 0) k.val (by omega)))
    rcases he with he | he | he | he | he | he | he | he
    all_goals
      repeat refine skip _ _ _ _ _ _ (by omega) ?_
      exact made_hit _ _ _ _ _ i e (by omega) (by omega) (by omega) (by omega) (by omega)
        fun j z a b => (uncast _ _ z).trans (tileGrad_at _ _ _ _ _ _ _ x2 _ x3 _ e j z (by omega) (by omega) (by omega) (by omega) (by omega) (by omega))
  · rw [Gen.outsAt0_B m c t h0]
    generalize X0_0 m c t = x0
    generalize X0_1 m c t = x1
    generalize iblk m c 2 t = x2
    generalize iblk m c 3 t = x3
    generalize outsAt0 m c (t.val - 1) (Nat.lt_of_le_of_lt (Nat.sub_le _ _) t.isLt) = D
    frame_open
    frame_out
    refine (hit _ _ _ _ _ (ix2 k e) (by show 1024 + k.val = 1024 + k.val; rfl) (by show e.val = 0 + e.val; omega)).trans ((congrFun (moved _) _).trans ?_)
    refine load_at _ _ _ ⟨k.val, by omega⟩ e (ix2 k e) _ (by show k.val = 0 + k.val; omega) (by show e.val = 0 + e.val; omega) ?_
    obtain ⟨i, hi⟩ : ∃ i : Fin 1032, i.val = k.val := ⟨⟨k.val, by omega⟩, rfl⟩
    rw [show (⟨k.val, by omega⟩ : Fin 1032) = i from Fin.ext hi.symm]
    refine Eq.trans ?_ ((congrArg (next _ (fun _ => 0)) hi).trans (in_rows _ (fun _ => 0) k.val (by omega)))
    rcases he with he | he | he | he | he | he | he | he
    all_goals
      repeat refine skip _ _ _ _ _ _ (by omega) ?_
      exact made_hit _ _ _ _ _ i e (by omega) (by omega) (by omega) (by omega) (by omega)
        fun j z a b => (uncast _ _ z).trans (tileGrad_at _ _ _ _ _ _ _ x2 _ x3 _ e j z (by omega) (by omega) (by omega) (by omega) (by omega) (by omega))

end Cert.GdnConv.Proof

end
-- ==== Proof.GdnConv.Kernel.lean ====
/- The arrays the gradient of the convolution with silu leaves: in each block of 1024 columns four blocks of 1024 rows, the last
   first, the first eight rows of each carried into the block above it, and the sums over the rows gathered block by block. -/
module

public import proofs.«01_k».proof.Proof.GdnConv.First
public import proofs.«01_k».proof.Proof.GdnConv.Later
public import proofs.«01_k».proof.Proof.GdnConv.TapsFirst
public import proofs.«01_k».proof.Proof.GdnConv.TapsLater
public import proofs.«01_k».proof.Proof.GdnConv.Tail
public import Idealize.ShloMosaic.Lib.StableHlo.ReadAt

@[expose] public section

set_option maxRecDepth 16384

noncomputable section

namespace Cert.GdnConv.Proof

open Cert.Conv Cert.GdnConvIdeal Cert.GdnConvIdeal.Gen Idealize.ShloMosaic Idealize.ShloMosaic.TcCoe Idealize.SL.Sem

/-- A column of the projections that the convolution reads. -/
def source (p : FVec Ideal S4096x4224 .f32) (e : Fin 3072) (i : Fin 4096) : EReal := p (ix2 i ⟨e.val, by omega⟩)

/-- The gradient of the taps: the cotangent times the slope of silu. -/
def behind (p : FVec Ideal S4096x4224 .f32) (w : FVec Ideal S4x3072 .f32) (d : FVec Ideal S4096x3072 .f32) (e : Fin 3072) (i : Fin 4096) : EReal :=
  d (ix2 i e) * rise (taps (fun k => w (ix2 k e)) fun k => tap (source p e) (i.val + k))

/-- The gradient of the projections with the convolution's columns filled in. -/
def filled (p : FVec Ideal S4096x4224 .f32) (w : FVec Ideal S4x3072 .f32) (d : FVec Ideal S4096x3072 .f32) (dp : FVec Ideal S4096x4224 .f32) :
    FVec Ideal S4096x4224 .bf16 := fun y =>
  if h : (y 1).val < 3072 then back (fun k => w (ix2 k ⟨(y 1).val, h⟩)) (fun k => past (behind p w d ⟨(y 1).val, h⟩) ((y 0).val + k)) else dp y

/-- The gradient of a tap: the gradient of the taps times the rows the tap reads. -/
def tapGrad (p : FVec Ideal S4096x4224 .f32) (w : FVec Ideal S4x3072 .f32) (d : FVec Ideal S4096x3072 .f32) : FVec Ideal S4x3072 .f32 := fun y =>
  (∑ i : Fin 4096, behind p w d (y 1) i * tap (source p (y 1)) (i.val + (y 0).val) : EReal)

theorem filled_at (p : FVec Ideal S4096x4224 .f32) (w : FVec Ideal S4x3072 .f32) (d : FVec Ideal S4096x3072 .f32) (dp : FVec Ideal S4096x4224 .f32)
    (r : Fin 4096) (e : Fin 3072) (j : Fin 4224) (hj : j.val = e.val) :
    filled p w d dp (ix2 r j) = back (fun k => w (ix2 k e)) (fun k => past (behind p w d e) (r.val + k)) := by
  have b : j.val < 3072 := by omega
  obtain rfl : e = ⟨j.val, b⟩ := Fin.ext hj.symm
  exact dif_pos b

theorem filled_kept (p : FVec Ideal S4096x4224 .f32) (w : FVec Ideal S4x3072 .f32) (d : FVec Ideal S4096x3072 .f32) (dp : FVec Ideal S4096x4224 .f32)
    (r : Fin 4096) (j : Fin 4224) (hj : ¬j.val < 3072) : filled p w d dp (ix2 r j) = dp (ix2 r j) := dif_neg hj

variable (m : (ℓ : Loc nD τ sig) → Buf (Elt Ideal) ℓ)

section
variable (c : Dev nD)
abbrev pIn : FVec Ideal S4096x4224 .f32 := m ((c : Thread nD τ).loc main_arg0)
abbrev wIn : FVec Ideal S4x3072 .f32 := m ((c : Thread nD τ).loc main_arg1)
abbrev dIn : FVec Ideal S4096x3072 .f32 := m ((c : Thread nD τ).loc main_arg2)
abbrev dpIn : FVec Ideal S4096x4224 .f32 := m ((c : Thread nD τ).loc main_arg3)
end

theorem places : ∀ t : Fin cfg0.N, (win0_0.index t = ![3 - t.val % 4, t.val / 4] ∧ win0_1.index t = ![(3 - t.val % 4) * 128 - 1, t.val / 4]
    ∧ win0_2.index t = ![0, t.val / 4] ∧ win0_3.index t = ![3 - t.val % 4, t.val / 4]) ∧ win0_4.index t = ![3 - t.val % 4, t.val / 4] ∧ win0_5.index t = ![0, t.val / 4] :=
  (by decide +kernel : ∀ t : Fin grid0.N, _)

theorem first_block : ∀ t : Fin cfg0.N, Scalar.cmpi .eq (BitVec.ofNat 32 (grid0.coords t 1).val) 3#32 = if t.val % 4 = 3 then 1#1 else 0#1 :=
  (by decide +kernel : ∀ t : Fin grid0.N, _)

section
variable (c : Dev nD) (t : Fin cfg0.N) (q : ℕ) (hq : t.val / 4 = q) (q3 : q < 3) (g : ℕ) (hg : 3 - t.val % 4 = g) (g4 : g < 4)
include hq q3 hg g4

/-- The rows of the block at a grid point. -/
theorem x_at (i : Fin 1024) (e : Fin 1024) :
    (X0_0 m c t : FVec Ideal S1024x1024 .f32) (ix2 i e) = source (pIn m c) ⟨q * 1024 + e.val, by omega⟩ ⟨g * 1024 + i.val, by omega⟩ := by
  subst hq hg
  unfold X0_0 Pipeline.Window.fill
  rw [dif_pos (moved0_0 t _)]
  exact (congrArg (V m c main_arg0) (show ((View.whole main_arg0).slice (win0_0.rect t)).emb _
      = (ix2 ⟨(3 - t.val % 4) * 1024 + i.val, by omega⟩ ⟨t.val / 4 * 1024 + e.val, by omega⟩ : S4096x4224.Idx) by blk_ext [(places t).1.1])).trans
    (congrFun (V_main_arg0 m c) _)

/-- The eight rows above it. -/
theorem up_at (h : 0 < g) (k : Fin 8) (e : Fin 1024) :
    (X0_1 m c t : FVec Ideal S8x1024 .f32) (ix2 k e) = source (pIn m c) ⟨q * 1024 + e.val, by omega⟩ ⟨g * 1024 - 8 + k.val, by omega⟩ := by
  subst hq hg
  unfold X0_1 Pipeline.Window.fill
  rw [dif_pos (moved0_1 t _)]
  exact (congrArg (V m c main_arg0) (show ((View.whole main_arg0).slice (win0_1.rect t)).emb _
      = (ix2 ⟨(3 - t.val % 4) * 1024 - 8 + k.val, by omega⟩ ⟨t.val / 4 * 1024 + e.val, by omega⟩ : S4096x4224.Idx) by blk_ext [(places t).1.2.1])).trans
    (congrFun (V_main_arg0 m c) _)

omit hg g4 in
theorem w_at (k : Fin 4) (e : Fin 1024) : (iblk m c 2 t : FVec Ideal S4x1024 .f32) (ix2 k e) = wIn m c (ix2 k ⟨q * 1024 + e.val, by omega⟩) := by
  subst hq
  exact (congrArg (V m c main_arg1) (show ((View.whole main_arg1).slice (win0_2.rect t)).emb _
      = (ix2 k ⟨t.val / 4 * 1024 + e.val, by omega⟩ : S4x3072.Idx) by blk_ext [(places t).1.2.2.1])).trans (congrFun (V_main_arg1 m c) _)

theorem d_at (i : Fin 1024) (e : Fin 1024) :
    (iblk m c 3 t : FVec Ideal S1024x1024 .f32) (ix2 i e) = dIn m c (ix2 ⟨g * 1024 + i.val, by omega⟩ ⟨q * 1024 + e.val, by omega⟩) := by
  subst hq hg
  exact (congrArg (V m c main_arg2) (show ((View.whole main_arg2).slice (win0_3.rect t)).emb _
      = (ix2 ⟨(3 - t.val % 4) * 1024 + i.val, by omega⟩ ⟨t.val / 4 * 1024 + e.val, by omega⟩ : S4096x3072.Idx) by blk_ext [(places t).1.2.2.2])).trans
    (congrFun (V_main_arg2 m c) _)

omit hq q3 in
theorem above_zero (h : g = 0) (e : Fin 1024) (k : Fin 8) : above m c t e k = 0 := by
  unfold above k0_pay6
  simp only [first_block, if_pos (show t.val % 4 = 3 by omega)]
  pointwise

theorem above_at (h : 0 < g) (e : Fin 1024) (k : Fin 8) :
    above m c t e k = source (pIn m c) ⟨q * 1024 + e.val, by omega⟩ ⟨g * 1024 - 8 + k.val, by omega⟩ := by
  refine Eq.trans ?_ (up_at m c t q hq q3 g hg g4 h k e)
  unfold above k0_pay6
  simp only [first_block, if_neg (show ¬t.val % 4 = 3 by omega)]
  pointwise

/-- The padded rows of the block are the rows of the array. -/
theorem rows_at (e : Fin 1024) (i : Fin 1024) (k : ℕ) (hk : k < 4) :
    pad (above m c t e) (col (n := 1024) (k0_pay7 (F := Ideal) (X0_0 m c t)) e) (i.val + (5 + k))
      = tap (source (pIn m c) ⟨q * 1024 + e.val, by omega⟩) (g * 1024 + i.val + k) := by
  refine pad_tap (source (pIn m c) ⟨q * 1024 + e.val, by omega⟩) (above m c t e) _ g g4 (fun j => ?_) (fun h j => above_zero m c t g hg g4 h e j)
    (fun h j => above_at m c t q hq q3 g hg g4 h e j) i.val i.isLt k hk
  rw [stored]
  exact x_at m c t q hq q3 g hg g4 j e

theorem point_at (e : Fin 1024) (i : Fin 1024) :
    point m c t e i = behind (pIn m c) (wIn m c) (dIn m c) ⟨q * 1024 + e.val, by omega⟩ ⟨g * 1024 + i.val, by omega⟩ := by
  unfold point gated behind
  exact congrArg₂ (· * ·) (d_at m c t q hq q3 g hg g4 i e) (congrArg rise (taps_congr (fun k => w_at m c t q hq q3 g k e)
    fun k hk => rows_at m c t q hq q3 g hg g4 e i k hk))

/-- A block's part of a tap's gradient. -/
theorem block_sum (e : Fin 1024) (k : Fin 4) :
    ∑ i, product m c t e k.val i = ∑ i : Fin 1024, (fun i : Fin 4096 => behind (pIn m c) (wIn m c) (dIn m c) ⟨q * 1024 + e.val, by omega⟩ i
      * tap (source (pIn m c) ⟨q * 1024 + e.val, by omega⟩) (i.val + k.val)) ⟨g % 4 * 1024 + i.val, by omega⟩ := by
  refine Finset.sum_congr rfl fun i _ => ?_
  have b : (⟨g * 1024 + i.val, by omega⟩ : Fin 4096) = ⟨g % 4 * 1024 + i.val, by omega⟩ := Fin.ext (by show g * 1024 + i.val = g % 4 * 1024 + i.val; omega)
  rw [← b]
  unfold product
  exact congrArg₂ (· * ·) (point_at m c t q hq q3 g hg g4 e i) (rows_at m c t q hq q3 g hg g4 e i k.val k.isLt)
end

/-- The blocks' sums as the grid gathers them, the last block first. -/
def gather (g : ℕ → EReal) : ℕ → EReal
  | 0 => 0 + g 3
  | n + 1 => gather g n + g (3 - (n + 1))

/-- A block's part of a sum over all rows. -/
abbrev blockOf (f : Fin 4096 → EReal) (a : ℕ) : EReal := ∑ i : Fin 1024, f ⟨a % 4 * 1024 + i.val, by omega⟩

theorem gathered (f : Fin 4096 → EReal) (n : ℕ) (hn : n = 3) : gather (blockOf f) n = ∑ i, f i := by
  subst hn
  exact four f _ fun a _ => rfl

theorem dw_at (c : Dev nD) (k : Fin 4) (q : ℕ) (q3 : q < 3) (e : Fin 1024) (n : ℕ) : ∀ (hn : q * 4 + n < cfg0.N), n < 4 →
    ((outsAt0 m c (q * 4 + n) hn).2.1 (ix2 k e) : EReal)
      = gather (blockOf fun i => behind (pIn m c) (wIn m c) (dIn m c) ⟨q * 1024 + e.val, by omega⟩ i
        * tap (source (pIn m c) ⟨q * 1024 + e.val, by omega⟩) (i.val + k.val)) n := by
  induction n with
  | zero =>
    exact fun hn _ => (dw_A m c ⟨q * 4 + 0, hn⟩ (by show (q * 4 + 0) % 4 = 0; omega) k e).trans (congrArg (0 + ·)
      (block_sum m c ⟨q * 4 + 0, hn⟩ q (by show (q * 4 + 0) / 4 = q; omega) q3 3 (by show 3 - (q * 4 + 0) % 4 = 3; omega) (by omega) e k))
  | succ n ih =>
    intro hn h4
    exact (dw_B m c ⟨q * 4 + (n + 1), hn⟩ (by show ¬(q * 4 + (n + 1)) % 4 = 0; omega) (ix2 k e)).trans
      (congrArg₂ (· + ·) (ih _ (by omega))
        (block_sum m c ⟨q * 4 + (n + 1), hn⟩ q (by show (q * 4 + (n + 1)) / 4 = q; omega) q3 (3 - (n + 1)) (by show 3 - (q * 4 + (n + 1)) % 4 = 3 - (n + 1); omega) (by omega) e k))

theorem dw_last (c : Dev nD) (k : Fin 4) (q : ℕ) (q3 : q < 3) (e : Fin 1024) (n : ℕ) (hn : n < cfg0.N) (h : n = q * 4 + 3) :
    ((outsAt0 m c n hn).2.1 (ix2 k e) : EReal) = tapGrad (pIn m c) (wIn m c) (dIn m c) (ix2 k ⟨q * 1024 + e.val, by omega⟩) := by
  obtain ⟨s, hs⟩ : ∃ s : ℕ, s = 3 := ⟨3, rfl⟩
  rw [← hs] at h
  subst h
  exact (dw_at m c k q q3 e s hn (by omega)).trans (gathered _ _ hs)

theorem dw_array (c : Dev nD) : (dats m 0 c).arrAt 5 cfg0.N = tapGrad (pIn m c) (wIn m c) (dIn m c) := by
  refine (dats m 0 c).arrAt_eq_of_covers 5 _ (by decide +kernel) fun t hf y => ?_
  have h3 : t.val % 4 = 3 := (flush0_5 t).mp hf
  have ht : t.val < 12 := t.isLt
  blk_simp
  rw [after0_5]
  obtain ⟨r, e, rfl⟩ : ∃ (r : Fin 4) (e : Fin 1024), y = ix2 r e := ⟨y 0, y 1, eq_ix2 (n0 := 4) (n1 := 1024) y⟩
  have place : ((View.whole main_v1_1).slice (win0_5.rect t)).emb (ix2 r e) = (ix2 r ⟨t.val / 4 * 1024 + e.val, by omega⟩ : S4x3072.Idx) := by
    blk_ext [(places t).2.2]
  rw [place]
  exact dw_last m c r (t.val / 4) (by omega) e t.val t.isLt (by omega)

theorem kept_at (c : Dev nD) (y : S4096x4224.Idx) : (V m c main_v1_0 y : EReal) = dpIn m c y := by
  have e : V m c main_v1_0 = (truncf .bf16 (dpIn m c : FVec Ideal S4096x4224 .f32) bitsLt_bf16_f32 : FVec Ideal S4096x4224 .bf16) := by
    unfold V hostOps0
    after_results
    rfl
  rw [e]
  rfl

theorem dx_array (c : Dev nD) : (dats m 0 c).arrAt 4 cfg0.N = filled (pIn m c) (wIn m c) (dIn m c) (dpIn m c) := by
  refine (dats m 0 c).arrAt_eq_of_coversWhere_of_agree 4 _ (fun β => β 1 ≤ 2) (by decide +kernel) (fun t hf y => ?_) (fun j hj => ?_)
  · blk_simp
    rw [after0_4]
    obtain ⟨r, e, hx⟩ : ∃ (r : Fin 1024) (e : Fin 1024), ((cfg0.win 4).xinj (cfg0.grid.coords t) y : S1024x1024.Idx) = ix2 r e :=
      ⟨_, _, eq_ix2 (n0 := 1024) (n1 := 1024) _⟩
    have hr : (y 0).val = r.val := congrArg (fun z : S1024x1024.Idx => (z 0).val) hx
    have he : (y 1).val = e.val := congrArg (fun z : S1024x1024.Idx => (z 1).val) hx
    rw [hx]
    have ht : t.val < 12 := t.isLt
    have q3 : t.val / 4 < 3 := by omega
    have g4 : 3 - t.val % 4 < 4 := by omega
    have place : (win0_4.blk t).view.emb y
        = (ix2 ⟨(3 - t.val % 4) * 1024 + r.val, by omega⟩ ⟨t.val / 4 * 1024 + e.val, by omega⟩ : S4096x4224.Idx) := by
      blk_ext [(places t).2.1, hr, he]
    rw [place]
    have row (D : Fin 8 → EReal) (h0 : 3 - t.val % 4 = 3 → ∀ i, D i = 0)
        (hD : ∀ h : 3 - t.val % 4 < 3, ∀ i : Fin 8, D i = behind (pIn m c) (wIn m c) (dIn m c) ⟨t.val / 4 * 1024 + e.val, by omega⟩ ⟨(3 - t.val % 4 + 1) * 1024 + i.val, by omega⟩) :
        back (fun k => (iblk m c 2 t : FVec Ideal S4x1024 .f32) (ix2 k e)) (fun k => next (point m c t e) D (r.val + k))
          = filled (pIn m c) (wIn m c) (dIn m c) (dpIn m c) (ix2 ⟨(3 - t.val % 4) * 1024 + r.val, by omega⟩ ⟨t.val / 4 * 1024 + e.val, by omega⟩) := by
      refine (back_congr (fun k => w_at m c t _ rfl q3 0 k e) fun k hk => ?_).trans (filled_at _ _ _ _ _ ⟨t.val / 4 * 1024 + e.val, by omega⟩ _ rfl).symm
      exact next_past (behind (pIn m c) (wIn m c) (dIn m c) ⟨t.val / 4 * 1024 + e.val, by omega⟩) _ D (3 - t.val % 4) g4
        (fun i => point_at m c t _ rfl q3 _ rfl g4 e i) h0 hD r.val r.isLt k hk
    by_cases h : t.val % 4 = 0
    · exact (dx_A m c t h (ix2 r e)).trans (row _ (fun _ i => below_zero _) (fun hp => absurd h (by omega)))
    · refine (dx_B m c t h (ix2 r e)).trans (row _ (fun h' => absurd h' (by omega)) (fun hp i => ?_))
      have hN : t.val - 1 < cfg0.N := Nat.lt_of_le_of_lt (Nat.sub_le _ _) t.isLt
      exact (tail_at m c ⟨t.val - 1, hN⟩ i e).trans (point_at m c ⟨t.val - 1, hN⟩ (t.val / 4) (by show (t.val - 1) / 4 = t.val / 4; omega) q3 (3 - t.val % 4 + 1)
        (by show 3 - (t.val - 1) % 4 = 3 - t.val % 4 + 1; omega) (by omega) e ⟨i.val, by omega⟩)
  · blk_simp [Pipeline.Window.cell_apply] at hj
    obtain ⟨r, e, rfl⟩ : ∃ (r : Fin 4096) (e : Fin 4224), j = ix2 r e := ⟨j 0, j 1, eq_ix2 (n0 := 4096) (n1 := 4224) j⟩
    refine (kept_at m c (ix2 r e)).trans (filled_kept _ _ _ _ r e fun h => hj ?_).symm
    show e.val / 1024 ≤ 2
    omega

end Cert.GdnConv.Proof

end
-- ==== Proof.GdnConv.Reference.lean ====
/- What the derivative of silu of the plain convolution leaves, for a finite cotangent. -/
module

public import proofs.«01_k».proof.Proof.GdnConv.Kernel
public import proofs.«01_k».proof.Proof.Silu
public import proofs.«01_k».proof.Proof.Gen.GdnConvRefIdeal.Read

@[expose] public section

set_option maxRecDepth 16384

noncomputable section

namespace Cert.GdnConv.Ref

open Cert.Conv Cert.GdnConvRefIdeal Cert.GdnConvRefIdeal.Gen Cert.GdnConvRefIdeal.Read Idealize.ShloMosaic Idealize.ShloMosaic.TcCoe

variable (p : FVec Ideal S4096x4224 .f32) (w : FVec Ideal S4x3072 .f32) (d : FVec Ideal S4096x3072 .f32)

theorem padded_at (n : Fin 4099) (e : Fin 3072) : val_main_v2 (F := Ideal) p (ix2 n e) = tap (Proof.source p e) n.val := by
  unfold val_main_v2 val_main_v1 val_main_cst val_main_v0
  pointwise
  unfold tap
  split
  · rfl
  · rw [dif_pos n.isLt]
    rfl

theorem taps_at (i : Fin 4096) (e : Fin 3072) :
    val_main_v32 (F := Ideal) p w (ix2 i e) = taps (fun k => w (ix2 k e)) fun k => tap (Proof.source p e) (i.val + k) := by
  unfold val_main_v32 val_main_v31 val_main_v30 val_main_v29 val_main_v28 val_main_v27 val_main_v26 val_main_v25
    val_main_v24 val_main_v23 val_main_v22 val_main_v21 val_main_v20 val_main_v19 val_main_v18 val_main_v17 val_main_v16 val_main_v15
    val_main_v14 val_main_v13 val_main_v12 val_main_v11 val_main_v10 val_main_v9 val_main_cst_1 val_main_v8 val_main_v7 val_main_v6
    val_main_v5 val_main_v4
  pointwise
  simp only [padded_at]
  rw [Nat.add_comm 1 i.val, Nat.add_comm 2 i.val, Nat.add_comm 3 i.val]
  rfl

/-- The cotangent is finite. -/
abbrev Given : Prop := ∀ (i : Fin 4096) (e : Fin 3072), ∃ y : ℝ, d (ix2 i e) = (y : EReal)

variable (hd : Given d)
include hd

theorem ct_at (i : Fin 4096) (e : Fin 3072) : val_main_v34 (F := Ideal) p w d (ix2 i e) = Proof.behind p w d e i := by
  unfold val_main_v34 val_main_call1_v2 val_main_call1_v1 val_main_call1_v0 val_main_v33_1 val_main_call0_v7 val_main_call0_v6 val_main_call0_cst_1
    val_main_v33_2 val_main_call0_v4 val_main_call0_cst_0 val_main_call0_v3 val_main_call0_v2 val_main_call0_cst val_main_call0_v1 val_main_call0_v0
  pointwise
  simp only [taps_at]
  unfold Proof.behind
  obtain ⟨y, hy⟩ := hd i e
  rw [hy]
  exact (Silu.silu_grad y _).symm

theorem tap_at (k : Fin 4) (e : Fin 3072) : val_main_v76 (F := Ideal) p w d (ix2 k e) = Proof.tapGrad p w d (ix2 k e) := by
  unfold val_main_v76 val_main_v75 val_main_v74 val_main_v71 val_main_v70 val_main_v69 val_main_v68 val_main_v65 val_main_v64 val_main_v63 val_main_v60 val_main_v59
    val_main_v58 val_main_v57 val_main_v54 val_main_v53 val_main_v52 val_main_v49 val_main_v48 val_main_v47 val_main_v46 val_main_v43 val_main_v42 val_main_v40
    val_main_v39 val_main_v38 val_main_v37 val_main_v28 val_main_v21 val_main_v14 val_main_v6 val_main_cst_2 val_main_cst_3 val_main_cst_5 val_main_cst_6 val_main_cst_7
    val_main_cst_9 val_main_cst_10 val_main_cst_11 val_main_cst_13 val_main_cst_14 val_main_cst_15 val_main_cst_17
  pointwise
  simp only [ct_at p w d hd, padded_at]
  simp only [Finset.univ_unique, Finset.sum_const, Finset.card_singleton, one_smul]
  unfold Proof.tapGrad
  obtain ⟨k, hk⟩ := k
  show _ = ∑ i : Fin 4096, Proof.behind p w d e i * tap (Proof.source p e) (i.val + k)
  rcases (by omega : k = 0 ∨ k = 1 ∨ k = 2 ∨ k = 3) with rfl | rfl | rfl | rfl
  all_goals
    simp only [Nat.add_comm]
    simp

omit hd in
/-- A later row's term, nothing where there is no such row. -/
theorem beyond (f : Fin 4096 → EReal) (a : EReal) (k : ℕ) (r : Fin 4096) (P : Prop) [Decidable P] (hP : P ↔ r.val + k < 4096) {x : P → EReal}
    (hx : ∀ (h : P) (h' : r.val + k < 4096), x h = f ⟨r.val + k, h'⟩) : (if h : P then a * x h else 0) = a * past f (r.val + k) := by
  unfold past
  by_cases h : P
  · rw [dif_pos h, dif_pos (hP.mp h), hx h (hP.mp h)]
  · rw [dif_neg h, dif_neg (fun h' => h (hP.mpr h')), mul_zero]

theorem rows_at (r : Fin 4096) (e : Fin 3072) :
    val_main_v78 (F := Ideal) p w d (ix2 r e) = back (fun k => w (ix2 k e)) (fun k => past (Proof.behind p w d e) (r.val + k)) := by
  unfold val_main_v78 val_main_v73 val_main_v72 val_main_v67 val_main_v66 val_main_v62 val_main_v61 val_main_v56 val_main_v55 val_main_v51 val_main_v50 val_main_v45 val_main_v44
    val_main_v41 val_main_v36 val_main_v35 val_main_v29 val_main_v27 val_main_v26 val_main_v22 val_main_v20 val_main_v19 val_main_v15 val_main_v13 val_main_v12
    val_main_v7 val_main_v5 val_main_v4 val_main_cst_4 val_main_cst_8 val_main_cst_12 val_main_cst_16
  pointwise
  simp only [ct_at p w d hd]
  refine congrArg₂ (· + ·) (congrArg₂ (· + ·) (congrArg₂ (· + ·) (congrArg (w (ix2 3 e) * ·) ?_) (beyond _ _ 1 _ _ (by omega) ?_)) (beyond _ _ 2 _ _ (by omega) ?_))
    (beyond _ _ 3 _ _ (by omega) ?_)
  · exact (show past (Proof.behind p w d e) (r.val + 0) = Proof.behind p w d e r from dif_pos r.isLt).symm
  all_goals
    intro h h'
    refine congrArg (Proof.behind p w d e) (Fin.ext ?_)
    dsimp only
    omega

theorem array_at (dp : FVec Ideal S4096x4224 .f32) (r : Fin 4096) (j : Fin 4224) :
    val_main_v81 (F := Ideal) p w d dp (ix2 r j) = Proof.filled p w d dp (ix2 r j) := by
  unfold val_main_v81 val_main_v80 val_main_v79
  pointwise
  by_cases h : j.val < 3072
  · rw [dif_pos h]
    exact (rows_at p w d hd r _).trans (Proof.filled_at p w d dp r ⟨j.val, h⟩ j rfl).symm
  · rw [Proof.filled_kept p w d dp r j h, dif_neg h]
    exact congrArg (fun k => dp (ix2 r k)) (Fin.ext (by show 3072 + (j.val - 3072) = j.val; omega))

end Cert.GdnConv.Ref

end
-- ==== Proof.GdnConv.Claims.lean ====
/- The claims about the gradient of the short convolution with silu before the gated delta rule. -/
module

public import proofs.«01_k».proof.Defs
public import proofs.«01_k».proof.Proof.GdnConv.Reference
public import proofs.«01_k».proof.Proof.Gen.GdnConv.Frame
public import proofs.«01_k».proof.Proof.Gen.GdnConvRefIdeal.Run
public import proofs.«01_k».proof.Proof.Gen.Pre_pre_gdnconv
public import proofs.«01_k».proof.Proof.Finite
public import Idealize.ShloMosaic.Lib.ReduceAll

@[expose] public section

set_option maxRecDepth 16384

noncomputable section

namespace Cert.GdnConv.Proof

open Idealize.ShloMosaic Idealize.ShloMosaic.TcCoe Idealize.SL.Sem

section
variable (p : FVec Ideal Cert.GdnConvRefIdeal.S4096x4224 .f32) (w : FVec Ideal Cert.GdnConvRefIdeal.S4x3072 .f32)
  (d : FVec Ideal Cert.GdnConvRefIdeal.S4096x3072 .f32) (dp : FVec Ideal Cert.GdnConvRefIdeal.S4096x4224 .f32)

/-- What the precondition says of an entry of the cotangent. -/
theorem finite (h : Cert.Pre_pre_gdnconv.fn (F := Ideal) p w d dp = fun _ => 1#1) : Ref.Given d := by
  intro i e
  have b := congrFun h (fun a => a.elim0)
  dsimp only [Cert.Pre_pre_gdnconv.fn] at b
  have b' := Host.reduce_andi_all _ _ _ _ _ b (ix2 i e)
  pointwise at b'
  exact Cert.Finite.real_of_bit b'

theorem reference_filled (hd : Ref.Given d) : Cert.GdnConvRefIdeal.Read.val_main_v81 (F := Ideal) p w d dp = filled p w d dp := by
  funext y
  obtain ⟨r, e, rfl⟩ : ∃ (r : Fin 4096) (e : Fin 4224), y = ix2 r e := ⟨y 0, y 1, eq_ix2 (n0 := 4096) (n1 := 4224) y⟩
  exact Ref.array_at p w d hd dp r e

theorem reference_taps (hd : Ref.Given d) : Cert.GdnConvRefIdeal.Read.val_main_v76 (F := Ideal) p w d = tapGrad p w d := by
  funext y
  obtain ⟨r, e, rfl⟩ : ∃ (r : Fin 4) (e : Fin 3072), y = ix2 r e := ⟨y 0, y 1, eq_ix2 (n0 := 4) (n1 := 3072) y⟩
  exact Ref.tap_at p w d hd r e
end

theorem reference_frame : Cert.quiescent_GdnConvRefIdeal (hGdnConvRefIdeal := Cert.GdnConvRefIdeal.Gen.facts) := fun m g _ =>
  (θ_run Cert.GdnConvRefIdeal.defs _ _).mono (fun r h => ⟨fun c => (h c).2.2, sem_eq_zero_of_no_sems (by decide) r.2⟩)
    (Cert.GdnConvRefIdeal.Value.run m g)

theorem algebraic : Cert.algebraic_GdnConvIdeal_GdnConvRefIdeal_pre_pre_gdnconv (hGdnConvIdeal := Cert.GdnConvIdeal.Gen.facts)
    (hGdnConvRefIdeal := Cert.GdnConvRefIdeal.Gen.facts) (hPre_pre_gdnconv := Cert.Pre_pre_gdnconv.Gen.facts) := by
  intro m g m' g' hpre hargs
  refine ⟨fun c => filled (pIn m c) (wIn m c) (dIn m c) (dpIn m c), fun c => tapGrad (pIn m c) (wIn m c) (dIn m c), ?_, ?_⟩
  · exact (θ_run Cert.GdnConvIdeal.defs _ _).mono (fun r h c => ⟨(h c).1.trans (dx_array m c), (h c).2.1.trans (dw_array m c),
      (h c).2.2.2⟩) (Cert.GdnConvIdeal.Value.run_blocks m g)
  · refine (θ_run Cert.GdnConvRefIdeal.defs _ _).mono (fun r h c => ?_) (Cert.GdnConvRefIdeal.Value.run m' g')
    obtain ⟨a0, a1, a2, a3⟩ := hargs c
    have hd : Ref.Given (dIn m c) := finite _ _ _ _ (hpre c)
    refine ⟨(h c).1.trans ?_, (h c).2.1.trans ?_, (h c).2.2⟩
    · refine (Cert.GdnConvRefIdeal.Read.val_main_v81_eq _ _).trans ?_
      rw [a0, a1, a2, a3]
      exact reference_filled _ _ _ _ hd
    · refine (Cert.GdnConvRefIdeal.Read.val_main_v76_eq _ _).trans ?_
      rw [a0, a1, a2]
      exact reference_taps _ _ _ hd

end Cert.GdnConv.Proof

end
-- ==== Proof.InProd.Kernel.lean ====
/- The padded projection of the odd layer: six tiles of two row blocks and three column blocks. -/
module

public import proofs.«01_k».proof.Proof.Gen.InProdIdeal.Value
public import Idealize.ShloMosaic.Lib.Pipeline.ValueKit
public import Idealize.ShloMosaic.Lib.Pointwise
public import Idealize.ShloMosaic.Lib.StableHlo.ReadAt

@[expose] public section

set_option maxRecDepth 16384

noncomputable section

namespace Cert.InProd.Proof

open Cert.InProdIdeal Cert.InProdIdeal.Gen Idealize.ShloMosaic Idealize.ShloMosaic.TcCoe Idealize.SL.Sem

abbrev Arr (s : Shape) : Type := (⟨s, .f32⟩ : BufTy).Contents (Elt Ideal)

/-- The weight's columns, and zeros behind them. -/
def padded (w : Arr S1024x4112) (k : Fin 1024) (j : Fin 4224) : EReal := if h : j.val < 4112 then w (ix2 k ⟨j.val, h⟩) else 0

def projected (h : Arr S4096x1024) (w : Arr S1024x4112) : Arr S4096x4224 := fun i =>
  ∑ k : Fin 1024, h (ix2 (i 0) k) * padded w k (i 1)

variable (m : (ℓ : Loc nD τ sig) → Buf (Elt Ideal) ℓ)

section
variable (c : Dev nD)
abbrev hIn : Arr S4096x1024 := m ((c : Thread nD τ).loc main_arg0)
abbrev wIn : Arr S1024x4112 := m ((c : Thread nD τ).loc main_arg1)
end

theorem h_at (c : Dev nD) (r : Fin 4096) (k : Fin 1024) : V m c main_v2 (ix2 r k) = hIn m c (ix2 r k) := by
  unfold V hostOps0
  after_reads_at

theorem pad_zero : (FloatOps.sitofp .bf16 0#32 : Ideal .bf16) = (0 : EReal) := by
  show (((0#32 : BitVec 32).toInt : ℝ) : EReal) = 0
  norm_num

theorem w_at (c : Dev nD) (k : Fin 1024) (j : Fin 4224) : V m c main_v1 (ix2 k j) = padded (wIn m c) k j := by
  unfold V hostOps0
  after_reads_at
  exact congrArg (dite _ _) (funext fun _ => pad_zero)

theorem places : ∀ t : Fin cfg0.N, win0_0.index t = ![t.val / 3, 0] ∧ win0_1.index t = ![0, t.val % 3]
    ∧ win0_2.index t = ![t.val / 3, t.val % 3] :=
  (by decide +kernel : ∀ t : Fin grid0.N, _)

theorem payload_apply (x0 : FVec Ideal S2048x1024 .bf16) (x1 : FVec Ideal S1024x1408 .bf16) (r : Fin 2048) (j : Fin 1408) :
    k0_pay1 (F := Ideal) x0 x1 (ix2 r j) = (∑ k : Fin 1024, x0 (ix2 r k) * x1 (ix2 k j) : EReal) := by
  unfold_payloads
  pointwise [dot_S2048x1024_S1024x1408_S2048x1408_1_0_0_1_n_n]

theorem kernel_array (c : Dev nD) : (dats m 0 c).arrAt 2 cfg0.N = projected (hIn m c) (wIn m c) := by
  refine (dats m 0 c).arrAt_eq_of_covers 2 _ (by decide +kernel) fun t hf y => ?_
  blk_simp
  rw [after0_2]
  frame_out
  obtain ⟨e0, e1, e2⟩ := places t
  obtain ⟨r, j, rfl⟩ : ∃ (r : Fin 2048) (j : Fin 1408), y = ix2 r j := ⟨y 0, y 1, eq_ix2 (n0 := 2048) (n1 := 1408) y⟩
  have ht : t.val < 6 := t.isLt
  have place : ((View.whole main_v3).slice (win0_2.rect t)).emb (ix2 r j)
      = (ix2 ⟨2048 * (t.val / 3) + r.val, by omega⟩ ⟨1408 * (t.val % 3) + j.val, by omega⟩ : S4096x4224.Idx) := by
    blk_ext [e2]
  rw [place]
  refine (payload_apply _ _ r j).trans (Finset.sum_congr rfl fun k _ => congrArg₂ (· * ·) ?_ ?_)
  · exact (congrArg (V m c main_v2) (show ((View.whole main_v2).slice (win0_0.rect t)).emb (ix2 r k)
      = (ix2 ⟨2048 * (t.val / 3) + r.val, by omega⟩ k : S4096x1024.Idx) by blk_ext [e0])).trans (h_at m c _ _)
  · exact (congrArg (V m c main_v1) (show ((View.whole main_v1).slice (win0_1.rect t)).emb (ix2 k j)
      = (ix2 k ⟨1408 * (t.val % 3) + j.val, by omega⟩ : S1024x4224.Idx) by blk_ext [e1])).trans (w_at m c _ _)

end Cert.InProd.Proof

end
-- ==== Proof.InProd.Claims.lean ====
/- The reference's padded projection, and the claims about the call that the certificate assembles. -/
module

public import proofs.«01_k».proof.Defs
public import proofs.«01_k».proof.Proof.InProd.Kernel
public import proofs.«01_k».proof.Proof.Gen.InProdRefIdeal.Read
public import proofs.«01_k».proof.Proof.Gen.InProd.Frame

@[expose] public section

set_option maxRecDepth 16384

noncomputable section

namespace Cert.InProd.Proof

section
open Cert.InProdRefIdeal Cert.InProdRefIdeal.Read Idealize.ShloMosaic Idealize.ShloMosaic.TcCoe

theorem product_at (h : Arr S4096x1024) (w : Arr S1024x4112) (r : Fin 4096) (j : Fin 4112) :
    val_main_v0 (F := Ideal) h w (ix2 r j) = (∑ k : Fin 1024, h (ix2 r k) * w (ix2 k j) : EReal) := by
  unfold val_main_v0
  pointwise [dot_S4096x1024_S1024x4112_S4096x4112_1_0_0_1_n_n]

theorem reference_projected (h : Arr S4096x1024) (w : Arr S1024x4112) : val_main_v2 (F := Ideal) h w = projected h w := by
  funext i
  obtain ⟨r, j, rfl⟩ : ∃ (r : Fin 4096) (j : Fin 4224), i = ix2 r j := ⟨i 0, i 1, eq_ix2 (n0 := 4096) (n1 := 4224) i⟩
  by_cases hj : j.val < 4112
  · refine Eq.trans ?_ ((product_at h w r ⟨j.val, hj⟩).trans (Finset.sum_congr rfl fun k _ => congrArg (h (ix2 r k) * ·) (show padded w k j = w (ix2 k ⟨j.val, hj⟩) from dif_pos hj).symm))
    unfold val_main_v2
    generalize val_main_v0 (F := Ideal) h w = a
    pointwise
    exact dif_pos hj
  · refine Eq.trans ?_ (Finset.sum_eq_zero fun k _ => (congrArg (h (ix2 r k) * ·) (show padded w k j = 0 from dif_neg hj)).trans (mul_zero _)).symm
    unfold val_main_v2 val_main_v1 val_main_cst
    generalize val_main_v0 (F := Ideal) h w = a
    pointwise
    exact dif_neg hj

end

open Idealize.ShloMosaic Idealize.ShloMosaic.TcCoe Idealize.SL.Sem

theorem reference_frame : Cert.quiescent_InProdRefIdeal (hInProdRefIdeal := Cert.InProdRefIdeal.Gen.facts) := fun m g _ =>
  (θ_run Cert.InProdRefIdeal.defs _ _).mono (fun r h => ⟨fun c => (h c).2, sem_eq_zero_of_no_sems (by decide) r.2⟩)
    (Cert.InProdRefIdeal.Value.run m g)

theorem algebraic : Cert.algebraic_InProdIdeal_InProdRefIdeal (hInProdIdeal := Cert.InProdIdeal.Gen.facts)
    (hInProdRefIdeal := Cert.InProdRefIdeal.Gen.facts) := by
  intro m g m' g' _ hargs
  refine ⟨fun c => projected (hIn m c) (wIn m c), ?_, ?_⟩
  · exact (θ_run Cert.InProdIdeal.defs _ _).mono (fun r h c => ⟨(h c).1.trans (kernel_array m c), (h c).2⟩)
      (Cert.InProdIdeal.Value.run_blocks m g)
  · refine (θ_run Cert.InProdRefIdeal.defs _ _).mono (fun r h c => ?_) (Cert.InProdRefIdeal.Value.run m' g')
    obtain ⟨a0, a1⟩ := hargs c
    refine ⟨(h c).1.trans ?_, (h c).2⟩
    refine (Cert.InProdRefIdeal.Read.val_main_v2_eq _ _).trans ?_
    rw [a0, a1]
    exact reference_projected _ _

end Cert.InProd.Proof

end
-- ==== Proof.Adamw.Kernel.lean ====
/- One weight's optimiser step: the devices' gradients summed, both moments and the change, in two row blocks. -/
module

public import proofs.«01_k».proof.Proof.Gen.AdamwIdeal.Value
public import proofs.«01_k».proof.Proof.Load
public import Idealize.ShloMosaic.Lib.Pipeline.ValueKit
public import Idealize.ShloMosaic.Lib.Pointwise
public import Idealize.ShloMosaic.Lib.StableHlo.ReadAt

@[expose] public section

set_option maxRecDepth 16384

noncomputable section

namespace Cert.Adamw.Proof

open Cert.AdamwIdeal Cert.AdamwIdeal.Gen Idealize.ShloMosaic Idealize.ShloMosaic.TcCoe Idealize.SL.Sem

abbrev Arr (s : Shape) : Type := (⟨s, .f32⟩ : BufTy).Contents (Elt Ideal)

abbrev word (b : BitVec 32) : EReal := (Scalar.ofBits .f32 b : Ideal .f32)

/-- The new first moment. -/
def first (g m : EReal) : EReal := word 0x3F666666#32 * m + word 0x3DCCCCCD#32 * g

/-- The new second moment. -/
def second (g v : EReal) : EReal := word 0x3F7FBE77#32 * v + word 0x3A83126F#32 * (g * g)

/-- The change of a weight. -/
def change (w g m v : EReal) : EReal :=
  word 0xBA83126F#32 * (Ideal.div (Ideal.div (first g m) (word 0x3F26BD02#32))
    (Ideal.sqrt (Ideal.div (second g v) (word 0x3C231ACC#32)) + word 0x322BCC77#32) + word 0x3C23D70A#32 * w)

/-- The gradient: the eight devices' parts, summed. -/
def grad (gs : Arr S8x1024x384) (r : Fin 1024) (j : Fin 384) : EReal := ∑ d : Fin 8, gs (ix3 d r j)

def grads (gs : Arr S8x1024x384) : Arr S1x1024x384 := fun i => grad gs (i 1) (i 2)

def firsts (gs : Arr S8x1024x384) (m : Arr S1x1024x384) : Arr S1x1024x384 := fun i =>
  first (grad gs (i 1) (i 2)) (m (ix3 0 (i 1) (i 2)))

def seconds (gs : Arr S8x1024x384) (v : Arr S1x1024x384) : Arr S1x1024x384 := fun i =>
  second (grad gs (i 1) (i 2)) (v (ix3 0 (i 1) (i 2)))

def changes (w : Arr S1x1024x384) (gs : Arr S8x1024x384) (m v : Arr S1x1024x384) : Arr S1x1024x384 := fun i =>
  change (w (ix3 0 (i 1) (i 2))) (grad gs (i 1) (i 2)) (m (ix3 0 (i 1) (i 2))) (v (ix3 0 (i 1) (i 2)))

variable (m : (ℓ : Loc nD τ sig) → Buf (Elt Ideal) ℓ)

section
variable (c : Dev nD)
abbrev wIn : Arr S1x1024x384 := m ((c : Thread nD τ).loc main_arg0)
abbrev gsIn : Arr S8x1024x384 := m ((c : Thread nD τ).loc main_arg1)
abbrev mIn : Arr S1x1024x384 := m ((c : Thread nD τ).loc main_arg2)
abbrev vIn : Arr S1x1024x384 := m ((c : Thread nD τ).loc main_arg3)
end

theorem gs_at (c : Dev nD) (d : Fin 8) (r : Fin 1024) (j : Fin 384) : V m c main_v0 (ix3 d r j) = gsIn m c (ix3 d r j) := by
  unfold V hostOps0
  after_reads_at

theorem places : ∀ t : Fin cfg0.N, (win0_0.index t = ![0, t.val, 0] ∧ win0_1.index t = ![0, t.val, 0] ∧ win0_2.index t = ![0, t.val, 0]
    ∧ win0_3.index t = ![0, t.val, 0]) ∧ win0_4.index t = ![0, t.val, 0] ∧ win0_5.index t = ![0, t.val, 0] ∧ win0_6.index t = ![0, t.val, 0]
    ∧ win0_7.index t = ![0, t.val, 0] :=
  (by decide +kernel : ∀ t : Fin grid0.N, _)

section
variable (x0 : FVec Ideal S1x512x384 .f32) (x1 : FVec Ideal S8x512x384 .bf16) (x2 x3 : FVec Ideal S1x512x384 .f32) (r : Fin 512) (j : Fin 384)

theorem sum_at : k0_pay11 (F := Ideal) x0 x1 x2 x3 (ix2 r j) = (∑ d : Fin 8, x1 (ix3 d r j) : EReal) := by
  rw [Fin.sum_univ_eight]
  unfold k0_pay11 k0_pay2
  pointwise

theorem out4_at : k0_pay5 (F := Ideal) (k0_pay11 x0 x1 x2 x3) (ix3 0 r j) = (∑ d : Fin 8, x1 (ix3 d r j) : EReal) := by
  rw [← sum_at x0 x1 x2 x3]
  generalize k0_pay11 (F := Ideal) x0 x1 x2 x3 = g
  unfold k0_pay5
  pointwise

theorem out6_at : k0_pay6 (F := Ideal) (k0_pay11 x0 x1 x2 x3) x2 (ix3 0 r j)
    = first (∑ d : Fin 8, x1 (ix3 d r j)) (x2 (ix3 0 r j)) := by
  rw [← sum_at x0 x1 x2 x3]
  generalize k0_pay11 (F := Ideal) x0 x1 x2 x3 = g
  unfold k0_pay6 k0_pay3
  pointwise
  rfl

theorem out7_at : k0_pay7 (F := Ideal) (k0_pay11 x0 x1 x2 x3) x3 (ix3 0 r j)
    = second (∑ d : Fin 8, x1 (ix3 d r j)) (x3 (ix3 0 r j)) := by
  rw [← sum_at x0 x1 x2 x3]
  generalize k0_pay11 (F := Ideal) x0 x1 x2 x3 = g
  unfold k0_pay7 k0_pay4
  pointwise
  rfl

theorem out5_at : k0_pay1 (F := Ideal) (k0_pay8 (k0_pay11 x0 x1 x2 x3) x2 x3) (k0_pay9 x0) (k0_pay10 (F := Ideal)) (ix3 0 r j)
    = change (x0 (ix3 0 r j)) (∑ d : Fin 8, x1 (ix3 d r j)) (x2 (ix3 0 r j)) (x3 (ix3 0 r j)) := by
  rw [← sum_at x0 x1 x2 x3]
  generalize k0_pay11 (F := Ideal) x0 x1 x2 x3 = g
  unfold k0_pay1 k0_pay8 k0_pay9 k0_pay10 k0_pay3 k0_pay4
  pointwise
  rfl

end

section
variable (c : Dev nD) (t : Fin cfg0.N) (r : Fin 512) (j : Fin 384)

theorem lt2 : t.val < 2 := t.isLt

/-- Row `r` of grid point `t`'s block. -/
def rowOf : Fin 1024 := ⟨512 * t.val + r.val, by have := lt2 t; omega⟩

theorem sum_eq : (∑ d : Fin 8, (iblk m c 1 t : FVec Ideal S8x512x384 .bf16) (ix3 d r j) : EReal) = grad (gsIn m c) (rowOf t r) j :=
  Finset.sum_congr rfl fun d _ => (congrArg (V m c main_v0) (show ((View.whole main_v0).slice (win0_1.rect t)).emb (ix3 d r j)
    = (ix3 d (rowOf t r) j : S8x1024x384.Idx) by blk_ext [(places t).1.2.1, rowOf])).trans (gs_at m c _ _ _)

theorem w_eq : (iblk m c 0 t : FVec Ideal S1x512x384 .f32) (ix3 0 r j) = wIn m c (ix3 0 (rowOf t r) j) :=
  (congrArg (V m c main_arg0) (show ((View.whole main_arg0).slice (win0_0.rect t)).emb (ix3 0 r j)
    = (ix3 0 (rowOf t r) j : S1x1024x384.Idx) by blk_ext [(places t).1.1, rowOf])).trans (congrFun (V_main_arg0 m c) _)

theorem m_eq : (iblk m c 2 t : FVec Ideal S1x512x384 .f32) (ix3 0 r j) = mIn m c (ix3 0 (rowOf t r) j) :=
  (congrArg (V m c main_arg2) (show ((View.whole main_arg2).slice (win0_2.rect t)).emb (ix3 0 r j)
    = (ix3 0 (rowOf t r) j : S1x1024x384.Idx) by blk_ext [(places t).1.2.2.1, rowOf])).trans (congrFun (V_main_arg2 m c) _)

theorem v_eq : (iblk m c 3 t : FVec Ideal S1x512x384 .f32) (ix3 0 r j) = vIn m c (ix3 0 (rowOf t r) j) :=
  (congrArg (V m c main_arg3) (show ((View.whole main_arg3).slice (win0_3.rect t)).emb (ix3 0 r j)
    = (ix3 0 (rowOf t r) j : S1x1024x384.Idx) by blk_ext [(places t).1.2.2.2, rowOf])).trans (congrFun (V_main_arg3 m c) _)

end

theorem gArr (c : Dev nD) : (dats m 0 c).arrAt 4 cfg0.N = grads (gsIn m c) := by
  refine (dats m 0 c).arrAt_eq_of_covers 4 _ (by decide +kernel) fun t hf y => ?_
  blk_simp
  rw [after0_4]
  frame_out
  obtain ⟨r, j, rfl⟩ : ∃ (r : Fin 512) (j : Fin 384), y = ix3 0 r j := ⟨y 1, y 2, (eq_ix3 (n0 := 1) (n1 := 512) (n2 := 384) y).trans (congrArg (fun a => ix3 a (y 1) (y 2)) (Subsingleton.elim _ _))⟩
  have place : ((View.whole main_v1_0).slice (win0_4.rect t)).emb (ix3 0 r j) = (ix3 0 (rowOf t r) j : S1x1024x384.Idx) := by
    blk_ext [(places t).2.1, rowOf]
  rw [place]
  exact (out4_at _ _ _ _ r j).trans (sum_eq m c t r j)

theorem dArr (c : Dev nD) : (dats m 0 c).arrAt 5 cfg0.N = changes (wIn m c) (gsIn m c) (mIn m c) (vIn m c) := by
  refine (dats m 0 c).arrAt_eq_of_covers 5 _ (by decide +kernel) fun t hf y => ?_
  blk_simp
  rw [after0_5]
  frame_out
  obtain ⟨r, j, rfl⟩ : ∃ (r : Fin 512) (j : Fin 384), y = ix3 0 r j := ⟨y 1, y 2, (eq_ix3 (n0 := 1) (n1 := 512) (n2 := 384) y).trans (congrArg (fun a => ix3 a (y 1) (y 2)) (Subsingleton.elim _ _))⟩
  have place : ((View.whole main_v1_1).slice (win0_5.rect t)).emb (ix3 0 r j) = (ix3 0 (rowOf t r) j : S1x1024x384.Idx) := by
    blk_ext [(places t).2.2.1, rowOf]
  rw [place]
  exact (out5_at _ _ _ _ r j).trans ((congrArg₂ (fun w g => change w g _ _) (w_eq m c t r j) (sum_eq m c t r j)).trans
    (congrArg₂ (change _ _) (m_eq m c t r j) (v_eq m c t r j)))

theorem mArr (c : Dev nD) : (dats m 0 c).arrAt 6 cfg0.N = firsts (gsIn m c) (mIn m c) := by
  refine (dats m 0 c).arrAt_eq_of_covers 6 _ (by decide +kernel) fun t hf y => ?_
  blk_simp
  rw [after0_6]
  frame_out
  obtain ⟨r, j, rfl⟩ : ∃ (r : Fin 512) (j : Fin 384), y = ix3 0 r j := ⟨y 1, y 2, (eq_ix3 (n0 := 1) (n1 := 512) (n2 := 384) y).trans (congrArg (fun a => ix3 a (y 1) (y 2)) (Subsingleton.elim _ _))⟩
  have place : ((View.whole main_v1_2).slice (win0_6.rect t)).emb (ix3 0 r j) = (ix3 0 (rowOf t r) j : S1x1024x384.Idx) := by
    blk_ext [(places t).2.2.2.1, rowOf]
  rw [place]
  exact (out6_at (iblk m c 0 t) _ _ (iblk m c 3 t) r j).trans (congrArg₂ first (sum_eq m c t r j) (m_eq m c t r j))

theorem vArr (c : Dev nD) : (dats m 0 c).arrAt 7 cfg0.N = seconds (gsIn m c) (vIn m c) := by
  refine (dats m 0 c).arrAt_eq_of_covers 7 _ (by decide +kernel) fun t hf y => ?_
  blk_simp
  rw [after0_7]
  frame_out
  obtain ⟨r, j, rfl⟩ : ∃ (r : Fin 512) (j : Fin 384), y = ix3 0 r j := ⟨y 1, y 2, (eq_ix3 (n0 := 1) (n1 := 512) (n2 := 384) y).trans (congrArg (fun a => ix3 a (y 1) (y 2)) (Subsingleton.elim _ _))⟩
  have place : ((View.whole main_v1_3).slice (win0_7.rect t)).emb (ix3 0 r j) = (ix3 0 (rowOf t r) j : S1x1024x384.Idx) := by
    blk_ext [(places t).2.2.2.2, rowOf]
  rw [place]
  exact (out7_at (iblk m c 0 t) _ (iblk m c 2 t) _ r j).trans (congrArg₂ second (sum_eq m c t r j) (v_eq m c t r j))

end Cert.Adamw.Proof

end
-- ==== Proof.Adamw.Claims.lean ====
/- The reference's gradient, moments and change, and the claims about the call that the certificate assembles. -/
module

public import proofs.«01_k».proof.Defs
public import proofs.«01_k».proof.Proof.Adamw.Kernel
public import proofs.«01_k».proof.Proof.Gen.AdamwRefIdeal.Read
public import proofs.«01_k».proof.Proof.Gen.Adamw.Frame

@[expose] public section

set_option maxRecDepth 16384

noncomputable section

namespace Cert.Adamw.Proof

namespace Ref

open Cert.AdamwRefIdeal Cert.AdamwRefIdeal.Read Idealize.ShloMosaic Idealize.ShloMosaic.TcCoe

variable (w : Arr S1x1024x384) (gs : Arr S8x1024x384) (m v : Arr S1x1024x384)

theorem split (i : S1x1024x384.Idx) : ∃ (r : Fin 1024) (j : Fin 384), i = ix3 0 r j :=
  ⟨i 1, i 2, (eq_ix3 (n0 := 1) (n1 := 1024) (n2 := 384) i).trans (congrArg (fun a => ix3 a (i 1) (i 2)) (Subsingleton.elim _ _))⟩

theorem grad_at (r : Fin 1024) (j : Fin 384) : val_main_v1 (F := Ideal) gs (ix3 0 r j) = grad gs r j := by
  unfold val_main_v1 val_main_v0 val_main_cst
  pointwise
  rfl

theorem first_at (r : Fin 1024) (j : Fin 384) : val_main_v6 (F := Ideal) gs m (ix3 0 r j) = first (grad gs r j) (m (ix3 0 r j)) := by
  rw [← grad_at]
  unfold val_main_v6 val_main_v5 val_main_v4 val_main_v3 val_main_v2 val_main_cst_1 val_main_cst_0
  generalize val_main_v1 (F := Ideal) gs = g
  pointwise
  rfl

theorem second_at (r : Fin 1024) (j : Fin 384) : val_main_v12 (F := Ideal) gs v (ix3 0 r j) = second (grad gs r j) (v (ix3 0 r j)) := by
  rw [← grad_at]
  unfold val_main_v12 val_main_v11 val_main_v10 val_main_v9 val_main_v8 val_main_v7 val_main_cst_3 val_main_cst_2
  generalize val_main_v1 (F := Ideal) gs = g
  pointwise
  rfl

theorem change_at (r : Fin 1024) (j : Fin 384) :
    val_main_v25 (F := Ideal) w gs m v (ix3 0 r j) = change (w (ix3 0 r j)) (grad gs r j) (m (ix3 0 r j)) (v (ix3 0 r j)) := by
  unfold change
  rw [← first_at, ← second_at]
  unfold val_main_v25 val_main_v24 val_main_v23 val_main_v22 val_main_v21 val_main_v20 val_main_v19 val_main_v18 val_main_v17 val_main_v16
    val_main_v15 val_main_v14 val_main_v13 val_main_cst_8 val_main_cst_7 val_main_cst_6 val_main_cst_5 val_main_cst_4
  generalize val_main_v6 (F := Ideal) gs m = a
  generalize val_main_v12 (F := Ideal) gs v = b
  pointwise

theorem reference_grads : val_main_v1 (F := Ideal) gs = grads gs := by
  funext i
  obtain ⟨r, j, rfl⟩ := split i
  exact grad_at gs r j

theorem reference_firsts : val_main_v6 (F := Ideal) gs m = firsts gs m := by
  funext i
  obtain ⟨r, j, rfl⟩ := split i
  exact first_at gs m r j

theorem reference_seconds : val_main_v12 (F := Ideal) gs v = seconds gs v := by
  funext i
  obtain ⟨r, j, rfl⟩ := split i
  exact second_at gs v r j

theorem reference_changes : val_main_v25 (F := Ideal) w gs m v = changes w gs m v := by
  funext i
  obtain ⟨r, j, rfl⟩ := split i
  exact change_at w gs m v r j

end Ref

open Idealize.ShloMosaic Idealize.ShloMosaic.TcCoe Idealize.SL.Sem

theorem reference_frame : Cert.quiescent_AdamwRefIdeal (hAdamwRefIdeal := Cert.AdamwRefIdeal.Gen.facts) := fun m g _ =>
  (θ_run Cert.AdamwRefIdeal.defs _ _).mono (fun r h => ⟨fun c => (h c).2.2.2.2, sem_eq_zero_of_no_sems (by decide) r.2⟩)
    (Cert.AdamwRefIdeal.Value.run m g)

theorem algebraic : Cert.algebraic_AdamwIdeal_AdamwRefIdeal (hAdamwIdeal := Cert.AdamwIdeal.Gen.facts)
    (hAdamwRefIdeal := Cert.AdamwRefIdeal.Gen.facts) := by
  intro m g m' g' _ hargs
  refine ⟨fun c => grads (gsIn m c), fun c => changes (wIn m c) (gsIn m c) (mIn m c) (vIn m c), fun c => firsts (gsIn m c) (mIn m c), fun c => seconds (gsIn m c) (vIn m c), ?_, ?_⟩
  · exact (θ_run Cert.AdamwIdeal.defs _ _).mono (fun r h c => ⟨(h c).1.trans (gArr m c), (h c).2.1.trans (dArr m c), (h c).2.2.1.trans (mArr m c), (h c).2.2.2.1.trans (vArr m c), (h c).2.2.2.2⟩)
      (Cert.AdamwIdeal.Value.run_blocks m g)
  · refine (θ_run Cert.AdamwRefIdeal.defs _ _).mono (fun r h c => ?_) (Cert.AdamwRefIdeal.Value.run m' g')
    obtain ⟨a0, a1, a2, a3⟩ := hargs c
    refine ⟨(h c).1.trans ?_, (h c).2.1.trans ?_, (h c).2.2.1.trans ?_, (h c).2.2.2.1.trans ?_, (h c).2.2.2.2⟩
    · refine (Cert.AdamwRefIdeal.Read.val_main_v1_eq _).trans ?_
      rw [a1]
      exact Ref.reference_grads _
    · refine (Cert.AdamwRefIdeal.Read.val_main_v25_eq _ _ _ _).trans ?_
      rw [a0, a1, a2, a3]
      exact Ref.reference_changes _ _ _ _
    · refine (Cert.AdamwRefIdeal.Read.val_main_v6_eq _ _).trans ?_
      rw [a1, a2]
      exact Ref.reference_firsts _ _
    · refine (Cert.AdamwRefIdeal.Read.val_main_v12_eq _ _).trans ?_
      rw [a1, a3]
      exact Ref.reference_seconds _ _

end Cert.Adamw.Proof

end
-- ==== Proof.LruFwd.Scan.lean ====
/-
The recurrence `h(n) = a(n) · h(n − 1) + u(n)` over the extended reals, the product of its factors, and the doubling of
a window: from the recurrence over the last `w` entries, started from zero, the recurrence over the last `2 w`.
-/
module

public import proofs.«01_k».proof.Proof.Silu

@[expose] public section

set_option maxRecDepth 16384

noncomputable section

namespace Cert.LruScan

open Idealize.ShloMosaic

/-- `k` steps of the recurrence from the value `s`, the first step at the position `r`. -/
def steps (a u : ℕ → EReal) (s : EReal) (r : ℕ) : ℕ → EReal
  | 0 => s
  | k + 1 => a (r + k) * steps a u s r k + u (r + k)

/-- The product of `k` factors, the first at the position `r`. -/
def gain (a : ℕ → EReal) (r : ℕ) : ℕ → EReal
  | 0 => 1
  | k + 1 => a (r + k) * gain a r k

theorem gain_mem {a : ℕ → EReal} (ha : ∀ n, 0 ≤ a n ∧ a n ≤ 1) (r : ℕ) : ∀ k, 0 ≤ gain a r k ∧ gain a r k ≤ 1
  | 0 => ⟨zero_le_one, le_refl _⟩
  | k + 1 => by
    obtain ⟨h0, h1⟩ := gain_mem ha r k
    refine ⟨mul_nonneg (ha _).1 h0, ?_⟩
    show a (r + k) * gain a r k ≤ 1
    calc a (r + k) * gain a r k ≤ 1 * 1 := mul_le_mul (ha _).2 h1 h0 zero_le_one
      _ = 1 := one_mul 1

theorem ne_top_of_le_one {x : EReal} (h : x ≤ 1) : x ≠ ⊤ := fun e => by
  subst e
  exact absurd h (not_le.mpr (EReal.coe_lt_top 1))

/-- A factor of `[0, 1]` distributes over a sum. -/
theorem mul_add_of_unit {x : EReal} (h : 0 ≤ x ∧ x ≤ 1) (y z : EReal) : x * (y + z) = x * y + x * z :=
  EReal.left_distrib_of_nonneg_of_ne_top h.1 (ne_top_of_le_one h.2) y z

/-- The starting value enters by the product of the factors. -/
theorem steps_start {a : ℕ → EReal} (ha : ∀ n, 0 ≤ a n ∧ a n ≤ 1) (u : ℕ → EReal) (s : EReal) (r : ℕ) :
    ∀ k, steps a u s r k = gain a r k * s + steps a u 0 r k
  | 0 => by show s = 1 * s + 0; rw [one_mul, add_zero]
  | k + 1 => by
    show a (r + k) * steps a u s r k + u (r + k) = a (r + k) * gain a r k * s + (a (r + k) * steps a u 0 r k + u (r + k))
    rw [steps_start ha u s r k, mul_add_of_unit (ha _), add_assoc, mul_assoc]

theorem steps_add (a u : ℕ → EReal) (s : EReal) (r k : ℕ) :
    ∀ l, steps a u s r (k + l) = steps a u (steps a u s r k) (r + k) l
  | 0 => rfl
  | l + 1 => by
    show a (r + (k + l)) * steps a u s r (k + l) + u (r + (k + l)) = a (r + k + l) * steps a u (steps a u s r k) (r + k) l + u (r + k + l)
    rw [steps_add a u s r k l, Nat.add_assoc]

theorem gain_add (a : ℕ → EReal) (r k : ℕ) : ∀ l, gain a r (k + l) = gain a (r + k) l * gain a r k
  | 0 => (one_mul _).symm
  | l + 1 => by
    show a (r + (k + l)) * gain a r (k + l) = a (r + k + l) * gain a (r + k) l * gain a r k
    rw [gain_add a r k l, ← mul_assoc, Nat.add_assoc]

/-- `U` and `A` hold the recurrence from zero and the product over the last `w` positions, fewer at the start. -/
def Window (a u : ℕ → EReal) (N w : ℕ) (U A : ℕ → EReal) : Prop :=
  ∀ r, r < N → U r = steps a u 0 (r + 1 - min w (r + 1)) (min w (r + 1))
    ∧ A r = gain a (r + 1 - min w (r + 1)) (min w (r + 1))

theorem window_one (a u : ℕ → EReal) (N : ℕ) (U A : ℕ → EReal) (hU : ∀ r, r < N → U r = u r) (hA : ∀ r, r < N → A r = a r) :
    Window a u N 1 U A := by
  intro r hr
  have h1 : min 1 (r + 1) = 1 := by omega
  rw [h1, hU r hr, hA r hr]
  constructor
  · show u r = a (r + 0) * 0 + u (r + 0)
    rw [mul_zero, zero_add]; rfl
  · show a r = a (r + 0) * 1
    rw [mul_one]; rfl

/-- One doubling of the window. -/
theorem window_double {a : ℕ → EReal} (ha : ∀ n, 0 ≤ a n ∧ a n ≤ 1) {u : ℕ → EReal} {N w : ℕ} {U A U' A' : ℕ → EReal}
    (h : Window a u N w U A)
    (hU : ∀ r, r < N → U' r = A r * (if w ≤ r then U (r - w) else 0) + U r)
    (hA : ∀ r, r < N → A' r = A r * (if w ≤ r then A (r - w) else 1)) :
    Window a u N (w + w) U' A' := by
  intro r hr
  obtain ⟨eU, eA⟩ := h r hr
  rw [hU r hr, hA r hr]
  by_cases hw : w ≤ r
  · obtain ⟨fU, fA⟩ := h (r - w) (by omega)
    rw [if_pos hw, if_pos hw, eU, eA, fU, fA]
    have e1 : min w (r + 1) = w := by omega
    rw [e1]
    generalize hk : min w (r - w + 1) = k
    have e2 : min (w + w) (r + 1) = k + w := by omega
    have e3 : r + 1 - (k + w) = r - w + 1 - k := by omega
    have e4 : r + 1 - w = r - w + 1 - k + k := by omega
    rw [e2, e3, steps_add, gain_add, steps_start ha u (steps a u 0 (r - w + 1 - k) k), e4]
    exact ⟨rfl, rfl⟩
  · rw [if_neg hw, if_neg hw, eU, eA, mul_zero, zero_add, mul_one]
    have e1 : min w (r + 1) = min (w + w) (r + 1) := by omega
    rw [e1]
    exact ⟨rfl, rfl⟩

/-- With a window of all the entries and a starting value: the recurrence from that value. -/
theorem window_close {a : ℕ → EReal} (ha : ∀ n, 0 ≤ a n ∧ a n ≤ 1) {u : ℕ → EReal} {N w : ℕ} {U A : ℕ → EReal}
    (h : Window a u N w U A) (hw : N ≤ w) (s : EReal) (r : ℕ) (hr : r < N) :
    U r + A r * s = steps a u s 0 (r + 1) := by
  obtain ⟨eU, eA⟩ := h r hr
  have e1 : min w (r + 1) = r + 1 := by omega
  rw [eU, eA, e1, Nat.sub_self, steps_start ha u s 0 (r + 1), add_comm]

theorem steps_shift (a u : ℕ → EReal) (s : EReal) (r : ℕ) :
    ∀ k, steps (fun n => a (r + n)) (fun n => u (r + n)) s 0 k = steps a u s r k
  | 0 => rfl
  | k + 1 => by
    show a (r + (0 + k)) * steps (fun n => a (r + n)) (fun n => u (r + n)) s 0 k + u (r + (0 + k)) = _
    rw [steps_shift a u s r k, Nat.zero_add]; rfl

end Cert.LruScan

end
-- ==== Proof.LruFwd.Spec.lean ====
/-
What the RG-LRU's forward pass computes, over the extended reals: the two gates of a row, from the block of 64 columns
its column lies in, the decay, the input, the recurrence down the rows, and the gelu the state is multiplied by.
-/
module

public import proofs.«01_k».proof.Proof.LruFwd.Scan

@[expose] public section

set_option maxRecDepth 16384

noncomputable section

namespace Cert.LruFwd

open Idealize.ShloMosaic Cert.LruScan

abbrev rate : EReal := Ideal.ofBits .f32 0xC1000000#32
abbrev one : EReal := Ideal.ofBits .f32 0x3F800000#32

theorem rate_real : rate = ((-8 : ℝ) : EReal) := by
  simp [rate, Ideal.ofBits, Ideal.ieee, -EReal.coe_mul]
  norm_num

theorem one_eq : one = 1 := by
  have h : one = ((1 : ℝ) : EReal) := by
    simp [one, Ideal.ofBits, Ideal.ieee, -EReal.coe_mul]
    norm_num
  exact h

theorem two_real : Ideal.ofBits .f32 0x40000000#32 = ((2 : ℝ) : EReal) := by
  simp [Ideal.ofBits, Ideal.ieee, -EReal.coe_mul]
  norm_num

/-- The arguments that the recurrence reads. -/
structure Given where
  x : Fin 4096 → Fin 512 → EReal
  wr : Fin 8 → Fin 64 → Fin 64 → EReal
  br : Fin 512 → EReal
  wi : Fin 8 → Fin 64 → Fin 64 → EReal
  bi : Fin 512 → EReal
  lam : Fin 512 → EReal

/-- The block of a column, and the column inside it. -/
def blk (j : Fin 512) : Fin 8 := ⟨j.val / 64, by omega⟩
def within (j : Fin 512) : Fin 64 := ⟨j.val % 64, by omega⟩
def colOf (n : Fin 8) (d : Fin 64) : Fin 512 := ⟨64 * n.val + d.val, by omega⟩

/-- A row times a weight of eight blocks. -/
def prod (x : Fin 512 → EReal) (w : Fin 8 → Fin 64 → Fin 64 → EReal) (j : Fin 512) : EReal :=
  ∑ d : Fin 64, x (colOf (blk j) d) * w (blk j) d (within j)

/-- The softplus, stable for large arguments. -/
def softplus (z : EReal) : EReal := max z 0 + Ideal.log1p (Ideal.exp (-max z (-z)))

namespace Given
variable (G : Given)

def r (t : Fin 4096) (j : Fin 512) : EReal := Ideal.logistic (prod (G.x t) G.wr j + G.br j)
def i (t : Fin 4096) (j : Fin 512) : EReal := Ideal.logistic (prod (G.x t) G.wi j + G.bi j)
/-- The logarithm of the decay. -/
def logA (t : Fin 4096) (j : Fin 512) : EReal := rate * G.r t j * softplus (-G.lam j)
def a (t : Fin 4096) (j : Fin 512) : EReal := Ideal.exp (G.logA t j)
def mult (t : Fin 4096) (j : Fin 512) : EReal := if t.val = 0 then 1 else Ideal.sqrt (1 - G.a t j * G.a t j)
def u (t : Fin 4096) (j : Fin 512) : EReal := G.x t j * G.i t j * G.mult t j

/-- A column of the decay and of the input, by the number of the row. -/
def aCol (j : Fin 512) (n : ℕ) : EReal := if h : n < 4096 then G.a ⟨n, h⟩ j else 0
def uCol (j : Fin 512) (n : ℕ) : EReal := if h : n < 4096 then G.u ⟨n, h⟩ j else 0

/-- The state behind row `t`. -/
def h (t : Fin 4096) (j : Fin 512) : EReal := steps (G.aCol j) (G.uCol j) 0 0 (t.val + 1)

end Given

/-- The gelu by the hyperbolic tangent, as the kernel groups it. -/
def gelu (y : EReal) : EReal :=
  Ideal.ofBits .f32 0x3F000000#32 * y
    * (one + Ideal.tanh (Ideal.ofBits .f32 0x3F4C422A#32 * (y + Ideal.ofBits .f32 0x3D372713#32 * y * y * y)))

/-! ### The decay lies between zero and one -/

theorem exp_nonneg (x : EReal) : 0 ≤ Ideal.exp x := by
  induction x with
  | bot => exact le_refl _
  | top => exact le_top
  | coe r => exact EReal.coe_nonneg.mpr (Real.exp_pos r).le

theorem exp_le_one {x : EReal} (h : x ≤ 0) : Ideal.exp x ≤ 1 := by
  induction x with
  | bot => exact zero_le_one
  | top => exact absurd h (not_le.mpr EReal.zero_lt_top)
  | coe r => exact EReal.coe_le_coe_iff.mpr (Real.exp_le_one_iff.mpr (EReal.coe_nonpos.mp h))

theorem log_nonneg {x : EReal} (h : 1 ≤ x) : 0 ≤ Ideal.log x := by
  induction x with
  | bot => exact absurd h (not_le.mpr (EReal.bot_lt_coe 1))
  | top => exact le_top
  | coe r =>
    have h1 : (1 : ℝ) ≤ r := EReal.coe_le_coe_iff.mp h
    show 0 ≤ if r ≤ 0 then ⊥ else (Real.log r : EReal)
    rw [if_neg (by linarith)]
    exact EReal.coe_nonneg.mpr (Real.log_nonneg h1)

theorem softplus_nonneg (z : EReal) : 0 ≤ softplus z := by
  refine add_nonneg (le_max_right _ _) (log_nonneg ?_)
  calc (1 : EReal) = 1 + 0 := (add_zero _).symm
    _ ≤ 1 + Ideal.exp (-max z (-z)) := by gcongr; exact exp_nonneg _

theorem logistic_nonneg (x : EReal) : 0 ≤ Ideal.logistic x := by
  show 0 ≤ Ideal.div 1 (1 + Ideal.exp (-x))
  unfold Ideal.div
  have h := exp_nonneg (-x)
  have hp : (0 : EReal) < 1 + Ideal.exp (-x) := lt_of_lt_of_le zero_lt_one (by
    calc (1 : EReal) = 1 + 0 := (add_zero _).symm
      _ ≤ 1 + Ideal.exp (-x) := by gcongr)
  rw [if_neg hp.ne', one_mul]
  exact EReal.inv_nonneg_of_nonneg hp.le

theorem Given.logA_nonpos (G : Given) (t : Fin 4096) (j : Fin 512) : G.logA t j ≤ 0 := by
  unfold Given.logA
  have h : rate ≤ 0 := by rw [rate_real]; exact EReal.coe_nonpos.mpr (by norm_num)
  exact EReal.mul_nonpos_iff.mpr (.inr ⟨EReal.mul_nonpos_iff.mpr (.inr ⟨h, logistic_nonneg _⟩), softplus_nonneg _⟩)

theorem Given.a_mem (G : Given) (t : Fin 4096) (j : Fin 512) : 0 ≤ G.a t j ∧ G.a t j ≤ 1 :=
  ⟨exp_nonneg _, exp_le_one (G.logA_nonpos t j)⟩

theorem Given.aCol_mem (G : Given) (j : Fin 512) (n : ℕ) : 0 ≤ G.aCol j n ∧ G.aCol j n ≤ 1 := by
  unfold Given.aCol
  split
  · exact G.a_mem _ j
  · exact ⟨le_refl _, zero_le_one⟩

theorem Given.aCol_at (G : Given) (t : Fin 4096) (j : Fin 512) : G.aCol j t.val = G.a t j := dif_pos t.isLt

theorem Given.uCol_at (G : Given) (t : Fin 4096) (j : Fin 512) : G.uCol j t.val = G.u t j := dif_pos t.isLt

/-- One less the square of an exponential is minus the exponential, less one, of the double. -/
theorem one_sub_sq (L : EReal) : 1 - Ideal.exp L * Ideal.exp L = -Ideal.expm1 (Ideal.ofBits .f32 0x40000000#32 * L) := by
  rw [two_real]
  show _ = -(Ideal.exp _ - 1)
  induction L with
  | bot =>
    rw [EReal.coe_mul_bot_of_pos (by norm_num)]
    show 1 - (0 : EReal) * 0 = -((0 : EReal) - 1)
    rw [mul_zero, sub_zero, zero_sub, neg_neg]
  | top =>
    rw [EReal.coe_mul_top_of_pos (by norm_num)]
    show 1 - (⊤ : EReal) * ⊤ = -((⊤ : EReal) - 1)
    rw [EReal.top_mul_top]
    rfl
  | coe r =>
    rw [← EReal.coe_mul]
    show ((1 : ℝ) : EReal) - (Real.exp r : EReal) * (Real.exp r : EReal) = -((Real.exp (2 * r) : EReal) - ((1 : ℝ) : EReal))
    rw [← EReal.coe_mul, ← EReal.coe_sub, ← EReal.coe_sub, ← EReal.coe_neg, two_mul, Real.exp_add, neg_sub]

end Cert.LruFwd

end
-- ==== Proof.LruFwd.Tile.lean ====
/-
The doubling steps of the kernel's scan on a tile of 512 rows and 128 columns, read column by column.
-/
module

public import proofs.«01_k».proof.Proof.LruFwd.Spec
public import proofs.«01_k».proof.Proof.Gen.LruFwdIdeal.Value
public import Idealize.ShloMosaic.Lib.KernelVsHost

@[expose] public section

set_option maxRecDepth 16384

noncomputable section

namespace Cert.LruFwd.Proof

open Cert.LruScan Cert.LruFwdIdeal Cert.LruFwdIdeal.Gen Idealize.ShloMosaic Idealize.ShloMosaic.TcCoe Idealize.SL.Sem

abbrev Tile : Type := FVec Ideal S512x128 .f32

/-- The rows moved down by `d`, the first `d` filled with the constant of the word `z`. -/
def down (d : BitVec 32) (z : BitVec 32) (X : Tile) : Tile :=
  select (cmpi .sge (iota .tc S512x128 32 [0] iota_S512x128_d0_w32) (broadcast S512x128 d))
    (dynamicRotate 0 d none X rotates_S512x128_d0) (broadcast S512x128 (Scalar.ofBits .f32 z))

/-- One doubling of the sums, and of the products. -/
def nextU (d : BitVec 32) (A U : Tile) : Tile := addf (mulf A (down d 0x00000000#32 U)) U
def nextA (d : BitVec 32) (A : Tile) : Tile := mulf A (down d 0x3F800000#32 A)

/-- A column of a tile, by the number of the row. -/
def column (X : Tile) (j : Fin 128) (n : ℕ) : EReal := if h : n < 512 then X (ix2 ⟨n, h⟩ j) else 0

theorem eq_zero_of_ne_one {b : BitVec 1} (h : b ≠ 1#1) : b = 0#1 := by
  revert h; revert b; decide

theorem down_at (d z : BitVec 32) (n : ℕ) (hd : d.toNat = n) (hn : n < 512) (X : Tile) (r : Fin 512) (j : Fin 128) :
    down d z X (ix2 r j) = if n ≤ r.val then column X j (r.val - n) else Ideal.ofBits .f32 z := by
  have hr := r.isLt
  have e : (cmpi .sge (iota .tc S512x128 32 [0] iota_S512x128_d0_w32) (broadcast S512x128 d)) (ix2 r j)
      = if n ≤ r.val then 1#1 else 0#1 := by
    pointwise
    have ir : (BitVec.ofNat 32 r.val).toInt = r.val := by
      rw [BitVec.toInt_eq_toNat_of_lt (by rw [BitVec.toNat_ofNat]; omega), BitVec.toNat_ofNat]
      omega
    have id' : d.toInt = n := by rw [BitVec.toInt_eq_toNat_of_lt (by omega), hd]
    by_cases h : n ≤ r.val
    · rw [if_pos h]
      exact IntOp.cmpi_sge.mpr (by rw [ir, id']; exact_mod_cast h)
    · rw [if_neg h]
      refine eq_zero_of_ne_one fun e => h ?_
      have := IntOp.cmpi_sge.mp e
      rw [ir, id'] at this
      exact_mod_cast this
  show Scalar.select _ _ _ = _
  rw [e]
  by_cases h : n ≤ r.val
  · rw [if_pos h, if_pos h]
    have hc : column X j (r.val - n) = X (ix2 ⟨r.val - n, by omega⟩ j) := dif_pos (by omega)
    rw [hc]
    refine dynamicRotate_apply (0 : Fin 2) d X rotates_S512x128_d0 (ix2 r j) (ix2 ⟨r.val - n, by omega⟩ j) fun b => ?_
    match b with
    | ⟨0, _⟩ =>
      show r.val - n = (r.val + 512 - d.toNat % 512) % 512
      rw [hd]
      omega
    | ⟨1, _⟩ => rfl
  · rw [if_neg h, if_neg h]
    rfl

theorem column_of_lt (X : Tile) (j : Fin 128) (r : ℕ) (h : r < 512) : column X j r = X (ix2 ⟨r, h⟩ j) := dif_pos h

theorem double (d : BitVec 32) (n : ℕ) (hd : d.toNat = n) (hn : n < 512) {a u : ℕ → EReal} (ha : ∀ k, 0 ≤ a k ∧ a k ≤ 1)
    (U A : Tile) (j : Fin 128) (h : Window a u 512 n (column U j) (column A j)) :
    Window a u 512 (n + n) (column (nextU d A U) j) (column (nextA d A) j) := by
  refine window_double ha h (fun r hr => ?_) (fun r hr => ?_)
  · rw [column_of_lt _ _ _ hr, column_of_lt _ _ _ hr, column_of_lt _ _ _ hr]
    show A _ * down d _ U _ + U _ = _
    rw [down_at d _ n hd hn, Ideal.ofBits_zero_f32]
  · rw [column_of_lt _ _ _ hr, column_of_lt _ _ _ hr]
    show A _ * down d _ A _ = _
    rw [down_at d _ n hd hn, show Ideal.ofBits .f32 0x3F800000#32 = 1 from one_eq]

/-- The nine doublings. -/
def A2 (A : Tile) : Tile := nextA 1#32 A
def U2 (A U : Tile) : Tile := nextU 1#32 A U
def A4 (A : Tile) : Tile := nextA 2#32 (A2 A)
def U4 (A U : Tile) : Tile := nextU 2#32 (A2 A) (U2 A U)
def A8 (A : Tile) : Tile := nextA 4#32 (A4 A)
def U8 (A U : Tile) : Tile := nextU 4#32 (A4 A) (U4 A U)
def A16 (A : Tile) : Tile := nextA 8#32 (A8 A)
def U16 (A U : Tile) : Tile := nextU 8#32 (A8 A) (U8 A U)
def A32 (A : Tile) : Tile := nextA 16#32 (A16 A)
def U32 (A U : Tile) : Tile := nextU 16#32 (A16 A) (U16 A U)
def A64 (A : Tile) : Tile := nextA 32#32 (A32 A)
def U64 (A U : Tile) : Tile := nextU 32#32 (A32 A) (U32 A U)
def A128 (A : Tile) : Tile := nextA 64#32 (A64 A)
def U128 (A U : Tile) : Tile := nextU 64#32 (A64 A) (U64 A U)
def A256 (A : Tile) : Tile := nextA 128#32 (A128 A)
def U256 (A U : Tile) : Tile := nextU 128#32 (A128 A) (U128 A U)
def A512 (A : Tile) : Tile := nextA 256#32 (A256 A)
def U512 (A U : Tile) : Tile := nextU 256#32 (A256 A) (U256 A U)

theorem scanned {a u : ℕ → EReal} (ha : ∀ k, 0 ≤ a k ∧ a k ≤ 1) (A U : Tile) (j : Fin 128)
    (hA : ∀ r : Fin 512, A (ix2 r j) = a r.val) (hU : ∀ r : Fin 512, U (ix2 r j) = u r.val) :
    Window a u 512 512 (column (U512 A U) j) (column (A512 A) j) := by
  have w1 : Window a u 512 1 (column U j) (column A j) := window_one a u 512 _ _
    (fun r hr => (column_of_lt U j r hr).trans (hU ⟨r, hr⟩)) (fun r hr => (column_of_lt A j r hr).trans (hA ⟨r, hr⟩))
  have w2 := double 1#32 1 rfl (by omega) ha _ _ j w1
  have w4 := double 2#32 2 rfl (by omega) ha _ _ j w2
  have w8 := double 4#32 4 rfl (by omega) ha _ _ j w4
  have w16 := double 8#32 8 rfl (by omega) ha _ _ j w8
  have w32 := double 16#32 16 rfl (by omega) ha _ _ j w16
  have w64 := double 32#32 32 rfl (by omega) ha _ _ j w32
  have w128 := double 64#32 64 rfl (by omega) ha _ _ j w64
  have w256 := double 128#32 128 rfl (by omega) ha _ _ j w128
  exact double 256#32 256 rfl (by omega) ha _ _ j w256

/-- The scan of a tile from the state `s` above it. -/
theorem scanned_from {a u : ℕ → EReal} (ha : ∀ k, 0 ≤ a k ∧ a k ≤ 1) (A U : Tile) (j : Fin 128)
    (hA : ∀ r : Fin 512, A (ix2 r j) = a r.val) (hU : ∀ r : Fin 512, U (ix2 r j) = u r.val) (s : EReal) (r : Fin 512) :
    U512 A U (ix2 r j) + A512 A (ix2 r j) * s = steps a u s 0 (r.val + 1) := by
  have h := window_close ha (scanned ha A U j hA hU) (le_refl _) s r.val r.isLt
  rw [column_of_lt _ _ _ r.isLt, column_of_lt _ _ _ r.isLt] at h
  exact h

end Cert.LruFwd.Proof

end
-- ==== Proof.LruFwd.Points.lean ====
/-
What one grid point of the RG-LRU's forward pass leaves: the tile of the states, the gated tile, and the last state.
-/
module

public import proofs.«01_k».proof.Proof.LruFwd.Tile
public import proofs.«01_k».proof.Proof.Load

@[expose] public section

set_option maxRecDepth 16384

noncomputable section

namespace Cert.LruFwd.Proof

open Cert.LruScan Cert.LruFwdIdeal Cert.LruFwdIdeal.Gen Idealize.ShloMosaic Idealize.ShloMosaic.TcCoe Idealize.SL.Sem

abbrev Square : Type := FVec Ideal S128x128 .f32
abbrev Line : Type := FVec Ideal S1x128 .f32

/-- The blocks that a grid point reads, and the number of its block of rows. -/
structure Blocks where
  x : Tile
  y : Tile
  wr : Square
  wi : Square
  br : Line
  bi : Line
  lam : Line
  n : BitVec 32

namespace Blocks
variable (B : Blocks)

def aV : Tile := k0_pay8 (F := Ideal) (k0_pay4 B.x B.wr B.br) (k0_pay6 B.lam) k0_pay7

def first : IVec S512x128 1 :=
  andi (cmpi .eq (iota .tc S512x128 32 [0] iota_S512x128_d0_w32) (broadcast S512x128 0#32))
    (broadcast S512x128 (Scalar.cmpi .eq B.n 0#32))

def uV : Tile :=
  mulf (mulf B.x (k0_pay5 B.x B.wi B.bi))
    (select B.first (broadcast S512x128 (Scalar.ofBits .f32 0x3F800000#32))
      (sqrt (subf (broadcast S512x128 (Scalar.ofBits .f32 0x3F800000#32)) (mulf B.aV B.aV))))

def hV (s : Line) : Tile :=
  addf (U512 B.aV B.uV) (mulf (A512 B.aV) (broadcastTo S512x128 s broadcasts_S1x128_S512x128))

def outV (s : Line) : FVec Ideal S512x128 .bf16 := k0_pay2 (F := Ideal) (B.hV s) B.y

end Blocks

variable (m : (ℓ : Loc nD τ sig) → Buf (Elt Ideal) ℓ)

def blocks (c : Dev nD) (t : Fin cfg0.N) : Blocks where
  x := iblk m c 0 t
  y := iblk m c 1 t
  wr := iblk m c 2 t
  wi := iblk m c 3 t
  br := iblk m c 4 t
  bi := iblk m c 5 t
  lam := iblk m c 6 t
  n := BitVec.ofNat 32 (grid0.coords t 1).val

/-- What the point before left. -/
abbrev prev (c : Dev nD) (t : Fin cfg0.N) := outsAt0 m c (t.val - 1) (Nat.lt_of_le_of_lt (Nat.sub_le _ _) t.isLt)

def zeroLine : Line := broadcast S1x128 (Scalar.ofBits .f32 0x00000000#32)

section
variable (x y : Tile) (wr wi : Square) (br bi lam : Line) (n : BitVec 32) (s : Line)

/-- The tile of the states in the kernel's grouping. -/
def scanV : Tile :=
  k0_pay25 (F := Ideal) (iota .tc S512x128 32 [0] iota_S512x128_d0_w32)
    (k0_pay22 (iota .tc S512x128 32 [0] iota_S512x128_d0_w32)
      (k0_pay12 n x (k0_pay4 x wr br) (k0_pay5 x wi bi) (k0_pay6 lam) k0_pay7)
      (k0_pay13 (k0_pay4 x wr br) (k0_pay6 lam) k0_pay7) k0_pay14
      (k0_pay15 n x (k0_pay4 x wr br) (k0_pay5 x wi bi) (k0_pay6 lam) k0_pay7) (FloatOps.ofBits .f32 0x00000000#32))
    (k0_pay23 (iota .tc S512x128 32 [0] iota_S512x128_d0_w32) (k0_pay13 (k0_pay4 x wr br) (k0_pay6 lam) k0_pay7) k0_pay14)
    k0_pay24 s

theorem scanV_eq : scanV x wr wi br bi lam n s = (Blocks.mk x y wr wi br bi lam n).hV s := rfl
end

/-- The first row of what the kernel carries. -/
def topLine (X : FVec Ideal S8x128 .f32) : Line := View.ld (Val := Elt Ideal) (S := S8x128) (e' := .f32) X (Rect.unit (s := S8x128) ![0, 0] ![1, 128] inb_S8x128_S1x128_0_0)

theorem topLine_at (X : FVec Ideal S8x128 .f32) (j : Fin 128) : topLine X (ix2 0 j) = X (ix2 0 j) := by
  unfold topLine
  refine congrArg X (funext fun a => Fin.ext ?_)
  fin_cases a
  · rfl
  · show 0 + 1 * j.val = j.val
    omega

theorem zero_read : (View.whole cc0_scratch0).readCov (Val := Elt Ideal)
      [⟨Rect.unit (s := S8x128) ![0, 0] ![8, 128] inb_S8x128_S8x128_0_0, k0_pay3 (F := Ideal)⟩]
    (Rect.unit (s := S8x128) ![0, 0] ![1, 128] inb_S8x128_S1x128_0_0).toLoadRect = zeroLine :=
  (View.readCov_fill (Val := Elt Ideal) (View.whole cc0_scratch0) (off := ![0, 0]) inb_S8x128_S8x128_0_0 (k0_pay3 (F := Ideal)) []
    (Rect.unit (s := S8x128) ![0, 0] ![1, 128] inb_S8x128_S1x128_0_0) (fun a => by fin_cases a <;> rfl)).trans rfl

section
variable (c : Dev nD) (t : Fin cfg0.N)

theorem states_A (h : t.val % 8 = 0) : (outsAt0 m c t.val t.isLt).2.1 = (blocks m c t).hV zeroLine := by
  rw [Gen.outsAt0_A m c t h]
  frame_open
  frame_out
  rw [zero_read]
  unfold blocks
  generalize iblk m c 0 t = x0
  generalize iblk m c 1 t = x1
  generalize iblk m c 2 t = x2
  generalize iblk m c 3 t = x3
  generalize iblk m c 4 t = x4
  generalize iblk m c 5 t = x5
  generalize iblk m c 6 t = x6
  generalize BitVec.ofNat 32 (grid0.coords t 1).val = n
  generalize zeroLine = s
  show scanV x0 x2 x3 x4 x5 x6 n s = _
  exact scanV_eq x0 x1 x2 x3 x4 x5 x6 n s

theorem states_B (h : ¬t.val % 8 = 0) : (outsAt0 m c t.val t.isLt).2.1 = (blocks m c t).hV (topLine (prev m c t).2.2) := by
  rw [Gen.outsAt0_B m c t h]
  frame_open
  frame_out
  simp only [Cert.Load.load_eq, read_unread_whole]
  unfold blocks
  generalize iblk m c 0 t = x0
  generalize iblk m c 1 t = x1
  generalize iblk m c 2 t = x2
  generalize iblk m c 3 t = x3
  generalize iblk m c 4 t = x4
  generalize iblk m c 5 t = x5
  generalize iblk m c 6 t = x6
  generalize BitVec.ofNat 32 (grid0.coords t 1).val = n
  show scanV x0 x2 x3 x4 x5 x6 n (topLine (prev m c t).2.2) = _
  exact scanV_eq x0 x1 x2 x3 x4 x5 x6 n _

theorem gated_A (h : t.val % 8 = 0) : (outsAt0 m c t.val t.isLt).1 = (blocks m c t).outV zeroLine := by
  rw [Gen.outsAt0_A m c t h]
  frame_open
  frame_out
  rw [zero_read]
  unfold blocks
  generalize iblk m c 0 t = x0
  generalize iblk m c 1 t = x1
  generalize iblk m c 2 t = x2
  generalize iblk m c 3 t = x3
  generalize iblk m c 4 t = x4
  generalize iblk m c 5 t = x5
  generalize iblk m c 6 t = x6
  generalize BitVec.ofNat 32 (grid0.coords t 1).val = n
  generalize zeroLine = s
  show k0_pay2 (F := Ideal) (scanV x0 x2 x3 x4 x5 x6 n s) x1 = _
  rw [scanV_eq x0 x1 x2 x3 x4 x5 x6 n s]
  rfl

theorem gated_B (h : ¬t.val % 8 = 0) : (outsAt0 m c t.val t.isLt).1 = (blocks m c t).outV (topLine (prev m c t).2.2) := by
  rw [Gen.outsAt0_B m c t h]
  frame_open
  frame_out
  simp only [Cert.Load.load_eq, read_unread_whole]
  unfold blocks
  generalize iblk m c 0 t = x0
  generalize iblk m c 1 t = x1
  generalize iblk m c 2 t = x2
  generalize iblk m c 3 t = x3
  generalize iblk m c 4 t = x4
  generalize iblk m c 5 t = x5
  generalize iblk m c 6 t = x6
  generalize BitVec.ofNat 32 (grid0.coords t 1).val = n
  show k0_pay2 (F := Ideal) (scanV x0 x2 x3 x4 x5 x6 n (topLine (prev m c t).2.2)) x1 = _
  rw [scanV_eq x0 x1 x2 x3 x4 x5 x6 n _]
  rfl

/-- The last row of a tile in all eight rows. -/
def lastRows (H : Tile) : FVec Ideal S8x128 .f32 :=
  k0_pay1 (F := Ideal) (broadcastTo S8x128 (shapeCast S1x128 (extractStridedSlice S1x128 ![511, 0] H slices_S512x128_o511_0_S1x128)
    shapeCasts_S1x128_S1x128) broadcasts_S1x128_S8x128)

theorem lastRows_at (H : Tile) (k : Fin 8) (j : Fin 128) : lastRows H (ix2 k j) = H (ix2 511 j) := by
  unfold lastRows
  unfold_payloads
  pointwise

theorem carried_A (h : t.val % 8 = 0) : (outsAt0 m c t.val t.isLt).2.2 = lastRows ((blocks m c t).hV zeroLine) := by
  rw [Gen.outsAt0_A m c t h]
  frame_open
  frame_out
  rw [zero_read]
  unfold blocks
  generalize iblk m c 0 t = x0
  generalize iblk m c 1 t = x1
  generalize iblk m c 2 t = x2
  generalize iblk m c 3 t = x3
  generalize iblk m c 4 t = x4
  generalize iblk m c 5 t = x5
  generalize iblk m c 6 t = x6
  generalize BitVec.ofNat 32 (grid0.coords t 1).val = n
  generalize zeroLine = s
  show lastRows (scanV x0 x2 x3 x4 x5 x6 n s) = _
  rw [scanV_eq x0 x1 x2 x3 x4 x5 x6 n s]

theorem carried_B (h : ¬t.val % 8 = 0) : (outsAt0 m c t.val t.isLt).2.2 = lastRows ((blocks m c t).hV (topLine (prev m c t).2.2)) := by
  rw [Gen.outsAt0_B m c t h]
  frame_open
  frame_out
  simp only [Cert.Load.load_eq, read_unread_whole]
  unfold blocks
  generalize iblk m c 0 t = x0
  generalize iblk m c 1 t = x1
  generalize iblk m c 2 t = x2
  generalize iblk m c 3 t = x3
  generalize iblk m c 4 t = x4
  generalize iblk m c 5 t = x5
  generalize iblk m c 6 t = x6
  generalize BitVec.ofNat 32 (grid0.coords t 1).val = n
  show lastRows (scanV x0 x2 x3 x4 x5 x6 n (topLine (prev m c t).2.2)) = _
  rw [scanV_eq x0 x1 x2 x3 x4 x5 x6 n _]

end

end Cert.LruFwd.Proof

end
-- ==== Proof.LruFwd.Rows.lean ====
/-
The tiles of the RG-LRU's forward pass at an element: the decay, the input, and the gelu of the gated tile.
-/
module

public import proofs.«01_k».proof.Proof.LruFwd.Points

@[expose] public section

set_option maxRecDepth 16384

noncomputable section

namespace Cert.LruFwd.Proof

open Cert.LruScan Cert.LruFwdIdeal Cert.LruFwdIdeal.Gen Idealize.ShloMosaic Idealize.ShloMosaic.TcCoe Idealize.SL.Sem

/-- A gate of a tile at an element. -/
def gate (x : Tile) (w : Square) (b : Line) (r : Fin 512) (j : Fin 128) : EReal :=
  Ideal.logistic ((∑ k : Fin 128, x (ix2 r k) * w (ix2 k j)) + b (ix2 0 j))

theorem zero_word : Ideal.ofBits .f32 0x00000000#32 = 0 := Ideal.ofBits_zero_f32

theorem gate_r (x : Tile) (w : Square) (b : Line) (r : Fin 512) (j : Fin 128) : k0_pay4 (F := Ideal) x w b (ix2 r j) = gate x w b r j := by
  unfold k0_pay4 gate
  pointwise [dot_S512x128_S128x128_S512x128_1_0_0_1_n_n]

theorem gate_i (x : Tile) (w : Square) (b : Line) (r : Fin 512) (j : Fin 128) : k0_pay5 (F := Ideal) x w b (ix2 r j) = gate x w b r j := by
  unfold k0_pay5 gate
  pointwise [dot_S512x128_S128x128_S512x128_1_0_0_1_n_n]

theorem soft (lam : Line) (j : Fin 128) : k0_pay6 (F := Ideal) lam (ix2 0 j) = softplus (-lam (ix2 0 j)) := by
  unfold k0_pay6 softplus
  pointwise
  rw [zero_sub, zero_sub]
  rfl

theorem decay_at (B : Blocks) (r : Fin 512) (j : Fin 128) :
    B.aV (ix2 r j) = Ideal.exp (rate * gate B.x B.wr B.br r j * softplus (-B.lam (ix2 0 j))) := by
  rw [← gate_r, ← soft]
  unfold Blocks.aV k0_pay8 k0_pay7
  pointwise

theorem input_at (B : Blocks) (r : Fin 512) (j : Fin 128) :
    B.uV (ix2 r j) = B.x (ix2 r j) * gate B.x B.wi B.bi r j
      * (if B.first (ix2 r j) = 1#1 then one else Ideal.sqrt (one - B.aV (ix2 r j) * B.aV (ix2 r j))) := by
  rw [← gate_i]
  unfold Blocks.uV
  pointwise
  rfl

theorem first_at (B : Blocks) (b : Prop) [Decidable b] (hb : Scalar.cmpi .eq B.n 0#32 = if b then 1#1 else 0#1) (r : Fin 512) (j : Fin 128) :
    B.first (ix2 r j) = if r.val = 0 ∧ b then 1#1 else 0#1 := by
  unfold Blocks.first
  rw [hb]
  pointwise
  have e : ∀ r : Fin 512, IntOp.cmpi .eq (BitVec.ofNat 32 r.val) 0#32 = if r.val = 0 then 1#1 else 0#1 := by decide +kernel
  rw [e r]
  by_cases h0 : r.val = 0 <;> by_cases h1 : b <;> simp only [h0, h1, if_true, if_false, and_true, and_false, true_and, false_and] <;> rfl

theorem states_at (B : Blocks) (s : Line) (r : Fin 512) (j : Fin 128) :
    B.hV s (ix2 r j) = U512 B.aV B.uV (ix2 r j) + A512 B.aV (ix2 r j) * s (ix2 0 j) := by
  unfold Blocks.hV
  generalize U512 B.aV B.uV = U
  generalize A512 B.aV = A
  pointwise

theorem gated_at (B : Blocks) (s : Line) (r : Fin 512) (j : Fin 128) :
    B.outV s (ix2 r j) = B.hV s (ix2 r j) * gelu (B.y (ix2 r j)) := by
  unfold Blocks.outV gelu
  generalize B.hV s = H
  unfold k0_pay2
  pointwise

end Cert.LruFwd.Proof

end
-- ==== Proof.LruFwd.Host.lean ====
/-
What the host lines above the call leave: the two weights as square arrays with the eight blocks on the diagonal, the biases as rows.
-/
module

public import proofs.«01_k».proof.Proof.LruFwd.Tile
public import Idealize.ShloMosaic.Lib.StableHlo.ReadAt

@[expose] public section

set_option maxRecDepth 16384

noncomputable section

namespace Cert.LruFwd.Proof

open Cert.LruScan Cert.LruFwdIdeal Cert.LruFwdIdeal.Gen Idealize.ShloMosaic Idealize.ShloMosaic.TcCoe Idealize.SL.Sem

variable (m : (ℓ : Loc nD τ sig) → Buf (Elt Ideal) ℓ)

section
variable (c : Dev nD)
abbrev xIn : FVec Ideal S4096x512 .f32 := m ((c : Thread nD τ).loc main_arg0)
abbrev pIn : FVec Ideal S4096x3072 .f32 := m ((c : Thread nD τ).loc main_arg1)
abbrev wrIn : FVec Ideal S8x64x64 .f32 := m ((c : Thread nD τ).loc main_arg2)
abbrev brIn : FVec Ideal S512 .f32 := m ((c : Thread nD τ).loc main_arg3)
abbrev wiIn : FVec Ideal S8x64x64 .f32 := m ((c : Thread nD τ).loc main_arg4)
abbrev biIn : FVec Ideal S512 .f32 := m ((c : Thread nD τ).loc main_arg5)
abbrev lamIn : FVec Ideal S512 .f32 := m ((c : Thread nD τ).loc main_arg6)
abbrev mixIn : FVec Ideal S4096x1024 .f32 := m ((c : Thread nD τ).loc main_arg7)
end

/-- One on the diagonal of eight, zero off it. -/
def eye : FVec Ideal S8x8 .f32 :=
  uitofp .f32 (cmpi .eq (addi (iotaInDim S8x8 32 0) (broadcastInDim S8x8 ![] bcast_S_S8x8 (constantI S_ 32 0#32))) (iotaInDim S8x8 32 1))

/-- Eight blocks on the diagonal of a square. -/
def square (w : FVec Ideal S8x64x64 .f32) : FVec Ideal S512x512 .f32 :=
  shapeCast S512x512 (mulf (broadcastInDim S8x64x8x64 ![0, 1, 2, 3] bcast_S8x1x8x1_S8x64x8x64_0_1_2_3 (broadcastInDim S8x1x8x1 ![0, 2] bcast_S8x8_S8x1x8x1_0_2 eye))
    (broadcastInDim S8x64x8x64 ![0, 1, 2, 3] bcast_S8x64x1x64_S8x64x8x64_0_1_2_3 (broadcastInDim S8x64x1x64 ![0, 1, 3] bcast_S8x64x64_S8x64x1x64_0_1_3 w)))
    shapeCasts_S8x64x8x64_S512x512

theorem V_wr (c : Dev nD) : V m c main_v11 = square (wrIn m c) := by
  unfold V hostOps0
  after_results
  rfl

theorem V_wi (c : Dev nD) : V m c main_v23 = square (wiIn m c) := by
  unfold V hostOps0
  after_results
  rfl

theorem V_br (c : Dev nD) : V m c main_v24 = shapeCast S1x512 (brIn m c) shapeCasts_S512_S1x512 := by
  unfold V hostOps0
  after_results
  rfl

theorem V_bi (c : Dev nD) : V m c main_v25 = shapeCast S1x512 (biIn m c) shapeCasts_S512_S1x512 := by
  unfold V hostOps0
  after_results
  rfl

theorem V_lam (c : Dev nD) : V m c main_v26 = shapeCast S1x512 (lamIn m c) shapeCasts_S512_S1x512 := by
  unfold V hostOps0
  after_results
  rfl

theorem V_mix (c : Dev nD) : V m c main_v28_0 = (truncf .bf16 (mixIn m c) bitsLt_bf16_f32 : FVec Ideal S4096x1024 .bf16) := by
  unfold V hostOps0
  after_results
  rfl

theorem eye_at (n k : Fin 8) : eye (ix2 n k) = if n = k then 1 else 0 := by
  unfold eye
  pointwise
  have e : ∀ n k : Fin 8, IntOp.cmpi .eq (IntOp.addi (BitVec.ofNat 32 n.val) 0#32) (BitVec.ofNat 32 k.val) = if n = k then 1#1 else 0#1 := by
    decide +kernel
  rw [e n k]
  split
  · show (((1#1 : BitVec 1).toNat : ℝ) : EReal) = 1
    simp
  · show (((0#1 : BitVec 1).toNat : ℝ) : EReal) = 0
    simp

theorem square_at (w : FVec Ideal S8x64x64 .f32) (n k : Fin 8) (d e : Fin 64) :
    square w (ix2 (colOf n d) (colOf k e)) = eye (ix2 n k) * w (ix3 n d e) := by
  unfold square
  generalize eye = E
  refine (shapeCast_apply _ _ (ix2 (colOf n d) (colOf k e)) (ix4 n d k e) ?_).trans ?_
  · rw [Shape.rowMajor_val_four, Shape.rowMajor_val_two]
    show ((n.val * 64 + d.val) * 8 + k.val) * 64 + e.val = (64 * n.val + d.val) * 512 + (64 * k.val + e.val)
    omega
  · pointwise

theorem row_at (b : FVec Ideal S512 .f32) (j : Fin 512) : (shapeCast S1x512 b shapeCasts_S512_S1x512 : FVec Ideal S1x512 .f32) (ix2 0 j) = b (ix1 j) := by
  pointwise

/-- A block of 64 rows of the square: the product's terms on the diagonal, nothing off it. -/
theorem square_half (X : Fin 512 → EReal) (w : FVec Ideal S8x64x64 .f32) (b : Fin 8) (j : Fin 512) :
    ∑ d : Fin 64, X (colOf b d) * square w (ix2 (colOf b d) j)
      = if b = blk j then prod X (fun n d e => w (ix3 n d e)) j else 0 := by
  have hj : j = colOf (blk j) (within j) := Fin.ext (by show j.val = 64 * (j.val / 64) + j.val % 64; omega)
  have e (d : Fin 64) : square w (ix2 (colOf b d) j) = eye (ix2 b (blk j)) * w (ix3 b d (within j)) :=
    (congrArg (fun j => square w (ix2 (colOf b d) j)) hj).trans (square_at w b (blk j) d (within j))
  simp only [e, eye_at]
  split
  · next h => subst h; simp only [one_mul]; rfl
  · simp only [zero_mul, mul_zero, Finset.sum_const_zero]

theorem colOf_eq (b : Fin 8) (d : Fin 64) (n : ℕ) (hn : n < 512) (h : n = 64 * b.val + d.val) : (⟨n, hn⟩ : Fin 512) = colOf b d := Fin.ext h

/-- A block of 128 columns of a row times the diagonal block of the square. -/
theorem square_sum (X : Fin 512 → EReal) (w : FVec Ideal S8x64x64 .f32) (q : ℕ) (hq : q < 4) (j : Fin 128) :
    ∑ k : Fin 128, X ⟨q * 128 + k.val, by omega⟩ * square w (ix2 ⟨q * 128 + k.val, by omega⟩ ⟨q * 128 + j.val, by omega⟩)
      = prod X (fun n d e => w (ix3 n d e)) ⟨q * 128 + j.val, by omega⟩ := by
  rw [Fin.sum_univ_add (a := 64) (b := 64)]
  have h0 := square_half X w ⟨2 * q, by omega⟩ ⟨q * 128 + j.val, by omega⟩
  have h1 := square_half X w ⟨2 * q + 1, by omega⟩ ⟨q * 128 + j.val, by omega⟩
  have s0 : ∑ k : Fin 64, X ⟨q * 128 + (Fin.castAdd 64 k).val, by have := (Fin.castAdd 64 k).isLt; omega⟩
      * square w (ix2 ⟨q * 128 + (Fin.castAdd 64 k).val, by have := (Fin.castAdd 64 k).isLt; omega⟩ ⟨q * 128 + j.val, by omega⟩) = _ :=
    (Finset.sum_congr rfl fun k _ => by
      rw [colOf_eq ⟨2 * q, by omega⟩ k (q * 128 + (Fin.castAdd 64 k).val) _ (by show q * 128 + k.val = 64 * (2 * q) + k.val; omega)]).trans h0
  have s1 : ∑ k : Fin 64, X ⟨q * 128 + (Fin.natAdd 64 k).val, by have := (Fin.natAdd 64 k).isLt; omega⟩
      * square w (ix2 ⟨q * 128 + (Fin.natAdd 64 k).val, by have := (Fin.natAdd 64 k).isLt; omega⟩ ⟨q * 128 + j.val, by omega⟩) = _ :=
    (Finset.sum_congr rfl fun k _ => by
      rw [colOf_eq ⟨2 * q + 1, by omega⟩ k (q * 128 + (Fin.natAdd 64 k).val) _ (by show q * 128 + (64 + k.val) = 64 * (2 * q + 1) + k.val; omega)]).trans h1
  refine (congrArg₂ (· + ·) s0 s1).trans ?_
  by_cases hj : j.val < 64
  · rw [if_pos (Fin.ext (by show 2 * q = (q * 128 + j.val) / 64; omega)), if_neg (fun h => by
      have := congrArg Fin.val h
      change 2 * q + 1 = (q * 128 + j.val) / 64 at this
      omega), add_zero]
  · rw [if_neg (fun h => by
      have := congrArg Fin.val h
      change 2 * q = (q * 128 + j.val) / 64 at this
      omega), if_pos (Fin.ext (by show 2 * q + 1 = (q * 128 + j.val) / 64; omega)), zero_add]

end Cert.LruFwd.Proof

end
-- ==== Proof.LruFwd.Kernel.lean ====
/-
The arrays the RG-LRU's forward pass leaves: the states, block of rows by block of rows from the state carried, and the gated states
beside the half of the mixture that was there.
-/
module

public import proofs.«01_k».proof.Proof.LruFwd.Rows
public import proofs.«01_k».proof.Proof.LruFwd.Host

@[expose] public section

set_option maxRecDepth 16384

noncomputable section

namespace Cert.LruFwd.Proof

open Cert.LruScan Cert.LruFwdIdeal Cert.LruFwdIdeal.Gen Idealize.ShloMosaic Idealize.ShloMosaic.TcCoe Idealize.SL.Sem

/-- The arguments by row and column. -/
def givenOf (x : FVec Ideal S4096x512 .f32) (wr : FVec Ideal S8x64x64 .f32) (br : FVec Ideal S512 .f32) (wi : FVec Ideal S8x64x64 .f32)
    (bi lam : FVec Ideal S512 .f32) : Given where
  x := fun t j => x (ix2 t j)
  wr := fun n d e => wr (ix3 n d e)
  br := fun j => br (ix1 j)
  wi := fun n d e => wi (ix3 n d e)
  bi := fun j => bi (ix1 j)
  lam := fun j => lam (ix1 j)

def statesArr (G : Given) : FVec Ideal S4096x512 .f32 := fun y => G.h (y 0) (y 1)

/-- The mixture with the gated states in its upper half of columns. -/
def mixArr (G : Given) (p : FVec Ideal S4096x3072 .f32) (mix : FVec Ideal S4096x1024 .f32) : FVec Ideal S4096x1024 .bf16 := fun y =>
  if h : 512 ≤ (y 1).val then
    G.h (y 0) ⟨(y 1).val - 512, by have h2 : (y 1).val < 1024 := (y 1).isLt; omega⟩
      * gelu (p (ix2 (y 0) ⟨2048 + (y 1).val, by have h2 : (y 1).val < 1024 := (y 1).isLt; omega⟩))
  else mix y

theorem mixArr_at (G : Given) (p : FVec Ideal S4096x3072 .f32) (mix : FVec Ideal S4096x1024 .f32) (t : Fin 4096) (e : Fin 512) (j : Fin 1024)
    (k : Fin 3072) (hj : j.val = 512 + e.val) (hk : k.val = 2560 + e.val) :
    mixArr G p mix (ix2 t j) = G.h t e * gelu (p (ix2 t k)) := by
  have b : j.val - 512 < 512 := by omega
  obtain rfl : e = ⟨j.val - 512, b⟩ := Fin.ext (by show e.val = j.val - 512; omega)
  have e : k = ⟨2048 + j.val, by omega⟩ := Fin.ext (by rw [hk]; show 2560 + (j.val - 512) = 2048 + j.val; omega)
  rw [e]
  exact dif_pos (show 512 ≤ j.val by omega)

theorem mixArr_kept (G : Given) (p : FVec Ideal S4096x3072 .f32) (mix : FVec Ideal S4096x1024 .f32) (t : Fin 4096) (j : Fin 1024)
    (hj : ¬512 ≤ j.val) : mixArr G p mix (ix2 t j) = mix (ix2 t j) := dif_neg hj

variable (m : (ℓ : Loc nD τ sig) → Buf (Elt Ideal) ℓ)

abbrev given (c : Dev nD) : Given := givenOf (xIn m c) (wrIn m c) (brIn m c) (wiIn m c) (biIn m c) (lamIn m c)

theorem points_lt (t : Fin cfg0.N) : t.val < 32 := lt_of_lt_of_eq t.isLt N_0

/-- The row and the column of an element of a grid point's tile. -/
def rowAt (t : Fin cfg0.N) (r : Fin 512) : Fin 4096 := ⟨t.val % 8 * 512 + r.val, by omega⟩
def colAt (t : Fin cfg0.N) (j : Fin 128) : Fin 512 := ⟨t.val / 8 * 128 + j.val, by have := points_lt t; omega⟩

theorem places : ∀ t : Fin cfg0.N, (win0_0.index t = ![t.val % 8, t.val / 8] ∧ win0_1.index t = ![t.val % 8, 20 + t.val / 8]
    ∧ win0_2.index t = ![t.val / 8, t.val / 8] ∧ win0_3.index t = ![t.val / 8, t.val / 8]) ∧ (win0_4.index t = ![0, t.val / 8]
    ∧ win0_5.index t = ![0, t.val / 8] ∧ win0_6.index t = ![0, t.val / 8]) ∧ win0_7.index t = ![t.val % 8, 4 + t.val / 8]
    ∧ win0_8.index t = ![t.val % 8, t.val / 8] :=
  (by decide +kernel : ∀ t : Fin grid0.N, _)

theorem first_block : ∀ t : Fin cfg0.N, Scalar.cmpi .eq (BitVec.ofNat 32 (grid0.coords t 1).val) 0#32 = if t.val % 8 = 0 then 1#1 else 0#1 :=
  (by decide +kernel : ∀ t : Fin grid0.N, _)

section
variable (c : Dev nD) (t : Fin cfg0.N)

theorem x_at (r : Fin 512) (j : Fin 128) : (blocks m c t).x (ix2 r j) = (given m c).x (rowAt t r) (colAt t j) :=
  (congrArg (V m c main_arg0) (show ((View.whole main_arg0).slice (win0_0.rect t)).emb _
      = (ix2 (rowAt t r) (colAt t j) : S4096x512.Idx) by (blk_ext [(places t).1.1] <;> simp only [rowAt, colAt] <;> omega))).trans (congrFun (V_main_arg0 m c) _)

theorem y_at (r : Fin 512) (j : Fin 128) :
    (blocks m c t).y (ix2 r j) = pIn m c (ix2 (rowAt t r) ⟨2560 + (colAt t j).val, by omega⟩) :=
  (congrArg (V m c main_arg1) (show ((View.whole main_arg1).slice (win0_1.rect t)).emb _
      = (ix2 (rowAt t r) ⟨2560 + (colAt t j).val, by omega⟩ : S4096x3072.Idx) by (blk_ext [(places t).1.2.1] <;> simp only [rowAt, colAt] <;> omega))).trans (congrFun (V_main_arg1 m c) _)

theorem wr_at (k j : Fin 128) : (blocks m c t).wr (ix2 k j) = square (wrIn m c) (ix2 (colAt t k) (colAt t j)) :=
  (congrArg (V m c main_v11) (show ((View.whole main_v11).slice (win0_2.rect t)).emb _
      = (ix2 (colAt t k) (colAt t j) : S512x512.Idx) by (blk_ext [(places t).1.2.2.1] <;> simp only [rowAt, colAt] <;> omega))).trans (congrFun (V_wr m c) _)

theorem wi_at (k j : Fin 128) : (blocks m c t).wi (ix2 k j) = square (wiIn m c) (ix2 (colAt t k) (colAt t j)) :=
  (congrArg (V m c main_v23) (show ((View.whole main_v23).slice (win0_3.rect t)).emb _
      = (ix2 (colAt t k) (colAt t j) : S512x512.Idx) by (blk_ext [(places t).1.2.2.2] <;> simp only [rowAt, colAt] <;> omega))).trans (congrFun (V_wi m c) _)

theorem br_at (j : Fin 128) : (blocks m c t).br (ix2 0 j) = brIn m c (ix1 (colAt t j)) :=
  (congrArg (V m c main_v24) (show ((View.whole main_v24).slice (win0_4.rect t)).emb _
      = (ix2 0 (colAt t j) : S1x512.Idx) by (blk_ext [(places t).2.1.1] <;> simp only [rowAt, colAt] <;> omega))).trans ((congrFun (V_br m c) _).trans (row_at _ _))

theorem bi_at (j : Fin 128) : (blocks m c t).bi (ix2 0 j) = biIn m c (ix1 (colAt t j)) :=
  (congrArg (V m c main_v25) (show ((View.whole main_v25).slice (win0_5.rect t)).emb _
      = (ix2 0 (colAt t j) : S1x512.Idx) by (blk_ext [(places t).2.1.2.1] <;> simp only [rowAt, colAt] <;> omega))).trans ((congrFun (V_bi m c) _).trans (row_at _ _))

theorem lam_at (j : Fin 128) : (blocks m c t).lam (ix2 0 j) = lamIn m c (ix1 (colAt t j)) :=
  (congrArg (V m c main_v26) (show ((View.whole main_v26).slice (win0_6.rect t)).emb _
      = (ix2 0 (colAt t j) : S1x512.Idx) by (blk_ext [(places t).2.1.2.2] <;> simp only [rowAt, colAt] <;> omega))).trans ((congrFun (V_lam m c) _).trans (row_at _ _))

theorem gateR (r : Fin 512) (j : Fin 128) :
    gate (blocks m c t).x (blocks m c t).wr (blocks m c t).br r j = (given m c).r (rowAt t r) (colAt t j) := by
  unfold gate Given.r
  simp only [x_at, wr_at, br_at]
  exact congrArg (fun s => Ideal.logistic (s + _)) (square_sum ((given m c).x (rowAt t r)) (wrIn m c) (t.val / 8) (by have := points_lt t; omega) j)

theorem gateI (r : Fin 512) (j : Fin 128) :
    gate (blocks m c t).x (blocks m c t).wi (blocks m c t).bi r j = (given m c).i (rowAt t r) (colAt t j) := by
  unfold gate Given.i
  simp only [x_at, wi_at, bi_at]
  exact congrArg (fun s => Ideal.logistic (s + _)) (square_sum ((given m c).x (rowAt t r)) (wiIn m c) (t.val / 8) (by have := points_lt t; omega) j)

theorem a_at (r : Fin 512) (j : Fin 128) : (blocks m c t).aV (ix2 r j) = (given m c).a (rowAt t r) (colAt t j) := by
  rw [decay_at, gateR, lam_at]
  rfl

theorem u_at (r : Fin 512) (j : Fin 128) : (blocks m c t).uV (ix2 r j) = (given m c).u (rowAt t r) (colAt t j) := by
  rw [input_at, gateI, a_at, x_at, first_at _ (t.val % 8 = 0) (first_block t)]
  unfold Given.u Given.mult
  refine congrArg _ ?_
  by_cases h : r.val = 0 ∧ t.val % 8 = 0
  · rw [if_pos (if_pos h), if_pos (show (rowAt t r).val = 0 by simp only [rowAt]; omega)]
    exact one_eq
  · rw [if_neg (by rw [if_neg h]; decide), if_neg (show ¬(rowAt t r).val = 0 by simp only [rowAt]; omega), one_eq]

/-- The states of a tile, from the state behind the rows above it. -/
theorem tile_at (s : Line) (j : Fin 128)
    (hs : s (ix2 0 j) = steps ((given m c).aCol (colAt t j)) ((given m c).uCol (colAt t j)) 0 0 (t.val % 8 * 512)) (r : Fin 512) :
    (blocks m c t).hV s (ix2 r j) = (given m c).h (rowAt t r) (colAt t j) := by
  rw [states_at, hs, scanned_from (a := fun n => (given m c).aCol (colAt t j) (t.val % 8 * 512 + n))
    (u := fun n => (given m c).uCol (colAt t j) (t.val % 8 * 512 + n)) (fun k => (given m c).aCol_mem _ _) _ _ j
    (fun r => (a_at m c t r j).trans ((given m c).aCol_at (rowAt t r) _).symm) (fun r => (u_at m c t r j).trans ((given m c).uCol_at (rowAt t r) _).symm),
    steps_shift]
  refine Eq.trans ?_ (congrArg (steps _ _ 0 0) (Nat.add_assoc (t.val % 8 * 512) r.val 1)).symm
  exact ((steps_add _ _ 0 0 (t.val % 8 * 512) (r.val + 1)).trans (by rw [Nat.zero_add])).symm

end

theorem zeroLine_at (j : Fin 128) : zeroLine (ix2 0 j) = 0 := zero_word

theorem carried_of (c : Dev nD) (n : ℕ) (hn : n < cfg0.N) (k : Fin 8) (j : Fin 128) (s : Line)
    (hs : s (ix2 0 j) = steps ((given m c).aCol (colAt ⟨n, hn⟩ j)) ((given m c).uCol (colAt ⟨n, hn⟩ j)) 0 0 (n % 8 * 512)) :
    lastRows ((blocks m c ⟨n, hn⟩).hV s) (ix2 k j)
      = steps ((given m c).aCol (colAt ⟨n, hn⟩ j)) ((given m c).uCol (colAt ⟨n, hn⟩ j)) 0 0 ((n % 8 + 1) * 512) := by
  rw [lastRows_at, tile_at m c ⟨n, hn⟩ s j hs]
  exact congrArg (steps _ _ 0 0) (by show n % 8 * 512 + 511 + 1 = (n % 8 + 1) * 512; omega)

theorem carried (c : Dev nD) (n : ℕ) : ∀ (hn : n < cfg0.N) (k : Fin 8) (j : Fin 128), (outsAt0 m c n hn).2.2 (ix2 k j)
    = steps ((given m c).aCol (colAt ⟨n, hn⟩ j)) ((given m c).uCol (colAt ⟨n, hn⟩ j)) 0 0 ((n % 8 + 1) * 512) := by
  induction n with
  | zero =>
    intro hn k j
    rw [carried_A m c ⟨0, hn⟩ rfl]
    exact carried_of m c _ hn k j _ ((zeroLine_at j).trans rfl)
  | succ n ih =>
    intro hn k j
    by_cases h : (n + 1) % 8 = 0
    · rw [carried_A m c ⟨n + 1, hn⟩ h]
      refine carried_of m c _ hn k j _ ((zeroLine_at j).trans ?_)
      rw [h]
      rfl
    · rw [carried_B m c ⟨n + 1, hn⟩ h]
      refine carried_of m c _ hn k j _ ((topLine_at _ j).trans ((ih (Nat.lt_of_succ_lt hn) 0 j).trans ?_))
      have e : colAt ⟨n, Nat.lt_of_succ_lt hn⟩ j = colAt ⟨n + 1, hn⟩ j :=
        Fin.ext (by show n / 8 * 128 + j.val = (n + 1) / 8 * 128 + j.val; omega)
      rw [e, show (n % 8 + 1) * 512 = (n + 1) % 8 * 512 by omega]

/-- The line above a tile: zero for the first tile of a column of blocks, the line carried otherwise. -/
def above (c : Dev nD) (t : Fin cfg0.N) : Line := if t.val % 8 = 0 then zeroLine else topLine (prev m c t).2.2

theorem above_at (c : Dev nD) (t : Fin cfg0.N) (j : Fin 128) :
    above m c t (ix2 0 j) = steps ((given m c).aCol (colAt t j)) ((given m c).uCol (colAt t j)) 0 0 (t.val % 8 * 512) := by
  unfold above
  have hN := points_lt t
  split
  · next h => rw [h]; exact zeroLine_at j
  · next h =>
    refine (topLine_at _ j).trans ((carried m c (t.val - 1) _ 0 j).trans ?_)
    have e : colAt ⟨t.val - 1, Nat.lt_of_le_of_lt (Nat.sub_le _ _) t.isLt⟩ j = colAt t j :=
      Fin.ext (by show (t.val - 1) / 8 * 128 + j.val = t.val / 8 * 128 + j.val; omega)
    rw [e, show ((t.val - 1) % 8 + 1) * 512 = t.val % 8 * 512 by omega]

theorem states_point (c : Dev nD) (t : Fin cfg0.N) : (outsAt0 m c t.val t.isLt).2.1 = (blocks m c t).hV (above m c t) := by
  unfold above
  split
  · next h => exact states_A m c t h
  · next h => exact states_B m c t h

theorem gated_point (c : Dev nD) (t : Fin cfg0.N) : (outsAt0 m c t.val t.isLt).1 = (blocks m c t).outV (above m c t) := by
  unfold above
  split
  · next h => exact gated_A m c t h
  · next h => exact gated_B m c t h

theorem states_array (c : Dev nD) : (dats m 0 c).arrAt 8 cfg0.N = statesArr (given m c) := by
  refine (dats m 0 c).arrAt_eq_of_covers 8 _ (by decide +kernel) fun t hf y => ?_
  blk_simp
  rw [after0_8]
  obtain ⟨r, j, rfl⟩ : ∃ (r : Fin 512) (j : Fin 128), y = ix2 r j := ⟨y 0, y 1, eq_ix2 (n0 := 512) (n1 := 128) y⟩
  have place : ((View.whole main_v28_1).slice (win0_8.rect t)).emb (ix2 r j) = (ix2 (rowAt t r) (colAt t j) : S4096x512.Idx) := by
    blk_ext [(places t).2.2.2] <;> simp only [rowAt, colAt] <;> omega
  rw [place, states_point]
  exact tile_at m c t _ j (above_at m c t j) r

theorem mix_array (c : Dev nD) : (dats m 0 c).arrAt 7 cfg0.N = mixArr (given m c) (pIn m c) (mixIn m c) := by
  refine (dats m 0 c).arrAt_eq_of_coversWhere_of_agree 7 _ (fun β => 4 ≤ β 1) (by decide +kernel) (fun t hf y => ?_) (fun j hj => ?_)
  · blk_simp
    rw [after0_7]
    obtain ⟨r, j, rfl⟩ : ∃ (r : Fin 512) (j : Fin 128), y = ix2 r j := ⟨y 0, y 1, eq_ix2 (n0 := 512) (n1 := 128) y⟩
    have place : ((View.whole main_v28_0).slice (win0_7.rect t)).emb (ix2 r j)
        = (ix2 (rowAt t r) ⟨512 + (colAt t j).val, by omega⟩ : S4096x1024.Idx) := by
      blk_ext [(places t).2.2.1] <;> simp only [rowAt, colAt] <;> omega
    rw [place, gated_point]
    refine (gated_at _ _ r j).trans ?_
    rw [tile_at m c t _ j (above_at m c t j) r, y_at]
    exact (mixArr_at _ _ _ _ (colAt t j) _ _ rfl rfl).symm
  · blk_simp [Pipeline.Window.cell_apply] at hj
    obtain ⟨r, e, rfl⟩ : ∃ (r : Fin 4096) (e : Fin 1024), j = ix2 r e := ⟨j 0, j 1, eq_ix2 (n0 := 4096) (n1 := 1024) j⟩
    refine (congrFun (V_mix m c) (ix2 r e)).trans (mixArr_kept _ _ _ r e fun h => hj ?_).symm
    show 4 ≤ e.val / 128
    omega

end Cert.LruFwd.Proof

end
-- ==== Proof.LruFwd.RefGate.lean ====
/- The gates, the decay and the input of the RG-LRU, as the reference computes them before its loop. -/
module

public import proofs.«01_k».proof.Proof.LruFwd.Kernel
public import proofs.«01_k».proof.Proof.Silu
public import proofs.«01_k».proof.Proof.Gen.LruFwdRefIdeal.Step

@[expose] public section

set_option maxRecDepth 16384

noncomputable section

namespace Cert.LruFwd.Ref

open Cert.LruScan Cert.LruFwd.Proof Cert.LruFwdRefIdeal Cert.LruFwdRefIdeal.Gen Cert.LruFwdRefIdeal.Step Idealize.ShloMosaic
  Idealize.ShloMosaic.TcCoe

theorem joined_at (x : FVec Ideal S4096x8x64 .f32) (t : Fin 4096) (j : Fin 512) :
    shapeCast S4096x512 x shapeCasts_S4096x8x64_S4096x512 (ix2 t j) = x (ix3 t (blk j) (within j)) := by
  refine shapeCast_apply _ _ (ix2 t j) (ix3 t (blk j) (within j)) ?_
  rw [Shape.rowMajor_val_two, Shape.rowMajor_val_three]
  show (t.val * 8 + j.val / 64) * 64 + j.val % 64 = t.val * 512 + j.val
  omega

variable (x0 : FVec Ideal S4096x512 .f32) (x2 : FVec Ideal S8x64x64 .f32) (x3 : FVec Ideal S512 .f32) (x4 : FVec Ideal S8x64x64 .f32)
  (x5 x6 : FVec Ideal S512 .f32)

abbrev givens : Given := givenOf x0 x2 x3 x4 x5 x6

theorem prod_r (t : Fin 4096) (j : Fin 512) : A_main_v3 (F := Ideal) x0 x2 x3 x4 x5 x6 (ix2 t j)
    = prod ((givens x0 x2 x3 x4 x5 x6).x t) (givens x0 x2 x3 x4 x5 x6).wr j := by
  unfold A_main_v3
  rw [joined_at]
  unfold A_main_v2 A_main_v1 A_main_v0
  pointwise
  refine Finset.sum_congr rfl fun d _ => (mul_comm _ _).trans (congrArg (· * _) ?_)
  exact congrArg (fun k => x0 (ix2 t k)) (Fin.ext (congrArg (· + d.val) (mul_comm _ _)))

theorem prod_i (t : Fin 4096) (j : Fin 512) : A_main_v15 (F := Ideal) x0 x2 x3 x4 x5 x6 (ix2 t j)
    = prod ((givens x0 x2 x3 x4 x5 x6).x t) (givens x0 x2 x3 x4 x5 x6).wi j := by
  unfold A_main_v15
  rw [joined_at]
  unfold A_main_v14 A_main_v13 A_main_v0
  pointwise
  refine Finset.sum_congr rfl fun d _ => (mul_comm _ _).trans (congrArg (· * _) ?_)
  exact congrArg (fun k => x0 (ix2 t k)) (Fin.ext (congrArg (· + d.val) (mul_comm _ _)))

theorem gate_r (t : Fin 4096) (j : Fin 512) : A_main_v12 (F := Ideal) x0 x2 x3 x4 x5 x6 (ix2 t j) = (givens x0 x2 x3 x4 x5 x6).r t j := by
  unfold A_main_v12 A_main_v10 A_main_v8 A_main_v7 A_main_v6 A_main_v5 A_main_v4 K_main_v11 K_main_v9 K_main_cst K_main_cst_0
  pointwise
  rw [prod_r]
  rfl

theorem gate_i (t : Fin 4096) (j : Fin 512) : A_main_v24 (F := Ideal) x0 x2 x3 x4 x5 x6 (ix2 t j) = (givens x0 x2 x3 x4 x5 x6).i t j := by
  unfold A_main_v24 A_main_v22 A_main_v20 A_main_v19 A_main_v18 A_main_v17 A_main_v16 K_main_v23 K_main_v21 K_main_cst_1 K_main_cst_2
  pointwise
  rw [prod_i]
  rfl

theorem softplus_at (j : Fin 512) : A_main_v28 (F := Ideal) x0 x2 x3 x4 x5 x6 (ix1 j) = softplus (-x6 (ix1 j)) := by
  unfold A_main_v28 A_main_call0_v11 A_main_call0_v10 A_main_call0_v9 A_main_call0_v8 A_main_call0_v7 A_main_call0_v6 A_main_call0_v4
    A_main_call0_v3 A_main_call0_v1 A_main_v27 K_main_call0_v0 K_main_call0_v2 K_main_call0_v5 K_main_call0_cst
  pointwise
  exact if_neg fun h => h rfl

theorem logA_at (t : Fin 4096) (j : Fin 512) : A_main_v31 (F := Ideal) x0 x2 x3 x4 x5 x6 (ix2 t j) = (givens x0 x2 x3 x4 x5 x6).logA t j := by
  unfold A_main_v31 A_main_v30 A_main_v29 A_main_v26 K_main_v25 K_main_cst_3
  pointwise
  rw [gate_r, softplus_at]
  rfl

theorem decay_at (t : Fin 4096) (j : Fin 512) : A_main_v32 (F := Ideal) x0 x2 x3 x4 x5 x6 (ix2 t j) = (givens x0 x2 x3 x4 x5 x6).a t j := by
  unfold A_main_v32
  pointwise
  rw [logA_at]
  rfl

theorem first_row (t : Fin 4096) : Scalar.cmpi .eq (BitVec.ofNat 32 t.val) 0#32 = if t.val = 0 then 1#1 else 0#1 :=
  (by decide +kernel : ∀ t : Fin 4096, Scalar.cmpi .eq (BitVec.ofNat 32 t.val) 0#32 = if t.val = 0 then 1#1 else 0#1) t

theorem input_at (t : Fin 4096) (j : Fin 512) : A_main_v44 (F := Ideal) x0 x2 x3 x4 x5 x6 (ix2 t j) = (givens x0 x2 x3 x4 x5 x6).u t j := by
  unfold A_main_v44 A_main_v43 A_main_v42 A_main_v37 A_main_v36 A_main_v35 A_main_v34 K_main_v33 K_main_cst_4 K_main_call1_v2
    K_main_call1_v1 K_main_call1_v0 K_main_v41 K_main_v40 K_main_v39 K_main_v38 K_main_c K_main_cst_5
  pointwise
  rw [gate_i, logA_at]
  show x0 (ix2 t j) * (givens x0 x2 x3 x4 x5 x6).i t j * Scalar.select (Scalar.cmpi .eq (BitVec.ofNat 32 t.val) 0#32) one
      (Ideal.sqrt (-Ideal.expm1 (Ideal.ofBits .f32 0x40000000#32 * (givens x0 x2 x3 x4 x5 x6).logA t j)))
    = x0 (ix2 t j) * (givens x0 x2 x3 x4 x5 x6).i t j * (givens x0 x2 x3 x4 x5 x6).mult t j
  rw [first_row, one_eq, ← one_sub_sq]
  unfold Given.mult
  split <;> rfl

end Cert.LruFwd.Ref

end
-- ==== Proof.LruFwd.RefLoop.lean ====
/- The reference's loop over the rows: what its state holds before every trip, and what it leaves. -/
module

public import proofs.«01_k».proof.Proof.LruFwd.RefGate
public import proofs.«01_k».proof.Proof.Gen.LruFwdRefIdeal.Run
public import Idealize.ShloMosaic.Lib.DynamicIndex

@[expose] public section

set_option maxRecDepth 16384

noncomputable section

namespace Cert.LruFwd.Ref

open Cert.LruScan Cert.LruFwd.Proof Cert.LruFwdRefIdeal Cert.LruFwdRefIdeal.Gen Cert.LruFwdRefIdeal.Value
  Idealize.ShloMosaic Idealize.ShloMosaic.TcCoe Idealize.SL.Sem Idealize.ShloMosaic.StableHlo
open Cert.LruFwdRefIdeal.Step (A_main_v32 A_main_v44 K_main_v45)

/-- The start of a slice of one row. -/
abbrev startAt (n : BitVec 32) : Fin 2 → ℤ := fun k => (((![fun _ => n, constantI S_ 32 0#32] : Fin 2 → (⟨S_, .i32⟩ : BufTy).Contents (Elt Ideal))) k
  (Shape.Idx.first h_S_)).toInt

theorem startAt_eq {k : ℕ} (hk : k < 4096) (a : Fin 2) : startAt (BitVec.ofNat 32 k) a = ((![k, 0] : Fin 2 → ℕ) a : ℤ) := by
  fin_cases a
  · exact toInt_ofNat_of_lt (by omega)
  · rfl

/-- A row of an array, sliced out at a number and flattened. -/
def rowOf (x : FVec Ideal S4096x512 .f32) (n : BitVec 32) : FVec Ideal S512 .f32 :=
  shapeCast S512 (Host.dynamicSlice S1x512 x (startAt n) sliceFits_S4096x512_S1x512) shapeCasts_S1x512_S512

theorem row_at (x : FVec Ideal S4096x512 .f32) (t : Fin 4096) (j : Fin 512) : rowOf x (BitVec.ofNat 32 t.val) (ix1 j) = x (ix2 t j) := by
  unfold rowOf
  have fits : S4096x512.Slices ![t.val, 0] S1x512 := ⟨rfl, fun a => by fin_cases a <;> simp [S4096x512, S1x512] <;> omega⟩
  rw [Host.dynamicSlice_eq_extractStridedSlice S1x512 x _ ![t.val, 0] _ fits (startAt_eq t.isLt)]
  refine (shapeCast_apply _ _ (ix1 j) (ix2 0 j) ?_).trans (extractStridedSlice_apply _ _ _ _ (ix2 t j) ?_)
  · rw [Shape.rowMajor_val_two, Shape.rowMajor_val_one]
    show 0 * 512 + j.val = j.val
    omega
  · intro a
    fin_cases a
    · show t.val = t.val + 0
      omega
    · show j.val = 0 + j.val
      omega

/-- An array with the row at the counter replaced. -/
theorem replaced_at (x : FVec Ideal S4096x512 .f32) (v : FVec Ideal S512 .f32) (t t' : Fin 4096) (j : Fin 512) :
    Host.dynamicUpdateSlice x (broadcastInDim S1x512 ![1] bcast_S512_S1x512_1 v) (startAt (BitVec.ofNat 32 t.val)) updateFits_S4096x512_S1x512
        (ix2 t' j) = if t' = t then v (ix1 j) else x (ix2 t' j) := by
  have cl : ∀ a : Fin 2, Host.clampedStart S4096x512 S1x512 updateFits_S4096x512_S1x512.1 (startAt (BitVec.ofNat 32 t.val)) a
      = (![t.val, 0] : Fin 2 → ℕ) a := fun a => by
    show (min (max (startAt (BitVec.ofNat 32 t.val) a) 0) _).toNat = _
    rw [startAt_eq t.isLt]
    have ht := t.isLt
    fin_cases a
    · show (min (max (t.val : ℤ) 0) ((4096 - 1 : ℕ) : ℤ)).toNat = t.val
      omega
    · show (min (max ((0 : ℕ) : ℤ) 0) ((512 - 512 : ℕ) : ℤ)).toNat = 0
      omega
  rw [Host.dynamicUpdateSlice_apply]
  split
  · next hin =>
    have h0 := hin 0
    rw [cl 0] at h0
    have e : t' = t := Fin.ext (by have h1 : t.val ≤ t'.val ∧ t'.val < t.val + 1 := h0; omega)
    rw [if_pos e]
    pointwise
    exact congrArg (fun k => v (ix1 k)) (Fin.ext ((congrArg (j.val - ·) (cl 1)).trans (Nat.sub_zero _)))
  · next hin =>
    rw [if_neg]
    rintro rfl
    refine hin fun a => ?_
    rw [cl a]
    fin_cases a
    · exact ⟨le_refl _, Nat.lt_succ_self _⟩
    · exact ⟨Nat.zero_le _, by show j.val < 0 + 512; omega⟩

/-- What the loop's buffers hold before trip `k`. -/
structure Holds (G : Given) (V : Valuation τ sig (Elt Ideal)) (k : ℕ) : Prop where
  count : V (Proc.devRef .tc main_v47_2) = fun _ => BitVec.ofNat 32 k
  decay : ∀ (t : Fin 4096) (j : Fin 512), (V (Proc.devRef .tc main_v47_0) : FVec Ideal S4096x512 .f32) (ix2 t j) = G.a t j
  input : ∀ (t : Fin 4096) (j : Fin 512), (V (Proc.devRef .tc main_v47_1) : FVec Ideal S4096x512 .f32) (ix2 t j) = G.u t j
  last : ∀ j : Fin 512, (V (Proc.devRef .tc main_v47_3) : FVec Ideal S512 .f32) (ix1 j) = steps (G.aCol j) (G.uCol j) 0 0 k
  states : ∀ (t : Fin 4096) (j : Fin 512), t.val < k → (V (Proc.devRef .tc main_v47_4) : FVec Ideal S4096x512 .f32) (ix2 t j) = G.h t j

variable {G : Given} {V : Valuation τ sig (Elt Ideal)}

theorem next_at (t : Fin 4096) (h : Holds G V t.val) (j : Fin 512) :
    (res_main_while0b_v69 V : FVec Ideal S512 .f32) (ix1 j) = G.h t j := by
  unfold res_main_while0b_v69
  rw [h.count]
  show rowOf (V (Proc.devRef .tc main_v47_0)) (BitVec.ofNat 32 t.val) (ix1 j) * (V (Proc.devRef .tc main_v47_3) : FVec Ideal S512 .f32) (ix1 j)
    + rowOf (V (Proc.devRef .tc main_v47_1)) (BitVec.ofNat 32 t.val) (ix1 j) = _
  rw [h.last j]
  refine (congrArg₂ (· + ·) (congrArg (· * _) ((row_at _ t j).trans (h.decay t j))) ((row_at _ t j).trans (h.input t j))).trans ?_
  rw [← G.aCol_at, ← G.uCol_at]
  show _ = G.aCol j (0 + t.val) * steps (G.aCol j) (G.uCol j) 0 0 t.val + G.uCol j (0 + t.val)
  rw [zero_add]

theorem holds_next (t : Fin 4096) (h : Holds G V t.val) : Holds G (STEP V) (t.val + 1) where
  count := by
    rw [STEP_main_v47_2]
    unfold step_main_v47_2
    rw [h.count]
    funext i
    show BitVec.ofNat 32 t.val + 1#32 = BitVec.ofNat 32 (t.val + 1)
    simp only [BitVec.ofNat_add]
  decay := by rw [STEP_main_v47_0]; exact h.decay
  input := by rw [STEP_main_v47_1]; exact h.input
  last := fun j => by rw [STEP_main_v47_3]; exact next_at t h j
  states := fun t' j ht => by
    rw [STEP_main_v47_4]
    unfold step_main_v47_4
    rw [h.count]
    refine (replaced_at _ _ t t' j).trans ?_
    split
    · next e => rw [e]; exact next_at t h j
    · next e => exact h.states t' j (lt_of_le_of_ne (Nat.le_of_lt_succ ht) fun he => e (Fin.ext he))

variable (m : (ℓ : Loc nD τ sig) → Buf (Elt Ideal) ℓ) (c : Dev nD)

/-- The arguments of a core. -/
abbrev start : Given := givenOf (m ((c.tc : Thread nD τ).loc main_arg0)) (m ((c.tc : Thread nD τ).loc main_arg2)) (m ((c.tc : Thread nD τ).loc main_arg3))
  (m ((c.tc : Thread nD τ).loc main_arg4)) (m ((c.tc : Thread nD τ).loc main_arg5)) (m ((c.tc : Thread nD τ).loc main_arg6))

set_option maxRecDepth 65536 in
set_option maxHeartbeats 800000 in
theorem entry_0 : entryContents preI m c (Proc.devRef .tc main_v47_0) = A_main_v32 (m ((c.tc : Thread nD τ).loc main_arg0)) (m ((c.tc : Thread nD τ).loc main_arg2)) (m ((c.tc : Thread nD τ).loc main_arg3))
  (m ((c.tc : Thread nD τ).loc main_arg4)) (m ((c.tc : Thread nD τ).loc main_arg5)) (m ((c.tc : Thread nD τ).loc main_arg6)) := by
  simp only [entryContents, afterL_cons, afterL_nil]
  after_reads_simp
  rfl

set_option maxRecDepth 65536 in
set_option maxHeartbeats 800000 in
theorem entry_1 : entryContents preI m c (Proc.devRef .tc main_v47_1) = A_main_v44 (m ((c.tc : Thread nD τ).loc main_arg0)) (m ((c.tc : Thread nD τ).loc main_arg2)) (m ((c.tc : Thread nD τ).loc main_arg3))
  (m ((c.tc : Thread nD τ).loc main_arg4)) (m ((c.tc : Thread nD τ).loc main_arg5)) (m ((c.tc : Thread nD τ).loc main_arg6)) := by
  simp only [entryContents, afterL_cons, afterL_nil]
  after_reads_simp
  rfl

set_option maxRecDepth 65536 in
set_option maxHeartbeats 800000 in
theorem entry_3 : entryContents preI m c (Proc.devRef .tc main_v47_3) = K_main_v45 (F := Ideal) := by
  simp only [entryContents, afterL_cons, afterL_nil]
  after_reads_simp
  rfl

theorem zeros_at (j : Fin 512) : K_main_v45 (F := Ideal) (ix1 j) = 0 := Ideal.ofBits_zero_f32

theorem holds_at : ∀ k ≤ 4096, Holds (start m c) (STEP^[k] (entryContents preI m c)) k
  | 0, _ => { count := ctr_entry m c
              decay := fun t j => (congrFun (entry_0 m c) (ix2 t j)).trans (decay_at _ _ _ _ _ _ t j)
              input := fun t j => (congrFun (entry_1 m c) (ix2 t j)).trans (input_at _ _ _ _ _ _ t j)
              last := fun j => (congrFun (entry_3 m c) (ix1 j)).trans (zeros_at j)
              states := fun _ _ h => absurd h (Nat.not_lt_zero _) }
  | k + 1, hk => by
    rw [Function.iterate_succ_apply']
    exact holds_next ⟨k, hk⟩ (holds_at k (Nat.le_of_succ_le hk))

/-- The states the loop leaves. -/
theorem states_left : STEP^[4096] (entryContents preI m c) (Proc.devRef .tc main_v47_4) = statesArr (start m c) := by
  funext y
  obtain ⟨t, j, rfl⟩ : ∃ (t : Fin 4096) (j : Fin 512), y = ix2 t j := ⟨y 0, y 1, eq_ix2 (n0 := 4096) (n1 := 512) y⟩
  exact (holds_at m c 4096 (le_refl _)).states t j t.isLt

/-- The gelu as the reference groups it. -/
theorem gelu_grouped (y : EReal) : y * (Ideal.ofBits .f32 0x3F000000#32 * (Ideal.ofBits .f32 0x3F800000#32 + Ideal.tanh (Ideal.ofBits .f32 0x3F4C422A#32
      * (y + Ideal.ofBits .f32 0x3D372713#32 * (y * y * y))))) = gelu y := by
  unfold gelu
  rw [← mul_assoc, mul_comm y]
  simp only [mul_assoc]

theorem mix_left (p : FVec Ideal S4096x3072 .f32) (mix : FVec Ideal S4096x1024 .f32) (hs : V (Proc.devRef .tc main_v47_4) = statesArr G)
    (hp : V (Proc.devRef .tc main_arg1) = p) (hm : V (Proc.devRef .tc main_arg7) = mix) : out_main_v65 V = mixArr G p mix := by
  unfold out_main_v65
  rw [hs, hp, hm]
  funext y
  obtain ⟨t, j, rfl⟩ : ∃ (t : Fin 4096) (j : Fin 1024), y = ix2 t j := ⟨y 0, y 1, eq_ix2 (n0 := 4096) (n1 := 1024) y⟩
  show concatenate S4096x1024 1 [⟨S4096x512, _⟩, ⟨S4096x512, _⟩] concatenates_S4096x512_S4096x512_S4096x1024_d1 (ix2 t j) = _
  by_cases hj : 512 ≤ j.val
  · have hb : j.val - 512 < 512 := by omega
    have hc : 2560 + (j.val - 512) < 3072 := by omega
    rw [mixArr_at G p mix t ⟨j.val - 512, hb⟩ j ⟨2560 + (j.val - 512), hc⟩ (by show j.val = 512 + (j.val - 512); omega) rfl]
    refine (concatenate_pair_apply_right (s₁ := S4096x512) (s₂ := S4096x512) _ _ _ _ (ix2 t j) rfl rfl (ix2 t (⟨j.val - 512, hb⟩ : Fin 512)) ?_ ?_).trans ?_
    · intro b hne
      fin_cases b
      · rfl
      · exact absurd rfl hne
    · show j.val - 512 + 512 = j.val
      omega
    · have e : extractStridedSlice S4096x512 ![0, 2560] p slices_S4096x3072_S4096x512_0_2560 (ix2 t (⟨j.val - 512, hb⟩ : Fin 512))
          = p (ix2 t ⟨2560 + (j.val - 512), hc⟩) := extractStridedSlice_apply _ _ _ _ _ fun a => by
        fin_cases a
        · show t.val = 0 + t.val
          omega
        · rfl
      rw [← gelu_grouped, ← e]
      rfl
  · rw [mixArr_kept G p mix t j hj]
    have hb : j.val < 512 := by omega
    refine (concatenate_pair_apply_left (s₁ := S4096x512) (s₂ := S4096x512) _ _ _ _ (ix2 t j) rfl (ix2 t (⟨j.val, hb⟩ : Fin 512)) ?_).trans ?_
    · intro b
      fin_cases b <;> rfl
    · refine extractStridedSlice_apply _ _ _ _ _ fun a => ?_
      fin_cases a
      · show t.val = 0 + t.val
        omega
      · show j.val = 0 + j.val
        omega

end Cert.LruFwd.Ref

end
-- ==== Proof.LruFwd.Claims.lean ====
/- The claims about the RG-LRU's forward pass that the certificate assembles. -/
module

public import proofs.«01_k».proof.Defs
public import proofs.«01_k».proof.Proof.LruFwd.RefLoop
public import proofs.«01_k».proof.Proof.Gen.LruFwd.Frame

@[expose] public section

set_option maxRecDepth 16384

noncomputable section

namespace Cert.LruFwd.Proof

open Idealize.ShloMosaic Idealize.ShloMosaic.TcCoe Idealize.SL.Sem

theorem reference_frame : Cert.quiescent_LruFwdRefIdeal (hLruFwdRefIdeal := Cert.LruFwdRefIdeal.Gen.facts) := fun m g _ =>
  (θ_run Cert.LruFwdRefIdeal.defs _ _).mono (fun r h => ⟨fun c => (h c).2.2, sem_eq_zero_of_no_sems (by decide) r.2⟩)
    (Cert.LruFwdRefIdeal.Value.run m g)

theorem algebraic : Cert.algebraic_LruFwdIdeal_LruFwdRefIdeal (hLruFwdIdeal := Cert.LruFwdIdeal.Gen.facts)
    (hLruFwdRefIdeal := Cert.LruFwdRefIdeal.Gen.facts) := by
  intro m g m' g' _ hargs
  refine ⟨fun c => mixArr (given m c) (pIn m c) (mixIn m c), fun c => statesArr (given m c), ?_, ?_⟩
  · exact (θ_run Cert.LruFwdIdeal.defs _ _).mono (fun r h c => ⟨(h c).1.trans (mix_array m c), (h c).2.1.trans (states_array m c),
      (h c).2.2⟩) (Cert.LruFwdIdeal.Value.run_blocks m g)
  · refine (θ_run Cert.LruFwdRefIdeal.defs _ _).mono (fun r h c => ?_) (Cert.LruFwdRefIdeal.Value.run m' g')
    obtain ⟨a0, a1, a2, a3, a4, a5, a6, a7⟩ := hargs c
    have same : Ref.start m' c = given m c := by
      show givenOf _ _ _ _ _ _ = givenOf _ _ _ _ _ _
      rw [a0, a2, a3, a4, a5, a6]
    have states : _ = statesArr (given m c) := (Ref.states_left m' c).trans (congrArg statesArr same)
    refine ⟨(h c).1.trans ?_, (h c).2.1.trans states, (h c).2.2⟩
    exact Ref.mix_left (pIn m c) (mixIn m c) states ((Cert.LruFwdRefIdeal.Value.iter_main_arg1 m' c 4096).trans a1)
      ((Cert.LruFwdRefIdeal.Value.iter_main_arg7 m' c 4096).trans a7)

end Cert.LruFwd.Proof

end
-- ==== Proof.MlpDwd.Kernel.lean ====
/- The gradient of the MLP's second weight: four tiles of its rows, each after four steps of the product with the squared hidden rows. -/
module

public import proofs.«01_k».proof.Proof.Gen.MlpDwdIdeal.Value
public import proofs.«01_k».proof.Proof.Load
public import Idealize.ShloMosaic.Lib.Pipeline.ValueKit
public import Idealize.ShloMosaic.Lib.Pointwise
public import Idealize.ShloMosaic.Lib.StableHlo.ReadAt

@[expose] public section

set_option maxRecDepth 16384

noncomputable section

namespace Cert.MlpDwd.Proof

open Cert.MlpDwdIdeal Cert.MlpDwdIdeal.Gen Idealize.ShloMosaic Idealize.ShloMosaic.TcCoe Idealize.SL.Sem

abbrev Arr (s : Shape) : Type := (⟨s, .f32⟩ : BufTy).Contents (Elt Ideal)

/-- The hidden layer behind its rectifier. -/
def hidden (h : Arr S4096x1024) (wu : Arr S1024x4096) (r j : Fin 4096) : EReal :=
  max (∑ k : Fin 1024, h (ix2 r k) * wu (ix2 k j)) 0

/-- An entry of the gradient: the squares of a hidden column times a column of the cotangent. -/
def grad (h : Arr S4096x1024) (wu : Arr S1024x4096) (dx : Arr S4096x1024) (j : Fin 4096) (e : Fin 1024) : EReal :=
  ∑ r : Fin 4096, hidden h wu r j * hidden h wu r j * dx (ix2 r e)

def grads (h : Arr S4096x1024) (wu : Arr S1024x4096) (dx : Arr S4096x1024) : Arr S4096x1024 := fun i => grad h wu dx (i 0) (i 1)

variable (m : (ℓ : Loc nD τ sig) → Buf (Elt Ideal) ℓ)

section
variable (c : Dev nD)
abbrev hIn : Arr S4096x1024 := m ((c : Thread nD τ).loc main_arg0)
abbrev wuIn : Arr S1024x4096 := m ((c : Thread nD τ).loc main_arg1)
abbrev dxIn : Arr S4096x1024 := m ((c : Thread nD τ).loc main_arg2)
end

theorem r_at (c : Dev nD) (r j : Fin 4096) : V m c main_v5 (ix2 r j) = hidden (hIn m c) (wuIn m c) r j := by
  have e : V m c main_v5
      = (truncf .bf16 (maximumf (Host.dotGeneral dot_S4096x1024_S1024x4096_S4096x4096_1_0_0_1_n_n none
          (truncf .bf16 (hIn m c : FVec Ideal S4096x1024 .f32) bitsLt_bf16_f32)
          (truncf .bf16 (wuIn m c : FVec Ideal S1024x4096 .f32) bitsLt_bf16_f32))
          (broadcastInDim S4096x4096 ![] bcast_S_S4096x4096 (constant S_ .f32 0x00000000#32))) bitsLt_bf16_f32 :
        FVec Ideal S4096x4096 .bf16) := by
    unfold V hostOps0
    after_results
  rw [e]
  pointwise [dot_S4096x1024_S1024x4096_S4096x4096_1_0_0_1_n_n]
  rfl

theorem dx_at (c : Dev nD) (r : Fin 4096) (e : Fin 1024) : V m c main_v6 (ix2 r e) = dxIn m c (ix2 r e) := by
  unfold V hostOps0
  after_reads_at

theorem places : ∀ t : Fin cfg0.N, win0_0.index t = ![t.val % 4, t.val / 4] ∧ win0_1.index t = ![t.val % 4, 0] ∧ win0_2.index t = ![t.val / 4, 0] :=
  (by decide +kernel : ∀ t : Fin grid0.N, _)

theorem lt16 (t : Fin cfg0.N) : t.val < 16 := t.isLt

/-- Row `j` of grid point `t`'s tile of the gradient. -/
def rowOf (t : Fin cfg0.N) (j : Fin 1024) : Fin 4096 := ⟨1024 * (t.val / 4) + j.val, by have := lt16 t; omega⟩

/-- The product of a block of squares with a block of the cotangent, at an entry. -/
def prod (x w : FVec Ideal S1024x1024 .bf16) (j e : Fin 1024) : EReal :=
  ∑ r : Fin 1024, x (ix2 r j) * x (ix2 r j) * w (ix2 r e)

/-- What the point before left. -/
abbrev prev (c : Dev nD) (t : Fin cfg0.N) := outsAt0 m c (t.val - 1) (Nat.lt_of_le_of_lt (Nat.sub_le _ _) t.isLt)

theorem scratch_A (c : Dev nD) (t : Fin cfg0.N) (h : t.val % 4 = 0) (j e : Fin 1024) :
    (outsAt0 m c t.val t.isLt).2 (ix2 j e) = prod (iblk m c 0 t) (iblk m c 1 t) j e := by
  rw [Gen.outsAt0_A m c t h (by omega) (by omega)]
  frame_open
  frame_out
  generalize iblk m c 0 t = x0
  generalize iblk m c 1 t = x1
  unfold_payloads
  pointwise [dot_S1024x1024_S1024x1024_S1024x1024_0_0_1_1_n_n]
  rfl

theorem scratch_B (c : Dev nD) (t : Fin cfg0.N) (h : 1 ≤ t.val % 4 ∧ t.val % 4 ≤ 2) (j e : Fin 1024) :
    (outsAt0 m c t.val t.isLt).2 (ix2 j e) = (prev m c t).2 (ix2 j e) + prod (iblk m c 0 t) (iblk m c 1 t) j e := by
  rw [Gen.outsAt0_B m c t (by omega) h (by omega)]
  frame_open
  frame_out
  simp only [Cert.Load.load_eq, read_unread_whole]
  generalize iblk m c 0 t = x0
  generalize iblk m c 1 t = x1
  unfold_payloads
  pointwise [dot_S1024x1024_S1024x1024_S1024x1024_0_0_1_1_n_n]
  rfl

theorem out_C (c : Dev nD) (t : Fin cfg0.N) (h : t.val % 4 = 3) (j e : Fin 1024) :
    (outsAt0 m c t.val t.isLt).1 (ix2 j e) = (prev m c t).2 (ix2 j e) + prod (iblk m c 0 t) (iblk m c 1 t) j e := by
  rw [Gen.outsAt0_C m c t (by omega) (by omega) h]
  frame_open
  frame_out
  simp only [Cert.Load.load_eq, read_unread_whole]
  generalize iblk m c 0 t = x0
  generalize iblk m c 1 t = x1
  unfold_payloads
  pointwise [dot_S1024x1024_S1024x1024_S1024x1024_0_0_1_1_n_n]
  rfl

section
variable (c : Dev nD) (t : Fin cfg0.N)

theorem prod_tile (J : Fin 4096) (k : Fin 4) (j e : Fin 1024) (hk : t.val % 4 = k.val) (hJ : rowOf t j = J) :
    prod (iblk m c 0 t) (iblk m c 1 t) j e
      = ∑ r : Fin 1024, hidden (hIn m c) (wuIn m c) ⟨k.val * 1024 + r.val, by omega⟩ J * hidden (hIn m c) (wuIn m c) ⟨k.val * 1024 + r.val, by omega⟩ J
          * dxIn m c (ix2 ⟨k.val * 1024 + r.val, by omega⟩ e) := by
  subst hJ
  obtain ⟨k, hk'⟩ := k
  dsimp only at hk
  subst hk
  have a (r : Fin 1024) : (iblk m c 0 t : FVec Ideal S1024x1024 .bf16) (ix2 r j)
      = hidden (hIn m c) (wuIn m c) ⟨t.val % 4 * 1024 + r.val, by omega⟩ (rowOf t j) :=
    (congrArg (V m c main_v5) (show ((View.whole main_v5).slice (win0_0.rect t)).emb (ix2 r j)
      = (ix2 ⟨t.val % 4 * 1024 + r.val, by omega⟩ (rowOf t j) : S4096x4096.Idx) by blk_ext [(places t).1, rowOf])).trans (r_at m c _ _)
  have b (r : Fin 1024) : (iblk m c 1 t : FVec Ideal S1024x1024 .bf16) (ix2 r e)
      = dxIn m c (ix2 ⟨t.val % 4 * 1024 + r.val, by omega⟩ e) :=
    (congrArg (V m c main_v6) (show ((View.whole main_v6).slice (win0_1.rect t)).emb (ix2 r e)
      = (ix2 ⟨t.val % 4 * 1024 + r.val, by omega⟩ e : S4096x1024.Idx) by blk_ext [(places t).2.1])).trans (dx_at m c _ _)
  exact Finset.sum_congr rfl fun r _ => congrArg₂ (· * ·) (congrArg₂ (· * ·) (a r) (a r)) (b r)

/-- At a tile's last point the sum is complete. -/
theorem total_eq (h : t.val % 4 = 3) (j e : Fin 1024) :
    (prev m c t).2 (ix2 j e) + prod (iblk m c 0 t) (iblk m c 1 t) j e = grad (hIn m c) (wuIn m c) (dxIn m c) (rowOf t j) e := by
  have b := lt16 t
  let t2 : Fin cfg0.N := ⟨t.val - 1, by omega⟩
  let t1 : Fin cfg0.N := ⟨t.val - 1 - 1, by omega⟩
  let t0 : Fin cfg0.N := ⟨t.val - 1 - 1 - 1, by omega⟩
  have h2 : t2.val = t.val - 1 := rfl
  have h1 : t1.val = t.val - 2 := by show t.val - 1 - 1 = _; omega
  have h0 : t0.val = t.val - 3 := by show t.val - 1 - 1 - 1 = _; omega
  unfold grad
  refine (congrArg (· + _) ((scratch_B m c t2 (by omega) j e).trans (congrArg (· + _) ((scratch_B m c t1 (by omega) j e).trans
    (congrArg (· + _) (scratch_A m c t0 (by omega) j e)))))).trans ?_
  have R2 : rowOf t2 j = rowOf t j := Fin.ext (by show 1024 * (t2.val / 4) + _ = 1024 * (t.val / 4) + _; omega)
  have R1 : rowOf t1 j = rowOf t j := Fin.ext (by show 1024 * (t1.val / 4) + _ = 1024 * (t.val / 4) + _; omega)
  have R0 : rowOf t0 j = rowOf t j := Fin.ext (by show 1024 * (t0.val / 4) + _ = 1024 * (t.val / 4) + _; omega)
  rw [prod_tile m c t (rowOf t j) 3 j e h rfl, prod_tile m c t2 (rowOf t j) 2 j e (by show t2.val % 4 = 2; omega) R2,
    prod_tile m c t1 (rowOf t j) 1 j e (by show t1.val % 4 = 1; omega) R1, prod_tile m c t0 (rowOf t j) 0 j e (by show t0.val % 4 = 0; omega) R0,
    ← Fin.sum_mul_add_fin 4 1024 (fun r : Fin 4096 => hidden (hIn m c) (wuIn m c) r (rowOf t j) * hidden (hIn m c) (wuIn m c) r (rowOf t j)
      * dxIn m c (ix2 r e)), Fin.sum_univ_four]

theorem flush_last : ∀ t : Fin cfg0.N, (cfg0.win 2).flush t = true → t.val % 4 = 3 :=
  (by decide +kernel : ∀ t : Fin grid0.N, _)

end

theorem array_grads (c : Dev nD) : (dats m 0 c).arrAt 2 cfg0.N = grads (hIn m c) (wuIn m c) (dxIn m c) := by
  refine (dats m 0 c).arrAt_eq_of_covers 2 _ (by decide +kernel) fun t hf y => ?_
  blk_simp
  rw [after0_2]
  obtain ⟨j, e, rfl⟩ : ∃ (j e : Fin 1024), y = ix2 j e := ⟨y 0, y 1, eq_ix2 (n0 := 1024) (n1 := 1024) y⟩
  have h := flush_last t hf
  have place : ((View.whole main_v7).slice (win0_2.rect t)).emb (ix2 j e) = (ix2 (rowOf t j) e : S4096x1024.Idx) := by
    blk_ext [(places t).2.2, rowOf]
  rw [place]
  exact (out_C m c t h j e).trans (total_eq m c t h j e)

end Cert.MlpDwd.Proof

end
-- ==== Proof.MlpDwd.Claims.lean ====
/- The reference's gradient of the second weight, and the claims about the call that the certificate assembles. -/
module

public import proofs.«01_k».proof.Defs
public import proofs.«01_k».proof.Proof.MlpDwd.Kernel
public import proofs.«01_k».proof.Proof.Gen.MlpDwdRefIdeal.Read
public import proofs.«01_k».proof.Proof.Gen.MlpDwd.Frame

@[expose] public section

set_option maxRecDepth 16384

noncomputable section

namespace Cert.MlpDwd.Proof

namespace Ref

open Cert.MlpDwdRefIdeal Cert.MlpDwdRefIdeal.Read Idealize.ShloMosaic Idealize.ShloMosaic.TcCoe

variable (h : Arr S4096x1024) (wu : Arr S1024x4096) (dx : Arr S4096x1024)

theorem hidden_at (r j : Fin 4096) : val_main_v2 (F := Ideal) h wu (ix2 r j) = hidden h wu r j := by
  unfold val_main_v2 val_main_v1 val_main_call0_v0 val_main_call0_cst
  pointwise [dot_S4096x1024_S1024x4096_S4096x4096_1_0_0_1_n_n]
  rfl

/-- The derivative multiplies the cotangent by the squares, the other way round than the kernel. -/
theorem grad_at (j : Fin 4096) (e : Fin 1024) : val_main_v7 (F := Ideal) h wu dx (ix2 j e) = grad h wu dx j e := by
  unfold val_main_v7 val_main_v6 val_main_v5 val_main_v3
  pointwise [dot_S4096x1024_S4096x4096_S1024x4096_0_0_1_1_n_n]
  simp only [hidden_at]
  exact Finset.sum_congr rfl fun r _ => mul_comm _ _

theorem reference_grads : val_main_v7 (F := Ideal) h wu dx = grads h wu dx := by
  funext i
  obtain ⟨j, e, rfl⟩ : ∃ (j : Fin 4096) (e : Fin 1024), i = ix2 j e := ⟨i 0, i 1, eq_ix2 (n0 := 4096) (n1 := 1024) i⟩
  exact grad_at h wu dx j e

end Ref

open Idealize.ShloMosaic Idealize.ShloMosaic.TcCoe Idealize.SL.Sem

theorem reference_frame : Cert.quiescent_MlpDwdRefIdeal (hMlpDwdRefIdeal := Cert.MlpDwdRefIdeal.Gen.facts) := fun m g _ =>
  (θ_run Cert.MlpDwdRefIdeal.defs _ _).mono (fun r h => ⟨fun c => (h c).2, sem_eq_zero_of_no_sems (by decide) r.2⟩)
    (Cert.MlpDwdRefIdeal.Value.run m g)

theorem algebraic : Cert.algebraic_MlpDwdIdeal_MlpDwdRefIdeal (hMlpDwdIdeal := Cert.MlpDwdIdeal.Gen.facts)
    (hMlpDwdRefIdeal := Cert.MlpDwdRefIdeal.Gen.facts) := by
  intro m g m' g' _ hargs
  refine ⟨fun c => grads (hIn m c) (wuIn m c) (dxIn m c), ?_, ?_⟩
  · exact (θ_run Cert.MlpDwdIdeal.defs _ _).mono (fun r h c => ⟨(h c).1.trans (array_grads m c), (h c).2⟩)
      (Cert.MlpDwdIdeal.Value.run_blocks m g)
  · refine (θ_run Cert.MlpDwdRefIdeal.defs _ _).mono (fun r h c => ?_) (Cert.MlpDwdRefIdeal.Value.run m' g')
    obtain ⟨a0, a1, a2⟩ := hargs c
    refine ⟨(h c).1.trans ?_, (h c).2⟩
    refine (Cert.MlpDwdRefIdeal.Read.val_main_v7_eq _ _ _).trans ?_
    rw [a0, a1, a2]
    exact Ref.reference_grads _ _ _

end Cert.MlpDwd.Proof

end
-- ==== Proof.lean ====
/- The certificate: the claims of `Defs.lean`, each from its own module. -/
module

public import proofs.«01_k».proof.Defs
public import proofs.«01_k».proof.Proof.Gen.DactIdeal.Value
public import proofs.«01_k».proof.Proof.Gen.RetIdeal.Value
public import proofs.«01_k».proof.Proof.Gen.DactRefIdeal.Run
public import proofs.«01_k».proof.Proof.Gen.DactRefIdeal.Read
public import proofs.«01_k».proof.Proof.Gen.RetRefIdeal.Run
public import proofs.«01_k».proof.Proof.Gen.RetRefIdeal.Read
public import proofs.«01_k».proof.Proof.Gen.Dact
public import proofs.«01_k».proof.Proof.Gen.Dact.Skeleton
public import proofs.«01_k».proof.Proof.Gen.Dact.Launch
public import proofs.«01_k».proof.Proof.Gen.Dact.Points
public import proofs.«01_k».proof.Proof.Gen.Dact.Frame
public import proofs.«01_k».proof.Proof.Gen.DactIdeal
public import proofs.«01_k».proof.Proof.Gen.DactIdeal.Skeleton
public import proofs.«01_k».proof.Proof.Gen.DactIdeal.Launch
public import proofs.«01_k».proof.Proof.Gen.DactIdeal.Points
public import proofs.«01_k».proof.Proof.Gen.DactIdeal.Frame
public import proofs.«01_k».proof.Proof.Gen.DactRefIdeal
public import proofs.«01_k».proof.Proof.Gen.Ret.Frame
public import proofs.«01_k».proof.Proof.Gen.RetIdeal.Frame
public import proofs.«01_k».proof.Proof.Gen.RetRefIdeal
public import proofs.«01_k».proof.Proof.Gen.MlpDhIdeal.Value
public import proofs.«01_k».proof.Proof.Gen.MlpDhRefIdeal.Run
public import proofs.«01_k».proof.Proof.Gen.MlpDhRefIdeal.Read
public import proofs.«01_k».proof.Proof.Gen.MlpDh.Frame
public import proofs.«01_k».proof.Proof.Gen.MlpDhIdeal.Frame
public import proofs.«01_k».proof.Proof.Gen.MlpDhRefIdeal
public import proofs.«01_k».proof.Proof.Gen.InEvenIdeal.Value
public import proofs.«01_k».proof.Proof.Gen.InEvenRefIdeal.Run
public import proofs.«01_k».proof.Proof.Gen.InEvenRefIdeal.Read
public import proofs.«01_k».proof.Proof.Gen.InEven.Frame
public import proofs.«01_k».proof.Proof.Gen.InEvenIdeal.Frame
public import proofs.«01_k».proof.Proof.Gen.InEvenRefIdeal
public import proofs.«01_k».proof.Proof.Gen.InOddIdeal.Value
public import proofs.«01_k».proof.Proof.Gen.InOddRefIdeal.Run
public import proofs.«01_k».proof.Proof.Gen.InOddRefIdeal.Read
public import proofs.«01_k».proof.Proof.Gen.InOdd.Frame
public import proofs.«01_k».proof.Proof.Gen.InOddIdeal.Frame
public import proofs.«01_k».proof.Proof.Gen.InOddRefIdeal
public import proofs.«01_k».proof.Proof.Gen.LossIdeal.Value
public import proofs.«01_k».proof.Proof.Gen.LossRefIdeal.Run
public import proofs.«01_k».proof.Proof.Gen.LossRefIdeal.Read
public import proofs.«01_k».proof.Proof.Gen.Loss.Frame
public import proofs.«01_k».proof.Proof.Gen.LossIdeal.Frame
public import proofs.«01_k».proof.Proof.Gen.LossRefIdeal
public import proofs.«01_k».proof.Proof.Dact.Claims
public import proofs.«01_k».proof.Proof.Ret.Claims
public import proofs.«01_k».proof.Proof.MlpDh.Claims
public import proofs.«01_k».proof.Proof.InEven.Claims
public import proofs.«01_k».proof.Proof.InOdd.Claims
public import proofs.«01_k».proof.Proof.Loss.Claims
public import proofs.«01_k».proof.Proof.RetFwd.Claims
public import proofs.«01_k».proof.Proof.OutEven.Claims
public import proofs.«01_k».proof.Proof.MlpDown.Claims
public import proofs.«01_k».proof.Proof.MlpUp.Claims
public import proofs.«01_k».proof.Proof.LruConvFwd.Claims
public import proofs.«01_k».proof.Proof.GdnConvFwd.Claims
public import proofs.«01_k».proof.Proof.LruConv.Claims
public import proofs.«01_k».proof.Proof.GdnConv.Claims
public import proofs.«01_k».proof.Proof.InProd.Claims
public import proofs.«01_k».proof.Proof.Adamw.Claims
public import proofs.«01_k».proof.Proof.LruFwd.Claims
public import proofs.«01_k».proof.Proof.MlpDwd.Claims
public import Idealize.ShloMosaic.Adequacy
public import Idealize.ShloMosaic.Init

@[expose] public section

noncomputable section

namespace Cert.Proof

open Idealize.ShloMosaic Idealize.SL.Sem Cert.Dact

theorem claim : Cert.Claim := ⟨Cert.Dact.Gen.facts, Cert.DactIdeal.Gen.facts, Cert.DactRefIdeal.Gen.facts,
  Cert.Ret.Gen.facts, Cert.RetIdeal.Gen.facts, Cert.RetRefIdeal.Gen.facts,
  Cert.MlpDh.Gen.facts, Cert.MlpDhIdeal.Gen.facts, Cert.MlpDhRefIdeal.Gen.facts,
  Cert.InEven.Gen.facts, Cert.InEvenIdeal.Gen.facts, Cert.InEvenRefIdeal.Gen.facts,
  Cert.InOdd.Gen.facts, Cert.InOddIdeal.Gen.facts, Cert.InOddRefIdeal.Gen.facts,
  Cert.Loss.Gen.facts, Cert.LossIdeal.Gen.facts, Cert.LossRefIdeal.Gen.facts,
  Cert.RetFwd.Gen.facts, Cert.RetFwdIdeal.Gen.facts, Cert.RetFwdRefIdeal.Gen.facts,
  Cert.OutEven.Gen.facts, Cert.OutEvenIdeal.Gen.facts, Cert.OutEvenRefIdeal.Gen.facts,
  Cert.MlpDown.Gen.facts, Cert.MlpDownIdeal.Gen.facts, Cert.MlpDownRefIdeal.Gen.facts,
  Cert.MlpUp.Gen.facts, Cert.MlpUpIdeal.Gen.facts, Cert.MlpUpRefIdeal.Gen.facts,
  Cert.LruConvFwd.Gen.facts, Cert.LruConvFwdIdeal.Gen.facts, Cert.LruConvFwdRefIdeal.Gen.facts,
  Cert.GdnConvFwd.Gen.facts, Cert.GdnConvFwdIdeal.Gen.facts, Cert.GdnConvFwdRefIdeal.Gen.facts,
  Cert.LruConv.Gen.facts, Cert.LruConvIdeal.Gen.facts, Cert.LruConvRefIdeal.Gen.facts,
  Cert.GdnConv.Gen.facts, Cert.GdnConvIdeal.Gen.facts, Cert.GdnConvRefIdeal.Gen.facts,
  Cert.InProd.Gen.facts, Cert.InProdIdeal.Gen.facts, Cert.InProdRefIdeal.Gen.facts,
  Cert.Adamw.Gen.facts, Cert.AdamwIdeal.Gen.facts, Cert.AdamwRefIdeal.Gen.facts,
  Cert.LruFwd.Gen.facts, Cert.LruFwdIdeal.Gen.facts, Cert.LruFwdRefIdeal.Gen.facts,
  Cert.MlpDwd.Gen.facts, Cert.MlpDwdIdeal.Gen.facts, Cert.MlpDwdRefIdeal.Gen.facts,
  Cert.Pre_pre_ret.Gen.facts, Cert.Pre_pre_gdnconv.Gen.facts,
  fun m ρ _ => Cert.Dact.Gen.frame m ρ, fun m ρ _ => Cert.DactIdeal.Gen.frame m ρ, Cert.Dact.Proof.reference_frame,
  fun m ρ _ => Cert.Ret.Gen.frame m ρ, fun m ρ _ => Cert.RetIdeal.Gen.frame m ρ, fun m ρ _ => Cert.RetIdeal.Gen.frame m ρ,
  Cert.Ret.Proof.reference_frame, fun m ρ _ => Cert.Ret.Proof.reference_frame m ρ trivial,
  fun m ρ _ => Cert.MlpDh.Gen.frame m ρ, fun m ρ _ => Cert.MlpDhIdeal.Gen.frame m ρ, Cert.MlpDh.Proof.reference_frame,
  fun m ρ _ => Cert.InEven.Gen.frame m ρ, fun m ρ _ => Cert.InEvenIdeal.Gen.frame m ρ, Cert.InEven.Proof.reference_frame,
  fun m ρ _ => Cert.InOdd.Gen.frame m ρ, fun m ρ _ => Cert.InOddIdeal.Gen.frame m ρ, Cert.InOdd.Proof.reference_frame,
  fun m ρ _ => Cert.Loss.Gen.frame m ρ, fun m ρ _ => Cert.LossIdeal.Gen.frame m ρ, Cert.Loss.Proof.reference_frame,
  fun m ρ _ => Cert.RetFwd.Gen.frame m ρ, fun m ρ _ => Cert.RetFwdIdeal.Gen.frame m ρ, Cert.RetFwd.Proof.reference_frame,
  fun m ρ _ => Cert.OutEven.Gen.frame m ρ, fun m ρ _ => Cert.OutEvenIdeal.Gen.frame m ρ, Cert.OutEven.Proof.reference_frame,
  fun m ρ _ => Cert.MlpDown.Gen.frame m ρ, fun m ρ _ => Cert.MlpDownIdeal.Gen.frame m ρ, Cert.MlpDown.Proof.reference_frame,
  fun m ρ _ => Cert.MlpUp.Gen.frame m ρ, fun m ρ _ => Cert.MlpUpIdeal.Gen.frame m ρ, Cert.MlpUp.Proof.reference_frame,
  fun m ρ _ => Cert.LruConvFwd.Gen.frame m ρ, fun m ρ _ => Cert.LruConvFwdIdeal.Gen.frame m ρ, Cert.LruConvFwd.Proof.reference_frame,
  fun m ρ _ => Cert.GdnConvFwd.Gen.frame m ρ, fun m ρ _ => Cert.GdnConvFwdIdeal.Gen.frame m ρ, Cert.GdnConvFwd.Proof.reference_frame,
  fun m ρ _ => Cert.LruConv.Gen.frame m ρ, fun m ρ _ => Cert.LruConvIdeal.Gen.frame m ρ, Cert.LruConv.Proof.reference_frame,
  fun m ρ _ => Cert.GdnConv.Gen.frame m ρ, fun m ρ _ => Cert.GdnConvIdeal.Gen.frame m ρ, fun m ρ _ => Cert.GdnConvIdeal.Gen.frame m ρ,
  Cert.GdnConv.Proof.reference_frame, fun m ρ _ => Cert.GdnConv.Proof.reference_frame m ρ trivial,
  fun m ρ _ => Cert.InProd.Gen.frame m ρ, fun m ρ _ => Cert.InProdIdeal.Gen.frame m ρ, Cert.InProd.Proof.reference_frame,
  fun m ρ _ => Cert.Adamw.Gen.frame m ρ, fun m ρ _ => Cert.AdamwIdeal.Gen.frame m ρ, Cert.Adamw.Proof.reference_frame,
  fun m ρ _ => Cert.LruFwd.Gen.frame m ρ, fun m ρ _ => Cert.LruFwdIdeal.Gen.frame m ρ, Cert.LruFwd.Proof.reference_frame,
  fun m ρ _ => Cert.MlpDwd.Gen.frame m ρ, fun m ρ _ => Cert.MlpDwdIdeal.Gen.frame m ρ, Cert.MlpDwd.Proof.reference_frame,
  trivial, Cert.Dact.Proof.algebraic, trivial, Cert.Ret.Proof.algebraic,
  trivial, Cert.MlpDh.Proof.algebraic,
  trivial, Cert.InEven.Proof.algebraic,
  trivial, Cert.InOdd.Proof.algebraic,
  trivial, Cert.Loss.Proof.algebraic,
  trivial, Cert.RetFwd.Proof.algebraic,
  trivial, Cert.OutEven.Proof.algebraic,
  trivial, Cert.MlpDown.Proof.algebraic,
  trivial, Cert.MlpUp.Proof.algebraic,
  trivial, Cert.LruConvFwd.Proof.algebraic,
  trivial, Cert.GdnConvFwd.Proof.algebraic,
  trivial, Cert.LruConv.Proof.algebraic,
  trivial, Cert.GdnConv.Proof.algebraic,
  trivial, Cert.InProd.Proof.algebraic,
  trivial, Cert.Adamw.Proof.algebraic,
  trivial, Cert.LruFwd.Proof.algebraic,
  trivial, Cert.MlpDwd.Proof.algebraic⟩

end Cert.Proof

end
